-- ==== Defs.lean ====
def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutKernelIdeal_finite [hPre_finite : Cert.Pre_finite.Facts] (m : (ℓ : Loc Cert.OutKernelIdeal.nD Cert.OutKernelIdeal.τ Cert.OutKernelIdeal.sig) → Buf (Elt Ideal) ℓ) : Prop :=
  ∀ c : Dev Cert.OutKernelIdeal.nD,
    (Cert.Pre_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6))) = (fun _ => 1#1)

def Pre_OutReferenceIdeal (m : (ℓ : Loc Cert.OutReferenceIdeal.nD Cert.OutReferenceIdeal.τ Cert.OutReferenceIdeal.sig) → Buf (Elt Ideal) ℓ) : Prop :=
  True

def Pre_OutReferenceIdeal_finite [hPre_finite : Cert.Pre_finite.Facts] (m : (ℓ : Loc Cert.OutReferenceIdeal.nD Cert.OutReferenceIdeal.τ Cert.OutReferenceIdeal.sig) → Buf (Elt Ideal) ℓ) : Prop :=
  ∀ c : Dev Cert.OutReferenceIdeal.nD,
    (Cert.Pre_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6))) = (fun _ => 1#1)

def Pre_AKernel (m : (ℓ : Loc Cert.AKernel.nD Cert.AKernel.τ Cert.AKernel.sig) → Buf (Elt Bits) ℓ) : Prop :=
  True

def Pre_AKernelIdeal (m : (ℓ : Loc Cert.AKernelIdeal.nD Cert.AKernelIdeal.τ Cert.AKernelIdeal.sig) → Buf (Elt Ideal) ℓ) : Prop :=
  True

def Pre_AKernelIdeal_finite_a [hPre_finite_a : Cert.Pre_finite_a.Facts] (m : (ℓ : Loc Cert.AKernelIdeal.nD Cert.AKernelIdeal.τ Cert.AKernelIdeal.sig) → Buf (Elt Ideal) ℓ) : Prop :=
  ∀ c : Dev Cert.AKernelIdeal.nD,
    (Cert.Pre_finite_a.fn (F := Ideal) (m ((c.tc : Thread Cert.AKernelIdeal.nD Cert.AKernelIdeal.τ).loc Cert.AKernelIdeal.main_arg0)) (m ((c.tc : Thread Cert.AKernelIdeal.nD Cert.AKernelIdeal.τ).loc Cert.AKernelIdeal.main_arg1)) (m ((c.tc : Thread Cert.AKernelIdeal.nD Cert.AKernelIdeal.τ).loc Cert.AKernelIdeal.main_arg2)) (m ((c.tc : Thread Cert.AKernelIdeal.nD Cert.AKernelIdeal.τ).loc Cert.AKernelIdeal.main_arg3))) = (fun _ => 1#1)

def Pre_AReferenceIdeal (m : (ℓ : Loc Cert.AReferenceIdeal.nD Cert.AReferenceIdeal.τ Cert.AReferenceIdeal.sig) → Buf (Elt Ideal) ℓ) : Prop :=
  True

def Pre_AReferenceIdeal_finite_a [hPre_finite_a : Cert.Pre_finite_a.Facts] (m : (ℓ : Loc Cert.AReferenceIdeal.nD Cert.AReferenceIdeal.τ Cert.AReferenceIdeal.sig) → Buf (Elt Ideal) ℓ) : Prop :=
  ∀ c : Dev Cert.AReferenceIdeal.nD,
    (Cert.Pre_finite_a.fn (F := Ideal) (m ((c.tc : Thread Cert.AReferenceIdeal.nD Cert.AReferenceIdeal.τ).loc Cert.AReferenceIdeal.main_arg0)) (m ((c.tc : Thread Cert.AReferenceIdeal.nD Cert.AReferenceIdeal.τ).loc Cert.AReferenceIdeal.main_arg1)) (m ((c.tc : Thread Cert.AReferenceIdeal.nD Cert.AReferenceIdeal.τ).loc Cert.AReferenceIdeal.main_arg2)) (m ((c.tc : Thread Cert.AReferenceIdeal.nD Cert.AReferenceIdeal.τ).loc Cert.AReferenceIdeal.main_arg3))) = (fun _ => 1#1)

def Pre_BKernel (m : (ℓ : Loc Cert.BKernel.nD Cert.BKernel.τ Cert.BKernel.sig) → Buf (Elt Bits) ℓ) : Prop :=
  True

def Pre_BKernelIdeal (m : (ℓ : Loc Cert.BKernelIdeal.nD Cert.BKernelIdeal.τ Cert.BKernelIdeal.sig) → Buf (Elt Ideal) ℓ) : Prop :=
  True

def Pre_BKernelIdeal_finite_b [hPre_finite_b : Cert.Pre_finite_b.Facts] (m : (ℓ : Loc Cert.BKernelIdeal.nD Cert.BKernelIdeal.τ Cert.BKernelIdeal.sig) → Buf (Elt Ideal) ℓ) : Prop :=
  ∀ c : Dev Cert.BKernelIdeal.nD,
    (Cert.Pre_finite_b.fn (F := Ideal) (m ((c.tc : Thread Cert.BKernelIdeal.nD Cert.BKernelIdeal.τ).loc Cert.BKernelIdeal.main_arg0)) (m ((c.tc : Thread Cert.BKernelIdeal.nD Cert.BKernelIdeal.τ).loc Cert.BKernelIdeal.main_arg1)) (m ((c.tc : Thread Cert.BKernelIdeal.nD Cert.BKernelIdeal.τ).loc Cert.BKernelIdeal.main_arg2)) (m ((c.tc : Thread Cert.BKernelIdeal.nD Cert.BKernelIdeal.τ).loc Cert.BKernelIdeal.main_arg3))) = (fun _ => 1#1)

def Pre_BReferenceIdeal (m : (ℓ : Loc Cert.BReferenceIdeal.nD Cert.BReferenceIdeal.τ Cert.BReferenceIdeal.sig) → Buf (Elt Ideal) ℓ) : Prop :=
  True

def Pre_BReferenceIdeal_finite_b [hPre_finite_b : Cert.Pre_finite_b.Facts] (m : (ℓ : Loc Cert.BReferenceIdeal.nD Cert.BReferenceIdeal.τ Cert.BReferenceIdeal.sig) → Buf (Elt Ideal) ℓ) : Prop :=
  ∀ c : Dev Cert.BReferenceIdeal.nD,
    (Cert.Pre_finite_b.fn (F := Ideal) (m ((c.tc : Thread Cert.BReferenceIdeal.nD Cert.BReferenceIdeal.τ).loc Cert.BReferenceIdeal.main_arg0)) (m ((c.tc : Thread Cert.BReferenceIdeal.nD Cert.BReferenceIdeal.τ).loc Cert.BReferenceIdeal.main_arg1)) (m ((c.tc : Thread Cert.BReferenceIdeal.nD Cert.BReferenceIdeal.τ).loc Cert.BReferenceIdeal.main_arg2)) (m ((c.tc : Thread Cert.BReferenceIdeal.nD Cert.BReferenceIdeal.τ).loc Cert.BReferenceIdeal.main_arg3))) = (fun _ => 1#1)

def Pre_BfKernel (m : (ℓ : Loc Cert.BfKernel.nD Cert.BfKernel.τ Cert.BfKernel.sig) → Buf (Elt Bits) ℓ) : Prop :=
  True

def Pre_BfKernelIdeal (m : (ℓ : Loc Cert.BfKernelIdeal.nD Cert.BfKernelIdeal.τ Cert.BfKernelIdeal.sig) → Buf (Elt Ideal) ℓ) : Prop :=
  True

def Pre_BfKernelIdeal_finite_bf [hPre_finite_bf : Cert.Pre_finite_bf.Facts] (m : (ℓ : Loc Cert.BfKernelIdeal.nD Cert.BfKernelIdeal.τ Cert.BfKernelIdeal.sig) → Buf (Elt Ideal) ℓ) : Prop :=
  ∀ c : Dev Cert.BfKernelIdeal.nD,
    (Cert.Pre_finite_bf.fn (F := Ideal) (m ((c.tc : Thread Cert.BfKernelIdeal.nD Cert.BfKernelIdeal.τ).loc Cert.BfKernelIdeal.main_arg0)) (m ((c.tc : Thread Cert.BfKernelIdeal.nD Cert.BfKernelIdeal.τ).loc Cert.BfKernelIdeal.main_arg1)) (m ((c.tc : Thread Cert.BfKernelIdeal.nD Cert.BfKernelIdeal.τ).loc Cert.BfKernelIdeal.main_arg2))) = (fun _ => 1#1)

def Pre_BfReferenceIdeal (m : (ℓ : Loc Cert.BfReferenceIdeal.nD Cert.BfReferenceIdeal.τ Cert.BfReferenceIdeal.sig) → Buf (Elt Ideal) ℓ) : Prop :=
  True

def Pre_BfReferenceIdeal_finite_bf [hPre_finite_bf : Cert.Pre_finite_bf.Facts] (m : (ℓ : Loc Cert.BfReferenceIdeal.nD Cert.BfReferenceIdeal.τ Cert.BfReferenceIdeal.sig) → Buf (Elt Ideal) ℓ) : Prop :=
  ∀ c : Dev Cert.BfReferenceIdeal.nD,
    (Cert.Pre_finite_bf.fn (F := Ideal) (m ((c.tc : Thread Cert.BfReferenceIdeal.nD Cert.BfReferenceIdeal.τ).loc Cert.BfReferenceIdeal.main_arg0)) (m ((c.tc : Thread Cert.BfReferenceIdeal.nD Cert.BfReferenceIdeal.τ).loc Cert.BfReferenceIdeal.main_arg1)) (m ((c.tc : Thread Cert.BfReferenceIdeal.nD Cert.BfReferenceIdeal.τ).loc Cert.BfReferenceIdeal.main_arg2))) = (fun _ => 1#1)

def Pre_AfKernel (m : (ℓ : Loc Cert.AfKernel.nD Cert.AfKernel.τ Cert.AfKernel.sig) → Buf (Elt Bits) ℓ) : Prop :=
  True

def Pre_AfKernelIdeal (m : (ℓ : Loc Cert.AfKernelIdeal.nD Cert.AfKernelIdeal.τ Cert.AfKernelIdeal.sig) → Buf (Elt Ideal) ℓ) : Prop :=
  True

def Pre_AfKernelIdeal_finite_af [hPre_finite_af : Cert.Pre_finite_af.Facts] (m : (ℓ : Loc Cert.AfKernelIdeal.nD Cert.AfKernelIdeal.τ Cert.AfKernelIdeal.sig) → Buf (Elt Ideal) ℓ) : Prop :=
  ∀ c : Dev Cert.AfKernelIdeal.nD,
    (Cert.Pre_finite_af.fn (F := Ideal) (m ((c.tc : Thread Cert.AfKernelIdeal.nD Cert.AfKernelIdeal.τ).loc Cert.AfKernelIdeal.main_arg0)) (m ((c.tc : Thread Cert.AfKernelIdeal.nD Cert.AfKernelIdeal.τ).loc Cert.AfKernelIdeal.main_arg1)) (m ((c.tc : Thread Cert.AfKernelIdeal.nD Cert.AfKernelIdeal.τ).loc Cert.AfKernelIdeal.main_arg2))) = (fun _ => 1#1)

def Pre_AfReferenceIdeal (m : (ℓ : Loc Cert.AfReferenceIdeal.nD Cert.AfReferenceIdeal.τ Cert.AfReferenceIdeal.sig) → Buf (Elt Ideal) ℓ) : Prop :=
  True

def Pre_AfReferenceIdeal_finite_af [hPre_finite_af : Cert.Pre_finite_af.Facts] (m : (ℓ : Loc Cert.AfReferenceIdeal.nD Cert.AfReferenceIdeal.τ Cert.AfReferenceIdeal.sig) → Buf (Elt Ideal) ℓ) : Prop :=
  ∀ c : Dev Cert.AfReferenceIdeal.nD,
    (Cert.Pre_finite_af.fn (F := Ideal) (m ((c.tc : Thread Cert.AfReferenceIdeal.nD Cert.AfReferenceIdeal.τ).loc Cert.AfReferenceIdeal.main_arg0)) (m ((c.tc : Thread Cert.AfReferenceIdeal.nD Cert.AfReferenceIdeal.τ).loc Cert.AfReferenceIdeal.main_arg1)) (m ((c.tc : Thread Cert.AfReferenceIdeal.nD Cert.AfReferenceIdeal.τ).loc Cert.AfReferenceIdeal.main_arg2))) = (fun _ => 1#1)

def Pre_PbKernel (m : (ℓ : Loc Cert.PbKernel.nD Cert.PbKernel.τ Cert.PbKernel.sig) → Buf (Elt Bits) ℓ) : Prop :=
  True

def Pre_PbKernelIdeal (m : (ℓ : Loc Cert.PbKernelIdeal.nD Cert.PbKernelIdeal.τ Cert.PbKernelIdeal.sig) → Buf (Elt Ideal) ℓ) : Prop :=
  True

def Pre_PbReferenceIdeal (m : (ℓ : Loc Cert.PbReferenceIdeal.nD Cert.PbReferenceIdeal.τ Cert.PbReferenceIdeal.sig) → Buf (Elt Ideal) ℓ) : Prop :=
  True

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ r.2.sem = fun _ => 0)

def quiescent_OutKernelIdeal_pre_finite [hOutKernelIdeal : Cert.OutKernelIdeal.Facts] [hPre_finite : Cert.Pre_finite.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal_finite m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_OutReferenceIdeal_pre_finite [hOutReferenceIdeal : Cert.OutReferenceIdeal.Facts] [hPre_finite : Cert.Pre_finite.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal_finite m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_AKernel [hAKernel : Cert.AKernel.Facts] : Prop :=
  ∀ (m : (ℓ : Loc Cert.AKernel.nD Cert.AKernel.τ Cert.AKernel.sig) → Buf (Elt Bits) ℓ) (g : Dev Cert.AKernel.nD → PrngReg), Pre_AKernel m →
    θ_run (Cert.AKernel.defs (F := Bits)) (onTc (τ := Cert.AKernel.τ) (Cert.AKernel.main (F := Bits))) ⟨m, fun _ => 0, g⟩ (fun r => (∀ c : Dev Cert.AKernel.nD,
      r.2.mem ((c.tc : Thread Cert.AKernel.nD Cert.AKernel.τ).loc Cert.AKernel.main_arg0) = m ((c.tc : Thread Cert.AKernel.nD Cert.AKernel.τ).loc Cert.AKernel.main_arg0)
      ∧ r.2.mem ((c.tc : Thread Cert.AKernel.nD Cert.AKernel.τ).loc Cert.AKernel.main_arg1) = m ((c.tc : Thread Cert.AKernel.nD Cert.AKernel.τ).loc Cert.AKernel.main_arg1)
      ∧ r.2.mem ((c.tc : Thread Cert.AKernel.nD Cert.AKernel.τ).loc Cert.AKernel.main_arg2) = m ((c.tc : Thread Cert.AKernel.nD Cert.AKernel.τ).loc Cert.AKernel.main_arg2)
      ∧ r.2.mem ((c.tc : Thread Cert.AKernel.nD Cert.AKernel.τ).loc Cert.AKernel.main_arg3) = m ((c.tc : Thread Cert.AKernel.nD Cert.AKernel.τ).loc Cert.AKernel.main_arg3))
      ∧ r.2.sem = fun _ => 0)

def quiescent_AKernelIdeal [hAKernelIdeal : Cert.AKernelIdeal.Facts] : Prop :=
  ∀ (m : (ℓ : Loc Cert.AKernelIdeal.nD Cert.AKernelIdeal.τ Cert.AKernelIdeal.sig) → Buf (Elt Ideal) ℓ) (g : Dev Cert.AKernelIdeal.nD → PrngReg), Pre_AKernelIdeal m →
    θ_run (Cert.AKernelIdeal.defs (F := Ideal)) (onTc (τ := Cert.AKernelIdeal.τ) (Cert.AKernelIdeal.main (F := Ideal))) ⟨m, fun _ => 0, g⟩ (fun r => (∀ c : Dev Cert.AKernelIdeal.nD,
      r.2.mem ((c.tc : Thread Cert.AKernelIdeal.nD Cert.AKernelIdeal.τ).loc Cert.AKernelIdeal.main_arg0) = m ((c.tc : Thread Cert.AKernelIdeal.nD Cert.AKernelIdeal.τ).loc Cert.AKernelIdeal.main_arg0)
      ∧ r.2.mem ((c.tc : Thread Cert.AKernelIdeal.nD Cert.AKernelIdeal.τ).loc Cert.AKernelIdeal.main_arg1) = m ((c.tc : Thread Cert.AKernelIdeal.nD Cert.AKernelIdeal.τ).loc Cert.AKernelIdeal.main_arg1)
      ∧ r.2.mem ((c.tc : Thread Cert.AKernelIdeal.nD Cert.AKernelIdeal.τ).loc Cert.AKernelIdeal.main_arg2) = m ((c.tc : Thread Cert.AKernelIdeal.nD Cert.AKernelIdeal.τ).loc Cert.AKernelIdeal.main_arg2)
      ∧ r.2.mem ((c.tc : Thread Cert.AKernelIdeal.nD Cert.AKernelIdeal.τ).loc Cert.AKernelIdeal.main_arg3) = m ((c.tc : Thread Cert.AKernelIdeal.nD Cert.AKernelIdeal.τ).loc Cert.AKernelIdeal.main_arg3))
      ∧ r.2.sem = fun _ => 0)

def quiescent_AKernelIdeal_pre_finite_a [hAKernelIdeal : Cert.AKernelIdeal.Facts] [hPre_finite_a : Cert.Pre_finite_a.Facts] : Prop :=
  ∀ (m : (ℓ : Loc Cert.AKernelIdeal.nD Cert.AKernelIdeal.τ Cert.AKernelIdeal.sig) → Buf (Elt Ideal) ℓ) (g : Dev Cert.AKernelIdeal.nD → PrngReg), Pre_AKernelIdeal_finite_a m →
    θ_run (Cert.AKernelIdeal.defs (F := Ideal)) (onTc (τ := Cert.AKernelIdeal.τ) (Cert.AKernelIdeal.main (F := Ideal))) ⟨m, fun _ => 0, g⟩ (fun r => (∀ c : Dev Cert.AKernelIdeal.nD,
      r.2.mem ((c.tc : Thread Cert.AKernelIdeal.nD Cert.AKernelIdeal.τ).loc Cert.AKernelIdeal.main_arg0) = m ((c.tc : Thread Cert.AKernelIdeal.nD Cert.AKernelIdeal.τ).loc Cert.AKernelIdeal.main_arg0)
      ∧ r.2.mem ((c.tc : Thread Cert.AKernelIdeal.nD Cert.AKernelIdeal.τ).loc Cert.AKernelIdeal.main_arg1) = m ((c.tc : Thread Cert.AKernelIdeal.nD Cert.AKernelIdeal.τ).loc Cert.AKernelIdeal.main_arg1)
      ∧ r.2.mem ((c.tc : Thread Cert.AKernelIdeal.nD Cert.AKernelIdeal.τ).loc Cert.AKernelIdeal.main_arg2) = m ((c.tc : Thread Cert.AKernelIdeal.nD Cert.AKernelIdeal.τ).loc Cert.AKernelIdeal.main_arg2)
      ∧ r.2.mem ((c.tc : Thread Cert.AKernelIdeal.nD Cert.AKernelIdeal.τ).loc Cert.AKernelIdeal.main_arg3) = m ((c.tc : Thread Cert.AKernelIdeal.nD Cert.AKernelIdeal.τ).loc Cert.AKernelIdeal.main_arg3))
      ∧ r.2.sem = fun _ => 0)

def quiescent_AReferenceIdeal [hAReferenceIdeal : Cert.AReferenceIdeal.Facts] : Prop :=
  ∀ (m : (ℓ : Loc Cert.AReferenceIdeal.nD Cert.AReferenceIdeal.τ Cert.AReferenceIdeal.sig) → Buf (Elt Ideal) ℓ) (g : Dev Cert.AReferenceIdeal.nD → PrngReg), Pre_AReferenceIdeal m →
    θ_run (Cert.AReferenceIdeal.defs (F := Ideal)) (onTc (τ := Cert.AReferenceIdeal.τ) (Cert.AReferenceIdeal.main (F := Ideal))) ⟨m, fun _ => 0, g⟩ (fun r => (∀ c : Dev Cert.AReferenceIdeal.nD,
      r.2.mem ((c.tc : Thread Cert.AReferenceIdeal.nD Cert.AReferenceIdeal.τ).loc Cert.AReferenceIdeal.main_arg0) = m ((c.tc : Thread Cert.AReferenceIdeal.nD Cert.AReferenceIdeal.τ).loc Cert.AReferenceIdeal.main_arg0)
      ∧ r.2.mem ((c.tc : Thread Cert.AReferenceIdeal.nD Cert.AReferenceIdeal.τ).loc Cert.AReferenceIdeal.main_arg1) = m ((c.tc : Thread Cert.AReferenceIdeal.nD Cert.AReferenceIdeal.τ).loc Cert.AReferenceIdeal.main_arg1)
      ∧ r.2.mem ((c.tc : Thread Cert.AReferenceIdeal.nD Cert.AReferenceIdeal.τ).loc Cert.AReferenceIdeal.main_arg2) = m ((c.tc : Thread Cert.AReferenceIdeal.nD Cert.AReferenceIdeal.τ).loc Cert.AReferenceIdeal.main_arg2)
      ∧ r.2.mem ((c.tc : Thread Cert.AReferenceIdeal.nD Cert.AReferenceIdeal.τ).loc Cert.AReferenceIdeal.main_arg3) = m ((c.tc : Thread Cert.AReferenceIdeal.nD Cert.AReferenceIdeal.τ).loc Cert.AReferenceIdeal.main_arg3))
      ∧ r.2.sem = fun _ => 0)

def quiescent_AReferenceIdeal_pre_finite_a [hAReferenceIdeal : Cert.AReferenceIdeal.Facts] [hPre_finite_a : Cert.Pre_finite_a.Facts] : Prop :=
  ∀ (m : (ℓ : Loc Cert.AReferenceIdeal.nD Cert.AReferenceIdeal.τ Cert.AReferenceIdeal.sig) → Buf (Elt Ideal) ℓ) (g : Dev Cert.AReferenceIdeal.nD → PrngReg), Pre_AReferenceIdeal_finite_a m →
    θ_run (Cert.AReferenceIdeal.defs (F := Ideal)) (onTc (τ := Cert.AReferenceIdeal.τ) (Cert.AReferenceIdeal.main (F := Ideal))) ⟨m, fun _ => 0, g⟩ (fun r => (∀ c : Dev Cert.AReferenceIdeal.nD,
      r.2.mem ((c.tc : Thread Cert.AReferenceIdeal.nD Cert.AReferenceIdeal.τ).loc Cert.AReferenceIdeal.main_arg0) = m ((c.tc : Thread Cert.AReferenceIdeal.nD Cert.AReferenceIdeal.τ).loc Cert.AReferenceIdeal.main_arg0)
      ∧ r.2.mem ((c.tc : Thread Cert.AReferenceIdeal.nD Cert.AReferenceIdeal.τ).loc Cert.AReferenceIdeal.main_arg1) = m ((c.tc : Thread Cert.AReferenceIdeal.nD Cert.AReferenceIdeal.τ).loc Cert.AReferenceIdeal.main_arg1)
      ∧ r.2.mem ((c.tc : Thread Cert.AReferenceIdeal.nD Cert.AReferenceIdeal.τ).loc Cert.AReferenceIdeal.main_arg2) = m ((c.tc : Thread Cert.AReferenceIdeal.nD Cert.AReferenceIdeal.τ).loc Cert.AReferenceIdeal.main_arg2)
      ∧ r.2.mem ((c.tc : Thread Cert.AReferenceIdeal.nD Cert.AReferenceIdeal.τ).loc Cert.AReferenceIdeal.main_arg3) = m ((c.tc : Thread Cert.AReferenceIdeal.nD Cert.AReferenceIdeal.τ).loc Cert.AReferenceIdeal.main_arg3))
      ∧ r.2.sem = fun _ => 0)

def quiescent_BKernel [hBKernel : Cert.BKernel.Facts] : Prop :=
  ∀ (m : (ℓ : Loc Cert.BKernel.nD Cert.BKernel.τ Cert.BKernel.sig) → Buf (Elt Bits) ℓ) (g : Dev Cert.BKernel.nD → PrngReg), Pre_BKernel m →
    θ_run (Cert.BKernel.defs (F := Bits)) (onTc (τ := Cert.BKernel.τ) (Cert.BKernel.main (F := Bits))) ⟨m, fun _ => 0, g⟩ (fun r => (∀ c : Dev Cert.BKernel.nD,
      r.2.mem ((c.tc : Thread Cert.BKernel.nD Cert.BKernel.τ).loc Cert.BKernel.main_arg0) = m ((c.tc : Thread Cert.BKernel.nD Cert.BKernel.τ).loc Cert.BKernel.main_arg0)
      ∧ r.2.mem ((c.tc : Thread Cert.BKernel.nD Cert.BKernel.τ).loc Cert.BKernel.main_arg1) = m ((c.tc : Thread Cert.BKernel.nD Cert.BKernel.τ).loc Cert.BKernel.main_arg1)
      ∧ r.2.mem ((c.tc : Thread Cert.BKernel.nD Cert.BKernel.τ).loc Cert.BKernel.main_arg2) = m ((c.tc : Thread Cert.BKernel.nD Cert.BKernel.τ).loc Cert.BKernel.main_arg2)
      ∧ r.2.mem ((c.tc : Thread Cert.BKernel.nD Cert.BKernel.τ).loc Cert.BKernel.main_arg3) = m ((c.tc : Thread Cert.BKernel.nD Cert.BKernel.τ).loc Cert.BKernel.main_arg3))
      ∧ r.2.sem = fun _ => 0)

def quiescent_BKernelIdeal [hBKernelIdeal : Cert.BKernelIdeal.Facts] : Prop :=
  ∀ (m : (ℓ : Loc Cert.BKernelIdeal.nD Cert.BKernelIdeal.τ Cert.BKernelIdeal.sig) → Buf (Elt Ideal) ℓ) (g : Dev Cert.BKernelIdeal.nD → PrngReg), Pre_BKernelIdeal m →
    θ_run (Cert.BKernelIdeal.defs (F := Ideal)) (onTc (τ := Cert.BKernelIdeal.τ) (Cert.BKernelIdeal.main (F := Ideal))) ⟨m, fun _ => 0, g⟩ (fun r => (∀ c : Dev Cert.BKernelIdeal.nD,
      r.2.mem ((c.tc : Thread Cert.BKernelIdeal.nD Cert.BKernelIdeal.τ).loc Cert.BKernelIdeal.main_arg0) = m ((c.tc : Thread Cert.BKernelIdeal.nD Cert.BKernelIdeal.τ).loc Cert.BKernelIdeal.main_arg0)
      ∧ r.2.mem ((c.tc : Thread Cert.BKernelIdeal.nD Cert.BKernelIdeal.τ).loc Cert.BKernelIdeal.main_arg1) = m ((c.tc : Thread Cert.BKernelIdeal.nD Cert.BKernelIdeal.τ).loc Cert.BKernelIdeal.main_arg1)
      ∧ r.2.mem ((c.tc : Thread Cert.BKernelIdeal.nD Cert.BKernelIdeal.τ).loc Cert.BKernelIdeal.main_arg2) = m ((c.tc : Thread Cert.BKernelIdeal.nD Cert.BKernelIdeal.τ).loc Cert.BKernelIdeal.main_arg2)
      ∧ r.2.mem ((c.tc : Thread Cert.BKernelIdeal.nD Cert.BKernelIdeal.τ).loc Cert.BKernelIdeal.main_arg3) = m ((c.tc : Thread Cert.BKernelIdeal.nD Cert.BKernelIdeal.τ).loc Cert.BKernelIdeal.main_arg3))
      ∧ r.2.sem = fun _ => 0)

def quiescent_BKernelIdeal_pre_finite_b [hBKernelIdeal : Cert.BKernelIdeal.Facts] [hPre_finite_b : Cert.Pre_finite_b.Facts] : Prop :=
  ∀ (m : (ℓ : Loc Cert.BKernelIdeal.nD Cert.BKernelIdeal.τ Cert.BKernelIdeal.sig) → Buf (Elt Ideal) ℓ) (g : Dev Cert.BKernelIdeal.nD → PrngReg), Pre_BKernelIdeal_finite_b m →
    θ_run (Cert.BKernelIdeal.defs (F := Ideal)) (onTc (τ := Cert.BKernelIdeal.τ) (Cert.BKernelIdeal.main (F := Ideal))) ⟨m, fun _ => 0, g⟩ (fun r => (∀ c : Dev Cert.BKernelIdeal.nD,
      r.2.mem ((c.tc : Thread Cert.BKernelIdeal.nD Cert.BKernelIdeal.τ).loc Cert.BKernelIdeal.main_arg0) = m ((c.tc : Thread Cert.BKernelIdeal.nD Cert.BKernelIdeal.τ).loc Cert.BKernelIdeal.main_arg0)
      ∧ r.2.mem ((c.tc : Thread Cert.BKernelIdeal.nD Cert.BKernelIdeal.τ).loc Cert.BKernelIdeal.main_arg1) = m ((c.tc : Thread Cert.BKernelIdeal.nD Cert.BKernelIdeal.τ).loc Cert.BKernelIdeal.main_arg1)
      ∧ r.2.mem ((c.tc : Thread Cert.BKernelIdeal.nD Cert.BKernelIdeal.τ).loc Cert.BKernelIdeal.main_arg2) = m ((c.tc : Thread Cert.BKernelIdeal.nD Cert.BKernelIdeal.τ).loc Cert.BKernelIdeal.main_arg2)
      ∧ r.2.mem ((c.tc : Thread Cert.BKernelIdeal.nD Cert.BKernelIdeal.τ).loc Cert.BKernelIdeal.main_arg3) = m ((c.tc : Thread Cert.BKernelIdeal.nD Cert.BKernelIdeal.τ).loc Cert.BKernelIdeal.main_arg3))
      ∧ r.2.sem = fun _ => 0)

def quiescent_BReferenceIdeal [hBReferenceIdeal : Cert.BReferenceIdeal.Facts] : Prop :=
  ∀ (m : (ℓ : Loc Cert.BReferenceIdeal.nD Cert.BReferenceIdeal.τ Cert.BReferenceIdeal.sig) → Buf (Elt Ideal) ℓ) (g : Dev Cert.BReferenceIdeal.nD → PrngReg), Pre_BReferenceIdeal m →
    θ_run (Cert.BReferenceIdeal.defs (F := Ideal)) (onTc (τ := Cert.BReferenceIdeal.τ) (Cert.BReferenceIdeal.main (F := Ideal))) ⟨m, fun _ => 0, g⟩ (fun r => (∀ c : Dev Cert.BReferenceIdeal.nD,
      r.2.mem ((c.tc : Thread Cert.BReferenceIdeal.nD Cert.BReferenceIdeal.τ).loc Cert.BReferenceIdeal.main_arg0) = m ((c.tc : Thread Cert.BReferenceIdeal.nD Cert.BReferenceIdeal.τ).loc Cert.BReferenceIdeal.main_arg0)
      ∧ r.2.mem ((c.tc : Thread Cert.BReferenceIdeal.nD Cert.BReferenceIdeal.τ).loc Cert.BReferenceIdeal.main_arg1) = m ((c.tc : Thread Cert.BReferenceIdeal.nD Cert.BReferenceIdeal.τ).loc Cert.BReferenceIdeal.main_arg1)
      ∧ r.2.mem ((c.tc : Thread Cert.BReferenceIdeal.nD Cert.BReferenceIdeal.τ).loc Cert.BReferenceIdeal.main_arg2) = m ((c.tc : Thread Cert.BReferenceIdeal.nD Cert.BReferenceIdeal.τ).loc Cert.BReferenceIdeal.main_arg2)
      ∧ r.2.mem ((c.tc : Thread Cert.BReferenceIdeal.nD Cert.BReferenceIdeal.τ).loc Cert.BReferenceIdeal.main_arg3) = m ((c.tc : Thread Cert.BReferenceIdeal.nD Cert.BReferenceIdeal.τ).loc Cert.BReferenceIdeal.main_arg3))
      ∧ r.2.sem = fun _ => 0)

def quiescent_BReferenceIdeal_pre_finite_b [hBReferenceIdeal : Cert.BReferenceIdeal.Facts] [hPre_finite_b : Cert.Pre_finite_b.Facts] : Prop :=
  ∀ (m : (ℓ : Loc Cert.BReferenceIdeal.nD Cert.BReferenceIdeal.τ Cert.BReferenceIdeal.sig) → Buf (Elt Ideal) ℓ) (g : Dev Cert.BReferenceIdeal.nD → PrngReg), Pre_BReferenceIdeal_finite_b m →
    θ_run (Cert.BReferenceIdeal.defs (F := Ideal)) (onTc (τ := Cert.BReferenceIdeal.τ) (Cert.BReferenceIdeal.main (F := Ideal))) ⟨m, fun _ => 0, g⟩ (fun r => (∀ c : Dev Cert.BReferenceIdeal.nD,
      r.2.mem ((c.tc : Thread Cert.BReferenceIdeal.nD Cert.BReferenceIdeal.τ).loc Cert.BReferenceIdeal.main_arg0) = m ((c.tc : Thread Cert.BReferenceIdeal.nD Cert.BReferenceIdeal.τ).loc Cert.BReferenceIdeal.main_arg0)
      ∧ r.2.mem ((c.tc : Thread Cert.BReferenceIdeal.nD Cert.BReferenceIdeal.τ).loc Cert.BReferenceIdeal.main_arg1) = m ((c.tc : Thread Cert.BReferenceIdeal.nD Cert.BReferenceIdeal.τ).loc Cert.BReferenceIdeal.main_arg1)
      ∧ r.2.mem ((c.tc : Thread Cert.BReferenceIdeal.nD Cert.BReferenceIdeal.τ).loc Cert.BReferenceIdeal.main_arg2) = m ((c.tc : Thread Cert.BReferenceIdeal.nD Cert.BReferenceIdeal.τ).loc Cert.BReferenceIdeal.main_arg2)
      ∧ r.2.mem ((c.tc : Thread Cert.BReferenceIdeal.nD Cert.BReferenceIdeal.τ).loc Cert.BReferenceIdeal.main_arg3) = m ((c.tc : Thread Cert.BReferenceIdeal.nD Cert.BReferenceIdeal.τ).loc Cert.BReferenceIdeal.main_arg3))
      ∧ r.2.sem = fun _ => 0)

def quiescent_BfKernel [hBfKernel : Cert.BfKernel.Facts] : Prop :=
  ∀ (m : (ℓ : Loc Cert.BfKernel.nD Cert.BfKernel.τ Cert.BfKernel.sig) → Buf (Elt Bits) ℓ) (g : Dev Cert.BfKernel.nD → PrngReg), Pre_BfKernel m →
    θ_run (Cert.BfKernel.defs (F := Bits)) (onTc (τ := Cert.BfKernel.τ) (Cert.BfKernel.main (F := Bits))) ⟨m, fun _ => 0, g⟩ (fun r => (∀ c : Dev Cert.BfKernel.nD,
      r.2.mem ((c.tc : Thread Cert.BfKernel.nD Cert.BfKernel.τ).loc Cert.BfKernel.main_arg0) = m ((c.tc : Thread Cert.BfKernel.nD Cert.BfKernel.τ).loc Cert.BfKernel.main_arg0)
      ∧ r.2.mem ((c.tc : Thread Cert.BfKernel.nD Cert.BfKernel.τ).loc Cert.BfKernel.main_arg1) = m ((c.tc : Thread Cert.BfKernel.nD Cert.BfKernel.τ).loc Cert.BfKernel.main_arg1)
      ∧ r.2.mem ((c.tc : Thread Cert.BfKernel.nD Cert.BfKernel.τ).loc Cert.BfKernel.main_arg2) = m ((c.tc : Thread Cert.BfKernel.nD Cert.BfKernel.τ).loc Cert.BfKernel.main_arg2))
      ∧ r.2.sem = fun _ => 0)

def quiescent_BfKernelIdeal [hBfKernelIdeal : Cert.BfKernelIdeal.Facts] : Prop :=
  ∀ (m : (ℓ : Loc Cert.BfKernelIdeal.nD Cert.BfKernelIdeal.τ Cert.BfKernelIdeal.sig) → Buf (Elt Ideal) ℓ) (g : Dev Cert.BfKernelIdeal.nD → PrngReg), Pre_BfKernelIdeal m →
    θ_run (Cert.BfKernelIdeal.defs (F := Ideal)) (onTc (τ := Cert.BfKernelIdeal.τ) (Cert.BfKernelIdeal.main (F := Ideal))) ⟨m, fun _ => 0, g⟩ (fun r => (∀ c : Dev Cert.BfKernelIdeal.nD,
      r.2.mem ((c.tc : Thread Cert.BfKernelIdeal.nD Cert.BfKernelIdeal.τ).loc Cert.BfKernelIdeal.main_arg0) = m ((c.tc : Thread Cert.BfKernelIdeal.nD Cert.BfKernelIdeal.τ).loc Cert.BfKernelIdeal.main_arg0)
      ∧ r.2.mem ((c.tc : Thread Cert.BfKernelIdeal.nD Cert.BfKernelIdeal.τ).loc Cert.BfKernelIdeal.main_arg1) = m ((c.tc : Thread Cert.BfKernelIdeal.nD Cert.BfKernelIdeal.τ).loc Cert.BfKernelIdeal.main_arg1)
      ∧ r.2.mem ((c.tc : Thread Cert.BfKernelIdeal.nD Cert.BfKernelIdeal.τ).loc Cert.BfKernelIdeal.main_arg2) = m ((c.tc : Thread Cert.BfKernelIdeal.nD Cert.BfKernelIdeal.τ).loc Cert.BfKernelIdeal.main_arg2))
      ∧ r.2.sem = fun _ => 0)

def quiescent_BfKernelIdeal_pre_finite_bf [hBfKernelIdeal : Cert.BfKernelIdeal.Facts] [hPre_finite_bf : Cert.Pre_finite_bf.Facts] : Prop :=
  ∀ (m : (ℓ : Loc Cert.BfKernelIdeal.nD Cert.BfKernelIdeal.τ Cert.BfKernelIdeal.sig) → Buf (Elt Ideal) ℓ) (g : Dev Cert.BfKernelIdeal.nD → PrngReg), Pre_BfKernelIdeal_finite_bf m →
    θ_run (Cert.BfKernelIdeal.defs (F := Ideal)) (onTc (τ := Cert.BfKernelIdeal.τ) (Cert.BfKernelIdeal.main (F := Ideal))) ⟨m, fun _ => 0, g⟩ (fun r => (∀ c : Dev Cert.BfKernelIdeal.nD,
      r.2.mem ((c.tc : Thread Cert.BfKernelIdeal.nD Cert.BfKernelIdeal.τ).loc Cert.BfKernelIdeal.main_arg0) = m ((c.tc : Thread Cert.BfKernelIdeal.nD Cert.BfKernelIdeal.τ).loc Cert.BfKernelIdeal.main_arg0)
      ∧ r.2.mem ((c.tc : Thread Cert.BfKernelIdeal.nD Cert.BfKernelIdeal.τ).loc Cert.BfKernelIdeal.main_arg1) = m ((c.tc : Thread Cert.BfKernelIdeal.nD Cert.BfKernelIdeal.τ).loc Cert.BfKernelIdeal.main_arg1)
      ∧ r.2.mem ((c.tc : Thread Cert.BfKernelIdeal.nD Cert.BfKernelIdeal.τ).loc Cert.BfKernelIdeal.main_arg2) = m ((c.tc : Thread Cert.BfKernelIdeal.nD Cert.BfKernelIdeal.τ).loc Cert.BfKernelIdeal.main_arg2))
      ∧ r.2.sem = fun _ => 0)

def quiescent_BfReferenceIdeal [hBfReferenceIdeal : Cert.BfReferenceIdeal.Facts] : Prop :=
  ∀ (m : (ℓ : Loc Cert.BfReferenceIdeal.nD Cert.BfReferenceIdeal.τ Cert.BfReferenceIdeal.sig) → Buf (Elt Ideal) ℓ) (g : Dev Cert.BfReferenceIdeal.nD → PrngReg), Pre_BfReferenceIdeal m →
    θ_run (Cert.BfReferenceIdeal.defs (F := Ideal)) (onTc (τ := Cert.BfReferenceIdeal.τ) (Cert.BfReferenceIdeal.main (F := Ideal))) ⟨m, fun _ => 0, g⟩ (fun r => (∀ c : Dev Cert.BfReferenceIdeal.nD,
      r.2.mem ((c.tc : Thread Cert.BfReferenceIdeal.nD Cert.BfReferenceIdeal.τ).loc Cert.BfReferenceIdeal.main_arg0) = m ((c.tc : Thread Cert.BfReferenceIdeal.nD Cert.BfReferenceIdeal.τ).loc Cert.BfReferenceIdeal.main_arg0)
      ∧ r.2.mem ((c.tc : Thread Cert.BfReferenceIdeal.nD Cert.BfReferenceIdeal.τ).loc Cert.BfReferenceIdeal.main_arg1) = m ((c.tc : Thread Cert.BfReferenceIdeal.nD Cert.BfReferenceIdeal.τ).loc Cert.BfReferenceIdeal.main_arg1)
      ∧ r.2.mem ((c.tc : Thread Cert.BfReferenceIdeal.nD Cert.BfReferenceIdeal.τ).loc Cert.BfReferenceIdeal.main_arg2) = m ((c.tc : Thread Cert.BfReferenceIdeal.nD Cert.BfReferenceIdeal.τ).loc Cert.BfReferenceIdeal.main_arg2))
      ∧ r.2.sem = fun _ => 0)

def quiescent_BfReferenceIdeal_pre_finite_bf [hBfReferenceIdeal : Cert.BfReferenceIdeal.Facts] [hPre_finite_bf : Cert.Pre_finite_bf.Facts] : Prop :=
  ∀ (m : (ℓ : Loc Cert.BfReferenceIdeal.nD Cert.BfReferenceIdeal.τ Cert.BfReferenceIdeal.sig) → Buf (Elt Ideal) ℓ) (g : Dev Cert.BfReferenceIdeal.nD → PrngReg), Pre_BfReferenceIdeal_finite_bf m →
    θ_run (Cert.BfReferenceIdeal.defs (F := Ideal)) (onTc (τ := Cert.BfReferenceIdeal.τ) (Cert.BfReferenceIdeal.main (F := Ideal))) ⟨m, fun _ => 0, g⟩ (fun r => (∀ c : Dev Cert.BfReferenceIdeal.nD,
      r.2.mem ((c.tc : Thread Cert.BfReferenceIdeal.nD Cert.BfReferenceIdeal.τ).loc Cert.BfReferenceIdeal.main_arg0) = m ((c.tc : Thread Cert.BfReferenceIdeal.nD Cert.BfReferenceIdeal.τ).loc Cert.BfReferenceIdeal.main_arg0)
      ∧ r.2.mem ((c.tc : Thread Cert.BfReferenceIdeal.nD Cert.BfReferenceIdeal.τ).loc Cert.BfReferenceIdeal.main_arg1) = m ((c.tc : Thread Cert.BfReferenceIdeal.nD Cert.BfReferenceIdeal.τ).loc Cert.BfReferenceIdeal.main_arg1)
      ∧ r.2.mem ((c.tc : Thread Cert.BfReferenceIdeal.nD Cert.BfReferenceIdeal.τ).loc Cert.BfReferenceIdeal.main_arg2) = m ((c.tc : Thread Cert.BfReferenceIdeal.nD Cert.BfReferenceIdeal.τ).loc Cert.BfReferenceIdeal.main_arg2))
      ∧ r.2.sem = fun _ => 0)

def quiescent_AfKernel [hAfKernel : Cert.AfKernel.Facts] : Prop :=
  ∀ (m : (ℓ : Loc Cert.AfKernel.nD Cert.AfKernel.τ Cert.AfKernel.sig) → Buf (Elt Bits) ℓ) (g : Dev Cert.AfKernel.nD → PrngReg), Pre_AfKernel m →
    θ_run (Cert.AfKernel.defs (F := Bits)) (onTc (τ := Cert.AfKernel.τ) (Cert.AfKernel.main (F := Bits))) ⟨m, fun _ => 0, g⟩ (fun r => (∀ c : Dev Cert.AfKernel.nD,
      r.2.mem ((c.tc : Thread Cert.AfKernel.nD Cert.AfKernel.τ).loc Cert.AfKernel.main_arg0) = m ((c.tc : Thread Cert.AfKernel.nD Cert.AfKernel.τ).loc Cert.AfKernel.main_arg0)
      ∧ r.2.mem ((c.tc : Thread Cert.AfKernel.nD Cert.AfKernel.τ).loc Cert.AfKernel.main_arg1) = m ((c.tc : Thread Cert.AfKernel.nD Cert.AfKernel.τ).loc Cert.AfKernel.main_arg1)
      ∧ r.2.mem ((c.tc : Thread Cert.AfKernel.nD Cert.AfKernel.τ).loc Cert.AfKernel.main_arg2) = m ((c.tc : Thread Cert.AfKernel.nD Cert.AfKernel.τ).loc Cert.AfKernel.main_arg2))
      ∧ r.2.sem = fun _ => 0)

def quiescent_AfKernelIdeal [hAfKernelIdeal : Cert.AfKernelIdeal.Facts] : Prop :=
  ∀ (m : (ℓ : Loc Cert.AfKernelIdeal.nD Cert.AfKernelIdeal.τ Cert.AfKernelIdeal.sig) → Buf (Elt Ideal) ℓ) (g : Dev Cert.AfKernelIdeal.nD → PrngReg), Pre_AfKernelIdeal m →
    θ_run (Cert.AfKernelIdeal.defs (F := Ideal)) (onTc (τ := Cert.AfKernelIdeal.τ) (Cert.AfKernelIdeal.main (F := Ideal))) ⟨m, fun _ => 0, g⟩ (fun r => (∀ c : Dev Cert.AfKernelIdeal.nD,
      r.2.mem ((c.tc : Thread Cert.AfKernelIdeal.nD Cert.AfKernelIdeal.τ).loc Cert.AfKernelIdeal.main_arg0) = m ((c.tc : Thread Cert.AfKernelIdeal.nD Cert.AfKernelIdeal.τ).loc Cert.AfKernelIdeal.main_arg0)
      ∧ r.2.mem ((c.tc : Thread Cert.AfKernelIdeal.nD Cert.AfKernelIdeal.τ).loc Cert.AfKernelIdeal.main_arg1) = m ((c.tc : Thread Cert.AfKernelIdeal.nD Cert.AfKernelIdeal.τ).loc Cert.AfKernelIdeal.main_arg1)
      ∧ r.2.mem ((c.tc : Thread Cert.AfKernelIdeal.nD Cert.AfKernelIdeal.τ).loc Cert.AfKernelIdeal.main_arg2) = m ((c.tc : Thread Cert.AfKernelIdeal.nD Cert.AfKernelIdeal.τ).loc Cert.AfKernelIdeal.main_arg2))
      ∧ r.2.sem = fun _ => 0)

def quiescent_AfKernelIdeal_pre_finite_af [hAfKernelIdeal : Cert.AfKernelIdeal.Facts] [hPre_finite_af : Cert.Pre_finite_af.Facts] : Prop :=
  ∀ (m : (ℓ : Loc Cert.AfKernelIdeal.nD Cert.AfKernelIdeal.τ Cert.AfKernelIdeal.sig) → Buf (Elt Ideal) ℓ) (g : Dev Cert.AfKernelIdeal.nD → PrngReg), Pre_AfKernelIdeal_finite_af m →
    θ_run (Cert.AfKernelIdeal.defs (F := Ideal)) (onTc (τ := Cert.AfKernelIdeal.τ) (Cert.AfKernelIdeal.main (F := Ideal))) ⟨m, fun _ => 0, g⟩ (fun r => (∀ c : Dev Cert.AfKernelIdeal.nD,
      r.2.mem ((c.tc : Thread Cert.AfKernelIdeal.nD Cert.AfKernelIdeal.τ).loc Cert.AfKernelIdeal.main_arg0) = m ((c.tc : Thread Cert.AfKernelIdeal.nD Cert.AfKernelIdeal.τ).loc Cert.AfKernelIdeal.main_arg0)
      ∧ r.2.mem ((c.tc : Thread Cert.AfKernelIdeal.nD Cert.AfKernelIdeal.τ).loc Cert.AfKernelIdeal.main_arg1) = m ((c.tc : Thread Cert.AfKernelIdeal.nD Cert.AfKernelIdeal.τ).loc Cert.AfKernelIdeal.main_arg1)
      ∧ r.2.mem ((c.tc : Thread Cert.AfKernelIdeal.nD Cert.AfKernelIdeal.τ).loc Cert.AfKernelIdeal.main_arg2) = m ((c.tc : Thread Cert.AfKernelIdeal.nD Cert.AfKernelIdeal.τ).loc Cert.AfKernelIdeal.main_arg2))
      ∧ r.2.sem = fun _ => 0)

def quiescent_AfReferenceIdeal [hAfReferenceIdeal : Cert.AfReferenceIdeal.Facts] : Prop :=
  ∀ (m : (ℓ : Loc Cert.AfReferenceIdeal.nD Cert.AfReferenceIdeal.τ Cert.AfReferenceIdeal.sig) → Buf (Elt Ideal) ℓ) (g : Dev Cert.AfReferenceIdeal.nD → PrngReg), Pre_AfReferenceIdeal m →
    θ_run (Cert.AfReferenceIdeal.defs (F := Ideal)) (onTc (τ := Cert.AfReferenceIdeal.τ) (Cert.AfReferenceIdeal.main (F := Ideal))) ⟨m, fun _ => 0, g⟩ (fun r => (∀ c : Dev Cert.AfReferenceIdeal.nD,
      r.2.mem ((c.tc : Thread Cert.AfReferenceIdeal.nD Cert.AfReferenceIdeal.τ).loc Cert.AfReferenceIdeal.main_arg0) = m ((c.tc : Thread Cert.AfReferenceIdeal.nD Cert.AfReferenceIdeal.τ).loc Cert.AfReferenceIdeal.main_arg0)
      ∧ r.2.mem ((c.tc : Thread Cert.AfReferenceIdeal.nD Cert.AfReferenceIdeal.τ).loc Cert.AfReferenceIdeal.main_arg1) = m ((c.tc : Thread Cert.AfReferenceIdeal.nD Cert.AfReferenceIdeal.τ).loc Cert.AfReferenceIdeal.main_arg1)
      ∧ r.2.mem ((c.tc : Thread Cert.AfReferenceIdeal.nD Cert.AfReferenceIdeal.τ).loc Cert.AfReferenceIdeal.main_arg2) = m ((c.tc : Thread Cert.AfReferenceIdeal.nD Cert.AfReferenceIdeal.τ).loc Cert.AfReferenceIdeal.main_arg2))
      ∧ r.2.sem = fun _ => 0)

def quiescent_AfReferenceIdeal_pre_finite_af [hAfReferenceIdeal : Cert.AfReferenceIdeal.Facts] [hPre_finite_af : Cert.Pre_finite_af.Facts] : Prop :=
  ∀ (m : (ℓ : Loc Cert.AfReferenceIdeal.nD Cert.AfReferenceIdeal.τ Cert.AfReferenceIdeal.sig) → Buf (Elt Ideal) ℓ) (g : Dev Cert.AfReferenceIdeal.nD → PrngReg), Pre_AfReferenceIdeal_finite_af m →
    θ_run (Cert.AfReferenceIdeal.defs (F := Ideal)) (onTc (τ := Cert.AfReferenceIdeal.τ) (Cert.AfReferenceIdeal.main (F := Ideal))) ⟨m, fun _ => 0, g⟩ (fun r => (∀ c : Dev Cert.AfReferenceIdeal.nD,
      r.2.mem ((c.tc : Thread Cert.AfReferenceIdeal.nD Cert.AfReferenceIdeal.τ).loc Cert.AfReferenceIdeal.main_arg0) = m ((c.tc : Thread Cert.AfReferenceIdeal.nD Cert.AfReferenceIdeal.τ).loc Cert.AfReferenceIdeal.main_arg0)
      ∧ r.2.mem ((c.tc : Thread Cert.AfReferenceIdeal.nD Cert.AfReferenceIdeal.τ).loc Cert.AfReferenceIdeal.main_arg1) = m ((c.tc : Thread Cert.AfReferenceIdeal.nD Cert.AfReferenceIdeal.τ).loc Cert.AfReferenceIdeal.main_arg1)
      ∧ r.2.mem ((c.tc : Thread Cert.AfReferenceIdeal.nD Cert.AfReferenceIdeal.τ).loc Cert.AfReferenceIdeal.main_arg2) = m ((c.tc : Thread Cert.AfReferenceIdeal.nD Cert.AfReferenceIdeal.τ).loc Cert.AfReferenceIdeal.main_arg2))
      ∧ r.2.sem = fun _ => 0)

def quiescent_PbKernel [hPbKernel : Cert.PbKernel.Facts] : Prop :=
  ∀ (m : (ℓ : Loc Cert.PbKernel.nD Cert.PbKernel.τ Cert.PbKernel.sig) → Buf (Elt Bits) ℓ) (g : Dev Cert.PbKernel.nD → PrngReg), Pre_PbKernel m →
    θ_run (Cert.PbKernel.defs (F := Bits)) (onTc (τ := Cert.PbKernel.τ) (Cert.PbKernel.main (F := Bits))) ⟨m, fun _ => 0, g⟩ (fun r => (∀ c : Dev Cert.PbKernel.nD,
      r.2.mem ((c.tc : Thread Cert.PbKernel.nD Cert.PbKernel.τ).loc Cert.PbKernel.main_arg0) = m ((c.tc : Thread Cert.PbKernel.nD Cert.PbKernel.τ).loc Cert.PbKernel.main_arg0)
      ∧ r.2.mem ((c.tc : Thread Cert.PbKernel.nD Cert.PbKernel.τ).loc Cert.PbKernel.main_arg1) = m ((c.tc : Thread Cert.PbKernel.nD Cert.PbKernel.τ).loc Cert.PbKernel.main_arg1)
      ∧ r.2.mem ((c.tc : Thread Cert.PbKernel.nD Cert.PbKernel.τ).loc Cert.PbKernel.main_arg2) = m ((c.tc : Thread Cert.PbKernel.nD Cert.PbKernel.τ).loc Cert.PbKernel.main_arg2)
      ∧ r.2.mem ((c.tc : Thread Cert.PbKernel.nD Cert.PbKernel.τ).loc Cert.PbKernel.main_arg3) = m ((c.tc : Thread Cert.PbKernel.nD Cert.PbKernel.τ).loc Cert.PbKernel.main_arg3)
      ∧ r.2.mem ((c.tc : Thread Cert.PbKernel.nD Cert.PbKernel.τ).loc Cert.PbKernel.main_arg4) = m ((c.tc : Thread Cert.PbKernel.nD Cert.PbKernel.τ).loc Cert.PbKernel.main_arg4)
      ∧ r.2.mem ((c.tc : Thread Cert.PbKernel.nD Cert.PbKernel.τ).loc Cert.PbKernel.main_arg5) = m ((c.tc : Thread Cert.PbKernel.nD Cert.PbKernel.τ).loc Cert.PbKernel.main_arg5)
      ∧ r.2.mem ((c.tc : Thread Cert.PbKernel.nD Cert.PbKernel.τ).loc Cert.PbKernel.main_arg6) = m ((c.tc : Thread Cert.PbKernel.nD Cert.PbKernel.τ).loc Cert.PbKernel.main_arg6)
      ∧ r.2.mem ((c.tc : Thread Cert.PbKernel.nD Cert.PbKernel.τ).loc Cert.PbKernel.main_arg7) = m ((c.tc : Thread Cert.PbKernel.nD Cert.PbKernel.τ).loc Cert.PbKernel.main_arg7)
      ∧ r.2.mem ((c.tc : Thread Cert.PbKernel.nD Cert.PbKernel.τ).loc Cert.PbKernel.main_arg8) = m ((c.tc : Thread Cert.PbKernel.nD Cert.PbKernel.τ).loc Cert.PbKernel.main_arg8)
      ∧ r.2.mem ((c.tc : Thread Cert.PbKernel.nD Cert.PbKernel.τ).loc Cert.PbKernel.main_arg9) = m ((c.tc : Thread Cert.PbKernel.nD Cert.PbKernel.τ).loc Cert.PbKernel.main_arg9)
      ∧ r.2.mem ((c.tc : Thread Cert.PbKernel.nD Cert.PbKernel.τ).loc Cert.PbKernel.main_arg10) = m ((c.tc : Thread Cert.PbKernel.nD Cert.PbKernel.τ).loc Cert.PbKernel.main_arg10)
      ∧ r.2.mem ((c.tc : Thread Cert.PbKernel.nD Cert.PbKernel.τ).loc Cert.PbKernel.main_arg11) = m ((c.tc : Thread Cert.PbKernel.nD Cert.PbKernel.τ).loc Cert.PbKernel.main_arg11)
      ∧ r.2.mem ((c.tc : Thread Cert.PbKernel.nD Cert.PbKernel.τ).loc Cert.PbKernel.main_arg12) = m ((c.tc : Thread Cert.PbKernel.nD Cert.PbKernel.τ).loc Cert.PbKernel.main_arg12)
      ∧ r.2.mem ((c.tc : Thread Cert.PbKernel.nD Cert.PbKernel.τ).loc Cert.PbKernel.main_arg13) = m ((c.tc : Thread Cert.PbKernel.nD Cert.PbKernel.τ).loc Cert.PbKernel.main_arg13)
      ∧ r.2.mem ((c.tc : Thread Cert.PbKernel.nD Cert.PbKernel.τ).loc Cert.PbKernel.main_arg14) = m ((c.tc : Thread Cert.PbKernel.nD Cert.PbKernel.τ).loc Cert.PbKernel.main_arg14)
      ∧ r.2.mem ((c.tc : Thread Cert.PbKernel.nD Cert.PbKernel.τ).loc Cert.PbKernel.main_arg15) = m ((c.tc : Thread Cert.PbKernel.nD Cert.PbKernel.τ).loc Cert.PbKernel.main_arg15)
      ∧ r.2.mem ((c.tc : Thread Cert.PbKernel.nD Cert.PbKernel.τ).loc Cert.PbKernel.main_arg16) = m ((c.tc : Thread Cert.PbKernel.nD Cert.PbKernel.τ).loc Cert.PbKernel.main_arg16)
      ∧ r.2.mem ((c.tc : Thread Cert.PbKernel.nD Cert.PbKernel.τ).loc Cert.PbKernel.main_arg17) = m ((c.tc : Thread Cert.PbKernel.nD Cert.PbKernel.τ).loc Cert.PbKernel.main_arg17)
      ∧ r.2.mem ((c.tc : Thread Cert.PbKernel.nD Cert.PbKernel.τ).loc Cert.PbKernel.main_arg18) = m ((c.tc : Thread Cert.PbKernel.nD Cert.PbKernel.τ).loc Cert.PbKernel.main_arg18)
      ∧ r.2.mem ((c.tc : Thread Cert.PbKernel.nD Cert.PbKernel.τ).loc Cert.PbKernel.main_arg19) = m ((c.tc : Thread Cert.PbKernel.nD Cert.PbKernel.τ).loc Cert.PbKernel.main_arg19))
      ∧ r.2.sem = fun _ => 0)

def quiescent_PbKernelIdeal [hPbKernelIdeal : Cert.PbKernelIdeal.Facts] : Prop :=
  ∀ (m : (ℓ : Loc Cert.PbKernelIdeal.nD Cert.PbKernelIdeal.τ Cert.PbKernelIdeal.sig) → Buf (Elt Ideal) ℓ) (g : Dev Cert.PbKernelIdeal.nD → PrngReg), Pre_PbKernelIdeal m →
    θ_run (Cert.PbKernelIdeal.defs (F := Ideal)) (onTc (τ := Cert.PbKernelIdeal.τ) (Cert.PbKernelIdeal.main (F := Ideal))) ⟨m, fun _ => 0, g⟩ (fun r => (∀ c : Dev Cert.PbKernelIdeal.nD,
      r.2.mem ((c.tc : Thread Cert.PbKernelIdeal.nD Cert.PbKernelIdeal.τ).loc Cert.PbKernelIdeal.main_arg0) = m ((c.tc : Thread Cert.PbKernelIdeal.nD Cert.PbKernelIdeal.τ).loc Cert.PbKernelIdeal.main_arg0)
      ∧ r.2.mem ((c.tc : Thread Cert.PbKernelIdeal.nD Cert.PbKernelIdeal.τ).loc Cert.PbKernelIdeal.main_arg1) = m ((c.tc : Thread Cert.PbKernelIdeal.nD Cert.PbKernelIdeal.τ).loc Cert.PbKernelIdeal.main_arg1)
      ∧ r.2.mem ((c.tc : Thread Cert.PbKernelIdeal.nD Cert.PbKernelIdeal.τ).loc Cert.PbKernelIdeal.main_arg2) = m ((c.tc : Thread Cert.PbKernelIdeal.nD Cert.PbKernelIdeal.τ).loc Cert.PbKernelIdeal.main_arg2)
      ∧ r.2.mem ((c.tc : Thread Cert.PbKernelIdeal.nD Cert.PbKernelIdeal.τ).loc Cert.PbKernelIdeal.main_arg3) = m ((c.tc : Thread Cert.PbKernelIdeal.nD Cert.PbKernelIdeal.τ).loc Cert.PbKernelIdeal.main_arg3)
      ∧ r.2.mem ((c.tc : Thread Cert.PbKernelIdeal.nD Cert.PbKernelIdeal.τ).loc Cert.PbKernelIdeal.main_arg4) = m ((c.tc : Thread Cert.PbKernelIdeal.nD Cert.PbKernelIdeal.τ).loc Cert.PbKernelIdeal.main_arg4)
      ∧ r.2.mem ((c.tc : Thread Cert.PbKernelIdeal.nD Cert.PbKernelIdeal.τ).loc Cert.PbKernelIdeal.main_arg5) = m ((c.tc : Thread Cert.PbKernelIdeal.nD Cert.PbKernelIdeal.τ).loc Cert.PbKernelIdeal.main_arg5)
      ∧ r.2.mem ((c.tc : Thread Cert.PbKernelIdeal.nD Cert.PbKernelIdeal.τ).loc Cert.PbKernelIdeal.main_arg6) = m ((c.tc : Thread Cert.PbKernelIdeal.nD Cert.PbKernelIdeal.τ).loc Cert.PbKernelIdeal.main_arg6)
      ∧ r.2.mem ((c.tc : Thread Cert.PbKernelIdeal.nD Cert.PbKernelIdeal.τ).loc Cert.PbKernelIdeal.main_arg7) = m ((c.tc : Thread Cert.PbKernelIdeal.nD Cert.PbKernelIdeal.τ).loc Cert.PbKernelIdeal.main_arg7)
      ∧ r.2.mem ((c.tc : Thread Cert.PbKernelIdeal.nD Cert.PbKernelIdeal.τ).loc Cert.PbKernelIdeal.main_arg8) = m ((c.tc : Thread Cert.PbKernelIdeal.nD Cert.PbKernelIdeal.τ).loc Cert.PbKernelIdeal.main_arg8)
      ∧ r.2.mem ((c.tc : Thread Cert.PbKernelIdeal.nD Cert.PbKernelIdeal.τ).loc Cert.PbKernelIdeal.main_arg9) = m ((c.tc : Thread Cert.PbKernelIdeal.nD Cert.PbKernelIdeal.τ).loc Cert.PbKernelIdeal.main_arg9)
      ∧ r.2.mem ((c.tc : Thread Cert.PbKernelIdeal.nD Cert.PbKernelIdeal.τ).loc Cert.PbKernelIdeal.main_arg10) = m ((c.tc : Thread Cert.PbKernelIdeal.nD Cert.PbKernelIdeal.τ).loc Cert.PbKernelIdeal.main_arg10)
      ∧ r.2.mem ((c.tc : Thread Cert.PbKernelIdeal.nD Cert.PbKernelIdeal.τ).loc Cert.PbKernelIdeal.main_arg11) = m ((c.tc : Thread Cert.PbKernelIdeal.nD Cert.PbKernelIdeal.τ).loc Cert.PbKernelIdeal.main_arg11)
      ∧ r.2.mem ((c.tc : Thread Cert.PbKernelIdeal.nD Cert.PbKernelIdeal.τ).loc Cert.PbKernelIdeal.main_arg12) = m ((c.tc : Thread Cert.PbKernelIdeal.nD Cert.PbKernelIdeal.τ).loc Cert.PbKernelIdeal.main_arg12)
      ∧ r.2.mem ((c.tc : Thread Cert.PbKernelIdeal.nD Cert.PbKernelIdeal.τ).loc Cert.PbKernelIdeal.main_arg13) = m ((c.tc : Thread Cert.PbKernelIdeal.nD Cert.PbKernelIdeal.τ).loc Cert.PbKernelIdeal.main_arg13)
      ∧ r.2.mem ((c.tc : Thread Cert.PbKernelIdeal.nD Cert.PbKernelIdeal.τ).loc Cert.PbKernelIdeal.main_arg14) = m ((c.tc : Thread Cert.PbKernelIdeal.nD Cert.PbKernelIdeal.τ).loc Cert.PbKernelIdeal.main_arg14)
      ∧ r.2.mem ((c.tc : Thread Cert.PbKernelIdeal.nD Cert.PbKernelIdeal.τ).loc Cert.PbKernelIdeal.main_arg15) = m ((c.tc : Thread Cert.PbKernelIdeal.nD Cert.PbKernelIdeal.τ).loc Cert.PbKernelIdeal.main_arg15)
      ∧ r.2.mem ((c.tc : Thread Cert.PbKernelIdeal.nD Cert.PbKernelIdeal.τ).loc Cert.PbKernelIdeal.main_arg16) = m ((c.tc : Thread Cert.PbKernelIdeal.nD Cert.PbKernelIdeal.τ).loc Cert.PbKernelIdeal.main_arg16)
      ∧ r.2.mem ((c.tc : Thread Cert.PbKernelIdeal.nD Cert.PbKernelIdeal.τ).loc Cert.PbKernelIdeal.main_arg17) = m ((c.tc : Thread Cert.PbKernelIdeal.nD Cert.PbKernelIdeal.τ).loc Cert.PbKernelIdeal.main_arg17)
      ∧ r.2.mem ((c.tc : Thread Cert.PbKernelIdeal.nD Cert.PbKernelIdeal.τ).loc Cert.PbKernelIdeal.main_arg18) = m ((c.tc : Thread Cert.PbKernelIdeal.nD Cert.PbKernelIdeal.τ).loc Cert.PbKernelIdeal.main_arg18)
      ∧ r.2.mem ((c.tc : Thread Cert.PbKernelIdeal.nD Cert.PbKernelIdeal.τ).loc Cert.PbKernelIdeal.main_arg19) = m ((c.tc : Thread Cert.PbKernelIdeal.nD Cert.PbKernelIdeal.τ).loc Cert.PbKernelIdeal.main_arg19))
      ∧ r.2.sem = fun _ => 0)

def quiescent_PbReferenceIdeal [hPbReferenceIdeal : Cert.PbReferenceIdeal.Facts] : Prop :=
  ∀ (m : (ℓ : Loc Cert.PbReferenceIdeal.nD Cert.PbReferenceIdeal.τ Cert.PbReferenceIdeal.sig) → Buf (Elt Ideal) ℓ) (g : Dev Cert.PbReferenceIdeal.nD → PrngReg), Pre_PbReferenceIdeal m →
    θ_run (Cert.PbReferenceIdeal.defs (F := Ideal)) (onTc (τ := Cert.PbReferenceIdeal.τ) (Cert.PbReferenceIdeal.main (F := Ideal))) ⟨m, fun _ => 0, g⟩ (fun r => (∀ c : Dev Cert.PbReferenceIdeal.nD,
      r.2.mem ((c.tc : Thread Cert.PbReferenceIdeal.nD Cert.PbReferenceIdeal.τ).loc Cert.PbReferenceIdeal.main_arg0) = m ((c.tc : Thread Cert.PbReferenceIdeal.nD Cert.PbReferenceIdeal.τ).loc Cert.PbReferenceIdeal.main_arg0)
      ∧ r.2.mem ((c.tc : Thread Cert.PbReferenceIdeal.nD Cert.PbReferenceIdeal.τ).loc Cert.PbReferenceIdeal.main_arg1) = m ((c.tc : Thread Cert.PbReferenceIdeal.nD Cert.PbReferenceIdeal.τ).loc Cert.PbReferenceIdeal.main_arg1)
      ∧ r.2.mem ((c.tc : Thread Cert.PbReferenceIdeal.nD Cert.PbReferenceIdeal.τ).loc Cert.PbReferenceIdeal.main_arg2) = m ((c.tc : Thread Cert.PbReferenceIdeal.nD Cert.PbReferenceIdeal.τ).loc Cert.PbReferenceIdeal.main_arg2)
      ∧ r.2.mem ((c.tc : Thread Cert.PbReferenceIdeal.nD Cert.PbReferenceIdeal.τ).loc Cert.PbReferenceIdeal.main_arg3) = m ((c.tc : Thread Cert.PbReferenceIdeal.nD Cert.PbReferenceIdeal.τ).loc Cert.PbReferenceIdeal.main_arg3)
      ∧ r.2.mem ((c.tc : Thread Cert.PbReferenceIdeal.nD Cert.PbReferenceIdeal.τ).loc Cert.PbReferenceIdeal.main_arg4) = m ((c.tc : Thread Cert.PbReferenceIdeal.nD Cert.PbReferenceIdeal.τ).loc Cert.PbReferenceIdeal.main_arg4)
      ∧ r.2.mem ((c.tc : Thread Cert.PbReferenceIdeal.nD Cert.PbReferenceIdeal.τ).loc Cert.PbReferenceIdeal.main_arg5) = m ((c.tc : Thread Cert.PbReferenceIdeal.nD Cert.PbReferenceIdeal.τ).loc Cert.PbReferenceIdeal.main_arg5)
      ∧ r.2.mem ((c.tc : Thread Cert.PbReferenceIdeal.nD Cert.PbReferenceIdeal.τ).loc Cert.PbReferenceIdeal.main_arg6) = m ((c.tc : Thread Cert.PbReferenceIdeal.nD Cert.PbReferenceIdeal.τ).loc Cert.PbReferenceIdeal.main_arg6)
      ∧ r.2.mem ((c.tc : Thread Cert.PbReferenceIdeal.nD Cert.PbReferenceIdeal.τ).loc Cert.PbReferenceIdeal.main_arg7) = m ((c.tc : Thread Cert.PbReferenceIdeal.nD Cert.PbReferenceIdeal.τ).loc Cert.PbReferenceIdeal.main_arg7)
      ∧ r.2.mem ((c.tc : Thread Cert.PbReferenceIdeal.nD Cert.PbReferenceIdeal.τ).loc Cert.PbReferenceIdeal.main_arg8) = m ((c.tc : Thread Cert.PbReferenceIdeal.nD Cert.PbReferenceIdeal.τ).loc Cert.PbReferenceIdeal.main_arg8)
      ∧ r.2.mem ((c.tc : Thread Cert.PbReferenceIdeal.nD Cert.PbReferenceIdeal.τ).loc Cert.PbReferenceIdeal.main_arg9) = m ((c.tc : Thread Cert.PbReferenceIdeal.nD Cert.PbReferenceIdeal.τ).loc Cert.PbReferenceIdeal.main_arg9)
      ∧ r.2.mem ((c.tc : Thread Cert.PbReferenceIdeal.nD Cert.PbReferenceIdeal.τ).loc Cert.PbReferenceIdeal.main_arg10) = m ((c.tc : Thread Cert.PbReferenceIdeal.nD Cert.PbReferenceIdeal.τ).loc Cert.PbReferenceIdeal.main_arg10)
      ∧ r.2.mem ((c.tc : Thread Cert.PbReferenceIdeal.nD Cert.PbReferenceIdeal.τ).loc Cert.PbReferenceIdeal.main_arg11) = m ((c.tc : Thread Cert.PbReferenceIdeal.nD Cert.PbReferenceIdeal.τ).loc Cert.PbReferenceIdeal.main_arg11)
      ∧ r.2.mem ((c.tc : Thread Cert.PbReferenceIdeal.nD Cert.PbReferenceIdeal.τ).loc Cert.PbReferenceIdeal.main_arg12) = m ((c.tc : Thread Cert.PbReferenceIdeal.nD Cert.PbReferenceIdeal.τ).loc Cert.PbReferenceIdeal.main_arg12)
      ∧ r.2.mem ((c.tc : Thread Cert.PbReferenceIdeal.nD Cert.PbReferenceIdeal.τ).loc Cert.PbReferenceIdeal.main_arg13) = m ((c.tc : Thread Cert.PbReferenceIdeal.nD Cert.PbReferenceIdeal.τ).loc Cert.PbReferenceIdeal.main_arg13)
      ∧ r.2.mem ((c.tc : Thread Cert.PbReferenceIdeal.nD Cert.PbReferenceIdeal.τ).loc Cert.PbReferenceIdeal.main_arg14) = m ((c.tc : Thread Cert.PbReferenceIdeal.nD Cert.PbReferenceIdeal.τ).loc Cert.PbReferenceIdeal.main_arg14)
      ∧ r.2.mem ((c.tc : Thread Cert.PbReferenceIdeal.nD Cert.PbReferenceIdeal.τ).loc Cert.PbReferenceIdeal.main_arg15) = m ((c.tc : Thread Cert.PbReferenceIdeal.nD Cert.PbReferenceIdeal.τ).loc Cert.PbReferenceIdeal.main_arg15)
      ∧ r.2.mem ((c.tc : Thread Cert.PbReferenceIdeal.nD Cert.PbReferenceIdeal.τ).loc Cert.PbReferenceIdeal.main_arg16) = m ((c.tc : Thread Cert.PbReferenceIdeal.nD Cert.PbReferenceIdeal.τ).loc Cert.PbReferenceIdeal.main_arg16)
      ∧ r.2.mem ((c.tc : Thread Cert.PbReferenceIdeal.nD Cert.PbReferenceIdeal.τ).loc Cert.PbReferenceIdeal.main_arg17) = m ((c.tc : Thread Cert.PbReferenceIdeal.nD Cert.PbReferenceIdeal.τ).loc Cert.PbReferenceIdeal.main_arg17)
      ∧ r.2.mem ((c.tc : Thread Cert.PbReferenceIdeal.nD Cert.PbReferenceIdeal.τ).loc Cert.PbReferenceIdeal.main_arg18) = m ((c.tc : Thread Cert.PbReferenceIdeal.nD Cert.PbReferenceIdeal.τ).loc Cert.PbReferenceIdeal.main_arg18)
      ∧ r.2.mem ((c.tc : Thread Cert.PbReferenceIdeal.nD Cert.PbReferenceIdeal.τ).loc Cert.PbReferenceIdeal.main_arg19) = m ((c.tc : Thread Cert.PbReferenceIdeal.nD Cert.PbReferenceIdeal.τ).loc Cert.PbReferenceIdeal.main_arg19))
      ∧ r.2.sem = fun _ => 0)

def preserves_OutKernel_OutKernelIdeal : Prop :=
  True

def algebraic_OutKernelIdeal_OutReferenceIdeal_pre_finite [hOutKernelIdeal : Cert.OutKernelIdeal.Facts] [hOutReferenceIdeal : Cert.OutReferenceIdeal.Facts] [hPre_finite : Cert.Pre_finite.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal_finite m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)) →
    ∃ (v0 : (c : Dev Cert.OutKernelIdeal.nD) → Buf (Elt Ideal) ((c.tc : Thread Cert.OutKernelIdeal.nD Cert.OutKernelIdeal.τ).loc Cert.OutKernelIdeal.main_v1_0)) (v1 : (c : Dev Cert.OutKernelIdeal.nD) → Buf (Elt Ideal) ((c.tc : Thread Cert.OutKernelIdeal.nD Cert.OutKernelIdeal.τ).loc Cert.OutKernelIdeal.main_v1_1)) (v2 : (c : Dev Cert.OutKernelIdeal.nD) → Buf (Elt Ideal) ((c.tc : Thread Cert.OutKernelIdeal.nD Cert.OutKernelIdeal.τ).loc Cert.OutKernelIdeal.main_v1_2)) (v3 : (c : Dev Cert.OutKernelIdeal.nD) → Buf (Elt Ideal) ((c.tc : Thread Cert.OutKernelIdeal.nD Cert.OutKernelIdeal.τ).loc Cert.OutKernelIdeal.main_v1_3)) (v4 : (c : Dev Cert.OutKernelIdeal.nD) → Buf (Elt Ideal) ((c.tc : Thread Cert.OutKernelIdeal.nD Cert.OutKernelIdeal.τ).loc Cert.OutKernelIdeal.main_v1_4)) (v5 : (c : Dev Cert.OutKernelIdeal.nD) → Buf (Elt Ideal) ((c.tc : Thread Cert.OutKernelIdeal.nD Cert.OutKernelIdeal.τ).loc Cert.OutKernelIdeal.main_v1_5)) (v6 : (c : Dev Cert.OutKernelIdeal.nD) → Buf (Elt Ideal) ((c.tc : Thread Cert.OutKernelIdeal.nD Cert.OutKernelIdeal.τ).loc Cert.OutKernelIdeal.main_v3)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v1_0) = v0 c
          ∧ r.2.mem ((c.tc : Thread Cert.OutKernelIdeal.nD Cert.OutKernelIdeal.τ).loc Cert.OutKernelIdeal.main_v1_1) = v1 c
          ∧ r.2.mem ((c.tc : Thread Cert.OutKernelIdeal.nD Cert.OutKernelIdeal.τ).loc Cert.OutKernelIdeal.main_v1_2) = v2 c
          ∧ r.2.mem ((c.tc : Thread Cert.OutKernelIdeal.nD Cert.OutKernelIdeal.τ).loc Cert.OutKernelIdeal.main_v1_3) = v3 c
          ∧ r.2.mem ((c.tc : Thread Cert.OutKernelIdeal.nD Cert.OutKernelIdeal.τ).loc Cert.OutKernelIdeal.main_v1_4) = v4 c
          ∧ r.2.mem ((c.tc : Thread Cert.OutKernelIdeal.nD Cert.OutKernelIdeal.τ).loc Cert.OutKernelIdeal.main_v1_5) = v5 c
          ∧ r.2.mem ((c.tc : Thread Cert.OutKernelIdeal.nD Cert.OutKernelIdeal.τ).loc Cert.OutKernelIdeal.main_v3) = v6 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v21) = v0 c
          ∧ r.2.mem ((c.tc : Thread Cert.OutReferenceIdeal.nD Cert.OutReferenceIdeal.τ).loc Cert.OutReferenceIdeal.main_v33) = v1 c
          ∧ r.2.mem ((c.tc : Thread Cert.OutReferenceIdeal.nD Cert.OutReferenceIdeal.τ).loc Cert.OutReferenceIdeal.main_v34) = v2 c
          ∧ r.2.mem ((c.tc : Thread Cert.OutReferenceIdeal.nD Cert.OutReferenceIdeal.τ).loc Cert.OutReferenceIdeal.main_v32) = v3 c
          ∧ r.2.mem ((c.tc : Thread Cert.OutReferenceIdeal.nD Cert.OutReferenceIdeal.τ).loc Cert.OutReferenceIdeal.main_v29) = v4 c
          ∧ r.2.mem ((c.tc : Thread Cert.OutReferenceIdeal.nD Cert.OutReferenceIdeal.τ).loc Cert.OutReferenceIdeal.main_v35) = v5 c
          ∧ r.2.mem ((c.tc : Thread Cert.OutReferenceIdeal.nD Cert.OutReferenceIdeal.τ).loc Cert.OutReferenceIdeal.main_v15) = v6 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6))

def preserves_AKernel_AKernelIdeal : Prop :=
  True

def algebraic_AKernelIdeal_AReferenceIdeal_pre_finite_a [hAKernelIdeal : Cert.AKernelIdeal.Facts] [hAReferenceIdeal : Cert.AReferenceIdeal.Facts] [hPre_finite_a : Cert.Pre_finite_a.Facts] : Prop :=
  ∀ (m : (ℓ : Loc Cert.AKernelIdeal.nD Cert.AKernelIdeal.τ Cert.AKernelIdeal.sig) → Buf (Elt Ideal) ℓ) (g : Dev Cert.AKernelIdeal.nD → PrngReg)
    (m' : (ℓ : Loc Cert.AReferenceIdeal.nD Cert.AReferenceIdeal.τ Cert.AReferenceIdeal.sig) → Buf (Elt Ideal) ℓ) (g' : Dev Cert.AReferenceIdeal.nD → PrngReg), Pre_AKernelIdeal_finite_a m →
    (∀ c : Dev Cert.AKernelIdeal.nD,
      m' ((c.tc : Thread Cert.AReferenceIdeal.nD Cert.AReferenceIdeal.τ).loc Cert.AReferenceIdeal.main_arg0) = m ((c.tc : Thread Cert.AKernelIdeal.nD Cert.AKernelIdeal.τ).loc Cert.AKernelIdeal.main_arg0)
      ∧ m' ((c.tc : Thread Cert.AReferenceIdeal.nD Cert.AReferenceIdeal.τ).loc Cert.AReferenceIdeal.main_arg1) = m ((c.tc : Thread Cert.AKernelIdeal.nD Cert.AKernelIdeal.τ).loc Cert.AKernelIdeal.main_arg1)
      ∧ m' ((c.tc : Thread Cert.AReferenceIdeal.nD Cert.AReferenceIdeal.τ).loc Cert.AReferenceIdeal.main_arg2) = m ((c.tc : Thread Cert.AKernelIdeal.nD Cert.AKernelIdeal.τ).loc Cert.AKernelIdeal.main_arg2)
      ∧ m' ((c.tc : Thread Cert.AReferenceIdeal.nD Cert.AReferenceIdeal.τ).loc Cert.AReferenceIdeal.main_arg3) = m ((c.tc : Thread Cert.AKernelIdeal.nD Cert.AKernelIdeal.τ).loc Cert.AKernelIdeal.main_arg3)) →
    ∃ (v0 : (c : Dev Cert.AKernelIdeal.nD) → Buf (Elt Ideal) ((c.tc : Thread Cert.AKernelIdeal.nD Cert.AKernelIdeal.τ).loc Cert.AKernelIdeal.main_v50)) (v1 : (c : Dev Cert.AKernelIdeal.nD) → Buf (Elt Ideal) ((c.tc : Thread Cert.AKernelIdeal.nD Cert.AKernelIdeal.τ).loc Cert.AKernelIdeal.main_v58)) (v2 : (c : Dev Cert.AKernelIdeal.nD) → Buf (Elt Ideal) ((c.tc : Thread Cert.AKernelIdeal.nD Cert.AKernelIdeal.τ).loc Cert.AKernelIdeal.main_v64)),
      θ_run (Cert.AKernelIdeal.defs (F := Ideal)) (onTc (τ := Cert.AKernelIdeal.τ) (Cert.AKernelIdeal.main (F := Ideal))) ⟨m, fun _ => 0, g⟩ (fun r => ∀ c : Dev Cert.AKernelIdeal.nD,
          r.2.mem ((c.tc : Thread Cert.AKernelIdeal.nD Cert.AKernelIdeal.τ).loc Cert.AKernelIdeal.main_v50) = v0 c
          ∧ r.2.mem ((c.tc : Thread Cert.AKernelIdeal.nD Cert.AKernelIdeal.τ).loc Cert.AKernelIdeal.main_v58) = v1 c
          ∧ r.2.mem ((c.tc : Thread Cert.AKernelIdeal.nD Cert.AKernelIdeal.τ).loc Cert.AKernelIdeal.main_v64) = v2 c
          ∧ r.2.mem ((c.tc : Thread Cert.AKernelIdeal.nD Cert.AKernelIdeal.τ).loc Cert.AKernelIdeal.main_arg0) = m ((c.tc : Thread Cert.AKernelIdeal.nD Cert.AKernelIdeal.τ).loc Cert.AKernelIdeal.main_arg0)
          ∧ r.2.mem ((c.tc : Thread Cert.AKernelIdeal.nD Cert.AKernelIdeal.τ).loc Cert.AKernelIdeal.main_arg1) = m ((c.tc : Thread Cert.AKernelIdeal.nD Cert.AKernelIdeal.τ).loc Cert.AKernelIdeal.main_arg1)
          ∧ r.2.mem ((c.tc : Thread Cert.AKernelIdeal.nD Cert.AKernelIdeal.τ).loc Cert.AKernelIdeal.main_arg2) = m ((c.tc : Thread Cert.AKernelIdeal.nD Cert.AKernelIdeal.τ).loc Cert.AKernelIdeal.main_arg2)
          ∧ r.2.mem ((c.tc : Thread Cert.AKernelIdeal.nD Cert.AKernelIdeal.τ).loc Cert.AKernelIdeal.main_arg3) = m ((c.tc : Thread Cert.AKernelIdeal.nD Cert.AKernelIdeal.τ).loc Cert.AKernelIdeal.main_arg3))
      ∧ θ_run (Cert.AReferenceIdeal.defs (F := Ideal)) (onTc (τ := Cert.AReferenceIdeal.τ) (Cert.AReferenceIdeal.main (F := Ideal))) ⟨m', fun _ => 0, g'⟩ (fun r => ∀ c : Dev Cert.AReferenceIdeal.nD,
          r.2.mem ((c.tc : Thread Cert.AReferenceIdeal.nD Cert.AReferenceIdeal.τ).loc Cert.AReferenceIdeal.main_v56) = v0 c
          ∧ r.2.mem ((c.tc : Thread Cert.AReferenceIdeal.nD Cert.AReferenceIdeal.τ).loc Cert.AReferenceIdeal.main_v54) = v1 c
          ∧ r.2.mem ((c.tc : Thread Cert.AReferenceIdeal.nD Cert.AReferenceIdeal.τ).loc Cert.AReferenceIdeal.main_v38) = v2 c
          ∧ r.2.mem ((c.tc : Thread Cert.AReferenceIdeal.nD Cert.AReferenceIdeal.τ).loc Cert.AReferenceIdeal.main_arg0) = m' ((c.tc : Thread Cert.AReferenceIdeal.nD Cert.AReferenceIdeal.τ).loc Cert.AReferenceIdeal.main_arg0)
          ∧ r.2.mem ((c.tc : Thread Cert.AReferenceIdeal.nD Cert.AReferenceIdeal.τ).loc Cert.AReferenceIdeal.main_arg1) = m' ((c.tc : Thread Cert.AReferenceIdeal.nD Cert.AReferenceIdeal.τ).loc Cert.AReferenceIdeal.main_arg1)
          ∧ r.2.mem ((c.tc : Thread Cert.AReferenceIdeal.nD Cert.AReferenceIdeal.τ).loc Cert.AReferenceIdeal.main_arg2) = m' ((c.tc : Thread Cert.AReferenceIdeal.nD Cert.AReferenceIdeal.τ).loc Cert.AReferenceIdeal.main_arg2)
          ∧ r.2.mem ((c.tc : Thread Cert.AReferenceIdeal.nD Cert.AReferenceIdeal.τ).loc Cert.AReferenceIdeal.main_arg3) = m' ((c.tc : Thread Cert.AReferenceIdeal.nD Cert.AReferenceIdeal.τ).loc Cert.AReferenceIdeal.main_arg3))

def preserves_BKernel_BKernelIdeal : Prop :=
  True

def algebraic_BKernelIdeal_BReferenceIdeal_pre_finite_b [hBKernelIdeal : Cert.BKernelIdeal.Facts] [hBReferenceIdeal : Cert.BReferenceIdeal.Facts] [hPre_finite_b : Cert.Pre_finite_b.Facts] : Prop :=
  ∀ (m : (ℓ : Loc Cert.BKernelIdeal.nD Cert.BKernelIdeal.τ Cert.BKernelIdeal.sig) → Buf (Elt Ideal) ℓ) (g : Dev Cert.BKernelIdeal.nD → PrngReg)
    (m' : (ℓ : Loc Cert.BReferenceIdeal.nD Cert.BReferenceIdeal.τ Cert.BReferenceIdeal.sig) → Buf (Elt Ideal) ℓ) (g' : Dev Cert.BReferenceIdeal.nD → PrngReg), Pre_BKernelIdeal_finite_b m →
    (∀ c : Dev Cert.BKernelIdeal.nD,
      m' ((c.tc : Thread Cert.BReferenceIdeal.nD Cert.BReferenceIdeal.τ).loc Cert.BReferenceIdeal.main_arg0) = m ((c.tc : Thread Cert.BKernelIdeal.nD Cert.BKernelIdeal.τ).loc Cert.BKernelIdeal.main_arg0)
      ∧ m' ((c.tc : Thread Cert.BReferenceIdeal.nD Cert.BReferenceIdeal.τ).loc Cert.BReferenceIdeal.main_arg1) = m ((c.tc : Thread Cert.BKernelIdeal.nD Cert.BKernelIdeal.τ).loc Cert.BKernelIdeal.main_arg1)
      ∧ m' ((c.tc : Thread Cert.BReferenceIdeal.nD Cert.BReferenceIdeal.τ).loc Cert.BReferenceIdeal.main_arg2) = m ((c.tc : Thread Cert.BKernelIdeal.nD Cert.BKernelIdeal.τ).loc Cert.BKernelIdeal.main_arg2)
      ∧ m' ((c.tc : Thread Cert.BReferenceIdeal.nD Cert.BReferenceIdeal.τ).loc Cert.BReferenceIdeal.main_arg3) = m ((c.tc : Thread Cert.BKernelIdeal.nD Cert.BKernelIdeal.τ).loc Cert.BKernelIdeal.main_arg3)) →
    ∃ (v0 : (c : Dev Cert.BKernelIdeal.nD) → Buf (Elt Ideal) ((c.tc : Thread Cert.BKernelIdeal.nD Cert.BKernelIdeal.τ).loc Cert.BKernelIdeal.main_v39)) (v1 : (c : Dev Cert.BKernelIdeal.nD) → Buf (Elt Ideal) ((c.tc : Thread Cert.BKernelIdeal.nD Cert.BKernelIdeal.τ).loc Cert.BKernelIdeal.main_v42)) (v2 : (c : Dev Cert.BKernelIdeal.nD) → Buf (Elt Ideal) ((c.tc : Thread Cert.BKernelIdeal.nD Cert.BKernelIdeal.τ).loc Cert.BKernelIdeal.main_v44)),
      θ_run (Cert.BKernelIdeal.defs (F := Ideal)) (onTc (τ := Cert.BKernelIdeal.τ) (Cert.BKernelIdeal.main (F := Ideal))) ⟨m, fun _ => 0, g⟩ (fun r => ∀ c : Dev Cert.BKernelIdeal.nD,
          r.2.mem ((c.tc : Thread Cert.BKernelIdeal.nD Cert.BKernelIdeal.τ).loc Cert.BKernelIdeal.main_v39) = v0 c
          ∧ r.2.mem ((c.tc : Thread Cert.BKernelIdeal.nD Cert.BKernelIdeal.τ).loc Cert.BKernelIdeal.main_v42) = v1 c
          ∧ r.2.mem ((c.tc : Thread Cert.BKernelIdeal.nD Cert.BKernelIdeal.τ).loc Cert.BKernelIdeal.main_v44) = v2 c
          ∧ r.2.mem ((c.tc : Thread Cert.BKernelIdeal.nD Cert.BKernelIdeal.τ).loc Cert.BKernelIdeal.main_arg0) = m ((c.tc : Thread Cert.BKernelIdeal.nD Cert.BKernelIdeal.τ).loc Cert.BKernelIdeal.main_arg0)
          ∧ r.2.mem ((c.tc : Thread Cert.BKernelIdeal.nD Cert.BKernelIdeal.τ).loc Cert.BKernelIdeal.main_arg1) = m ((c.tc : Thread Cert.BKernelIdeal.nD Cert.BKernelIdeal.τ).loc Cert.BKernelIdeal.main_arg1)
          ∧ r.2.mem ((c.tc : Thread Cert.BKernelIdeal.nD Cert.BKernelIdeal.τ).loc Cert.BKernelIdeal.main_arg2) = m ((c.tc : Thread Cert.BKernelIdeal.nD Cert.BKernelIdeal.τ).loc Cert.BKernelIdeal.main_arg2)
          ∧ r.2.mem ((c.tc : Thread Cert.BKernelIdeal.nD Cert.BKernelIdeal.τ).loc Cert.BKernelIdeal.main_arg3) = m ((c.tc : Thread Cert.BKernelIdeal.nD Cert.BKernelIdeal.τ).loc Cert.BKernelIdeal.main_arg3))
      ∧ θ_run (Cert.BReferenceIdeal.defs (F := Ideal)) (onTc (τ := Cert.BReferenceIdeal.τ) (Cert.BReferenceIdeal.main (F := Ideal))) ⟨m', fun _ => 0, g'⟩ (fun r => ∀ c : Dev Cert.BReferenceIdeal.nD,
          r.2.mem ((c.tc : Thread Cert.BReferenceIdeal.nD Cert.BReferenceIdeal.τ).loc Cert.BReferenceIdeal.main_v59) = v0 c
          ∧ r.2.mem ((c.tc : Thread Cert.BReferenceIdeal.nD Cert.BReferenceIdeal.τ).loc Cert.BReferenceIdeal.main_v57) = v1 c
          ∧ r.2.mem ((c.tc : Thread Cert.BReferenceIdeal.nD Cert.BReferenceIdeal.τ).loc Cert.BReferenceIdeal.main_v40) = v2 c
          ∧ r.2.mem ((c.tc : Thread Cert.BReferenceIdeal.nD Cert.BReferenceIdeal.τ).loc Cert.BReferenceIdeal.main_arg0) = m' ((c.tc : Thread Cert.BReferenceIdeal.nD Cert.BReferenceIdeal.τ).loc Cert.BReferenceIdeal.main_arg0)
          ∧ r.2.mem ((c.tc : Thread Cert.BReferenceIdeal.nD Cert.BReferenceIdeal.τ).loc Cert.BReferenceIdeal.main_arg1) = m' ((c.tc : Thread Cert.BReferenceIdeal.nD Cert.BReferenceIdeal.τ).loc Cert.BReferenceIdeal.main_arg1)
          ∧ r.2.mem ((c.tc : Thread Cert.BReferenceIdeal.nD Cert.BReferenceIdeal.τ).loc Cert.BReferenceIdeal.main_arg2) = m' ((c.tc : Thread Cert.BReferenceIdeal.nD Cert.BReferenceIdeal.τ).loc Cert.BReferenceIdeal.main_arg2)
          ∧ r.2.mem ((c.tc : Thread Cert.BReferenceIdeal.nD Cert.BReferenceIdeal.τ).loc Cert.BReferenceIdeal.main_arg3) = m' ((c.tc : Thread Cert.BReferenceIdeal.nD Cert.BReferenceIdeal.τ).loc Cert.BReferenceIdeal.main_arg3))

def preserves_BfKernel_BfKernelIdeal : Prop :=
  True

def algebraic_BfKernelIdeal_BfReferenceIdeal_pre_finite_bf [hBfKernelIdeal : Cert.BfKernelIdeal.Facts] [hBfReferenceIdeal : Cert.BfReferenceIdeal.Facts] [hPre_finite_bf : Cert.Pre_finite_bf.Facts] : Prop :=
  ∀ (m : (ℓ : Loc Cert.BfKernelIdeal.nD Cert.BfKernelIdeal.τ Cert.BfKernelIdeal.sig) → Buf (Elt Ideal) ℓ) (g : Dev Cert.BfKernelIdeal.nD → PrngReg)
    (m' : (ℓ : Loc Cert.BfReferenceIdeal.nD Cert.BfReferenceIdeal.τ Cert.BfReferenceIdeal.sig) → Buf (Elt Ideal) ℓ) (g' : Dev Cert.BfReferenceIdeal.nD → PrngReg), Pre_BfKernelIdeal_finite_bf m →
    (∀ c : Dev Cert.BfKernelIdeal.nD,
      m' ((c.tc : Thread Cert.BfReferenceIdeal.nD Cert.BfReferenceIdeal.τ).loc Cert.BfReferenceIdeal.main_arg0) = m ((c.tc : Thread Cert.BfKernelIdeal.nD Cert.BfKernelIdeal.τ).loc Cert.BfKernelIdeal.main_arg0)
      ∧ m' ((c.tc : Thread Cert.BfReferenceIdeal.nD Cert.BfReferenceIdeal.τ).loc Cert.BfReferenceIdeal.main_arg1) = m ((c.tc : Thread Cert.BfKernelIdeal.nD Cert.BfKernelIdeal.τ).loc Cert.BfKernelIdeal.main_arg1)
      ∧ m' ((c.tc : Thread Cert.BfReferenceIdeal.nD Cert.BfReferenceIdeal.τ).loc Cert.BfReferenceIdeal.main_arg2) = m ((c.tc : Thread Cert.BfKernelIdeal.nD Cert.BfKernelIdeal.τ).loc Cert.BfKernelIdeal.main_arg2)) →
    ∃ (v0 : (c : Dev Cert.BfKernelIdeal.nD) → Buf (Elt Ideal) ((c.tc : Thread Cert.BfKernelIdeal.nD Cert.BfKernelIdeal.τ).loc Cert.BfKernelIdeal.main_v13_0)) (v1 : (c : Dev Cert.BfKernelIdeal.nD) → Buf (Elt Ideal) ((c.tc : Thread Cert.BfKernelIdeal.nD Cert.BfKernelIdeal.τ).loc Cert.BfKernelIdeal.main_v14)),
      θ_run (Cert.BfKernelIdeal.defs (F := Ideal)) (onTc (τ := Cert.BfKernelIdeal.τ) (Cert.BfKernelIdeal.main (F := Ideal))) ⟨m, fun _ => 0, g⟩ (fun r => ∀ c : Dev Cert.BfKernelIdeal.nD,
          r.2.mem ((c.tc : Thread Cert.BfKernelIdeal.nD Cert.BfKernelIdeal.τ).loc Cert.BfKernelIdeal.main_v13_0) = v0 c
          ∧ r.2.mem ((c.tc : Thread Cert.BfKernelIdeal.nD Cert.BfKernelIdeal.τ).loc Cert.BfKernelIdeal.main_v14) = v1 c
          ∧ r.2.mem ((c.tc : Thread Cert.BfKernelIdeal.nD Cert.BfKernelIdeal.τ).loc Cert.BfKernelIdeal.main_arg0) = m ((c.tc : Thread Cert.BfKernelIdeal.nD Cert.BfKernelIdeal.τ).loc Cert.BfKernelIdeal.main_arg0)
          ∧ r.2.mem ((c.tc : Thread Cert.BfKernelIdeal.nD Cert.BfKernelIdeal.τ).loc Cert.BfKernelIdeal.main_arg1) = m ((c.tc : Thread Cert.BfKernelIdeal.nD Cert.BfKernelIdeal.τ).loc Cert.BfKernelIdeal.main_arg1)
          ∧ r.2.mem ((c.tc : Thread Cert.BfKernelIdeal.nD Cert.BfKernelIdeal.τ).loc Cert.BfKernelIdeal.main_arg2) = m ((c.tc : Thread Cert.BfKernelIdeal.nD Cert.BfKernelIdeal.τ).loc Cert.BfKernelIdeal.main_arg2))
      ∧ θ_run (Cert.BfReferenceIdeal.defs (F := Ideal)) (onTc (τ := Cert.BfReferenceIdeal.τ) (Cert.BfReferenceIdeal.main (F := Ideal))) ⟨m', fun _ => 0, g'⟩ (fun r => ∀ c : Dev Cert.BfReferenceIdeal.nD,
          r.2.mem ((c.tc : Thread Cert.BfReferenceIdeal.nD Cert.BfReferenceIdeal.τ).loc Cert.BfReferenceIdeal.main_v22) = v0 c
          ∧ r.2.mem ((c.tc : Thread Cert.BfReferenceIdeal.nD Cert.BfReferenceIdeal.τ).loc Cert.BfReferenceIdeal.main_v26) = v1 c
          ∧ r.2.mem ((c.tc : Thread Cert.BfReferenceIdeal.nD Cert.BfReferenceIdeal.τ).loc Cert.BfReferenceIdeal.main_arg0) = m' ((c.tc : Thread Cert.BfReferenceIdeal.nD Cert.BfReferenceIdeal.τ).loc Cert.BfReferenceIdeal.main_arg0)
          ∧ r.2.mem ((c.tc : Thread Cert.BfReferenceIdeal.nD Cert.BfReferenceIdeal.τ).loc Cert.BfReferenceIdeal.main_arg1) = m' ((c.tc : Thread Cert.BfReferenceIdeal.nD Cert.BfReferenceIdeal.τ).loc Cert.BfReferenceIdeal.main_arg1)
          ∧ r.2.mem ((c.tc : Thread Cert.BfReferenceIdeal.nD Cert.BfReferenceIdeal.τ).loc Cert.BfReferenceIdeal.main_arg2) = m' ((c.tc : Thread Cert.BfReferenceIdeal.nD Cert.BfReferenceIdeal.τ).loc Cert.BfReferenceIdeal.main_arg2))

def preserves_AfKernel_AfKernelIdeal : Prop :=
  True

def algebraic_AfKernelIdeal_AfReferenceIdeal_pre_finite_af [hAfKernelIdeal : Cert.AfKernelIdeal.Facts] [hAfReferenceIdeal : Cert.AfReferenceIdeal.Facts] [hPre_finite_af : Cert.Pre_finite_af.Facts] : Prop :=
  ∀ (m : (ℓ : Loc Cert.AfKernelIdeal.nD Cert.AfKernelIdeal.τ Cert.AfKernelIdeal.sig) → Buf (Elt Ideal) ℓ) (g : Dev Cert.AfKernelIdeal.nD → PrngReg)
    (m' : (ℓ : Loc Cert.AfReferenceIdeal.nD Cert.AfReferenceIdeal.τ Cert.AfReferenceIdeal.sig) → Buf (Elt Ideal) ℓ) (g' : Dev Cert.AfReferenceIdeal.nD → PrngReg), Pre_AfKernelIdeal_finite_af m →
    (∀ c : Dev Cert.AfKernelIdeal.nD,
      m' ((c.tc : Thread Cert.AfReferenceIdeal.nD Cert.AfReferenceIdeal.τ).loc Cert.AfReferenceIdeal.main_arg0) = m ((c.tc : Thread Cert.AfKernelIdeal.nD Cert.AfKernelIdeal.τ).loc Cert.AfKernelIdeal.main_arg0)
      ∧ m' ((c.tc : Thread Cert.AfReferenceIdeal.nD Cert.AfReferenceIdeal.τ).loc Cert.AfReferenceIdeal.main_arg1) = m ((c.tc : Thread Cert.AfKernelIdeal.nD Cert.AfKernelIdeal.τ).loc Cert.AfKernelIdeal.main_arg1)
      ∧ m' ((c.tc : Thread Cert.AfReferenceIdeal.nD Cert.AfReferenceIdeal.τ).loc Cert.AfReferenceIdeal.main_arg2) = m ((c.tc : Thread Cert.AfKernelIdeal.nD Cert.AfKernelIdeal.τ).loc Cert.AfKernelIdeal.main_arg2)) →
    ∃ (v0 : (c : Dev Cert.AfKernelIdeal.nD) → Buf (Elt Ideal) ((c.tc : Thread Cert.AfKernelIdeal.nD Cert.AfKernelIdeal.τ).loc Cert.AfKernelIdeal.main_v26_0)) (v1 : (c : Dev Cert.AfKernelIdeal.nD) → Buf (Elt Ideal) ((c.tc : Thread Cert.AfKernelIdeal.nD Cert.AfKernelIdeal.τ).loc Cert.AfKernelIdeal.main_v27)),
      θ_run (Cert.AfKernelIdeal.defs (F := Ideal)) (onTc (τ := Cert.AfKernelIdeal.τ) (Cert.AfKernelIdeal.main (F := Ideal))) ⟨m, fun _ => 0, g⟩ (fun r => ∀ c : Dev Cert.AfKernelIdeal.nD,
          r.2.mem ((c.tc : Thread Cert.AfKernelIdeal.nD Cert.AfKernelIdeal.τ).loc Cert.AfKernelIdeal.main_v26_0) = v0 c
          ∧ r.2.mem ((c.tc : Thread Cert.AfKernelIdeal.nD Cert.AfKernelIdeal.τ).loc Cert.AfKernelIdeal.main_v27) = v1 c
          ∧ r.2.mem ((c.tc : Thread Cert.AfKernelIdeal.nD Cert.AfKernelIdeal.τ).loc Cert.AfKernelIdeal.main_arg0) = m ((c.tc : Thread Cert.AfKernelIdeal.nD Cert.AfKernelIdeal.τ).loc Cert.AfKernelIdeal.main_arg0)
          ∧ r.2.mem ((c.tc : Thread Cert.AfKernelIdeal.nD Cert.AfKernelIdeal.τ).loc Cert.AfKernelIdeal.main_arg1) = m ((c.tc : Thread Cert.AfKernelIdeal.nD Cert.AfKernelIdeal.τ).loc Cert.AfKernelIdeal.main_arg1)
          ∧ r.2.mem ((c.tc : Thread Cert.AfKernelIdeal.nD Cert.AfKernelIdeal.τ).loc Cert.AfKernelIdeal.main_arg2) = m ((c.tc : Thread Cert.AfKernelIdeal.nD Cert.AfKernelIdeal.τ).loc Cert.AfKernelIdeal.main_arg2))
      ∧ θ_run (Cert.AfReferenceIdeal.defs (F := Ideal)) (onTc (τ := Cert.AfReferenceIdeal.τ) (Cert.AfReferenceIdeal.main (F := Ideal))) ⟨m', fun _ => 0, g'⟩ (fun r => ∀ c : Dev Cert.AfReferenceIdeal.nD,
          r.2.mem ((c.tc : Thread Cert.AfReferenceIdeal.nD Cert.AfReferenceIdeal.τ).loc Cert.AfReferenceIdeal.main_v20) = v0 c
          ∧ r.2.mem ((c.tc : Thread Cert.AfReferenceIdeal.nD Cert.AfReferenceIdeal.τ).loc Cert.AfReferenceIdeal.main_v24) = v1 c
          ∧ r.2.mem ((c.tc : Thread Cert.AfReferenceIdeal.nD Cert.AfReferenceIdeal.τ).loc Cert.AfReferenceIdeal.main_arg0) = m' ((c.tc : Thread Cert.AfReferenceIdeal.nD Cert.AfReferenceIdeal.τ).loc Cert.AfReferenceIdeal.main_arg0)
          ∧ r.2.mem ((c.tc : Thread Cert.AfReferenceIdeal.nD Cert.AfReferenceIdeal.τ).loc Cert.AfReferenceIdeal.main_arg1) = m' ((c.tc : Thread Cert.AfReferenceIdeal.nD Cert.AfReferenceIdeal.τ).loc Cert.AfReferenceIdeal.main_arg1)
          ∧ r.2.mem ((c.tc : Thread Cert.AfReferenceIdeal.nD Cert.AfReferenceIdeal.τ).loc Cert.AfReferenceIdeal.main_arg2) = m' ((c.tc : Thread Cert.AfReferenceIdeal.nD Cert.AfReferenceIdeal.τ).loc Cert.AfReferenceIdeal.main_arg2))

def preserves_PbKernel_PbKernelIdeal : Prop :=
  True

def algebraic_PbKernelIdeal_PbReferenceIdeal [hPbKernelIdeal : Cert.PbKernelIdeal.Facts] [hPbReferenceIdeal : Cert.PbReferenceIdeal.Facts] : Prop :=
  ∀ (m : (ℓ : Loc Cert.PbKernelIdeal.nD Cert.PbKernelIdeal.τ Cert.PbKernelIdeal.sig) → Buf (Elt Ideal) ℓ) (g : Dev Cert.PbKernelIdeal.nD → PrngReg)
    (m' : (ℓ : Loc Cert.PbReferenceIdeal.nD Cert.PbReferenceIdeal.τ Cert.PbReferenceIdeal.sig) → Buf (Elt Ideal) ℓ) (g' : Dev Cert.PbReferenceIdeal.nD → PrngReg), Pre_PbKernelIdeal m →
    (∀ c : Dev Cert.PbKernelIdeal.nD,
      m' ((c.tc : Thread Cert.PbReferenceIdeal.nD Cert.PbReferenceIdeal.τ).loc Cert.PbReferenceIdeal.main_arg0) = m ((c.tc : Thread Cert.PbKernelIdeal.nD Cert.PbKernelIdeal.τ).loc Cert.PbKernelIdeal.main_arg0)
      ∧ m' ((c.tc : Thread Cert.PbReferenceIdeal.nD Cert.PbReferenceIdeal.τ).loc Cert.PbReferenceIdeal.main_arg1) = m ((c.tc : Thread Cert.PbKernelIdeal.nD Cert.PbKernelIdeal.τ).loc Cert.PbKernelIdeal.main_arg1)
      ∧ m' ((c.tc : Thread Cert.PbReferenceIdeal.nD Cert.PbReferenceIdeal.τ).loc Cert.PbReferenceIdeal.main_arg2) = m ((c.tc : Thread Cert.PbKernelIdeal.nD Cert.PbKernelIdeal.τ).loc Cert.PbKernelIdeal.main_arg2)
      ∧ m' ((c.tc : Thread Cert.PbReferenceIdeal.nD Cert.PbReferenceIdeal.τ).loc Cert.PbReferenceIdeal.main_arg3) = m ((c.tc : Thread Cert.PbKernelIdeal.nD Cert.PbKernelIdeal.τ).loc Cert.PbKernelIdeal.main_arg3)
      ∧ m' ((c.tc : Thread Cert.PbReferenceIdeal.nD Cert.PbReferenceIdeal.τ).loc Cert.PbReferenceIdeal.main_arg4) = m ((c.tc : Thread Cert.PbKernelIdeal.nD Cert.PbKernelIdeal.τ).loc Cert.PbKernelIdeal.main_arg4)
      ∧ m' ((c.tc : Thread Cert.PbReferenceIdeal.nD Cert.PbReferenceIdeal.τ).loc Cert.PbReferenceIdeal.main_arg5) = m ((c.tc : Thread Cert.PbKernelIdeal.nD Cert.PbKernelIdeal.τ).loc Cert.PbKernelIdeal.main_arg5)
      ∧ m' ((c.tc : Thread Cert.PbReferenceIdeal.nD Cert.PbReferenceIdeal.τ).loc Cert.PbReferenceIdeal.main_arg6) = m ((c.tc : Thread Cert.PbKernelIdeal.nD Cert.PbKernelIdeal.τ).loc Cert.PbKernelIdeal.main_arg6)
      ∧ m' ((c.tc : Thread Cert.PbReferenceIdeal.nD Cert.PbReferenceIdeal.τ).loc Cert.PbReferenceIdeal.main_arg7) = m ((c.tc : Thread Cert.PbKernelIdeal.nD Cert.PbKernelIdeal.τ).loc Cert.PbKernelIdeal.main_arg7)
      ∧ m' ((c.tc : Thread Cert.PbReferenceIdeal.nD Cert.PbReferenceIdeal.τ).loc Cert.PbReferenceIdeal.main_arg8) = m ((c.tc : Thread Cert.PbKernelIdeal.nD Cert.PbKernelIdeal.τ).loc Cert.PbKernelIdeal.main_arg8)
      ∧ m' ((c.tc : Thread Cert.PbReferenceIdeal.nD Cert.PbReferenceIdeal.τ).loc Cert.PbReferenceIdeal.main_arg9) = m ((c.tc : Thread Cert.PbKernelIdeal.nD Cert.PbKernelIdeal.τ).loc Cert.PbKernelIdeal.main_arg9)
      ∧ m' ((c.tc : Thread Cert.PbReferenceIdeal.nD Cert.PbReferenceIdeal.τ).loc Cert.PbReferenceIdeal.main_arg10) = m ((c.tc : Thread Cert.PbKernelIdeal.nD Cert.PbKernelIdeal.τ).loc Cert.PbKernelIdeal.main_arg10)
      ∧ m' ((c.tc : Thread Cert.PbReferenceIdeal.nD Cert.PbReferenceIdeal.τ).loc Cert.PbReferenceIdeal.main_arg11) = m ((c.tc : Thread Cert.PbKernelIdeal.nD Cert.PbKernelIdeal.τ).loc Cert.PbKernelIdeal.main_arg11)
      ∧ m' ((c.tc : Thread Cert.PbReferenceIdeal.nD Cert.PbReferenceIdeal.τ).loc Cert.PbReferenceIdeal.main_arg12) = m ((c.tc : Thread Cert.PbKernelIdeal.nD Cert.PbKernelIdeal.τ).loc Cert.PbKernelIdeal.main_arg12)
      ∧ m' ((c.tc : Thread Cert.PbReferenceIdeal.nD Cert.PbReferenceIdeal.τ).loc Cert.PbReferenceIdeal.main_arg13) = m ((c.tc : Thread Cert.PbKernelIdeal.nD Cert.PbKernelIdeal.τ).loc Cert.PbKernelIdeal.main_arg13)
      ∧ m' ((c.tc : Thread Cert.PbReferenceIdeal.nD Cert.PbReferenceIdeal.τ).loc Cert.PbReferenceIdeal.main_arg14) = m ((c.tc : Thread Cert.PbKernelIdeal.nD Cert.PbKernelIdeal.τ).loc Cert.PbKernelIdeal.main_arg14)
      ∧ m' ((c.tc : Thread Cert.PbReferenceIdeal.nD Cert.PbReferenceIdeal.τ).loc Cert.PbReferenceIdeal.main_arg15) = m ((c.tc : Thread Cert.PbKernelIdeal.nD Cert.PbKernelIdeal.τ).loc Cert.PbKernelIdeal.main_arg15)
      ∧ m' ((c.tc : Thread Cert.PbReferenceIdeal.nD Cert.PbReferenceIdeal.τ).loc Cert.PbReferenceIdeal.main_arg16) = m ((c.tc : Thread Cert.PbKernelIdeal.nD Cert.PbKernelIdeal.τ).loc Cert.PbKernelIdeal.main_arg16)
      ∧ m' ((c.tc : Thread Cert.PbReferenceIdeal.nD Cert.PbReferenceIdeal.τ).loc Cert.PbReferenceIdeal.main_arg17) = m ((c.tc : Thread Cert.PbKernelIdeal.nD Cert.PbKernelIdeal.τ).loc Cert.PbKernelIdeal.main_arg17)
      ∧ m' ((c.tc : Thread Cert.PbReferenceIdeal.nD Cert.PbReferenceIdeal.τ).loc Cert.PbReferenceIdeal.main_arg18) = m ((c.tc : Thread Cert.PbKernelIdeal.nD Cert.PbKernelIdeal.τ).loc Cert.PbKernelIdeal.main_arg18)
      ∧ m' ((c.tc : Thread Cert.PbReferenceIdeal.nD Cert.PbReferenceIdeal.τ).loc Cert.PbReferenceIdeal.main_arg19) = m ((c.tc : Thread Cert.PbKernelIdeal.nD Cert.PbKernelIdeal.τ).loc Cert.PbKernelIdeal.main_arg19)) →
    ∃ (v0 : (c : Dev Cert.PbKernelIdeal.nD) → Buf (Elt Ideal) ((c.tc : Thread Cert.PbKernelIdeal.nD Cert.PbKernelIdeal.τ).loc Cert.PbKernelIdeal.main_v218_4)),
      θ_run (Cert.PbKernelIdeal.defs (F := Ideal)) (onTc (τ := Cert.PbKernelIdeal.τ) (Cert.PbKernelIdeal.main (F := Ideal))) ⟨m, fun _ => 0, g⟩ (fun r => ∀ c : Dev Cert.PbKernelIdeal.nD,
          r.2.mem ((c.tc : Thread Cert.PbKernelIdeal.nD Cert.PbKernelIdeal.τ).loc Cert.PbKernelIdeal.main_v218_4) = v0 c
          ∧ r.2.mem ((c.tc : Thread Cert.PbKernelIdeal.nD Cert.PbKernelIdeal.τ).loc Cert.PbKernelIdeal.main_arg0) = m ((c.tc : Thread Cert.PbKernelIdeal.nD Cert.PbKernelIdeal.τ).loc Cert.PbKernelIdeal.main_arg0)
          ∧ r.2.mem ((c.tc : Thread Cert.PbKernelIdeal.nD Cert.PbKernelIdeal.τ).loc Cert.PbKernelIdeal.main_arg1) = m ((c.tc : Thread Cert.PbKernelIdeal.nD Cert.PbKernelIdeal.τ).loc Cert.PbKernelIdeal.main_arg1)
          ∧ r.2.mem ((c.tc : Thread Cert.PbKernelIdeal.nD Cert.PbKernelIdeal.τ).loc Cert.PbKernelIdeal.main_arg2) = m ((c.tc : Thread Cert.PbKernelIdeal.nD Cert.PbKernelIdeal.τ).loc Cert.PbKernelIdeal.main_arg2)
          ∧ r.2.mem ((c.tc : Thread Cert.PbKernelIdeal.nD Cert.PbKernelIdeal.τ).loc Cert.PbKernelIdeal.main_arg3) = m ((c.tc : Thread Cert.PbKernelIdeal.nD Cert.PbKernelIdeal.τ).loc Cert.PbKernelIdeal.main_arg3)
          ∧ r.2.mem ((c.tc : Thread Cert.PbKernelIdeal.nD Cert.PbKernelIdeal.τ).loc Cert.PbKernelIdeal.main_arg4) = m ((c.tc : Thread Cert.PbKernelIdeal.nD Cert.PbKernelIdeal.τ).loc Cert.PbKernelIdeal.main_arg4)
          ∧ r.2.mem ((c.tc : Thread Cert.PbKernelIdeal.nD Cert.PbKernelIdeal.τ).loc Cert.PbKernelIdeal.main_arg5) = m ((c.tc : Thread Cert.PbKernelIdeal.nD Cert.PbKernelIdeal.τ).loc Cert.PbKernelIdeal.main_arg5)
          ∧ r.2.mem ((c.tc : Thread Cert.PbKernelIdeal.nD Cert.PbKernelIdeal.τ).loc Cert.PbKernelIdeal.main_arg6) = m ((c.tc : Thread Cert.PbKernelIdeal.nD Cert.PbKernelIdeal.τ).loc Cert.PbKernelIdeal.main_arg6)
          ∧ r.2.mem ((c.tc : Thread Cert.PbKernelIdeal.nD Cert.PbKernelIdeal.τ).loc Cert.PbKernelIdeal.main_arg7) = m ((c.tc : Thread Cert.PbKernelIdeal.nD Cert.PbKernelIdeal.τ).loc Cert.PbKernelIdeal.main_arg7)
          ∧ r.2.mem ((c.tc : Thread Cert.PbKernelIdeal.nD Cert.PbKernelIdeal.τ).loc Cert.PbKernelIdeal.main_arg8) = m ((c.tc : Thread Cert.PbKernelIdeal.nD Cert.PbKernelIdeal.τ).loc Cert.PbKernelIdeal.main_arg8)
          ∧ r.2.mem ((c.tc : Thread Cert.PbKernelIdeal.nD Cert.PbKernelIdeal.τ).loc Cert.PbKernelIdeal.main_arg9) = m ((c.tc : Thread Cert.PbKernelIdeal.nD Cert.PbKernelIdeal.τ).loc Cert.PbKernelIdeal.main_arg9)
          ∧ r.2.mem ((c.tc : Thread Cert.PbKernelIdeal.nD Cert.PbKernelIdeal.τ).loc Cert.PbKernelIdeal.main_arg10) = m ((c.tc : Thread Cert.PbKernelIdeal.nD Cert.PbKernelIdeal.τ).loc Cert.PbKernelIdeal.main_arg10)
          ∧ r.2.mem ((c.tc : Thread Cert.PbKernelIdeal.nD Cert.PbKernelIdeal.τ).loc Cert.PbKernelIdeal.main_arg11) = m ((c.tc : Thread Cert.PbKernelIdeal.nD Cert.PbKernelIdeal.τ).loc Cert.PbKernelIdeal.main_arg11)
          ∧ r.2.mem ((c.tc : Thread Cert.PbKernelIdeal.nD Cert.PbKernelIdeal.τ).loc Cert.PbKernelIdeal.main_arg12) = m ((c.tc : Thread Cert.PbKernelIdeal.nD Cert.PbKernelIdeal.τ).loc Cert.PbKernelIdeal.main_arg12)
          ∧ r.2.mem ((c.tc : Thread Cert.PbKernelIdeal.nD Cert.PbKernelIdeal.τ).loc Cert.PbKernelIdeal.main_arg13) = m ((c.tc : Thread Cert.PbKernelIdeal.nD Cert.PbKernelIdeal.τ).loc Cert.PbKernelIdeal.main_arg13)
          ∧ r.2.mem ((c.tc : Thread Cert.PbKernelIdeal.nD Cert.PbKernelIdeal.τ).loc Cert.PbKernelIdeal.main_arg14) = m ((c.tc : Thread Cert.PbKernelIdeal.nD Cert.PbKernelIdeal.τ).loc Cert.PbKernelIdeal.main_arg14)
          ∧ r.2.mem ((c.tc : Thread Cert.PbKernelIdeal.nD Cert.PbKernelIdeal.τ).loc Cert.PbKernelIdeal.main_arg15) = m ((c.tc : Thread Cert.PbKernelIdeal.nD Cert.PbKernelIdeal.τ).loc Cert.PbKernelIdeal.main_arg15)
          ∧ r.2.mem ((c.tc : Thread Cert.PbKernelIdeal.nD Cert.PbKernelIdeal.τ).loc Cert.PbKernelIdeal.main_arg16) = m ((c.tc : Thread Cert.PbKernelIdeal.nD Cert.PbKernelIdeal.τ).loc Cert.PbKernelIdeal.main_arg16)
          ∧ r.2.mem ((c.tc : Thread Cert.PbKernelIdeal.nD Cert.PbKernelIdeal.τ).loc Cert.PbKernelIdeal.main_arg17) = m ((c.tc : Thread Cert.PbKernelIdeal.nD Cert.PbKernelIdeal.τ).loc Cert.PbKernelIdeal.main_arg17)
          ∧ r.2.mem ((c.tc : Thread Cert.PbKernelIdeal.nD Cert.PbKernelIdeal.τ).loc Cert.PbKernelIdeal.main_arg18) = m ((c.tc : Thread Cert.PbKernelIdeal.nD Cert.PbKernelIdeal.τ).loc Cert.PbKernelIdeal.main_arg18)
          ∧ r.2.mem ((c.tc : Thread Cert.PbKernelIdeal.nD Cert.PbKernelIdeal.τ).loc Cert.PbKernelIdeal.main_arg19) = m ((c.tc : Thread Cert.PbKernelIdeal.nD Cert.PbKernelIdeal.τ).loc Cert.PbKernelIdeal.main_arg19))
      ∧ θ_run (Cert.PbReferenceIdeal.defs (F := Ideal)) (onTc (τ := Cert.PbReferenceIdeal.τ) (Cert.PbReferenceIdeal.main (F := Ideal))) ⟨m', fun _ => 0, g'⟩ (fun r => ∀ c : Dev Cert.PbReferenceIdeal.nD,
          r.2.mem ((c.tc : Thread Cert.PbReferenceIdeal.nD Cert.PbReferenceIdeal.τ).loc Cert.PbReferenceIdeal.main_v48) = v0 c
          ∧ r.2.mem ((c.tc : Thread Cert.PbReferenceIdeal.nD Cert.PbReferenceIdeal.τ).loc Cert.PbReferenceIdeal.main_arg0) = m' ((c.tc : Thread Cert.PbReferenceIdeal.nD Cert.PbReferenceIdeal.τ).loc Cert.PbReferenceIdeal.main_arg0)
          ∧ r.2.mem ((c.tc : Thread Cert.PbReferenceIdeal.nD Cert.PbReferenceIdeal.τ).loc Cert.PbReferenceIdeal.main_arg1) = m' ((c.tc : Thread Cert.PbReferenceIdeal.nD Cert.PbReferenceIdeal.τ).loc Cert.PbReferenceIdeal.main_arg1)
          ∧ r.2.mem ((c.tc : Thread Cert.PbReferenceIdeal.nD Cert.PbReferenceIdeal.τ).loc Cert.PbReferenceIdeal.main_arg2) = m' ((c.tc : Thread Cert.PbReferenceIdeal.nD Cert.PbReferenceIdeal.τ).loc Cert.PbReferenceIdeal.main_arg2)
          ∧ r.2.mem ((c.tc : Thread Cert.PbReferenceIdeal.nD Cert.PbReferenceIdeal.τ).loc Cert.PbReferenceIdeal.main_arg3) = m' ((c.tc : Thread Cert.PbReferenceIdeal.nD Cert.PbReferenceIdeal.τ).loc Cert.PbReferenceIdeal.main_arg3)
          ∧ r.2.mem ((c.tc : Thread Cert.PbReferenceIdeal.nD Cert.PbReferenceIdeal.τ).loc Cert.PbReferenceIdeal.main_arg4) = m' ((c.tc : Thread Cert.PbReferenceIdeal.nD Cert.PbReferenceIdeal.τ).loc Cert.PbReferenceIdeal.main_arg4)
          ∧ r.2.mem ((c.tc : Thread Cert.PbReferenceIdeal.nD Cert.PbReferenceIdeal.τ).loc Cert.PbReferenceIdeal.main_arg5) = m' ((c.tc : Thread Cert.PbReferenceIdeal.nD Cert.PbReferenceIdeal.τ).loc Cert.PbReferenceIdeal.main_arg5)
          ∧ r.2.mem ((c.tc : Thread Cert.PbReferenceIdeal.nD Cert.PbReferenceIdeal.τ).loc Cert.PbReferenceIdeal.main_arg6) = m' ((c.tc : Thread Cert.PbReferenceIdeal.nD Cert.PbReferenceIdeal.τ).loc Cert.PbReferenceIdeal.main_arg6)
          ∧ r.2.mem ((c.tc : Thread Cert.PbReferenceIdeal.nD Cert.PbReferenceIdeal.τ).loc Cert.PbReferenceIdeal.main_arg7) = m' ((c.tc : Thread Cert.PbReferenceIdeal.nD Cert.PbReferenceIdeal.τ).loc Cert.PbReferenceIdeal.main_arg7)
          ∧ r.2.mem ((c.tc : Thread Cert.PbReferenceIdeal.nD Cert.PbReferenceIdeal.τ).loc Cert.PbReferenceIdeal.main_arg8) = m' ((c.tc : Thread Cert.PbReferenceIdeal.nD Cert.PbReferenceIdeal.τ).loc Cert.PbReferenceIdeal.main_arg8)
          ∧ r.2.mem ((c.tc : Thread Cert.PbReferenceIdeal.nD Cert.PbReferenceIdeal.τ).loc Cert.PbReferenceIdeal.main_arg9) = m' ((c.tc : Thread Cert.PbReferenceIdeal.nD Cert.PbReferenceIdeal.τ).loc Cert.PbReferenceIdeal.main_arg9)
          ∧ r.2.mem ((c.tc : Thread Cert.PbReferenceIdeal.nD Cert.PbReferenceIdeal.τ).loc Cert.PbReferenceIdeal.main_arg10) = m' ((c.tc : Thread Cert.PbReferenceIdeal.nD Cert.PbReferenceIdeal.τ).loc Cert.PbReferenceIdeal.main_arg10)
          ∧ r.2.mem ((c.tc : Thread Cert.PbReferenceIdeal.nD Cert.PbReferenceIdeal.τ).loc Cert.PbReferenceIdeal.main_arg11) = m' ((c.tc : Thread Cert.PbReferenceIdeal.nD Cert.PbReferenceIdeal.τ).loc Cert.PbReferenceIdeal.main_arg11)
          ∧ r.2.mem ((c.tc : Thread Cert.PbReferenceIdeal.nD Cert.PbReferenceIdeal.τ).loc Cert.PbReferenceIdeal.main_arg12) = m' ((c.tc : Thread Cert.PbReferenceIdeal.nD Cert.PbReferenceIdeal.τ).loc Cert.PbReferenceIdeal.main_arg12)
          ∧ r.2.mem ((c.tc : Thread Cert.PbReferenceIdeal.nD Cert.PbReferenceIdeal.τ).loc Cert.PbReferenceIdeal.main_arg13) = m' ((c.tc : Thread Cert.PbReferenceIdeal.nD Cert.PbReferenceIdeal.τ).loc Cert.PbReferenceIdeal.main_arg13)
          ∧ r.2.mem ((c.tc : Thread Cert.PbReferenceIdeal.nD Cert.PbReferenceIdeal.τ).loc Cert.PbReferenceIdeal.main_arg14) = m' ((c.tc : Thread Cert.PbReferenceIdeal.nD Cert.PbReferenceIdeal.τ).loc Cert.PbReferenceIdeal.main_arg14)
          ∧ r.2.mem ((c.tc : Thread Cert.PbReferenceIdeal.nD Cert.PbReferenceIdeal.τ).loc Cert.PbReferenceIdeal.main_arg15) = m' ((c.tc : Thread Cert.PbReferenceIdeal.nD Cert.PbReferenceIdeal.τ).loc Cert.PbReferenceIdeal.main_arg15)
          ∧ r.2.mem ((c.tc : Thread Cert.PbReferenceIdeal.nD Cert.PbReferenceIdeal.τ).loc Cert.PbReferenceIdeal.main_arg16) = m' ((c.tc : Thread Cert.PbReferenceIdeal.nD Cert.PbReferenceIdeal.τ).loc Cert.PbReferenceIdeal.main_arg16)
          ∧ r.2.mem ((c.tc : Thread Cert.PbReferenceIdeal.nD Cert.PbReferenceIdeal.τ).loc Cert.PbReferenceIdeal.main_arg17) = m' ((c.tc : Thread Cert.PbReferenceIdeal.nD Cert.PbReferenceIdeal.τ).loc Cert.PbReferenceIdeal.main_arg17)
          ∧ r.2.mem ((c.tc : Thread Cert.PbReferenceIdeal.nD Cert.PbReferenceIdeal.τ).loc Cert.PbReferenceIdeal.main_arg18) = m' ((c.tc : Thread Cert.PbReferenceIdeal.nD Cert.PbReferenceIdeal.τ).loc Cert.PbReferenceIdeal.main_arg18)
          ∧ r.2.mem ((c.tc : Thread Cert.PbReferenceIdeal.nD Cert.PbReferenceIdeal.τ).loc Cert.PbReferenceIdeal.main_arg19) = m' ((c.tc : Thread Cert.PbReferenceIdeal.nD Cert.PbReferenceIdeal.τ).loc Cert.PbReferenceIdeal.main_arg19))

def Claim : Prop :=
  ∃ (hOutKernel : Cert.OutKernel.Facts) (hOutKernelIdeal : Cert.OutKernelIdeal.Facts) (hOutReferenceIdeal : Cert.OutReferenceIdeal.Facts) (hAKernel : Cert.AKernel.Facts) (hAKernelIdeal : Cert.AKernelIdeal.Facts) (hAReferenceIdeal : Cert.AReferenceIdeal.Facts) (hBKernel : Cert.BKernel.Facts) (hBKernelIdeal : Cert.BKernelIdeal.Facts) (hBReferenceIdeal : Cert.BReferenceIdeal.Facts) (hBfKernel : Cert.BfKernel.Facts) (hBfKernelIdeal : Cert.BfKernelIdeal.Facts) (hBfReferenceIdeal : Cert.BfReferenceIdeal.Facts) (hAfKernel : Cert.AfKernel.Facts) (hAfKernelIdeal : Cert.AfKernelIdeal.Facts) (hAfReferenceIdeal : Cert.AfReferenceIdeal.Facts) (hPbKernel : Cert.PbKernel.Facts) (hPbKernelIdeal : Cert.PbKernelIdeal.Facts) (hPbReferenceIdeal : Cert.PbReferenceIdeal.Facts) (hPre_finite : Cert.Pre_finite.Facts) (hPre_finite_a : Cert.Pre_finite_a.Facts) (hPre_finite_b : Cert.Pre_finite_b.Facts) (hPre_finite_bf : Cert.Pre_finite_bf.Facts) (hPre_finite_af : Cert.Pre_finite_af.Facts),
    quiescent_OutKernel (hOutKernel := hOutKernel)
    ∧ quiescent_OutKernelIdeal (hOutKernelIdeal := hOutKernelIdeal)
    ∧ quiescent_OutKernelIdeal_pre_finite (hOutKernelIdeal := hOutKernelIdeal) (hPre_finite := hPre_finite)
    ∧ quiescent_OutReferenceIdeal (hOutReferenceIdeal := hOutReferenceIdeal)
    ∧ quiescent_OutReferenceIdeal_pre_finite (hOutReferenceIdeal := hOutReferenceIdeal) (hPre_finite := hPre_finite)
    ∧ quiescent_AKernel (hAKernel := hAKernel)
    ∧ quiescent_AKernelIdeal (hAKernelIdeal := hAKernelIdeal)
    ∧ quiescent_AKernelIdeal_pre_finite_a (hAKernelIdeal := hAKernelIdeal) (hPre_finite_a := hPre_finite_a)
    ∧ quiescent_AReferenceIdeal (hAReferenceIdeal := hAReferenceIdeal)
    ∧ quiescent_AReferenceIdeal_pre_finite_a (hAReferenceIdeal := hAReferenceIdeal) (hPre_finite_a := hPre_finite_a)
    ∧ quiescent_BKernel (hBKernel := hBKernel)
    ∧ quiescent_BKernelIdeal (hBKernelIdeal := hBKernelIdeal)
    ∧ quiescent_BKernelIdeal_pre_finite_b (hBKernelIdeal := hBKernelIdeal) (hPre_finite_b := hPre_finite_b)
    ∧ quiescent_BReferenceIdeal (hBReferenceIdeal := hBReferenceIdeal)
    ∧ quiescent_BReferenceIdeal_pre_finite_b (hBReferenceIdeal := hBReferenceIdeal) (hPre_finite_b := hPre_finite_b)
    ∧ quiescent_BfKernel (hBfKernel := hBfKernel)
    ∧ quiescent_BfKernelIdeal (hBfKernelIdeal := hBfKernelIdeal)
    ∧ quiescent_BfKernelIdeal_pre_finite_bf (hBfKernelIdeal := hBfKernelIdeal) (hPre_finite_bf := hPre_finite_bf)
    ∧ quiescent_BfReferenceIdeal (hBfReferenceIdeal := hBfReferenceIdeal)
    ∧ quiescent_BfReferenceIdeal_pre_finite_bf (hBfReferenceIdeal := hBfReferenceIdeal) (hPre_finite_bf := hPre_finite_bf)
    ∧ quiescent_AfKernel (hAfKernel := hAfKernel)
    ∧ quiescent_AfKernelIdeal (hAfKernelIdeal := hAfKernelIdeal)
    ∧ quiescent_AfKernelIdeal_pre_finite_af (hAfKernelIdeal := hAfKernelIdeal) (hPre_finite_af := hPre_finite_af)
    ∧ quiescent_AfReferenceIdeal (hAfReferenceIdeal := hAfReferenceIdeal)
    ∧ quiescent_AfReferenceIdeal_pre_finite_af (hAfReferenceIdeal := hAfReferenceIdeal) (hPre_finite_af := hPre_finite_af)
    ∧ quiescent_PbKernel (hPbKernel := hPbKernel)
    ∧ quiescent_PbKernelIdeal (hPbKernelIdeal := hPbKernelIdeal)
    ∧ quiescent_PbReferenceIdeal (hPbReferenceIdeal := hPbReferenceIdeal)
    ∧ preserves_OutKernel_OutKernelIdeal
    ∧ algebraic_OutKernelIdeal_OutReferenceIdeal_pre_finite (hOutKernelIdeal := hOutKernelIdeal) (hOutReferenceIdeal := hOutReferenceIdeal) (hPre_finite := hPre_finite)
    ∧ preserves_AKernel_AKernelIdeal
    ∧ algebraic_AKernelIdeal_AReferenceIdeal_pre_finite_a (hAKernelIdeal := hAKernelIdeal) (hAReferenceIdeal := hAReferenceIdeal) (hPre_finite_a := hPre_finite_a)
    ∧ preserves_BKernel_BKernelIdeal
    ∧ algebraic_BKernelIdeal_BReferenceIdeal_pre_finite_b (hBKernelIdeal := hBKernelIdeal) (hBReferenceIdeal := hBReferenceIdeal) (hPre_finite_b := hPre_finite_b)
    ∧ preserves_BfKernel_BfKernelIdeal
    ∧ algebraic_BfKernelIdeal_BfReferenceIdeal_pre_finite_bf (hBfKernelIdeal := hBfKernelIdeal) (hBfReferenceIdeal := hBfReferenceIdeal) (hPre_finite_bf := hPre_finite_bf)
    ∧ preserves_AfKernel_AfKernelIdeal
    ∧ algebraic_AfKernelIdeal_AfReferenceIdeal_pre_finite_af (hAfKernelIdeal := hAfKernelIdeal) (hAfReferenceIdeal := hAfReferenceIdeal) (hPre_finite_af := hPre_finite_af)
    ∧ preserves_PbKernel_PbKernelIdeal
    ∧ algebraic_PbKernelIdeal_PbReferenceIdeal (hPbKernelIdeal := hPbKernelIdeal) (hPbReferenceIdeal := hPbReferenceIdeal)
-- ==== Pre_finite.lean ====
abbrev S8192x1024 : Shape := ⟨2, ![8192, 1024]⟩
abbrev S8192x512 : Shape := ⟨2, ![8192, 512]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S8192x512 .f32) (main_arg5 : FVec F S8192x512 .f32) (main_arg6 : FVec F S1024x1024 .f32) (main_v3 : IVec S_ 1) (main_v7 : IVec S_ 1) (main_v11 : IVec S_ 1) (main_v15 : IVec S_ 1) : IVec S_ 1 :=
  let main_v16 : FVec F S8192x512 .f32 := Host.absf main_arg4
  let main_cst_6 : FVec F S_ .f32 := constant S_ .f32 0x7F800000#32
  let main_v17 : FVec F S8192x512 .f32 := broadcastInDim S8192x512 ![] bcast_S_S8192x512 main_cst_6
  let main_v18 : IVec S8192x512 1 := cmpf .olt main_v16 main_v17
  let main_c_7 : IVec S_ 1 := constantI S_ 1 1#1
  let main_v19 : IVec S_ 1 := (fun x v => Host.reduce IntOp.andi x v reducesTo_S8192x512_S_d0_1 h_S_) main_v18 main_c_7
  let main_v20 : FVec F S8192x512 .f32 := Host.absf main_arg5
  let main_cst_8 : FVec F S_ .f32 := constant S_ .f32 0x7F800000#32
  let main_v21 : FVec F S8192x512 .f32 := broadcastInDim S8192x512 ![] bcast_S_S8192x512 main_cst_8
  let main_v22 : IVec S8192x512 1 := cmpf .olt main_v20 main_v21
  let main_c_9 : IVec S_ 1 := constantI S_ 1 1#1
  let main_v23 : IVec S_ 1 := (fun x v => Host.reduce IntOp.andi x v reducesTo_S8192x512_S_d0_1 h_S_) main_v22 main_c_9
  let main_v24 : FVec F S1024x1024 .f32 := Host.absf main_arg6
  let main_cst_10 : FVec F S_ .f32 := constant S_ .f32 0x7F800000#32
  let main_v25 : FVec F S1024x1024 .f32 := broadcastInDim S1024x1024 ![] bcast_S_S1024x1024 main_cst_10
  let main_v26 : IVec S1024x1024 1 := cmpf .olt main_v24 main_v25
  let main_c_11 : IVec S_ 1 := constantI S_ 1 1#1
  let main_v27 : IVec S_ 1 := (fun x v => Host.reduce IntOp.andi x v reducesTo_S1024x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x1024 .f32) (main_arg1 : FVec F S8192x1024 .f32) (main_arg2 : FVec F S8192x512 .f32) (main_arg3 : FVec F S8192x512 .f32) (main_arg4 : FVec F S8192x512 .f32) (main_arg5 : FVec F S8192x512 .f32) (main_arg6 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S8192x512 .f32 := Host.absf main_arg2
  let main_cst_2 : FVec F S_ .f32 := constant S_ .f32 0x7F800000#32
  let main_v9 : FVec F S8192x512 .f32 := broadcastInDim S8192x512 ![] bcast_S_S8192x512 main_cst_2
  let main_v10 : IVec S8192x512 1 := cmpf .olt main_v8 main_v9
  let main_c_3 : IVec S_ 1 := constantI S_ 1 1#1
  let main_v11 : IVec S_ 1 := (fun x v => Host.reduce IntOp.andi x v reducesTo_S8192x512_S_d0_1 h_S_) main_v10 main_c_3
  let main_v12 : FVec F S8192x512 .f32 := Host.absf main_arg3
  let main_cst_4 : FVec F S_ .f32 := constant S_ .f32 0x7F800000#32
  let main_v13 : FVec F S8192x512 .f32 := broadcastInDim S8192x512 ![] bcast_S_S8192x512 main_cst_4
  let main_v14 : IVec S8192x512 1 := cmpf .olt main_v12 main_v13
  let main_c_5 : IVec S_ 1 := constantI S_ 1 1#1
  let main_v15 : IVec S_ 1 := (fun x v => Host.reduce IntOp.andi x v reducesTo_S8192x512_S_d0_1 h_S_) main_v14 main_c_5
  fn_part1 (F := F) main_arg4 main_arg5 main_arg6 main_v3 main_v7 main_v11 main_v15
-- ==== Pre_finite_a.lean ====
abbrev S8x8192x64 : Shape := ⟨3, ![8, 8192, 64]⟩
abbrev S2x8192x64 : Shape := ⟨3, ![2, 8192, 64]⟩
abbrev S8192x512 : Shape := ⟨2, ![8192, 512]⟩
abbrev S_ : Shape := ⟨0, ![]⟩

class Facts : Prop where
  bcast_S_S8x8192x64 : S_.BroadcastsInDim S8x8192x64 (![] : Fin 0 → Fin S8x8192x64.rank)
  reducesTo_S8x8192x64_S_d0_1_2 : S8x8192x64.ReducesTo [0, 1, 2] S_
  h_S_ : 0 < S_.numel
  bcast_S_S2x8192x64 : S_.BroadcastsInDim S2x8192x64 (![] : Fin 0 → Fin S2x8192x64.rank)
  reducesTo_S2x8192x64_S_d0_1_2 : S2x8192x64.ReducesTo [0, 1, 2] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8x8192x64 .f32) (main_arg1 : FVec F S2x8192x64 .f32) (main_arg2 : FVec F S2x8192x64 .f32) (main_arg3 : FVec F S8192x512 .f32) : IVec S_ 1 :=
  let main_v0 : FVec F S8x8192x64 .f32 := Host.absf main_arg0
  let main_cst : FVec F S_ .f32 := constant S_ .f32 0x7F800000#32
  let main_v1 : FVec F S8x8192x64 .f32 := broadcastInDim S8x8192x64 ![] bcast_S_S8x8192x64 main_cst
  let main_v2 : IVec S8x8192x64 1 := cmpf .olt main_v0 main_v1
  let main_c : IVec S_ 1 := constantI S_ 1 1#1
  let main_v3 : IVec S_ 1 := (fun x v => Host.reduce IntOp.andi x v reducesTo_S8x8192x64_S_d0_1_2 h_S_) main_v2 main_c
  let main_v4 : FVec F S2x8192x64 .f32 := Host.absf main_arg1
  let main_cst_0 : FVec F S_ .f32 := constant S_ .f32 0x7F800000#32
  let main_v5 : FVec F S2x8192x64 .f32 := broadcastInDim S2x8192x64 ![] bcast_S_S2x8192x64 main_cst_0
  let main_v6 : IVec S2x8192x64 1 := cmpf .olt main_v4 main_v5
  let main_c_1 : IVec S_ 1 := constantI S_ 1 1#1
  let main_v7 : IVec S_ 1 := (fun x v => Host.reduce IntOp.andi x v reducesTo_S2x8192x64_S_d0_1_2 h_S_) main_v6 main_c_1
  let main_v8 : FVec F S2x8192x64 .f32 := Host.absf main_arg2
  let main_cst_2 : FVec F S_ .f32 := constant S_ .f32 0x7F800000#32
  let main_v9 : FVec F S2x8192x64 .f32 := broadcastInDim S2x8192x64 ![] bcast_S_S2x8192x64 main_cst_2
  let main_v10 : IVec S2x8192x64 1 := cmpf .olt main_v8 main_v9
  let main_c_3 : IVec S_ 1 := constantI S_ 1 1#1
  let main_v11 : IVec S_ 1 := (fun x v => Host.reduce IntOp.andi x v reducesTo_S2x8192x64_S_d0_1_2 h_S_) main_v10 main_c_3
  let main_v12 : FVec F S8192x512 .f32 := Host.absf main_arg3
  let main_cst_4 : FVec F S_ .f32 := constant S_ .f32 0x7F800000#32
  let main_v13 : FVec F S8192x512 .f32 := broadcastInDim S8192x512 ![] bcast_S_S8192x512 main_cst_4
  let main_v14 : IVec S8192x512 1 := cmpf .olt main_v12 main_v13
  let main_c_5 : IVec S_ 1 := constantI S_ 1 1#1
  let main_v15 : IVec S_ 1 := (fun x v => Host.reduce IntOp.andi x v reducesTo_S8192x512_S_d0_1 h_S_) main_v14 main_c_5
  fn_part1 (F := F) main_v3 main_v7 main_v11 main_v15
-- ==== Pre_finite_af.lean ====
abbrev S8x8192x64 : Shape := ⟨3, ![8, 8192, 64]⟩
abbrev S2x8192x64 : Shape := ⟨3, ![2, 8192, 64]⟩
abbrev S_ : Shape := ⟨0, ![]⟩

class Facts : Prop where
  bcast_S_S8x8192x64 : S_.BroadcastsInDim S8x8192x64 (![] : Fin 0 → Fin S8x8192x64.rank)
  reducesTo_S8x8192x64_S_d0_1_2 : S8x8192x64.ReducesTo [0, 1, 2] S_
  h_S_ : 0 < S_.numel
  bcast_S_S2x8192x64 : S_.BroadcastsInDim S2x8192x64 (![] : Fin 0 → Fin S2x8192x64.rank)
  reducesTo_S2x8192x64_S_d0_1_2 : S2x8192x64.ReducesTo [0, 1, 2] S_

variable [Facts]

def fn {F : FTy → Type} [FloatOps F] (main_arg0 : FVec F S8x8192x64 .f32) (main_arg1 : FVec F S2x8192x64 .f32) (main_arg2 : FVec F S2x8192x64 .f32) : IVec S_ 1 :=
  let main_v0 : FVec F S8x8192x64 .f32 := Host.absf main_arg0
  let main_cst : FVec F S_ .f32 := constant S_ .f32 0x7F800000#32
  let main_v1 : FVec F S8x8192x64 .f32 := broadcastInDim S8x8192x64 ![] bcast_S_S8x8192x64 main_cst
  let main_v2 : IVec S8x8192x64 1 := cmpf .olt main_v0 main_v1
  let main_c : IVec S_ 1 := constantI S_ 1 1#1
  let main_v3 : IVec S_ 1 := (fun x v => Host.reduce IntOp.andi x v reducesTo_S8x8192x64_S_d0_1_2 h_S_) main_v2 main_c
  let main_v4 : FVec F S2x8192x64 .f32 := Host.absf main_arg1
  let main_cst_0 : FVec F S_ .f32 := constant S_ .f32 0x7F800000#32
  let main_v5 : FVec F S2x8192x64 .f32 := broadcastInDim S2x8192x64 ![] bcast_S_S2x8192x64 main_cst_0
  let main_v6 : IVec S2x8192x64 1 := cmpf .olt main_v4 main_v5
  let main_c_1 : IVec S_ 1 := constantI S_ 1 1#1
  let main_v7 : IVec S_ 1 := (fun x v => Host.reduce IntOp.andi x v reducesTo_S2x8192x64_S_d0_1_2 h_S_) main_v6 main_c_1
  let main_v8 : FVec F S2x8192x64 .f32 := Host.absf main_arg2
  let main_cst_2 : FVec F S_ .f32 := constant S_ .f32 0x7F800000#32
  let main_v9 : FVec F S2x8192x64 .f32 := broadcastInDim S2x8192x64 ![] bcast_S_S2x8192x64 main_cst_2
  let main_v10 : IVec S2x8192x64 1 := cmpf .olt main_v8 main_v9
  let main_c_3 : IVec S_ 1 := constantI S_ 1 1#1
  let main_v11 : IVec S_ 1 := (fun x v => Host.reduce IntOp.andi x v reducesTo_S2x8192x64_S_d0_1_2 h_S_) main_v10 main_c_3
  let main_v12 : IVec S_ 1 := andi main_v3 main_v7
  let main_v13 : IVec S_ 1 := andi main_v12 main_v11
  main_v13
-- ==== Pre_finite_b.lean ====
abbrev S4x8192x96 : Shape := ⟨3, ![4, 8192, 96]⟩
abbrev S4x8192x128 : Shape := ⟨3, ![4, 8192, 128]⟩
abbrev S8192x512 : Shape := ⟨2, ![8192, 512]⟩
abbrev S_ : Shape := ⟨0, ![]⟩

class Facts : Prop where
  bcast_S_S4x8192x96 : S_.BroadcastsInDim S4x8192x96 (![] : Fin 0 → Fin S4x8192x96.rank)
  reducesTo_S4x8192x96_S_d0_1_2 : S4x8192x96.ReducesTo [0, 1, 2] S_
  h_S_ : 0 < S_.numel
  bcast_S_S4x8192x128 : S_.BroadcastsInDim S4x8192x128 (![] : Fin 0 → Fin S4x8192x128.rank)
  reducesTo_S4x8192x128_S_d0_1_2 : S4x8192x128.ReducesTo [0, 1, 2] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4x8192x96 .f32) (main_arg1 : FVec F S4x8192x96 .f32) (main_arg2 : FVec F S4x8192x128 .f32) (main_arg3 : FVec F S8192x512 .f32) : IVec S_ 1 :=
  let main_v0 : FVec F S4x8192x96 .f32 := Host.absf main_arg0
  let main_cst : FVec F S_ .f32 := constant S_ .f32 0x7F800000#32
  let main_v1 : FVec F S4x8192x96 .f32 := broadcastInDim S4x8192x96 ![] bcast_S_S4x8192x96 main_cst
  let main_v2 : IVec S4x8192x96 1 := cmpf .olt main_v0 main_v1
  let main_c : IVec S_ 1 := constantI S_ 1 1#1
  let main_v3 : IVec S_ 1 := (fun x v => Host.reduce IntOp.andi x v reducesTo_S4x8192x96_S_d0_1_2 h_S_) main_v2 main_c
  let main_v4 : FVec F S4x8192x96 .f32 := Host.absf main_arg1
  let main_cst_0 : FVec F S_ .f32 := constant S_ .f32 0x7F800000#32
  let main_v5 : FVec F S4x8192x96 .f32 := broadcastInDim S4x8192x96 ![] bcast_S_S4x8192x96 main_cst_0
  let main_v6 : IVec S4x8192x96 1 := cmpf .olt main_v4 main_v5
  let main_c_1 : IVec S_ 1 := constantI S_ 1 1#1
  let main_v7 : IVec S_ 1 := (fun x v => Host.reduce IntOp.andi x v reducesTo_S4x8192x96_S_d0_1_2 h_S_) main_v6 main_c_1
  let main_v8 : FVec F S4x8192x128 .f32 := Host.absf main_arg2
  let main_cst_2 : FVec F S_ .f32 := constant S_ .f32 0x7F800000#32
  let main_v9 : FVec F S4x8192x128 .f32 := broadcastInDim S4x8192x128 ![] bcast_S_S4x8192x128 main_cst_2
  let main_v10 : IVec S4x8192x128 1 := cmpf .olt main_v8 main_v9
  let main_c_3 : IVec S_ 1 := constantI S_ 1 1#1
  let main_v11 : IVec S_ 1 := (fun x v => Host.reduce IntOp.andi x v reducesTo_S4x8192x128_S_d0_1_2 h_S_) main_v10 main_c_3
  let main_v12 : FVec F S8192x512 .f32 := Host.absf main_arg3
  let main_cst_4 : FVec F S_ .f32 := constant S_ .f32 0x7F800000#32
  let main_v13 : FVec F S8192x512 .f32 := broadcastInDim S8192x512 ![] bcast_S_S8192x512 main_cst_4
  let main_v14 : IVec S8192x512 1 := cmpf .olt main_v12 main_v13
  let main_c_5 : IVec S_ 1 := constantI S_ 1 1#1
  let main_v15 : IVec S_ 1 := (fun x v => Host.reduce IntOp.andi x v reducesTo_S8192x512_S_d0_1 h_S_) main_v14 main_c_5
  fn_part1 (F := F) main_v3 main_v7 main_v11 main_v15
-- ==== Pre_finite_bf.lean ====
abbrev S4x8192x96 : Shape := ⟨3, ![4, 8192, 96]⟩
abbrev S4x8192x128 : Shape := ⟨3, ![4, 8192, 128]⟩
abbrev S_ : Shape := ⟨0, ![]⟩

class Facts : Prop where
  bcast_S_S4x8192x96 : S_.BroadcastsInDim S4x8192x96 (![] : Fin 0 → Fin S4x8192x96.rank)
  reducesTo_S4x8192x96_S_d0_1_2 : S4x8192x96.ReducesTo [0, 1, 2] S_
  h_S_ : 0 < S_.numel
  bcast_S_S4x8192x128 : S_.BroadcastsInDim S4x8192x128 (![] : Fin 0 → Fin S4x8192x128.rank)
  reducesTo_S4x8192x128_S_d0_1_2 : S4x8192x128.ReducesTo [0, 1, 2] S_

variable [Facts]

def fn {F : FTy → Type} [FloatOps F] (main_arg0 : FVec F S4x8192x96 .f32) (main_arg1 : FVec F S4x8192x96 .f32) (main_arg2 : FVec F S4x8192x128 .f32) : IVec S_ 1 :=
  let main_v0 : FVec F S4x8192x96 .f32 := Host.absf main_arg0
  let main_cst : FVec F S_ .f32 := constant S_ .f32 0x7F800000#32
  let main_v1 : FVec F S4x8192x96 .f32 := broadcastInDim S4x8192x96 ![] bcast_S_S4x8192x96 main_cst
  let main_v2 : IVec S4x8192x96 1 := cmpf .olt main_v0 main_v1
  let main_c : IVec S_ 1 := constantI S_ 1 1#1
  let main_v3 : IVec S_ 1 := (fun x v => Host.reduce IntOp.andi x v reducesTo_S4x8192x96_S_d0_1_2 h_S_) main_v2 main_c
  let main_v4 : FVec F S4x8192x96 .f32 := Host.absf main_arg1
  let main_cst_0 : FVec F S_ .f32 := constant S_ .f32 0x7F800000#32
  let main_v5 : FVec F S4x8192x96 .f32 := broadcastInDim S4x8192x96 ![] bcast_S_S4x8192x96 main_cst_0
  let main_v6 : IVec S4x8192x96 1 := cmpf .olt main_v4 main_v5
  let main_c_1 : IVec S_ 1 := constantI S_ 1 1#1
  let main_v7 : IVec S_ 1 := (fun x v => Host.reduce IntOp.andi x v reducesTo_S4x8192x96_S_d0_1_2 h_S_) main_v6 main_c_1
  let main_v8 : FVec F S4x8192x128 .f32 := Host.absf main_arg2
  let main_cst_2 : FVec F S_ .f32 := constant S_ .f32 0x7F800000#32
  let main_v9 : FVec F S4x8192x128 .f32 := broadcastInDim S4x8192x128 ![] bcast_S_S4x8192x128 main_cst_2
  let main_v10 : IVec S4x8192x128 1 := cmpf .olt main_v8 main_v9
  let main_c_3 : IVec S_ 1 := constantI S_ 1 1#1
  let main_v11 : IVec S_ 1 := (fun x v => Host.reduce IntOp.andi x v reducesTo_S4x8192x128_S_d0_1_2 h_S_) main_v10 main_c_3
  let main_v12 : IVec S_ 1 := andi main_v3 main_v7
  let main_v13 : IVec S_ 1 := andi main_v12 main_v11
  main_v13
-- ==== OutKernel.lean ====
abbrev S8192x1024 : Shape := ⟨2, ![8192, 1024]⟩
abbrev S8192x512 : Shape := ⟨2, ![8192, 512]⟩
abbrev S1024x1024 : Shape := ⟨2, ![1024, 1024]⟩
abbrev S1x128 : Shape := ⟨2, ![1, 128]⟩
abbrev S512x1024 : Shape := ⟨2, ![512, 1024]⟩
abbrev S512x512 : Shape := ⟨2, ![512, 512]⟩
abbrev S1024 : Shape := ⟨1, ![1024]⟩
abbrev S1x1024 : Shape := ⟨2, ![1, 1024]⟩
abbrev S_ : Shape := ⟨0, ![]⟩

abbrev nBuf : Space → Nat
  | .hbm => 19
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S1024x1024, .f32⟩
  | .hbm, ⟨7, _⟩ => ⟨S1024x1024, .bf16⟩
  | .hbm, ⟨8, _⟩ => ⟨S8192x1024, .f32⟩
  | .hbm, ⟨9, _⟩ => ⟨S8192x512, .bf16⟩
  | .hbm, ⟨10, _⟩ => ⟨S8192x512, .bf16⟩
  | .hbm, ⟨11, _⟩ => ⟨S8192x512, .f32⟩
  | .hbm, ⟨12, _⟩ => ⟨S8192x512, .f32⟩
  | .hbm, ⟨13, _⟩ => ⟨S1024x1024, .bf16⟩
  | .hbm, ⟨14, _⟩ => ⟨S1x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S1024x1024, .bf16⟩
  | .local _ .vmem, ⟨24, _⟩ => ⟨S1x128, .f32⟩
  | .local _ .vmem, ⟨25, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_cst : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v106 : BitVec 1 := Scalar.cmpi .eq arg0 c15_i32
  let v107 : BitVec 32 := Scalar.extui v106
  let c0_i32_58 : BitVec 32 := 0#32
  let v108 : BitVec 1 := Scalar.cmpi .ne v107 c0_i32_58
  v108

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== OutReferenceIdeal.lean ====
abbrev S8192x1024 : Shape := ⟨2, ![8192, 1024]⟩
abbrev S8192x512 : Shape := ⟨2, ![8192, 512]⟩
abbrev S1024x1024 : Shape := ⟨2, ![1024, 1024]⟩
abbrev S_ : Shape := ⟨0, ![]⟩
abbrev S8192 : Shape := ⟨1, ![8192]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S1024x1024, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S1024x1024, .f32⟩
  | .hbm, ⟨62, _⟩ => ⟨S1024x1024, .f32⟩
  | .hbm, ⟨63, _⟩ => ⟨S8192x1024, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .bf16⟩
  | .hbm, ⟨79, _⟩ => ⟨S8192x512, .bf16⟩
  | .hbm, ⟨80, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v0_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v0_1 : Ref sig .tc := ⟨.hbm, 18, rfl⟩
abbrev main_v0_0 : Ref sig .tc := ⟨.hbm, 19, rfl⟩
abbrev main_v1 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_v2_2 : Ref sig .tc := ⟨.hbm, 28, rfl⟩
abbrev main_call1_cst_1 : Ref sig .tc := ⟨.hbm, 29, rfl⟩
abbrev main_call1_v6 : Ref sig .tc := ⟨.hbm, 30, rfl⟩
abbrev main_call1_v7 : Ref sig .tc := ⟨.hbm, 31, rfl⟩
abbrev main_v2_1 : Ref sig .tc := ⟨.hbm, 32, rfl⟩
abbrev main_v2_0 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst : Ref sig .tc := ⟨.hbm, 40, rfl⟩
abbrev main_v9 : Ref sig .tc := ⟨.hbm, 41, rfl⟩
abbrev main_v10 : Ref sig .tc := ⟨.hbm, 42, rfl⟩
abbrev main_cst_0 : Ref sig .tc := ⟨.hbm, 43, rfl⟩
abbrev main_v11 : Ref sig .tc := ⟨.hbm, 44, rfl⟩
abbrev main_cst_1 : Ref sig .tc := ⟨.hbm, 45, rfl⟩
abbrev main_v12 : Ref sig .tc := ⟨.hbm, 46, rfl⟩
abbrev main_v13 : Ref sig .tc := ⟨.hbm, 47, rfl⟩
abbrev main_cst_2 : Ref sig .tc := ⟨.hbm, 48, rfl⟩
abbrev main_v14 : Ref sig .tc := ⟨.hbm, 49, rfl⟩
abbrev main_cst_3 : Ref sig .tc := ⟨.hbm, 50, rfl⟩
abbrev main_v15 : Ref sig .tc := ⟨.hbm, 51, rfl⟩
abbrev main_cst_4 : Ref sig .tc := ⟨.hbm, 52, rfl⟩
abbrev main_cst_5 : Ref sig .tc := ⟨.hbm, 53, rfl⟩
abbrev main_v16 : Ref sig .tc := ⟨.hbm, 54, rfl⟩
abbrev main_v17 : Ref sig .tc := ⟨.hbm, 55, rfl⟩
abbrev main_cst_6 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩

abbrev nD : Nat := 1
abbrev τ : Topo := Topo.v7x

variable {F : FTy → Type} [FloatOps F]
-- ==== AKernel.lean ====
abbrev S8x8192x64 : Shape := ⟨3, ![8, 8192, 64]⟩
abbrev S2x8192x64 : Shape := ⟨3, ![2, 8192, 64]⟩
abbrev S8192x512 : Shape := ⟨2, ![8192, 512]⟩
abbrev S2x4x8192x64 : Shape := ⟨4, ![2, 4, 8192, 64]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S8192x2x4x64 : Shape := ⟨4, ![8192, 2, 4, 64]⟩
abbrev S8192x8x64 : Shape := ⟨3, ![8192, 8, 64]⟩
abbrev S1x8192x64 : Shape := ⟨3, ![1, 8192, 64]⟩
abbrev S8192x64 : Shape := ⟨2, ![8192, 64]⟩
abbrev S8192x256 : Shape := ⟨2, ![8192, 256]⟩
abbrev S8x1x8192 : Shape := ⟨3, ![8, 1, 8192]⟩
abbrev S256x8192 : Shape := ⟨2, ![256, 8192]⟩
abbrev S512x256 : Shape := ⟨2, ![512, 256]⟩
abbrev S4096x128 : Shape := ⟨2, ![4096, 128]⟩
abbrev S4x1x512 : Shape := ⟨3, ![4, 1, 512]⟩
abbrev S128x4096 : Shape := ⟨2, ![128, 4096]⟩
abbrev S512x128 : Shape := ⟨2, ![512, 128]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩
abbrev S128x512 : Shape := ⟨2, ![128, 512]⟩
abbrev S512x512 : Shape := ⟨2, ![512, 512]⟩
abbrev S2x2x64x8192 : Shape := ⟨4, ![2, 2, 64, 8192]⟩
abbrev S2x1x64x8192 : Shape := ⟨4, ![2, 1, 64, 8192]⟩
abbrev S2x64x8192 : Shape := ⟨3, ![2, 64, 8192]⟩

abbrev nBuf : Space → Nat
  | .hbm => 76
  | .vmem => 18
  | .smem => 0
  | _ => 0

abbrev bufTy : (tb : Table) → Fin (tcTables nBuf tb) → BufTy
  | .hbm, ⟨0, _⟩ => ⟨S8x8192x64, .f32⟩
  | .hbm, ⟨1, _⟩ => ⟨S2x8192x64, .f32⟩
  | .hbm, ⟨2, _⟩ => ⟨S2x8192x64, .f32⟩
  | .hbm, ⟨3, _⟩ => ⟨S8192x512, .f32⟩
  | .hbm, ⟨4, _⟩ => ⟨S2x4x8192x64, .f32⟩
  | .hbm, ⟨5, _⟩ => ⟨S2x4x8192x8192, .f32⟩
  | .hbm, ⟨6, _⟩ => ⟨S_, .f32⟩
  | .hbm, ⟨7, _⟩ => ⟨S2x4x8192x8192, .f32⟩
  | .hbm, ⟨8, _⟩ => ⟨S2x4x8192x8192, .f32⟩
  | .hbm, ⟨9, _⟩ => ⟨S_, .f32⟩
  | .hbm, ⟨10, _⟩ => ⟨S2x4x8192, .f32⟩
  | .hbm, ⟨11, _⟩ => ⟨S2x4x8192x1, .f32⟩
  | .hbm, ⟨12, _⟩ => ⟨S2x4x8192x8192, .f32⟩
  | .hbm, ⟨13, _⟩ => ⟨S2x4x8192x8192, .f32⟩
  | .hbm, ⟨14, _⟩ => ⟨S2x4x8192x8192, .f32⟩
  | .hbm, ⟨15, _⟩ => ⟨S_, .f32⟩
  | .hbm, ⟨16, _⟩ => ⟨S2x4x8192, .f32⟩
  | .hbm, ⟨17, _⟩ => ⟨S2x4x8192x1, .f32⟩
  | .hbm, ⟨18, _⟩ => ⟨S2x4x8192x64, .f32⟩
  | .hbm, ⟨19, _⟩ => ⟨S2x4x8192x64, .f32⟩
  | .hbm, ⟨20, _⟩ => ⟨S2x4x8192x64, .f32⟩
  | .hbm, ⟨21, _⟩ => ⟨S2x4x8192x1, .f32⟩
  | .hbm, ⟨22, _⟩ => ⟨S2x4x8192x1, .f32⟩
  | .hbm, ⟨23, _⟩ => ⟨S2x4x8192, .f32⟩
  | .hbm, ⟨24, _⟩ => ⟨S8192x2x4x64, .f32⟩
  | .hbm, ⟨25, _⟩ => ⟨S8192x512, .f32⟩
  | .hbm, ⟨26, _⟩ => ⟨S_, .f32⟩
  | .hbm, ⟨27, _⟩ => ⟨S8x8192x64, .f32⟩
  | .hbm, ⟨28, _⟩ => ⟨S8x8192x64, .f32⟩
  | .hbm, ⟨29, _⟩ => ⟨S8192x8x64, .f32⟩
  | .hbm, ⟨30, _⟩ => ⟨S8192x512, .f32⟩
  | .hbm, ⟨31, _⟩ => ⟨S8192x512, .bf16⟩
  | .hbm, ⟨32, _⟩ => ⟨S1x8192x64, .f32⟩
  | .hbm, ⟨33, _⟩ => ⟨S8192x64, .f32⟩
  | .hbm, ⟨34, _⟩ => ⟨S1x8192x64, .f32⟩
  | .hbm, ⟨35, _⟩ => ⟨S8192x64, .f32⟩
  | .hbm, ⟨36, _⟩ => ⟨S1x8192x64, .f32⟩
  | .hbm, ⟨37, _⟩ => ⟨S8192x64, .f32⟩
  | .hbm, ⟨38, _⟩ => ⟨S1x8192x64, .f32⟩
  | .hbm, ⟨39, _⟩ => ⟨S8192x64, .f32⟩
  | .hbm, ⟨40, _⟩ => ⟨S8192x256, .f32⟩
  | .hbm, ⟨41, _⟩ => ⟨S8192x256, .bf16⟩
  | .hbm, ⟨42, _⟩ => ⟨S1x8192x64, .f32⟩
  | .hbm, ⟨43, _⟩ => ⟨S8192x64, .f32⟩
  | .hbm, ⟨44, _⟩ => ⟨S1x8192x64, .f32⟩
  | .hbm, ⟨45, _⟩ => ⟨S8192x64, .f32⟩
  | .hbm, ⟨46, _⟩ => ⟨S1x8192x64, .f32⟩
  | .hbm, ⟨47, _⟩ => ⟨S8192x64, .f32⟩
  | .hbm, ⟨48, _⟩ => ⟨S1x8192x64, .f32⟩
  | .hbm, ⟨49, _⟩ => ⟨S8192x64, .f32⟩
  | .hbm, ⟨50, _⟩ => ⟨S8192x256, .f32⟩
  | .hbm, ⟨51, _⟩ => ⟨S8192x256, .bf16⟩
  | .hbm, ⟨52, _⟩ => ⟨S8192x512, .bf16⟩
  | .hbm, ⟨53, _⟩ => ⟨S8x1x8192, .f32⟩
  | .hbm, ⟨54, _⟩ => ⟨S8192x512, .f32⟩
  | .hbm, ⟨55, _⟩ => ⟨S256x8192, .f32⟩
  | .hbm, ⟨56, _⟩ => ⟨S256x8192, .f32⟩
  | .hbm, ⟨57, _⟩ => ⟨S_, .f32⟩
  | .hbm, ⟨58, _⟩ => ⟨S8192x512, .f32⟩
  | .hbm, ⟨59, _⟩ => ⟨S8192x512, .f32⟩
  | .hbm, ⟨60, _⟩ => ⟨S8192x8x64, .f32⟩
  | .hbm, ⟨61, _⟩ => ⟨S8x8192x64, .f32⟩
  | .hbm, ⟨62, _⟩ => ⟨S2x2x64x8192, .f32⟩
  | .hbm, ⟨63, _⟩ => ⟨S2x2x64x8192, .f32⟩
  | .hbm, ⟨64, _⟩ => ⟨S2x1x64x8192, .f32⟩
  | .hbm, ⟨65, _⟩ => ⟨S2x64x8192, .f32⟩
  | .hbm, ⟨66, _⟩ => ⟨S2x1x64x8192, .f32⟩
  | .hbm, ⟨67, _⟩ => ⟨S2x64x8192, .f32⟩
  | .hbm, ⟨68, _⟩ => ⟨S2x64x8192, .f32⟩
  | .hbm, ⟨69, _⟩ => ⟨S2x8192x64, .f32⟩
  | .hbm, ⟨70, _⟩ => ⟨S2x1x64x8192, .f32⟩
  | .hbm, ⟨71, _⟩ => ⟨S2x64x8192, .f32⟩
  | .hbm, ⟨72, _⟩ => ⟨S2x1x64x8192, .f32⟩
  | .hbm, ⟨73, _⟩ => ⟨S2x64x8192, .f32⟩
  | .hbm, ⟨74, _⟩ => ⟨S2x64x8192, .f32⟩
  | .hbm, ⟨75, _⟩ => ⟨S2x8192x64, .f32⟩
  | .local _ .vmem, ⟨0, _⟩ => ⟨S512x256, .bf16⟩
  | .local _ .vmem, ⟨1, _⟩ => ⟨S512x256, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x256, .bf16⟩
  | .local _ .vmem, ⟨7, _⟩ => ⟨S512x256, .bf16⟩
  | .local _ .vmem, ⟨8, _⟩ => ⟨S512x256, .f32⟩
  | .local _ .vmem, ⟨9, _⟩ => ⟨S512x256, .f32⟩
  | .local _ .vmem, ⟨10, _⟩ => ⟨S4x1x512, .f32⟩
  | .local _ .vmem, ⟨11, _⟩ => ⟨S4x1x512, .f32⟩
  | .local _ .vmem, ⟨12, _⟩ => ⟨S8192x256, .f32⟩
  | .local _ .vmem, ⟨13, _⟩ => ⟨S8192x256, .f32⟩
  | .local _ .vmem, ⟨14, _⟩ => ⟨S128x4096, .f32⟩
  | .local _ .vmem, ⟨15, _⟩ => ⟨S128x4096, .f32⟩
  | .local _ .vmem, ⟨16, _⟩ => ⟨S128x4096, .f32⟩
  | .local _ .vmem, ⟨17, _⟩ => ⟨S128x4096, .f32⟩
  | _, _ => ⟨S8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46_0 : Ref sig .tc := ⟨.hbm, 54, rfl⟩
abbrev main_v46_1 : Ref sig .tc := ⟨.hbm, 55, rfl⟩
abbrev main_v46_2 : Ref sig .tc := ⟨.hbm, 56, rfl⟩
abbrev main_cst_3 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 16], ![false, false, false]⟩

def k0_mult1 (i : grid0.Coords) : BitVec 32 :=
  let arg2 : BitVec 32 := BitVec.ofNat 32 (i 2).val
  let c512_i32 : BitVec 32 := 512#32
  let v1001 : BitVec 32 := Scalar.muli arg2 c512_i32
  v1001
def k0_off1 (i : grid0.Coords) : Fin 2 → Nat :=
  let arg2 : BitVec 32 := BitVec.ofNat 32 (i 2).val
  let c512_i32 : BitVec 32 := 512#32
  let v1001 : BitVec 32 := Scalar.muli arg2 c512_i32
  let v1002 : BitVec 32 := v1001
  let v1003 : Index := Scalar.indexCast v1002
  let c0_652 : Index := 0#32
  ![v1003.toNat, 0]
def k0_off2 (i : grid0.Coords) : Fin 2 → Nat :=
  let arg2 : BitVec 32 := BitVec.ofNat 32 (i 2).val
  let c512_i32 : BitVec 32 := 512#32
  let v1001 : BitVec 32 := Scalar.muli arg2 c512_i32
  let v1002 : BitVec 32 := v1001
  let v1010 : Index := Scalar.indexCast v1002
  let c128_654 : Index := 128#32
  ![v1010.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S4x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== AReferenceIdeal.lean ====
abbrev S8x8192x64 : Shape := ⟨3, ![8, 8192, 64]⟩
abbrev S2x8192x64 : Shape := ⟨3, ![2, 8192, 64]⟩
abbrev S8192x512 : Shape := ⟨2, ![8192, 512]⟩
abbrev S2x4x8192x64 : Shape := ⟨4, ![2, 4, 8192, 64]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S8192x2x4x64 : Shape := ⟨4, ![8192, 2, 4, 64]⟩
abbrev S2x64x8192 : Shape := ⟨3, ![2, 64, 8192]⟩

abbrev nBuf : Space → Nat
  | .hbm => 75
  | .vmem => 0
  | .smem => 0
  | _ => 0

abbrev bufTy : (tb : Table) → Fin (tcTables nBuf tb) → BufTy
  | .hbm, ⟨0, _⟩ => ⟨S8x8192x64, .f32⟩
  | .hbm, ⟨1, _⟩ => ⟨S2x8192x64, .f32⟩
  | .hbm, ⟨2, _⟩ => ⟨S2x8192x64, .f32⟩
  | .hbm, ⟨3, _⟩ => ⟨S8192x512, .f32⟩
  | .hbm, ⟨4, _⟩ => ⟨S2x4x8192x64, .f32⟩
  | .hbm, ⟨5, _⟩ => ⟨S2x4x8192x8192, .f32⟩
  | .hbm, ⟨6, _⟩ => ⟨S_, .f32⟩
  | .hbm, ⟨7, _⟩ => ⟨S2x4x8192x8192, .f32⟩
  | .hbm, ⟨8, _⟩ => ⟨S2x4x8192x8192, .f32⟩
  | .hbm, ⟨9, _⟩ => ⟨S_, .f32⟩
  | .hbm, ⟨10, _⟩ => ⟨S2x4x8192, .f32⟩
  | .hbm, ⟨11, _⟩ => ⟨S2x4x8192x1, .f32⟩
  | .hbm, ⟨12, _⟩ => ⟨S2x4x8192x8192, .f32⟩
  | .hbm, ⟨13, _⟩ => ⟨S2x4x8192x8192, .i1⟩
  | .hbm, ⟨14, _⟩ => ⟨S2x4x8192x8192, .f32⟩
  | .hbm, ⟨15, _⟩ => ⟨S_, .f32⟩
  | .hbm, ⟨16, _⟩ => ⟨S2x4x8192, .f32⟩
  | .hbm, ⟨17, _⟩ => ⟨S_, .f32⟩
  | .hbm, ⟨18, _⟩ => ⟨S2x4x8192, .f32⟩
  | .hbm, ⟨19, _⟩ => ⟨S2x4x8192, .f32⟩
  | .hbm, ⟨20, _⟩ => ⟨S_, .f32⟩
  | .hbm, ⟨21, _⟩ => ⟨S2x4x8192, .f32⟩
  | .hbm, ⟨22, _⟩ => ⟨S2x4x8192, .i1⟩
  | .hbm, ⟨23, _⟩ => ⟨S_, .f32⟩
  | .hbm, ⟨24, _⟩ => ⟨S2x4x8192, .f32⟩
  | .hbm, ⟨25, _⟩ => ⟨S2x4x8192, .i1⟩
  | .hbm, ⟨26, _⟩ => ⟨S_, .f32⟩
  | .hbm, ⟨27, _⟩ => ⟨S2x4x8192, .f32⟩
  | .hbm, ⟨28, _⟩ => ⟨S_, .f32⟩
  | .hbm, ⟨29, _⟩ => ⟨S2x4x8192, .f32⟩
  | .hbm, ⟨30, _⟩ => ⟨S_, .f32⟩
  | .hbm, ⟨31, _⟩ => ⟨S2x4x8192, .f32⟩
  | .hbm, ⟨32, _⟩ => ⟨S2x4x8192, .f32⟩
  | .hbm, ⟨33, _⟩ => ⟨S2x4x8192, .f32⟩
  | .hbm, ⟨34, _⟩ => ⟨S2x4x8192x1, .f32⟩
  | .hbm, ⟨35, _⟩ => ⟨S2x4x8192x8192, .f32⟩
  | .hbm, ⟨36, _⟩ => ⟨S2x4x8192x8192, .f32⟩
  | .hbm, ⟨37, _⟩ => ⟨S2x4x8192x8192, .f32⟩
  | .hbm, ⟨38, _⟩ => ⟨S_, .f32⟩
  | .hbm, ⟨39, _⟩ => ⟨S2x4x8192, .f32⟩
  | .hbm, ⟨40, _⟩ => ⟨S2x4x8192x1, .f32⟩
  | .hbm, ⟨41, _⟩ => ⟨S2x4x8192x8192, .f32⟩
  | .hbm, ⟨42, _⟩ => ⟨S2x4x8192x8192, .f32⟩
  | .hbm, ⟨43, _⟩ => ⟨S2x4x8192x1, .f32⟩
  | .hbm, ⟨44, _⟩ => ⟨S_, .f32⟩
  | .hbm, ⟨45, _⟩ => ⟨S2x4x8192x1, .f32⟩
  | .hbm, ⟨46, _⟩ => ⟨S2x4x8192x1, .f32⟩
  | .hbm, ⟨47, _⟩ => ⟨S2x4x8192x64, .f32⟩
  | .hbm, ⟨48, _⟩ => ⟨S8192x2x4x64, .f32⟩
  | .hbm, ⟨49, _⟩ => ⟨S8192x512, .f32⟩
  | .hbm, ⟨50, _⟩ => ⟨S8192x2x4x64, .f32⟩
  | .hbm, ⟨51, _⟩ => ⟨S2x4x8192x64, .f32⟩
  | .hbm, ⟨52, _⟩ => ⟨S2x64x8192, .f32⟩
  | .hbm, ⟨53, _⟩ => ⟨S2x8192x64, .f32⟩
  | .hbm, ⟨54, _⟩ => ⟨S2x4x8192x8192, .f32⟩
  | .hbm, ⟨55, _⟩ => ⟨S2x4x8192x8192, .f32⟩
  | .hbm, ⟨56, _⟩ => ⟨S2x4x8192x8192, .f32⟩
  | .hbm, ⟨57, _⟩ => ⟨S2x4x8192x8192, .f32⟩
  | .hbm, ⟨58, _⟩ => ⟨S_, .f32⟩
  | .hbm, ⟨59, _⟩ => ⟨S2x4x8192, .f32⟩
  | .hbm, ⟨60, _⟩ => ⟨S2x4x8192x1, .f32⟩
  | .hbm, ⟨61, _⟩ => ⟨S2x4x8192x1, .f32⟩
  | .hbm, ⟨62, _⟩ => ⟨S2x4x8192x8192, .f32⟩
  | .hbm, ⟨63, _⟩ => ⟨S2x4x8192x8192, .f32⟩
  | .hbm, ⟨64, _⟩ => ⟨S_, .f32⟩
  | .hbm, ⟨65, _⟩ => ⟨S2x4x8192, .f32⟩
  | .hbm, ⟨66, _⟩ => ⟨S2x4x8192x8192, .f32⟩
  | .hbm, ⟨67, _⟩ => ⟨S2x4x8192x8192, .f32⟩
  | .hbm, ⟨68, _⟩ => ⟨S2x4x8192x8192, .f32⟩
  | .hbm, ⟨69, _⟩ => ⟨S_, .f32⟩
  | .hbm, ⟨70, _⟩ => ⟨S2x4x8192x8192, .f32⟩
  | .hbm, ⟨71, _⟩ => ⟨S2x4x8192x8192, .f32⟩
  | .hbm, ⟨72, _⟩ => ⟨S2x8192x64, .f32⟩
  | .hbm, ⟨73, _⟩ => ⟨S2x4x8192x64, .f32⟩
  | .hbm, ⟨74, _⟩ => ⟨S8x8192x64, .f32⟩
  | _, _ => ⟨S8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== BKernel.lean ====
abbrev S4x8192x96 : Shape := ⟨3, ![4, 8192, 96]⟩
abbrev S4x8192x128 : Shape := ⟨3, ![4, 8192, 128]⟩
abbrev S8192x512 : Shape := ⟨2, ![8192, 512]⟩
abbrev S4x1x8192x96 : Shape := ⟨4, ![4, 1, 8192, 96]⟩
abbrev S4x1x8192x8192 : Shape := ⟨4, ![4, 1, 8192, 8192]⟩
abbrev S_ : Shape := ⟨0, ![]⟩
abbrev S4x1x8192 : Shape := ⟨3, ![4, 1, 8192]⟩
abbrev S4x1x8192x1 : Shape := ⟨4, ![4, 1, 8192, 1]⟩
abbrev S4x1x8192x128 : Shape := ⟨4, ![4, 1, 8192, 128]⟩
abbrev S8192x4x128 : Shape := ⟨3, ![8192, 4, 128]⟩
abbrev S512x8192 : Shape := ⟨2, ![512, 8192]⟩
abbrev S512x256 : Shape := ⟨2, ![512, 256]⟩
abbrev S4096x256 : Shape := ⟨2, ![4096, 256]⟩
abbrev S2x1x512 : Shape := ⟨3, ![2, 1, 512]⟩
abbrev S8192x256 : Shape := ⟨2, ![8192, 256]⟩
abbrev S256x4096 : Shape := ⟨2, ![256, 4096]⟩
abbrev S512x128 : Shape := ⟨2, ![512, 128]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩
abbrev S128x512 : Shape := ⟨2, ![128, 512]⟩
abbrev S256x128 : Shape := ⟨2, ![256, 128]⟩
abbrev S128x256 : Shape := ⟨2, ![128, 256]⟩
abbrev S8192x4x96 : Shape := ⟨3, ![8192, 4, 96]⟩
abbrev S4x128x8192 : Shape := ⟨3, ![4, 128, 8192]⟩
abbrev S4x96x8192 : Shape := ⟨3, ![4, 96, 8192]⟩

abbrev nBuf : Space → Nat
  | .hbm => 60
  | .vmem => 18
  | .smem => 0
  | _ => 0

abbrev bufTy : (tb : Table) → Fin (tcTables nBuf tb) → BufTy
  | .hbm, ⟨0, _⟩ => ⟨S4x8192x96, .f32⟩
  | .hbm, ⟨1, _⟩ => ⟨S4x8192x96, .f32⟩
  | .hbm, ⟨2, _⟩ => ⟨S4x8192x128, .f32⟩
  | .hbm, ⟨3, _⟩ => ⟨S8192x512, .f32⟩
  | .hbm, ⟨4, _⟩ => ⟨S4x1x8192x96, .f32⟩
  | .hbm, ⟨5, _⟩ => ⟨S4x1x8192x8192, .f32⟩
  | .hbm, ⟨6, _⟩ => ⟨S_, .f32⟩
  | .hbm, ⟨7, _⟩ => ⟨S4x1x8192x8192, .f32⟩
  | .hbm, ⟨8, _⟩ => ⟨S4x1x8192x8192, .f32⟩
  | .hbm, ⟨9, _⟩ => ⟨S_, .f32⟩
  | .hbm, ⟨10, _⟩ => ⟨S4x1x8192, .f32⟩
  | .hbm, ⟨11, _⟩ => ⟨S4x1x8192x1, .f32⟩
  | .hbm, ⟨12, _⟩ => ⟨S4x1x8192x8192, .f32⟩
  | .hbm, ⟨13, _⟩ => ⟨S4x1x8192x8192, .f32⟩
  | .hbm, ⟨14, _⟩ => ⟨S4x1x8192x8192, .f32⟩
  | .hbm, ⟨15, _⟩ => ⟨S_, .f32⟩
  | .hbm, ⟨16, _⟩ => ⟨S4x1x8192, .f32⟩
  | .hbm, ⟨17, _⟩ => ⟨S4x1x8192x1, .f32⟩
  | .hbm, ⟨18, _⟩ => ⟨S4x1x8192x128, .f32⟩
  | .hbm, ⟨19, _⟩ => ⟨S4x1x8192x128, .f32⟩
  | .hbm, ⟨20, _⟩ => ⟨S4x1x8192x128, .f32⟩
  | .hbm, ⟨21, _⟩ => ⟨S4x1x8192x1, .f32⟩
  | .hbm, ⟨22, _⟩ => ⟨S4x1x8192x1, .f32⟩
  | .hbm, ⟨23, _⟩ => ⟨S4x1x8192, .f32⟩
  | .hbm, ⟨24, _⟩ => ⟨S4x8192x128, .f32⟩
  | .hbm, ⟨25, _⟩ => ⟨S8192x4x128, .f32⟩
  | .hbm, ⟨26, _⟩ => ⟨S8192x512, .f32⟩
  | .hbm, ⟨27, _⟩ => ⟨S8192x4x128, .f32⟩
  | .hbm, ⟨28, _⟩ => ⟨S8192x512, .f32⟩
  | .hbm, ⟨29, _⟩ => ⟨S8192x512, .bf16⟩
  | .hbm, ⟨30, _⟩ => ⟨S_, .f32⟩
  | .hbm, ⟨31, _⟩ => ⟨S4x8192x96, .f32⟩
  | .hbm, ⟨32, _⟩ => ⟨S4x8192x96, .f32⟩
  | .hbm, ⟨33, _⟩ => ⟨S_, .i32⟩
  | .hbm, ⟨34, _⟩ => ⟨S_, .f32⟩
  | .hbm, ⟨35, _⟩ => ⟨S4x8192x128, .f32⟩
  | .hbm, ⟨36, _⟩ => ⟨S8192x4x128, .f32⟩
  | .hbm, ⟨37, _⟩ => ⟨S8192x512, .f32⟩
  | .hbm, ⟨38, _⟩ => ⟨S8192x512, .bf16⟩
  | .hbm, ⟨39, _⟩ => ⟨S_, .i32⟩
  | .hbm, ⟨40, _⟩ => ⟨S_, .f32⟩
  | .hbm, ⟨41, _⟩ => ⟨S4x8192x128, .f32⟩
  | .hbm, ⟨42, _⟩ => ⟨S8192x4x128, .f32⟩
  | .hbm, ⟨43, _⟩ => ⟨S8192x512, .f32⟩
  | .hbm, ⟨44, _⟩ => ⟨S8192x512, .bf16⟩
  | .hbm, ⟨45, _⟩ => ⟨S8192x512, .bf16⟩
  | .hbm, ⟨46, _⟩ => ⟨S8192x512, .f32⟩
  | .hbm, ⟨47, _⟩ => ⟨S512x8192, .f32⟩
  | .hbm, ⟨48, _⟩ => ⟨S512x8192, .f32⟩
  | .hbm, ⟨49, _⟩ => ⟨S_, .f32⟩
  | .hbm, ⟨50, _⟩ => ⟨S8192x512, .f32⟩
  | .hbm, ⟨51, _⟩ => ⟨S8192x512, .f32⟩
  | .hbm, ⟨52, _⟩ => ⟨S8192x4x128, .f32⟩
  | .hbm, ⟨53, _⟩ => ⟨S8192x4x96, .f32⟩
  | .hbm, ⟨54, _⟩ => ⟨S4x8192x96, .f32⟩
  | .hbm, ⟨55, _⟩ => ⟨S4x128x8192, .f32⟩
  | .hbm, ⟨56, _⟩ => ⟨S4x96x8192, .f32⟩
  | .hbm, ⟨57, _⟩ => ⟨S4x8192x96, .f32⟩
  | .hbm, ⟨58, _⟩ => ⟨S4x128x8192, .f32⟩
  | .hbm, ⟨59, _⟩ => ⟨S4x8192x128, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S512x256, .bf16⟩
  | .local _ .vmem, ⟨7, _⟩ => ⟨S512x256, .bf16⟩
  | .local _ .vmem, ⟨8, _⟩ => ⟨S512x256, .f32⟩
  | .local _ .vmem, ⟨9, _⟩ => ⟨S512x256, .f32⟩
  | .local _ .vmem, ⟨10, _⟩ => ⟨S2x1x512, .f32⟩
  | .local _ .vmem, ⟨11, _⟩ => ⟨S2x1x512, .f32⟩
  | .local _ .vmem, ⟨12, _⟩ => ⟨S8192x256, .f32⟩
  | .local _ .vmem, ⟨13, _⟩ => ⟨S8192x256, .f32⟩
  | .local _ .vmem, ⟨14, _⟩ => ⟨S256x4096, .f32⟩
  | .local _ .vmem, ⟨15, _⟩ => ⟨S256x4096, .f32⟩
  | .local _ .vmem, ⟨16, _⟩ => ⟨S256x4096, .f32⟩
  | .local _ .vmem, ⟨17, _⟩ => ⟨S256x4096, .f32⟩
  | _, _ => ⟨S4x8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_call0_v0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_call1_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34_0 : Ref sig .tc := ⟨.hbm, 46, rfl⟩
abbrev main_v34_1 : Ref sig .tc := ⟨.hbm, 47, rfl⟩
abbrev main_v34_2 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 16], ![false, false, false]⟩

def k0_mult1 (i : grid0.Coords) : BitVec 32 :=
  let arg2 : BitVec 32 := BitVec.ofNat 32 (i 2).val
  let c512_i32 : BitVec 32 := 512#32
  let v942 : BitVec 32 := Scalar.muli arg2 c512_i32
  v942
def k0_off1 (i : grid0.Coords) : Fin 2 → Nat :=
  let arg2 : BitVec 32 := BitVec.ofNat 32 (i 2).val
  let c512_i32 : BitVec 32 := 512#32
  let v942 : BitVec 32 := Scalar.muli arg2 c512_i32
  let v943 : BitVec 32 := v942
  let v944 : Index := Scalar.indexCast v943
  let c0_615 : Index := 0#32
  ![v944.toNat, 0]
def k0_off2 (i : grid0.Coords) : Fin 2 → Nat :=
  let arg2 : BitVec 32 := BitVec.ofNat 32 (i 2).val
  let c512_i32 : BitVec 32 := 512#32
  let v942 : BitVec 32 := Scalar.muli arg2 c512_i32
  let v943 : BitVec 32 := v942
  let v950 : Index := Scalar.indexCast v943
  let c128_617 : Index := 128#32
  ![v950.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S2x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== BReferenceIdeal.lean ====
abbrev S4x8192x96 : Shape := ⟨3, ![4, 8192, 96]⟩
abbrev S4x8192x128 : Shape := ⟨3, ![4, 8192, 128]⟩
abbrev S8192x512 : Shape := ⟨2, ![8192, 512]⟩
abbrev S4x1x8192x96 : Shape := ⟨4, ![4, 1, 8192, 96]⟩
abbrev S4x1x8192x8192 : Shape := ⟨4, ![4, 1, 8192, 8192]⟩
abbrev S_ : Shape := ⟨0, ![]⟩
abbrev S4x1x8192 : Shape := ⟨3, ![4, 1, 8192]⟩
abbrev S4x1x8192x1 : Shape := ⟨4, ![4, 1, 8192, 1]⟩
abbrev S4x1x8192x128 : Shape := ⟨4, ![4, 1, 8192, 128]⟩
abbrev S8192x4x128 : Shape := ⟨3, ![8192, 4, 128]⟩
abbrev S4x128x8192 : Shape := ⟨3, ![4, 128, 8192]⟩
abbrev S4x8192 : Shape := ⟨2, ![4, 8192]⟩

abbrev nBuf : Space → Nat
  | .hbm => 79
  | .vmem => 0
  | .smem => 0
  | _ => 0

abbrev bufTy : (tb : Table) → Fin (tcTables nBuf tb) → BufTy
  | .hbm, ⟨0, _⟩ => ⟨S4x8192x96, .f32⟩
  | .hbm, ⟨1, _⟩ => ⟨S4x8192x96, .f32⟩
  | .hbm, ⟨2, _⟩ => ⟨S4x8192x128, .f32⟩
  | .hbm, ⟨3, _⟩ => ⟨S8192x512, .f32⟩
  | .hbm, ⟨4, _⟩ => ⟨S4x1x8192x96, .f32⟩
  | .hbm, ⟨5, _⟩ => ⟨S4x1x8192x8192, .f32⟩
  | .hbm, ⟨6, _⟩ => ⟨S_, .f32⟩
  | .hbm, ⟨7, _⟩ => ⟨S4x1x8192x8192, .f32⟩
  | .hbm, ⟨8, _⟩ => ⟨S4x1x8192x8192, .f32⟩
  | .hbm, ⟨9, _⟩ => ⟨S_, .f32⟩
  | .hbm, ⟨10, _⟩ => ⟨S4x1x8192, .f32⟩
  | .hbm, ⟨11, _⟩ => ⟨S4x1x8192x1, .f32⟩
  | .hbm, ⟨12, _⟩ => ⟨S4x1x8192x8192, .f32⟩
  | .hbm, ⟨13, _⟩ => ⟨S4x1x8192x8192, .i1⟩
  | .hbm, ⟨14, _⟩ => ⟨S4x1x8192x8192, .f32⟩
  | .hbm, ⟨15, _⟩ => ⟨S_, .f32⟩
  | .hbm, ⟨16, _⟩ => ⟨S4x1x8192, .f32⟩
  | .hbm, ⟨17, _⟩ => ⟨S_, .f32⟩
  | .hbm, ⟨18, _⟩ => ⟨S4x1x8192, .f32⟩
  | .hbm, ⟨19, _⟩ => ⟨S4x1x8192, .f32⟩
  | .hbm, ⟨20, _⟩ => ⟨S_, .f32⟩
  | .hbm, ⟨21, _⟩ => ⟨S4x1x8192, .f32⟩
  | .hbm, ⟨22, _⟩ => ⟨S4x1x8192, .i1⟩
  | .hbm, ⟨23, _⟩ => ⟨S_, .f32⟩
  | .hbm, ⟨24, _⟩ => ⟨S4x1x8192, .f32⟩
  | .hbm, ⟨25, _⟩ => ⟨S4x1x8192, .i1⟩
  | .hbm, ⟨26, _⟩ => ⟨S_, .f32⟩
  | .hbm, ⟨27, _⟩ => ⟨S4x1x8192, .f32⟩
  | .hbm, ⟨28, _⟩ => ⟨S_, .f32⟩
  | .hbm, ⟨29, _⟩ => ⟨S4x1x8192, .f32⟩
  | .hbm, ⟨30, _⟩ => ⟨S_, .f32⟩
  | .hbm, ⟨31, _⟩ => ⟨S4x1x8192, .f32⟩
  | .hbm, ⟨32, _⟩ => ⟨S4x1x8192, .f32⟩
  | .hbm, ⟨33, _⟩ => ⟨S4x1x8192, .f32⟩
  | .hbm, ⟨34, _⟩ => ⟨S4x1x8192x1, .f32⟩
  | .hbm, ⟨35, _⟩ => ⟨S4x1x8192x8192, .f32⟩
  | .hbm, ⟨36, _⟩ => ⟨S4x1x8192x8192, .f32⟩
  | .hbm, ⟨37, _⟩ => ⟨S4x1x8192x8192, .f32⟩
  | .hbm, ⟨38, _⟩ => ⟨S_, .f32⟩
  | .hbm, ⟨39, _⟩ => ⟨S4x1x8192, .f32⟩
  | .hbm, ⟨40, _⟩ => ⟨S4x1x8192x1, .f32⟩
  | .hbm, ⟨41, _⟩ => ⟨S4x1x8192x8192, .f32⟩
  | .hbm, ⟨42, _⟩ => ⟨S4x1x8192x8192, .f32⟩
  | .hbm, ⟨43, _⟩ => ⟨S4x1x8192x1, .f32⟩
  | .hbm, ⟨44, _⟩ => ⟨S_, .f32⟩
  | .hbm, ⟨45, _⟩ => ⟨S4x1x8192x1, .f32⟩
  | .hbm, ⟨46, _⟩ => ⟨S4x1x8192x1, .f32⟩
  | .hbm, ⟨47, _⟩ => ⟨S4x1x8192x128, .f32⟩
  | .hbm, ⟨48, _⟩ => ⟨S4x8192x128, .f32⟩
  | .hbm, ⟨49, _⟩ => ⟨S8192x4x128, .f32⟩
  | .hbm, ⟨50, _⟩ => ⟨S8192x512, .f32⟩
  | .hbm, ⟨51, _⟩ => ⟨S8192x4x128, .f32⟩
  | .hbm, ⟨52, _⟩ => ⟨S4x8192x128, .f32⟩
  | .hbm, ⟨53, _⟩ => ⟨S4x1x8192x128, .f32⟩
  | .hbm, ⟨54, _⟩ => ⟨S4x128x8192, .f32⟩
  | .hbm, ⟨55, _⟩ => ⟨S4x8192x128, .f32⟩
  | .hbm, ⟨56, _⟩ => ⟨S4x1x8192x8192, .f32⟩
  | .hbm, ⟨57, _⟩ => ⟨S4x1x8192x8192, .f32⟩
  | .hbm, ⟨58, _⟩ => ⟨S4x1x8192x8192, .f32⟩
  | .hbm, ⟨59, _⟩ => ⟨S4x1x8192x8192, .f32⟩
  | .hbm, ⟨60, _⟩ => ⟨S_, .f32⟩
  | .hbm, ⟨61, _⟩ => ⟨S4x1x8192, .f32⟩
  | .hbm, ⟨62, _⟩ => ⟨S4x1x8192x1, .f32⟩
  | .hbm, ⟨63, _⟩ => ⟨S4x1x8192x1, .f32⟩
  | .hbm, ⟨64, _⟩ => ⟨S4x1x8192x8192, .f32⟩
  | .hbm, ⟨65, _⟩ => ⟨S4x1x8192x8192, .f32⟩
  | .hbm, ⟨66, _⟩ => ⟨S_, .f32⟩
  | .hbm, ⟨67, _⟩ => ⟨S4x8192, .f32⟩
  | .hbm, ⟨68, _⟩ => ⟨S4x1x8192, .f32⟩
  | .hbm, ⟨69, _⟩ => ⟨S4x1x8192x8192, .f32⟩
  | .hbm, ⟨70, _⟩ => ⟨S4x1x8192x8192, .f32⟩
  | .hbm, ⟨71, _⟩ => ⟨S4x1x8192x8192, .f32⟩
  | .hbm, ⟨72, _⟩ => ⟨S_, .f32⟩
  | .hbm, ⟨73, _⟩ => ⟨S4x1x8192x8192, .f32⟩
  | .hbm, ⟨74, _⟩ => ⟨S4x1x8192x8192, .f32⟩
  | .hbm, ⟨75, _⟩ => ⟨S4x8192x96, .f32⟩
  | .hbm, ⟨76, _⟩ => ⟨S4x1x8192x96, .f32⟩
  | .hbm, ⟨77, _⟩ => ⟨S_, .f32⟩
  | .hbm, ⟨78, _⟩ => ⟨S4x8192x96, .f32⟩
  | _, _ => ⟨S4x8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_13 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== BfKernel.lean ====
abbrev S4x8192x96 : Shape := ⟨3, ![4, 8192, 96]⟩
abbrev S4x8192x128 : Shape := ⟨3, ![4, 8192, 128]⟩
abbrev S4x128x8192 : Shape := ⟨3, ![4, 128, 8192]⟩
abbrev S512x8192 : Shape := ⟨2, ![512, 8192]⟩
abbrev S_ : Shape := ⟨0, ![]⟩
abbrev S8192x4x128 : Shape := ⟨3, ![8192, 4, 128]⟩
abbrev S8192x512 : Shape := ⟨2, ![8192, 512]⟩
abbrev S4x1x8192 : Shape := ⟨3, ![4, 1, 8192]⟩
abbrev S512x512 : Shape := ⟨2, ![512, 512]⟩
abbrev S4x1x512 : Shape := ⟨3, ![4, 1, 512]⟩
abbrev S2x32x256x256 : Shape := ⟨4, ![2, 32, 256, 256]⟩
abbrev S8x256 : Shape := ⟨2, ![8, 256]⟩
abbrev S256x128 : Shape := ⟨2, ![256, 128]⟩
abbrev S256x256 : Shape := ⟨2, ![256, 256]⟩
abbrev S1x1x256x256 : Shape := ⟨4, ![1, 1, 256, 256]⟩
abbrev S32x8x256 : Shape := ⟨3, ![32, 8, 256]⟩
abbrev S256 : Shape := ⟨1, ![256]⟩
abbrev S1x256 : Shape := ⟨2, ![1, 256]⟩
abbrev S128x256 : Shape := ⟨2, ![128, 256]⟩
abbrev S1x1x256 : Shape := ⟨3, ![1, 1, 256]⟩
abbrev S4x8192 : Shape := ⟨2, ![4, 8192]⟩

abbrev nBuf : Space → Nat
  | .hbm => 24
  | .vmem => 12
  | .smem => 0
  | _ => 0

abbrev bufTy : (tb : Table) → Fin (tcTables nBuf tb) → BufTy
  | .hbm, ⟨0, _⟩ => ⟨S4x8192x96, .f32⟩
  | .hbm, ⟨1, _⟩ => ⟨S4x8192x96, .f32⟩
  | .hbm, ⟨2, _⟩ => ⟨S4x8192x128, .f32⟩
  | .hbm, ⟨3, _⟩ => ⟨S4x128x8192, .f32⟩
  | .hbm, ⟨4, _⟩ => ⟨S512x8192, .f32⟩
  | .hbm, ⟨5, _⟩ => ⟨S512x8192, .bf16⟩
  | .hbm, ⟨6, _⟩ => ⟨S_, .f32⟩
  | .hbm, ⟨7, _⟩ => ⟨S4x8192x96, .f32⟩
  | .hbm, ⟨8, _⟩ => ⟨S4x8192x96, .f32⟩
  | .hbm, ⟨9, _⟩ => ⟨S_, .i32⟩
  | .hbm, ⟨10, _⟩ => ⟨S_, .f32⟩
  | .hbm, ⟨11, _⟩ => ⟨S4x8192x128, .f32⟩
  | .hbm, ⟨12, _⟩ => ⟨S8192x4x128, .f32⟩
  | .hbm, ⟨13, _⟩ => ⟨S8192x512, .f32⟩
  | .hbm, ⟨14, _⟩ => ⟨S8192x512, .bf16⟩
  | .hbm, ⟨15, _⟩ => ⟨S_, .i32⟩
  | .hbm, ⟨16, _⟩ => ⟨S_, .f32⟩
  | .hbm, ⟨17, _⟩ => ⟨S4x8192x128, .f32⟩
  | .hbm, ⟨18, _⟩ => ⟨S8192x4x128, .f32⟩
  | .hbm, ⟨19, _⟩ => ⟨S8192x512, .f32⟩
  | .hbm, ⟨20, _⟩ => ⟨S8192x512, .bf16⟩
  | .hbm, ⟨21, _⟩ => ⟨S8192x512, .f32⟩
  | .hbm, ⟨22, _⟩ => ⟨S4x1x8192, .f32⟩
  | .hbm, ⟨23, _⟩ => ⟨S4x8192, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S8192x512, .bf16⟩
  | .local _ .vmem, ⟨5, _⟩ => ⟨S512x8192, .bf16⟩
  | .local _ .vmem, ⟨6, _⟩ => ⟨S512x512, .f32⟩
  | .local _ .vmem, ⟨7, _⟩ => ⟨S512x512, .f32⟩
  | .local _ .vmem, ⟨8, _⟩ => ⟨S4x1x512, .f32⟩
  | .local _ .vmem, ⟨9, _⟩ => ⟨S4x1x512, .f32⟩
  | .local _ .vmem, ⟨10, _⟩ => ⟨S2x32x256x256, .f32⟩
  | .local _ .vmem, ⟨11, _⟩ => ⟨S8x256, .f32⟩
  | _, _ => ⟨S4x8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== BfReferenceIdeal.lean ====
abbrev S4x8192x96 : Shape := ⟨3, ![4, 8192, 96]⟩
abbrev S4x8192x128 : Shape := ⟨3, ![4, 8192, 128]⟩
abbrev S4x1x8192x96 : Shape := ⟨4, ![4, 1, 8192, 96]⟩
abbrev S4x1x8192x8192 : Shape := ⟨4, ![4, 1, 8192, 8192]⟩
abbrev S_ : Shape := ⟨0, ![]⟩
abbrev S4x1x8192 : Shape := ⟨3, ![4, 1, 8192]⟩
abbrev S4x1x8192x1 : Shape := ⟨4, ![4, 1, 8192, 1]⟩
abbrev S4x1x8192x128 : Shape := ⟨4, ![4, 1, 8192, 128]⟩
abbrev S8192x4x128 : Shape := ⟨3, ![8192, 4, 128]⟩
abbrev S8192x512 : Shape := ⟨2, ![8192, 512]⟩
abbrev S4x8192 : Shape := ⟨2, ![4, 8192]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x96, .f32⟩
  | .hbm, ⟨1, _⟩ => ⟨S4x8192x96, .f32⟩
  | .hbm, ⟨2, _⟩ => ⟨S4x8192x128, .f32⟩
  | .hbm, ⟨3, _⟩ => ⟨S4x1x8192x96, .f32⟩
  | .hbm, ⟨4, _⟩ => ⟨S4x1x8192x8192, .f32⟩
  | .hbm, ⟨5, _⟩ => ⟨S_, .f32⟩
  | .hbm, ⟨6, _⟩ => ⟨S4x1x8192x8192, .f32⟩
  | .hbm, ⟨7, _⟩ => ⟨S4x1x8192x8192, .f32⟩
  | .hbm, ⟨8, _⟩ => ⟨S4x1x8192x96, .f32⟩
  | .hbm, ⟨9, _⟩ => ⟨S4x1x8192x8192, .f32⟩
  | .hbm, ⟨10, _⟩ => ⟨S_, .f32⟩
  | .hbm, ⟨11, _⟩ => ⟨S4x1x8192x8192, .f32⟩
  | .hbm, ⟨12, _⟩ => ⟨S4x1x8192x8192, .f32⟩
  | .hbm, ⟨13, _⟩ => ⟨S_, .f32⟩
  | .hbm, ⟨14, _⟩ => ⟨S4x1x8192, .f32⟩
  | .hbm, ⟨15, _⟩ => ⟨S_, .f32⟩
  | .hbm, ⟨16, _⟩ => ⟨S4x1x8192, .f32⟩
  | .hbm, ⟨17, _⟩ => ⟨S4x1x8192, .f32⟩
  | .hbm, ⟨18, _⟩ => ⟨S4x1x8192x1, .f32⟩
  | .hbm, ⟨19, _⟩ => ⟨S4x1x8192x8192, .f32⟩
  | .hbm, ⟨20, _⟩ => ⟨S4x1x8192x8192, .f32⟩
  | .hbm, ⟨21, _⟩ => ⟨S4x1x8192x8192, .f32⟩
  | .hbm, ⟨22, _⟩ => ⟨S_, .f32⟩
  | .hbm, ⟨23, _⟩ => ⟨S4x1x8192, .f32⟩
  | .hbm, ⟨24, _⟩ => ⟨S4x1x8192x1, .f32⟩
  | .hbm, ⟨25, _⟩ => ⟨S4x1x8192x8192, .f32⟩
  | .hbm, ⟨26, _⟩ => ⟨S4x1x8192x8192, .f32⟩
  | .hbm, ⟨27, _⟩ => ⟨S4x1x8192x128, .f32⟩
  | .hbm, ⟨28, _⟩ => ⟨S4x8192x128, .f32⟩
  | .hbm, ⟨29, _⟩ => ⟨S8192x4x128, .f32⟩
  | .hbm, ⟨30, _⟩ => ⟨S8192x512, .f32⟩
  | .hbm, ⟨31, _⟩ => ⟨S4x1x8192x8192, .f32⟩
  | .hbm, ⟨32, _⟩ => ⟨S_, .f32⟩
  | .hbm, ⟨33, _⟩ => ⟨S4x1x8192, .f32⟩
  | .hbm, ⟨34, _⟩ => ⟨S4x1x8192, .f32⟩
  | .hbm, ⟨35, _⟩ => ⟨S4x8192, .f32⟩
  | _, _ => ⟨S4x8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== AfKernel.lean ====
abbrev S8x8192x64 : Shape := ⟨3, ![8, 8192, 64]⟩
abbrev S2x8192x64 : Shape := ⟨3, ![2, 8192, 64]⟩
abbrev S_ : Shape := ⟨0, ![]⟩
abbrev S8192x8x64 : Shape := ⟨3, ![8192, 8, 64]⟩
abbrev S8192x512 : Shape := ⟨2, ![8192, 512]⟩
abbrev S1x8192x64 : Shape := ⟨3, ![1, 8192, 64]⟩
abbrev S8192x64 : Shape := ⟨2, ![8192, 64]⟩
abbrev S8192x256 : Shape := ⟨2, ![8192, 256]⟩
abbrev S256x8192 : Shape := ⟨2, ![256, 8192]⟩
abbrev S8x1x8192 : Shape := ⟨3, ![8, 1, 8192]⟩
abbrev S512x256 : Shape := ⟨2, ![512, 256]⟩
abbrev S8192x128 : Shape := ⟨2, ![8192, 128]⟩
abbrev S128x8192 : Shape := ⟨2, ![128, 8192]⟩
abbrev S4x1x512 : Shape := ⟨3, ![4, 1, 512]⟩
abbrev S2x32x256x256 : Shape := ⟨4, ![2, 32, 256, 256]⟩
abbrev S8x256 : Shape := ⟨2, ![8, 256]⟩
abbrev S256x128 : Shape := ⟨2, ![256, 128]⟩
abbrev S256x256 : Shape := ⟨2, ![256, 256]⟩
abbrev S1x1x256x256 : Shape := ⟨4, ![1, 1, 256, 256]⟩
abbrev S32x8x256 : Shape := ⟨3, ![32, 8, 256]⟩
abbrev S256 : Shape := ⟨1, ![256]⟩
abbrev S1x256 : Shape := ⟨2, ![1, 256]⟩
abbrev S128x256 : Shape := ⟨2, ![128, 256]⟩
abbrev S1x1x256 : Shape := ⟨3, ![1, 1, 256]⟩
abbrev S8x8192 : Shape := ⟨2, ![8, 8192]⟩

abbrev nBuf : Space → Nat
  | .hbm => 33
  | .vmem => 14
  | .smem => 0
  | _ => 0

abbrev bufTy : (tb : Table) → Fin (tcTables nBuf tb) → BufTy
  | .hbm, ⟨0, _⟩ => ⟨S8x8192x64, .f32⟩
  | .hbm, ⟨1, _⟩ => ⟨S2x8192x64, .f32⟩
  | .hbm, ⟨2, _⟩ => ⟨S2x8192x64, .f32⟩
  | .hbm, ⟨3, _⟩ => ⟨S_, .f32⟩
  | .hbm, ⟨4, _⟩ => ⟨S8x8192x64, .f32⟩
  | .hbm, ⟨5, _⟩ => ⟨S8x8192x64, .f32⟩
  | .hbm, ⟨6, _⟩ => ⟨S8192x8x64, .f32⟩
  | .hbm, ⟨7, _⟩ => ⟨S8192x512, .f32⟩
  | .hbm, ⟨8, _⟩ => ⟨S8192x512, .bf16⟩
  | .hbm, ⟨9, _⟩ => ⟨S1x8192x64, .f32⟩
  | .hbm, ⟨10, _⟩ => ⟨S8192x64, .f32⟩
  | .hbm, ⟨11, _⟩ => ⟨S1x8192x64, .f32⟩
  | .hbm, ⟨12, _⟩ => ⟨S8192x64, .f32⟩
  | .hbm, ⟨13, _⟩ => ⟨S1x8192x64, .f32⟩
  | .hbm, ⟨14, _⟩ => ⟨S8192x64, .f32⟩
  | .hbm, ⟨15, _⟩ => ⟨S1x8192x64, .f32⟩
  | .hbm, ⟨16, _⟩ => ⟨S8192x64, .f32⟩
  | .hbm, ⟨17, _⟩ => ⟨S8192x256, .f32⟩
  | .hbm, ⟨18, _⟩ => ⟨S8192x256, .bf16⟩
  | .hbm, ⟨19, _⟩ => ⟨S1x8192x64, .f32⟩
  | .hbm, ⟨20, _⟩ => ⟨S8192x64, .f32⟩
  | .hbm, ⟨21, _⟩ => ⟨S1x8192x64, .f32⟩
  | .hbm, ⟨22, _⟩ => ⟨S8192x64, .f32⟩
  | .hbm, ⟨23, _⟩ => ⟨S1x8192x64, .f32⟩
  | .hbm, ⟨24, _⟩ => ⟨S8192x64, .f32⟩
  | .hbm, ⟨25, _⟩ => ⟨S1x8192x64, .f32⟩
  | .hbm, ⟨26, _⟩ => ⟨S8192x64, .f32⟩
  | .hbm, ⟨27, _⟩ => ⟨S8192x256, .f32⟩
  | .hbm, ⟨28, _⟩ => ⟨S256x8192, .f32⟩
  | .hbm, ⟨29, _⟩ => ⟨S256x8192, .bf16⟩
  | .hbm, ⟨30, _⟩ => ⟨S8192x512, .f32⟩
  | .hbm, ⟨31, _⟩ => ⟨S8x1x8192, .f32⟩
  | .hbm, ⟨32, _⟩ => ⟨S8x8192, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S8192x128, .bf16⟩
  | .local _ .vmem, ⟨5, _⟩ => ⟨S8192x128, .bf16⟩
  | .local _ .vmem, ⟨6, _⟩ => ⟨S128x8192, .bf16⟩
  | .local _ .vmem, ⟨7, _⟩ => ⟨S128x8192, .bf16⟩
  | .local _ .vmem, ⟨8, _⟩ => ⟨S512x256, .f32⟩
  | .local _ .vmem, ⟨9, _⟩ => ⟨S512x256, .f32⟩
  | .local _ .vmem, ⟨10, _⟩ => ⟨S4x1x512, .f32⟩
  | .local _ .vmem, ⟨11, _⟩ => ⟨S4x1x512, .f32⟩
  | .local _ .vmem, ⟨12, _⟩ => ⟨S2x32x256x256, .f32⟩
  | .local _ .vmem, ⟨13, _⟩ => ⟨S8x256, .f32⟩
  | _, _ => ⟨S8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26_0 : Ref sig .tc := ⟨.hbm, 30, rfl⟩
abbrev main_v26_1 : Ref sig .tc := ⟨.hbm, 31, rfl⟩
abbrev main_v27 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AfReferenceIdeal.lean ====
abbrev S8x8192x64 : Shape := ⟨3, ![8, 8192, 64]⟩
abbrev S2x8192x64 : Shape := ⟨3, ![2, 8192, 64]⟩
abbrev S2x4x8192x64 : Shape := ⟨4, ![2, 4, 8192, 64]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S8192x2x4x64 : Shape := ⟨4, ![8192, 2, 4, 64]⟩
abbrev S8192x512 : Shape := ⟨2, ![8192, 512]⟩
abbrev S8x8192 : Shape := ⟨2, ![8, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8x8192x64, .f32⟩
  | .hbm, ⟨1, _⟩ => ⟨S2x8192x64, .f32⟩
  | .hbm, ⟨2, _⟩ => ⟨S2x8192x64, .f32⟩
  | .hbm, ⟨3, _⟩ => ⟨S2x4x8192x64, .f32⟩
  | .hbm, ⟨4, _⟩ => ⟨S2x4x8192x8192, .f32⟩
  | .hbm, ⟨5, _⟩ => ⟨S_, .f32⟩
  | .hbm, ⟨6, _⟩ => ⟨S2x4x8192x8192, .f32⟩
  | .hbm, ⟨7, _⟩ => ⟨S2x4x8192x8192, .f32⟩
  | .hbm, ⟨8, _⟩ => ⟨S2x4x8192x8192, .f32⟩
  | .hbm, ⟨9, _⟩ => ⟨S_, .f32⟩
  | .hbm, ⟨10, _⟩ => ⟨S2x4x8192x8192, .f32⟩
  | .hbm, ⟨11, _⟩ => ⟨S2x4x8192x8192, .f32⟩
  | .hbm, ⟨12, _⟩ => ⟨S_, .f32⟩
  | .hbm, ⟨13, _⟩ => ⟨S2x4x8192, .f32⟩
  | .hbm, ⟨14, _⟩ => ⟨S_, .f32⟩
  | .hbm, ⟨15, _⟩ => ⟨S2x4x8192, .f32⟩
  | .hbm, ⟨16, _⟩ => ⟨S2x4x8192, .f32⟩
  | .hbm, ⟨17, _⟩ => ⟨S2x4x8192x1, .f32⟩
  | .hbm, ⟨18, _⟩ => ⟨S2x4x8192x8192, .f32⟩
  | .hbm, ⟨19, _⟩ => ⟨S2x4x8192x8192, .f32⟩
  | .hbm, ⟨20, _⟩ => ⟨S2x4x8192x8192, .f32⟩
  | .hbm, ⟨21, _⟩ => ⟨S_, .f32⟩
  | .hbm, ⟨22, _⟩ => ⟨S2x4x8192, .f32⟩
  | .hbm, ⟨23, _⟩ => ⟨S2x4x8192x1, .f32⟩
  | .hbm, ⟨24, _⟩ => ⟨S2x4x8192x8192, .f32⟩
  | .hbm, ⟨25, _⟩ => ⟨S2x4x8192x8192, .f32⟩
  | .hbm, ⟨26, _⟩ => ⟨S2x4x8192x64, .f32⟩
  | .hbm, ⟨27, _⟩ => ⟨S8192x2x4x64, .f32⟩
  | .hbm, ⟨28, _⟩ => ⟨S8192x512, .f32⟩
  | .hbm, ⟨29, _⟩ => ⟨S2x4x8192x8192, .f32⟩
  | .hbm, ⟨30, _⟩ => ⟨S_, .f32⟩
  | .hbm, ⟨31, _⟩ => ⟨S2x4x8192, .f32⟩
  | .hbm, ⟨32, _⟩ => ⟨S2x4x8192, .f32⟩
  | .hbm, ⟨33, _⟩ => ⟨S8x8192, .f32⟩
  | _, _ => ⟨S8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== PbKernel.lean ====
abbrev S8192x1024 : Shape := ⟨2, ![8192, 1024]⟩
abbrev S1x1024 : Shape := ⟨2, ![1, 1024]⟩
abbrev S1024x2464 : Shape := ⟨2, ![1024, 2464]⟩
abbrev S1x64 : Shape := ⟨2, ![1, 64]⟩
abbrev S1x384 : Shape := ⟨2, ![1, 384]⟩
abbrev S1x256 : Shape := ⟨2, ![1, 256]⟩
abbrev S384x384 : Shape := ⟨2, ![384, 384]⟩
abbrev S256x768 : Shape := ⟨2, ![256, 768]⟩
abbrev S1x96 : Shape := ⟨2, ![1, 96]⟩
abbrev S8x8192x64 : Shape := ⟨3, ![8, 8192, 64]⟩
abbrev S2x8192x64 : Shape := ⟨3, ![2, 8192, 64]⟩
abbrev S8192x512 : Shape := ⟨2, ![8192, 512]⟩
abbrev S4x8192x96 : Shape := ⟨3, ![4, 8192, 96]⟩
abbrev S4x8192x128 : Shape := ⟨3, ![4, 8192, 128]⟩
abbrev S128x128 : Shape := ⟨2, ![128, 128]⟩
abbrev S1024x8x308 : Shape := ⟨3, ![1024, 8, 308]⟩
abbrev S8x1024x308 : Shape := ⟨3, ![8, 1024, 308]⟩
abbrev S8x48x384 : Shape := ⟨3, ![8, 48, 384]⟩
abbrev S256x8x96 : Shape := ⟨3, ![256, 8, 96]⟩
abbrev S8x256x96 : Shape := ⟨3, ![8, 256, 96]⟩
abbrev S_ : Shape := ⟨0, ![]⟩
abbrev S1024x64 : Shape := ⟨2, ![1024, 64]⟩
abbrev S1024x32 : Shape := ⟨2, ![1024, 32]⟩
abbrev S1x1024x308 : Shape := ⟨3, ![1, 1024, 308]⟩
abbrev S1024x308 : Shape := ⟨2, ![1024, 308]⟩
abbrev S1024x40 : Shape := ⟨2, ![1024, 40]⟩
abbrev S1024x24 : Shape := ⟨2, ![1024, 24]⟩
abbrev S1024x204 : Shape := ⟨2, ![1024, 204]⟩
abbrev S1024x156 : Shape := ⟨2, ![1024, 156]⟩
abbrev S1024x72 : Shape := ⟨2, ![1024, 72]⟩
abbrev S1024x2104 : Shape := ⟨2, ![1024, 2104]⟩
abbrev S1024x1096 : Shape := ⟨2, ![1024, 1096]⟩
abbrev S1024x3200 : Shape := ⟨2, ![1024, 3200]⟩
abbrev S384x4x96 : Shape := ⟨3, ![384, 4, 96]⟩
abbrev S384x4x128 : Shape := ⟨3, ![384, 4, 128]⟩
abbrev S384x512 : Shape := ⟨2, ![384, 512]⟩
abbrev S256x4x192 : Shape := ⟨3, ![256, 4, 192]⟩
abbrev S256x4x64 : Shape := ⟨3, ![256, 4, 64]⟩
abbrev S256x4x128 : Shape := ⟨3, ![256, 4, 128]⟩
abbrev S256x512 : Shape := ⟨2, ![256, 512]⟩
abbrev S1x128 : Shape := ⟨2, ![1, 128]⟩
abbrev S1024 : Shape := ⟨1, ![1024]⟩
abbrev S8192 : Shape := ⟨1, ![8192]⟩
abbrev S8192x1 : Shape := ⟨2, ![8192, 1]⟩
abbrev S8192x2464 : Shape := ⟨2, ![8192, 2464]⟩
abbrev S8192x128 : Shape := ⟨2, ![8192, 128]⟩
abbrev S8192x384 : Shape := ⟨2, ![8192, 384]⟩
abbrev S8192x256 : Shape := ⟨2, ![8192, 256]⟩
abbrev S8192x32 : Shape := ⟨2, ![8192, 32]⟩
abbrev S8192x64 : Shape := ⟨2, ![8192, 64]⟩
abbrev S8192x1920 : Shape := ⟨2, ![8192, 1920]⟩
abbrev S8192x8x64 : Shape := ⟨3, ![8192, 8, 64]⟩
abbrev S2x8192x128 : Shape := ⟨3, ![2, 8192, 128]⟩
abbrev S2x128x8192 : Shape := ⟨3, ![2, 128, 8192]⟩
abbrev S256x8192 : Shape := ⟨2, ![256, 8192]⟩
abbrev S8192x4x128 : Shape := ⟨3, ![8192, 4, 128]⟩
abbrev S4x128x8192 : Shape := ⟨3, ![4, 128, 8192]⟩
abbrev S512x8192 : Shape := ⟨2, ![512, 8192]⟩
abbrev S128 : Shape := ⟨1, ![128]⟩
abbrev S64 : Shape := ⟨1, ![64]⟩
abbrev S16 : Shape := ⟨1, ![16]⟩
abbrev S128x1 : Shape := ⟨2, ![128, 1]⟩
abbrev S1x16 : Shape := ⟨2, ![1, 16]⟩
abbrev S128x16 : Shape := ⟨2, ![128, 16]⟩
abbrev S64x1 : Shape := ⟨2, ![64, 1]⟩
abbrev S64x16 : Shape := ⟨2, ![64, 16]⟩
abbrev S64x64 : Shape := ⟨2, ![64, 64]⟩
abbrev S128x64 : Shape := ⟨2, ![128, 64]⟩
abbrev S1x64x1x64 : Shape := ⟨4, ![1, 64, 1, 64]⟩
abbrev S1x64x2x64 : Shape := ⟨4, ![1, 64, 2, 64]⟩
abbrev S64x128 : Shape := ⟨2, ![64, 128]⟩
abbrev S1x128x1x64 : Shape := ⟨4, ![1, 128, 1, 64]⟩
abbrev S1x128x2x64 : Shape := ⟨4, ![1, 128, 2, 64]⟩
abbrev S8 : Shape := ⟨1, ![8]⟩
abbrev S1x8 : Shape := ⟨2, ![1, 8]⟩
abbrev S128x8 : Shape := ⟨2, ![128, 8]⟩
abbrev S64x8 : Shape := ⟨2, ![64, 8]⟩
abbrev S64x32 : Shape := ⟨2, ![64, 32]⟩
abbrev S128x32 : Shape := ⟨2, ![128, 32]⟩
abbrev S8192x3200 : Shape := ⟨2, ![8192, 3200]⟩
abbrev S24x128 : Shape := ⟨2, ![24, 128]⟩
abbrev S256x1024 : Shape := ⟨2, ![256, 1024]⟩
abbrev S256x1920 : Shape := ⟨2, ![256, 1920]⟩
abbrev S256x256 : Shape := ⟨2, ![256, 256]⟩
abbrev S512x256 : Shape := ⟨2, ![512, 256]⟩
abbrev S256x3200 : Shape := ⟨2, ![256, 3200]⟩
abbrev S256x128 : Shape := ⟨2, ![256, 128]⟩
abbrev S256 : Shape := ⟨1, ![256]⟩
abbrev S256x1 : Shape := ⟨2, ![256, 1]⟩
abbrev S256x384 : Shape := ⟨2, ![256, 384]⟩
abbrev S384 : Shape := ⟨1, ![384]⟩

abbrev nBuf : Space → Nat
  | .hbm => 294
  | .vmem => 50
  | .smem => 0
  | _ => 0

abbrev hbmTy0_0 (i : Nat) : BufTy := match i % 128 with
  | 0 => ⟨S8192x1024, .f32⟩
  | 1 => ⟨S1x1024, .f32⟩
  | 2 => ⟨S1024x2464, .f32⟩
  | 3 => ⟨S1x64, .f32⟩
  | 4 => ⟨S1x64, .f32⟩
  | 5 => ⟨S1x384, .f32⟩
  | 6 => ⟨S1x256, .f32⟩
  | 7 => ⟨S384x384, .f32⟩
  | 8 => ⟨S256x768, .f32⟩
  | 9 => ⟨S1x96, .f32⟩
  | 10 => ⟨S1x96, .f32⟩
  | 11 => ⟨S8192x1024, .f32⟩
  | 12 => ⟨S8x8192x64, .f32⟩
  | 13 => ⟨S2x8192x64, .f32⟩
  | 14 => ⟨S2x8192x64, .f32⟩
  | 15 => ⟨S8192x512, .f32⟩
  | 16 => ⟨S4x8192x96, .f32⟩
  | 17 => ⟨S4x8192x96, .f32⟩
  | 18 => ⟨S4x8192x128, .f32⟩
  | 19 => ⟨S8192x512, .f32⟩
  | 20 => ⟨S128x128, .bf16⟩
  | 21 => ⟨S1024x2464, .bf16⟩
  | 22 => ⟨S1024x8x308, .bf16⟩
  | 23 => ⟨S8x1024x308, .bf16⟩
  | 24 => ⟨S384x384, .bf16⟩
  | 25 => ⟨S8x48x384, .bf16⟩
  | 26 => ⟨S256x768, .bf16⟩
  | 27 => ⟨S256x8x96, .bf16⟩
  | 28 => ⟨S8x256x96, .bf16⟩
  | 29 => ⟨S_, .bf16⟩
  | 30 => ⟨S1024x64, .bf16⟩
  | 31 => ⟨S_, .bf16⟩
  | 32 => ⟨S1024x32, .bf16⟩
  | 33 => ⟨S1x1024x308, .bf16⟩
  | 34 => ⟨S1024x308, .bf16⟩
  | 35 => ⟨S1024x64, .bf16⟩
  | 36 => ⟨S1x1024x308, .bf16⟩
  | 37 => ⟨S1024x308, .bf16⟩
  | 38 => ⟨S1024x40, .bf16⟩
  | 39 => ⟨S1x1024x308, .bf16⟩
  | 40 => ⟨S1024x308, .bf16⟩
  | 41 => ⟨S1024x24, .bf16⟩
  | 42 => ⟨S1x1024x308, .bf16⟩
  | 43 => ⟨S1024x308, .bf16⟩
  | 44 => ⟨S1024x64, .bf16⟩
  | 45 => ⟨S1x1024x308, .bf16⟩
  | 46 => ⟨S1024x308, .bf16⟩
  | 47 => ⟨S1024x64, .bf16⟩
  | 48 => ⟨S1x1024x308, .bf16⟩
  | 49 => ⟨S1024x308, .bf16⟩
  | 50 => ⟨S1024x32, .bf16⟩
  | 51 => ⟨S1x1024x308, .bf16⟩
  | 52 => ⟨S1024x308, .bf16⟩
  | 53 => ⟨S1x1024x308, .bf16⟩
  | 54 => ⟨S1024x308, .bf16⟩
  | 55 => ⟨S1024x204, .bf16⟩
  | 56 => ⟨S1x1024x308, .bf16⟩
  | 57 => ⟨S1024x308, .bf16⟩
  | 58 => ⟨S1024x156, .bf16⟩
  | 59 => ⟨S1x1024x308, .bf16⟩
  | 60 => ⟨S1024x308, .bf16⟩
  | 61 => ⟨S1x1024x308, .bf16⟩
  | 62 => ⟨S1024x308, .bf16⟩
  | 63 => ⟨S1x1024x308, .bf16⟩
  | 64 => ⟨S1024x308, .bf16⟩
  | 65 => ⟨S1x1024x308, .bf16⟩
  | 66 => ⟨S1024x308, .bf16⟩
  | 67 => ⟨S1024x72, .bf16⟩
  | 68 => ⟨S1x1024x308, .bf16⟩
  | 69 => ⟨S1024x308, .bf16⟩
  | 70 => ⟨S1024x204, .bf16⟩
  | 71 => ⟨S1x1024x308, .bf16⟩
  | 72 => ⟨S1024x308, .bf16⟩
  | 73 => ⟨S1024x2104, .bf16⟩
  | 74 => ⟨S1024x1096, .bf16⟩
  | 75 => ⟨S1024x3200, .bf16⟩
  | 76 => ⟨S384x384, .bf16⟩
  | 77 => ⟨S384x4x96, .bf16⟩
  | 78 => ⟨S_, .i32⟩
  | 79 => ⟨S_, .bf16⟩
  | 80 => ⟨S384x4x128, .bf16⟩
  | 81 => ⟨S384x512, .bf16⟩
  | 82 => ⟨S256x8x96, .bf16⟩
  | 83 => ⟨S256x4x192, .bf16⟩
  | 84 => ⟨S256x4x64, .bf16⟩
  | 85 => ⟨S_, .i32⟩
  | 86 => ⟨S_, .bf16⟩
  | 87 => ⟨S256x4x128, .bf16⟩
  | 88 => ⟨S256x512, .bf16⟩
  | 89 => ⟨S256x4x128, .bf16⟩
  | 90 => ⟨S256x512, .bf16⟩
  | 91 => ⟨S1x128, .f32⟩
  | 92 => ⟨S1x128, .f32⟩
  | 93 => ⟨S_, .i32⟩
  | 94 => ⟨S_, .f32⟩
  | 95 => ⟨S1x128, .f32⟩
  | 96 => ⟨S_, .i32⟩
  | 97 => ⟨S_, .f32⟩
  | 98 => ⟨S1x128, .f32⟩
  | 99 => ⟨S1024, .f32⟩
  | 100 => ⟨S8192x1024, .f32⟩
  | 101 => ⟨S_, .f32⟩
  | 102 => ⟨S8192, .f32⟩
  | 103 => ⟨S8192x1, .f32⟩
  | 104 => ⟨S_, .f32⟩
  | 105 => ⟨S8192x1, .f32⟩
  | 106 => ⟨S8192x1, .f32⟩
  | 107 => ⟨S_, .f32⟩
  | 108 => ⟨S8192x1, .f32⟩
  | 109 => ⟨S8192x1, .f32⟩
  | 110 => ⟨S8192x1, .f32⟩
  | 111 => ⟨S8192x1024, .f32⟩
  | 112 => ⟨S8192x1024, .f32⟩
  | 113 => ⟨S1x1024, .f32⟩
  | 114 => ⟨S8192x1024, .f32⟩
  | 115 => ⟨S8192x1024, .f32⟩
  | 116 => ⟨S8192x2464, .f32⟩
  | 117 => ⟨S8192x512, .f32⟩
  | 118 => ⟨S8192x128, .f32⟩
  | 119 => ⟨S8192x128, .f32⟩
  | 120 => ⟨S8192x512, .f32⟩
  | 121 => ⟨S8192x384, .f32⟩
  | 122 => ⟨S8192x256, .f32⟩
  | 123 => ⟨S8192x32, .f32⟩
  | 124 => ⟨S8192x512, .f32⟩
  | 125 => ⟨S_, .i32⟩
  | 126 => ⟨S_, .f32⟩
  | 127 => ⟨S8192x128, .f32⟩
  | _ => ⟨S8192x1024, .f32⟩

abbrev hbmTy0_1 (i : Nat) : BufTy := match i % 128 with
  | 0 => ⟨S8192x64, .f32⟩
  | 1 => ⟨S8192x64, .f32⟩
  | 2 => ⟨S8192x64, .f32⟩
  | 3 => ⟨S8192x64, .f32⟩
  | 4 => ⟨S8192x1920, .f32⟩
  | 5 => ⟨S8192x8x64, .f32⟩
  | 6 => ⟨S8192x512, .f32⟩
  | 7 => ⟨S_, .f32⟩
  | 8 => ⟨S8192x512, .f32⟩
  | 9 => ⟨S8192x512, .f32⟩
  | 10 => ⟨S_, .i32⟩
  | 11 => ⟨S_, .f32⟩
  | 12 => ⟨S2x8192x128, .f32⟩
  | 13 => ⟨S2x128x8192, .f32⟩
  | 14 => ⟨S256x8192, .f32⟩
  | 15 => ⟨S_, .i32⟩
  | 16 => ⟨S_, .f32⟩
  | 17 => ⟨S2x8192x128, .f32⟩
  | 18 => ⟨S2x128x8192, .f32⟩
  | 19 => ⟨S256x8192, .f32⟩
  | 20 => ⟨S_, .i32⟩
  | 21 => ⟨S_, .f32⟩
  | 22 => ⟨S4x8192x128, .f32⟩
  | 23 => ⟨S8192x4x128, .f32⟩
  | 24 => ⟨S8192x512, .f32⟩
  | 25 => ⟨S_, .f32⟩
  | 26 => ⟨S8192x512, .f32⟩
  | 27 => ⟨S8192x512, .f32⟩
  | 28 => ⟨S_, .i32⟩
  | 29 => ⟨S_, .f32⟩
  | 30 => ⟨S4x8192x128, .f32⟩
  | 31 => ⟨S4x128x8192, .f32⟩
  | 32 => ⟨S512x8192, .f32⟩
  | 33 => ⟨S_, .i32⟩
  | 34 => ⟨S_, .f32⟩
  | 35 => ⟨S4x8192x128, .f32⟩
  | 36 => ⟨S4x128x8192, .f32⟩
  | 37 => ⟨S512x8192, .f32⟩
  | 38 => ⟨S128, .f32⟩
  | 39 => ⟨S64, .f32⟩
  | 40 => ⟨S16, .f32⟩
  | 41 => ⟨S_, .f32⟩
  | 42 => ⟨S16, .f32⟩
  | 43 => ⟨S16, .f32⟩
  | 44 => ⟨S_, .f32⟩
  | 45 => ⟨S16, .f32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S128x1, .f32⟩
  | 57 => ⟨S1x16, .f32⟩
  | 58 => ⟨S128x16, .f32⟩
  | 59 => ⟨S128x16, .f32⟩
  | 60 => ⟨S128x16, .f32⟩
  | 61 => ⟨S64x1, .f32⟩
  | 62 => ⟨S1x16, .f32⟩
  | 63 => ⟨S64x16, .f32⟩
  | 64 => ⟨S64x16, .f32⟩
  | 65 => ⟨S64x16, .f32⟩
  | 66 => ⟨S_, .f32⟩
  | 67 => ⟨S128x16, .f32⟩
  | 68 => ⟨S_, .f32⟩
  | 69 => ⟨S64x16, .f32⟩
  | 70 => ⟨S64x16, .f32⟩
  | 71 => ⟨S64x16, .f32⟩
  | 72 => ⟨S64x64, .f32⟩
  | 73 => ⟨S128x16, .f32⟩
  | 74 => ⟨S128x16, .f32⟩
  | 75 => ⟨S128x64, .f32⟩
  | 76 => ⟨S64x16, .f32⟩
  | 77 => ⟨S64x16, .f32⟩
  | 78 => ⟨S64x16, .f32⟩
  | 79 => ⟨S64x64, .f32⟩
  | 80 => ⟨S128x16, .f32⟩
  | 81 => ⟨S128x16, .f32⟩
  | 82 => ⟨S128x16, .f32⟩
  | 83 => ⟨S128x64, .f32⟩
  | 84 => ⟨S1x64x1x64, .f32⟩
  | 85 => ⟨S1x64x2x64, .f32⟩
  | 86 => ⟨S64x128, .f32⟩
  | 87 => ⟨S1x128x1x64, .f32⟩
  | 88 => ⟨S1x128x2x64, .f32⟩
  | 89 => ⟨S128x128, .f32⟩
  | 90 => ⟨S1x64x1x64, .f32⟩
  | 91 => ⟨S1x64x2x64, .f32⟩
  | 92 => ⟨S64x128, .f32⟩
  | 93 => ⟨S1x128x1x64, .f32⟩
  | 94 => ⟨S1x128x2x64, .f32⟩
  | 95 => ⟨S128x128, .f32⟩
  | 96 => ⟨S8, .f32⟩
  | 97 => ⟨S_, .f32⟩
  | 98 => ⟨S8, .f32⟩
  | 99 => ⟨S8, .f32⟩
  | 100 => ⟨S_, .f32⟩
  | 101 => ⟨S8, .f32⟩
  | 102 => ⟨S8, .f32⟩
  | 103 => ⟨S_, .f32⟩
  | 104 => ⟨S8, .f32⟩
  | 105 => ⟨S8, .f32⟩
  | 106 => ⟨S_, .f32⟩
  | 107 => ⟨S8, .f32⟩
  | 108 => ⟨S8, .f32⟩
  | 109 => ⟨S_, .f32⟩
  | 110 => ⟨S8, .f32⟩
  | 111 => ⟨S8, .f32⟩
  | 112 => ⟨S128x1, .f32⟩
  | 113 => ⟨S1x8, .f32⟩
  | 114 => ⟨S128x8, .f32⟩
  | 115 => ⟨S128x8, .f32⟩
  | 116 => ⟨S128x8, .f32⟩
  | 117 => ⟨S64x1, .f32⟩
  | 118 => ⟨S1x8, .f32⟩
  | 119 => ⟨S64x8, .f32⟩
  | 120 => ⟨S64x8, .f32⟩
  | 121 => ⟨S64x8, .f32⟩
  | 122 => ⟨S_, .f32⟩
  | 123 => ⟨S128x8, .f32⟩
  | 124 => ⟨S_, .f32⟩
  | 125 => ⟨S64x8, .f32⟩
  | 126 => ⟨S64x8, .f32⟩
  | 127 => ⟨S64x8, .f32⟩
  | _ => ⟨S8192x1024, .f32⟩

abbrev hbmTy0_2 (i : Nat) : BufTy := match i % 128 with
  | 0 => ⟨S64x32, .f32⟩
  | 1 => ⟨S128x8, .f32⟩
  | 2 => ⟨S128x8, .f32⟩
  | 3 => ⟨S128x32, .f32⟩
  | 4 => ⟨S64x8, .f32⟩
  | 5 => ⟨S64x8, .f32⟩
  | 6 => ⟨S64x8, .f32⟩
  | 7 => ⟨S64x32, .f32⟩
  | 8 => ⟨S128x8, .f32⟩
  | 9 => ⟨S128x8, .f32⟩
  | 10 => ⟨S128x8, .f32⟩
  | 11 => ⟨S128x32, .f32⟩
  | 12 => ⟨S_, .f32⟩
  | 13 => ⟨S64x64, .f32⟩
  | 14 => ⟨S_, .f32⟩
  | 15 => ⟨S64x32, .f32⟩
  | 16 => ⟨S64x128, .f32⟩
  | 17 => ⟨S_, .f32⟩
  | 18 => ⟨S128x64, .f32⟩
  | 19 => ⟨S_, .f32⟩
  | 20 => ⟨S128x32, .f32⟩
  | 21 => ⟨S128x128, .f32⟩
  | 22 => ⟨S_, .f32⟩
  | 23 => ⟨S64x64, .f32⟩
  | 24 => ⟨S_, .f32⟩
  | 25 => ⟨S64x32, .f32⟩
  | 26 => ⟨S64x128, .f32⟩
  | 27 => ⟨S_, .f32⟩
  | 28 => ⟨S128x64, .f32⟩
  | 29 => ⟨S_, .f32⟩
  | 30 => ⟨S128x32, .f32⟩
  | 31 => ⟨S128x128, .f32⟩
  | 32 => ⟨S8192x1024, .f32⟩
  | 33 => ⟨S8192x3200, .bf16⟩
  | 34 => ⟨S384x512, .f32⟩
  | 35 => ⟨S256x512, .f32⟩
  | 36 => ⟨S256x512, .f32⟩
  | 37 => ⟨S24x128, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1920, .f32⟩
  | .local _ .vmem, ⟨3, _⟩ => ⟨S256x1920, .f32⟩
  | .local _ .vmem, ⟨4, _⟩ => ⟨S256x1024, .f32⟩
  | .local _ .vmem, ⟨5, _⟩ => ⟨S256x1024, .f32⟩
  | .local _ .vmem, ⟨6, _⟩ => ⟨S256x512, .f32⟩
  | .local _ .vmem, ⟨7, _⟩ => ⟨S256x512, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S256x512, .f32⟩
  | .local _ .vmem, ⟨21, _⟩ => ⟨S256x512, .f32⟩
  | .local _ .vmem, ⟨22, _⟩ => ⟨S64x128, .f32⟩
  | .local _ .vmem, ⟨23, _⟩ => ⟨S128x128, .f32⟩
  | .local _ .vmem, ⟨24, _⟩ => ⟨S64x128, .f32⟩
  | .local _ .vmem, ⟨25, _⟩ => ⟨S128x128, .f32⟩
  | .local _ .vmem, ⟨26, _⟩ => ⟨S64x128, .f32⟩
  | .local _ .vmem, ⟨27, _⟩ => ⟨S128x128, .f32⟩
  | .local _ .vmem, ⟨28, _⟩ => ⟨S64x128, .f32⟩
  | .local _ .vmem, ⟨29, _⟩ => ⟨S128x128, .f32⟩
  | .local _ .vmem, ⟨30, _⟩ => ⟨S1x1024, .f32⟩
  | .local _ .vmem, ⟨31, _⟩ => ⟨S1024x3200, .bf16⟩
  | .local _ .vmem, ⟨32, _⟩ => ⟨S384x512, .bf16⟩
  | .local _ .vmem, ⟨33, _⟩ => ⟨S256x512, .bf16⟩
  | .local _ .vmem, ⟨34, _⟩ => ⟨S256x512, .bf16⟩
  | .local _ .vmem, ⟨35, _⟩ => ⟨S1x128, .f32⟩
  | .local _ .vmem, ⟨36, _⟩ => ⟨S1x128, .f32⟩
  | .local _ .vmem, ⟨37, _⟩ => ⟨S1x384, .f32⟩
  | .local _ .vmem, ⟨38, _⟩ => ⟨S1x256, .f32⟩
  | .local _ .vmem, ⟨39, _⟩ => ⟨S1x128, .f32⟩
  | .local _ .vmem, ⟨40, _⟩ => ⟨S1x128, .f32⟩
  | .local _ .vmem, ⟨41, _⟩ => ⟨S128x128, .bf16⟩
  | .local _ .vmem, ⟨42, _⟩ => ⟨S256x1024, .f32⟩
  | .local _ .vmem, ⟨43, _⟩ => ⟨S256x1024, .f32⟩
  | .local _ .vmem, ⟨44, _⟩ => ⟨S256x3200, .bf16⟩
  | .local _ .vmem, ⟨45, _⟩ => ⟨S256x3200, .bf16⟩
  | .local _ .vmem, ⟨46, _⟩ => ⟨S384x512, .f32⟩
  | .local _ .vmem, ⟨47, _⟩ => ⟨S256x512, .f32⟩
  | .local _ .vmem, ⟨48, _⟩ => ⟨S256x512, .f32⟩
  | .local _ .vmem, ⟨49, _⟩ => ⟨S24x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c : Ref sig .tc := ⟨.hbm, 78, rfl⟩
abbrev main_call0_v0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_2 : Ref sig .tc := ⟨.hbm, 85, rfl⟩
abbrev main_call1_v0 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_3 : Ref sig .tc := ⟨.hbm, 93, rfl⟩
abbrev main_call2_v0 : Ref sig .tc := ⟨.hbm, 94, rfl⟩
abbrev main_v66 : Ref sig .tc := ⟨.hbm, 95, rfl⟩
abbrev main_c_4 : Ref sig .tc := ⟨.hbm, 96, rfl⟩
abbrev main_call3_v0 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_5 : Ref sig .tc := ⟨.hbm, 101, rfl⟩
abbrev main_v70 : Ref sig .tc := ⟨.hbm, 102, rfl⟩
abbrev main_v71 : Ref sig .tc := ⟨.hbm, 103, rfl⟩
abbrev main_cst_6 : Ref sig .tc := ⟨.hbm, 104, rfl⟩
abbrev main_v72 : Ref sig .tc := ⟨.hbm, 105, rfl⟩
abbrev main_v73 : Ref sig .tc := ⟨.hbm, 106, rfl⟩
abbrev main_cst_7 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_8 : Ref sig .tc := ⟨.hbm, 125, rfl⟩
abbrev main_call4_v0 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_9 : Ref sig .tc := ⟨.hbm, 135, rfl⟩
abbrev main_v99 : Ref sig .tc := ⟨.hbm, 136, rfl⟩
abbrev main_v100 : Ref sig .tc := ⟨.hbm, 137, rfl⟩
abbrev main_c_10 : Ref sig .tc := ⟨.hbm, 138, rfl⟩
abbrev main_call5_v0 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_c_11 : Ref sig .tc := ⟨.hbm, 143, rfl⟩
abbrev main_call6_v0 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_c_12 : Ref sig .tc := ⟨.hbm, 148, rfl⟩
abbrev main_call7_v0 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_13 : Ref sig .tc := ⟨.hbm, 153, rfl⟩
abbrev main_v110 : Ref sig .tc := ⟨.hbm, 154, rfl⟩
abbrev main_v111 : Ref sig .tc := ⟨.hbm, 155, rfl⟩
abbrev main_c_14 : Ref sig .tc := ⟨.hbm, 156, rfl⟩
abbrev main_call8_v0 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_c_15 : Ref sig .tc := ⟨.hbm, 161, rfl⟩
abbrev main_call9_v0 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_16 : Ref sig .tc := ⟨.hbm, 169, rfl⟩
abbrev main_v121 : Ref sig .tc := ⟨.hbm, 170, rfl⟩
abbrev main_v122 : Ref sig .tc := ⟨.hbm, 171, rfl⟩
abbrev main_cst_17 : Ref sig .tc := ⟨.hbm, 172, rfl⟩
abbrev main_v123 : Ref sig .tc := ⟨.hbm, 173, rfl⟩
abbrev main_v124 : Ref sig .tc := ⟨.hbm, 174, rfl⟩
abbrev main_cst_18 : Ref sig .tc := ⟨.hbm, 175, rfl⟩
abbrev main_v125 : Ref sig .tc := ⟨.hbm, 176, rfl⟩
abbrev main_v126 : Ref sig .tc := ⟨.hbm, 177, rfl⟩
abbrev main_cst_19 : Ref sig .tc := ⟨.hbm, 178, rfl⟩
abbrev main_v127 : Ref sig .tc := ⟨.hbm, 179, rfl⟩
abbrev main_v128 : Ref sig .tc := ⟨.hbm, 180, rfl⟩
abbrev main_cst_20 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_cst_21 : Ref sig .tc := ⟨.hbm, 194, rfl⟩
abbrev main_v141 : Ref sig .tc := ⟨.hbm, 195, rfl⟩
abbrev main_cst_22 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_cst_23 : Ref sig .tc := ⟨.hbm, 225, rfl⟩
abbrev main_v170 : Ref sig .tc := ⟨.hbm, 226, rfl⟩
abbrev main_v171 : Ref sig .tc := ⟨.hbm, 227, rfl⟩
abbrev main_cst_24 : Ref sig .tc := ⟨.hbm, 228, rfl⟩
abbrev main_v172 : Ref sig .tc := ⟨.hbm, 229, rfl⟩
abbrev main_v173 : Ref sig .tc := ⟨.hbm, 230, rfl⟩
abbrev main_cst_25 : Ref sig .tc := ⟨.hbm, 231, rfl⟩
abbrev main_v174 : Ref sig .tc := ⟨.hbm, 232, rfl⟩
abbrev main_v175 : Ref sig .tc := ⟨.hbm, 233, rfl⟩
abbrev main_cst_26 : Ref sig .tc := ⟨.hbm, 234, rfl⟩
abbrev main_v176 : Ref sig .tc := ⟨.hbm, 235, rfl⟩
abbrev main_v177 : Ref sig .tc := ⟨.hbm, 236, rfl⟩
abbrev main_cst_27 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_cst_28 : Ref sig .tc := ⟨.hbm, 250, rfl⟩
abbrev main_v190 : Ref sig .tc := ⟨.hbm, 251, rfl⟩
abbrev main_cst_29 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_cst_30 : Ref sig .tc := ⟨.hbm, 268, rfl⟩
abbrev main_v206 : Ref sig .tc := ⟨.hbm, 269, rfl⟩
abbrev main_cst_31 : Ref sig .tc := ⟨.hbm, 270, rfl⟩
abbrev main_v207 : Ref sig .tc := ⟨.hbm, 271, rfl⟩
abbrev main_v208 : Ref sig .tc := ⟨.hbm, 272, rfl⟩
abbrev main_cst_32 : Ref sig .tc := ⟨.hbm, 273, rfl⟩
abbrev main_v209 : Ref sig .tc := ⟨.hbm, 274, rfl⟩
abbrev main_cst_33 : Ref sig .tc := ⟨.hbm, 275, rfl⟩
abbrev main_v210 : Ref sig .tc := ⟨.hbm, 276, rfl⟩
abbrev main_v211 : Ref sig .tc := ⟨.hbm, 277, rfl⟩
abbrev main_cst_34 : Ref sig .tc := ⟨.hbm, 278, rfl⟩
abbrev main_v212 : Ref sig .tc := ⟨.hbm, 279, rfl⟩
abbrev main_cst_35 : Ref sig .tc := ⟨.hbm, 280, rfl⟩
abbrev main_v213 : Ref sig .tc := ⟨.hbm, 281, rfl⟩
abbrev main_v214 : Ref sig .tc := ⟨.hbm, 282, rfl⟩
abbrev main_cst_36 : Ref sig .tc := ⟨.hbm, 283, rfl⟩
abbrev main_v215 : Ref sig .tc := ⟨.hbm, 284, rfl⟩
abbrev main_cst_37 : Ref sig .tc := ⟨.hbm, 285, rfl⟩
abbrev main_v216 : Ref sig .tc := ⟨.hbm, 286, rfl⟩
abbrev main_v217 : Ref sig .tc := ⟨.hbm, 287, rfl⟩
abbrev main_v218_0 : Ref sig .tc := ⟨.hbm, 288, rfl⟩
abbrev main_v218_1 : Ref sig .tc := ⟨.hbm, 289, rfl⟩
abbrev main_v218_2 : Ref sig .tc := ⟨.hbm, 290, rfl⟩
abbrev main_v218_3 : Ref sig .tc := ⟨.hbm, 291, rfl⟩
abbrev main_v218_4 : Ref sig .tc := ⟨.hbm, 292, rfl⟩
abbrev main_v218_5 : Ref sig .tc := ⟨.hbm, 293, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg23_0 : Ref sig .tc := ⟨.vmem, 34, rfl⟩
abbrev cc0_stg24_0 : Ref sig .tc := ⟨.vmem, 35, rfl⟩
abbrev cc0_stg25_0 : Ref sig .tc := ⟨.vmem, 36, rfl⟩
abbrev cc0_stg26_0 : Ref sig .tc := ⟨.vmem, 37, rfl⟩
abbrev cc0_stg27_0 : Ref sig .tc := ⟨.vmem, 38, rfl⟩
abbrev cc0_stg28_0 : Ref sig .tc := ⟨.vmem, 39, rfl⟩
abbrev cc0_stg29_0 : Ref sig .tc := ⟨.vmem, 40, rfl⟩
abbrev cc0_stg30_0 : Ref sig .tc := ⟨.vmem, 41, rfl⟩
abbrev cc0_stg31_0 : Ref sig .tc := ⟨.vmem, 42, rfl⟩
abbrev cc0_stg31_1 : Ref sig .tc := ⟨.vmem, 43, rfl⟩
abbrev cc0_stg32_0 : Ref sig .tc := ⟨.vmem, 44, rfl⟩
abbrev cc0_stg32_1 : Ref sig .tc := ⟨.vmem, 45, rfl⟩
abbrev cc0_stg33_0 : Ref sig .tc := ⟨.vmem, 46, rfl⟩
abbrev cc0_stg34_0 : Ref sig .tc := ⟨.vmem, 47, rfl⟩
abbrev cc0_stg35_0 : Ref sig .tc := ⟨.vmem, 48, rfl⟩
abbrev cc0_stg36_0 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem22_0 : DmaSem sig := 33
abbrev cc0_sem23_0 : DmaSem sig := 34
abbrev cc0_sem24_0 : DmaSem sig := 35
abbrev cc0_sem25_0 : DmaSem sig := 36
abbrev cc0_sem26_0 : DmaSem sig := 37
abbrev cc0_sem27_0 : DmaSem sig := 38
abbrev cc0_sem28_0 : DmaSem sig := 39
abbrev cc0_sem29_0 : DmaSem sig := 40
abbrev cc0_sem30_0 : DmaSem sig := 41
abbrev cc0_sem31_0 : DmaSem sig := 42
abbrev cc0_sem31_1 : DmaSem sig := 43
abbrev cc0_sem32_0 : DmaSem sig := 44
abbrev cc0_sem32_1 : DmaSem sig := 45
abbrev cc0_sem33_0 : DmaSem sig := 46
abbrev cc0_sem34_0 : DmaSem sig := 47
abbrev cc0_sem35_0 : DmaSem sig := 48
abbrev cc0_sem36_0 : DmaSem sig := 49

abbrev nD : Nat := 1
abbrev τ : Topo := Topo.v7x

variable {F : FTy → Type} [FloatOps F]

abbrev grid0 : Pipeline.Grid := ⟨1, ![32], ![false]⟩

def k0_off1 (i : grid0.Coords) (c0_i32_33 : BitVec 32) : Fin 2 → Nat :=
  let arg0 : BitVec 32 := BitVec.ofNat 32 (i 0).val
  let c1_i32 : BitVec 32 := 1#32
  let v34 : BitVec 32 := Scalar.muli arg0 c1_i32
  let c0_i32_30 : BitVec 32 := 0#32
  let v35 : BitVec 32 := Scalar.addi v34 c0_i32_30
  let c4_i32 : BitVec 32 := 4#32
  let v38 : BitVec 32 := Scalar.muli v35 c4_i32
  let v39 : BitVec 32 := Scalar.addi v38 c0_i32_33
  let v40 : Index := Scalar.indexCast v39
  let c0_34 : Index := 0#32
  ![v40.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x3200 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S384x512 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x512 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x512 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x384 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S128x128 .bf16 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 2 → Memref sig .tc .vmem S256x1024 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S256x3200 .bf16 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 1 → Memref sig .tc .vmem S384x512 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S256x512 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S256x512 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S24x128 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]
-- ==== PbReferenceIdeal.lean ====
abbrev S8192x1024 : Shape := ⟨2, ![8192, 1024]⟩
abbrev S1x1024 : Shape := ⟨2, ![1, 1024]⟩
abbrev S1024x2464 : Shape := ⟨2, ![1024, 2464]⟩
abbrev S1x64 : Shape := ⟨2, ![1, 64]⟩
abbrev S1x384 : Shape := ⟨2, ![1, 384]⟩
abbrev S1x256 : Shape := ⟨2, ![1, 256]⟩
abbrev S384x384 : Shape := ⟨2, ![384, 384]⟩
abbrev S256x768 : Shape := ⟨2, ![256, 768]⟩
abbrev S1x96 : Shape := ⟨2, ![1, 96]⟩
abbrev S8x8192x64 : Shape := ⟨3, ![8, 8192, 64]⟩
abbrev S2x8192x64 : Shape := ⟨3, ![2, 8192, 64]⟩
abbrev S8192x512 : Shape := ⟨2, ![8192, 512]⟩
abbrev S4x8192x96 : Shape := ⟨3, ![4, 8192, 96]⟩
abbrev S4x8192x128 : Shape := ⟨3, ![4, 8192, 128]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2464 : Shape := ⟨2, ![8192, 2464]⟩
abbrev S8192x128 : Shape := ⟨2, ![8192, 128]⟩
abbrev S8192x384 : Shape := ⟨2, ![8192, 384]⟩
abbrev S8192x256 : Shape := ⟨2, ![8192, 256]⟩
abbrev S8192x32 : Shape := ⟨2, ![8192, 32]⟩
abbrev S256 : Shape := ⟨1, ![256]⟩
abbrev S8192x768 : Shape := ⟨2, ![8192, 768]⟩
abbrev S8192x4x192 : Shape := ⟨3, ![8192, 4, 192]⟩
abbrev S8192x4x128 : Shape := ⟨3, ![8192, 4, 128]⟩
abbrev S768x256 : Shape := ⟨2, ![768, 256]⟩
abbrev S256x4x192 : Shape := ⟨3, ![256, 4, 192]⟩
abbrev S256x4x128 : Shape := ⟨3, ![256, 4, 128]⟩
abbrev S256x512 : Shape := ⟨2, ![256, 512]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2464, .f32⟩
  | .hbm, ⟨3, _⟩ => ⟨S1x64, .f32⟩
  | .hbm, ⟨4, _⟩ => ⟨S1x64, .f32⟩
  | .hbm, ⟨5, _⟩ => ⟨S1x384, .f32⟩
  | .hbm, ⟨6, _⟩ => ⟨S1x256, .f32⟩
  | .hbm, ⟨7, _⟩ => ⟨S384x384, .f32⟩
  | .hbm, ⟨8, _⟩ => ⟨S256x768, .f32⟩
  | .hbm, ⟨9, _⟩ => ⟨S1x96, .f32⟩
  | .hbm, ⟨10, _⟩ => ⟨S1x96, .f32⟩
  | .hbm, ⟨11, _⟩ => ⟨S8192x1024, .f32⟩
  | .hbm, ⟨12, _⟩ => ⟨S8x8192x64, .f32⟩
  | .hbm, ⟨13, _⟩ => ⟨S2x8192x64, .f32⟩
  | .hbm, ⟨14, _⟩ => ⟨S2x8192x64, .f32⟩
  | .hbm, ⟨15, _⟩ => ⟨S8192x512, .f32⟩
  | .hbm, ⟨16, _⟩ => ⟨S4x8192x96, .f32⟩
  | .hbm, ⟨17, _⟩ => ⟨S4x8192x96, .f32⟩
  | .hbm, ⟨18, _⟩ => ⟨S4x8192x128, .f32⟩
  | .hbm, ⟨19, _⟩ => ⟨S8192x512, .f32⟩
  | .hbm, ⟨20, _⟩ => ⟨S1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x2464, .f32⟩
  | .hbm, ⟨38, _⟩ => ⟨S8192x512, .f32⟩
  | .hbm, ⟨39, _⟩ => ⟨S8192x128, .f32⟩
  | .hbm, ⟨40, _⟩ => ⟨S8192x128, .f32⟩
  | .hbm, ⟨41, _⟩ => ⟨S8192x512, .f32⟩
  | .hbm, ⟨42, _⟩ => ⟨S8192x384, .f32⟩
  | .hbm, ⟨43, _⟩ => ⟨S8192x256, .f32⟩
  | .hbm, ⟨44, _⟩ => ⟨S8192x32, .f32⟩
  | .hbm, ⟨45, _⟩ => ⟨S8192x512, .f32⟩
  | .hbm, ⟨46, _⟩ => ⟨S256, .f32⟩
  | .hbm, ⟨47, _⟩ => ⟨S8192x256, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x256, .f32⟩
  | .hbm, ⟨59, _⟩ => ⟨S8192x256, .f32⟩
  | .hbm, ⟨60, _⟩ => ⟨S1x256, .f32⟩
  | .hbm, ⟨61, _⟩ => ⟨S8192x256, .f32⟩
  | .hbm, ⟨62, _⟩ => ⟨S8192x256, .f32⟩
  | .hbm, ⟨63, _⟩ => ⟨S8192x768, .f32⟩
  | .hbm, ⟨64, _⟩ => ⟨S8192x4x192, .f32⟩
  | .hbm, ⟨65, _⟩ => ⟨S8192x4x128, .f32⟩
  | .hbm, ⟨66, _⟩ => ⟨S4x8192x128, .f32⟩
  | .hbm, ⟨67, _⟩ => ⟨S8192x4x128, .f32⟩
  | .hbm, ⟨68, _⟩ => ⟨S_, .f32⟩
  | .hbm, ⟨69, _⟩ => ⟨S8192x4x192, .f32⟩
  | .hbm, ⟨70, _⟩ => ⟨S8192x768, .f32⟩
  | .hbm, ⟨71, _⟩ => ⟨S768x256, .f32⟩
  | .hbm, ⟨72, _⟩ => ⟨S256x768, .f32⟩
  | .hbm, ⟨73, _⟩ => ⟨S256x4x192, .f32⟩
  | .hbm, ⟨74, _⟩ => ⟨S256x4x128, .f32⟩
  | .hbm, ⟨75, _⟩ => ⟨S256x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_cst : Ref sig .tc := ⟨.hbm, 22, rfl⟩
abbrev main_v2 : Ref sig .tc := ⟨.hbm, 23, rfl⟩
abbrev main_v3 : Ref sig .tc := ⟨.hbm, 24, rfl⟩
abbrev main_cst_0 : Ref sig .tc := ⟨.hbm, 25, rfl⟩
abbrev main_v4 : Ref sig .tc := ⟨.hbm, 26, rfl⟩
abbrev main_v5 : Ref sig .tc := ⟨.hbm, 27, rfl⟩
abbrev main_cst_1 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_5 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩

abbrev nD : Nat := 1
abbrev τ : Topo := Topo.v7x

variable {F : FTy → Type} [FloatOps F]
-- ==== Proof.PBody.lean ====
module

public import proofs.«01_k».proof.Proof.Gen.PbKernelIdeal.Frame.Runs
public import proofs.«01_k».proof.Proof.Gen.PbKernelIdeal.Skeleton
public import Idealize.ShloMosaic.Lib.Exec

@[expose] public section

set_option maxRecDepth 16384

noncomputable section

/-! # One grid point of the projections' backward call -/

namespace Cert.PbKernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PbKernelIdeal.Gen

variable {F : FTy → Type} [FloatOps F]

local notation "𝕄" => MT nD τ sig Unit (Elt F) ℕ (UR sig nD τ) ℕ

set_option maxHeartbeats 40000000 in
/-- What one grid point leaves in the six output windows, with the proof that the body leaves it. -/
def run (c : Dev nD) (i : grid0.Coords) (arg1 : Memref sig .tc .vmem S256x1024 .f32) (harg1 : arg1.IsWhole) (arg2 : Memref sig .tc .vmem S256x1920 .f32) (harg2 : arg2.IsWhole) (arg3 : Memref sig .tc .vmem S256x1024 .f32) (harg3 : arg3.IsWhole) (arg4 : Memref sig .tc .vmem S256x512 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S256x512 .f32) (harg11 : arg11.IsWhole) (arg12 : Memref sig .tc .vmem S64x128 .f32) (harg12 : arg12.IsWhole) (arg13 : Memref sig .tc .vmem S128x128 .f32) (harg13 : arg13.IsWhole) (arg14 : Memref sig .tc .vmem S64x128 .f32) (harg14 : arg14.IsWhole) (arg15 : Memref sig .tc .vmem S128x128 .f32) (harg15 : arg15.IsWhole) (arg16 : Memref sig .tc .vmem S64x128 .f32) (harg16 : arg16.IsWhole) (arg17 : Memref sig .tc .vmem S128x128 .f32) (harg17 : arg17.IsWhole) (arg18 : Memref sig .tc .vmem S64x128 .f32) (harg18 : arg18.IsWhole) (arg19 : Memref sig .tc .vmem S128x128 .f32) (harg19 : arg19.IsWhole) (arg20 : Memref sig .tc .vmem S1x1024 .f32) (harg20 : arg20.IsWhole) (arg21 : Memref sig .tc .vmem S1024x3200 .bf16) (harg21 : arg21.IsWhole) (arg22 : Memref sig .tc .vmem S384x512 .bf16) (harg22 : arg22.IsWhole) (arg23 : Memref sig .tc .vmem S256x512 .bf16) (harg23 : arg23.IsWhole) (arg24 : Memref sig .tc .vmem S256x512 .bf16) (harg24 : arg24.IsWhole) (arg25 : Memref sig .tc .vmem S1x128 .f32) (harg25 : arg25.IsWhole) (arg26 : Memref sig .tc .vmem S1x128 .f32) (harg26 : arg26.IsWhole) (arg27 : Memref sig .tc .vmem S1x384 .f32) (harg27 : arg27.IsWhole) (arg28 : Memref sig .tc .vmem S1x256 .f32) (harg28 : arg28.IsWhole) (arg29 : Memref sig .tc .vmem S1x128 .f32) (harg29 : arg29.IsWhole) (arg30 : Memref sig .tc .vmem S1x128 .f32) (harg30 : arg30.IsWhole) (arg31 : Memref sig .tc .vmem S128x128 .bf16) (harg31 : arg31.IsWhole) (arg32 : Memref sig .tc .vmem S256x1024 .f32) (harg32 : arg32.IsWhole) (arg33 : Memref sig .tc .vmem S256x3200 .bf16) (harg33 : arg33.IsWhole) (arg34 : Memref sig .tc .vmem S384x512 .f32) (harg34 : arg34.IsWhole) (arg35 : Memref sig .tc .vmem S256x512 .f32) (harg35 : arg35.IsWhole) (arg36 : Memref sig .tc .vmem S256x512 .f32) (harg36 : arg36.IsWhole) (arg37 : Memref sig .tc .vmem S24x128 .f32) (harg37 : arg37.IsWhole)
    (x0 : Vec F S256x1024 .f32) (x1 : Vec F S256x1920 .f32) (x2 : Vec F S256x1024 .f32) (x3 : Vec F S256x512 .f32) (x4 : Vec F S256x256 .f32) (x5 : Vec F S256x256 .f32) (x6 : Vec F S256x512 .f32) (x7 : Vec F S256x512 .f32) (x8 : Vec F S512x256 .f32) (x9 : Vec F S512x256 .f32) (x10 : Vec F S256x512 .f32) (x11 : Vec F S64x128 .f32) (x12 : Vec F S128x128 .f32) (x13 : Vec F S64x128 .f32) (x14 : Vec F S128x128 .f32) (x15 : Vec F S64x128 .f32) (x16 : Vec F S128x128 .f32) (x17 : Vec F S64x128 .f32) (x18 : Vec F S128x128 .f32) (x19 : Vec F S1x1024 .f32) (x20 : Vec F S1024x3200 .bf16) (x21 : Vec F S384x512 .bf16) (x22 : Vec F S256x512 .bf16) (x23 : Vec F S256x512 .bf16) (x24 : Vec F S1x128 .f32) (x25 : Vec F S1x128 .f32) (x26 : Vec F S1x384 .f32) (x27 : Vec F S1x256 .f32) (x28 : Vec F S1x128 .f32) (x29 : Vec F S1x128 .f32) (x30 : Vec F S128x128 .bf16) (x31 : Vec F S256x1024 .f32) (x32 : Vec F S256x3200 .bf16) (x33 : Vec F S384x512 .f32) (x34 : Vec F S256x512 .f32) (x35 : Vec F S256x512 .f32) (x36 : Vec F S24x128 .f32) :
    Σ' (y31 : Vec F S256x1024 .f32), Σ' (y32 : Vec F S256x3200 .bf16), Σ' (y33 : Vec F S384x512 .f32), Σ' (y34 : Vec F S256x512 .f32), Σ' (y35 : Vec F S256x512 .f32), { y36 : Vec F S24x128 .f32 //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ owns (c : Thread nD τ) arg35 fullShare x34 ∗ owns (c : Thread nD τ) arg36 fullShare x35 ∗ owns (c : Thread nD τ) arg37 fullShare x36 ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare y31 ∗ owns (c : Thread nD τ) arg33 fullShare y32 ∗ owns (c : Thread nD τ) arg34 fullShare y33 ∗ owns (c : Thread nD τ) arg35 fullShare y34 ∗ owns (c : Thread nD τ) arg36 fullShare y35 ∗ owns (c : Thread nD τ) arg37 fullShare y36) -∗ K PUnit.unit))
          ⊢ wp frame (wpE (defs₀ (F := F)) Variants.none c none) E (cc0_pre_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) K } := by
  refine ⟨?_, ?_, ?_, ?_, ?_, ?_, fun E K => ?run⟩
  case run =>
    simp only [cc0_pre_bwd_eq_skeleton]; unfold cc0_pre_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27; obtain rfl := harg29.eq_unread hf28; obtain rfl := harg30.eq_unread hf29; obtain rfl := harg31.eq_unread hf30; obtain rfl := harg32.eq_unread hf31; obtain rfl := harg33.eq_unread hf32; obtain rfl := harg34.eq_unread hf33; obtain rfl := harg35.eq_unread hf34; obtain rfl := harg36.eq_unread hf35; obtain rfl := harg37.eq_unread hf36
    sl_exec
    sl_step
    iapply Hk
    isplitl [H0]
    · iexists _; isplitr
      · ipureintro; exact harg1.read_unread _
      · iexact H0
    isplitl [H1]
    · iexists _; isplitr
      · ipureintro; exact harg2.read_unread _
      · iexact H1
    isplitl [H2]
    · iexists _; isplitr
      · ipureintro; exact harg3.read_unread _
      · iexact H2
    isplitl [H3]
    · iexists _; isplitr
      · ipureintro; exact harg4.read_unread _
      · iexact H3
    isplitl [H4]
    · iexists _; isplitr
      · ipureintro; exact harg5.read_unread _
      · iexact H4
    isplitl [H5]
    · iexists _; isplitr
      · ipureintro; exact harg6.read_unread _
      · iexact H5
    isplitl [H6]
    · iexists _; isplitr
      · ipureintro; exact harg7.read_unread _
      · iexact H6
    isplitl [H7]
    · iexists _; isplitr
      · ipureintro; exact harg8.read_unread _
      · iexact H7
    isplitl [H8]
    · iexists _; isplitr
      · ipureintro; exact harg9.read_unread _
      · iexact H8
    isplitl [H9]
    · iexists _; isplitr
      · ipureintro; exact harg10.read_unread _
      · iexact H9
    isplitl [H10]
    · iexists _; isplitr
      · ipureintro; exact harg11.read_unread _
      · iexact H10
    isplitl [H11]
    · iexists _; isplitr
      · ipureintro; exact harg12.read_unread _
      · iexact H11
    isplitl [H12]
    · iexists _; isplitr
      · ipureintro; exact harg13.read_unread _
      · iexact H12
    isplitl [H13]
    · iexists _; isplitr
      · ipureintro; exact harg14.read_unread _
      · iexact H13
    isplitl [H14]
    · iexists _; isplitr
      · ipureintro; exact harg15.read_unread _
      · iexact H14
    isplitl [H15]
    · iexists _; isplitr
      · ipureintro; exact harg16.read_unread _
      · iexact H15
    isplitl [H16]
    · iexists _; isplitr
      · ipureintro; exact harg17.read_unread _
      · iexact H16
    isplitl [H17]
    · iexists _; isplitr
      · ipureintro; exact harg18.read_unread _
      · iexact H17
    isplitl [H18]
    · iexists _; isplitr
      · ipureintro; exact harg19.read_unread _
      · iexact H18
    isplitl [H19]
    · iexists _; isplitr
      · ipureintro; exact harg20.read_unread _
      · iexact H19
    isplitl [H20]
    · iexists _; isplitr
      · ipureintro; exact harg21.read_unread _
      · iexact H20
    isplitl [H21]
    · iexists _; isplitr
      · ipureintro; exact harg22.read_unread _
      · iexact H21
    isplitl [H22]
    · iexists _; isplitr
      · ipureintro; exact harg23.read_unread _
      · iexact H22
    isplitl [H23]
    · iexists _; isplitr
      · ipureintro; exact harg24.read_unread _
      · iexact H23
    isplitl [H24]
    · iexists _; isplitr
      · ipureintro; exact harg25.read_unread _
      · iexact H24
    isplitl [H25]
    · iexists _; isplitr
      · ipureintro; exact harg26.read_unread _
      · iexact H25
    isplitl [H26]
    · iexists _; isplitr
      · ipureintro; exact harg27.read_unread _
      · iexact H26
    isplitl [H27]
    · iexists _; isplitr
      · ipureintro; exact harg28.read_unread _
      · iexact H27
    isplitl [H28]
    · iexists _; isplitr
      · ipureintro; exact harg29.read_unread _
      · iexact H28
    isplitl [H29]
    · iexists _; isplitr
      · ipureintro; exact harg30.read_unread _
      · iexact H29
    isplitl [H30]
    · iexists _; isplitr
      · ipureintro; exact harg31.read_unread _
      · iexact H30
    isplitl [H31]
    · iexists _; isplitr
      · ipureintro; rfl
      · iexact H31
    isplitl [H32]
    · iexists _; isplitr
      · ipureintro; rfl
      · iexact H32
    isplitl [H33]
    · iexists _; isplitr
      · ipureintro; rfl
      · iexact H33
    isplitl [H34]
    · iexists _; isplitr
      · ipureintro; rfl
      · iexact H34
    isplitl [H35]
    · iexists _; isplitr
      · ipureintro; rfl
      · iexact H35
    iexists _; isplitr
    · ipureintro; rfl
    · iexact H36

end Cert.PbKernelIdeal.Body

end
-- ==== Proof.PRead.lean ====
module

public import proofs.«01_k».proof.Proof.PBody
public import Idealize.ShloMosaic.Lib.VecWindow
public import Idealize.ShloMosaic.Lib.WholeRead

@[expose] public section

set_option maxRecDepth 16384

noncomputable section

/-! # What a point leaves does not hang on what its fresh blocks held before -/

namespace Cert.PbKernelIdeal.Body

open Idealize.ShloMosaic Idealize.ShloMosaic.TcCoe Idealize.ShloMosaic.Tactic
open Cert.PbKernelIdeal.Gen

variable {F : FTy → Type} [FloatOps F]

/-- A block that the first point clears, as the later stores find it. -/
theorem start_eq {s : Shape} {e : EltTy} (i : grid0.Coords) (arg : Memref sig .tc .vmem s e) (harg : arg.IsWhole) (x : Vec F s e)
    {off : Fin s.rank → ℕ} (inb : ∀ a, off a + s.size a ≤ s.size a) (p : Vec F s e) :
    (if hc : run.sl.v2 i = 1#1 then arg.view.writes (Elt F) (harg.unread x) [⟨Rect.unit off s.size inb, p⟩] else harg.unread x)
      = harg.unread (if run.sl.v2 i = 1#1 then p else x) := by
  by_cases h : run.sl.v2 i = 1#1
  · rw [dif_pos h, if_pos h]
    exact harg.eq_unread (View.read_writes_full _ _ _ _ _)
  · rw [dif_neg h, if_neg h]

theorem start_congr {s : Shape} {e : EltTy} (i : grid0.Coords) (p x y : Vec F s e) (h : run.sl.v2 i ≠ 1#1 → x = y) :
    (if run.sl.v2 i = 1#1 then p else x) = if run.sl.v2 i = 1#1 then p else y := by
  by_cases hc : run.sl.v2 i = 1#1
  · rw [if_pos hc, if_pos hc]
  · rw [if_neg hc, if_neg hc, h hc]

variable (c : Dev nD) (i : grid0.Coords) (arg1 : Memref sig .tc .vmem S256x1024 .f32) (harg1 : arg1.IsWhole) (arg2 : Memref sig .tc .vmem S256x1920 .f32) (harg2 : arg2.IsWhole) (arg3 : Memref sig .tc .vmem S256x1024 .f32) (harg3 : arg3.IsWhole) (arg4 : Memref sig .tc .vmem S256x512 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S256x512 .f32) (harg11 : arg11.IsWhole) (arg12 : Memref sig .tc .vmem S64x128 .f32) (harg12 : arg12.IsWhole) (arg13 : Memref sig .tc .vmem S128x128 .f32) (harg13 : arg13.IsWhole) (arg14 : Memref sig .tc .vmem S64x128 .f32) (harg14 : arg14.IsWhole) (arg15 : Memref sig .tc .vmem S128x128 .f32) (harg15 : arg15.IsWhole) (arg16 : Memref sig .tc .vmem S64x128 .f32) (harg16 : arg16.IsWhole) (arg17 : Memref sig .tc .vmem S128x128 .f32) (harg17 : arg17.IsWhole) (arg18 : Memref sig .tc .vmem S64x128 .f32) (harg18 : arg18.IsWhole) (arg19 : Memref sig .tc .vmem S128x128 .f32) (harg19 : arg19.IsWhole) (arg20 : Memref sig .tc .vmem S1x1024 .f32) (harg20 : arg20.IsWhole) (arg21 : Memref sig .tc .vmem S1024x3200 .bf16) (harg21 : arg21.IsWhole) (arg22 : Memref sig .tc .vmem S384x512 .bf16) (harg22 : arg22.IsWhole) (arg23 : Memref sig .tc .vmem S256x512 .bf16) (harg23 : arg23.IsWhole) (arg24 : Memref sig .tc .vmem S256x512 .bf16) (harg24 : arg24.IsWhole) (arg25 : Memref sig .tc .vmem S1x128 .f32) (harg25 : arg25.IsWhole) (arg26 : Memref sig .tc .vmem S1x128 .f32) (harg26 : arg26.IsWhole) (arg27 : Memref sig .tc .vmem S1x384 .f32) (harg27 : arg27.IsWhole) (arg28 : Memref sig .tc .vmem S1x256 .f32) (harg28 : arg28.IsWhole) (arg29 : Memref sig .tc .vmem S1x128 .f32) (harg29 : arg29.IsWhole) (arg30 : Memref sig .tc .vmem S1x128 .f32) (harg30 : arg30.IsWhole) (arg31 : Memref sig .tc .vmem S128x128 .bf16) (harg31 : arg31.IsWhole) (arg32 : Memref sig .tc .vmem S256x1024 .f32) (harg32 : arg32.IsWhole) (arg33 : Memref sig .tc .vmem S256x3200 .bf16) (harg33 : arg33.IsWhole) (arg34 : Memref sig .tc .vmem S384x512 .f32) (harg34 : arg34.IsWhole) (arg35 : Memref sig .tc .vmem S256x512 .f32) (harg35 : arg35.IsWhole) (arg36 : Memref sig .tc .vmem S256x512 .f32) (harg36 : arg36.IsWhole) (arg37 : Memref sig .tc .vmem S24x128 .f32) (harg37 : arg37.IsWhole)
    (x0 : Vec F S256x1024 .f32) (x1 : Vec F S256x1920 .f32) (x2 : Vec F S256x1024 .f32) (x3 : Vec F S256x512 .f32) (x4 : Vec F S256x256 .f32) (x5 : Vec F S256x256 .f32) (x6 : Vec F S256x512 .f32) (x7 : Vec F S256x512 .f32) (x8 : Vec F S512x256 .f32) (x9 : Vec F S512x256 .f32) (x10 : Vec F S256x512 .f32) (x11 : Vec F S64x128 .f32) (x12 : Vec F S128x128 .f32) (x13 : Vec F S64x128 .f32) (x14 : Vec F S128x128 .f32) (x15 : Vec F S64x128 .f32) (x16 : Vec F S128x128 .f32) (x17 : Vec F S64x128 .f32) (x18 : Vec F S128x128 .f32) (x19 : Vec F S1x1024 .f32) (x20 : Vec F S1024x3200 .bf16) (x21 : Vec F S384x512 .bf16) (x22 : Vec F S256x512 .bf16) (x23 : Vec F S256x512 .bf16) (x24 : Vec F S1x128 .f32) (x25 : Vec F S1x128 .f32) (x26 : Vec F S1x384 .f32) (x27 : Vec F S1x256 .f32) (x28 : Vec F S1x128 .f32) (x29 : Vec F S1x128 .f32) (x30 : Vec F S128x128 .bf16)
    (x31 y31 : Vec F S256x1024 .f32) (x32 y32 : Vec F S256x3200 .bf16) (x33 y33 : Vec F S384x512 .f32) (x34 y34 : Vec F S256x512 .f32) (x35 y35 : Vec F S256x512 .f32) (x36 y36 : Vec F S24x128 .f32)

/-- The same for the block of the gains' gradients, as the row stores name its shape. -/
theorem small_start (x : Vec F S24x128 .f32) :
    (if hc : run.sl.v2 i = 1#1 then arg37.view.writes (Elt F) (harg37.unread x) [⟨Rect.unit ![0, 0] ![24, 128] inb_S24x128_S24x128_0_0, k0_pay5⟩] else harg37.unread x)
      = harg37.unread (if run.sl.v2 i = 1#1 then k0_pay5 else x) :=
  start_eq i arg37 harg37 x inb_S24x128_S24x128_0_0 k0_pay5

/-- A store over a whole block leaves the same whatever the block held. -/
theorem full_congr {s : Shape} {e : EltTy} (v : View sig .tc .vmem s e) (f g : v.ty.Contents (Elt F)) {off sz : Fin s.rank → ℕ} (hs : sz = s.size)
    (inb : ∀ a, off a + sz a ≤ s.size a) (w : (Rect.unit off sz inb).shape.Idx → Elt F e) :
    v.read (Elt F) (v.writes (Elt F) f [⟨Rect.unit off sz inb, w⟩]) = v.read (Elt F) (v.writes (Elt F) g [⟨Rect.unit off sz inb, w⟩]) := by
  subst hs
  exact (View.read_writes_full _ _ inb w []).trans (View.read_writes_full _ _ inb w []).symm

set_option maxHeartbeats 1000000 in
theorem dx_congr : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 x29 x30 x31 x32 x33 x34 x35 x36).1
    = (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 x29 x30 y31 y32 y33 y34 y35 y36).1 := by
  unfold run
  dsimp only
  exact full_congr arg32.view _ _ (by rfl) _ _

set_option maxHeartbeats 1000000 in
theorem dproj_congr : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 x29 x30 x31 x32 x33 x34 x35 x36).2.1
    = (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 x29 x30 y31 y32 y33 y34 y35 y36).2.1 := by
  unfold run
  dsimp only
  exact full_congr arg33.view _ _ (by rfl) _ _

set_option maxHeartbeats 1000000 in
theorem duq_congr (h : run.sl.v2 i ≠ 1#1 → x33 = y33) : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 x29 x30 x31 x32 x33 x34 x35 x36).2.2.1
    = (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 x29 x30 y31 y32 y33 y34 y35 y36).2.2.1 := by
  unfold run
  dsimp only
  refine (View.read_writes_full _ _ _ _ _).trans (Eq.trans ?_ (View.read_writes_full _ _ _ _ _).symm)
  unfold run.sl.v676
  rw [start_eq, start_eq, start_congr i _ x33 y33 h]

set_option maxHeartbeats 1000000 in
theorem duk_congr (h : run.sl.v2 i ≠ 1#1 → x34 = y34) : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 x29 x30 x31 x32 x33 x34 x35 x36).2.2.2.1
    = (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 x29 x30 y31 y32 y33 y34 y35 y36).2.2.2.1 := by
  unfold run
  dsimp only
  refine (View.read_writes_full _ _ _ _ _).trans (Eq.trans ?_ (View.read_writes_full _ _ _ _ _).symm)
  unfold run.sl.r_122 run.sl.v797
  rw [start_eq, start_eq, start_congr i _ x34 y34 h]

set_option maxHeartbeats 1000000 in
theorem duv_congr (h : run.sl.v2 i ≠ 1#1 → x35 = y35) : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 x29 x30 x31 x32 x33 x34 x35 x36).2.2.2.2.1
    = (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 x29 x30 y31 y32 y33 y34 y35 y36).2.2.2.2.1 := by
  unfold run
  dsimp only
  refine (View.read_writes_full _ _ _ _ _).trans (Eq.trans ?_ (View.read_writes_full _ _ _ _ _).symm)
  unfold run.sl.v802
  rw [start_eq, start_eq, start_congr i _ x35 y35 h]

set_option maxHeartbeats 1000000 in
theorem small_congr (h : run.sl.v2 i ≠ 1#1 → x36 = y36) : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 x29 x30 x31 x32 x33 x34 x35 x36).2.2.2.2.2.1
    = (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 x29 x30 y31 y32 y33 y34 y35 y36).2.2.2.2.2.1 := by
  unfold run
  dsimp only
  unfold run.sl.r_126 run.sl.r_127 run.sl.r_128
  have key := (small_start i arg37 harg37 x36).trans ((congrArg harg37.unread (start_congr i k0_pay5 x36 y36 h)).trans (small_start i arg37 harg37 y36).symm)
  rw [show run.sl.v874 c i arg37 harg37 x36 = run.sl.v874 c i arg37 harg37 y36 from by unfold run.sl.v874; exact congrArg _ key]
  rw [show run.sl.v859 c i arg37 harg37 x36 = run.sl.v859 c i arg37 harg37 y36 from by unfold run.sl.v859; exact congrArg _ key]
  rw [show run.sl.v854 c i arg37 harg37 x36 = run.sl.v854 c i arg37 harg37 y36 from by unfold run.sl.v854; exact congrArg _ key]
  rw [show run.sl.v922 c i arg37 harg37 x36 = run.sl.v922 c i arg37 harg37 y36 from by unfold run.sl.v922; exact congrArg _ key]
  rw [show run.sl.v889 c i arg37 harg37 x36 = run.sl.v889 c i arg37 harg37 y36 from by unfold run.sl.v889; exact congrArg _ key]
  rw [show run.sl.v869 c i arg37 harg37 x36 = run.sl.v869 c i arg37 harg37 y36 from by unfold run.sl.v869; exact congrArg _ key]
  rw [show run.sl.v931 c i arg37 harg37 x36 = run.sl.v931 c i arg37 harg37 y36 from by unfold run.sl.v931; exact congrArg _ key]
  rw [show run.sl.v927 c i arg37 harg37 x36 = run.sl.v927 c i arg37 harg37 y36 from by unfold run.sl.v927; exact congrArg _ key]
  rw [show run.sl.v912 c i arg37 harg37 x36 = run.sl.v912 c i arg37 harg37 y36 from by unfold run.sl.v912; exact congrArg _ key]
  rw [show run.sl.v894 c i arg37 harg37 x36 = run.sl.v894 c i arg37 harg37 y36 from by unfold run.sl.v894; exact congrArg _ key]
  rw [show run.sl.v864 c i arg37 harg37 x36 = run.sl.v864 c i arg37 harg37 y36 from by unfold run.sl.v864; exact congrArg _ key]
  rw [show run.sl.v902 c i arg37 harg37 x36 = run.sl.v902 c i arg37 harg37 y36 from by unfold run.sl.v902; exact congrArg _ key]
  rw [show run.sl.v907 c i arg37 harg37 x36 = run.sl.v907 c i arg37 harg37 y36 from by unfold run.sl.v907; exact congrArg _ key]
  rw [show run.sl.v917 c i arg37 harg37 x36 = run.sl.v917 c i arg37 harg37 y36 from by unfold run.sl.v917; exact congrArg _ key]
  rw [show run.sl.v884 c i arg37 harg37 x36 = run.sl.v884 c i arg37 harg37 y36 from by unfold run.sl.v884; exact congrArg _ key]
  rw [show run.sl.v879 c i arg37 harg37 x36 = run.sl.v879 c i arg37 harg37 y36 from by unfold run.sl.v879; exact congrArg _ key]
  rw [show run.sl.v898 c i arg37 harg37 x36 = run.sl.v898 c i arg37 harg37 y36 from by unfold run.sl.v898; exact congrArg _ key]
  exact congrArg (fun b => arg37.view.read (Elt F) (arg37.view.writes (Elt F) b _)) key

end Cert.PbKernelIdeal.Body

end
-- ==== Proof.PFrame.lean ====
module

public import proofs.«01_k».proof.Proof.PRead
public import Idealize.ShloMosaic.Lib.Claim

@[expose] public section

set_option maxRecDepth 16384

noncomputable section

/-! # The projections' backward call, point by point, and its frame -/

namespace Cert.PbKernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PbKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six output blocks. -/
abbrev Outs (F : FTy → Type) [FloatOps F] : Type := Vec F S256x1024 .f32 × Vec F S256x3200 .bf16 × Vec F S384x512 .f32 × Vec F S256x512 .f32 × Vec F S256x512 .f32 × Vec F S24x128 .f32

/-- The body's run at a point, over what the windows hold there. -/
def runAt (c : Dev nD) (t : Fin cfg0.N) (p : Outs F) :=
  run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) p.1 p.2.1 p.2.2.1 p.2.2.2.1 p.2.2.2.2.1 p.2.2.2.2.2

/-- What the six output blocks hold after a point, from what they held before it. -/
def outsStep (c : Dev nD) (t : Fin cfg0.N) (p : Outs F) : Outs F :=
  ((runAt m c t p).1, (runAt m c t p).2.1, (runAt m c t p).2.2.1, (runAt m c t p).2.2.2.1, (runAt m c t p).2.2.2.2.1, (runAt m c t p).2.2.2.2.2.1)

/-- The six output blocks after each point. -/
def outsAt (c : Dev nD) : (n : ℕ) → n < cfg0.N → Outs F
  | 0, h => outsStep m c ⟨0, h⟩ ((fun _ => Scalar.ofBits .f32 0x00000000#32), (fun _ => Scalar.ofBits .bf16 0x0000#16), k0_pay2, k0_pay3, k0_pay4, k0_pay5)
  | n + 1, h => outsStep m c ⟨n + 1, h⟩ (outsAt c n (Nat.lt_of_succ_lt h))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => (outsAt m c t.val t.isLt).1
    | ⟨32, _⟩ => (outsAt m c t.val t.isLt).2.1
    | ⟨33, _⟩ => (outsAt m c t.val t.isLt).2.2.1
    | ⟨34, _⟩ => (outsAt m c t.val t.isLt).2.2.2.1
    | ⟨35, _⟩ => (outsAt m c t.val t.isLt).2.2.2.2.1
    | ⟨36, _⟩ => (outsAt m c t.val t.isLt).2.2.2.2.2
    | ⟨_ + 37, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = iblk m c 25 t := by dsimp only [dats]
theorem after_26 (c : Dev nD) (t : Fin cfg0.N) : (dats m 0 c).after 26 t = iblk m c 26 t := by dsimp only [dats]
theorem after_27 (c : Dev nD) (t : Fin cfg0.N) : (dats m 0 c).after 27 t = iblk m c 27 t := by dsimp only [dats]
theorem after_28 (c : Dev nD) (t : Fin cfg0.N) : (dats m 0 c).after 28 t = iblk m c 28 t := by dsimp only [dats]
theorem after_29 (c : Dev nD) (t : Fin cfg0.N) : (dats m 0 c).after 29 t = iblk m c 29 t := by dsimp only [dats]
theorem after_30 (c : Dev nD) (t : Fin cfg0.N) : (dats m 0 c).after 30 t = iblk m c 30 t := by dsimp only [dats]
theorem after_31 (c : Dev nD) (t : Fin cfg0.N) : (dats m 0 c).after 31 t = (outsAt m c t.val t.isLt).1 := by dsimp only [dats]
theorem after_32 (c : Dev nD) (t : Fin cfg0.N) : (dats m 0 c).after 32 t = (outsAt m c t.val t.isLt).2.1 := by dsimp only [dats]
theorem after_33 (c : Dev nD) (t : Fin cfg0.N) : (dats m 0 c).after 33 t = (outsAt m c t.val t.isLt).2.2.1 := by dsimp only [dats]
theorem after_34 (c : Dev nD) (t : Fin cfg0.N) : (dats m 0 c).after 34 t = (outsAt m c t.val t.isLt).2.2.2.1 := by dsimp only [dats]
theorem after_35 (c : Dev nD) (t : Fin cfg0.N) : (dats m 0 c).after 35 t = (outsAt m c t.val t.isLt).2.2.2.2.1 := by dsimp only [dats]
theorem after_36 (c : Dev nD) (t : Fin cfg0.N) : (dats m 0 c).after 36 t = (outsAt m c t.val t.isLt).2.2.2.2.2 := by dsimp only [dats]

/-- The first point is where the body clears its blocks. -/
theorem first_iff (t : Fin cfg0.N) : run.sl.v2 (grid0.coords t) = 1#1 ↔ t.val % 32 = 0 := hcond0_0 t

/-- The first point leaves the same whatever its blocks held. -/
theorem outsStep_congr (c : Dev nD) (t : Fin cfg0.N) (p p' : Outs F) (h : t.val % 32 ≠ 0 → p.2.2 = p'.2.2) :
    outsStep m c t p = outsStep m c t p' := by
  have h' : run.sl.v2 (grid0.coords t) ≠ 1#1 → p.2.2 = p'.2.2 := fun e => h fun e' => e ((first_iff t).2 e')
  unfold outsStep runAt
  refine Prod.ext ?_ (Prod.ext ?_ (Prod.ext ?_ (Prod.ext ?_ (Prod.ext ?_ ?_)))) <;> dsimp only
  · apply dx_congr
  · apply dproj_congr
  · apply duq_congr
    exact fun e => congrArg (·.1) (h' e)
  · apply duk_congr
    exact fun e => congrArg (·.2.1) (h' e)
  · apply duv_congr
    exact fun e => congrArg (·.2.2.1) (h' e)
  · apply small_congr
    exact fun e => congrArg (·.2.2.2) (h' e)

/-- What a window's buffer held before a point: what the point before left, unless the point starts the block. -/
theorem outsAt_before (c : Dev nD) (t : Fin cfg0.N) (d31 d32 d33 d34 d35 d36) :
    outsStep m c t ((dats m 0 c).before 31 t d31, (dats m 0 c).before 32 t d32, (dats m 0 c).before 33 t d33, (dats m 0 c).before 34 t d34, (dats m 0 c).before 35 t d35, (dats m 0 c).before 36 t d36)
      = outsAt m c t.val t.isLt := by
  rcases t with ⟨n, hn⟩
  have hN : cfg0.N = 32 := N_0
  cases n with
  | zero => exact outsStep_congr m c ⟨0, hn⟩ _ _ (fun h => absurd rfl h)
  | succ n =>
    refine outsStep_congr m c ⟨n + 1, hn⟩ _ _ (fun h => ?_)
    have h' : ¬ (n + 1) % 32 = 0 := h
    refine Prod.ext ?_ (Prod.ext ?_ (Prod.ext ?_ ?_))
    · refine ((dats m 0 c).before_out_kept 33 rfl ⟨n + 1, hn⟩ (Nat.succ_ne_zero n) ?_ (fun _ => rfl) (fun _ _ => rfl) d33).trans
        (after_33 m c _)
      rw [Bool.eq_false_iff, Ne, flush0_33]
      show ¬ (n + 1 - 1) % 32 = 31
      omega
    · refine ((dats m 0 c).before_out_kept 34 rfl ⟨n + 1, hn⟩ (Nat.succ_ne_zero n) ?_ (fun _ => rfl) (fun _ _ => rfl) d34).trans
        (after_34 m c _)
      rw [Bool.eq_false_iff, Ne, flush0_34]
      show ¬ (n + 1 - 1) % 32 = 31
      omega
    · refine ((dats m 0 c).before_out_kept 35 rfl ⟨n + 1, hn⟩ (Nat.succ_ne_zero n) ?_ (fun _ => rfl) (fun _ _ => rfl) d35).trans
        (after_35 m c _)
      rw [Bool.eq_false_iff, Ne, flush0_35]
      show ¬ (n + 1 - 1) % 32 = 31
      omega
    · refine ((dats m 0 c).before_out_kept 36 rfl ⟨n + 1, hn⟩ (Nat.succ_ne_zero n) ?_ (fun _ => rfl) (fun _ _ => rfl) d36).trans
        (after_36 m c _)
      rw [Bool.eq_false_iff, Ne, flush0_36]
      show ¬ (n + 1 - 1) % 32 = 31
      omega

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d
theorem before_20 (c : Dev nD) (t : Fin cfg0.N) (d) : (dats m 0 c).before 20 t d = iblk m c 20 t :=
  before0_20_of m (dats m 0 c) (A_eq m c 20) (after_20 m c) t d
theorem before_21 (c : Dev nD) (t : Fin cfg0.N) (d) : (dats m 0 c).before 21 t d = iblk m c 21 t :=
  before0_21_of m (dats m 0 c) (A_eq m c 21) (after_21 m c) t d
theorem before_22 (c : Dev nD) (t : Fin cfg0.N) (d) : (dats m 0 c).before 22 t d = iblk m c 22 t :=
  before0_22_of m (dats m 0 c) (A_eq m c 22) (after_22 m c) t d
theorem before_23 (c : Dev nD) (t : Fin cfg0.N) (d) : (dats m 0 c).before 23 t d = iblk m c 23 t :=
  before0_23_of m (dats m 0 c) (A_eq m c 23) (after_23 m c) t d
theorem before_24 (c : Dev nD) (t : Fin cfg0.N) (d) : (dats m 0 c).before 24 t d = iblk m c 24 t :=
  before0_24_of m (dats m 0 c) (A_eq m c 24) (after_24 m c) t d
theorem before_25 (c : Dev nD) (t : Fin cfg0.N) (d) : (dats m 0 c).before 25 t d = iblk m c 25 t :=
  before0_25_of m (dats m 0 c) (A_eq m c 25) (after_25 m c) t d
theorem before_26 (c : Dev nD) (t : Fin cfg0.N) (d) : (dats m 0 c).before 26 t d = iblk m c 26 t :=
  before0_26_of m (dats m 0 c) (A_eq m c 26) (after_26 m c) t d
theorem before_27 (c : Dev nD) (t : Fin cfg0.N) (d) : (dats m 0 c).before 27 t d = iblk m c 27 t :=
  before0_27_of m (dats m 0 c) (A_eq m c 27) (after_27 m c) t d
theorem before_28 (c : Dev nD) (t : Fin cfg0.N) (d) : (dats m 0 c).before 28 t d = iblk m c 28 t :=
  before0_28_of m (dats m 0 c) (A_eq m c 28) (after_28 m c) t d
theorem before_29 (c : Dev nD) (t : Fin cfg0.N) (d) : (dats m 0 c).before 29 t d = iblk m c 29 t :=
  before0_29_of m (dats m 0 c) (A_eq m c 29) (after_29 m c) t d
theorem before_30 (c : Dev nD) (t : Fin cfg0.N) (d) : (dats m 0 c).before 30 t d = iblk m c 30 t :=
  before0_30_of m (dats m 0 c) (A_eq m c 30) (after_30 m c) t d

theorem phi_eq (c : Dev nD) (t : Fin cfg0.N) : (dats m 0 c).Φ t.succ = (dats m 0 c).Φ t.castSucc := rfl
theorem owes_eq (c : Dev nD) (t : Fin cfg0.N) : (dats m 0 c).owesAt () t.succ = (dats m 0 c).owesAt () t.castSucc := rfl

set_option maxHeartbeats 8000000 in
/-- The body's triple at a point. -/
theorem sound_body (c : Dev nD) (t : Fin cfg0.N) :
    iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)) ∗ (∃ d, owns (c : Thread nD τ) (st0_19 t) fullShare ((dats m 0 c).before 19 t d)) ∗ (∃ d, owns (c : Thread nD τ) (st0_20 t) fullShare ((dats m 0 c).before 20 t d)) ∗ (∃ d, owns (c : Thread nD τ) (st0_21 t) fullShare ((dats m 0 c).before 21 t d)) ∗ (∃ d, owns (c : Thread nD τ) (st0_22 t) fullShare ((dats m 0 c).before 22 t d)) ∗ (∃ d, owns (c : Thread nD τ) (st0_23 t) fullShare ((dats m 0 c).before 23 t d)) ∗ (∃ d, owns (c : Thread nD τ) (st0_24 t) fullShare ((dats m 0 c).before 24 t d)) ∗ (∃ d, owns (c : Thread nD τ) (st0_25 t) fullShare ((dats m 0 c).before 25 t d)) ∗ (∃ d, owns (c : Thread nD τ) (st0_26 t) fullShare ((dats m 0 c).before 26 t d)) ∗ (∃ d, owns (c : Thread nD τ) (st0_27 t) fullShare ((dats m 0 c).before 27 t d)) ∗ (∃ d, owns (c : Thread nD τ) (st0_28 t) fullShare ((dats m 0 c).before 28 t d)) ∗ (∃ d, owns (c : Thread nD τ) (st0_29 t) fullShare ((dats m 0 c).before 29 t d)) ∗ (∃ d, owns (c : Thread nD τ) (st0_30 t) fullShare ((dats m 0 c).before 30 t d)) ∗ (∃ d, owns (c : Thread nD τ) (st0_31 t) fullShare ((dats m 0 c).before 31 t d)) ∗ (∃ d, owns (c : Thread nD τ) (st0_32 t) fullShare ((dats m 0 c).before 32 t d)) ∗ (∃ d, owns (c : Thread nD τ) (st0_33 t) fullShare ((dats m 0 c).before 33 t d)) ∗ (∃ d, owns (c : Thread nD τ) (st0_34 t) fullShare ((dats m 0 c).before 34 t d)) ∗ (∃ d, owns (c : Thread nD τ) (st0_35 t) fullShare ((dats m 0 c).before 35 t d)) ∗ (∃ d, owns (c : Thread nD τ) (st0_36 t) fullShare ((dats m 0 c).before 36 t d)))
      ⊢ wp frame (wpE (defs₀ (F := F)) Variants.none c none) Set.univ (bodyAt0 t) (fun _ =>
        iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t) ∗ owns (c : Thread nD τ) (st0_18 t) fullShare ((dats m 0 c).after 18 t) ∗ owns (c : Thread nD τ) (st0_19 t) fullShare ((dats m 0 c).after 19 t) ∗ owns (c : Thread nD τ) (st0_20 t) fullShare ((dats m 0 c).after 20 t) ∗ owns (c : Thread nD τ) (st0_21 t) fullShare ((dats m 0 c).after 21 t) ∗ owns (c : Thread nD τ) (st0_22 t) fullShare ((dats m 0 c).after 22 t) ∗ owns (c : Thread nD τ) (st0_23 t) fullShare ((dats m 0 c).after 23 t) ∗ owns (c : Thread nD τ) (st0_24 t) fullShare ((dats m 0 c).after 24 t) ∗ owns (c : Thread nD τ) (st0_25 t) fullShare ((dats m 0 c).after 25 t) ∗ owns (c : Thread nD τ) (st0_26 t) fullShare ((dats m 0 c).after 26 t) ∗ owns (c : Thread nD τ) (st0_27 t) fullShare ((dats m 0 c).after 27 t) ∗ owns (c : Thread nD τ) (st0_28 t) fullShare ((dats m 0 c).after 28 t) ∗ owns (c : Thread nD τ) (st0_29 t) fullShare ((dats m 0 c).after 29 t) ∗ owns (c : Thread nD τ) (st0_30 t) fullShare ((dats m 0 c).after 30 t) ∗ owns (c : Thread nD τ) (st0_31 t) fullShare ((dats m 0 c).after 31 t) ∗ owns (c : Thread nD τ) (st0_32 t) fullShare ((dats m 0 c).after 32 t) ∗ owns (c : Thread nD τ) (st0_33 t) fullShare ((dats m 0 c).after 33 t) ∗ owns (c : Thread nD τ) (st0_34 t) fullShare ((dats m 0 c).after 34 t) ∗ owns (c : Thread nD τ) (st0_35 t) fullShare ((dats m 0 c).after 35 t) ∗ owns (c : Thread nD τ) (st0_36 t) fullShare ((dats m 0 c).after 36 t))) := by
  unfold bodyAt0
  simp only [before_0, before_1, before_2, before_3, before_4, before_5, before_6, before_7, before_8, before_9, before_10, before_11, before_12, before_13, before_14, before_15, before_16, before_17, before_18, before_19, before_20, before_21, before_22, before_23, before_24, before_25, before_26, before_27, before_28, before_29, before_30]
  rw [phi_eq, owes_eq, after_0, after_1, after_2, after_3, after_4, after_5, after_6, after_7, after_8, after_9, after_10, after_11, after_12, after_13, after_14, after_15, after_16, after_17, after_18, after_19, after_20, after_21, after_22, after_23, after_24, after_25, after_26, after_27, after_28, after_29, after_30, after_31, after_32, after_33, after_34, after_35, after_36]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
  rw [← outsAt_before m c t d31 d32 d33 d34 d35 d36]
  unfold outsStep
  dsimp only
  iapply ((runAt m c t ((dats m 0 c).before 31 t d31, (dats m 0 c).before 32 t d32, (dats m 0 c).before 33 t d33, (dats m 0 c).before 34 t d34, (dats m 0 c).before 35 t d35, (dats m 0 c).before 36 t d36)).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  iintro ⟨H0, H1, H2, H3, H4, H5, H6, H7, H8, H9, H10, H11, H12, H13, H14, H15, H16, H17, H18, H19, H20, H21, H22, H23, H24, H25, H26, H27, H28, H29, H30, H31, H32, H33, H34, H35, H36⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  iexact H36

/-- The body table's row at a point's slots is the body there. -/
theorem defs₀_row (t : Fin cfg0.N) : defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program, every counter at zero at its end. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (frame_of m ρ (dats m) (A_eq m) (run_main m ρ)) ((θ_run defs _ _).mono (fun _ h => h.2) (run_main_quiescent m ρ))

end Cert.PbKernelIdeal.Body

end
-- ==== Proof.PMachine.lean ====
module

public import proofs.«01_k».proof.Defs
public import proofs.«01_k».proof.Proof.Gen.PbKernel
public import proofs.«01_k».proof.Proof.PFrame

@[expose] public section

set_option maxRecDepth 16384

noncomputable section

/-! # The machine program's frame -/

namespace Cert.PbKernel.Body

open Idealize.ShloMosaic Idealize.SL.Sem

/-- The frame of the program printed for the reals, read over machine words. -/
def AtBits : Prop :=
  ∀ (m : (ℓ : Loc Cert.PbKernelIdeal.nD Cert.PbKernelIdeal.τ Cert.PbKernelIdeal.sig) → Buf (Elt Bits) ℓ) (g : Dev Cert.PbKernelIdeal.nD → PrngReg), True →
    θ_run (Cert.PbKernelIdeal.defs (F := Bits)) (onTc (τ := Cert.PbKernelIdeal.τ) (Cert.PbKernelIdeal.main (F := Bits))) ⟨m, fun _ => 0, g⟩
      (fun r => (∀ c : Dev Cert.PbKernelIdeal.nD,
        r.2.mem ((c.tc : Thread Cert.PbKernelIdeal.nD Cert.PbKernelIdeal.τ).loc Cert.PbKernelIdeal.main_arg0) = m ((c.tc : Thread Cert.PbKernelIdeal.nD Cert.PbKernelIdeal.τ).loc Cert.PbKernelIdeal.main_arg0)
        ∧ r.2.mem ((c.tc : Thread Cert.PbKernelIdeal.nD Cert.PbKernelIdeal.τ).loc Cert.PbKernelIdeal.main_arg1) = m ((c.tc : Thread Cert.PbKernelIdeal.nD Cert.PbKernelIdeal.τ).loc Cert.PbKernelIdeal.main_arg1)
        ∧ r.2.mem ((c.tc : Thread Cert.PbKernelIdeal.nD Cert.PbKernelIdeal.τ).loc Cert.PbKernelIdeal.main_arg2) = m ((c.tc : Thread Cert.PbKernelIdeal.nD Cert.PbKernelIdeal.τ).loc Cert.PbKernelIdeal.main_arg2)
        ∧ r.2.mem ((c.tc : Thread Cert.PbKernelIdeal.nD Cert.PbKernelIdeal.τ).loc Cert.PbKernelIdeal.main_arg3) = m ((c.tc : Thread Cert.PbKernelIdeal.nD Cert.PbKernelIdeal.τ).loc Cert.PbKernelIdeal.main_arg3)
        ∧ r.2.mem ((c.tc : Thread Cert.PbKernelIdeal.nD Cert.PbKernelIdeal.τ).loc Cert.PbKernelIdeal.main_arg4) = m ((c.tc : Thread Cert.PbKernelIdeal.nD Cert.PbKernelIdeal.τ).loc Cert.PbKernelIdeal.main_arg4)
        ∧ r.2.mem ((c.tc : Thread Cert.PbKernelIdeal.nD Cert.PbKernelIdeal.τ).loc Cert.PbKernelIdeal.main_arg5) = m ((c.tc : Thread Cert.PbKernelIdeal.nD Cert.PbKernelIdeal.τ).loc Cert.PbKernelIdeal.main_arg5)
        ∧ r.2.mem ((c.tc : Thread Cert.PbKernelIdeal.nD Cert.PbKernelIdeal.τ).loc Cert.PbKernelIdeal.main_arg6) = m ((c.tc : Thread Cert.PbKernelIdeal.nD Cert.PbKernelIdeal.τ).loc Cert.PbKernelIdeal.main_arg6)
        ∧ r.2.mem ((c.tc : Thread Cert.PbKernelIdeal.nD Cert.PbKernelIdeal.τ).loc Cert.PbKernelIdeal.main_arg7) = m ((c.tc : Thread Cert.PbKernelIdeal.nD Cert.PbKernelIdeal.τ).loc Cert.PbKernelIdeal.main_arg7)
        ∧ r.2.mem ((c.tc : Thread Cert.PbKernelIdeal.nD Cert.PbKernelIdeal.τ).loc Cert.PbKernelIdeal.main_arg8) = m ((c.tc : Thread Cert.PbKernelIdeal.nD Cert.PbKernelIdeal.τ).loc Cert.PbKernelIdeal.main_arg8)
        ∧ r.2.mem ((c.tc : Thread Cert.PbKernelIdeal.nD Cert.PbKernelIdeal.τ).loc Cert.PbKernelIdeal.main_arg9) = m ((c.tc : Thread Cert.PbKernelIdeal.nD Cert.PbKernelIdeal.τ).loc Cert.PbKernelIdeal.main_arg9)
        ∧ r.2.mem ((c.tc : Thread Cert.PbKernelIdeal.nD Cert.PbKernelIdeal.τ).loc Cert.PbKernelIdeal.main_arg10) = m ((c.tc : Thread Cert.PbKernelIdeal.nD Cert.PbKernelIdeal.τ).loc Cert.PbKernelIdeal.main_arg10)
        ∧ r.2.mem ((c.tc : Thread Cert.PbKernelIdeal.nD Cert.PbKernelIdeal.τ).loc Cert.PbKernelIdeal.main_arg11) = m ((c.tc : Thread Cert.PbKernelIdeal.nD Cert.PbKernelIdeal.τ).loc Cert.PbKernelIdeal.main_arg11)
        ∧ r.2.mem ((c.tc : Thread Cert.PbKernelIdeal.nD Cert.PbKernelIdeal.τ).loc Cert.PbKernelIdeal.main_arg12) = m ((c.tc : Thread Cert.PbKernelIdeal.nD Cert.PbKernelIdeal.τ).loc Cert.PbKernelIdeal.main_arg12)
        ∧ r.2.mem ((c.tc : Thread Cert.PbKernelIdeal.nD Cert.PbKernelIdeal.τ).loc Cert.PbKernelIdeal.main_arg13) = m ((c.tc : Thread Cert.PbKernelIdeal.nD Cert.PbKernelIdeal.τ).loc Cert.PbKernelIdeal.main_arg13)
        ∧ r.2.mem ((c.tc : Thread Cert.PbKernelIdeal.nD Cert.PbKernelIdeal.τ).loc Cert.PbKernelIdeal.main_arg14) = m ((c.tc : Thread Cert.PbKernelIdeal.nD Cert.PbKernelIdeal.τ).loc Cert.PbKernelIdeal.main_arg14)
        ∧ r.2.mem ((c.tc : Thread Cert.PbKernelIdeal.nD Cert.PbKernelIdeal.τ).loc Cert.PbKernelIdeal.main_arg15) = m ((c.tc : Thread Cert.PbKernelIdeal.nD Cert.PbKernelIdeal.τ).loc Cert.PbKernelIdeal.main_arg15)
        ∧ r.2.mem ((c.tc : Thread Cert.PbKernelIdeal.nD Cert.PbKernelIdeal.τ).loc Cert.PbKernelIdeal.main_arg16) = m ((c.tc : Thread Cert.PbKernelIdeal.nD Cert.PbKernelIdeal.τ).loc Cert.PbKernelIdeal.main_arg16)
        ∧ r.2.mem ((c.tc : Thread Cert.PbKernelIdeal.nD Cert.PbKernelIdeal.τ).loc Cert.PbKernelIdeal.main_arg17) = m ((c.tc : Thread Cert.PbKernelIdeal.nD Cert.PbKernelIdeal.τ).loc Cert.PbKernelIdeal.main_arg17)
        ∧ r.2.mem ((c.tc : Thread Cert.PbKernelIdeal.nD Cert.PbKernelIdeal.τ).loc Cert.PbKernelIdeal.main_arg18) = m ((c.tc : Thread Cert.PbKernelIdeal.nD Cert.PbKernelIdeal.τ).loc Cert.PbKernelIdeal.main_arg18)
        ∧ r.2.mem ((c.tc : Thread Cert.PbKernelIdeal.nD Cert.PbKernelIdeal.τ).loc Cert.PbKernelIdeal.main_arg19) = m ((c.tc : Thread Cert.PbKernelIdeal.nD Cert.PbKernelIdeal.τ).loc Cert.PbKernelIdeal.main_arg19))
        ∧ r.2.sem = fun _ => 0)

/-- Both programs have one text. -/
theorem same : AtBits = quiescent_PbKernel := by sl_kernel_rfl

theorem frame : quiescent_PbKernel := same.mp fun m ρ _ => Cert.PbKernelIdeal.Body.frame (F := Bits) m ρ

end Cert.PbKernel.Body

end
-- ==== Proof.PState.lean ====
module

public import proofs.«01_k».proof.Proof.PFrame
public import Idealize.ShloMosaic.Lib.Pointwise

@[expose] public section

set_option maxRecDepth 16384

noncomputable section

/-! # The block of the value weights' gradient, point by point -/

namespace Cert.PbKernelIdeal.Tile

open Idealize.ShloMosaic Idealize.ShloMosaic.TcCoe Idealize.ShloMosaic.Tactic Idealize.ShloMosaic.Pointwise
open Cert.PbKernelIdeal.Gen Cert.PbKernelIdeal.Body

section

variable {F : FTy → Type} [FloatOps F]

/-- A point adds the product of its normed rows with its values' cotangent. -/
def addTile (raw : Vec F S256x1920 .f32) (gain : Vec F S1x256 .f32) (cols : Vec F S512x256 .f32) (acc : Vec F S256x512 .f32) : Vec F S256x512 .f32 :=
  k0_pay163 (k0_pay74 gain (k0_pay71 (k0_pay28 raw)) (k0_pay72 (k0_pay28 raw))) (k0_pay160 (k0_pay17 cols)) acc

theorem load_eq {s : Shape} {e : EltTy} (arg : Memref sig .tc .vmem s e) (harg : arg.IsWhole) (x : Vec F s e) {off : Fin s.rank → ℕ}
    (inb : ∀ a, off a + s.size a ≤ s.size a) : View.readAt (Elt F) arg.view (Rect.unit off s.size inb).toLoadRect (harg.unread x) = x :=
  (View.readAt_full _ _ inb).trans (harg.read_unread x)

theorem duv_eq (c : Dev nD) (i : grid0.Coords)
    (arg1 : Memref sig .tc .vmem S256x1024 .f32) (harg1 : arg1.IsWhole) (arg2 : Memref sig .tc .vmem S256x1920 .f32) (harg2 : arg2.IsWhole) (arg3 : Memref sig .tc .vmem S256x1024 .f32) (harg3 : arg3.IsWhole) (arg4 : Memref sig .tc .vmem S256x512 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S256x512 .f32) (harg11 : arg11.IsWhole) (arg12 : Memref sig .tc .vmem S64x128 .f32) (harg12 : arg12.IsWhole) (arg13 : Memref sig .tc .vmem S128x128 .f32) (harg13 : arg13.IsWhole) (arg14 : Memref sig .tc .vmem S64x128 .f32) (harg14 : arg14.IsWhole) (arg15 : Memref sig .tc .vmem S128x128 .f32) (harg15 : arg15.IsWhole) (arg16 : Memref sig .tc .vmem S64x128 .f32) (harg16 : arg16.IsWhole) (arg17 : Memref sig .tc .vmem S128x128 .f32) (harg17 : arg17.IsWhole) (arg18 : Memref sig .tc .vmem S64x128 .f32) (harg18 : arg18.IsWhole) (arg19 : Memref sig .tc .vmem S128x128 .f32) (harg19 : arg19.IsWhole) (arg20 : Memref sig .tc .vmem S1x1024 .f32) (harg20 : arg20.IsWhole) (arg21 : Memref sig .tc .vmem S1024x3200 .bf16) (harg21 : arg21.IsWhole) (arg22 : Memref sig .tc .vmem S384x512 .bf16) (harg22 : arg22.IsWhole) (arg23 : Memref sig .tc .vmem S256x512 .bf16) (harg23 : arg23.IsWhole) (arg24 : Memref sig .tc .vmem S256x512 .bf16) (harg24 : arg24.IsWhole) (arg25 : Memref sig .tc .vmem S1x128 .f32) (harg25 : arg25.IsWhole) (arg26 : Memref sig .tc .vmem S1x128 .f32) (harg26 : arg26.IsWhole) (arg27 : Memref sig .tc .vmem S1x384 .f32) (harg27 : arg27.IsWhole) (arg28 : Memref sig .tc .vmem S1x256 .f32) (harg28 : arg28.IsWhole) (arg29 : Memref sig .tc .vmem S1x128 .f32) (harg29 : arg29.IsWhole) (arg30 : Memref sig .tc .vmem S1x128 .f32) (harg30 : arg30.IsWhole) (arg31 : Memref sig .tc .vmem S128x128 .bf16) (harg31 : arg31.IsWhole) (arg32 : Memref sig .tc .vmem S256x1024 .f32) (harg32 : arg32.IsWhole) (arg33 : Memref sig .tc .vmem S256x3200 .bf16) (harg33 : arg33.IsWhole) (arg34 : Memref sig .tc .vmem S384x512 .f32) (harg34 : arg34.IsWhole) (arg35 : Memref sig .tc .vmem S256x512 .f32) (harg35 : arg35.IsWhole) (arg36 : Memref sig .tc .vmem S256x512 .f32) (harg36 : arg36.IsWhole) (arg37 : Memref sig .tc .vmem S24x128 .f32) (harg37 : arg37.IsWhole)
    (x0 : Vec F S256x1024 .f32) (x1 : Vec F S256x1920 .f32) (x2 : Vec F S256x1024 .f32) (x3 : Vec F S256x512 .f32) (x4 : Vec F S256x256 .f32) (x5 : Vec F S256x256 .f32) (x6 : Vec F S256x512 .f32) (x7 : Vec F S256x512 .f32) (x8 : Vec F S512x256 .f32) (x9 : Vec F S512x256 .f32) (x10 : Vec F S256x512 .f32) (x11 : Vec F S64x128 .f32) (x12 : Vec F S128x128 .f32) (x13 : Vec F S64x128 .f32) (x14 : Vec F S128x128 .f32) (x15 : Vec F S64x128 .f32) (x16 : Vec F S128x128 .f32) (x17 : Vec F S64x128 .f32) (x18 : Vec F S128x128 .f32) (x19 : Vec F S1x1024 .f32) (x20 : Vec F S1024x3200 .bf16) (x21 : Vec F S384x512 .bf16) (x22 : Vec F S256x512 .bf16) (x23 : Vec F S256x512 .bf16) (x24 : Vec F S1x128 .f32) (x25 : Vec F S1x128 .f32) (x26 : Vec F S1x384 .f32) (x27 : Vec F S1x256 .f32) (x28 : Vec F S1x128 .f32) (x29 : Vec F S1x128 .f32) (x30 : Vec F S128x128 .bf16) (x31 : Vec F S256x1024 .f32) (x32 : Vec F S256x3200 .bf16) (x33 : Vec F S384x512 .f32) (x34 : Vec F S256x512 .f32) (x35 : Vec F S256x512 .f32) (x36 : Vec F S24x128 .f32) :
    (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 x29 x30 x31 x32 x33 x34 x35 x36).2.2.2.2.1
      = addTile x1 x27 x9 (if run.sl.v2 i = 1#1 then k0_pay4 else x35) := by
  unfold run
  dsimp only
  refine (View.read_writes_full _ _ _ _ _).trans ?_
  unfold run.sl.v802 run.sl.r_63 run.sl.r_121
  unfold run.sl.r_4 run.sl.r_60 run.sl.r_61 run.sl.r_14
  unfold run.sl.r_27
  rw [start_eq]
  unfold addTile
  rw [load_eq, load_eq, load_eq, load_eq]

end

/-- A row's normed entry, before the gain. -/
def unit (y : Fin 256 → EReal) (r : Fin 256) : EReal :=
  y r * Ideal.rsqrt (Ideal.div (∑ j, y j * y j) (Ideal.ofBits .f32 0x43800000#32) + Ideal.ofBits .f32 0x358637BD#32)

theorem addTile_at (raw : FVec Ideal S256x1920 .f32) (gain : FVec Ideal S1x256 .f32) (cols : FVec Ideal S512x256 .f32) (acc : FVec Ideal S256x512 .f32)
    (r : Fin 256) (x : Fin 512) : (addTile (F := Ideal) raw gain cols acc : FVec Ideal S256x512 .f32) (ix2 r x)
      = acc (ix2 r x) + ∑ a : Fin 256, unit (fun j => raw (ix2 a ⟨1152 + j.val, by omega⟩)) r * gain (ix2 0 r) * cols (ix2 x a) := by
  unfold unit
  pointwise [addTile, k0_pay163, k0_pay74, k0_pay73, k0_pay72, k0_pay71, k0_pay28, k0_pay160, k0_pay17]

end Cert.PbKernelIdeal.Tile

end
-- ==== Proof.PHost.lean ====
module

public import proofs.«01_k».proof.Proof.PState

@[expose] public section

set_option maxRecDepth 16384

noncomputable section

/-! # The arrays the projections' backward pass reads, from the arguments -/

namespace Cert.PbKernelIdeal.Tile

open Idealize.ShloMosaic Idealize.ShloMosaic.TcCoe Idealize.ShloMosaic.Tactic Idealize.ShloMosaic.Pointwise
open Cert.PbKernelIdeal Cert.PbKernelIdeal.Gen

variable (m : (ℓ : Loc nD τ sig) → Buf (Elt Ideal) ℓ) (c : Dev nD)

abbrev argX : FVec Ideal S8192x1024 .f32 := m ((c : Thread nD τ).loc main_arg0)
abbrev argG : FVec Ideal S1x1024 .f32 := m ((c : Thread nD τ).loc main_arg1)
abbrev argW : FVec Ideal S1024x2464 .f32 := m ((c : Thread nD τ).loc main_arg2)
abbrev argC : FVec Ideal S1x256 .f32 := m ((c : Thread nD τ).loc main_arg6)
abbrev argD : FVec Ideal S4x8192x128 .f32 := m ((c : Thread nD τ).loc main_arg18)

/-- The projection of the normed rows, as the host computes it. -/
def proj (x : FVec Ideal S8192x1024 .f32) (g : FVec Ideal S1x1024 .f32) (w : FVec Ideal S1024x2464 .f32) : FVec Ideal S8192x2464 .f32 :=
  Host.dotGeneral dot_S8192x1024_S1024x2464_S8192x2464_1_0_0_1_n_n none
    (mulf (mulf x (broadcastInDim S8192x1024 ![0, 1] bcast_S8192x1_S8192x1024_0_1
      (Host.rsqrt (addf (Host.divf (broadcastInDim S8192x1 ![0] bcast_S8192_S8192x1_0
          (Host.reduceAdd (mulf x x) (constant S_ .f32 0x00000000#32) reducesTo_S8192x1024_S8192_d1 h_S_))
          (broadcastInDim S8192x1 ![] bcast_S_S8192x1 (constant S_ .f32 0x44800000#32)))
        (broadcastInDim S8192x1 ![] bcast_S_S8192x1 (constant S_ .f32 0x358637BD#32))))))
      (broadcastInDim S8192x1024 ![0, 1] bcast_S1x1024_S8192x1024_0_1 (broadcastInDim S1x1024 ![1] bcast_S1024_S1x1024_1
        (shapeCast S1024 g shapeCasts_S1x1024_S1024)))) w

theorem V_cols (d : Fin 512) (s : Fin 8192) : (V m c main_v117 : S512x8192.Idx → EReal) (ix2 d s)
    = argD m c (ix3 ⟨d.val / 128, by omega⟩ s ⟨d.val % 128, by omega⟩) := by
  have h : V m c main_v117 = (shapeCast S512x8192 (transpose S4x128x8192 [0, 2, 1] (pad S4x8192x128 ![0, 0, 0] ![0, 0, 0] ![0, 0, 0] (argD m c)
      (sitofp .f32 (constantI S_ 32 0#32)) pads_S4x8192x128_S4x8192x128_000_000_000 h_S_)
      transposes_S4x8192x128_S4x128x8192_0_2_1) shapeCasts_S4x128x8192_S512x8192 : FVec Ideal S512x8192 .f32) := by
    show StableHlo.after (List.flatten _) (fun b => m (c, b)) (Proc.devRef .tc main_v117) = _
    simp only [List.flatten_cons, List.flatten_nil, List.append_nil, List.cons_append, List.nil_append]
    after_results
    rfl
  rw [h]
  pointwise
  exact dif_pos ⟨by omega, by omega⟩

/-- The saved projection's columns the values are made of. -/
theorem V_raw (s : Fin 8192) (j : Fin 256) : (V m c main_v96 : S8192x1920.Idx → EReal) (ix2 s ⟨1152 + j.val, by omega⟩)
    = proj (argX m c) (argG m c) (argW m c) (ix2 s ⟨1664 + j.val, by omega⟩) := by
  have h : ∃ (a0 : FVec Ideal S8192x512 .f32) (a1 a2 a3 a4 : FVec Ideal S8192x64 .f32) (a5 : FVec Ideal S8192x384 .f32) (a7 : FVec Ideal S8192x128 .f32),
      V m c main_v96 = (concatenate S8192x1920 1 [⟨S8192x512, a0⟩, ⟨S8192x64, a1⟩, ⟨S8192x64, a2⟩, ⟨S8192x64, a3⟩, ⟨S8192x64, a4⟩, ⟨S8192x384, a5⟩,
        ⟨S8192x256, extractStridedSlice S8192x256 ![0, 1664] (proj (argX m c) (argG m c) (argW m c)) slices_S8192x2464_S8192x256_0_1664⟩,
        ⟨S8192x128, a7⟩, ⟨S8192x128, a7⟩, ⟨S8192x128, a7⟩, ⟨S8192x128, a7⟩]
        concatenates_S8192x512_S8192x64_S8192x64_S8192x64_S8192x64_S8192x384_S8192x256_S8192x128_S8192x128_S8192x128_S8192x128_S8192x1920_d1
        : FVec Ideal S8192x1920 .f32) := by
    show ∃ a0 a1 a2 a3 a4 a5 a7, StableHlo.after (List.flatten _) (fun b => m (c, b)) (Proc.devRef .tc main_v96) = _
    simp only [List.flatten_cons, List.flatten_nil, List.append_nil, List.cons_append, List.nil_append]
    after_results
    exact ⟨_, _, _, _, _, _, _, rfl⟩
  obtain ⟨a0, a1, a2, a3, a4, a5, a7, h⟩ := h
  rw [h]
  generalize proj (argX m c) (argG m c) (argW m c) = y
  pointwise
  rw [dif_neg (by omega), dif_neg (by omega), dif_neg (by omega), dif_neg (by omega), dif_neg (by omega), dif_neg (by omega), dif_pos (by omega)]
  exact congrArg y (congrArg (ix2 s) (Fin.ext (by show 1664 + (1152 + j.val - 512 - 64 - 64 - 64 - 64 - 384) = 1664 + j.val; omega)))

end Cert.PbKernelIdeal.Tile

end
-- ==== Proof.PValue.lean ====
module

public import proofs.«01_k».proof.Proof.PHost

@[expose] public section

set_option maxRecDepth 16384

noncomputable section

/-! # The value weights' gradient after the region -/

namespace Cert.PbKernelIdeal.Tile

open Idealize.ShloMosaic Idealize.ShloMosaic.TcCoe Idealize.ShloMosaic.Tactic Idealize.ShloMosaic.Pointwise Idealize.SL.Sem
open Cert.PbKernelIdeal Cert.PbKernelIdeal.Gen
open Cert.PbKernelIdeal.Body (outsAt outsStep runAt dats after_35 first_iff frame run_main A_eq)

/-- What row `s` adds to the gradient at `(r, x)`: its normed latent entry times its values' cotangent. -/
def term (p : FVec Ideal S8192x2464 .f32) (g : FVec Ideal S1x256 .f32) (d : FVec Ideal S4x8192x128 .f32) (r : Fin 256) (x : Fin 512) (s : Fin 8192) : EReal :=
  unit (fun j => p (ix2 s ⟨1664 + j.val, by omega⟩)) r * g (ix2 0 r) * d (ix3 ⟨x.val / 128, by omega⟩ s ⟨x.val % 128, by omega⟩)

/-- The same over all row numbers. -/
def rowTerm (p : FVec Ideal S8192x2464 .f32) (g : FVec Ideal S1x256 .f32) (d : FVec Ideal S4x8192x128 .f32) (r : Fin 256) (x : Fin 512) (s : ℕ) : EReal :=
  if h : s < 8192 then term p g d r x ⟨s, h⟩ else 0

theorem index_in : ∀ t : Fin grid0.N, (win0_1.index t 0 = t.val ∧ win0_1.index t 1 = 0) ∧ (win0_9.index t 0 = 0 ∧ win0_9.index t 1 = t.val)
    ∧ (win0_27.index t 0 = 0 ∧ win0_27.index t 1 = 0) ∧ (win0_35.index t 0 = 0 ∧ win0_35.index t 1 = 0) := by decide +kernel

variable (m : (ℓ : Loc nD τ sig) → Buf (Elt Ideal) ℓ) (c : Dev nD)

theorem lt_rows (t : Fin cfg0.N) (a : Fin 256) : 256 * t.val + a.val < 8192 := by
  have h : t.val < 32 := lt_of_lt_of_eq t.isLt N_0
  omega

theorem blk1 (t : Fin cfg0.N) (a : Fin 256) (b : Fin 1920) :
    (iblk m c 1 t : S256x1920.Idx → EReal) (ix2 a b) = (V m c main_v96 : S8192x1920.Idx → EReal) (ix2 ⟨256 * t.val + a.val, lt_rows t a⟩ b) := by
  show (V m c main_v96 : S8192x1920.Idx → EReal) (((cfg0.win 1).blk t).view.emb (ix2 a b)) = _
  refine congrArg _ (funext fun e => match e with
    | ⟨0, _⟩ => Fin.ext ?_
    | ⟨1, _⟩ => Fin.ext ?_)
  · show win0_1.index t 0 * 256 + 1 * a.val = 256 * t.val + a.val
    rw [(index_in t).1.1]; omega
  · show win0_1.index t 1 * 1920 + 1 * b.val = b.val
    rw [(index_in t).1.2]; omega

theorem blk9 (t : Fin cfg0.N) (b : Fin 512) (a : Fin 256) :
    (iblk m c 9 t : S512x256.Idx → EReal) (ix2 b a) = (V m c main_v117 : S512x8192.Idx → EReal) (ix2 b ⟨256 * t.val + a.val, lt_rows t a⟩) := by
  show (V m c main_v117 : S512x8192.Idx → EReal) (((cfg0.win 9).blk t).view.emb (ix2 b a)) = _
  refine congrArg _ (funext fun e => match e with
    | ⟨0, _⟩ => Fin.ext ?_
    | ⟨1, _⟩ => Fin.ext ?_)
  · show win0_9.index t 0 * 512 + 1 * b.val = b.val
    rw [(index_in t).2.1.1]; omega
  · show win0_9.index t 1 * 256 + 1 * a.val = 256 * t.val + a.val
    rw [(index_in t).2.1.2]; omega

theorem blk27 (t : Fin cfg0.N) (r : Fin 256) : (iblk m c 27 t : S1x256.Idx → EReal) (ix2 0 r) = argC m c (ix2 0 r) := by
  show (V m c main_arg6 : S1x256.Idx → EReal) (((cfg0.win 27).blk t).view.emb (ix2 0 r)) = _
  rw [V_main_arg6]
  refine congrArg (argC m c) (funext fun e => match e with
    | ⟨0, _⟩ => Fin.ext ?_
    | ⟨1, _⟩ => Fin.ext ?_)
  · show win0_27.index t 0 * 1 + 1 * 0 = 0
    rw [(index_in t).2.2.1.1]
  · show win0_27.index t 1 * 256 + 1 * r.val = r.val
    rw [(index_in t).2.2.1.2]; omega

/-- The rows' terms of this run. -/
abbrev rows (r : Fin 256) (x : Fin 512) : ℕ → EReal :=
  rowTerm (proj (argX m c) (argG m c) (argW m c)) (argC m c) (argD m c) r x

/-- A point adds its 256 rows' terms. -/
theorem step_is (t : Fin cfg0.N) (acc : FVec Ideal S256x512 .f32) (r : Fin 256) (x : Fin 512) :
    (addTile (F := Ideal) (iblk m c 1 t) (iblk m c 27 t) (iblk m c 9 t) acc : FVec Ideal S256x512 .f32) (ix2 r x)
      = acc (ix2 r x) + ∑ a ∈ Finset.range 256, rows m c r x (256 * t.val + a) := by
  refine (addTile_at _ _ _ _ r x).trans (congrArg _ ?_)
  rw [Finset.sum_range]
  refine Finset.sum_congr rfl fun a _ => ?_
  unfold rows rowTerm term
  rw [dif_pos (lt_rows t a), blk27, blk9, V_cols]
  refine congrArg (· * _ * _) (congrArg (unit · r) (funext fun j => ?_))
  rw [blk1, V_raw]

theorem zero_at (r : Fin 256) (x : Fin 512) : (k0_pay4 (F := Ideal) : FVec Ideal S256x512 .f32) (ix2 r x) = 0 := by
  pointwise [k0_pay4]

/-- After a point the block holds the sum over all rows up to it. -/
theorem after_is : ∀ (n : ℕ) (hn : n < cfg0.N) (r : Fin 256) (x : Fin 512),
    ((outsAt m c n hn).2.2.2.2.1 : S256x512.Idx → EReal) (ix2 r x) = ∑ s ∈ Finset.range (256 * n + 256), rows m c r x s
  | 0, hn, r, x => by
    unfold outsAt outsStep runAt
    dsimp only
    rw [duv_eq, if_pos ((first_iff ⟨0, hn⟩).2 rfl)]
    refine (step_is m c ⟨0, hn⟩ _ r x).trans ?_
    rw [zero_at, zero_add]
    refine Finset.sum_congr rfl fun a _ => congrArg _ ?_
    show 256 * 0 + a = a
    omega
  | n + 1, hn, r, x => by
    have hN : cfg0.N = 32 := N_0
    unfold outsAt outsStep runAt
    dsimp only
    rw [duv_eq, if_neg (fun e => by
      have e' : (n + 1) % 32 = 0 := (first_iff ⟨n + 1, hn⟩).1 e
      omega)]
    refine (step_is m c ⟨n + 1, hn⟩ _ r x).trans ?_
    rw [after_is n (Nat.lt_of_succ_lt hn) r x]
    exact (Finset.sum_range_add (rows m c r x) (256 * n + 256) 256).symm

/-- The grid's last point. -/
def lastPoint : Fin cfg0.N := ⟨31, by rw [show cfg0.N = 32 from N_0]; omega⟩

/-- The gradient. -/
def grad : FVec Ideal S256x512 .f32 := fun i =>
  ∑ s : Fin 8192, term (proj (argX m c) (argG m c) (argW m c)) (argC m c) (argD m c) (i 0) (i 1) s

theorem arr35 : (dats m 0 c).arrAt 35 cfg0.N = grad m c :=
  (dats m 0 c).arrAt_eq_of_cover 35 _ (fun t hf => by
    have hN : cfg0.N = 32 := N_0
    have hl : t.val % 32 = 31 := (flush0_35 t).mp hf
    have ht : t.val < 32 := lt_of_lt_of_eq t.isLt N_0
    have h31 : t.val = 31 := by omega
    show (cfg0.win 35).cut (grid0.coords t) ((dats m 0 c).after 35 t) = _
    rw [after_35]
    funext y
    rw [View.read_apply]
    have e : y = (ix2 (y 0) (y 1) : S256x512.Idx) := funext fun a => match a with
      | ⟨0, _⟩ => rfl
      | ⟨1, _⟩ => rfl
    refine (congrArg ((outsAt m c t.val t.isLt).2.2.2.2.1 : S256x512.Idx → EReal) e).trans ((after_is m c t.val t.isLt (y 0) (y 1)).trans ?_)
    rw [h31, show 256 * 31 + 256 = 8192 from rfl, Finset.sum_range]
    have e0 : ((cfg0.win 35).blk t).view.emb y = (ix2 (y 0) (y 1) : S256x512.Idx) := funext fun a => match a with
      | ⟨0, _⟩ => Fin.ext (by
          show win0_35.index t 0 * 256 + 1 * (y 0).val = (y 0).val
          rw [(index_in t).2.2.2.1]; omega)
      | ⟨1, _⟩ => Fin.ext (by
          show win0_35.index t 1 * 512 + 1 * (y 1).val = (y 1).val
          rw [(index_in t).2.2.2.2]; omega)
    refine Eq.trans ?_ (congrArg (grad m c) e0).symm
    unfold grad rows rowTerm
    exact Finset.sum_congr rfl fun s _ => dif_pos s.isLt) fun i =>
    ⟨lastPoint, (flush0_35 _).mpr rfl, by
      show i ∈ ((View.whole main_v218_4).slice (win0_35.rect lastPoint)).set
      rw [View.set_slice_whole, Rect.mem_set_unit]
      have h0 : (i 0).val < 256 := (i 0).isLt
      have h1 : (i 1).val < 512 := (i 1).isLt
      have e : win0_35.index lastPoint 0 * 256 ≤ (i 0).val ∧ (i 0).val < win0_35.index lastPoint 0 * 256 + 256 := by
        rw [(index_in _).2.2.2.1]; omega
      have e' : win0_35.index lastPoint 1 * 512 ≤ (i 1).val ∧ (i 1).val < win0_35.index lastPoint 1 * 512 + 512 := by
        rw [(index_in _).2.2.2.2]; omega
      exact fun a => match a with
        | ⟨0, _⟩ => e
        | ⟨1, _⟩ => e'⟩

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v218_4) = grad m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun r hr c => ⟨((hr.1 c).1 35).trans (arr35 m c), hr.2.1 c⟩) (θ_run_and (run_main m ρ) (frame m ρ))

end Cert.PbKernelIdeal.Tile

end
-- ==== Proof.PRef.lean ====
module

public import proofs.«01_k».proof.Proof.PValue
public import proofs.«01_k».proof.Proof.Gen.PbReferenceIdeal.Read

@[expose] public section

set_option maxRecDepth 16384

noncomputable section

/-! # The value weights' gradient of the plain statement -/

namespace Cert.PbReferenceIdeal.Latent

open Idealize.ShloMosaic Idealize.ShloMosaic.TcCoe Idealize.ShloMosaic.Tactic Idealize.ShloMosaic.Pointwise
open Cert.PbReferenceIdeal Cert.PbReferenceIdeal.Gen Cert.PbReferenceIdeal.Read
open Cert.PbKernelIdeal.Tile (proj term unit)

variable (x0 : FVec Ideal S8192x1024 .f32) (x1 : FVec Ideal S1x1024 .f32) (x2 : FVec Ideal S1024x2464 .f32)
  (x6 : FVec Ideal S1x256 .f32) (x18 : FVec Ideal S4x8192x128 .f32)

/-- Both sides project the same way. -/
theorem proj_eq : val_main_v14 (F := Ideal) x0 x1 x2 = proj x0 x1 x2 := rfl

/-- The normed latent entry. -/
theorem latent_at (s : Fin 8192) (r : Fin 256) : val_main_v36 (F := Ideal) x0 x1 x2 x6 (ix2 s r)
    = unit (fun j => proj x0 x1 x2 (ix2 s ⟨1664 + j.val, by omega⟩)) r * x6 (ix2 0 r) := by
  unfold val_main_v36 val_main_v35 val_main_v34 val_main_v33 val_main_v32 val_main_v31 val_main_v30 val_main_v29 val_main_v28 val_main_v27 val_main_v26
    val_main_v25 val_main_v24 val_main_v23 val_main_v20
  rw [proj_eq]
  unfold unit
  generalize proj x0 x1 x2 = y
  pointwise [val_main_cst_2, val_main_cst_3, val_main_cst_4]

/-- The values' cotangent behind the pad. -/
theorem cotangent_at (s : Fin 8192) (x : Fin 512) :
    val_main_v43 (F := Ideal) x18 (ix2 s ⟨192 * (x.val / 128) + 64 + x.val % 128, by omega⟩) = x18 (ix3 ⟨x.val / 128, by omega⟩ s ⟨x.val % 128, by omega⟩) := by
  unfold val_main_v43 val_main_v42 val_main_v41
  pointwise
  have h1 : (192 * (x.val / 128) + 64 + x.val % 128) / 192 = x.val / 128 := by omega
  have h2 : (192 * (x.val / 128) + 64 + x.val % 128) % 192 - 64 = x.val % 128 := by omega
  rw [dif_pos ⟨by omega, by omega, by omega⟩]
  simp only [h1, h2]

/-- The plain gradient as the sum over all rows. -/
theorem grad_at (r : Fin 256) (x : Fin 512) : val_main_v48 (F := Ideal) x0 x1 x2 x6 x18 (ix2 r x)
    = ∑ s : Fin 8192, term (proj x0 x1 x2) x6 x18 r x s := by
  have e : val_main_v48 (F := Ideal) x0 x1 x2 x6 x18 (ix2 r x)
      = val_main_v44 (F := Ideal) x0 x1 x2 x6 x18 (ix2 ⟨192 * (x.val / 128) + 64 + x.val % 128, by omega⟩ r) := by
    unfold val_main_v48 val_main_v47 val_main_v46 val_main_v45
    generalize val_main_v44 (F := Ideal) x0 x1 x2 x6 x18 = y
    pointwise
    exact congrArg (fun k => y (ix2 k r)) (Fin.ext (by show x.val / 128 * 192 + (64 + x.val % 128) = 192 * (x.val / 128) + 64 + x.val % 128; omega))
  rw [e, val_main_v44_apply]
  refine Finset.sum_congr rfl fun s _ => ?_
  rw [show lidx_main_v44 (ix2 ⟨192 * (x.val / 128) + 64 + x.val % 128, by omega⟩ r) s = ix2 s ⟨192 * (x.val / 128) + 64 + x.val % 128, by omega⟩ from
      funext fun a => match a with
        | ⟨0, _⟩ => rfl
        | ⟨1, _⟩ => rfl,
    show ridx_main_v44 (ix2 ⟨192 * (x.val / 128) + 64 + x.val % 128, by omega⟩ r) s = ix2 s r from
      funext fun a => match a with
        | ⟨0, _⟩ => rfl
        | ⟨1, _⟩ => rfl,
    cotangent_at, latent_at, mul_comm]
  rfl

end Cert.PbReferenceIdeal.Latent

end
-- ==== Proof.ABody.lean ====
module

public import proofs.«01_k».proof.Proof.Gen.AKernelIdeal.Frame
public import proofs.«01_k».proof.Proof.Gen.AKernelIdeal.Skeleton
public import Idealize.ShloMosaic.Lib.Exec

@[expose] public section

set_option maxRecDepth 16384

noncomputable section

namespace Cert.AKernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AKernelIdeal.Gen

variable {F : FTy → Type} [FloatOps F]

local notation "𝕄" => MT nD τ sig Unit (Elt F) ℕ (UR sig nD τ) ℕ

set_option maxHeartbeats 4000000 in
/-- What one grid point leaves in the three output windows, with the proof that the body leaves it. -/
def run (c : Dev nD) (i : grid0.Coords) (arg3 : Memref sig .tc .vmem S512x256 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S512x256 .bf16) (harg6 : arg6.IsWhole) (arg7 : Memref sig .tc .vmem S512x256 .f32) (harg7 : arg7.IsWhole) (arg8 : Memref sig .tc .vmem S4x1x512 .f32) (harg8 : arg8.IsWhole) (arg9 : Memref sig .tc .vmem S8192x256 .f32) (harg9 : arg9.IsWhole) (arg10 : Memref sig .tc .vmem S128x4096 .f32) (harg10 : arg10.IsWhole) (arg11 : Memref sig .tc .vmem S128x4096 .f32) (harg11 : arg11.IsWhole) (x0 : Vec F S512x256 .bf16) (x1 : Vec F S4096x128 .bf16) (x2 : Vec F S4096x128 .bf16) (x3 : Vec F S512x256 .bf16) (x4 : Vec F S512x256 .f32) (x5 : Vec F S4x1x512 .f32) (x6 : Vec F S8192x256 .f32) (x7 : Vec F S128x4096 .f32) (x8 : Vec F S128x4096 .f32) :
    Σ' (y6 : Vec F S8192x256 .f32), Σ' (y7 : Vec F S128x4096 .f32), { y8 : Vec F S128x4096 .f32 //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ owns (c : Thread nD τ) arg10 fullShare y7 ∗ owns (c : Thread nD τ) arg11 fullShare y8) -∗ K ⟨⟩))
          ⊢ wp frame (wpE (defs₀ (F := F)) Variants.none c none) E (cc0_attn_bwd_a i arg3 harg3 arg4 harg4 arg5 harg5 arg6 harg6 arg7 harg7 arg8 harg8 arg9 harg9 arg10 harg10 arg11 harg11) K } := by
  refine ⟨?_, ?_, ?_, fun E K => ?run⟩
  case run =>
    simp only [cc0_attn_bwd_a_eq_skeleton]; unfold cc0_attn_bwd_a_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; isplitr
      · ipureintro; exact harg6.read_unread _
      · iexact H3
    isplitl [H4]
    · iexists _; isplitr
      · ipureintro; exact harg7.read_unread _
      · iexact H4
    isplitl [H5]
    · iexists _; isplitr
      · ipureintro; exact harg8.read_unread _
      · iexact H5
    isplitl [H6]
    · iexists _; isplitr
      · ipureintro; rfl
      · iexact H6
    isplitl [H7]
    · iexists _; isplitr
      · ipureintro; rfl
      · iexact H7
    iexists _; isplitr
    · ipureintro; rfl
    · iexact H8

end Cert.AKernelIdeal.Body

end
-- ==== Proof.ATile.lean ====
module

public import proofs.«01_k».proof.Proof.ABody

@[expose] public section

set_option maxRecDepth 16384

noncomputable section

namespace Cert.AKernelIdeal.Tile

open Idealize.ShloMosaic Idealize.ShloMosaic.TcCoe Idealize.ShloMosaic.Tactic
open Cert.AKernelIdeal.Gen

variable {F : FTy → Type} [FloatOps F]

/-- What one head of a tile of 512 rows keeps through the tile's chunks of keys. -/
structure Head (F : FTy → Type) where
  /-- the head's scaled queries, the other half of the lanes put to zero -/
  qm : FVec F S512x128 .bf16
  /-- the head's cotangents, the other half of the lanes put to zero -/
  dom : FVec F S512x128 .bf16
  /-- each row's sum of cotangent times output -/
  delta : FVec F S512x1 .f32
  /-- each row's log-sum -/
  lse : FVec F S512x1 .f32

/-- The lanes a mask keeps, zero elsewhere. -/
def keep (m : IVec S512x128 1) (x : Vec F S512x128 .bf16) : FVec F S512x128 .bf16 :=
  select m (shapeCast S512x128 x shapeCasts_S512x128_S512x128) (broadcast S512x128 (Scalar.ofBits .bf16 0x0000#16))

/-- A row of log-sums turned into a column. -/
def col (l : Vec F S1x1x512 .f32) : FVec F S512x1 .f32 :=
  extractStridedSlice S512x1 ![0, 0]
    (transpose S512x128 [1, 0]
      (broadcastTo S128x512 (shapeCast S1x512 (shapeCast S1x512 l shapeCasts_S1x1x512_S1x512) shapeCasts_S1x512_S1x512)
        broadcasts_S1x512_S128x512) transposes_S128x512_p1_0_S512x128) slices_S512x128_o0_0_S512x1

/-- The head under a mask, from the tile's blocks. -/
def head (m : IVec S512x128 1) (q dO : Vec F S512x128 .bf16) (o : Vec F S512x128 .f32) (l : Vec F S1x1x512 .f32) : Head F where
  qm := keep m q
  dom := keep m dO
  delta := shapeCast S512x1
    (multiReduction .add [1] S512
      (mulf (extf .f32 (keep m dO) bitsLt_bf16_f32) (shapeCast S512x128 o shapeCasts_S512x128_S512x128)) 0x00000000#32
      reduces_S512x128_S512 (.inl rfl) rfl) shapeCasts_S512_S512x1
  lse := col l

variable (H : Head F) (k v : Vec F S512x128 .bf16)

/-- The probabilities of a chunk of keys. -/
def prob : FVec F S512x512 .f32 :=
  exp (subf (matmul dot_S512x128_S512x128_S512x512_1_1_0_0_n_n none H.qm (shapeCast S512x128 k shapeCasts_S512x128_S512x128)
    (constant S512x512 .f32 0x00000000#32)) (broadcastTo S512x512 H.lse broadcasts_S512x1_S512x512))

/-- The cotangent of a chunk's scores. -/
def dscore : FVec F S512x512 .bf16 :=
  truncf .bf16 (mulf (prob H k) (subf (matmul dot_S512x128_S512x128_S512x512_1_1_0_0_n_n none H.dom
    (shapeCast S512x128 v shapeCasts_S512x128_S512x128) (constant S512x512 .f32 0x00000000#32))
    (broadcastTo S512x512 H.delta broadcasts_S512x1_S512x512))) bitsLt_bf16_f32

/-- What a head adds to a chunk of the values' gradient. -/
def dvStep : FVec F S128x512 .f32 :=
  matmul dot_S128x512_S512x512_S128x512_1_0_0_1_n_n none (transpose S128x512 [1, 0] H.dom transposes_S512x128_p1_0_S128x512)
    (truncf .bf16 (prob H k) bitsLt_bf16_f32) (constant S128x512 .f32 0x00000000#32)

/-- What a head adds to a chunk of the keys' gradient. -/
def dkStep : FVec F S128x512 .f32 :=
  matmul dot_S128x512_S512x512_S128x512_1_0_0_1_n_n none (transpose S128x512 [1, 0] H.qm transposes_S512x128_p1_0_S128x512)
    (dscore H k v) (constant S128x512 .f32 0x00000000#32)

/-- What a chunk adds to the head's query gradient. -/
def dqStep : FVec F S512x128 .f32 :=
  matmul dot_S512x512_S512x128_S512x128_1_0_0_1_n_n none (dscore H k v) (shapeCast S512x128 k shapeCasts_S512x128_S512x128)
    (constant S512x128 .f32 0x00000000#32)

/-- The head's query gradient over the first chunks. -/
def dqSum (k v : ℕ → Vec F S512x128 .bf16) : ℕ → FVec F S512x128 .f32
  | 0 => broadcast S512x128 (Scalar.ofBits .f32 0x00000000#32)
  | n + 1 => addf (dqSum k v n) (dqStep H (k n) (v n))

theorem inChunk (n : ℕ) : ∀ a, (![0, 512 * (n % 8)] : Fin 2 → ℕ) a + S128x512.size a ≤ S128x4096.size a := by
  have := Nat.mod_lt n (y := 8) (by decide)
  intro a; fin_cases a <;> simp <;> omega

theorem inKeys (n : ℕ) : ∀ a, (![512 * (n % 8), 0] : Fin 2 → ℕ) a + S512x128.size a ≤ S4096x128.size a := by
  have := Nat.mod_lt n (y := 8) (by decide)
  intro a; fin_cases a <;> simp <;> omega

/-- The columns of chunk `n % 8`. -/
abbrev chunk (n : ℕ) : Rect S128x4096 := Rect.unit ![0, 512 * (n % 8)] S128x512.size (inChunk n)

/-- The keys of chunk `n % 8`. -/
abbrev keys (n : ℕ) : Rect S4096x128 := Rect.unit ![512 * (n % 8), 0] S512x128.size (inKeys n)

/-- A chunk of a transposed gradient block after the first `h + 1` heads: each adds its term to what the chunk holds. -/
def acc (rd : ℕ → Vec F S128x512 .f32) (T : ℕ → ℕ → FVec F S128x512 .f32) : ℕ → ℕ → FVec F S128x512 .f32
  | 0, n => addf (shapeCast S128x512 (rd n) shapeCasts_S128x512_S128x512) (T 0 n)
  | h + 1, n => addf (shapeCast S128x512 (acc rd T h n) shapeCasts_S128x512_S128x512) (T (h + 1) n)

/-- The stores of the first `n` (head, chunk) pairs into a transposed gradient block, the newest first. -/
def stores (rd : ℕ → Vec F S128x512 .f32) (T : ℕ → ℕ → FVec F S128x512 .f32) : ℕ → List (View.Piece (Elt F) S128x4096 .f32)
  | 0 => []
  | n + 1 => ⟨chunk n, acc rd T (n / 8) (n % 8)⟩ :: stores rd T n

/-- After `m ≥ 8 * h + 8` stores of which none past the first `8 * h + 8` touches it, a place of a chunk reads the chunk's newest sum. -/
theorem read_stores {sig' : RefSig} {κ : Kind} {sp : Space} (vw : View sig' κ sp S128x4096 .f32) (f : vw.ty.Contents (Elt F))
    (rd : ℕ → Vec F S128x512 .f32) (T : ℕ → ℕ → FVec F S128x512 .f32) (y : S128x4096.Idx) (x : S128x512.Idx)
    (q : ℕ) (hq : q < 8) (h0 : (y 0).val = (x 0).val) (h1 : (y 1).val = 512 * q + (x 1).val) :
    ∀ n, q < n → vw.read (Elt F) (vw.writes (Elt F) f (stores rd T n)) y = acc rd T ((n - 1 - q) / 8) q x := by
  intro n
  induction n with
  | zero => intro h; exact absurd h (Nat.not_lt_zero _)
  | succ n ih =>
    intro hn
    have hx : (x 1).val < 512 := (x 1).isLt
    by_cases e : n % 8 = q
    · have : (n + 1 - 1 - q) / 8 = n / 8 := by omega
      rw [this]
      subst e
      refine View.read_writes_cons_hit_of_coords vw f (chunk n) _ _ x y fun a => ?_
      fin_cases a
      · show (y 0).val = 0 + 1 * (x 0).val
        omega
      · show (y 1).val = 512 * (n % 8) + 1 * (x 1).val
        omega
    · have : (n + 1 - 1 - q) / 8 = (n - 1 - q) / 8 := by omega
      rw [this, ← ih (by omega)]
      refine View.read_writes_cons_miss_of_axis vw f _ _ y 1 (512 * (n % 8)) 512 rfl rfl rfl ?_
      omega

theorem read_cov {sig' : RefSig} {κ : Kind} {sp : Space} (vw : View sig' κ sp S128x4096 .f32) [∀ e, Nonempty (Elt F e)]
    (rd : ℕ → Vec F S128x512 .f32) (T : ℕ → ℕ → FVec F S128x512 .f32) (n : ℕ) (hn : 8 ≤ n) :
    vw.readCov (stores rd T n) (chunk n).toLoadRect = acc rd T (n / 8 - 1) (n % 8) := by
  funext x
  have := read_stores vw vw.junk rd T ((chunk n).toLoadRect.idx x) x (n % 8) (Nat.mod_lt _ (by decide))
    (show 0 + 1 * (x 0).val = (x 0).val by omega) (show 512 * (n % 8) + 1 * (x 1).val = 512 * (n % 8) + (x 1).val by omega) n (by omega)
  have e : (n - 1 - n % 8) / 8 = n / 8 - 1 := by omega
  rw [e] at this
  exact this

theorem step_first {rd : ℕ → Vec F S128x512 .f32} {T : ℕ → ℕ → FVec F S128x512 .f32} (n : ℕ) (hn : n < 8)
    {L : List (View.Piece (Elt F) S128x4096 .f32)} {w : FVec F S128x512 .f32} (hL : stores rd T n = L)
    (hw : w = addf (shapeCast S128x512 (rd n) shapeCasts_S128x512_S128x512) (T 0 n)) :
    stores rd T (n + 1) = (⟨chunk n, w⟩ :: L : List (View.Piece (Elt F) S128x4096 .f32)) := by
  subst hL hw
  have e : n / 8 = 0 := by omega
  have e' : n % 8 = n := by omega
  show ⟨chunk n, acc rd T (n / 8) (n % 8)⟩ :: stores rd T n = _
  rw [e, e']; rfl

theorem step_next {rd : ℕ → Vec F S128x512 .f32} {T : ℕ → ℕ → FVec F S128x512 .f32} [∀ e, Nonempty (Elt F e)]
    {sig' : RefSig} {κ : Kind} {sp : Space} (vw : View sig' κ sp S128x4096 .f32) (n : ℕ) (hn : 8 ≤ n)
    {L : List (View.Piece (Elt F) S128x4096 .f32)} {w : FVec F S128x512 .f32} (hL : stores rd T n = L)
    (hw : w = addf (shapeCast S128x512 (vw.readCov L (chunk n).toLoadRect) shapeCasts_S128x512_S128x512) (T (n / 8) (n % 8))) :
    stores rd T (n + 1) = (⟨chunk n, w⟩ :: L : List (View.Piece (Elt F) S128x4096 .f32)) := by
  subst hL hw
  rw [read_cov _ _ _ _ hn]
  have e : n / 8 = n / 8 - 1 + 1 := by omega
  show ⟨chunk n, acc rd T (n / 8) (n % 8)⟩ :: stores rd T n = _
  conv_lhs => rw [e]
  conv_rhs => rw [e]
  rfl

/-! The run's three results are these stores. -/

theorem inCols (hh : ℕ) : ∀ a, (![0, 128 * (hh / 2 % 2)] : Fin 2 → ℕ) a + S512x128.size a ≤ S512x256.size a := by
  have := Nat.mod_lt (hh / 2) (y := 2) (by decide)
  intro a; fin_cases a <;> simp <;> omega

theorem inRows (hh : ℕ) : ∀ a, (![hh % 4, 0, 0] : Fin 3 → ℕ) a + S1x1x512.size a ≤ S4x1x512.size a := by
  have := Nat.mod_lt hh (y := 4) (by decide)
  intro a; fin_cases a <;> simp <;> omega

/-- The 128 columns head `hh` lies in. -/
abbrev cols (hh : ℕ) : Rect S512x256 := Rect.unit ![0, 128 * (hh / 2 % 2)] S512x128.size (inCols hh)

/-- The log-sums of head `hh`. -/
abbrev rowOf (hh : ℕ) : Rect S4x1x512 := Rect.unit ![hh % 4, 0, 0] S1x1x512.size (inRows hh)

/-- The lanes head `hh` lies in: the lower half for an even head. -/
def lanes (hh : ℕ) : IVec S512x128 1 :=
  match hh % 2 with
  | 0 => k0_pay6
  | _ => k0_pay7

section

variable (c : Dev nD) (i : grid0.Coords) (arg3 : Memref sig .tc .vmem S512x256 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S512x256 .bf16) (harg6 : arg6.IsWhole) (arg7 : Memref sig .tc .vmem S512x256 .f32) (harg7 : arg7.IsWhole) (arg8 : Memref sig .tc .vmem S4x1x512 .f32) (harg8 : arg8.IsWhole) (arg9 : Memref sig .tc .vmem S8192x256 .f32) (harg9 : arg9.IsWhole) (arg10 : Memref sig .tc .vmem S128x4096 .f32) (harg10 : arg10.IsWhole) (arg11 : Memref sig .tc .vmem S128x4096 .f32) (harg11 : arg11.IsWhole) (x0 : Vec F S512x256 .bf16) (x1 : Vec F S4096x128 .bf16) (x2 : Vec F S4096x128 .bf16) (x3 : Vec F S512x256 .bf16) (x4 : Vec F S512x256 .f32) (x5 : Vec F S4x1x512 .f32) (x6 : Vec F S8192x256 .f32) (x7 : Vec F S128x4096 .f32) (x8 : Vec F S128x4096 .f32)

/-- Head `hh` of the tile, read from the buffers. -/
def headAt (hh : ℕ) : Head F :=
  head (lanes hh) (View.readAt (Elt F) arg3.view (cols hh).toLoadRect (harg3.unread x0))
    (View.readAt (Elt F) arg6.view (cols hh).toLoadRect (harg6.unread x3))
    (View.readAt (Elt F) arg7.view (cols hh).toLoadRect (harg7.unread x4))
    (View.readAt (Elt F) arg8.view (rowOf hh).toLoadRect (harg8.unread x5))

/-- Chunk `n` of a block of keys or values, read from its buffer. -/
def chunkAt (arg : Memref sig .tc .vmem S4096x128 .bf16) (harg : arg.IsWhole) (x : Vec F S4096x128 .bf16) (n : ℕ) : Vec F S512x128 .bf16 :=
  View.readAt (Elt F) arg.view (keys n).toLoadRect (harg.unread x)

/-- The values' gradient a point begins from. -/
def base (p : Vec F S128x4096 .f32) (arg : Memref sig .tc .vmem S128x4096 .f32) (harg : arg.IsWhole) (x : Vec F S128x4096 .f32) :
    arg.view.ty.Contents (Elt F) :=
  if hc : Body.run.sl.v7 i = 1#1 then
    arg.view.writes (Elt F) (harg.unread x) [⟨Rect.unit ![0, 0] S128x4096.size inb_S128x4096_S128x4096_0_0, p⟩]
  else harg.unread x

set_option maxHeartbeats 800000 in
theorem run_dv : (Body.run c i arg3 harg3 arg4 harg4 arg5 harg5 arg6 harg6 arg7 harg7 arg8 harg8 arg9 harg9 arg10 harg10 arg11 harg11 x0 x1 x2 x3 x4 x5 x6 x7 x8).2.2.1
    = arg11.view.read (Elt F) (arg11.view.writes (Elt F) (base i k0_pay5 arg11 harg11 x8)
        (stores (fun n => View.readAt (Elt F) arg11.view (chunk n).toLoadRect (base i k0_pay5 arg11 harg11 x8)) (fun hh n =>
          dvStep (headAt arg3 harg3 arg6 harg6 arg7 harg7 arg8 harg8 x0 x3 x4 x5 hh) (chunkAt arg4 harg4 x1 n)) 32)) := by
  refine congrArg (fun L => arg11.view.read (Elt F) (arg11.view.writes (Elt F) (base i k0_pay5 arg11 harg11 x8) L)) (Eq.symm ?_)
  iterate 24
    refine step_next (F := F) arg11.view _ ?_ ?_ rfl
    · decide
  iterate 8
    refine step_first (F := F) _ ?_ ?_ rfl
    · decide
  rfl

set_option maxHeartbeats 800000 in
theorem run_dk : (Body.run c i arg3 harg3 arg4 harg4 arg5 harg5 arg6 harg6 arg7 harg7 arg8 harg8 arg9 harg9 arg10 harg10 arg11 harg11 x0 x1 x2 x3 x4 x5 x6 x7 x8).2.1
    = arg10.view.read (Elt F) (arg10.view.writes (Elt F) (base i k0_pay4 arg10 harg10 x7)
        (stores (fun n => View.readAt (Elt F) arg10.view (chunk n).toLoadRect (base i k0_pay4 arg10 harg10 x7)) (fun hh n =>
          dkStep (headAt arg3 harg3 arg6 harg6 arg7 harg7 arg8 harg8 x0 x3 x4 x5 hh) (chunkAt arg4 harg4 x1 n)
            (chunkAt arg5 harg5 x2 n)) 32)) := by
  refine congrArg (fun L => arg10.view.read (Elt F) (arg10.view.writes (Elt F) (base i k0_pay4 arg10 harg10 x7) L)) (Eq.symm ?_)
  iterate 24
    refine step_next (F := F) arg10.view _ ?_ ?_ rfl
    · decide
  iterate 8
    refine step_first (F := F) _ ?_ ?_ rfl
    · decide
  rfl

/-- The query gradient a point begins from. -/
def baseQ : arg9.view.ty.Contents (Elt F) :=
  if hc : Body.run.sl.v4 i = 1#1 then
    arg9.view.writes (Elt F) (harg9.unread x6) [⟨Rect.unit ![0, 0] S8192x256.size inb_S8192x256_S8192x256_0_0, k0_pay3⟩]
  else harg9.unread x6

/-- The query gradient of a pair of heads, from all the chunks of the point's keys. -/
def dqPair (pr : ℕ) : FVec F S512x128 .f32 :=
  select k0_pay6
    (dqSum (headAt arg3 harg3 arg6 harg6 arg7 harg7 arg8 harg8 x0 x3 x4 x5 (2 * pr)) (chunkAt arg4 harg4 x1) (chunkAt arg5 harg5 x2) 8)
    (dqSum (headAt arg3 harg3 arg6 harg6 arg7 harg7 arg8 harg8 x0 x3 x4 x5 (2 * pr + 1)) (chunkAt arg4 harg4 x1) (chunkAt arg5 harg5 x2) 8)

theorem inTile (pr : ℕ) (i : grid0.Coords) : ∀ a, (![512 * (i 2).val, 128 * (pr % 2)] : Fin 2 → ℕ) a + S512x128.size a ≤ S8192x256.size a := by
  have := Nat.mod_lt pr (y := 2) (by decide)
  have : (i 2).val < 16 := (i 2).isLt
  intro a; fin_cases a <;> simp <;> omega

/-- The rows of the point's tile, at a pair of heads. -/
abbrev tile (pr : ℕ) : Rect S8192x256 := Rect.unit ![512 * (i 2).val, 128 * (pr % 2)] S512x128.size (inTile pr i)

/-- The store of a pair of heads. -/
def storeQ (pr : ℕ) : View.Piece (Elt F) S8192x256 .f32 :=
  ⟨tile i pr, addf (shapeCast S512x128 (View.readAt (Elt F) arg9.view (tile i pr).toLoadRect (baseQ i arg9 harg9 x6))
    shapeCasts_S512x128_S512x128) (dqPair arg3 harg3 arg4 harg4 arg5 harg5 arg6 harg6 arg7 harg7 arg8 harg8 x0 x1 x2 x3 x4 x5 pr)⟩

theorem off_nat : ∀ k : Fin 16, (Scalar.indexCast (Scalar.muli (BitVec.ofNat 32 k.val) 512#32)).toNat = 512 * k.val := by decide

theorem off1_eq : k0_off1 i = ![512 * (i 2).val, 0] := by
  funext a; fin_cases a
  · exact off_nat (i 2)
  · rfl

theorem off2_eq : k0_off2 i = ![512 * (i 2).val, 128] := by
  funext a; fin_cases a
  · exact off_nat (i 2)
  · rfl

theorem at_start_eq : (Body.run.sl.v4 i = 1#1) ↔ (i 1).val = 0 ∧ (i 2).val = 0 := by
  have : ∀ (a : Fin 2) (b : Fin 16), (Scalar.cmpi .ne (Scalar.extui (Scalar.andi (Scalar.cmpi .eq (BitVec.ofNat 32 a.val) 0#32)
    (Scalar.cmpi .eq (BitVec.ofNat 32 b.val) 0#32)) : BitVec 32) 0#32 = 1#1) ↔ a.val = 0 ∧ b.val = 0 := by decide
  exact this (i 1) (i 2)

theorem at_first_eq : (Body.run.sl.v7 i = 1#1) ↔ (i 2).val = 0 := by
  have : ∀ (b : Fin 16), (Scalar.cmpi .ne (Scalar.extui (Scalar.cmpi .eq (BitVec.ofNat 32 b.val) 0#32) : BitVec 32) 0#32 = 1#1) ↔ b.val = 0 := by
    decide
  exact this (i 2)

/-- A store at offsets known under another spelling. -/
theorem piece_congr {off off' : Fin 2 → ℕ} (e : off = off') (h : ∀ a, off a + S512x128.size a ≤ S8192x256.size a)
    (h' : ∀ a, off' a + S512x128.size a ≤ S8192x256.size a) (vw : View sig .tc .vmem S8192x256 .f32) (f : vw.ty.Contents (Elt F))
    (u : FVec F S512x128 .f32) :
    (⟨Rect.unit off S512x128.size h, addf (shapeCast S512x128 (View.readAt (Elt F) vw (Rect.unit (s := S8192x256) off S512x128.size h).toLoadRect f)
        shapeCasts_S512x128_S512x128) u⟩ : View.Piece (Elt F) S8192x256 .f32)
      = ⟨Rect.unit off' S512x128.size h', addf (shapeCast S512x128 (View.readAt (Elt F) vw (Rect.unit (s := S8192x256) off' S512x128.size h').toLoadRect f)
        shapeCasts_S512x128_S512x128) u⟩ := by
  subst e; rfl

set_option maxHeartbeats 800000 in
theorem run_dq : (Body.run c i arg3 harg3 arg4 harg4 arg5 harg5 arg6 harg6 arg7 harg7 arg8 harg8 arg9 harg9 arg10 harg10 arg11 harg11 x0 x1 x2 x3 x4 x5 x6 x7 x8).1
    = arg9.view.read (Elt F) (arg9.view.writes (Elt F) (baseQ i arg9 harg9 x6)
        [storeQ i arg3 harg3 arg4 harg4 arg5 harg5 arg6 harg6 arg7 harg7 arg8 harg8 arg9 harg9 x0 x1 x2 x3 x4 x5 x6 1,
         storeQ i arg3 harg3 arg4 harg4 arg5 harg5 arg6 harg6 arg7 harg7 arg8 harg8 arg9 harg9 x0 x1 x2 x3 x4 x5 x6 0]) := by
  refine congrArg (fun L => arg9.view.read (Elt F) (arg9.view.writes (Elt F) (baseQ i arg9 harg9 x6) L)) ?_
  refine congrArg₂ (fun a b => [a, b]) ?_ ?_
  · refine Eq.trans ?_ (piece_congr (off2_eq i) ?_ _ arg9.view (baseQ i arg9 harg9 x6)
      (dqPair arg3 harg3 arg4 harg4 arg5 harg5 arg6 harg6 arg7 harg7 arg8 harg8 x0 x1 x2 x3 x4 x5 1))
    rfl
  · refine Eq.trans ?_ (piece_congr (off1_eq i) ?_ _ arg9.view (baseQ i arg9 harg9 x6)
      (dqPair arg3 harg3 arg4 harg4 arg5 harg5 arg6 harg6 arg7 harg7 arg8 harg8 x0 x1 x2 x3 x4 x5 0))
    rfl

end

end Cert.AKernelIdeal.Tile

end
-- ==== Proof.APoint.lean ====
module

public import proofs.«01_k».proof.Proof.ATile
public import Idealize.ShloMosaic.Lib.VecWindow
public import Idealize.ShloMosaic.Lib.WholeRead
public import Idealize.ShloMosaic.Lib.Pointwise.Index

@[expose] public section

set_option maxRecDepth 16384

noncomputable section

namespace Cert.AKernelIdeal.Tile

open Idealize.ShloMosaic Idealize.ShloMosaic.TcCoe Idealize.ShloMosaic.Tactic
open Cert.AKernelIdeal.Gen

variable {F : FTy → Type} [FloatOps F]

/-! What a grid point leaves in the three output blocks, as functions of the blocks alone. -/

/-- Head `hh` of a tile, of the tile's blocks. -/
def headOf (x0 x3 : Vec F S512x256 .bf16) (x4 : Vec F S512x256 .f32) (x5 : Vec F S4x1x512 .f32) (hh : ℕ) : Head F :=
  head (lanes hh) (fun j => x0 ((cols hh).toLoadRect.idx j)) (fun j => x3 ((cols hh).toLoadRect.idx j))
    (fun j => x4 ((cols hh).toLoadRect.idx j)) (fun j => x5 ((rowOf hh).toLoadRect.idx j))

/-- Chunk `n` of a block of keys or values. -/
def chunkOf (x : Vec F S4096x128 .bf16) (n : ℕ) : Vec F S512x128 .bf16 := fun j => x ((keys n).toLoadRect.idx j)

/-- A transposed gradient block after the four heads' terms `T` are added to `z`. -/
def added (z : Vec F S128x4096 .f32) (T : ℕ → ℕ → FVec F S128x512 .f32) : Vec F S128x4096 .f32 := fun y =>
  acc (fun n j => z ((chunk n).toLoadRect.idx j)) T 3 ((y 1).val / 512) (ix2 (y 0) ⟨(y 1).val % 512, Nat.mod_lt _ (by decide)⟩)

section

variable (i : grid0.Coords) (x0 : Vec F S512x256 .bf16) (x1 : Vec F S4096x128 .bf16) (x2 : Vec F S4096x128 .bf16) (x3 : Vec F S512x256 .bf16) (x4 : Vec F S512x256 .f32) (x5 : Vec F S4x1x512 .f32) (x6 : Vec F S8192x256 .f32) (x7 : Vec F S128x4096 .f32) (x8 : Vec F S128x4096 .f32)

/-- The values' gradient block after a point. -/
def nextV : Vec F S128x4096 .f32 :=
  added (if (i 2).val = 0 then k0_pay5 else x8) (fun hh n => dvStep (headOf x0 x3 x4 x5 hh) (chunkOf x1 n))

/-- The keys' gradient block after a point. -/
def nextK : Vec F S128x4096 .f32 :=
  added (if (i 2).val = 0 then k0_pay4 else x7) (fun hh n => dkStep (headOf x0 x3 x4 x5 hh) (chunkOf x1 n) (chunkOf x2 n))

/-- The query gradient of a pair of heads, from the point's keys. -/
def pairQ (pr : ℕ) : FVec F S512x128 .f32 :=
  select k0_pay6 (dqSum (headOf x0 x3 x4 x5 (2 * pr)) (chunkOf x1) (chunkOf x2) 8)
    (dqSum (headOf x0 x3 x4 x5 (2 * pr + 1)) (chunkOf x1) (chunkOf x2) 8)

/-- The query gradient block a point begins from. -/
def startQ : Vec F S8192x256 .f32 := if (i 1).val = 0 ∧ (i 2).val = 0 then k0_pay3 else x6

/-- The query gradient block after a point: the point's rows get its term, the others stay. -/
def nextQ : Vec F S8192x256 .f32 := fun y =>
  if (y 0).val / 512 = (i 2).val then
    addf (shapeCast S512x128 (fun j => startQ i x6 ((tile i ((y 1).val / 128)).toLoadRect.idx j)) shapeCasts_S512x128_S512x128)
      (pairQ x0 x1 x2 x3 x4 x5 ((y 1).val / 128))
      (ix2 ⟨(y 0).val % 512, Nat.mod_lt _ (by decide)⟩ ⟨(y 1).val % 128, Nat.mod_lt _ (by decide)⟩)
  else startQ i x6 y

end

section

variable (c : Dev nD) (i : grid0.Coords) (arg3 : Memref sig .tc .vmem S512x256 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S512x256 .bf16) (harg6 : arg6.IsWhole) (arg7 : Memref sig .tc .vmem S512x256 .f32) (harg7 : arg7.IsWhole) (arg8 : Memref sig .tc .vmem S4x1x512 .f32) (harg8 : arg8.IsWhole) (arg9 : Memref sig .tc .vmem S8192x256 .f32) (harg9 : arg9.IsWhole) (arg10 : Memref sig .tc .vmem S128x4096 .f32) (harg10 : arg10.IsWhole) (arg11 : Memref sig .tc .vmem S128x4096 .f32) (harg11 : arg11.IsWhole) (x0 : Vec F S512x256 .bf16) (x1 : Vec F S4096x128 .bf16) (x2 : Vec F S4096x128 .bf16) (x3 : Vec F S512x256 .bf16) (x4 : Vec F S512x256 .f32) (x5 : Vec F S4x1x512 .f32) (x6 : Vec F S8192x256 .f32) (x7 : Vec F S128x4096 .f32) (x8 : Vec F S128x4096 .f32)

theorem base_eq (p : Vec F S128x4096 .f32) (arg : Memref sig .tc .vmem S128x4096 .f32) (harg : arg.IsWhole) (x : Vec F S128x4096 .f32) :
    base i p arg harg x = harg.unread (if (i 2).val = 0 then p else x) := by
  unfold base
  by_cases h : Body.run.sl.v7 i = 1#1
  · rw [dif_pos h, if_pos ((at_first_eq i).mp h)]
    exact harg.eq_unread (View.read_writes_full _ _ _ _ _)
  · rw [dif_neg h, if_neg fun e => h ((at_first_eq i).mpr e)]

theorem baseQ_eq : baseQ i arg9 harg9 x6 = harg9.unread (startQ i x6) := by
  unfold baseQ startQ
  by_cases h : Body.run.sl.v4 i = 1#1
  · rw [dif_pos h, if_pos ((at_start_eq i).mp h)]
    exact harg9.eq_unread (View.read_writes_full _ _ _ _ _)
  · rw [dif_neg h, if_neg fun e => h ((at_start_eq i).mpr e)]

theorem headAt_eq (hh : ℕ) : headAt arg3 harg3 arg6 harg6 arg7 harg7 arg8 harg8 x0 x3 x4 x5 hh = headOf x0 x3 x4 x5 hh := by
  unfold headAt headOf
  congr 1 <;> exact funext fun j => Memref.IsWhole.readAt_unread _ _ _ _

theorem chunkAt_eq (arg : Memref sig .tc .vmem S4096x128 .bf16) (harg : arg.IsWhole) (x : Vec F S4096x128 .bf16) :
    chunkAt arg harg x = chunkOf x :=
  funext fun n => funext fun j => harg.readAt_unread _ _ _

theorem read_all (z : Vec F S128x4096 .f32) (T : ℕ → ℕ → FVec F S128x512 .f32) (arg : Memref sig .tc .vmem S128x4096 .f32)
    (harg : arg.IsWhole) :
    arg.view.read (Elt F) (arg.view.writes (Elt F) (harg.unread z)
      (stores (fun n => View.readAt (Elt F) arg.view (chunk n).toLoadRect (harg.unread z)) T 32)) = added z T := by
  funext y
  have hy : (y 1).val < 4096 := (y 1).isLt
  rw [read_stores _ _ _ _ y (ix2 (y 0) ⟨(y 1).val % 512, Nat.mod_lt _ (by decide)⟩) ((y 1).val / 512) (by omega) rfl
    (show (y 1).val = 512 * ((y 1).val / 512) + (y 1).val % 512 by omega) 32 (by omega)]
  have e : (32 - 1 - (y 1).val / 512) / 8 = 3 := by omega
  rw [e]
  unfold added
  congr 2
  exact funext fun n => funext fun j => harg.readAt_unread _ _ _

theorem run_v : (Body.run c i arg3 harg3 arg4 harg4 arg5 harg5 arg6 harg6 arg7 harg7 arg8 harg8 arg9 harg9 arg10 harg10 arg11 harg11 x0 x1 x2 x3 x4 x5 x6 x7 x8).2.2.1 = nextV i x0 x1 x3 x4 x5 x8 := by
  rw [run_dv, base_eq, read_all]
  unfold nextV
  simp only [headAt_eq, chunkAt_eq]

theorem run_k : (Body.run c i arg3 harg3 arg4 harg4 arg5 harg5 arg6 harg6 arg7 harg7 arg8 harg8 arg9 harg9 arg10 harg10 arg11 harg11 x0 x1 x2 x3 x4 x5 x6 x7 x8).2.1 = nextK i x0 x1 x2 x3 x4 x5 x7 := by
  rw [run_dk, base_eq, read_all]
  unfold nextK
  simp only [headAt_eq, chunkAt_eq]

theorem dqPair_eq (pr : ℕ) : dqPair arg3 harg3 arg4 harg4 arg5 harg5 arg6 harg6 arg7 harg7 arg8 harg8 x0 x1 x2 x3 x4 x5 pr = pairQ x0 x1 x2 x3 x4 x5 pr := by
  unfold dqPair pairQ
  rw [headAt_eq, headAt_eq, chunkAt_eq, chunkAt_eq]

theorem read_tile_hit (pr : ℕ) (vw : View sig .tc .vmem S8192x256 .f32) (f : vw.ty.Contents (Elt F))
    (w : FVec F S512x128 .f32) (L : List (View.Piece (Elt F) S8192x256 .f32)) (y : S8192x256.Idx)
    (h0 : (y 0).val / 512 = (i 2).val) (h1 : (y 1).val / 128 = pr % 2) :
    vw.read (Elt F) (vw.writes (Elt F) f (⟨tile i pr, w⟩ :: L)) y
      = w (ix2 ⟨(y 0).val % 512, Nat.mod_lt _ (by decide)⟩ ⟨(y 1).val % 128, Nat.mod_lt _ (by decide)⟩) := by
  refine View.read_writes_cons_hit_of_coords vw f (tile i pr) w L _ y fun a => ?_
  fin_cases a
  · show (y 0).val = 512 * (i 2).val + 1 * ((y 0).val % 512)
    omega
  · show (y 1).val = 128 * (pr % 2) + 1 * ((y 1).val % 128)
    omega

theorem read_tile_rows (pr : ℕ) (vw : View sig .tc .vmem S8192x256 .f32) (f : vw.ty.Contents (Elt F))
    (w : FVec F S512x128 .f32) (L : List (View.Piece (Elt F) S8192x256 .f32)) (y : S8192x256.Idx)
    (h0 : (y 0).val / 512 ≠ (i 2).val) :
    vw.read (Elt F) (vw.writes (Elt F) f (⟨tile i pr, w⟩ :: L)) y = vw.read (Elt F) (vw.writes (Elt F) f L) y :=
  View.read_writes_cons_miss_of_axis vw f _ _ y 0 (512 * (i 2).val) 512 rfl rfl rfl (by omega)

theorem read_tile_cols (pr : ℕ) (vw : View sig .tc .vmem S8192x256 .f32) (f : vw.ty.Contents (Elt F))
    (w : FVec F S512x128 .f32) (L : List (View.Piece (Elt F) S8192x256 .f32)) (y : S8192x256.Idx)
    (h1 : (y 1).val / 128 ≠ pr % 2) :
    vw.read (Elt F) (vw.writes (Elt F) f (⟨tile i pr, w⟩ :: L)) y = vw.read (Elt F) (vw.writes (Elt F) f L) y :=
  View.read_writes_cons_miss_of_axis vw f _ _ y 1 (128 * (pr % 2)) 128 rfl rfl rfl (by omega)

theorem run_q : (Body.run c i arg3 harg3 arg4 harg4 arg5 harg5 arg6 harg6 arg7 harg7 arg8 harg8 arg9 harg9 arg10 harg10 arg11 harg11 x0 x1 x2 x3 x4 x5 x6 x7 x8).1 = nextQ i x0 x1 x2 x3 x4 x5 x6 := by
  rw [run_dq]
  unfold storeQ
  simp only [baseQ_eq, dqPair_eq]
  funext y
  have hy : (y 1).val < 256 := (y 1).isLt
  have hrd : ∀ pr, View.readAt (Elt F) arg9.view (tile i pr).toLoadRect (harg9.unread (startQ i x6))
      = fun j => startQ i x6 ((tile i pr).toLoadRect.idx j) := fun pr => funext fun j => harg9.readAt_unread _ _ _
  unfold nextQ
  by_cases h : (y 0).val / 512 = (i 2).val
  · rw [if_pos h]
    by_cases h1 : (y 1).val / 128 = 1
    · rw [read_tile_hit i 1 _ _ _ _ y h h1, hrd, h1]
    · have h0 : (y 1).val / 128 = 0 := by omega
      rw [read_tile_cols i 1 _ _ _ _ y h1, read_tile_hit i 0 _ _ _ _ y h h0, hrd, h0]
  · rw [if_neg h, read_tile_rows i 1 _ _ _ _ y h, read_tile_rows i 0 _ _ _ _ y h]
    exact congrFun (harg9.read_unread _) y

end

end Cert.AKernelIdeal.Tile

end
-- ==== Proof.AFrame.lean ====
module

public import proofs.«01_k».proof.Proof.APoint
public import Idealize.ShloMosaic.Lib.Claim

@[expose] public section

set_option maxRecDepth 16384

noncomputable section

namespace Cert.AKernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AKernelIdeal.Gen Cert.AKernelIdeal.Tile

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the three output blocks hold after a point, from what they held before it. -/
def outsStep (c : Dev nD) (t : Fin cfg0.N) (p : Vec F S8192x256 .f32 × Vec F S128x4096 .f32 × Vec F S128x4096 .f32) :
    Vec F S8192x256 .f32 × Vec F S128x4096 .f32 × Vec F S128x4096 .f32 :=
  (nextQ (grid0.coords t) (iblk m c 0 t) (iblk m c 1 t) (iblk m c 2 t) (iblk m c 3 t) (iblk m c 4 t) (iblk m c 5 t) p.1,
   nextK (grid0.coords t) (iblk m c 0 t) (iblk m c 1 t) (iblk m c 2 t) (iblk m c 3 t) (iblk m c 4 t) (iblk m c 5 t) p.2.1,
   nextV (grid0.coords t) (iblk m c 0 t) (iblk m c 1 t) (iblk m c 3 t) (iblk m c 4 t) (iblk m c 5 t) p.2.2)

/-- The three output blocks after each point. -/
def outsAt (c : Dev nD) : (n : ℕ) → n < cfg0.N → Vec F S8192x256 .f32 × Vec F S128x4096 .f32 × Vec F S128x4096 .f32
  | 0, h => outsStep m c ⟨0, h⟩ (k0_pay3, k0_pay4, k0_pay5)
  | n + 1, h => outsStep m c ⟨n + 1, h⟩ (outsAt c n (Nat.lt_of_succ_lt h))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2.1
    | ⟨8, _⟩ => (outsAt m c t.val t.isLt).2.2
    | ⟨_ + 9, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outsAt m c t.val t.isLt).1 := by dsimp only [dats]
theorem after_7 (c : Dev nD) (t : Fin cfg0.N) : (dats m 0 c).after 7 t = (outsAt m c t.val t.isLt).2.1 := by dsimp only [dats]
theorem after_8 (c : Dev nD) (t : Fin cfg0.N) : (dats m 0 c).after 8 t = (outsAt m c t.val t.isLt).2.2 := by dsimp only [dats]

/-- The coordinates of a point. -/
theorem coords_2 : ∀ t : Fin cfg0.N, ((grid0.coords t) 2).val = t.val % 16 := (by decide : ∀ t : Fin 64, ((grid0.coords t) 2).val = t.val % 16)
theorem coords_1 : ∀ t : Fin cfg0.N, ((grid0.coords t) 1).val = t.val / 16 % 2 := (by decide : ∀ t : Fin 64, ((grid0.coords t) 1).val = t.val / 16 % 2)

/-- A point that starts its blocks leaves the same whatever they held. -/
theorem outsStep_congr (c : Dev nD) (t : Fin cfg0.N) (p p' : Vec F S8192x256 .f32 × Vec F S128x4096 .f32 × Vec F S128x4096 .f32)
    (h6 : t.val % 32 ≠ 0 → p.1 = p'.1) (h7 : t.val % 16 ≠ 0 → p.2 = p'.2) : outsStep m c t p = outsStep m c t p' := by
  unfold outsStep nextQ nextK nextV startQ
  rw [coords_1, coords_2]
  refine Prod.ext ?_ (Prod.ext ?_ ?_)
  · by_cases h : t.val % 32 = 0
    · have e : t.val / 16 % 2 = 0 ∧ t.val % 16 = 0 := by omega
      simp only [if_pos e]
    · rw [h6 h]
  · by_cases h : t.val % 16 = 0
    · simp only [if_pos h]
    · rw [h7 h]
  · by_cases h : t.val % 16 = 0
    · simp only [if_pos h]
    · rw [h7 h]

/-- What a window's buffer held before a point: what the point before left, unless the point starts the block. -/
theorem outsAt_before (c : Dev nD) (t : Fin cfg0.N) (d6 d7 d8) :
    outsStep m c t ((dats m 0 c).before 6 t d6, (dats m 0 c).before 7 t d7, (dats m 0 c).before 8 t d8)
      = outsAt m c t.val t.isLt := by
  rcases t with ⟨n, hn⟩
  have hN : cfg0.N = 64 := N_0
  cases n with
  | zero =>
    exact outsStep_congr m c ⟨0, hn⟩ _ _ (fun h => absurd rfl h) (fun h => absurd rfl h)
  | succ n =>
    refine outsStep_congr m c ⟨n + 1, hn⟩ _ _ (fun h => ?_) (fun h => ?_)
    · refine ((dats m 0 c).before_out_kept 6 rfl ⟨n + 1, hn⟩ (Nat.succ_ne_zero n) ?_ (fun _ => rfl) (fun _ _ => rfl) d6).trans
        (after_6 m c _)
      rw [Bool.eq_false_iff, Ne, flush0_6]
      show ¬ (n + 1 - 1) % 32 = 31
      have : ¬ (n + 1) % 32 = 0 := h
      omega
    · have h' : ¬ (n + 1) % 16 = 0 := h
      refine Prod.ext ?_ ?_
      · refine ((dats m 0 c).before_out_kept 7 rfl ⟨n + 1, hn⟩ (Nat.succ_ne_zero n) ?_ (fun _ => rfl) (fun _ _ => rfl) d7).trans
          (after_7 m c _)
        rw [Bool.eq_false_iff, Ne, flush0_7]
        show ¬ (n + 1 - 1) % 16 = 15
        omega
      · refine ((dats m 0 c).before_out_kept 8 rfl ⟨n + 1, hn⟩ (Nat.succ_ne_zero n) ?_ (fun _ => rfl) (fun _ _ => rfl) d8).trans
          (after_8 m c _)
        rw [Bool.eq_false_iff, Ne, flush0_8]
        show ¬ (n + 1 - 1) % 16 = 15
        omega

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem phi_eq (c : Dev nD) (t : Fin cfg0.N) : (dats m 0 c).Φ t.succ = (dats m 0 c).Φ t.castSucc := rfl
theorem owes_eq (c : Dev nD) (t : Fin cfg0.N) : (dats m 0 c).owesAt () t.succ = (dats m 0 c).owesAt () t.castSucc := rfl

set_option maxHeartbeats 1000000 in
/-- The body's triple at a point. -/
theorem sound_body (c : Dev nD) (t : Fin cfg0.N) :
    iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))
      ⊢ wp frame (wpE (defs₀ (F := F)) Variants.none c none) Set.univ (bodyAt0 t) (fun _ =>
        iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t))) := by
  unfold bodyAt0
  simp only [before_0, before_1, before_2, before_3, before_4, before_5]
  rw [phi_eq, owes_eq, after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← outsAt_before m c t d6 d7 d8]
  unfold outsStep
  dsimp only
  rw [← run_q c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (iblk m c 0 t) (iblk m c 1 t) (iblk m c 2 t) (iblk m c 3 t) (iblk m c 4 t) (iblk m c 5 t) ((dats m 0 c).before 6 t d6) ((dats m 0 c).before 7 t d7) ((dats m 0 c).before 8 t d8),
    ← run_k c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (iblk m c 0 t) (iblk m c 1 t) (iblk m c 2 t) (iblk m c 3 t) (iblk m c 4 t) (iblk m c 5 t) ((dats m 0 c).before 6 t d6) ((dats m 0 c).before 7 t d7) ((dats m 0 c).before 8 t d8),
    ← run_v c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (iblk m c 0 t) (iblk m c 1 t) (iblk m c 2 t) (iblk m c 3 t) (iblk m c 4 t) (iblk m c 5 t) ((dats m 0 c).before 6 t d6) ((dats m 0 c).before 7 t d7) ((dats m 0 c).before 8 t d8)]
  iapply ((run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (iblk m c 0 t) (iblk m c 1 t) (iblk m c 2 t) (iblk m c 3 t) (iblk m c 4 t) (iblk m c 5 t) ((dats m 0 c).before 6 t d6) ((dats m 0 c).before 7 t d7) ((dats m 0 c).before 8 t d8)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point's slots is the body there. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program, every counter at zero at its end. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.AKernelIdeal.Body

end
-- ==== Proof.AMachine.lean ====
module

public import proofs.«01_k».proof.Defs
public import proofs.«01_k».proof.Proof.Gen.AKernel
public import proofs.«01_k».proof.Proof.AFrame

@[expose] public section

set_option maxRecDepth 16384

noncomputable section

/-! # The machine program's frame -/

namespace Cert.AKernel.Body

open Idealize.ShloMosaic Idealize.SL.Sem

/-- The frame of the program printed for the reals, read over machine words. -/
def AtBits : Prop :=
  ∀ (m : (ℓ : Loc Cert.AKernelIdeal.nD Cert.AKernelIdeal.τ Cert.AKernelIdeal.sig) → Buf (Elt Bits) ℓ) (g : Dev Cert.AKernelIdeal.nD → PrngReg), True →
    θ_run (Cert.AKernelIdeal.defs (F := Bits)) (onTc (τ := Cert.AKernelIdeal.τ) (Cert.AKernelIdeal.main (F := Bits))) ⟨m, fun _ => 0, g⟩
      (fun r => (∀ c : Dev Cert.AKernelIdeal.nD,
        r.2.mem ((c.tc : Thread Cert.AKernelIdeal.nD Cert.AKernelIdeal.τ).loc Cert.AKernelIdeal.main_arg0) = m ((c.tc : Thread Cert.AKernelIdeal.nD Cert.AKernelIdeal.τ).loc Cert.AKernelIdeal.main_arg0)
        ∧ r.2.mem ((c.tc : Thread Cert.AKernelIdeal.nD Cert.AKernelIdeal.τ).loc Cert.AKernelIdeal.main_arg1) = m ((c.tc : Thread Cert.AKernelIdeal.nD Cert.AKernelIdeal.τ).loc Cert.AKernelIdeal.main_arg1)
        ∧ r.2.mem ((c.tc : Thread Cert.AKernelIdeal.nD Cert.AKernelIdeal.τ).loc Cert.AKernelIdeal.main_arg2) = m ((c.tc : Thread Cert.AKernelIdeal.nD Cert.AKernelIdeal.τ).loc Cert.AKernelIdeal.main_arg2)
        ∧ r.2.mem ((c.tc : Thread Cert.AKernelIdeal.nD Cert.AKernelIdeal.τ).loc Cert.AKernelIdeal.main_arg3) = m ((c.tc : Thread Cert.AKernelIdeal.nD Cert.AKernelIdeal.τ).loc Cert.AKernelIdeal.main_arg3))
        ∧ r.2.sem = fun _ => 0)

/-- Both programs have one text. -/
theorem same : AtBits = quiescent_AKernel := by sl_kernel_rfl

theorem frame : quiescent_AKernel := same.mp fun m ρ _ => Cert.AKernelIdeal.Body.frame (F := Bits) m ρ

end Cert.AKernel.Body

end
-- ==== Proof.Reals.lean ====
module

public import Idealize.ShloMosaic.Lib.Pointwise
public import Idealize.ShloMosaic.Lib.ReduceAll

@[expose] public section

noncomputable section

/-! # Extended reals that are real numbers

The arrays a claim supposes finite hold real numbers; sums, products and quotients of real numbers are real numbers. -/

namespace Cert.Reals

open Idealize.ShloMosaic

/-- A real number among the extended reals. -/
def IsReal (x : EReal) : Prop := ∃ r : ℝ, x = r

namespace IsReal

theorem coe (r : ℝ) : IsReal r := ⟨r, rfl⟩
theorem zero : IsReal 0 := ⟨0, EReal.coe_zero.symm⟩
theorem one : IsReal 1 := ⟨1, EReal.coe_one.symm⟩
theorem add {x y : EReal} : IsReal x → IsReal y → IsReal (x + y) := by
  rintro ⟨r, rfl⟩ ⟨s, rfl⟩; exact ⟨r + s, (EReal.coe_add r s).symm⟩
theorem sub {x y : EReal} : IsReal x → IsReal y → IsReal (x - y) := by
  rintro ⟨r, rfl⟩ ⟨s, rfl⟩; exact ⟨r - s, (EReal.coe_sub r s).symm⟩
theorem mul {x y : EReal} : IsReal x → IsReal y → IsReal (x * y) := by
  rintro ⟨r, rfl⟩ ⟨s, rfl⟩; exact ⟨r * s, (EReal.coe_mul r s).symm⟩
theorem neg {x : EReal} : IsReal x → IsReal (-x) := by
  rintro ⟨r, rfl⟩; exact ⟨-r, (EReal.coe_neg r).symm⟩
theorem exp {x : EReal} : IsReal x → IsReal (Ideal.exp x) := by
  rintro ⟨r, rfl⟩; exact ⟨Real.exp r, Ideal.exp_coe r⟩
theorem sum {ι : Type*} (s : Finset ι) {f : ι → EReal} (h : ∀ i, IsReal (f i)) : IsReal (∑ i ∈ s, f i) := by
  classical
  induction s using Finset.induction_on with
  | empty => rw [Finset.sum_empty]; exact zero
  | insert a s ha ih => rw [Finset.sum_insert ha]; exact (h a).add ih

end IsReal

/-- A finite sum of real numbers, taken among the real numbers. -/
theorem coe_sum {ι : Type*} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A factor leaves a sum of real numbers. -/
theorem sum_mul {ι : Type*} (s : Finset ι) {f : ι → EReal} (h : ∀ i, IsReal (f i)) {x : EReal} (hx : IsReal x) :
    (∑ i ∈ s, f i) * x = ∑ i ∈ s, f i * x := by
  obtain ⟨r, rfl⟩ := hx
  choose g hg using h
  simp only [hg, ← EReal.coe_mul, ← coe_sum, Finset.sum_mul]

/-- A magnitude below infinity is a real number's. -/
theorem isReal_of_lt {x : EReal} (h : max x (-x) < ⊤) : IsReal x := by
  induction x with
  | bot => simp at h
  | top => simp at h
  | coe r => exact ⟨r, rfl⟩

/-- The precondition's comparison, one element at a time. -/
theorem isReal_of_cmp {x : EReal} {top : BitVec 32} (ht : Ideal.ofBits .f32 top = ⊤)
    (h : Ideal.cmp .olt (max x (-x)) (Ideal.ofBits .f32 top) = 1#1) : IsReal x := by
  refine isReal_of_lt ?_
  by_contra hn
  rw [ht] at h
  unfold Ideal.cmp at h
  simp only [hn, decide_false] at h
  exact absurd h (by decide)

/-! Float words the programs write, as real numbers. -/

theorem word_half : Ideal.ofBits .f32 0x3F000000#32 = ((1 / 2 : ℝ) : EReal) := by simp [Ideal.ofBits, Ideal.ieee, -EReal.coe_mul]; norm_num
theorem word_one : Ideal.ofBits .f32 0x3F800000#32 = ((1 : ℝ) : EReal) := by simp [Ideal.ofBits, Ideal.ieee, -EReal.coe_mul]; norm_num
theorem word_two : Ideal.ofBits .f32 0x40000000#32 = ((2 : ℝ) : EReal) := by simp [Ideal.ofBits, Ideal.ieee, -EReal.coe_mul]; norm_num
theorem word_1024 : Ideal.ofBits .f32 0x44800000#32 = ((1024 : ℝ) : EReal) := by simp [Ideal.ofBits, Ideal.ieee, -EReal.coe_mul]; norm_num
theorem word_inv1024 : Ideal.ofBits .f32 0x3A800000#32 = ((1 / 1024 : ℝ) : EReal) := by simp [Ideal.ofBits, Ideal.ieee, -EReal.coe_mul]; norm_num
theorem word_inv2048 : Ideal.ofBits .f32 0x3A000000#32 = ((1 / 2048 : ℝ) : EReal) := by simp [Ideal.ofBits, Ideal.ieee, -EReal.coe_mul]; norm_num
theorem word_zero : Ideal.ofBits .f32 0x00000000#32 = 0 := by simp [Ideal.ofBits, Ideal.ieee]
theorem log_pos {r : ℝ} (h : 0 < r) : Ideal.log (r : EReal) = (Real.log r : EReal) := by rw [Ideal.log_coe, if_neg (not_le.2 h)]
theorem div_real {r : ℝ} (h : 0 < r) (x : ℝ) : Ideal.div (x : EReal) (r : EReal) = ((x / r : ℝ) : EReal) := by
  rw [Ideal.div_coe h.ne', ← EReal.coe_mul, ← div_eq_mul_one_div]
theorem word_eighth : Ideal.ofBits .f32 0x3E000000#32 = ((1 / 8 : ℝ) : EReal) := by simp [Ideal.ofBits, Ideal.ieee, -EReal.coe_mul]; norm_num
/-- The float nearest to one over the square root of 96. -/
def scale : ℝ := 13698540 / 134217728
theorem word_scale : Ideal.ofBits .f32 0x3DD105EC#32 = (scale : EReal) := by
  unfold scale
  simp [Ideal.ofBits, Ideal.ieee, -EReal.coe_mul]; norm_num
theorem sitofp_zero : (FloatOps.sitofp .f32 0#32 : Ideal .f32) = (0 : EReal) := by
  show (((0#32).toInt : ℝ) : EReal) = 0
  simp
theorem word_bot : Ideal.ofBits .f32 0xFF800000#32 = ⊥ := by simp [Ideal.ofBits, Ideal.ieee]
theorem word_top : Ideal.ofBits .f32 0x7F800000#32 = ⊤ := by simp [Ideal.ofBits, Ideal.ieee]

end Cert.Reals

end
-- ==== Proof.AttnMath.lean ====
module

public import proofs.«01_k».proof.Proof.Reals
public import Idealize.ShloMosaic.Lib.Pointwise.Index

@[expose] public section

noncomputable section

/-! # One tile of an attention's backward pass, over the reals -/

namespace Cert.Attn

open Idealize.ShloMosaic Cert.Reals

/-- The entries of a matrix of extended reals are these real numbers. -/
def Is {n k : ℕ} (x : (⟨2, ![n, k]⟩ : Shape).Idx → EReal) (f : ℕ → ℕ → ℝ) : Prop :=
  ∀ (r : Fin n) (d : Fin k), x (ix2 r d) = (f r.val d.val : EReal)

theorem Is.at {n k : ℕ} {x : (⟨2, ![n, k]⟩ : Shape).Idx → EReal} {f : ℕ → ℕ → ℝ} (h : Is x f) (i : (⟨2, ![n, k]⟩ : Shape).Idx) :
    x i = (f (i 0).val (i 1).val : EReal) := by
  have e : i = ix2 (i 0) (i 1) := funext fun a => match a with
    | ⟨0, _⟩ => rfl
    | ⟨1, _⟩ => rfl
  exact (congrArg x e).trans (h (i 0) (i 1))

/-- One head of a tile of 512 rows: the scaled queries, the cotangents, each row's sum of cotangent times output and its
log-sum. -/
structure Head where
  q : ℕ → ℕ → ℝ
  d : ℕ → ℕ → ℝ
  delta : ℕ → ℝ
  lse : ℕ → ℝ

namespace Head

variable (H : Head) (k v : ℕ → ℕ → ℝ)

/-- The probability of key `j` in row `r`. -/
def p (r j : ℕ) : ℝ := Real.exp ((∑ l : Fin 128, H.q r l.val * k j l.val) - H.lse r)
/-- The cotangent of its score. -/
def ds (r j : ℕ) : ℝ := H.p k r j * ((∑ l : Fin 128, H.d r l.val * v j l.val) - H.delta r)
/-- What the tile adds to the gradient of value `j`. -/
def dv (a j : ℕ) : ℝ := ∑ r : Fin 512, H.d r.val a * H.p k r.val j
/-- What the tile adds to the gradient of key `j`. -/
def dk (a j : ℕ) : ℝ := ∑ r : Fin 512, H.q r.val a * H.ds k v r.val j
/-- What `n` keys add to the gradient of the queries. -/
def dq (n r a : ℕ) : ℝ := ∑ j : Fin n, H.ds k v r j.val * k j.val a

end Head

/-- A sum over tiles is the sum over all rows. -/
theorem sum_tiles (n k : ℕ) (f : ℕ → ℝ) : ∑ i ∈ Finset.range n, ∑ r : Fin k, f (k * i + r.val) = ∑ s : Fin (k * n), f s.val := by
  rw [← Finset.sum_range fun s => f s]
  induction n with
  | zero => simp
  | succ n ih => rw [Finset.sum_range_succ, ih, Nat.mul_succ, Finset.sum_range_add, ← Finset.sum_range fun r => f (k * n + r)]

/-- A running sum that starts at nothing. -/
theorem first_sum (n : ℕ) (f : ℕ → ℝ) : (if n = 0 then 0 else ∑ i ∈ Finset.range n, f i) + f n = ∑ i ∈ Finset.range (n + 1), f i := by
  rw [Finset.sum_range_succ]
  by_cases hn : n = 0
  · rw [if_pos hn, hn, Finset.sum_range_zero]
  · rw [if_neg hn]

end Cert.Attn

end
-- ==== Proof.ABlock.lean ====
module

public import proofs.«01_k».proof.Proof.AFrame
public import proofs.«01_k».proof.Proof.AttnMath

@[expose] public section

set_option maxRecDepth 16384

noncomputable section

/-! # A point's blocks over the reals -/

namespace Cert.AKernelIdeal.Tile

open Idealize.ShloMosaic Idealize.ShloMosaic.TcCoe Idealize.ShloMosaic.Tactic Idealize.ShloMosaic.Pointwise
open Cert.AKernelIdeal.Gen Cert.Attn Cert.Reals

/-- The entries of a head over the extended reals are those of a head over the reals. -/
structure Head.Is (H : Head Ideal) (R : Attn.Head) : Prop where
  q : Attn.Is H.qm R.q
  d : Attn.Is H.dom R.d
  delta : ∀ r : Fin 512, H.delta (ix2 r 0) = (R.delta r.val : EReal)
  lse : ∀ r : Fin 512, H.lse (ix2 r 0) = (R.lse r.val : EReal)

variable {H : Head Ideal} {R : Attn.Head} {k v : Vec Ideal S512x128 .bf16} {k' v' : ℕ → ℕ → ℝ}

theorem prob_is (h : H.Is R) (hk : Is k k') : Is (prob H k) (R.p k') := fun r j => by
  pointwise [prob]
  simp only [h.q r, hk j, h.lse r, ← EReal.coe_mul, ← coe_sum, ← EReal.coe_sub, Ideal.exp_coe]
  rfl

theorem dscore_is (h : H.Is R) (hk : Is k k') (hv : Is v v') : Is (dscore H k v) (R.ds k' v') := fun r j => by
  pointwise [dscore]
  simp only [h.d r, hv j, h.delta r, prob_is h hk r j, ← EReal.coe_mul, ← coe_sum, ← EReal.coe_sub]
  rfl

theorem dvStep_is (h : H.Is R) (hk : Is k k') : Is (dvStep H k) (R.dv k') := fun a j => by
  pointwise [dvStep]
  simp only [h.d _ a, prob_is h hk _ j, ← EReal.coe_mul, ← coe_sum]
  rfl

theorem dkStep_is (h : H.Is R) (hk : Is k k') (hv : Is v v') : Is (dkStep H k v) (R.dk k' v') := fun a j => by
  pointwise [dkStep]
  simp only [h.q _ a, dscore_is h hk hv _ j, ← EReal.coe_mul, ← coe_sum]
  rfl

theorem dqStep_is (h : H.Is R) (hk : Is k k') (hv : Is v v') : Is (dqStep H k v) (R.dq k' v' 512) := fun r a => by
  pointwise [dqStep]
  simp only [dscore_is h hk hv r _, hk _ a, ← EReal.coe_mul, ← coe_sum]
  rfl

theorem dqSum_is {k v : ℕ → Vec Ideal S512x128 .bf16} {k' v' : ℕ → ℕ → ℕ → ℝ} (h : H.Is R) (hk : ∀ n, Is (k n) (k' n))
    (hv : ∀ n, Is (v n) (v' n)) : ∀ n, Is (dqSum H k v n) (fun r a => ∑ c ∈ Finset.range n, R.dq (k' c) (v' c) 512 r a) := by
  intro n
  induction n with
  | zero =>
    intro r a
    unfold dqSum
    pointwise
    simp
  | succ n ih =>
    intro r a
    unfold dqSum
    pointwise
    rw [ih r a, dqStep_is h (hk n) (hv n) r a, ← EReal.coe_add, Finset.sum_range_succ]

/-- A chunk after its four heads, over the reals. -/
theorem acc_is {rd : ℕ → Vec Ideal S128x512 .f32} {T : ℕ → ℕ → FVec Ideal S128x512 .f32} {f : ℕ → ℕ → ℝ} {g : ℕ → ℕ → ℕ → ℝ}
    (n : ℕ) (hr : Is (rd n) f) : ∀ m, (∀ hh ≤ m, Is (T hh n) (g hh)) → Is (acc rd T m n) (fun a j => f a j + ∑ hh ∈ Finset.range (m + 1), g hh a j) := by
  intro m
  induction m with
  | zero =>
    intro hT a j
    unfold acc
    pointwise
    rw [hr a j, hT 0 le_rfl a j, ← EReal.coe_add, Finset.sum_range_one]
  | succ m ih =>
    intro hT a j
    unfold acc
    pointwise
    rw [ih (fun hh h => hT hh (by omega)) a j, hT (m + 1) le_rfl a j, ← EReal.coe_add, Finset.sum_range_succ _ (m + 1), add_assoc]

theorem lower_word : ∀ l : Fin 128, IntOp.cmpi .slt (BitVec.ofNat 32 l.val) 64#32 = if l.val < 64 then 1#1 else 0#1 := by decide +kernel
theorem upper_word : ∀ l : Fin 128, IntOp.cmpi .sge (BitVec.ofNat 32 l.val) 64#32 = if l.val < 64 then 0#1 else 1#1 := by decide +kernel

theorem lower_apply (r : Fin 512) (l : Fin 128) : k0_pay6 (ix2 r l) = if l.val < 64 then 1#1 else 0#1 := by
  pointwise [k0_pay6]
  exact lower_word l
theorem upper_apply (r : Fin 512) (l : Fin 128) : k0_pay7 (ix2 r l) = if l.val < 64 then 0#1 else 1#1 := by
  pointwise [k0_pay7]
  exact upper_word l

theorem lanes_apply (hh : ℕ) (r : Fin 512) (l : Fin 128) : lanes hh (ix2 r l) = if l.val / 64 = hh % 2 then 1#1 else 0#1 := by
  have hl := l.isLt
  rcases Nat.mod_two_eq_zero_or_one hh with e | e
  · unfold lanes
    rw [e]
    refine (lower_apply r l).trans (if_congr ?_ rfl rfl)
    omega
  · unfold lanes
    rw [e]
    refine (upper_apply r l).trans ?_
    by_cases h : l.val < 64
    · rw [if_pos h, if_neg (by omega)]
    · rw [if_neg h, if_pos (by omega)]

/-- The head's share of a row: the lanes of its half, zero elsewhere. -/
def half (hh : ℕ) (f : ℕ → ℕ → ℝ) (r l : ℕ) : ℝ := if l / 64 = hh % 2 then f r (128 * (hh / 2 % 2) + l) else 0

/-- Head `hh` of a tile over the reals. -/
def realHead (Q D O : ℕ → ℕ → ℝ) (L : ℕ → ℕ → ℝ) (hh : ℕ) : Attn.Head where
  q := half hh Q
  d := half hh D
  delta r := ∑ l : Fin 128, half hh D r l.val * O r (128 * (hh / 2 % 2) + l.val)
  lse := L hh

theorem keep_is {x : Vec Ideal S512x256 .bf16} {f : ℕ → ℕ → ℝ} (hx : Is x f) (hh : ℕ) :
    Is (keep (lanes hh) (fun j => x ((cols hh).toLoadRect.idx j))) (half hh f) := fun r l => by
  pointwise [keep]
  rw [lanes_apply, hx]
  unfold half
  by_cases h : l.val / 64 = hh % 2
  · rw [if_pos h, if_pos h]; rfl
  · rw [if_neg h, if_neg h]; rfl

theorem delta_apply (m : IVec S512x128 1) (q dO : Vec Ideal S512x128 .bf16) (o : Vec Ideal S512x128 .f32) (l : Vec Ideal S1x1x512 .f32)
    (r : Fin 512) : (head m q dO o l).delta (ix2 r 0) = ∑ x : Fin 128, keep m dO (ix2 r x) * o (ix2 r x) := by
  pointwise [head]

theorem headOf_is {x0 x3 : Vec Ideal S512x256 .bf16} {x4 : Vec Ideal S512x256 .f32} {x5 : Vec Ideal S4x1x512 .f32}
    {Q D O : ℕ → ℕ → ℝ} {L : ℕ → ℕ → ℝ} (hQ : Is x0 Q) (hD : Is x3 D) (hO : Is x4 O)
    (hL : ∀ (hh : Fin 4) (r : Fin 512), x5 (ix3 hh 0 r) = (L hh.val r.val : EReal)) (hh : ℕ) (h4 : hh < 4) :
    (headOf x0 x3 x4 x5 hh).Is (realHead Q D O L hh) where
  q := keep_is hQ hh
  d := keep_is hD hh
  delta r := by
    unfold headOf
    rw [delta_apply]
    have ho : ∀ x : Fin 128, x4 ((cols hh).toLoadRect.idx (ix2 r x)) = (O r.val (128 * (hh / 2 % 2) + x.val) : EReal) := fun x => by
      pointwise
      exact hO r _
    simp only [keep_is hD hh r, ho, ← EReal.coe_mul, ← coe_sum]
    rfl
  lse r := by
    unfold headOf
    pointwise [head, col]
    rw [hL]
    show (L (hh % 4) r.val : EReal) = L hh r.val
    rw [Nat.mod_eq_of_lt h4]

/-- A chunk of a block of keys or values over the reals. -/
theorem chunkOf_is {x : Vec Ideal S4096x128 .bf16} {f : ℕ → ℕ → ℝ} (hx : Is x f) (n : ℕ) :
    Is (chunkOf x n) (fun j a => f (512 * (n % 8) + j) a) := fun j a => by
  unfold chunkOf
  pointwise
  exact hx _ a

/-- A gradient block after the four heads over the reals. -/
theorem added_is {z : Vec Ideal S128x4096 .f32} {T : ℕ → ℕ → FVec Ideal S128x512 .f32} {f : ℕ → ℕ → ℝ} {g : ℕ → ℕ → ℕ → ℝ} (hz : Is z f)
    (hT : ∀ hh < 4, ∀ n < 8, Is (T hh n) (fun a j => g hh a (512 * n + j))) :
    Is (added z T) (fun a j => f a j + ∑ hh ∈ Finset.range 4, g hh a j) := fun a j => by
  have hj := j.isLt
  have hd : 512 * (j.val / 512) + j.val % 512 = j.val := by omega
  unfold added
  show acc (fun n x => z ((chunk n).toLoadRect.idx x)) T 3 (j.val / 512) (ix2 a ⟨j.val % 512, Nat.mod_lt _ (by decide)⟩) = _
  refine (acc_is (f := fun a x => f a (512 * (j.val / 512) + x)) (g := fun hh a x => g hh a (512 * (j.val / 512) + x))
    (j.val / 512) ?_ 3 (fun hh h => hT hh (by omega) _ (by omega)) a ⟨j.val % 512, Nat.mod_lt _ (by decide)⟩).trans ?_
  · intro a x
    pointwise
    refine (hz a _).trans ?_
    show (f a.val (512 * (j.val / 512 % 8) + x.val) : EReal) = _
    rw [Nat.mod_eq_of_lt (show j.val / 512 < 8 by omega)]
  · show ((f a.val (512 * (j.val / 512) + j.val % 512) + ∑ hh ∈ Finset.range 4, g hh a.val (512 * (j.val / 512) + j.val % 512) : ℝ) : EReal) = _
    rw [hd]

/-- The keys of chunk `c` of a block. -/
def chunkR (f : ℕ → ℕ → ℝ) (c j a : ℕ) : ℝ := f (512 * (c % 8) + j) a

/-- The query gradient of a pair of heads over the reals. -/
def pairR (R : ℕ → Attn.Head) (K V : ℕ → ℕ → ℝ) (pr r l : ℕ) : ℝ :=
  ∑ c ∈ Finset.range 8, (R (2 * pr + l / 64)).dq (chunkR K c) (chunkR V c) 512 r l

section

variable {i : grid0.Coords} {x0 x3 : Vec Ideal S512x256 .bf16} {x1 x2 : Vec Ideal S4096x128 .bf16} {x4 : Vec Ideal S512x256 .f32} {x5 : Vec Ideal S4x1x512 .f32}
variable {Q D O L K V : ℕ → ℕ → ℝ} (hQ : Is x0 Q) (hK : Is x1 K) (hV : Is x2 V) (hD : Is x3 D) (hO : Is x4 O)
variable (hL : ∀ (hh : Fin 4) (r : Fin 512), x5 (ix3 hh 0 r) = (L hh.val r.val : EReal))

include hQ hK hD hO hL in
theorem nextV_is {x8 : Vec Ideal S128x4096 .f32} {z : ℕ → ℕ → ℝ} (hz : (i 2).val ≠ 0 → Is x8 z) :
    Is (nextV i x0 x1 x3 x4 x5 x8) (fun a j => (if (i 2).val = 0 then 0 else z a j)
      + ∑ hh ∈ Finset.range 4, (realHead Q D O L hh).dv K a j) := by
  unfold nextV
  refine added_is (f := fun a j => if (i 2).val = 0 then 0 else z a j) (g := fun hh => (realHead Q D O L hh).dv K) ?_ fun hh h4 n h8 a j => ?_
  · intro a j
    by_cases h : (i 2).val = 0
    · simp only [if_pos h]
      pointwise [k0_pay5]
      rfl
    · simp only [if_neg h]
      exact hz h a j
  · refine (dvStep_is (headOf_is hQ hD hO hL hh h4) (chunkOf_is hK n) a j).trans ?_
    rw [Nat.mod_eq_of_lt h8]
    rfl

include hQ hK hV hD hO hL in
theorem nextK_is {x7 : Vec Ideal S128x4096 .f32} {z : ℕ → ℕ → ℝ} (hz : (i 2).val ≠ 0 → Is x7 z) :
    Is (nextK i x0 x1 x2 x3 x4 x5 x7) (fun a j => (if (i 2).val = 0 then 0 else z a j)
      + ∑ hh ∈ Finset.range 4, (realHead Q D O L hh).dk K V a j) := by
  unfold nextK
  refine added_is (f := fun a j => if (i 2).val = 0 then 0 else z a j) (g := fun hh => (realHead Q D O L hh).dk K V) ?_ fun hh h4 n h8 a j => ?_
  · intro a j
    by_cases h : (i 2).val = 0
    · simp only [if_pos h]
      pointwise [k0_pay4]
      rfl
    · simp only [if_neg h]
      exact hz h a j
  · refine (dkStep_is (headOf_is hQ hD hO hL hh h4) (chunkOf_is hK n) (chunkOf_is hV n) a j).trans ?_
    rw [Nat.mod_eq_of_lt h8]
    rfl

include hQ hK hV hD hO hL in
theorem pairQ_is (pr : ℕ) (h2 : pr < 2) : Is (pairQ x0 x1 x2 x3 x4 x5 pr) (pairR (realHead Q D O L) K V pr) := fun r l => by
  have hl := l.isLt
  unfold pairQ
  pointwise
  rw [lower_apply, dqSum_is (headOf_is hQ hD hO hL (2 * pr) (by omega)) (chunkOf_is hK) (chunkOf_is hV) 8 r l,
    dqSum_is (headOf_is hQ hD hO hL (2 * pr + 1) (by omega)) (chunkOf_is hK) (chunkOf_is hV) 8 r l]
  unfold pairR
  by_cases h : l.val < 64
  · rw [if_pos h, show l.val / 64 = 0 by omega]; rfl
  · rw [if_neg h, show l.val / 64 = 1 by omega]; rfl

include hQ hK hV hD hO hL in
theorem nextQ_is {x6 : Vec Ideal S8192x256 .f32} {z : ℕ → ℕ → ℝ} (hz : ¬ ((i 1).val = 0 ∧ (i 2).val = 0) → Is x6 z) :
    Is (nextQ i x0 x1 x2 x3 x4 x5 x6) (fun s c => (if (i 1).val = 0 ∧ (i 2).val = 0 then 0 else z s c)
      + if s / 512 = (i 2).val then pairR (realHead Q D O L) K V (c / 128) (s % 512) (c % 128) else 0) := fun s c => by
  have hc := c.isLt
  have hs : Is (startQ i x6) (fun s c => if (i 1).val = 0 ∧ (i 2).val = 0 then 0 else z s c) := fun s c => by
    unfold startQ
    by_cases h : (i 1).val = 0 ∧ (i 2).val = 0
    · simp only [if_pos h]
      pointwise [k0_pay3]
      rfl
    · simp only [if_neg h]
      exact hz h s c
  unfold nextQ
  show _ = (((if (i 1).val = 0 ∧ (i 2).val = 0 then 0 else z s.val c.val)
    + if s.val / 512 = (i 2).val then pairR (realHead Q D O L) K V (c.val / 128) (s.val % 512) (c.val % 128) else 0 : ℝ) : EReal)
  by_cases h : s.val / 512 = (i 2).val
  · rw [if_pos (c := s.val / 512 = _) h]
    refine (if_pos (show ((ix2 s c : S8192x256.Idx) 0).val / 512 = (i 2).val from h)).trans ?_
    show addf (shapeCast S512x128 (fun j => startQ i x6 ((tile i (c.val / 128)).toLoadRect.idx j)) shapeCasts_S512x128_S512x128)
      (pairQ x0 x1 x2 x3 x4 x5 (c.val / 128)) (ix2 ⟨s.val % 512, Nat.mod_lt _ (by decide)⟩ ⟨c.val % 128, Nat.mod_lt _ (by decide)⟩) = _
    pointwise
    rw [pairQ_is hQ hK hV hD hO hL (c.val / 128) (by omega)]
    refine (congrArg (· + _) (hs _ _)).trans ?_
    rw [← EReal.coe_add]
    have e0 : 512 * (i 2).val + s.val % 512 = s.val := by omega
    have e1 : 128 * (c.val / 128 % 2) + c.val % 128 = c.val := by omega
    show (((if (i 1).val = 0 ∧ (i 2).val = 0 then 0 else z (512 * (i 2).val + s.val % 512) (128 * (c.val / 128 % 2) + c.val % 128)) + _ : ℝ) : EReal) = _
    rw [e0, e1]
  · rw [if_neg (c := s.val / 512 = _) h, add_zero]
    exact (if_neg (show ¬ ((ix2 s c : S8192x256.Idx) 0).val / 512 = (i 2).val from h)).trans (hs s c)

end

end Cert.AKernelIdeal.Tile

end
-- ==== Proof.AState.lean ====
module

public import proofs.«01_k».proof.Proof.ABlock

@[expose] public section

set_option maxRecDepth 16384

noncomputable section

/-! # The gradient blocks after each point, over the reals -/

namespace Cert.AKernelIdeal.Tile

open Idealize.ShloMosaic Idealize.ShloMosaic.TcCoe Idealize.ShloMosaic.Tactic Idealize.ShloMosaic.Pointwise
open Cert.AKernelIdeal.Gen Cert.Attn Cert.Reals
open Cert.AKernelIdeal.Body (outsAt outsStep coords_1 coords_2)

/-- The region's input arrays over the reals: row or key, then column; the log-sums by head and row. -/
structure Arrays where
  Q : ℕ → ℕ → ℝ
  K : ℕ → ℕ → ℝ
  V : ℕ → ℕ → ℝ
  D : ℕ → ℕ → ℝ
  O : ℕ → ℕ → ℝ
  L : ℕ → ℕ → ℝ

namespace Arrays

variable (A : Arrays)

/-- Head `hh` of group `g` in tile `i`. -/
def head (g i hh : ℕ) : Attn.Head :=
  realHead (fun r c => A.Q (512 * i + r) (256 * g + c)) (fun r c => A.D (512 * i + r) (256 * g + c))
    (fun r c => A.O (512 * i + r) (256 * g + c)) (fun hh r => A.L (4 * g + hh) (512 * i + r)) hh
/-- Block `b` of the keys of group `g`. -/
def key (g b j a : ℕ) : ℝ := A.K (4096 * b + j) (128 * g + a)
/-- Block `b` of the values of group `g`. -/
def val (g b j a : ℕ) : ℝ := A.V (4096 * b + j) (128 * g + a)

/-- What tile `i` adds to the values' gradient. -/
def vTerm (g b i a j : ℕ) : ℝ := ∑ hh ∈ Finset.range 4, (A.head g i hh).dv (A.key g b) a j
/-- What tile `i` adds to the keys' gradient. -/
def kTerm (g b i a j : ℕ) : ℝ := ∑ hh ∈ Finset.range 4, (A.head g i hh).dk (A.key g b) (A.val g b) a j
/-- What point `u` of a group adds to the queries' gradient. -/
def qTerm (g u s c : ℕ) : ℝ :=
  if s / 512 = u % 16 then pairR (A.head g (u % 16)) (A.key g (u / 16)) (A.val g (u / 16)) (c / 128) (s % 512) (c % 128) else 0

end Arrays

theorem index_in : ∀ t : Fin grid0.N, (win0_0.index t 0 = t.val % 16 ∧ win0_0.index t 1 = t.val / 32)
    ∧ (win0_1.index t 0 = t.val / 16 % 2 ∧ win0_1.index t 1 = t.val / 32) ∧ (win0_2.index t 0 = t.val / 16 % 2 ∧ win0_2.index t 1 = t.val / 32)
    ∧ (win0_3.index t 0 = t.val % 16 ∧ win0_3.index t 1 = t.val / 32) ∧ (win0_4.index t 0 = t.val % 16 ∧ win0_4.index t 1 = t.val / 32)
    ∧ (win0_5.index t 0 = t.val / 32 ∧ win0_5.index t 1 = 0 ∧ win0_5.index t 2 = t.val % 16) := by decide +kernel

variable (m : (ℓ : Loc nD τ sig) → Buf (Elt Ideal) ℓ) (c : Dev nD)

/-- The arrays the region reads are these real ones. -/
structure Reads (A : Arrays) : Prop where
  qs : Is (n := 8192) (k := 512) (V m c main_v23) A.Q
  ks : Is (n := 8192) (k := 256) (V m c main_v33) A.K
  vs : Is (n := 8192) (k := 256) (V m c main_v43) A.V
  ds : Is (n := 8192) (k := 512) (V m c main_v44) A.D
  os : Is (n := 8192) (k := 512) (V m c main_v18) A.O
  ls : ∀ i, (V m c main_v45 : S8x1x8192.Idx → EReal) i = (A.L (i 0).val (i 2).val : EReal)

variable {m c} {A : Arrays} (h : Reads m c A) (t : Fin cfg0.N)

include h

theorem blkQ : Is (n := 512) (k := 256) (iblk m c 0 t) (fun r d => A.Q (512 * (t.val % 16) + r) (256 * (t.val / 32) + d)) := fun r d => by
  refine (h.qs.at (((cfg0.win 0).blk t).view.emb (ix2 r d))).trans ?_
  show (A.Q (win0_0.index t 0 * 512 + 1 * r.val) (win0_0.index t 1 * 256 + 1 * d.val) : EReal) = _
  rw [(index_in t).1.1, (index_in t).1.2]
  ring_nf
theorem blkD : Is (n := 512) (k := 256) (iblk m c 3 t) (fun r d => A.D (512 * (t.val % 16) + r) (256 * (t.val / 32) + d)) := fun r d => by
  refine (h.ds.at (((cfg0.win 3).blk t).view.emb (ix2 r d))).trans ?_
  show (A.D (win0_3.index t 0 * 512 + 1 * r.val) (win0_3.index t 1 * 256 + 1 * d.val) : EReal) = _
  rw [(index_in t).2.2.2.1.1, (index_in t).2.2.2.1.2]
  ring_nf
theorem blkO : Is (n := 512) (k := 256) (iblk m c 4 t) (fun r d => A.O (512 * (t.val % 16) + r) (256 * (t.val / 32) + d)) := fun r d => by
  refine (h.os.at (((cfg0.win 4).blk t).view.emb (ix2 r d))).trans ?_
  show (A.O (win0_4.index t 0 * 512 + 1 * r.val) (win0_4.index t 1 * 256 + 1 * d.val) : EReal) = _
  rw [(index_in t).2.2.2.2.1.1, (index_in t).2.2.2.2.1.2]
  ring_nf
theorem blkK : Is (n := 4096) (k := 128) (iblk m c 1 t) (fun r d => A.K (4096 * (t.val / 16 % 2) + r) (128 * (t.val / 32) + d)) := fun r d => by
  refine (h.ks.at (((cfg0.win 1).blk t).view.emb (ix2 r d))).trans ?_
  show (A.K (win0_1.index t 0 * 4096 + 1 * r.val) (win0_1.index t 1 * 128 + 1 * d.val) : EReal) = _
  rw [(index_in t).2.1.1, (index_in t).2.1.2]
  ring_nf
theorem blkV : Is (n := 4096) (k := 128) (iblk m c 2 t) (fun r d => A.V (4096 * (t.val / 16 % 2) + r) (128 * (t.val / 32) + d)) := fun r d => by
  refine (h.vs.at (((cfg0.win 2).blk t).view.emb (ix2 r d))).trans ?_
  show (A.V (win0_2.index t 0 * 4096 + 1 * r.val) (win0_2.index t 1 * 128 + 1 * d.val) : EReal) = _
  rw [(index_in t).2.2.1.1, (index_in t).2.2.1.2]
  ring_nf
omit h in
theorem read5 (X : S8x1x8192.Idx → EReal) (y : S4x1x512.Idx) :
    (((cfg0.win 5).blk t).view.read (Elt Ideal) X : S4x1x512.Idx → EReal) y = X (((cfg0.win 5).blk t).view.emb y) := rfl
theorem blkL (hh : Fin 4) (r : Fin 512) :
    (iblk m c 5 t : S4x1x512.Idx → EReal) (ix3 hh 0 r) = (A.L (4 * (t.val / 32) + hh.val) (512 * (t.val % 16) + r.val) : EReal) := by
  unfold iblk
  refine (read5 t (V m c main_v45) (ix3 hh 0 r)).trans ((h.ls _).trans ?_)
  show (A.L (win0_5.index t 0 * 4 + 1 * hh.val) (win0_5.index t 2 * 512 + 1 * r.val) : EReal) = _
  rw [(index_in t).2.2.2.2.2.1, (index_in t).2.2.2.2.2.2.2]
  ring_nf

/-- The three blocks after a point that found these. -/
structure After (A : Arrays) (n : ℕ) (o : Vec Ideal S8192x256 .f32 × Vec Ideal S128x4096 .f32 × Vec Ideal S128x4096 .f32) : Prop where
  q : Is o.1 (fun s c => ∑ u ∈ Finset.range (n % 32 + 1), A.qTerm (n / 32) u s c)
  k : Is o.2.1 (fun a j => ∑ i ∈ Finset.range (n % 16 + 1), A.kTerm (n / 32) (n / 16 % 2) i a j)
  v : Is o.2.2 (fun a j => ∑ i ∈ Finset.range (n % 16 + 1), A.vTerm (n / 32) (n / 16 % 2) i a j)

theorem stepV {x8 : Vec Ideal S128x4096 .f32}
    (hz : t.val % 16 ≠ 0 → Is x8 (fun a j => ∑ i ∈ Finset.range (t.val % 16), A.vTerm (t.val / 32) (t.val / 16 % 2) i a j)) :
    Is (nextV (grid0.coords t) (iblk m c 0 t) (iblk m c 1 t) (iblk m c 3 t) (iblk m c 4 t) (iblk m c 5 t) x8)
      (fun a j => ∑ i ∈ Finset.range (t.val % 16 + 1), A.vTerm (t.val / 32) (t.val / 16 % 2) i a j) := fun a j => by
  refine (nextV_is (i := grid0.coords t) (blkQ h t) (blkK h t) (blkD h t) (blkO h t)
    (L := fun hh r => A.L (4 * (t.val / 32) + hh) (512 * (t.val % 16) + r)) (blkL h t) (x8 := x8)
    (z := fun a j => ∑ i ∈ Finset.range (t.val % 16), A.vTerm (t.val / 32) (t.val / 16 % 2) i a j)
    (fun hi => hz (by rwa [coords_2] at hi)) a j).trans (congrArg _ ?_)
  rw [coords_2]
  exact first_sum (t.val % 16) fun i => A.vTerm (t.val / 32) (t.val / 16 % 2) i a j

theorem stepK {x7 : Vec Ideal S128x4096 .f32}
    (hz : t.val % 16 ≠ 0 → Is x7 (fun a j => ∑ i ∈ Finset.range (t.val % 16), A.kTerm (t.val / 32) (t.val / 16 % 2) i a j)) :
    Is (nextK (grid0.coords t) (iblk m c 0 t) (iblk m c 1 t) (iblk m c 2 t) (iblk m c 3 t) (iblk m c 4 t) (iblk m c 5 t) x7)
      (fun a j => ∑ i ∈ Finset.range (t.val % 16 + 1), A.kTerm (t.val / 32) (t.val / 16 % 2) i a j) := fun a j => by
  refine (nextK_is (i := grid0.coords t) (blkQ h t) (blkK h t) (blkV h t) (blkD h t) (blkO h t)
    (L := fun hh r => A.L (4 * (t.val / 32) + hh) (512 * (t.val % 16) + r)) (blkL h t) (x7 := x7)
    (z := fun a j => ∑ i ∈ Finset.range (t.val % 16), A.kTerm (t.val / 32) (t.val / 16 % 2) i a j)
    (fun hi => hz (by rwa [coords_2] at hi)) a j).trans (congrArg _ ?_)
  rw [coords_2]
  exact first_sum (t.val % 16) fun i => A.kTerm (t.val / 32) (t.val / 16 % 2) i a j

theorem stepQ {x6 : Vec Ideal S8192x256 .f32}
    (hz : t.val % 32 ≠ 0 → Is x6 (fun s d => ∑ u ∈ Finset.range (t.val % 32), A.qTerm (t.val / 32) u s d)) :
    Is (nextQ (grid0.coords t) (iblk m c 0 t) (iblk m c 1 t) (iblk m c 2 t) (iblk m c 3 t) (iblk m c 4 t) (iblk m c 5 t) x6)
      (fun s d => ∑ u ∈ Finset.range (t.val % 32 + 1), A.qTerm (t.val / 32) u s d) := fun s d => by
  refine (nextQ_is (i := grid0.coords t) (blkQ h t) (blkK h t) (blkV h t) (blkD h t) (blkO h t)
    (L := fun hh r => A.L (4 * (t.val / 32) + hh) (512 * (t.val % 16) + r)) (blkL h t) (x6 := x6)
    (z := fun s d => ∑ u ∈ Finset.range (t.val % 32), A.qTerm (t.val / 32) u s d)
    (fun hi => hz (by rw [coords_1, coords_2] at hi; omega)) s d).trans (congrArg _ ?_)
  rw [coords_1, coords_2]
  refine Eq.trans ?_ (first_sum (t.val % 32) fun u => A.qTerm (t.val / 32) u s d)
  refine congrArg₂ (· + ·) (if_congr (by omega) rfl rfl) ?_
  show _ = Arrays.qTerm A (t.val / 32) (t.val % 32) s d
  unfold Arrays.qTerm
  rw [show t.val % 32 % 16 = t.val % 16 by omega, show t.val % 32 / 16 = t.val / 16 % 2 by omega]
  rfl

theorem step_after {o : Vec Ideal S8192x256 .f32 × Vec Ideal S128x4096 .f32 × Vec Ideal S128x4096 .f32}
    (ho : t.val ≠ 0 → After A (t.val - 1) o) : After A t.val (outsStep m c t o) where
  q := stepQ h t fun hi => by
    have := (ho (by omega)).q
    rwa [show (t.val - 1) % 32 + 1 = t.val % 32 by omega, show (t.val - 1) / 32 = t.val / 32 by omega] at this
  k := stepK h t fun hi => by
    have := (ho (by omega)).k
    rwa [show (t.val - 1) % 16 + 1 = t.val % 16 by omega, show (t.val - 1) / 32 = t.val / 32 by omega,
      show (t.val - 1) / 16 % 2 = t.val / 16 % 2 by omega] at this
  v := stepV h t fun hi => by
    have := (ho (by omega)).v
    rwa [show (t.val - 1) % 16 + 1 = t.val % 16 by omega, show (t.val - 1) / 32 = t.val / 32 by omega,
      show (t.val - 1) / 16 % 2 = t.val / 16 % 2 by omega] at this

theorem after_is : ∀ (n : ℕ) (hn : n < cfg0.N), After A n (outsAt m c n hn) := by
  intro n
  induction n with
  | zero => exact fun hn => step_after h ⟨0, hn⟩ (fun e => absurd rfl e)
  | succ n ih => exact fun hn => step_after h ⟨n + 1, hn⟩ (fun _ => ih (Nat.lt_of_succ_lt hn))

end Cert.AKernelIdeal.Tile

end
-- ==== Proof.AArrays.lean ====
module

public import proofs.«01_k».proof.Proof.AState

@[expose] public section

set_option maxRecDepth 16384

noncomputable section

/-! # The three gradient arrays after the region, over the reals -/

namespace Cert.AKernelIdeal.Tile

open Idealize.ShloMosaic Idealize.ShloMosaic.TcCoe Idealize.ShloMosaic.Tactic Idealize.ShloMosaic.Pointwise
open Cert.AKernelIdeal Cert.AKernelIdeal.Gen Cert.Attn Cert.Reals
open Cert.AKernelIdeal.Body (outsAt outsStep dats after_6 after_7 after_8)

namespace Arrays

variable (A : Arrays)

/-- The queries' gradient, by row and column. -/
def dq (s c : ℕ) : ℝ := ∑ u ∈ Finset.range 32, A.qTerm (c / 256) u s (c % 256)
/-- The keys' gradient, by column and key. -/
def dk (a j : ℕ) : ℝ := ∑ i ∈ Finset.range 16, A.kTerm (a / 128) (j / 4096) i (a % 128) (j % 4096)
/-- The values' gradient, by column and key. -/
def dv (a j : ℕ) : ℝ := ∑ i ∈ Finset.range 16, A.vTerm (a / 128) (j / 4096) i (a % 128) (j % 4096)

end Arrays

theorem index_out : ∀ t : Fin grid0.N, (win0_6.index t 0 = 0 ∧ win0_6.index t 1 = t.val / 32)
    ∧ (win0_7.index t 0 = t.val / 32 ∧ win0_7.index t 1 = t.val / 16 % 2)
    ∧ (win0_8.index t 0 = t.val / 32 ∧ win0_8.index t 1 = t.val / 16 % 2) := by decide +kernel

/-- The last point of a group. -/
def pointQ (d : Fin 512) : Fin cfg0.N := ⟨32 * (d.val / 256) + 31, by rw [show cfg0.N = 64 from N_0]; omega⟩
/-- The last point of a block of keys in a group. -/
def pointK (a : Fin 256) (j : Fin 8192) : Fin cfg0.N := ⟨32 * (a.val / 128) + 16 * (j.val / 4096) + 15, by rw [show cfg0.N = 64 from N_0]; omega⟩

variable {m : (ℓ : Loc nD τ sig) → Buf (Elt Ideal) ℓ} {c : Dev nD} {A : Arrays} (h : Reads m c A)

include h

theorem arr6 : (dats m 0 c).arrAt 6 cfg0.N = fun i : S8192x512.Idx => (A.dq (i 0).val (i 1).val : EReal) :=
  (dats m 0 c).arrAt_eq_of_cover 6 _ (fun t hf => by
    have hl : t.val % 32 = 31 := (flush0_6 t).mp hf
    show (cfg0.win 6).cut (grid0.coords t) ((dats m 0 c).after 6 t) = _
    rw [after_6]
    funext y
    rw [View.read_apply]
    refine ((after_is h t.val t.isLt).q.at y).trans (congrArg _ ?_)
    have hy : (y 1).val < 256 := (y 1).isLt
    show _ = A.dq (win0_6.index t 0 * 8192 + 1 * (y 0).val) (win0_6.index t 1 * 256 + 1 * (y 1).val)
    rw [(index_out t).1.1, (index_out t).1.2, hl]
    unfold Arrays.dq
    rw [show 0 * 8192 + 1 * (y 0).val = (y 0).val by omega,
      show (t.val / 32 * 256 + 1 * (y 1).val) / 256 = t.val / 32 by omega,
      show (t.val / 32 * 256 + 1 * (y 1).val) % 256 = (y 1).val by omega]) fun i =>
    ⟨pointQ (i 1), (flush0_6 _).mpr (by show (32 * ((i 1).val / 256) + 31) % 32 = 31; omega), by
      show i ∈ ((View.whole main_v46_0).slice (win0_6.rect (pointQ (i 1)))).set
      rw [View.set_slice_whole, Rect.mem_set_unit]
      have h0 : (i 0).val < 8192 := (i 0).isLt
      have e : win0_6.index (pointQ (i 1)) 0 * 8192 ≤ (i 0).val ∧ (i 0).val < win0_6.index (pointQ (i 1)) 0 * 8192 + 8192 := by
        rw [(index_out _).1.1]; omega
      have e' : win0_6.index (pointQ (i 1)) 1 * 256 ≤ (i 1).val ∧ (i 1).val < win0_6.index (pointQ (i 1)) 1 * 256 + 256 := by
        rw [(index_out _).1.2]
        show (32 * ((i 1).val / 256) + 31) / 32 * 256 ≤ (i 1).val ∧ (i 1).val < (32 * ((i 1).val / 256) + 31) / 32 * 256 + 256
        omega
      exact fun a => match a with
        | ⟨0, _⟩ => e
        | ⟨1, _⟩ => e'⟩

theorem arr7 : (dats m 0 c).arrAt 7 cfg0.N = fun i : S256x8192.Idx => (A.dk (i 0).val (i 1).val : EReal) :=
  (dats m 0 c).arrAt_eq_of_cover 7 _ (fun t hf => by
    have hl : t.val % 16 = 15 := (flush0_7 t).mp hf
    show (cfg0.win 7).cut (grid0.coords t) ((dats m 0 c).after 7 t) = _
    rw [after_7]
    funext y
    rw [View.read_apply]
    refine ((after_is h t.val t.isLt).k.at y).trans (congrArg _ ?_)
    have h0 : (y 0).val < 128 := (y 0).isLt
    have h1 : (y 1).val < 4096 := (y 1).isLt
    show _ = A.dk (win0_7.index t 0 * 128 + 1 * (y 0).val) (win0_7.index t 1 * 4096 + 1 * (y 1).val)
    rw [(index_out t).2.1.1, (index_out t).2.1.2, hl]
    unfold Arrays.dk
    rw [show (t.val / 32 * 128 + 1 * (y 0).val) / 128 = t.val / 32 by omega,
      show (t.val / 32 * 128 + 1 * (y 0).val) % 128 = (y 0).val by omega,
      show (t.val / 16 % 2 * 4096 + 1 * (y 1).val) / 4096 = t.val / 16 % 2 by omega,
      show (t.val / 16 % 2 * 4096 + 1 * (y 1).val) % 4096 = (y 1).val by omega]) fun i => by
    have h0 : (i 0).val < 256 := (i 0).isLt
    have h1 : (i 1).val < 8192 := (i 1).isLt
    refine ⟨pointK (i 0) (i 1), (flush0_7 _).mpr (by
      show (32 * ((i 0).val / 128) + 16 * ((i 1).val / 4096) + 15) % 16 = 15; omega), ?_⟩
    show i ∈ ((View.whole main_v46_1).slice (win0_7.rect (pointK (i 0) (i 1)))).set
    rw [View.set_slice_whole, Rect.mem_set_unit]
    have e : win0_7.index (pointK (i 0) (i 1)) 0 * 128 ≤ (i 0).val ∧ (i 0).val < win0_7.index (pointK (i 0) (i 1)) 0 * 128 + 128 := by
      rw [(index_out _).2.1.1]
      show (32 * ((i 0).val / 128) + 16 * ((i 1).val / 4096) + 15) / 32 * 128 ≤ (i 0).val
        ∧ (i 0).val < (32 * ((i 0).val / 128) + 16 * ((i 1).val / 4096) + 15) / 32 * 128 + 128
      omega
    have e' : win0_7.index (pointK (i 0) (i 1)) 1 * 4096 ≤ (i 1).val ∧ (i 1).val < win0_7.index (pointK (i 0) (i 1)) 1 * 4096 + 4096 := by
      rw [(index_out _).2.1.2]
      show (32 * ((i 0).val / 128) + 16 * ((i 1).val / 4096) + 15) / 16 % 2 * 4096 ≤ (i 1).val
        ∧ (i 1).val < (32 * ((i 0).val / 128) + 16 * ((i 1).val / 4096) + 15) / 16 % 2 * 4096 + 4096
      omega
    exact fun a => match a with
      | ⟨0, _⟩ => e
      | ⟨1, _⟩ => e'

theorem arr8 : (dats m 0 c).arrAt 8 cfg0.N = fun i : S256x8192.Idx => (A.dv (i 0).val (i 1).val : EReal) :=
  (dats m 0 c).arrAt_eq_of_cover 8 _ (fun t hf => by
    have hl : t.val % 16 = 15 := (flush0_8 t).mp hf
    show (cfg0.win 8).cut (grid0.coords t) ((dats m 0 c).after 8 t) = _
    rw [after_8]
    funext y
    rw [View.read_apply]
    refine ((after_is h t.val t.isLt).v.at y).trans (congrArg _ ?_)
    have h0 : (y 0).val < 128 := (y 0).isLt
    have h1 : (y 1).val < 4096 := (y 1).isLt
    show _ = A.dv (win0_8.index t 0 * 128 + 1 * (y 0).val) (win0_8.index t 1 * 4096 + 1 * (y 1).val)
    rw [(index_out t).2.2.1, (index_out t).2.2.2, hl]
    unfold Arrays.dv
    rw [show (t.val / 32 * 128 + 1 * (y 0).val) / 128 = t.val / 32 by omega,
      show (t.val / 32 * 128 + 1 * (y 0).val) % 128 = (y 0).val by omega,
      show (t.val / 16 % 2 * 4096 + 1 * (y 1).val) / 4096 = t.val / 16 % 2 by omega,
      show (t.val / 16 % 2 * 4096 + 1 * (y 1).val) % 4096 = (y 1).val by omega]) fun i => by
    have h0 : (i 0).val < 256 := (i 0).isLt
    have h1 : (i 1).val < 8192 := (i 1).isLt
    refine ⟨pointK (i 0) (i 1), (flush0_8 _).mpr (by
      show (32 * ((i 0).val / 128) + 16 * ((i 1).val / 4096) + 15) % 16 = 15; omega), ?_⟩
    show i ∈ ((View.whole main_v46_2).slice (win0_8.rect (pointK (i 0) (i 1)))).set
    rw [View.set_slice_whole, Rect.mem_set_unit]
    have e : win0_8.index (pointK (i 0) (i 1)) 0 * 128 ≤ (i 0).val ∧ (i 0).val < win0_8.index (pointK (i 0) (i 1)) 0 * 128 + 128 := by
      rw [(index_out _).2.2.1]
      show (32 * ((i 0).val / 128) + 16 * ((i 1).val / 4096) + 15) / 32 * 128 ≤ (i 0).val
        ∧ (i 0).val < (32 * ((i 0).val / 128) + 16 * ((i 1).val / 4096) + 15) / 32 * 128 + 128
      omega
    have e' : win0_8.index (pointK (i 0) (i 1)) 1 * 4096 ≤ (i 1).val ∧ (i 1).val < win0_8.index (pointK (i 0) (i 1)) 1 * 4096 + 4096 := by
      rw [(index_out _).2.2.2]
      show (32 * ((i 0).val / 128) + 16 * ((i 1).val / 4096) + 15) / 16 % 2 * 4096 ≤ (i 1).val
        ∧ (i 1).val < (32 * ((i 0).val / 128) + 16 * ((i 1).val / 4096) + 15) / 16 % 2 * 4096 + 4096
      omega
    exact fun a => match a with
      | ⟨0, _⟩ => e
      | ⟨1, _⟩ => e'

end Cert.AKernelIdeal.Tile

end
-- ==== Proof.AttnSoft.lean ====
module

public import Mathlib.Analysis.SpecialFunctions.Log.Basic
public import Mathlib.Tactic.FieldSimp
public import Mathlib.Tactic.Ring
public import Mathlib.Algebra.BigOperators.Field

@[expose] public section

noncomputable section

/-! # Softmax rows over the reals

The rows are named by a head and a place, the 8192 keys of a row by their place; a row's scores are `σ`, the cotangents of its
probabilities `dp`. -/

namespace Cert.Attn.Soft

variable (σ dp : ℕ → ℕ → ℕ → ℝ)

/-- The sum of the exponentials of a row's scores. -/
def total (h s : ℕ) : ℝ := ∑ j : Fin 8192, Real.exp (σ h s j.val)
/-- The probability of key `j`. -/
def p (h s j : ℕ) : ℝ := Real.exp (σ h s j) / total σ h s
/-- The row's mean of the cotangents. -/
def delta (h s : ℕ) : ℝ := ∑ j : Fin 8192, p σ h s j.val * dp h s j.val
/-- The cotangent of the score. -/
def ds (h s j : ℕ) : ℝ := p σ h s j * (dp h s j - delta σ dp h s)

/-! What the forward pass keeps of a row whose scores are shifted by `M`. -/

/-- The exponential of a shifted score. -/
def e (M : ℝ) (h s j : ℕ) : ℝ := Real.exp (σ h s j - M)
/-- Their sum. -/
def l (M : ℝ) (h s : ℕ) : ℝ := ∑ j : Fin 8192, e σ M h s j.val
/-- The row's mean of a column `w`. -/
def o (M : ℝ) (h s : ℕ) (w : ℕ → ℝ) : ℝ := (∑ j : Fin 8192, e σ M h s j.val * w j.val) / l σ M h s
/-- The row's log-sum. -/
def lse (M : ℝ) (h s : ℕ) : ℝ := M + Real.log (l σ M h s)

theorem total_pos (h s : ℕ) : 0 < total σ h s := Finset.sum_pos (fun _ _ => Real.exp_pos _) ⟨0, Finset.mem_univ _⟩

theorem l_pos (M : ℝ) (h s : ℕ) : 0 < l σ M h s := Finset.sum_pos (fun _ _ => Real.exp_pos _) ⟨0, Finset.mem_univ _⟩

theorem l_eq (M : ℝ) (h s : ℕ) : l σ M h s = total σ h s * Real.exp (-M) := by
  unfold l total e
  rw [Finset.sum_mul]
  exact Finset.sum_congr rfl fun j _ => by rw [sub_eq_add_neg, Real.exp_add]

/-- The shift cancels in the quotient. -/
theorem e_div_l (M : ℝ) (h s j : ℕ) : e σ M h s j / l σ M h s = p σ h s j := by
  rw [l_eq]
  unfold e p
  have := (total_pos σ h s).ne'
  have := (Real.exp_pos (-M)).ne'
  rw [sub_eq_add_neg, Real.exp_add]
  field_simp

/-- The log-sum recovers the probability from the score. -/
theorem exp_sub_lse (M : ℝ) (h s j : ℕ) : Real.exp (σ h s j - lse σ M h s) = p σ h s j := by
  rw [← e_div_l σ M]
  unfold lse e
  rw [← sub_sub, Real.exp_sub _ (Real.log _), Real.exp_log (l_pos σ M h s)]

theorem o_eq (M : ℝ) (h s : ℕ) (w : ℕ → ℝ) : o σ M h s w = ∑ j : Fin 8192, p σ h s j.val * w j.val := by
  unfold o
  rw [Finset.sum_div]
  exact Finset.sum_congr rfl fun j _ => by rw [← e_div_l σ M]; ring

/-- The shift cancels in the log-sum. -/
theorem lse_eq (M : ℝ) (h s : ℕ) : lse σ M h s = Real.log (total σ h s) := by
  unfold lse
  rw [l_eq, Real.log_mul (total_pos σ h s).ne' (Real.exp_pos _).ne', Real.log_exp]
  ring

/-- The row sum of cotangent times output is the mean of the probabilities' cotangents. -/
theorem sum_o {n : ℕ} (M : ℝ) (h s : ℕ) (d : ℕ → ℝ) (v : ℕ → ℕ → ℝ)
    (hdp : ∀ j, dp h s j = ∑ x : Fin n, d x.val * v j x.val) :
    ∑ x : Fin n, d x.val * o σ M h s (fun j => v j x.val) = delta σ dp h s := by
  unfold delta
  simp only [o_eq, hdp, Finset.mul_sum]
  rw [Finset.sum_comm]
  exact Finset.sum_congr rfl fun j _ => Finset.sum_congr rfl fun x _ => by ring

/-- The cotangent of a score as the derivative of a quotient spells it. -/
theorem ds_eq (M : ℝ) (h s j : ℕ) : (dp h s j / l σ M h s
    + -∑ j' : Fin 8192, dp h s j'.val * (1 / (l σ M h s * l σ M h s)) * e σ M h s j'.val) * e σ M h s j = ds σ dp h s j := by
  have hl := (l_pos σ M h s).ne'
  unfold ds delta
  simp only [← e_div_l σ M]
  have : ∑ j' : Fin 8192, dp h s j'.val * (1 / (l σ M h s * l σ M h s)) * e σ M h s j'.val
      = (∑ j' : Fin 8192, e σ M h s j'.val / l σ M h s * dp h s j'.val) / l σ M h s := by
    rw [Finset.sum_div]
    exact Finset.sum_congr rfl fun j _ => by field_simp
  rw [this]
  field_simp
  ring

end Cert.Attn.Soft

end
-- ==== Proof.AttnInput.lean ====
module

public import proofs.«01_k».proof.Proof.AttnMath
public import proofs.«01_k».proof.Proof.AttnSoft

@[expose] public section

noncomputable section

/-! # The gradients of grouped-query attention over the reals

Two groups of four heads of 64 lanes over 8192 rows and as many keys; the cotangent's columns are the heads one after the other.
-/

namespace Cert.Attn

/-- The arguments. -/
structure Input where
  q : ℕ → ℕ → ℕ → ℝ
  k : ℕ → ℕ → ℕ → ℝ
  v : ℕ → ℕ → ℕ → ℝ
  d : ℕ → ℕ → ℝ

namespace Input

variable (I : Input)

/-- The scaled product of row `s` of head `h` with key `j`. -/
def score (h s j : ℕ) : ℝ := (∑ x : Fin 64, I.q h s x.val * I.k (h / 4) j x.val) * (1 / 8)
/-- The sum of the exponentials of a row's scores. -/
def total (h s : ℕ) : ℝ := ∑ j : Fin 8192, Real.exp (I.score h s j.val)
/-- The probability of key `j`. -/
def p (h s j : ℕ) : ℝ := Real.exp (I.score h s j) / I.total h s
/-- The cotangent of that probability. -/
def dp (h s j : ℕ) : ℝ := ∑ x : Fin 64, I.d s (64 * h + x.val) * I.v (h / 4) j x.val
/-- The row's mean of these cotangents. -/
def delta (h s : ℕ) : ℝ := ∑ j : Fin 8192, I.p h s j.val * I.dp h s j.val
/-- The cotangent of the score. -/
def ds (h s j : ℕ) : ℝ := I.p h s j * (I.dp h s j - I.delta h s)
/-- The gradient of the queries. -/
def dq (h s x : ℕ) : ℝ := ∑ j : Fin 8192, I.ds h s j.val * (1 / 8) * I.k (h / 4) j.val x
/-- The gradient of the keys. -/
def dk (g j x : ℕ) : ℝ := ∑ e : Fin 4, ∑ s : Fin 8192, I.ds (4 * g + e.val) s.val j * (1 / 8) * I.q (4 * g + e.val) s.val x
/-- The gradient of the values. -/
def dv (g j x : ℕ) : ℝ := ∑ e : Fin 4, ∑ s : Fin 8192, I.d s.val (64 * (4 * g + e.val) + x) * I.p (4 * g + e.val) s.val j

/-! What the forward pass keeps of a row whose scores are shifted by `M`. -/

/-- The exponential of a shifted score. -/
def e (M : ℝ) (h s j : ℕ) : ℝ := Real.exp (I.score h s j - M)
/-- Their sum. -/
def l (M : ℝ) (h s : ℕ) : ℝ := ∑ j : Fin 8192, I.e M h s j.val
/-- The row's output. -/
def o (M : ℝ) (h s x : ℕ) : ℝ := (∑ j : Fin 8192, I.e M h s j.val * I.v (h / 4) j.val x) / I.l M h s
/-- The row's log-sum. -/
def lse (M : ℝ) (h s : ℕ) : ℝ := M + Real.log (I.l M h s)

theorem l_pos (M : ℝ) (h s : ℕ) : 0 < I.l M h s := Soft.l_pos I.score M h s

/-- The log-sum recovers the probability from the score. -/
theorem exp_sub_lse (M : ℝ) (h s j : ℕ) : Real.exp (I.score h s j - I.lse M h s) = I.p h s j := Soft.exp_sub_lse I.score M h s j

/-- The row sum of cotangent times output is the mean of the probabilities' cotangents. -/
theorem sum_o (M : ℝ) (h s : ℕ) : ∑ x : Fin 64, I.d s (64 * h + x.val) * I.o M h s x.val = I.delta h s :=
  Soft.sum_o I.score I.dp M h s (fun x => I.d s (64 * h + x)) (fun j x => I.v (h / 4) j x) fun _ => rfl

/-- The shift cancels in the quotient. -/
theorem e_div_l (M : ℝ) (h s j : ℕ) : I.e M h s j / I.l M h s = I.p h s j := Soft.e_div_l I.score M h s j

/-- The cotangent of a score as the derivative of a quotient spells it. -/
theorem ds_eq (M : ℝ) (h s j : ℕ) : (I.dp h s j / I.l M h s
    + -∑ j' : Fin 8192, I.dp h s j'.val * (1 / (I.l M h s * I.l M h s)) * I.e M h s j'.val) * I.e M h s j = I.ds h s j :=
  Soft.ds_eq I.score I.dp M h s j

end Input

/-! # The gradients of attention with a head of keys and values for each head of queries

Four heads over 8192 rows and as many keys; 96 lanes of queries and keys, 128 of values; the scores are scaled by `b`. -/

/-- The arguments and the scale. -/
structure Wide where
  b : ℝ
  q : ℕ → ℕ → ℕ → ℝ
  k : ℕ → ℕ → ℕ → ℝ
  v : ℕ → ℕ → ℕ → ℝ
  d : ℕ → ℕ → ℝ

namespace Wide

variable (I : Wide)

/-- The scaled product of row `s` of head `h` with key `j`. -/
def score (h s j : ℕ) : ℝ := (∑ x : Fin 96, I.q h s x.val * I.k h j x.val) * I.b
/-- The cotangent of key `j`'s probability. -/
def dp (h s j : ℕ) : ℝ := ∑ x : Fin 128, I.d s (128 * h + x.val) * I.v h j x.val
/-- The probability of key `j`. -/
def p (h s j : ℕ) : ℝ := Soft.p I.score h s j
/-- The row's mean of the probabilities' cotangents. -/
def delta (h s : ℕ) : ℝ := Soft.delta I.score I.dp h s
/-- The cotangent of the score. -/
def ds (h s j : ℕ) : ℝ := Soft.ds I.score I.dp h s j
/-- The gradient of the queries. -/
def dq (h s x : ℕ) : ℝ := ∑ j : Fin 8192, I.ds h s j.val * I.b * I.k h j.val x
/-- The gradient of the keys. -/
def dk (h j x : ℕ) : ℝ := ∑ s : Fin 8192, I.ds h s.val j * I.b * I.q h s.val x
/-- The gradient of the values. -/
def dv (h j x : ℕ) : ℝ := ∑ s : Fin 8192, I.d s.val (128 * h + x) * I.p h s.val j

/-- The exponential of a score shifted by `M`. -/
def e (M : ℝ) (h s j : ℕ) : ℝ := Soft.e I.score M h s j
/-- Their sum. -/
def l (M : ℝ) (h s : ℕ) : ℝ := Soft.l I.score M h s
/-- The row's output. -/
def o (M : ℝ) (h s x : ℕ) : ℝ := Soft.o I.score M h s (fun j => I.v h j x)
/-- The row's log-sum. -/
def lse (M : ℝ) (h s : ℕ) : ℝ := Soft.lse I.score M h s

theorem l_pos (M : ℝ) (h s : ℕ) : 0 < I.l M h s := Soft.l_pos I.score M h s

theorem exp_sub_lse (M : ℝ) (h s j : ℕ) : Real.exp (I.score h s j - I.lse M h s) = I.p h s j := Soft.exp_sub_lse I.score M h s j

theorem sum_o (M : ℝ) (h s : ℕ) : ∑ x : Fin 128, I.d s (128 * h + x.val) * I.o M h s x.val = I.delta h s :=
  Soft.sum_o I.score I.dp M h s (fun x => I.d s (128 * h + x)) (fun j x => I.v h j x) fun _ => rfl

theorem e_div_l (M : ℝ) (h s j : ℕ) : I.e M h s j / I.l M h s = I.p h s j := Soft.e_div_l I.score M h s j

theorem ds_eq (M : ℝ) (h s j : ℕ) : (I.dp h s j / I.l M h s
    + -∑ j' : Fin 8192, I.dp h s j'.val * (1 / (I.l M h s * I.l M h s)) * I.e M h s j'.val) * I.e M h s j = I.ds h s j :=
  Soft.ds_eq I.score I.dp M h s j

end Wide

end Cert.Attn

end
-- ==== Proof.AMatch.lean ====
module

public import proofs.«01_k».proof.Proof.AArrays
public import proofs.«01_k».proof.Proof.AttnInput

@[expose] public section

set_option maxRecDepth 16384

noncomputable section

/-! # The tiled sums are the gradients of attention -/

namespace Cert.AKernelIdeal.Tile

open Cert.Attn

/-- A masked sum over 128 lanes is the sum over its half. -/
theorem sum_half (b : ℕ) (hb : b < 2) (f : ℕ → ℝ) : (∑ l : Fin 128, if l.val / 64 = b then f (l.val % 64) else 0) = ∑ x : Fin 64, f x.val := by
  rw [← sum_tiles 2 64 fun l => if l / 64 = b then f (l % 64) else 0]
  refine (Finset.sum_eq_single_of_mem b (Finset.mem_range.2 hb) fun i _ hi => Finset.sum_eq_zero fun r _ => if_neg (by omega)).trans ?_
  exact Finset.sum_congr rfl fun r _ => by
    rw [if_pos (by omega), show (64 * b + r.val) % 64 = r.val by omega]

/-- The region's arrays for these arguments, the rows shifted by `M`. -/
def ofInput (I : Input) (M : ℕ → ℕ → ℝ) : Arrays where
  Q s c := I.q (c / 64) s (c % 64) * (1 / 8)
  K j c := I.k (c / 128) j (c % 64)
  V j c := I.v (c / 128) j (c % 64)
  D s c := I.d s c
  O s c := I.o (M (c / 64) s) (c / 64) s (c % 64)
  L h s := I.lse (M h s) h s

variable (I : Input) (M : ℕ → ℕ → ℝ) (g b i hh : ℕ) (h4 : hh < 4)

theorem key_eq (j l : ℕ) (hl : l < 128) : (ofInput I M).key g b j l = I.k g (4096 * b + j) (l % 64) := by
  show I.k ((128 * g + l) / 128) (4096 * b + j) ((128 * g + l) % 64) = _
  rw [show (128 * g + l) / 128 = g by omega, show (128 * g + l) % 64 = l % 64 by omega]

theorem val_eq (j l : ℕ) (hl : l < 128) : (ofInput I M).val g b j l = I.v g (4096 * b + j) (l % 64) := by
  show I.v ((128 * g + l) / 128) (4096 * b + j) ((128 * g + l) % 64) = _
  rw [show (128 * g + l) / 128 = g by omega, show (128 * g + l) % 64 = l % 64 by omega]

include h4

theorem head_q (r l : ℕ) (hl : l < 128) : ((ofInput I M).head g i hh).q r l
    = if l / 64 = hh % 2 then I.q (4 * g + hh) (512 * i + r) (l % 64) * (1 / 8) else 0 := by
  show (if l / 64 = hh % 2 then I.q ((256 * g + (128 * (hh / 2 % 2) + l)) / 64) (512 * i + r)
    ((256 * g + (128 * (hh / 2 % 2) + l)) % 64) * (1 / 8) else 0) = _
  by_cases h : l / 64 = hh % 2
  · rw [if_pos h, if_pos h, show (256 * g + (128 * (hh / 2 % 2) + l)) / 64 = 4 * g + hh by omega,
      show (256 * g + (128 * (hh / 2 % 2) + l)) % 64 = l % 64 by omega]
  · rw [if_neg h, if_neg h]

theorem head_d (r l : ℕ) (hl : l < 128) : ((ofInput I M).head g i hh).d r l
    = if l / 64 = hh % 2 then I.d (512 * i + r) (64 * (4 * g + hh) + l % 64) else 0 := by
  show (if l / 64 = hh % 2 then I.d (512 * i + r) (256 * g + (128 * (hh / 2 % 2) + l)) else 0) = _
  by_cases h : l / 64 = hh % 2
  · rw [if_pos h, if_pos h, show 256 * g + (128 * (hh / 2 % 2) + l) = 64 * (4 * g + hh) + l % 64 by omega]
  · rw [if_neg h, if_neg h]

theorem head_delta (r : ℕ) : ((ofInput I M).head g i hh).delta r = I.delta (4 * g + hh) (512 * i + r) := by
  rw [← I.sum_o (M (4 * g + hh) (512 * i + r)), ← sum_half (hh % 2) (by omega) fun x =>
    I.d (512 * i + r) (64 * (4 * g + hh) + x) * I.o (M (4 * g + hh) (512 * i + r)) (4 * g + hh) (512 * i + r) x]
  show (∑ l : Fin 128, ((ofInput I M).head g i hh).d r l.val * (ofInput I M).O (512 * i + r) (256 * g + (128 * (hh / 2 % 2) + l.val))) = _
  refine Finset.sum_congr rfl fun l _ => ?_
  have e := head_d I M g i hh h4 r l.val l.isLt
  refine (congrArg (· * (ofInput I M).O (512 * i + r) (256 * g + (128 * (hh / 2 % 2) + l.val))) e).trans ?_
  by_cases h : l.val / 64 = hh % 2
  · show _ * I.o (M ((256 * g + (128 * (hh / 2 % 2) + l.val)) / 64) (512 * i + r)) ((256 * g + (128 * (hh / 2 % 2) + l.val)) / 64)
      (512 * i + r) ((256 * g + (128 * (hh / 2 % 2) + l.val)) % 64) = _
    rw [if_pos h, if_pos h, show (256 * g + (128 * (hh / 2 % 2) + l.val)) / 64 = 4 * g + hh by omega,
      show (256 * g + (128 * (hh / 2 % 2) + l.val)) % 64 = l.val % 64 by omega]
  · rw [if_neg h, if_neg h, zero_mul]

theorem head_p (r j : ℕ) : ((ofInput I M).head g i hh).p ((ofInput I M).key g b) r j = I.p (4 * g + hh) (512 * i + r) (4096 * b + j) := by
  have hg : (4 * g + hh) / 4 = g := by omega
  rw [← I.exp_sub_lse (M (4 * g + hh) (512 * i + r))]
  refine congrArg Real.exp (congrArg₂ (· - ·) ?_ rfl)
  unfold Input.score
  rw [Finset.sum_mul, hg, ← sum_half (hh % 2) (by omega) fun x => I.q (4 * g + hh) (512 * i + r) x * I.k g (4096 * b + j) x * (1 / 8)]
  refine Finset.sum_congr rfl fun l _ => ?_
  rw [head_q I M g i hh h4 r l.val l.isLt, key_eq I M g b j l.val l.isLt]
  split
  · ring
  · rw [zero_mul]

theorem head_ds (r j : ℕ) : ((ofInput I M).head g i hh).ds ((ofInput I M).key g b) ((ofInput I M).val g b) r j
    = I.ds (4 * g + hh) (512 * i + r) (4096 * b + j) := by
  have hg : (4 * g + hh) / 4 = g := by omega
  unfold Attn.Head.ds Input.ds
  rw [head_p I M g b i hh h4, head_delta I M g i hh h4]
  refine congrArg (_ * ·) (congrArg (· - _) ?_)
  unfold Input.dp
  rw [hg, ← sum_half (hh % 2) (by omega) fun x => I.d (512 * i + r) (64 * (4 * g + hh) + x) * I.v g (4096 * b + j) x]
  refine Finset.sum_congr rfl fun l _ => ?_
  rw [head_d I M g i hh h4 r l.val l.isLt, val_eq I M g b j l.val l.isLt]
  split
  · rfl
  · rw [zero_mul]

/-- One head of a tile adds to the lanes of its half. -/
theorem head_dv (a j : ℕ) (ha : a < 128) : ((ofInput I M).head g i hh).dv ((ofInput I M).key g b) a j
    = if a / 64 = hh % 2 then ∑ r : Fin 512, I.d (512 * i + r.val) (64 * (4 * g + hh) + a % 64) * I.p (4 * g + hh) (512 * i + r.val) (4096 * b + j)
      else 0 := by
  unfold Attn.Head.dv
  by_cases h : a / 64 = hh % 2
  · rw [if_pos h]
    exact Finset.sum_congr rfl fun r _ => by rw [head_d I M g i hh h4 r.val a ha, if_pos h, head_p I M g b i hh h4]
  · rw [if_neg h]
    exact Finset.sum_eq_zero fun r _ => by rw [head_d I M g i hh h4 r.val a ha, if_neg h, zero_mul]

theorem head_dk (a j : ℕ) (ha : a < 128) : ((ofInput I M).head g i hh).dk ((ofInput I M).key g b) ((ofInput I M).val g b) a j
    = if a / 64 = hh % 2 then ∑ r : Fin 512, I.ds (4 * g + hh) (512 * i + r.val) (4096 * b + j) * (1 / 8) * I.q (4 * g + hh) (512 * i + r.val) (a % 64)
      else 0 := by
  unfold Attn.Head.dk
  by_cases h : a / 64 = hh % 2
  · rw [if_pos h]
    exact Finset.sum_congr rfl fun r _ => by rw [head_q I M g i hh h4 r.val a ha, if_pos h, head_ds I M g b i hh h4]; ring
  · rw [if_neg h]
    exact Finset.sum_eq_zero fun r _ => by rw [head_q I M g i hh h4 r.val a ha, if_neg h, zero_mul]

omit h4

/-- The two halves of a masked sum over four heads, over all tiles. -/
theorem both_halves (f : ℕ → ℕ → ℝ) (x : ℕ) (hx : x < 64) (d : ℕ → ℕ → ℕ → ℝ)
    (hd : ∀ i a hh, hh < 4 → a < 128 → a % 64 = x → d i a hh = if a / 64 = hh % 2 then ∑ r : Fin 512, f hh (512 * i + r.val) else 0) :
    (∑ i ∈ Finset.range 16, ∑ hh ∈ Finset.range 4, d i x hh) + ∑ i ∈ Finset.range 16, ∑ hh ∈ Finset.range 4, d i (64 + x) hh
      = ∑ e : Fin 4, ∑ s : Fin 8192, f e.val s.val := by
  rw [← Finset.sum_add_distrib, ← Finset.sum_range fun e => ∑ s : Fin 8192, f e s.val,
    Finset.sum_congr rfl fun e _ => (sum_tiles 16 512 (f e)).symm, Finset.sum_comm]
  refine Finset.sum_congr rfl fun i _ => ?_
  rw [← Finset.sum_add_distrib]
  refine Finset.sum_congr rfl fun hh h => ?_
  have h4 := Finset.mem_range.1 h
  rw [hd i x hh h4 (by omega) (by omega), hd i (64 + x) hh h4 (by omega) (by omega)]
  by_cases e : hh % 2 = 0
  · rw [if_pos (by omega), if_neg (by omega), add_zero]
  · rw [if_neg (by omega), if_pos (by omega), zero_add]

theorem dv_eq (j x : ℕ) (hx : x < 64) : (ofInput I M).dv (128 * g + x) j + (ofInput I M).dv (128 * g + (64 + x)) j = I.dv g j x := by
  refine Eq.trans ?_ (both_halves (fun e s => I.d s (64 * (4 * g + e) + x) * I.p (4 * g + e) s j) x hx
    (fun i a hh => ((ofInput I M).head g i hh).dv ((ofInput I M).key g (j / 4096)) a (j % 4096)) fun i a hh h4 ha e => ?_)
  · unfold Arrays.dv Arrays.vTerm
    rw [show (128 * g + x) / 128 = g by omega, show (128 * g + x) % 128 = x by omega, show (128 * g + (64 + x)) / 128 = g by omega,
      show (128 * g + (64 + x)) % 128 = 64 + x by omega]
  · rw [head_dv I M g _ i hh h4 a _ ha, e, show 4096 * (j / 4096) + j % 4096 = j by omega]

theorem dk_eq (j x : ℕ) (hx : x < 64) : (ofInput I M).dk (128 * g + x) j + (ofInput I M).dk (128 * g + (64 + x)) j = I.dk g j x := by
  refine Eq.trans ?_ (both_halves (fun e s => I.ds (4 * g + e) s j * (1 / 8) * I.q (4 * g + e) s x) x hx
    (fun i a hh => ((ofInput I M).head g i hh).dk ((ofInput I M).key g (j / 4096)) ((ofInput I M).val g (j / 4096)) a (j % 4096))
    fun i a hh h4 ha e => ?_)
  · unfold Arrays.dk Arrays.kTerm
    rw [show (128 * g + x) / 128 = g by omega, show (128 * g + x) % 128 = x by omega, show (128 * g + (64 + x)) / 128 = g by omega,
      show (128 * g + (64 + x)) % 128 = 64 + x by omega]
  · rw [head_dk I M g _ i hh h4 a _ ha, e, show 4096 * (j / 4096) + j % 4096 = j by omega]

/-- A row's query gradient from one block of 4096 keys. -/
theorem pair_eq (s c : ℕ) (hc : c < 256) : pairR ((ofInput I M).head g (s / 512)) ((ofInput I M).key g b) ((ofInput I M).val g b) (c / 128) (s % 512) (c % 128)
    = ∑ j : Fin 4096, I.ds (4 * g + c / 64) s (4096 * b + j.val) * I.k g (4096 * b + j.val) (c % 64) := by
  refine Eq.trans ?_ (sum_tiles 8 512 fun j => I.ds (4 * g + c / 64) s (4096 * b + j) * I.k g (4096 * b + j) (c % 64))
  refine Finset.sum_congr rfl fun n hn => Finset.sum_congr rfl fun j _ => ?_
  have h8 := Finset.mem_range.1 hn
  rw [show 2 * (c / 128) + c % 128 / 64 = c / 64 by omega]
  have e := head_ds I M g b (s / 512) (c / 64) (by omega) (s % 512) (512 * n + j.val)
  rw [show 512 * (s / 512) + s % 512 = s by omega] at e
  rw [← e]
  refine congrArg₂ (· * ·) ?_ ?_
  · show ((ofInput I M).head g (s / 512) (c / 64)).ds (fun j a => (ofInput I M).key g b (512 * (n % 8) + j) a)
      (fun j a => (ofInput I M).val g b (512 * (n % 8) + j) a) (s % 512) j.val = _
    rw [show n % 8 = n by omega]
    rfl
  · show (ofInput I M).key g b (512 * (n % 8) + j.val) (c % 128) = _
    rw [key_eq I M g b _ _ (by omega), show n % 8 = n by omega, show c % 128 % 64 = c % 64 by omega]

theorem dq_eq (h s x : ℕ) (hs : s < 8192) (hx : x < 64) : (ofInput I M).dq s (64 * h + x) * (1 / 8) = I.dq h s x := by
  unfold Arrays.dq Input.dq
  have hq : ∀ u, (ofInput I M).qTerm ((64 * h + x) / 256) u s ((64 * h + x) % 256)
      = if s / 512 = u % 16 then ∑ j : Fin 4096, I.ds h s (4096 * (u / 16) + j.val) * I.k (h / 4) (4096 * (u / 16) + j.val) x else 0 := fun u => by
    unfold Arrays.qTerm
    by_cases e : s / 512 = u % 16
    · rw [if_pos e, if_pos e, ← e, pair_eq I M _ _ _ _ (by omega), show (64 * h + x) / 256 = h / 4 by omega,
        show 4 * (h / 4) + (64 * h + x) % 256 / 64 = h by omega, show (64 * h + x) % 256 % 64 = x by omega]
    · rw [if_neg e, if_neg e]
  rw [Finset.sum_congr rfl fun u _ => hq u, Finset.sum_range fun u => if s / 512 = u % 16 then
    ∑ j : Fin 4096, I.ds h s (4096 * (u / 16) + j.val) * I.k (h / 4) (4096 * (u / 16) + j.val) x else 0,
    ← sum_tiles 2 16 fun u => if s / 512 = u % 16 then
    ∑ j : Fin 4096, I.ds h s (4096 * (u / 16) + j.val) * I.k (h / 4) (4096 * (u / 16) + j.val) x else 0,
    ← sum_tiles 2 4096 fun j => I.ds h s j * (1 / 8) * I.k (h / 4) j x, Finset.sum_mul]
  refine Finset.sum_congr rfl fun b _ => ?_
  refine (congrArg (· * (1 / 8 : ℝ)) (Finset.sum_eq_single_of_mem (⟨s / 512, by omega⟩ : Fin 16) (Finset.mem_univ _) fun u _ hu =>
    if_neg fun e => hu (Fin.ext (by show u.val = s / 512; omega)))).trans ?_
  show (if s / 512 = (16 * b + s / 512) % 16 then ∑ j : Fin 4096, I.ds h s (4096 * ((16 * b + s / 512) / 16) + j.val)
    * I.k (h / 4) (4096 * ((16 * b + s / 512) / 16) + j.val) x else 0) * (1 / 8) = _
  rw [if_pos (by omega), show (16 * b + s / 512) / 16 = b by omega, Finset.sum_mul]
  exact Finset.sum_congr rfl fun j _ => by ring

end Cert.AKernelIdeal.Tile

end
-- ==== Proof.AttnArgs.lean ====
module

public import proofs.«01_k».proof.Proof.AttnInput
public import proofs.«01_k».proof.Proof.Reals

@[expose] public section

set_option maxRecDepth 16384

noncomputable section

/-! # Argument arrays of real numbers -/

namespace Cert.Attn

open Idealize.ShloMosaic Idealize.ShloMosaic.Pointwise Cert.Reals

abbrev Q3 : Shape := ⟨3, ![8, 8192, 64]⟩
abbrev K3 : Shape := ⟨3, ![2, 8192, 64]⟩
abbrev D2 : Shape := ⟨2, ![8192, 512]⟩

/-- The argument arrays hold these numbers. -/
structure Holds (I : Input) (q : Q3.Idx → EReal) (k v : K3.Idx → EReal) (d : D2.Idx → EReal) : Prop where
  q : ∀ i, q i = (I.q (i 0).val (i 1).val (i 2).val : EReal)
  k : ∀ i, k i = (I.k (i 0).val (i 1).val (i 2).val : EReal)
  v : ∀ i, v i = (I.v (i 0).val (i 1).val (i 2).val : EReal)
  d : ∀ i, d i = (I.d (i 0).val (i 1).val : EReal)

/-- A real array of rank three by numbers. -/
theorem exists3 {a b c : ℕ} (x : (⟨3, ![a, b, c]⟩ : Shape).Idx → EReal) (h : ∀ i, IsReal (x i)) :
    ∃ f : ℕ → ℕ → ℕ → ℝ, ∀ i, x i = (f (i 0).val (i 1).val (i 2).val : EReal) :=
  ⟨fun i j l => if e : i < a ∧ j < b ∧ l < c then (x (ix3 ⟨i, e.1⟩ ⟨j, e.2.1⟩ ⟨l, e.2.2⟩)).toReal else 0, fun i => by
    obtain ⟨r, hr⟩ := h i
    have e : ix3 (i 0) (i 1) (i 2) = i := funext fun a => match a with
      | ⟨0, _⟩ => rfl
      | ⟨1, _⟩ => rfl
      | ⟨2, _⟩ => rfl
    dsimp only
    rw [dif_pos ⟨(i 0).isLt, (i 1).isLt, (i 2).isLt⟩]
    refine Eq.trans ?_ (congrArg (fun j => ((x j).toReal : EReal)) e.symm)
    show x i = ((x i).toReal : EReal)
    rw [hr, EReal.toReal_coe]⟩

theorem exists2 {a b : ℕ} (x : (⟨2, ![a, b]⟩ : Shape).Idx → EReal) (h : ∀ i, IsReal (x i)) :
    ∃ f : ℕ → ℕ → ℝ, ∀ i, x i = (f (i 0).val (i 1).val : EReal) :=
  ⟨fun i j => if e : i < a ∧ j < b then (x (ix2 ⟨i, e.1⟩ ⟨j, e.2⟩)).toReal else 0, fun i => by
    obtain ⟨r, hr⟩ := h i
    have e : ix2 (i 0) (i 1) = i := funext fun a => match a with
      | ⟨0, _⟩ => rfl
      | ⟨1, _⟩ => rfl
    dsimp only
    rw [dif_pos ⟨(i 0).isLt, (i 1).isLt⟩]
    refine Eq.trans ?_ (congrArg (fun j => ((x j).toReal : EReal)) e.symm)
    show x i = ((x i).toReal : EReal)
    rw [hr, EReal.toReal_coe]⟩

theorem exists_input (q : Q3.Idx → EReal) (k v : K3.Idx → EReal) (d : D2.Idx → EReal) (hq : ∀ i, IsReal (q i)) (hk : ∀ i, IsReal (k i))
    (hv : ∀ i, IsReal (v i)) (hd : ∀ i, IsReal (d i)) : ∃ I : Input, Holds I q k v d := by
  obtain ⟨a, ha⟩ := exists3 q hq
  obtain ⟨b, hb⟩ := exists3 k hk
  obtain ⟨e, he⟩ := exists3 v hv
  obtain ⟨f, hf⟩ := exists2 d hd
  exact ⟨⟨a, b, e, f⟩, ha, hb, he, hf⟩

abbrev W3 : Shape := ⟨3, ![4, 8192, 96]⟩
abbrev X3 : Shape := ⟨3, ![4, 8192, 128]⟩

/-- The argument arrays hold these numbers, and the scale is the programs'. -/
structure WideHolds (I : Wide) (q k : W3.Idx → EReal) (v : X3.Idx → EReal) (d : D2.Idx → EReal) : Prop where
  b : I.b = scale
  q : ∀ i, q i = (I.q (i 0).val (i 1).val (i 2).val : EReal)
  k : ∀ i, k i = (I.k (i 0).val (i 1).val (i 2).val : EReal)
  v : ∀ i, v i = (I.v (i 0).val (i 1).val (i 2).val : EReal)
  d : ∀ i, d i = (I.d (i 0).val (i 1).val : EReal)

theorem exists_wide (q k : W3.Idx → EReal) (v : X3.Idx → EReal) (d : D2.Idx → EReal) (hq : ∀ i, IsReal (q i)) (hk : ∀ i, IsReal (k i))
    (hv : ∀ i, IsReal (v i)) (hd : ∀ i, IsReal (d i)) : ∃ I : Wide, WideHolds I q k v d := by
  obtain ⟨a, ha⟩ := exists3 q hq
  obtain ⟨b, hb⟩ := exists3 k hk
  obtain ⟨e, he⟩ := exists3 v hv
  obtain ⟨f, hf⟩ := exists2 d hd
  exact ⟨⟨scale, a, b, e, f⟩, rfl, ha, hb, he, hf⟩

/-- The largest of real numbers, along an axis that is not empty, is real. -/
theorem reduce_top {s t u : Shape} {a : Fin s.rank} (x : FVec Ideal s .f32) (hx : ∀ i, IsReal (x i)) (hu : 0 < u.numel)
    (h' : s.ReducesTo [a] t) (h : s.Reduces [a] t) (hn : 0 < s.size a) (j : t.Idx) :
    IsReal (Host.reduce (FloatOps.maximumf (F := Ideal) (φ := .f32)) x (constant u .f32 0xFF800000#32 : FVec Ideal u .f32) h' hu j) := by
  rw [Host.reduce_eq_fold_single _ _ _ h' h]
  have key : ∀ S : Finset (Fin (s.size a)), S.Nonempty →
      IsReal (S.fold (FloatOps.maximumf (F := Ideal) (φ := .f32)) ((constant u .f32 0xFF800000#32 : FVec Ideal u .f32) (Shape.Idx.first hu)) (x ∘ h.lift j)) := fun S hS => by
    induction hS using Finset.Nonempty.cons_induction with
    | singleton b =>
      rw [Finset.fold_singleton]
      show IsReal (max (x (h.lift j b)) (Ideal.ofBits .f32 0xFF800000#32))
      rw [word_bot, max_bot_right]
      exact hx _
    | cons b S hb hS ih =>
      rw [Finset.fold_cons]
      obtain ⟨r, hr⟩ := ih
      obtain ⟨r', hr'⟩ := hx (h.lift j b)
      rw [hr]
      show IsReal (max (x (h.lift j b)) r)
      rw [hr', ← EReal.coe_strictMono.monotone.map_max]
      exact IsReal.coe _
  exact key _ ⟨⟨0, hn⟩, Finset.mem_univ _⟩

end Cert.Attn

end
-- ==== Proof.AHost.lean ====
module

public import proofs.«01_k».proof.Proof.AMatch
public import proofs.«01_k».proof.Proof.AttnArgs

@[expose] public section

set_option maxRecDepth 16384

noncomputable section

/-! # The arrays the region reads, from the arguments -/

namespace Cert.AKernelIdeal.Tile

open Idealize.ShloMosaic Idealize.ShloMosaic.TcCoe Idealize.ShloMosaic.Tactic Idealize.ShloMosaic.Pointwise
open Cert.AKernelIdeal Cert.AKernelIdeal.Gen Cert.Attn Cert.Reals

section

variable (q : FVec Ideal S8x8192x64 .f32) (k v : FVec Ideal S2x8192x64 .f32)

/-- The scores of the forward pass. -/
def scores : FVec Ideal S2x4x8192x8192 .f32 :=
  mulf (Host.dotGeneral dot_S2x4x8192x64_S2x8192x64_S2x4x8192x8192_3_2_12_1_0_0 none
    (shapeCast S2x4x8192x64 q shapeCasts_S8x8192x64_S2x4x8192x64) k) (broadcastInDim S2x4x8192x8192 ![] bcast_S_S2x4x8192x8192 (constant S_ .f32 0x3E000000#32))
/-- Each row's largest score. -/
def tops : FVec Ideal S2x4x8192 .f32 :=
  Host.reduce FloatOps.maximumf (scores q k) (constant S_ .f32 0xFF800000#32) reducesTo_S2x4x8192x8192_S2x4x8192_d3 h_S_
def top1 : FVec Ideal S2x4x8192x1 .f32 := broadcastInDim S2x4x8192x1 ![0, 1, 2] bcast_S2x4x8192_S2x4x8192x1_0_1_2 (tops q k)
/-- The exponentials of the shifted scores. -/
def exps : FVec Ideal S2x4x8192x8192 .f32 :=
  Host.exp (subf (scores q k) (broadcastInDim S2x4x8192x8192 ![0, 1, 2, 3] bcast_S2x4x8192x1_S2x4x8192x8192_0_1_2_3 (top1 q k)))
/-- Their sums. -/
def sums : FVec Ideal S2x4x8192x1 .f32 :=
  broadcastInDim S2x4x8192x1 ![0, 1, 2] bcast_S2x4x8192_S2x4x8192x1_0_1_2
    (Host.reduceAdd (exps q k) (constant S_ .f32 0x00000000#32) reducesTo_S2x4x8192x8192_S2x4x8192_d3 h_S_)
/-- The output. -/
def outs : FVec Ideal S2x4x8192x64 .f32 :=
  Host.divf (Host.dotGeneral dot_S2x4x8192x8192_S2x8192x64_S2x4x8192x64_3_1_12_2_0_0 none (exps q k) v)
    (broadcastInDim S2x4x8192x64 ![0, 1, 2, 3] bcast_S2x4x8192x1_S2x4x8192x64_0_1_2_3 (sums q k))
/-- The rows' log-sums. -/
def logs : FVec Ideal S2x4x8192x1 .f32 := addf (top1 q k) (Host.log (sums q k))

variable {q k v} {I : Input} (hq : ∀ i, q i = (I.q (i 0).val (i 1).val (i 2).val : EReal))
  (hk : ∀ i, k i = (I.k (i 0).val (i 1).val (i 2).val : EReal)) (hv : ∀ i, v i = (I.v (i 0).val (i 1).val (i 2).val : EReal))

include hq hk

theorem scores_is (g : Fin 2) (e : Fin 4) (s j : Fin 8192) : scores q k (ix4 g e s j) = (I.score (4 * g.val + e.val) s.val j.val : EReal) := by
  pointwise [scores]
  rw [word_eighth]
  unfold Input.score
  rw [EReal.coe_mul, coe_sum, show (4 * g.val + e.val) / 4 = g.val by omega]
  refine congrArg (· * _) (Finset.sum_congr rfl fun x _ => ?_)
  rw [hq, hk, EReal.coe_mul]
  show (I.q (g.val * 4 + e.val) s.val x.val : EReal) * (I.k g.val j.val x.val : EReal) = _
  rw [mul_comm g.val 4]

theorem tops_real (g : Fin 2) (e : Fin 4) (s : Fin 8192) : IsReal (tops q k (ix3 g e s)) := by
  refine reduce_top (scores q k) (fun i => ?_) h_S_ reducesTo_S2x4x8192x8192_S2x4x8192_d3 (by decide) (by decide) _
  have := scores_is hq hk (i 0) (i 1) (i 2) (i 3)
  rw [show i = ix4 (i 0) (i 1) (i 2) (i 3) from funext fun a => match a with
    | ⟨0, _⟩ => rfl
    | ⟨1, _⟩ => rfl
    | ⟨2, _⟩ => rfl
    | ⟨3, _⟩ => rfl]
  exact ⟨_, this⟩

/-- The shift of each row of each head. -/
def shift (q : FVec Ideal S8x8192x64 .f32) (k : FVec Ideal S2x8192x64 .f32) (h s : ℕ) : ℝ :=
  if hh : h < 8 ∧ s < 8192 then (tops q k (ix3 ⟨h / 4, by omega⟩ ⟨h % 4, by omega⟩ ⟨s, hh.2⟩)).toReal else 0

theorem tops_is (g : Fin 2) (e : Fin 4) (s : Fin 8192) : tops q k (ix3 g e s) = (shift q k (4 * g.val + e.val) s.val : EReal) := by
  obtain ⟨r, hr⟩ := tops_real hq hk g e s
  have hg := g.isLt
  have he := e.isLt
  unfold shift
  rw [dif_pos ⟨by omega, s.isLt⟩, show (⟨(4 * g.val + e.val) / 4, by omega⟩ : Fin 2) = g from Fin.ext (by show (4 * g.val + e.val) / 4 = _; omega),
    show (⟨(4 * g.val + e.val) % 4, by omega⟩ : Fin 4) = e from Fin.ext (by show (4 * g.val + e.val) % 4 = _; omega)]
  show _ = ((tops q k (ix3 g e s)).toReal : EReal)
  rw [hr, EReal.toReal_coe]

theorem top1_is (g : Fin 2) (e : Fin 4) (s : Fin 8192) : top1 q k (ix4 g e s 0) = (shift q k (4 * g.val + e.val) s.val : EReal) := by
  refine Eq.trans ?_ (tops_is hq hk g e s)
  unfold top1
  generalize tops q k = y
  pointwise

theorem exps_is (g : Fin 2) (e : Fin 4) (s j : Fin 8192) : exps q k (ix4 g e s j)
    = (I.e (shift q k (4 * g.val + e.val) s.val) (4 * g.val + e.val) s.val j.val : EReal) := by
  pointwise [exps]
  rw [scores_is hq hk, top1_is hq hk, ← EReal.coe_sub, Ideal.exp_coe]
  rfl

theorem sums_is (g : Fin 2) (e : Fin 4) (s : Fin 8192) : sums q k (ix4 g e s 0)
    = (I.l (shift q k (4 * g.val + e.val) s.val) (4 * g.val + e.val) s.val : EReal) := by
  pointwise [sums]
  unfold Input.l
  rw [coe_sum]
  exact Finset.sum_congr rfl fun j _ => exps_is hq hk g e s j

theorem logs_is (g : Fin 2) (e : Fin 4) (s : Fin 8192) : logs q k (ix4 g e s 0)
    = (I.lse (shift q k (4 * g.val + e.val) s.val) (4 * g.val + e.val) s.val : EReal) := by
  have key : ∀ x y : FVec Ideal S2x4x8192x1 .f32, addf x (Host.log y) (ix4 g e s 0) = x (ix4 g e s 0) + Ideal.log (y (ix4 g e s 0)) :=
    fun x y => by pointwise
  unfold logs
  rw [key, top1_is hq hk, sums_is hq hk, log_pos (I.l_pos _ _ _), ← EReal.coe_add]
  unfold Input.lse
  rfl

include hv

theorem outs_is (g : Fin 2) (e : Fin 4) (s : Fin 8192) (x : Fin 64) : outs q k v (ix4 g e s x)
    = (I.o (shift q k (4 * g.val + e.val) s.val) (4 * g.val + e.val) s.val x.val : EReal) := by
  pointwise [outs]
  have e1 : ∑ j : Fin 8192, exps q k (ix4 g e s j) * v (ix3 g j x)
      = ((∑ j : Fin 8192, I.e (shift q k (4 * g.val + e.val) s.val) (4 * g.val + e.val) s.val j.val * I.v g.val j.val x.val : ℝ) : EReal) := by
    rw [coe_sum]
    refine Finset.sum_congr rfl fun j _ => ?_
    rw [exps_is hq hk, hv, EReal.coe_mul]
    rfl
  rw [e1, sums_is hq hk, div_real (I.l_pos _ _ _)]
  unfold Input.o
  rw [show (4 * g.val + e.val) / 4 = g.val by omega]

end

variable (m : (ℓ : Loc nD τ sig) → Buf (Elt Ideal) ℓ) (c : Dev nD)

abbrev argQ : FVec Ideal S8x8192x64 .f32 := m ((c : Thread nD τ).loc main_arg0)
abbrev argK : FVec Ideal S2x8192x64 .f32 := m ((c : Thread nD τ).loc main_arg1)
abbrev argV : FVec Ideal S2x8192x64 .f32 := m ((c : Thread nD τ).loc main_arg2)
abbrev argD : FVec Ideal S8192x512 .f32 := m ((c : Thread nD τ).loc main_arg3)

theorem V_o (s : Fin 8192) (d : Fin 512) : (V m c main_v18 : S8192x512.Idx → EReal) (ix2 s d)
    = outs (argQ m c) (argK m c) (argV m c) (ix4 ⟨d.val / 256, by omega⟩ ⟨d.val / 64 % 4, by omega⟩ s ⟨d.val % 64, by omega⟩) := by
  have h : V m c main_v18 = (shapeCast S8192x512 (transpose S8192x2x4x64 [2, 0, 1, 3] (outs (argQ m c) (argK m c) (argV m c))
      transposes_S2x4x8192x64_S8192x2x4x64_2_0_1_3) shapeCasts_S8192x2x4x64_S8192x512 : FVec Ideal S8192x512 .f32) := by
    show StableHlo.after (List.flatten [hostOps0]) (fun b => m (c, b)) (Proc.devRef .tc main_v18) = _
    simp only [List.flatten_cons, List.flatten_nil, List.append_nil]
    unfold outs sums exps top1 tops scores
    after_results
    rfl
  rw [h]
  pointwise

theorem V_l (h : Fin 8) (s : Fin 8192) : (V m c main_v45 : S8x1x8192.Idx → EReal) (ix3 h 0 s)
    = logs (argQ m c) (argK m c) (ix4 ⟨h.val / 4, by omega⟩ ⟨h.val % 4, by omega⟩ s 0) := by
  have h : V m c main_v45 = (shapeCast S8x1x8192 (shapeCast S2x4x8192 (logs (argQ m c) (argK m c)) shapeCasts_S2x4x8192x1_S2x4x8192)
      shapeCasts_S2x4x8192_S8x1x8192 : FVec Ideal S8x1x8192 .f32) := by
    show StableHlo.after (List.flatten [hostOps0]) (fun b => m (c, b)) (Proc.devRef .tc main_v45) = _
    simp only [List.flatten_cons, List.flatten_nil, List.append_nil]
    unfold logs sums exps top1 tops scores
    after_results
    rfl
  rw [h]
  pointwise

theorem V_q (s : Fin 8192) (d : Fin 512) : (V m c main_v23 : S8192x512.Idx → EReal) (ix2 s d)
    = argQ m c (ix3 ⟨d.val / 64, by omega⟩ s ⟨d.val % 64, by omega⟩) * ((1 / 8 : ℝ) : EReal) := by
  have h : V m c main_v23 = (truncf .bf16 (shapeCast S8192x512 (transpose S8192x8x64 [1, 0, 2] (mulf (argQ m c)
      (broadcastInDim S8x8192x64 ![] bcast_S_S8x8192x64 (constant S_ .f32 0x3E000000#32))) transposes_S8x8192x64_S8192x8x64_1_0_2)
      shapeCasts_S8192x8x64_S8192x512) bitsLt_bf16_f32 : FVec Ideal S8192x512 .bf16) := by
    show StableHlo.after (List.flatten [hostOps0]) (fun b => m (c, b)) (Proc.devRef .tc main_v23) = _
    simp only [List.flatten_cons, List.flatten_nil, List.append_nil]
    after_results
    rfl
  rw [h]
  pointwise
  rw [word_eighth]

theorem V_d (s : Fin 8192) (d : Fin 512) : (V m c main_v44 : S8192x512.Idx → EReal) (ix2 s d) = argD m c (ix2 s d) := by
  have h : V m c main_v44 = (truncf .bf16 (argD m c) bitsLt_bf16_f32 : FVec Ideal S8192x512 .bf16) := by
    show StableHlo.after (List.flatten [hostOps0]) (fun b => m (c, b)) (Proc.devRef .tc main_v44) = _
    simp only [List.flatten_cons, List.flatten_nil, List.append_nil]
    after_results
  rw [h]
  pointwise

/-- Each group's keys or values, twice side by side. -/
def twice (k : FVec Ideal S2x8192x64 .f32) : FVec Ideal S8192x256 .f32 :=
  concatenate S8192x256 1 [⟨S8192x64, shapeCast S8192x64 (extractStridedSlice S1x8192x64 ![0, 0, 0] k slices_S2x8192x64_S1x8192x64_0_0_0) shapeCasts_S1x8192x64_S8192x64⟩,
    ⟨S8192x64, shapeCast S8192x64 (extractStridedSlice S1x8192x64 ![0, 0, 0] k slices_S2x8192x64_S1x8192x64_0_0_0) shapeCasts_S1x8192x64_S8192x64⟩,
    ⟨S8192x64, shapeCast S8192x64 (extractStridedSlice S1x8192x64 ![1, 0, 0] k slices_S2x8192x64_S1x8192x64_1_0_0) shapeCasts_S1x8192x64_S8192x64⟩,
    ⟨S8192x64, shapeCast S8192x64 (extractStridedSlice S1x8192x64 ![1, 0, 0] k slices_S2x8192x64_S1x8192x64_1_0_0) shapeCasts_S1x8192x64_S8192x64⟩] concatenates_S8192x64_S8192x64_S8192x64_S8192x64_S8192x256_d1

theorem twice_at (k : FVec Ideal S2x8192x64 .f32) (j : Fin 8192) (d : Fin 256) :
    twice k (ix2 j d) = k (ix3 ⟨d.val / 128, by omega⟩ j ⟨d.val % 64, by omega⟩) := by
  pointwise [twice]
  have hd := d.isLt
  have at_ {g g' : Fin 2} {x x' : Fin 64} (hg : g.val = g'.val) (hx : x.val = x'.val) : k (ix3 g j x) = k (ix3 g' j x') := by
    rw [Fin.ext hg, Fin.ext hx]
  by_cases h1 : d.val < 64
  · rw [dif_pos h1]
    exact at_ (by show 0 = d.val / 128; omega) (by show d.val = d.val % 64; omega)
  rw [dif_neg h1]
  by_cases h2 : d.val - 64 < 64
  · rw [dif_pos h2]
    exact at_ (by show 0 = d.val / 128; omega) (by show d.val - 64 = d.val % 64; omega)
  rw [dif_neg h2]
  by_cases h3 : d.val - 64 - 64 < 64
  · rw [dif_pos h3]
    exact at_ (by show 1 = d.val / 128; omega) (by show d.val - 64 - 64 = d.val % 64; omega)
  rw [dif_neg h3]
  exact at_ (by show 1 = d.val / 128; omega) (by show d.val - 64 - 64 - 64 = d.val % 64; omega)

theorem V_k (j : Fin 8192) (d : Fin 256) : (V m c main_v33 : S8192x256.Idx → EReal) (ix2 j d)
    = argK m c (ix3 ⟨d.val / 128, by omega⟩ j ⟨d.val % 64, by omega⟩) := by
  have h : V m c main_v33 = (truncf .bf16 (twice (argK m c)) bitsLt_bf16_f32 : FVec Ideal S8192x256 .bf16) := by
    show StableHlo.after (List.flatten [hostOps0]) (fun b => m (c, b)) (Proc.devRef .tc main_v33) = _
    simp only [List.flatten_cons, List.flatten_nil, List.append_nil]
    unfold twice
    after_results
    rfl
  rw [h]
  pointwise
  exact twice_at _ j d

theorem V_v (j : Fin 8192) (d : Fin 256) : (V m c main_v43 : S8192x256.Idx → EReal) (ix2 j d)
    = argV m c (ix3 ⟨d.val / 128, by omega⟩ j ⟨d.val % 64, by omega⟩) := by
  have h : V m c main_v43 = (truncf .bf16 (twice (argV m c)) bitsLt_bf16_f32 : FVec Ideal S8192x256 .bf16) := by
    show StableHlo.after (List.flatten [hostOps0]) (fun b => m (c, b)) (Proc.devRef .tc main_v43) = _
    simp only [List.flatten_cons, List.flatten_nil, List.append_nil]
    unfold twice
    after_results
    rfl
  rw [h]
  pointwise
  exact twice_at _ j d

end Cert.AKernelIdeal.Tile

end
-- ==== Proof.AValue.lean ====
module

public import proofs.«01_k».proof.Proof.AHost
public import proofs.«01_k».proof.Proof.AttnArgs

@[expose] public section

set_option maxRecDepth 16384

noncomputable section

/-! # The kernel's run: the three gradients, and the arguments unchanged -/

namespace Cert.AKernelIdeal.Whole

open Cert.AKernelIdeal Cert.AKernelIdeal.Gen Cert.AKernelIdeal.Tile Cert.AKernelIdeal.Body Cert.Attn Cert.Reals
open Idealize.ShloMosaic Idealize.ShloMosaic.TcCoe Idealize.SL.Sem Idealize.ShloMosaic.Pointwise Idealize.ShloMosaic.StableHlo
open Idealize.ShloMosaic.Pipeline (Dat)

/-- The queries' gradient by heads, scaled. -/
def dqOf (x : FVec Ideal S8192x512 .f32) : FVec Ideal S8x8192x64 .f32 :=
  transpose S8x8192x64 [1, 0, 2] (shapeCast S8192x8x64 (mulf x (broadcastInDim S8192x512 ![] bcast_S_S8192x512 (constant S_ .f32 0x3E000000#32)))
    shapeCasts_S8192x512_S8192x8x64) transposes_S8192x8x64_S8x8192x64_1_0_2

/-- A group's gradient: the sum of its two halves, by keys. -/
def dkOf (x : FVec Ideal S256x8192 .f32) : FVec Ideal S2x8192x64 .f32 :=
  transpose S2x8192x64 [0, 2, 1] (addf
    (shapeCast S2x64x8192 (extractStridedSlice S2x1x64x8192 ![0, 0, 0, 0] (shapeCast S2x2x64x8192 x shapeCasts_S256x8192_S2x2x64x8192)
      slices_S2x2x64x8192_S2x1x64x8192_0_0_0_0) shapeCasts_S2x1x64x8192_S2x64x8192)
    (shapeCast S2x64x8192 (extractStridedSlice S2x1x64x8192 ![0, 1, 0, 0] (shapeCast S2x2x64x8192 x shapeCasts_S256x8192_S2x2x64x8192)
      slices_S2x2x64x8192_S2x1x64x8192_0_1_0_0) shapeCasts_S2x1x64x8192_S2x64x8192)) transposes_S2x64x8192_S2x8192x64_0_2_1

theorem tail_q (V : Valuation τ sig (Elt Ideal)) : StableHlo.after [hostOps1].flatten V (Proc.devRef .tc main_v50)
    = dqOf (V (Proc.devRef .tc main_v46_0)) := by
  simp only [List.flatten_cons, List.flatten_nil, List.append_nil]
  after_results
  rfl

theorem tail_k (V : Valuation τ sig (Elt Ideal)) : StableHlo.after [hostOps1].flatten V (Proc.devRef .tc main_v58)
    = dkOf (V (Proc.devRef .tc main_v46_1)) := by
  simp only [List.flatten_cons, List.flatten_nil, List.append_nil]
  after_results
  rfl

theorem tail_v (V : Valuation τ sig (Elt Ideal)) : StableHlo.after [hostOps1].flatten V (Proc.devRef .tc main_v64)
    = dkOf (V (Proc.devRef .tc main_v46_2)) := by
  simp only [List.flatten_cons, List.flatten_nil, List.append_nil]
  after_results
  rfl

theorem dqOf_apply (x : FVec Ideal S8192x512 .f32) (h : Fin 8) (s : Fin 8192) (d : Fin 64) :
    dqOf x (ix3 h s d) = x (ix2 s ⟨64 * h.val + d.val, by omega⟩) * ((1 / 8 : ℝ) : EReal) := by
  pointwise [dqOf]
  rw [word_eighth]
  exact congrArg (· * _) (congrArg x (congrArg (ix2 s) (Fin.ext (by show h.val * 64 + d.val = 64 * h.val + d.val; omega))))

theorem dkOf_apply (x : FVec Ideal S256x8192 .f32) (g : Fin 2) (j : Fin 8192) (d : Fin 64) :
    dkOf x (ix3 g j d) = x (ix2 ⟨128 * g.val + d.val, by omega⟩ j) + x (ix2 ⟨128 * g.val + (64 + d.val), by omega⟩ j) := by
  pointwise [dkOf]
  exact congrArg₂ (· + ·) (congrArg (fun a => x (ix2 a j)) (Fin.ext (by show g.val * 128 + d.val = 128 * g.val + d.val; omega)))
    (congrArg (fun a => x (ix2 a j)) (Fin.ext (by show g.val * 128 + 64 + d.val = 128 * g.val + (64 + d.val); omega)))

variable {m : (ℓ : Loc nD τ sig) → Buf (Elt Ideal) ℓ} {c : Dev nD} {I : Input}

/-- The arrays the region reads, when the arguments hold real numbers. -/
theorem reads (h : Holds I (argQ m c) (argK m c) (argV m c) (argD m c)) :
    Reads m c (ofInput I (shift (argQ m c) (argK m c))) where
  qs r d := (V_q m c r d).trans (by rw [h.q, ← EReal.coe_mul]; rfl)
  ks j d := (V_k m c j d).trans (by rw [h.k]; rfl)
  vs j d := (V_v m c j d).trans (by rw [h.v]; rfl)
  ds r d := (V_d m c r d).trans (by rw [h.d]; rfl)
  os r d := (V_o m c r d).trans ((outs_is h.q h.k h.v _ _ _ _).trans (by
    have e : 4 * (d.val / 256) + d.val / 64 % 4 = d.val / 64 := by omega
    show (I.o (shift _ _ (4 * (d.val / 256) + d.val / 64 % 4) r.val) (4 * (d.val / 256) + d.val / 64 % 4) r.val (d.val % 64) : EReal) = _
    rw [e]; rfl))
  ls i := by
    have e : i = ix3 (i 0) 0 (i 2) := funext fun a => match a with
      | ⟨0, _⟩ => rfl
      | ⟨1, _⟩ => Fin.ext (by show (i 1).val = 0; have : (i 1).val < 1 := (i 1).isLt; omega)
      | ⟨2, _⟩ => rfl
    refine (congrArg (V m c main_v45 : S8x1x8192.Idx → EReal) e).trans ((V_l m c (i 0) (i 2)).trans ((logs_is h.q h.k _ _ _).trans ?_))
    have e : 4 * ((i 0).val / 4) + (i 0).val % 4 = (i 0).val := by omega
    show (I.lse (shift _ _ (4 * ((i 0).val / 4) + (i 0).val % 4) (i 2).val) (4 * ((i 0).val / 4) + (i 0).val % 4) (i 2).val : EReal) = _
    rw [e]; rfl

theorem eta3 {a b c : ℕ} (i : (⟨3, ![a, b, c]⟩ : Shape).Idx) : i = ix3 (i 0) (i 1) (i 2) := funext fun a => match a with
  | ⟨0, _⟩ => rfl
  | ⟨1, _⟩ => rfl
  | ⟨2, _⟩ => rfl

theorem dqOf_is (M : ℕ → ℕ → ℝ) :
    dqOf (fun i : S8192x512.Idx => ((ofInput I M).dq (i 0).val (i 1).val : EReal)) = fun i => (I.dq (i 0).val (i 1).val (i 2).val : EReal) := by
  funext i
  refine (congrArg _ (eta3 i)).trans ((dqOf_apply _ (i 0) (i 1) (i 2)).trans ?_)
  show ((ofInput I M).dq (i 1).val (64 * (i 0).val + (i 2).val) : EReal) * _ = _
  rw [← EReal.coe_mul, dq_eq I M _ _ _ (i 1).isLt (i 2).isLt]

theorem dkOf_is (f : ℕ → ℕ → ℝ) (F : ℕ → ℕ → ℕ → ℝ) (h : ∀ g j x, x < 64 → f (128 * g + x) j + f (128 * g + (64 + x)) j = F g j x) :
    dkOf (fun i : S256x8192.Idx => (f (i 0).val (i 1).val : EReal)) = fun i => (F (i 0).val (i 1).val (i 2).val : EReal) := by
  funext i
  refine (congrArg _ (eta3 i)).trans ((dkOf_apply _ (i 0) (i 1) (i 2)).trans ?_)
  rw [← h _ _ _ (i 2).isLt, EReal.coe_add]
  rfl

theorem run (m : (ℓ : Loc nD τ sig) → Buf (Elt Ideal) ℓ) (ρ : Dev nD → PrngReg) (I : Dev nD → Input)
    (h : ∀ c, Holds (I c) (argQ m c) (argK m c) (argV m c) (argD m c)) :
    θ_run defs (onTc (τ := τ) (main (F := Ideal))) ⟨m, fun _ => 0, ρ⟩ fun r => ∀ c : Dev nD,
      r.2.mem ((c.tc : Thread nD τ).loc main_v50) = (fun i : S8x8192x64.Idx => ((I c).dq (i 0).val (i 1).val (i 2).val : EReal))
      ∧ r.2.mem ((c.tc : Thread nD τ).loc main_v58) = (fun i : S2x8192x64.Idx => ((I c).dk (i 0).val (i 1).val (i 2).val : EReal))
      ∧ r.2.mem ((c.tc : Thread nD τ).loc main_v64) = (fun i : S2x8192x64.Idx => ((I c).dv (i 0).val (i 1).val (i 2).val : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r hr c => by
    have H := reads (h c)
    refine ⟨((hr.1 c).2 main_v50 (Pipeline.mem_restRefs_of main_v50 (by decide) (by decide))).trans ((tail_q _).trans
        ((congrArg dqOf ((Pipeline.withArrays_arr cfg0.spec launch0.win.arr_inj c (V0 m c) _ 6).trans (arr6 H))).trans (dqOf_is _))),
      ((hr.1 c).2 main_v58 (Pipeline.mem_restRefs_of main_v58 (by decide) (by decide))).trans ((tail_k _).trans
        ((congrArg dkOf ((Pipeline.withArrays_arr cfg0.spec launch0.win.arr_inj c (V0 m c) _ 7).trans (arr7 H))).trans
          (dkOf_is _ _ fun g j x hx => dk_eq _ _ g j x hx))),
      ((hr.1 c).2 main_v64 (Pipeline.mem_restRefs_of main_v64 (by decide) (by decide))).trans ((tail_v _).trans
        ((congrArg dkOf ((Pipeline.withArrays_arr cfg0.spec launch0.win.arr_inj c (V0 m c) _ 8).trans (arr8 H))).trans
          (dkOf_is _ _ fun g j x hx => dv_eq _ _ g j x hx))), hr.2.1 c⟩)
    (θ_run_and (run_main m ρ) (frame m ρ))

end Cert.AKernelIdeal.Whole

end
-- ==== Proof.ARef.lean ====
module

public import proofs.«01_k».proof.Proof.AttnArgs
public import proofs.«01_k».proof.Proof.Gen.AReferenceIdeal.Read

@[expose] public section

set_option maxRecDepth 16384

noncomputable section

/-! # The reference's three gradients over the reals -/

namespace Cert.AReferenceIdeal.Grad

open Cert.AReferenceIdeal Cert.AReferenceIdeal.Gen Cert.AReferenceIdeal.Read Cert.Attn Cert.Reals
open Idealize.ShloMosaic Idealize.ShloMosaic.Pointwise

variable {x0 : FVec Ideal S8x8192x64 .f32} {x1 x2 : FVec Ideal S2x8192x64 .f32} {x3 : FVec Ideal S8192x512 .f32} {I : Input}
  (h : Holds I x0 x1 x2 x3)

include h

theorem score_is (g : Fin 2) (e : Fin 4) (s j : Fin 8192) :
    val_main_v3 (F := Ideal) x0 x1 (ix4 g e s j) = (I.score (4 * g.val + e.val) s.val j.val : EReal) := by
  pointwise [val_main_v3, val_main_v2, val_main_v1, val_main_v0, val_main_cst]
  rw [word_eighth]
  unfold Input.score
  rw [EReal.coe_mul, coe_sum, show (4 * g.val + e.val) / 4 = g.val by omega]
  refine congrArg (· * _) (Finset.sum_congr rfl fun x _ => ?_)
  rw [h.q, h.k, EReal.coe_mul]
  show (I.q (g.val * 4 + e.val) s.val x.val : EReal) * (I.k g.val j.val x.val : EReal) = _
  rw [mul_comm g.val 4]

theorem top_real (g : Fin 2) (e : Fin 4) (s : Fin 8192) : IsReal (val_main_v11 (F := Ideal) x0 x1 (ix3 g e s)) := by
  have hs : IsReal (val_main_v4 (F := Ideal) x0 x1 (ix3 g e s)) :=
    reduce_top (val_main_v3 (F := Ideal) x0 x1) (fun i => by
      have := score_is h (i 0) (i 1) (i 2) (i 3)
      rw [show i = ix4 (i 0) (i 1) (i 2) (i 3) from funext fun a => match a with
        | ⟨0, _⟩ => rfl
        | ⟨1, _⟩ => rfl
        | ⟨2, _⟩ => rfl
        | ⟨3, _⟩ => rfl]
      exact ⟨_, this⟩) h_S_ reducesTo_S2x4x8192x8192_S2x4x8192_d3 (by decide) (by decide) _
  rw [val_main_v11_apply]
  show IsReal (max (Ideal.ofBits .f32 0xFF800000#32) (val_main_v4 (F := Ideal) x0 x1 (ix3 g e s)))
  rw [word_bot, max_bot_left]
  exact hs

omit h in
/-- The shift of each row of each head. -/
def shift (x0 : FVec Ideal S8x8192x64 .f32) (x1 : FVec Ideal S2x8192x64 .f32) (h s : ℕ) : ℝ :=
  if hh : h < 8 ∧ s < 8192 then (val_main_v11 (F := Ideal) x0 x1 (ix3 ⟨h / 4, by omega⟩ ⟨h % 4, by omega⟩ ⟨s, hh.2⟩)).toReal else 0

theorem top_is (g : Fin 2) (e : Fin 4) (s : Fin 8192) :
    val_main_v11 (F := Ideal) x0 x1 (ix3 g e s) = (shift x0 x1 (4 * g.val + e.val) s.val : EReal) := by
  obtain ⟨r, hr⟩ := top_real h g e s
  have hg := g.isLt
  have he := e.isLt
  unfold shift
  rw [dif_pos ⟨by omega, s.isLt⟩, show (⟨(4 * g.val + e.val) / 4, by omega⟩ : Fin 2) = g from Fin.ext (by show (4 * g.val + e.val) / 4 = _; omega),
    show (⟨(4 * g.val + e.val) % 4, by omega⟩ : Fin 4) = e from Fin.ext (by show (4 * g.val + e.val) % 4 = _; omega)]
  show _ = ((val_main_v11 (F := Ideal) x0 x1 (ix3 g e s)).toReal : EReal)
  rw [hr, EReal.toReal_coe]

theorem exp_is (g : Fin 2) (e : Fin 4) (s j : Fin 8192) : val_main_v24 (F := Ideal) x0 x1 (ix4 g e s j)
    = (I.e (shift x0 x1 (4 * g.val + e.val) s.val) (4 * g.val + e.val) s.val j.val : EReal) := by
  have key : ∀ (x : FVec Ideal S2x4x8192x8192 .f32) (y : FVec Ideal S2x4x8192 .f32), Host.exp (subf x (broadcastInDim S2x4x8192x8192 ![0, 1, 2, 3]
      bcast_S2x4x8192x1_S2x4x8192x8192_0_1_2_3 (broadcastInDim S2x4x8192x1 ![0, 1, 2] bcast_S2x4x8192_S2x4x8192x1_0_1_2 y))) (ix4 g e s j)
      = Ideal.exp (x (ix4 g e s j) - y (ix3 g e s)) := fun x y => by pointwise
  unfold val_main_v24 val_main_v23 val_main_v22 val_main_v21
  rw [key, score_is h, top_is h, ← EReal.coe_sub, Ideal.exp_coe]
  rfl

theorem sum_is (g : Fin 2) (e : Fin 4) (s : Fin 8192) : val_main_v25 (F := Ideal) x0 x1 (ix3 g e s)
    = (I.l (shift x0 x1 (4 * g.val + e.val) s.val) (4 * g.val + e.val) s.val : EReal) := by
  have key : ∀ x : FVec Ideal S2x4x8192x8192 .f32, Host.reduceAdd x (val_main_cst_8 (F := Ideal)) reducesTo_S2x4x8192x8192_S2x4x8192_d3 h_S_ (ix3 g e s)
      = ∑ j : Fin 8192, x (ix4 g e s j) := fun x => by pointwise [val_main_cst_8]
  unfold val_main_v25
  rw [key]
  unfold Input.l
  rw [coe_sum]
  exact Finset.sum_congr rfl fun j _ => exp_is h g e s j

theorem sum1_is (g : Fin 2) (e : Fin 4) (s : Fin 8192) : val_main_v26 (F := Ideal) x0 x1 (ix4 g e s 0)
    = (I.l (shift x0 x1 (4 * g.val + e.val) s.val) (4 * g.val + e.val) s.val : EReal) := by
  have key : ∀ y : FVec Ideal S2x4x8192 .f32, broadcastInDim S2x4x8192x1 ![0, 1, 2] bcast_S2x4x8192_S2x4x8192x1_0_1_2 y (ix4 g e s 0) = y (ix3 g e s) :=
    fun y => by pointwise
  unfold val_main_v26
  rw [key, sum_is h]

omit h in
theorem over (y : FVec Ideal S2x4x8192x1 .f32) (g : Fin 2) (e : Fin 4) (s j : Fin 8192) :
    broadcastInDim S2x4x8192x8192 ![0, 1, 2, 3] bcast_S2x4x8192x1_S2x4x8192x8192_0_1_2_3 y (ix4 g e s j) = y (ix4 g e s 0) := by pointwise

theorem p_is (g : Fin 2) (e : Fin 4) (s j : Fin 8192) : val_main_v28 (F := Ideal) x0 x1 (ix4 g e s j) = (I.p (4 * g.val + e.val) s.val j.val : EReal) := by
  rw [val_main_v28_apply]
  unfold val_main_v27
  rw [over, exp_is h, sum1_is h]
  refine (div_real (I.l_pos _ _ _) _).trans ?_
  rw [I.e_div_l]

theorem d_is (g : Fin 2) (e : Fin 4) (s : Fin 8192) (x : Fin 64) :
    val_main_v36 (F := Ideal) x3 (ix4 g e s x) = (I.d s.val (64 * (4 * g.val + e.val) + x.val) : EReal) := by
  pointwise [val_main_v36, val_main_v35]
  rw [h.d]
  refine congrArg (fun a => ((I.d s.val a : ℝ) : EReal)) ?_
  show g.val * 256 + e.val * 64 + x.val = _
  omega

theorem dp_is (g : Fin 2) (e : Fin 4) (s j : Fin 8192) : val_main_v39 (F := Ideal) x2 x3 (ix4 g e s j) = (I.dp (4 * g.val + e.val) s.val j.val : EReal) := by
  have key : ∀ (x : FVec Ideal S2x4x8192x64 .f32) (y : FVec Ideal S2x8192x64 .f32),
      Host.dotGeneral dot_S2x4x8192x64_S2x8192x64_S2x4x8192x8192_3_2_12_1_0_0 none x y (ix4 g e s j) = ∑ l : Fin 64, x (ix4 g e s l) * y (ix3 g j l) :=
    fun x y => by pointwise
  unfold val_main_v39
  rw [key]
  unfold Input.dp
  rw [coe_sum, show (4 * g.val + e.val) / 4 = g.val by omega]
  refine Finset.sum_congr rfl fun x _ => ?_
  rw [d_is h, h.v, EReal.coe_mul]
  rfl

theorem inv_is (g : Fin 2) (e : Fin 4) (s : Fin 8192) : val_main_v31 (F := Ideal) x0 x1 (ix4 g e s 0)
    = ((1 / (I.l (shift x0 x1 (4 * g.val + e.val) s.val) (4 * g.val + e.val) s.val * I.l (shift x0 x1 (4 * g.val + e.val) s.val) (4 * g.val + e.val) s.val) : ℝ) : EReal) := by
  rw [val_main_v31_apply, val_main_v29_apply, sum1_is h]
  refine (congrArg₂ Ideal.div (show _ = ((1 : ℝ) : EReal) from word_one) (EReal.coe_mul _ _).symm).trans ?_
  exact div_real (mul_pos (I.l_pos _ _ _) (I.l_pos _ _ _)) _

/-- The mean of the probabilities' cotangents, as the quotient rule spells it. -/
theorem mean_is (g : Fin 2) (e : Fin 4) (s : Fin 8192) : val_main_v48 (F := Ideal) x0 x1 x2 x3 (ix3 g e s)
    = ((-∑ j : Fin 8192, I.dp (4 * g.val + e.val) s.val j.val * (1 / (I.l (shift x0 x1 (4 * g.val + e.val) s.val) (4 * g.val + e.val) s.val
        * I.l (shift x0 x1 (4 * g.val + e.val) s.val) (4 * g.val + e.val) s.val)) * I.e (shift x0 x1 (4 * g.val + e.val) s.val) (4 * g.val + e.val) s.val j.val : ℝ) : EReal) := by
  have key : ∀ x : FVec Ideal S2x4x8192x8192 .f32, Host.reduceAdd (Host.negf (shapeCast S2x4x8192x1 (Host.reduceAdd x (val_main_cst_10 (F := Ideal))
      reducesTo_S2x4x8192x8192_S2x4x8192_d3 h_S_) shapeCasts_S2x4x8192_S2x4x8192x1)) (val_main_cst_11 (F := Ideal)) reducesTo_S2x4x8192x1_S2x4x8192_d3 h_S_ (ix3 g e s)
      = -∑ j : Fin 8192, x (ix4 g e s j) := fun x => by
    pointwise [val_main_cst_10, val_main_cst_11]
    exact Fin.sum_univ_one _
  unfold val_main_v48 val_main_v45 val_main_v44 val_main_v43
  rw [key, EReal.coe_neg, coe_sum]
  refine congrArg (-·) (Finset.sum_congr rfl fun j _ => ?_)
  rw [val_main_v42_apply, val_main_v41_apply]
  unfold val_main_v40
  rw [over, dp_is h, inv_is h, exp_is h, EReal.coe_mul, EReal.coe_mul]
  rfl

theorem ds_is (g : Fin 2) (e : Fin 4) (s j : Fin 8192) : val_main_v53 (F := Ideal) x0 x1 x2 x3 (ix4 g e s j)
    = ((I.ds (4 * g.val + e.val) s.val j.val * (1 / 8) : ℝ) : EReal) := by
  have key : ∀ y : FVec Ideal S2x4x8192 .f32, broadcastInDim S2x4x8192x8192 ![0, 1, 2] bcast_S2x4x8192_S2x4x8192x8192_0_1_2 y (ix4 g e s j) = y (ix3 g e s) :=
    fun y => by pointwise
  rw [val_main_v53_apply, val_main_v51_apply, val_main_v50_apply, val_main_v47_apply]
  unfold val_main_v49 val_main_v46
  rw [key, over, mean_is h, sum1_is h, exp_is h, dp_is h, ← I.ds_eq (shift x0 x1 (4 * g.val + e.val) s.val)]
  have e8 : val_main_v52 (F := Ideal) (ix4 g e s j) = ((1 / 8 : ℝ) : EReal) := word_eighth
  rw [e8]
  refine (congrArg (fun z : EReal => (z + _) * _ * _) (div_real (I.l_pos _ _ _) _)).trans ?_
  rw [EReal.coe_mul, EReal.coe_mul, EReal.coe_add]

theorem dq_at (b : Fin 8) (s : Fin 8192) (d : Fin 64) : val_main_v56 (F := Ideal) x0 x1 x2 x3 (ix3 b s d) = (I.dq b.val s.val d.val : EReal) := by
  have key : ∀ (x : FVec Ideal S2x4x8192x8192 .f32) (y : FVec Ideal S2x8192x64 .f32),
      shapeCast S8x8192x64 (Host.dotGeneral dot_S2x4x8192x8192_S2x8192x64_S2x4x8192x64_3_1_12_2_0_0 none x y) shapeCasts_S2x4x8192x64_S8x8192x64 (ix3 b s d)
      = ∑ j : Fin 8192, x (ix4 ⟨b.val / 4, by omega⟩ ⟨b.val % 4, by omega⟩ s j) * y (ix3 ⟨b.val / 4, by omega⟩ j d) := fun x y => by pointwise
  unfold val_main_v56 val_main_v55
  refine (key _ _).trans ?_
  unfold Input.dq
  rw [coe_sum]
  refine Finset.sum_congr rfl fun j _ => ?_
  rw [ds_is h, h.k, EReal.coe_mul (I.ds _ _ _ * (1 / 8))]
  show ((I.ds (4 * (b.val / 4) + b.val % 4) s.val j.val * (1 / 8) : ℝ) : EReal) * (I.k (b.val / 4) j.val d.val : EReal) = _
  rw [show 4 * (b.val / 4) + b.val % 4 = b.val by omega]

theorem q_is (g : Fin 2) (e : Fin 4) (s : Fin 8192) (x : Fin 64) :
    val_main_v0 (F := Ideal) x0 (ix4 g e s x) = (I.q (4 * g.val + e.val) s.val x.val : EReal) := by
  pointwise [val_main_v0]
  rw [h.q]
  show (I.q (g.val * 4 + e.val) s.val x.val : EReal) = _
  rw [mul_comm g.val 4]

theorem dk_at (g : Fin 2) (j : Fin 8192) (x : Fin 64) : val_main_v54 (F := Ideal) x0 x1 x2 x3 (ix3 g j x) = (I.dk g.val j.val x.val : EReal) := by
  have key : ∀ (a : FVec Ideal S2x4x8192x8192 .f32) (b : FVec Ideal S2x4x8192x64 .f32),
      Host.dotGeneral dot_S2x4x8192x8192_S2x4x8192x64_S2x8192x64_12_12_3_3_0_0 none a b (ix3 g j x)
      = ∑ e : Fin 4, ∑ s : Fin 8192, a (ix4 g e s j) * b (ix4 g e s x) := fun a b => by pointwise
  unfold val_main_v54
  rw [key]
  unfold Input.dk
  rw [coe_sum]
  refine Finset.sum_congr rfl fun e _ => ?_
  rw [coe_sum]
  refine Finset.sum_congr rfl fun s _ => ?_
  rw [ds_is h, q_is h, ← EReal.coe_mul]

theorem dv_at (g : Fin 2) (j : Fin 8192) (x : Fin 64) : val_main_v38 (F := Ideal) x0 x1 x3 (ix3 g j x) = (I.dv g.val j.val x.val : EReal) := by
  have key : ∀ (a : FVec Ideal S2x4x8192x64 .f32) (b : FVec Ideal S2x4x8192x8192 .f32),
      transpose S2x8192x64 [0, 2, 1] (Host.dotGeneral dot_S2x4x8192x64_S2x4x8192x8192_S2x64x8192_12_12_3_3_0_0 none a b) transposes_S2x64x8192_S2x8192x64_0_2_1 (ix3 g j x)
      = ∑ e : Fin 4, ∑ s : Fin 8192, a (ix4 g e s x) * b (ix4 g e s j) := fun a b => by pointwise
  unfold val_main_v38 val_main_v37
  rw [key]
  unfold Input.dv
  rw [coe_sum]
  refine Finset.sum_congr rfl fun e _ => ?_
  rw [coe_sum]
  refine Finset.sum_congr rfl fun s _ => ?_
  rw [d_is h, p_is h, ← EReal.coe_mul]

end Cert.AReferenceIdeal.Grad

end
-- ==== Proof.OutMath.lean ====
module

public import proofs.«01_k».proof.Proof.Reals

@[expose] public section

noncomputable section

/-! # The output projection, its loss and their gradients, row by row over the extended reals -/

namespace Cert.OutMath

open Idealize.ShloMosaic Cert.Reals

/-- `n` token rows: the residual stream, the target, both attentions' outputs and gates; the output matrix. -/
structure Rows (n : ℕ) where
  x : Fin n → Fin 1024 → EReal
  t : Fin n → Fin 1024 → EReal
  oa : Fin n → Fin 512 → EReal
  ob : Fin n → Fin 512 → EReal
  ga : Fin n → Fin 512 → EReal
  gb : Fin n → Fin 512 → EReal
  w : Fin 1024 → Fin 1024 → EReal

/-- The logistic function. -/
def sg (g : EReal) : EReal := Ideal.div 1 (1 + Ideal.exp (0 - g))
def silu (g : EReal) : EReal := g * sg g
def dsilu (g : EReal) : EReal := sg g * (1 + g * (1 - sg g))

/-- A column of the upper and of the lower half of the gated outputs. -/
def lo (k : Fin 512) : Fin 1024 := ⟨k.val, by omega⟩
def hi (k : Fin 512) : Fin 1024 := ⟨512 + k.val, by omega⟩

/-- The mean square's factor `1 / 1024`, as the kernel writes it. -/
def mean : EReal := Ideal.ofBits .f32 0x3A800000#32

namespace Rows

variable {n : ℕ} (A : Rows n)

def ya (s : Fin n) (k : Fin 512) : EReal := A.oa s k * silu (A.ga s k)
def yb (s : Fin n) (k : Fin 512) : EReal := A.ob s k * silu (A.gb s k)
def err (s : Fin n) (d : Fin 1024) : EReal :=
  A.x s d + ∑ k, A.ya s k * A.w (lo k) d + ∑ k, A.yb s k * A.w (hi k) d - A.t s d
def dh (s : Fin n) (d : Fin 1024) : EReal := A.err s d * mean
def dya (s : Fin n) (k : Fin 512) : EReal := ∑ d, A.dh s d * A.w (lo k) d
def dyb (s : Fin n) (k : Fin 512) : EReal := ∑ d, A.dh s d * A.w (hi k) d
def doa (s : Fin n) (k : Fin 512) : EReal := A.dya s k * silu (A.ga s k)
def dob (s : Fin n) (k : Fin 512) : EReal := A.dyb s k * silu (A.gb s k)
def dga (s : Fin n) (k : Fin 512) : EReal := A.dya s k * A.oa s k * dsilu (A.ga s k)
def dgb (s : Fin n) (k : Fin 512) : EReal := A.dyb s k * A.ob s k * dsilu (A.gb s k)
/-- One row's square error and its part of the weight gradient. -/
def sq (s : Fin n) (d : Fin 1024) : EReal := A.err s d * A.err s d
def y (s : Fin n) (k : Fin 1024) : EReal := if h : k.val < 512 then A.ya s ⟨k.val, h⟩ else A.yb s ⟨k.val - 512, by omega⟩
def dw (k d : Fin 1024) : EReal := ∑ s, A.y s k * A.dh s d
/-- One row's square errors in lane `k`, and the loss: half of all rows' mean square errors. -/
def lane (k : Fin 128) (s : Fin n) : EReal := ∑ q : Fin 8, A.sq s ⟨128 * q.val + k.val, by omega⟩
def loss : EReal := (∑ s, ∑ d, A.sq s d) * Ideal.ofBits .f32 0x3A000000#32

end Rows

/-- Row `r` of tile `t`. -/
def row (t : Fin 16) (r : Fin 512) : Fin 8192 := ⟨512 * t.val + r.val, by omega⟩

/-- The rows of tile `t`. -/
def Rows.block (A : Rows 8192) (t : Fin 16) : Rows 512 where
  x r := A.x (row t r)
  t r := A.t (row t r)
  oa r := A.oa (row t r)
  ob r := A.ob (row t r)
  ga r := A.ga (row t r)
  gb r := A.gb (row t r)
  w := A.w

/-- A sum over all rows is the tiles' sums one after the other. -/
theorem sum_rows (f : Fin 8192 → EReal) : ∑ s, f s = ∑ t : Fin 16, ∑ r, f (row t r) := by
  rw [← Finset.sum_product', Finset.univ_product_univ]
  exact (Fintype.sum_equiv (finProdFinEquiv (m := 16) (n := 512)) _ _ fun p => congrArg f (Fin.ext (by
    show 512 * p.1.val + p.2.val = p.2.val + 512 * p.1.val; omega))).symm

/-- The `i`-th tile's part of a sum over all rows. -/
def part (f : Fin 8192 → EReal) (i : ℕ) : EReal := if h : i < 16 then ∑ r, f (row ⟨i, h⟩ r) else 0

theorem part_of {f : Fin 8192 → EReal} (t : Fin 16) {i : ℕ} (h : t.val = i) : part f i = ∑ r, f (row t r) := by
  subst h; exact dif_pos t.isLt

theorem sum_parts (f : Fin 8192 → EReal) : ∑ i ∈ Finset.range 16, part f i = ∑ s, f s := by
  rw [Finset.sum_range, sum_rows]
  exact Finset.sum_congr rfl fun t _ => part_of t rfl

/-- A sum over the columns is the lanes' sums one after the other. -/
theorem sum_lanes (f : Fin 1024 → EReal) : ∑ d, f d = ∑ k : Fin 128, ∑ q : Fin 8, f ⟨128 * q.val + k.val, by omega⟩ := by
  rw [Finset.sum_comm, ← Finset.sum_product', Finset.univ_product_univ]
  exact (Fintype.sum_equiv (finProdFinEquiv (m := 8) (n := 128)) _ _ fun p => congrArg f (Fin.ext (by
    show 128 * p.1.val + p.2.val = p.2.val + 128 * p.1.val; omega))).symm

theorem Rows.sum_lane {n : ℕ} (A : Rows n) : ∑ k, ∑ s, A.lane k s = ∑ s, ∑ d, A.sq s d := by
  rw [Finset.sum_comm]
  exact Finset.sum_congr rfl fun s _ => (sum_lanes (A.sq s)).symm

/-- The product with the whole matrix is its two halves'. -/
theorem Rows.sum_halves {n : ℕ} (A : Rows n) (s : Fin n) (f : Fin 1024 → EReal) :
    ∑ k, A.y s k * f k = ∑ k, A.ya s k * f (lo k) + ∑ k, A.yb s k * f (hi k) := by
  rw [show (∑ k : Fin 1024, A.y s k * f k) = ∑ k : Fin (512 + 512), A.y s k * f k from rfl, Fin.sum_univ_add]
  refine congrArg₂ (· + ·) (Finset.sum_congr rfl fun k _ => ?_) (Finset.sum_congr rfl fun k _ => ?_)
  · refine congrArg (· * _) ((dif_pos (show (Fin.castAdd 512 k).val < 512 from k.isLt)).trans rfl)
  · refine congrArg (· * _) ((dif_neg (show ¬ (Fin.natAdd 512 k).val < 512 by rw [Fin.val_natAdd]; omega)).trans ?_)
    exact congrArg (A.yb s) (Fin.ext (show 512 + k.val - 512 = k.val by omega))

/-! Where the arguments are real numbers, so is every part of the result. -/

theorem sg_coe (r : ℝ) : sg r = ((1 / (1 + Real.exp (-r)) : ℝ) : EReal) := by
  unfold sg
  rw [zero_sub, ← EReal.coe_neg, Ideal.exp_coe, ← EReal.coe_one, ← EReal.coe_add, Ideal.div_coe (by positivity), ← EReal.coe_mul,
    one_mul]

theorem isReal_sg {x : EReal} : IsReal x → IsReal (sg x) := by
  rintro ⟨r, rfl⟩; exact ⟨_, sg_coe r⟩

/-- The gate's derivative, written by the product rule or as one factor. -/
theorem gate_grad {o c g : EReal} (ho : IsReal o) (hc : IsReal c) (hg : IsReal g) :
    o * c * sg g + g * (o * c) * (sg g * (1 - sg g)) = c * o * dsilu g := by
  obtain ⟨s, hs⟩ := isReal_sg hg
  obtain ⟨o, rfl⟩ := ho
  obtain ⟨c, rfl⟩ := hc
  obtain ⟨g, rfl⟩ := hg
  unfold dsilu
  rw [hs, ← EReal.coe_one]
  simp only [← EReal.coe_mul, ← EReal.coe_sub, ← EReal.coe_add]
  exact congrArg _ (by ring)

/-- Every argument is a real number. -/
structure Rows.Real {n : ℕ} (A : Rows n) : Prop where
  x : ∀ s d, IsReal (A.x s d)
  t : ∀ s d, IsReal (A.t s d)
  oa : ∀ s k, IsReal (A.oa s k)
  ob : ∀ s k, IsReal (A.ob s k)
  ga : ∀ s k, IsReal (A.ga s k)
  gb : ∀ s k, IsReal (A.gb s k)
  w : ∀ k d, IsReal (A.w k d)

namespace Rows.Real

variable {n : ℕ} {A : Rows n} (h : A.Real)
include h

theorem err (s : Fin n) (d : Fin 1024) : IsReal (A.err s d) :=
  (((h.x s d).add (IsReal.sum _ fun k => (((h.oa s k).mul ((h.ga s k).mul (isReal_sg (h.ga s k)))).mul (h.w _ d)))).add
    (IsReal.sum _ fun k => (((h.ob s k).mul ((h.gb s k).mul (isReal_sg (h.gb s k)))).mul (h.w _ d)))).sub (h.t s d)
theorem sq (s : Fin n) (d : Fin 1024) : IsReal (A.sq s d) := (h.err s d).mul (h.err s d)
theorem dh (s : Fin n) (d : Fin 1024) : IsReal (A.dh s d) := (h.err s d).mul ⟨_, word_inv1024⟩
theorem dya (s : Fin n) (k : Fin 512) : IsReal (A.dya s k) := IsReal.sum _ fun d => (h.dh s d).mul (h.w _ d)
theorem dyb (s : Fin n) (k : Fin 512) : IsReal (A.dyb s k) := IsReal.sum _ fun d => (h.dh s d).mul (h.w _ d)

/-- Half the rows' mean square errors, added up, is the whole sum's part. -/
theorem half_mean : Ideal.ofBits .f32 0x3F000000#32 * (Ideal.ofBits .f32 0x00000000#32
    + ∑ s, (∑ d, A.sq s d) * ((1 / 1024 : ℝ) : EReal)) = A.loss := by
  rw [← sum_mul _ (fun s => IsReal.sum _ (h.sq s)) (IsReal.coe _), word_zero, zero_add, word_half, Rows.loss, word_inv2048, mul_comm,
    mul_assoc, ← EReal.coe_mul]
  norm_num

end Rows.Real

end Cert.OutMath

end
-- ==== Proof.OutRef.lean ====
module

public import proofs.«01_k».proof.Proof.Reals
public import proofs.«01_k».proof.Proof.OutMath
public import proofs.«01_k».proof.Proof.Gen.OutReferenceIdeal.Read

@[expose] public section

set_option maxRecDepth 16384

noncomputable section

/-! # The reference's results, row by row over the extended reals -/

namespace Cert.OutReferenceIdeal.Rows

open Cert.OutReferenceIdeal Cert.OutReferenceIdeal.Gen Cert.OutReferenceIdeal.Read Cert.OutMath Cert.Reals
open Idealize.ShloMosaic Idealize.ShloMosaic.Pointwise

variable (x0 x1 : Vec Ideal S8192x1024 .f32) (x2 x3 x4 x5 : Vec Ideal S8192x512 .f32) (x6 : Vec Ideal S1024x1024 .f32)

/-- The arguments as rows. -/
def whole : OutMath.Rows 8192 where
  x s d := x0 (ix2 s d)
  t s d := x1 (ix2 s d)
  oa s k := x2 (ix2 s k)
  ob s k := x3 (ix2 s k)
  ga s k := x4 (ix2 s k)
  gb s k := x5 (ix2 s k)
  w k d := x6 (ix2 k d)

theorem one_eq : Ideal.ofBits .f32 0x3F800000#32 = 1 := word_one.trans EReal.coe_one

theorem gate_a (i : S8192x512.Idx) : val_main_v0_2 (F := Ideal) x4 i = sg (x4 i) := by
  rw [val_main_v0_2_apply, val_main_call0_v4_apply, val_main_call0_cst_0_apply, val_main_call0_v3_apply, val_main_call0_v2_apply,
    val_main_call0_cst_apply, val_main_call0_v1_apply, val_main_call0_v0_apply]
  show Ideal.div (Ideal.ofBits .f32 0x3F800000#32) (Ideal.ofBits .f32 0x3F800000#32 + Ideal.exp (-(x4 i))) = _
  rw [one_eq, sg, zero_sub]
theorem gate_b (i : S8192x512.Idx) : val_main_v2_2 (F := Ideal) x5 i = sg (x5 i) := by
  rw [val_main_v2_2_apply, val_main_call1_v4_apply, val_main_call1_cst_0_apply, val_main_call1_v3_apply, val_main_call1_v2_apply,
    val_main_call1_cst_apply, val_main_call1_v1_apply, val_main_call1_v0_apply]
  show Ideal.div (Ideal.ofBits .f32 0x3F800000#32) (Ideal.ofBits .f32 0x3F800000#32 + Ideal.exp (-(x5 i))) = _
  rw [one_eq, sg, zero_sub]

theorem slope_a (i : S8192x512.Idx) : val_main_v0_1 (F := Ideal) x4 i = sg (x4 i) * (1 - sg (x4 i)) := by
  rw [val_main_v0_1_apply, val_main_call0_v7_apply, val_main_call0_v6_apply, val_main_call0_cst_1_apply, gate_a]
  show sg (x4 i) * (Ideal.ofBits .f32 0x3F800000#32 - sg (x4 i)) = _
  rw [one_eq]
theorem slope_b (i : S8192x512.Idx) : val_main_v2_1 (F := Ideal) x5 i = sg (x5 i) * (1 - sg (x5 i)) := by
  rw [val_main_v2_1_apply, val_main_call1_v7_apply, val_main_call1_v6_apply, val_main_call1_cst_1_apply, gate_b]
  show sg (x5 i) * (Ideal.ofBits .f32 0x3F800000#32 - sg (x5 i)) = _
  rw [one_eq]

theorem silu_a (i : S8192x512.Idx) : val_main_v0_0 (F := Ideal) x4 i = silu (x4 i) := by
  rw [val_main_v0_0_apply, gate_a]; rfl
theorem silu_b (i : S8192x512.Idx) : val_main_v2_0 (F := Ideal) x5 i = silu (x5 i) := by
  rw [val_main_v2_0_apply, gate_b]; rfl

/-- The gated outputs, side by side. -/
theorem y_apply (s : Fin 8192) (k : Fin 1024) : val_main_v4 (F := Ideal) x2 x3 x4 x5 (ix2 s k) = (whole x0 x1 x2 x3 x4 x5 x6).y s k := by
  unfold OutMath.Rows.y val_main_v4
  by_cases h : k.val < 512
  · rw [dif_pos h]
    refine (concatenate_pair_apply_left (t := S8192x1024) (s₁ := S8192x512) (s₂ := S8192x512) 1 _ _ _ (ix2 s k) rfl (ix2 s (⟨k.val, h⟩ : Fin 512)) fun b => match b with
      | ⟨0, _⟩ => rfl
      | ⟨1, _⟩ => rfl).trans ?_
    rw [val_main_v1_apply, silu_a]; rfl
  · rw [dif_neg h]
    refine (concatenate_pair_apply_right (t := S8192x1024) (s₁ := S8192x512) (s₂ := S8192x512) 1 _ _ _ (ix2 s k) rfl rfl (ix2 s (⟨k.val - 512, by omega⟩ : Fin 512)) (fun b => match b with
      | ⟨0, _⟩ => fun _ => rfl
      | ⟨1, _⟩ => fun hb => absurd rfl hb) (show k.val - 512 + 512 = k.val by omega)).trans ?_
    rw [val_main_v3_apply, silu_b]; rfl

theorem err_apply (s : Fin 8192) (d : Fin 1024) :
    val_main_v7 (F := Ideal) x0 x1 x2 x3 x4 x5 x6 (ix2 s d) = (whole x0 x1 x2 x3 x4 x5 x6).err s d := by
  rw [val_main_v7_apply, val_main_v6_apply, val_main_v5_apply]
  have e : (∑ k : Fin 1024, val_main_v4 (F := Ideal) x2 x3 x4 x5 (lidx_main_v5 (ix2 s d) k) * x6 (ridx_main_v5 (ix2 s d) k))
      = ∑ k : Fin 1024, (whole x0 x1 x2 x3 x4 x5 x6).y s k * (whole x0 x1 x2 x3 x4 x5 x6).w k d :=
    Finset.sum_congr rfl fun k _ => congrArg₂ (· * ·)
      ((congrArg _ (funext fun a => match a with
        | ⟨0, _⟩ => rfl
        | ⟨1, _⟩ => rfl)).trans (y_apply x0 x1 x2 x3 x4 x5 x6 s k))
      (congrArg x6 (funext fun a => match a with
        | ⟨0, _⟩ => rfl
        | ⟨1, _⟩ => rfl))
  rw [e, OutMath.Rows.sum_halves]
  show x0 (ix2 s d) + (_ + _) - x1 (ix2 s d) = _
  rw [← add_assoc]
  rfl

theorem dh_apply (s : Fin 8192) (d : Fin 1024) :
    val_main_v21 (F := Ideal) x0 x1 x2 x3 x4 x5 x6 (ix2 s d) = (whole x0 x1 x2 x3 x4 x5 x6).dh s d := by
  rw [val_main_v21_apply, val_main_v20_apply, val_main_v19_apply, val_main_v17_apply, val_main_v18_apply, val_main_v16_apply,
    val_main_cst_6_apply, val_main_cst_5_apply, val_main_cst_4_apply, val_main_v10_apply, val_main_v9_apply, val_main_cst_apply,
    err_apply]
  show Ideal.div (Ideal.ofBits .f32 0x3F000000#32 * Ideal.ofBits .f32 0x3F800000#32) (Ideal.ofBits .f32 0x44800000#32)
    * (Ideal.ofBits .f32 0x40000000#32 * _) = _
  rw [word_half, word_one, word_1024, word_two, Ideal.div_coe (by norm_num), ← mul_assoc, ← EReal.coe_mul, ← EReal.coe_mul,
    ← EReal.coe_mul, OutMath.Rows.dh, mean, word_inv1024, mul_comm]
  norm_num

theorem dy_apply (s : Fin 8192) (k : Fin 1024) : val_main_v24 (F := Ideal) x0 x1 x2 x3 x4 x5 x6 (ix2 s k)
    = ∑ d, (whole x0 x1 x2 x3 x4 x5 x6).dh s d * (whole x0 x1 x2 x3 x4 x5 x6).w k d := by
  rw [val_main_v24_apply]
  exact Finset.sum_congr rfl fun d _ => congrArg₂ (· * ·)
    ((congrArg _ (funext fun a => match a with
      | ⟨0, _⟩ => rfl
      | ⟨1, _⟩ => rfl)).trans (dh_apply x0 x1 x2 x3 x4 x5 x6 s d))
    (congrArg x6 (funext fun a => match a with
      | ⟨0, _⟩ => rfl
      | ⟨1, _⟩ => rfl))

theorem dya_apply (s : Fin 8192) (k : Fin 512) :
    val_main_v25 (F := Ideal) x0 x1 x2 x3 x4 x5 x6 (ix2 s k) = (whole x0 x1 x2 x3 x4 x5 x6).dya s k := by
  rw [val_main_v25_apply]
  refine (congrArg _ (funext fun a => match a with
    | ⟨0, _⟩ => rfl
    | ⟨1, _⟩ => rfl)).trans (dy_apply x0 x1 x2 x3 x4 x5 x6 s (lo k))
theorem dyb_apply (s : Fin 8192) (k : Fin 512) :
    val_main_v26 (F := Ideal) x0 x1 x2 x3 x4 x5 x6 (ix2 s k) = (whole x0 x1 x2 x3 x4 x5 x6).dyb s k := by
  rw [val_main_v26_apply]
  refine (congrArg _ (funext fun a => match a with
    | ⟨0, _⟩ => rfl
    | ⟨1, _⟩ => rfl)).trans (dy_apply x0 x1 x2 x3 x4 x5 x6 s (hi k))

theorem doa_apply (s : Fin 8192) (k : Fin 512) :
    val_main_v33 (F := Ideal) x0 x1 x2 x3 x4 x5 x6 (ix2 s k) = (whole x0 x1 x2 x3 x4 x5 x6).doa s k := by
  rw [val_main_v33_apply, val_main_v31_apply, dya_apply, silu_a]; rfl
theorem dob_apply (s : Fin 8192) (k : Fin 512) :
    val_main_v34 (F := Ideal) x0 x1 x2 x3 x4 x5 x6 (ix2 s k) = (whole x0 x1 x2 x3 x4 x5 x6).dob s k := by
  rw [val_main_v34_apply, val_main_v28_apply, dyb_apply, silu_b]; rfl

theorem dga_apply (h : (whole x0 x1 x2 x3 x4 x5 x6).Real) (s : Fin 8192) (k : Fin 512) :
    val_main_v32 (F := Ideal) x0 x1 x2 x3 x4 x5 x6 (ix2 s k) = (whole x0 x1 x2 x3 x4 x5 x6).dga s k := by
  rw [val_main_v32_apply, val_main_call3_v1_apply, val_main_call3_v2_apply, val_main_call3_v0_apply, val_main_v30_apply, gate_a,
    slope_a, dya_apply]
  exact gate_grad (h.oa s k) (h.dya s k) (h.ga s k)
theorem dgb_apply (h : (whole x0 x1 x2 x3 x4 x5 x6).Real) (s : Fin 8192) (k : Fin 512) :
    val_main_v29 (F := Ideal) x0 x1 x2 x3 x4 x5 x6 (ix2 s k) = (whole x0 x1 x2 x3 x4 x5 x6).dgb s k := by
  rw [val_main_v29_apply, val_main_call2_v1_apply, val_main_call2_v2_apply, val_main_call2_v0_apply, val_main_v27_apply, gate_b,
    slope_b, dyb_apply]
  exact gate_grad (h.ob s k) (h.dyb s k) (h.gb s k)

theorem dw_apply (k d : Fin 1024) :
    val_main_v35 (F := Ideal) x0 x1 x2 x3 x4 x5 x6 (ix2 k d) = (whole x0 x1 x2 x3 x4 x5 x6).dw k d := by
  rw [val_main_v35_apply, val_main_v23_apply, val_main_v22_apply]
  refine Finset.sum_congr rfl fun s _ => (mul_comm _ _).trans (congrArg₂ (· * ·)
    ((congrArg _ (funext fun a => match a with
      | ⟨0, _⟩ => rfl
      | ⟨1, _⟩ => rfl)).trans (y_apply x0 x1 x2 x3 x4 x5 x6 s k))
    ((congrArg _ (funext fun a => match a with
      | ⟨0, _⟩ => rfl
      | ⟨1, _⟩ => rfl)).trans (dh_apply x0 x1 x2 x3 x4 x5 x6 s d)))

theorem sum_column {n : ℕ} (f : (⟨1, ![n]⟩ : Shape).Idx → EReal) : ∑ j, f j = ∑ s, f (ix1 s) :=
  Fintype.sum_equiv ⟨fun j => j 0, fun s => ix1 s, fun j => (eq_ix1 j).symm, fun _ => rfl⟩ _ _ fun j => congrArg f (eq_ix1 j)

theorem loss_apply (h : (whole x0 x1 x2 x3 x4 x5 x6).Real) (i : S_.Idx) :
    val_main_v15 (F := Ideal) x0 x1 x2 x3 x4 x5 x6 i = (whole x0 x1 x2 x3 x4 x5 x6).loss := by
  rw [val_main_v15_apply, val_main_v14_apply, val_main_cst_3_apply, val_main_cst_2_apply]
  have e : ∀ s : Fin 8192, val_main_v13 (F := Ideal) x0 x1 x2 x3 x4 x5 x6 (ix1 s)
      = (∑ d, (whole x0 x1 x2 x3 x4 x5 x6).sq s d) * ((1 / 1024 : ℝ) : EReal) := fun s => by
    rw [val_main_v13_apply, val_main_v11_apply, val_main_v12_apply, val_main_cst_1_apply, val_main_cst_0_apply]
    show Ideal.div (Ideal.ofBits .f32 0x00000000#32 + _) (Ideal.ofBits .f32 0x44800000#32) = _
    rw [word_1024, word_zero, zero_add, Ideal.div_coe (by norm_num)]
    refine congrArg (· * _) (Finset.sum_congr rfl fun d _ => ?_)
    rw [val_main_v8_apply]
    have := (congrArg (val_main_v7 (F := Ideal) x0 x1 x2 x3 x4 x5 x6) (funext fun a => match a with
      | ⟨0, _⟩ => rfl
      | ⟨1, _⟩ => rfl : idx_main_v11 (ix1 s) d = ix2 s d)).trans (err_apply x0 x1 x2 x3 x4 x5 x6 s d)
    exact congrArg₂ (· * ·) this this
  have e' : (∑ j : S8192.Idx, val_main_v13 (F := Ideal) x0 x1 x2 x3 x4 x5 x6 j)
      = ∑ s, (∑ d, (whole x0 x1 x2 x3 x4 x5 x6).sq s d) * ((1 / 1024 : ℝ) : EReal) :=
    (sum_column _).trans (Finset.sum_congr rfl fun s _ => e s)
  refine (congrArg (fun a => Ideal.ofBits .f32 0x3F000000#32 * (Ideal.ofBits .f32 0x00000000#32 + a)) e').trans ?_
  exact h.half_mean

end Cert.OutReferenceIdeal.Rows

end
-- ==== Proof.OutPre.lean ====
module

public import proofs.«01_k».proof.Proof.OutRef
public import proofs.«01_k».proof.Proof.Gen.Pre_finite
public import proofs.«01_k».proof.Pre_finite

@[expose] public section

set_option maxRecDepth 16384

noncomputable section

/-! # Finite arguments are real numbers -/

namespace Cert.Pre_finite.Real

open Cert.Pre_finite Cert.Pre_finite.Gen Cert.Reals Idealize.ShloMosaic Idealize.ShloMosaic.Pointwise

/-- One array's test: every element below infinity in magnitude. -/
theorem all_real {s u : Shape} {axes : List (Fin s.rank)} (x : FVec Ideal s .f32) (bc : S_.BroadcastsInDim s (![] : Fin 0 → Fin s.rank))
    (init : u.Idx → BitVec 1) (h : s.ReducesTo axes S_) (hu : 0 < u.numel) (j : S_.Idx)
    (e : Host.reduce IntOp.andi (cmpf .olt (Host.absf x) (broadcastInDim s ![] bc (constant S_ .f32 0x7F800000#32))) init h hu j = 1#1)
    (i : s.Idx) : IsReal (x i) := by
  have e := Host.reduce_andi_all _ _ _ _ j e i
  refine isReal_of_cmp word_top ?_
  have b : broadcastInDim s ![] bc (constant S_ .f32 0x7F800000#32 : FVec Ideal S_ .f32) i = Ideal.ofBits .f32 0x7F800000#32 :=
    broadcastInDim_apply _ bc _ i (fun a => a.elim0) (fun a => a.elim0)
  rw [← b]
  exact e

theorem both {s : Shape} {a b : IVec s 1} {j : s.Idx} (h : andi a b j = 1#1) : a j = 1#1 ∧ b j = 1#1 := by
  have : a j &&& b j = 1#1 := h
  revert this
  generalize a j = p
  generalize b j = q
  revert p q
  decide

theorem real (x0 x1 : FVec Ideal S8192x1024 .f32) (x2 x3 x4 x5 : FVec Ideal S8192x512 .f32) (x6 : FVec Ideal S1024x1024 .f32)
    (h : fn (F := Ideal) x0 x1 x2 x3 x4 x5 x6 = fun _ => 1#1) : (Cert.OutReferenceIdeal.Rows.whole x0 x1 x2 x3 x4 x5 x6).Real := by
  have h := congrFun h (fun a => a.elim0)
  unfold fn fn_part1 at h
  dsimp only at h
  obtain ⟨h, h6⟩ := both h
  obtain ⟨h, h5⟩ := both h
  obtain ⟨h, h4⟩ := both h
  obtain ⟨h, h3⟩ := both h
  obtain ⟨h, h2⟩ := both h
  obtain ⟨h0, h1⟩ := both h
  exact ⟨fun s d => all_real x0 _ _ _ _ _ h0 (ix2 s d), fun s d => all_real x1 _ _ _ _ _ h1 (ix2 s d),
    fun s k => all_real x2 _ _ _ _ _ h2 (ix2 s k), fun s k => all_real x3 _ _ _ _ _ h3 (ix2 s k),
    fun s k => all_real x4 _ _ _ _ _ h4 (ix2 s k), fun s k => all_real x5 _ _ _ _ _ h5 (ix2 s k),
    fun k d => all_real x6 _ _ _ _ _ h6 (ix2 k d)⟩

end Cert.Pre_finite.Real

end
-- ==== Proof.APre.lean ====
module

public import proofs.«01_k».proof.Proof.OutPre
public import proofs.«01_k».proof.Proof.AttnArgs
public import proofs.«01_k».proof.Proof.Gen.Pre_finite_a
public import proofs.«01_k».proof.Pre_finite_a

@[expose] public section

set_option maxRecDepth 16384

noncomputable section

/-! # Finite arguments of an attention call are the arrays of real numbers -/

namespace Cert.Pre_finite_a.Real

open Cert.Pre_finite_a Cert.Pre_finite_a.Gen Cert.Reals Cert.Attn Idealize.ShloMosaic
open Cert.Pre_finite.Real (all_real both)

theorem real (q : FVec Ideal S8x8192x64 .f32) (k v : FVec Ideal S2x8192x64 .f32) (d : FVec Ideal S8192x512 .f32)
    (h : fn (F := Ideal) q k v d = fun _ => 1#1) : ∃ I : Input, Holds I q k v d := by
  have h := congrFun h (fun a => a.elim0)
  unfold fn fn_part1 at h
  dsimp only at h
  obtain ⟨h, h3⟩ := both h
  obtain ⟨h, h2⟩ := both h
  obtain ⟨h0, h1⟩ := both h
  exact exists_input q k v d (all_real q _ _ _ _ _ h0) (all_real k _ _ _ _ _ h1) (all_real v _ _ _ _ _ h2) (all_real d _ _ _ _ _ h3)

end Cert.Pre_finite_a.Real

end
-- ==== Proof.BBody.lean ====
module

public import proofs.«01_k».proof.Proof.Gen.BKernelIdeal.Frame
public import proofs.«01_k».proof.Proof.Gen.BKernelIdeal.Skeleton
public import Idealize.ShloMosaic.Lib.Exec

@[expose] public section

set_option maxRecDepth 16384

noncomputable section

namespace Cert.BKernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.BKernelIdeal.Gen

variable {F : FTy → Type} [FloatOps F]

local notation "𝕄" => MT nD τ sig Unit (Elt F) ℕ (UR sig nD τ) ℕ

set_option maxHeartbeats 4000000 in
/-- What one grid point leaves in the three output windows, with the proof that the body leaves it. -/
def run (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S512x256 .bf16) (harg6 : arg6.IsWhole) (arg7 : Memref sig .tc .vmem S512x256 .f32) (harg7 : arg7.IsWhole) (arg8 : Memref sig .tc .vmem S2x1x512 .f32) (harg8 : arg8.IsWhole) (arg9 : Memref sig .tc .vmem S8192x256 .f32) (harg9 : arg9.IsWhole) (arg10 : Memref sig .tc .vmem S256x4096 .f32) (harg10 : arg10.IsWhole) (arg11 : Memref sig .tc .vmem S256x4096 .f32) (harg11 : arg11.IsWhole) (x0 : Vec F S512x256 .bf16) (x1 : Vec F S4096x256 .bf16) (x2 : Vec F S4096x256 .bf16) (x3 : Vec F S512x256 .bf16) (x4 : Vec F S512x256 .f32) (x5 : Vec F S2x1x512 .f32) (x6 : Vec F S8192x256 .f32) (x7 : Vec F S256x4096 .f32) (x8 : Vec F S256x4096 .f32) :
    Σ' (y6 : Vec F S8192x256 .f32), Σ' (y7 : Vec F S256x4096 .f32), { y8 : Vec F S256x4096 .f32 //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ owns (c : Thread nD τ) arg10 fullShare y7 ∗ owns (c : Thread nD τ) arg11 fullShare y8) -∗ K ⟨⟩))
          ⊢ wp frame (wpE (defs₀ (F := F)) Variants.none c none) E (cc0_attn_bwd_b i arg3 harg3 arg4 harg4 arg5 harg5 arg6 harg6 arg7 harg7 arg8 harg8 arg9 harg9 arg10 harg10 arg11 harg11) K } := by
  refine ⟨?_, ?_, ?_, fun E K => ?run⟩
  case run =>
    simp only [cc0_attn_bwd_b_eq_skeleton]; unfold cc0_attn_bwd_b_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; isplitr
      · ipureintro; exact harg6.read_unread _
      · iexact H3
    isplitl [H4]
    · iexists _; isplitr
      · ipureintro; exact harg7.read_unread _
      · iexact H4
    isplitl [H5]
    · iexists _; isplitr
      · ipureintro; exact harg8.read_unread _
      · iexact H5
    isplitl [H6]
    · iexists _; isplitr
      · ipureintro; rfl
      · iexact H6
    isplitl [H7]
    · iexists _; isplitr
      · ipureintro; rfl
      · iexact H7
    iexists _; isplitr
    · ipureintro; rfl
    · iexact H8

end Cert.BKernelIdeal.Body

end
-- ==== Proof.BTile.lean ====
module

public import proofs.«01_k».proof.Proof.BBody

@[expose] public section

set_option maxRecDepth 16384

noncomputable section

namespace Cert.BKernelIdeal.Tile

open Idealize.ShloMosaic Idealize.ShloMosaic.TcCoe Idealize.ShloMosaic.Tactic
open Cert.BKernelIdeal.Gen

variable {F : FTy → Type} [FloatOps F]

/-- What one head of a tile of 512 rows keeps through the tile's chunks of keys. -/
structure Head (F : FTy → Type) where
  /-- the head's scaled queries -/
  qm : FVec F S512x128 .bf16
  /-- the head's cotangents -/
  dom : FVec F S512x128 .bf16
  /-- each row's sum of cotangent times output -/
  delta : FVec F S512x1 .f32
  /-- each row's log-sum -/
  lse : FVec F S512x1 .f32

/-- A row of log-sums turned into a column. -/
def col (l : Vec F S1x1x512 .f32) : FVec F S512x1 .f32 :=
  extractStridedSlice S512x1 ![0, 0]
    (transpose S512x128 [1, 0]
      (broadcastTo S128x512 (shapeCast S1x512 (shapeCast S1x512 l shapeCasts_S1x1x512_S1x512) shapeCasts_S1x512_S1x512)
        broadcasts_S1x512_S128x512) transposes_S128x512_p1_0_S512x128) slices_S512x128_o0_0_S512x1

/-- The head, from the tile's blocks. -/
def head (q dO : Vec F S512x128 .bf16) (o : Vec F S512x128 .f32) (l : Vec F S1x1x512 .f32) : Head F where
  qm := shapeCast S512x128 q shapeCasts_S512x128_S512x128
  dom := shapeCast S512x128 dO shapeCasts_S512x128_S512x128
  delta := shapeCast S512x1
    (multiReduction .add [1] S512
      (mulf (extf .f32 (shapeCast S512x128 dO shapeCasts_S512x128_S512x128) bitsLt_bf16_f32)
        (shapeCast S512x128 o shapeCasts_S512x128_S512x128)) 0x00000000#32
      reduces_S512x128_S512 (.inl rfl) rfl) shapeCasts_S512_S512x1
  lse := col l

variable (H : Head F) (k v : Vec F S256x128 .bf16)

/-- The probabilities of a chunk of keys. -/
def prob : FVec F S512x256 .f32 :=
  exp (subf (matmul dot_S512x128_S256x128_S512x256_1_1_0_0_n_n none H.qm (shapeCast S256x128 k shapeCasts_S256x128_S256x128)
    (constant S512x256 .f32 0x00000000#32)) (broadcastTo S512x256 H.lse broadcasts_S512x1_S512x256))

/-- The cotangent of a chunk's scores. -/
def dscore : FVec F S512x256 .bf16 :=
  truncf .bf16 (mulf (prob H k) (subf (matmul dot_S512x128_S256x128_S512x256_1_1_0_0_n_n none H.dom
    (shapeCast S256x128 v shapeCasts_S256x128_S256x128) (constant S512x256 .f32 0x00000000#32))
    (broadcastTo S512x256 H.delta broadcasts_S512x1_S512x256))) bitsLt_bf16_f32

/-- What the tile adds to a chunk of the values' gradient. -/
def dvStep : FVec F S128x256 .f32 :=
  matmul dot_S128x512_S512x256_S128x256_1_0_0_1_n_n none (transpose S128x512 [1, 0] H.dom transposes_S512x128_p1_0_S128x512)
    (truncf .bf16 (prob H k) bitsLt_bf16_f32) (constant S128x256 .f32 0x00000000#32)

/-- What the tile adds to a chunk of the keys' gradient. -/
def dkStep : FVec F S128x256 .f32 :=
  matmul dot_S128x512_S512x256_S128x256_1_0_0_1_n_n none (transpose S128x512 [1, 0] H.qm transposes_S512x128_p1_0_S128x512)
    (dscore H k v) (constant S128x256 .f32 0x00000000#32)

/-- What a chunk adds to the head's query gradient. -/
def dqStep : FVec F S512x128 .f32 :=
  matmul dot_S512x256_S256x128_S512x128_1_0_0_1_n_n none (dscore H k v) (shapeCast S256x128 k shapeCasts_S256x128_S256x128)
    (constant S512x128 .f32 0x00000000#32)

/-- The head's query gradient over the first chunks. -/
def dqSum (k v : ℕ → Vec F S256x128 .bf16) : ℕ → FVec F S512x128 .f32
  | 0 => broadcast S512x128 (Scalar.ofBits .f32 0x00000000#32)
  | n + 1 => addf (dqSum k v n) (dqStep H (k n) (v n))

theorem inChunk (hh n : ℕ) : ∀ a, (![128 * (hh % 2), 256 * (n % 16)] : Fin 2 → ℕ) a + S128x256.size a ≤ S256x4096.size a := by
  have := Nat.mod_lt hh (y := 2) (by decide)
  have := Nat.mod_lt n (y := 16) (by decide)
  intro a; fin_cases a <;> simp <;> omega

theorem inKeys (hh n : ℕ) : ∀ a, (![256 * (n % 16), 128 * (hh % 2)] : Fin 2 → ℕ) a + S256x128.size a ≤ S4096x256.size a := by
  have := Nat.mod_lt hh (y := 2) (by decide)
  have := Nat.mod_lt n (y := 16) (by decide)
  intro a; fin_cases a <;> simp <;> omega

/-- The rows of head `hh % 2` at the columns of chunk `n % 16`. -/
abbrev chunk (hh n : ℕ) : Rect S256x4096 := Rect.unit ![128 * (hh % 2), 256 * (n % 16)] S128x256.size (inChunk hh n)

/-- The keys of chunk `n % 16` at the columns of head `hh % 2`. -/
abbrev keys (hh n : ℕ) : Rect S4096x256 := Rect.unit ![256 * (n % 16), 128 * (hh % 2)] S256x128.size (inKeys hh n)

/-- The stores of the first `n` (head, chunk) pairs into a transposed gradient block, the newest first: each adds its term
to what its rectangle held. -/
def stores (rd T : ℕ → ℕ → FVec F S128x256 .f32) : ℕ → List (View.Piece (Elt F) S256x4096 .f32)
  | 0 => []
  | n + 1 => ⟨chunk (n / 16) n, addf (shapeCast S128x256 (rd (n / 16) n) shapeCasts_S128x256_S128x256) (T (n / 16) n)⟩ :: stores rd T n

/-- A place of head `hh` and chunk `q` reads that pair's sum once it is stored. -/
theorem read_stores {sig' : RefSig} {κ : Kind} {sp : Space} (vw : View sig' κ sp S256x4096 .f32) (f : vw.ty.Contents (Elt F))
    (rd T : ℕ → ℕ → FVec F S128x256 .f32) (y : S256x4096.Idx) (x : S128x256.Idx) (hh q : ℕ) (h2 : hh < 2) (hq : q < 16)
    (h0 : (y 0).val = 128 * hh + (x 0).val) (h1 : (y 1).val = 256 * q + (x 1).val) :
    ∀ n, 16 * hh + q < n → n ≤ 32 → vw.read (Elt F) (vw.writes (Elt F) f (stores rd T n)) y
      = addf (shapeCast S128x256 (rd hh (16 * hh + q)) shapeCasts_S128x256_S128x256) (T hh (16 * hh + q)) x := by
  intro n
  induction n with
  | zero => intro h; exact absurd h (Nat.not_lt_zero _)
  | succ n ih =>
    intro hn h32
    have hx0 : (x 0).val < 128 := (x 0).isLt
    have hx1 : (x 1).val < 256 := (x 1).isLt
    by_cases e : n = 16 * hh + q
    · have eh : n / 16 = hh := by omega
      refine (View.read_writes_cons_hit_of_coords vw f (chunk (n / 16) n) _ _ x y fun a => ?_).trans ?_
      · fin_cases a
        · show (y 0).val = 128 * (n / 16 % 2) + 1 * (x 0).val
          omega
        · show (y 1).val = 256 * (n % 16) + 1 * (x 1).val
          omega
      · rw [eh, e]
    · rw [← ih (by omega) (by omega)]
      by_cases eh : n / 16 = hh
      · refine View.read_writes_cons_miss_of_axis vw f _ _ y 1 (256 * (n % 16)) 256 rfl rfl rfl ?_
        omega
      · refine View.read_writes_cons_miss_of_axis vw f _ _ y 0 (128 * (n / 16 % 2)) 128 rfl rfl rfl ?_
        omega

/-! The run's three results are these stores. -/

theorem inCols (hh : ℕ) : ∀ a, (![0, 128 * (hh % 2)] : Fin 2 → ℕ) a + S512x128.size a ≤ S512x256.size a := by
  have := Nat.mod_lt hh (y := 2) (by decide)
  intro a; fin_cases a <;> simp <;> omega

theorem inRows (hh : ℕ) : ∀ a, (![hh % 2, 0, 0] : Fin 3 → ℕ) a + S1x1x512.size a ≤ S2x1x512.size a := by
  have := Nat.mod_lt hh (y := 2) (by decide)
  intro a; fin_cases a <;> simp <;> omega

/-- The 128 columns of head `hh`. -/
abbrev cols (hh : ℕ) : Rect S512x256 := Rect.unit ![0, 128 * (hh % 2)] S512x128.size (inCols hh)

/-- The log-sums of head `hh`. -/
abbrev rowOf (hh : ℕ) : Rect S2x1x512 := Rect.unit ![hh % 2, 0, 0] S1x1x512.size (inRows hh)

section

variable (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S512x256 .bf16) (harg6 : arg6.IsWhole) (arg7 : Memref sig .tc .vmem S512x256 .f32) (harg7 : arg7.IsWhole) (arg8 : Memref sig .tc .vmem S2x1x512 .f32) (harg8 : arg8.IsWhole) (arg9 : Memref sig .tc .vmem S8192x256 .f32) (harg9 : arg9.IsWhole) (arg10 : Memref sig .tc .vmem S256x4096 .f32) (harg10 : arg10.IsWhole) (arg11 : Memref sig .tc .vmem S256x4096 .f32) (harg11 : arg11.IsWhole) (x0 : Vec F S512x256 .bf16) (x1 : Vec F S4096x256 .bf16) (x2 : Vec F S4096x256 .bf16) (x3 : Vec F S512x256 .bf16) (x4 : Vec F S512x256 .f32) (x5 : Vec F S2x1x512 .f32) (x6 : Vec F S8192x256 .f32) (x7 : Vec F S256x4096 .f32) (x8 : Vec F S256x4096 .f32)

/-- Head `hh` of the tile, read from the buffers. -/
def headAt (hh : ℕ) : Head F :=
  head (View.readAt (Elt F) arg3.view (cols hh).toLoadRect (harg3.unread x0))
    (View.readAt (Elt F) arg6.view (cols hh).toLoadRect (harg6.unread x3))
    (View.readAt (Elt F) arg7.view (cols hh).toLoadRect (harg7.unread x4))
    (View.readAt (Elt F) arg8.view (rowOf hh).toLoadRect (harg8.unread x5))

/-- Chunk `n` of a head's keys or values, read from its buffer. -/
def chunkAt (arg : Memref sig .tc .vmem S4096x256 .bf16) (harg : arg.IsWhole) (x : Vec F S4096x256 .bf16) (hh n : ℕ) : Vec F S256x128 .bf16 :=
  View.readAt (Elt F) arg.view (keys hh n).toLoadRect (harg.unread x)

/-- The values' gradient a point begins from. -/
def base (p : Vec F S256x4096 .f32) (arg : Memref sig .tc .vmem S256x4096 .f32) (harg : arg.IsWhole) (x : Vec F S256x4096 .f32) :
    arg.view.ty.Contents (Elt F) :=
  if hc : Body.run.sl.v7 i = 1#1 then
    arg.view.writes (Elt F) (harg.unread x) [⟨Rect.unit ![0, 0] S256x4096.size inb_S256x4096_S256x4096_0_0, p⟩]
  else harg.unread x

set_option maxHeartbeats 800000 in
theorem run_dv : (Body.run c i arg3 harg3 arg4 harg4 arg5 harg5 arg6 harg6 arg7 harg7 arg8 harg8 arg9 harg9 arg10 harg10 arg11 harg11 x0 x1 x2 x3 x4 x5 x6 x7 x8).2.2.1
    = arg11.view.read (Elt F) (arg11.view.writes (Elt F) (base i k0_pay5 arg11 harg11 x8)
        (stores (fun hh n => View.readAt (Elt F) arg11.view (chunk hh n).toLoadRect (base i k0_pay5 arg11 harg11 x8)) (fun hh n =>
          dvStep (headAt arg3 harg3 arg6 harg6 arg7 harg7 arg8 harg8 x0 x3 x4 x5 hh) (chunkAt arg4 harg4 x1 hh n)) 32)) := by
  refine congrArg (fun L => arg11.view.read (Elt F) (arg11.view.writes (Elt F) (base i k0_pay5 arg11 harg11 x8) L)) (Eq.symm ?_)
  rfl

set_option maxHeartbeats 800000 in
theorem run_dk : (Body.run c i arg3 harg3 arg4 harg4 arg5 harg5 arg6 harg6 arg7 harg7 arg8 harg8 arg9 harg9 arg10 harg10 arg11 harg11 x0 x1 x2 x3 x4 x5 x6 x7 x8).2.1
    = arg10.view.read (Elt F) (arg10.view.writes (Elt F) (base i k0_pay4 arg10 harg10 x7)
        (stores (fun hh n => View.readAt (Elt F) arg10.view (chunk hh n).toLoadRect (base i k0_pay4 arg10 harg10 x7)) (fun hh n =>
          dkStep (headAt arg3 harg3 arg6 harg6 arg7 harg7 arg8 harg8 x0 x3 x4 x5 hh) (chunkAt arg4 harg4 x1 hh n)
            (chunkAt arg5 harg5 x2 hh n)) 32)) := by
  refine congrArg (fun L => arg10.view.read (Elt F) (arg10.view.writes (Elt F) (base i k0_pay4 arg10 harg10 x7) L)) (Eq.symm ?_)
  rfl

/-- The query gradient a point begins from. -/
def baseQ : arg9.view.ty.Contents (Elt F) :=
  if hc : Body.run.sl.v4 i = 1#1 then
    arg9.view.writes (Elt F) (harg9.unread x6) [⟨Rect.unit ![0, 0] S8192x256.size inb_S8192x256_S8192x256_0_0, k0_pay3⟩]
  else harg9.unread x6

/-- The query gradient of a head, from all the chunks of the point's keys. -/
def dqHead (hh : ℕ) : FVec F S512x128 .f32 :=
  dqSum (headAt arg3 harg3 arg6 harg6 arg7 harg7 arg8 harg8 x0 x3 x4 x5 hh) (chunkAt arg4 harg4 x1 hh) (chunkAt arg5 harg5 x2 hh) 16

theorem inTile (hh : ℕ) (i : grid0.Coords) : ∀ a, (![512 * (i 2).val, 128 * (hh % 2)] : Fin 2 → ℕ) a + S512x128.size a ≤ S8192x256.size a := by
  have := Nat.mod_lt hh (y := 2) (by decide)
  have : (i 2).val < 16 := (i 2).isLt
  intro a; fin_cases a <;> simp <;> omega

/-- The rows of the point's tile, at a head. -/
abbrev tile (hh : ℕ) : Rect S8192x256 := Rect.unit ![512 * (i 2).val, 128 * (hh % 2)] S512x128.size (inTile hh i)

/-- The store of a head. -/
def storeQ (hh : ℕ) : View.Piece (Elt F) S8192x256 .f32 :=
  ⟨tile i hh, addf (shapeCast S512x128 (View.readAt (Elt F) arg9.view (tile i hh).toLoadRect (baseQ i arg9 harg9 x6))
    shapeCasts_S512x128_S512x128) (dqHead arg3 harg3 arg4 harg4 arg5 harg5 arg6 harg6 arg7 harg7 arg8 harg8 x0 x1 x2 x3 x4 x5 hh)⟩

theorem off_nat : ∀ k : Fin 16, (Scalar.indexCast (Scalar.muli (BitVec.ofNat 32 k.val) 512#32)).toNat = 512 * k.val := by decide

theorem off1_eq : k0_off1 i = ![512 * (i 2).val, 0] := by
  funext a; fin_cases a
  · exact off_nat (i 2)
  · rfl

theorem off2_eq : k0_off2 i = ![512 * (i 2).val, 128] := by
  funext a; fin_cases a
  · exact off_nat (i 2)
  · rfl

theorem at_start_eq : (Body.run.sl.v4 i = 1#1) ↔ (i 1).val = 0 ∧ (i 2).val = 0 := by
  have : ∀ (a : Fin 2) (b : Fin 16), (Scalar.cmpi .ne (Scalar.extui (Scalar.andi (Scalar.cmpi .eq (BitVec.ofNat 32 a.val) 0#32)
    (Scalar.cmpi .eq (BitVec.ofNat 32 b.val) 0#32)) : BitVec 32) 0#32 = 1#1) ↔ a.val = 0 ∧ b.val = 0 := by decide
  exact this (i 1) (i 2)

theorem at_first_eq : (Body.run.sl.v7 i = 1#1) ↔ (i 2).val = 0 := by
  have : ∀ (b : Fin 16), (Scalar.cmpi .ne (Scalar.extui (Scalar.cmpi .eq (BitVec.ofNat 32 b.val) 0#32) : BitVec 32) 0#32 = 1#1) ↔ b.val = 0 := by
    decide
  exact this (i 2)

/-- A store at offsets known under another spelling. -/
theorem piece_congr {off off' : Fin 2 → ℕ} (e : off = off') (h : ∀ a, off a + S512x128.size a ≤ S8192x256.size a)
    (h' : ∀ a, off' a + S512x128.size a ≤ S8192x256.size a) (vw : View sig .tc .vmem S8192x256 .f32) (f : vw.ty.Contents (Elt F))
    (u : FVec F S512x128 .f32) :
    (⟨Rect.unit off S512x128.size h, addf (shapeCast S512x128 (View.readAt (Elt F) vw (Rect.unit (s := S8192x256) off S512x128.size h).toLoadRect f)
        shapeCasts_S512x128_S512x128) u⟩ : View.Piece (Elt F) S8192x256 .f32)
      = ⟨Rect.unit off' S512x128.size h', addf (shapeCast S512x128 (View.readAt (Elt F) vw (Rect.unit (s := S8192x256) off' S512x128.size h').toLoadRect f)
        shapeCasts_S512x128_S512x128) u⟩ := by
  subst e; rfl

set_option maxHeartbeats 800000 in
theorem run_dq : (Body.run c i arg3 harg3 arg4 harg4 arg5 harg5 arg6 harg6 arg7 harg7 arg8 harg8 arg9 harg9 arg10 harg10 arg11 harg11 x0 x1 x2 x3 x4 x5 x6 x7 x8).1
    = arg9.view.read (Elt F) (arg9.view.writes (Elt F) (baseQ i arg9 harg9 x6)
        [storeQ i arg3 harg3 arg4 harg4 arg5 harg5 arg6 harg6 arg7 harg7 arg8 harg8 arg9 harg9 x0 x1 x2 x3 x4 x5 x6 1,
         storeQ i arg3 harg3 arg4 harg4 arg5 harg5 arg6 harg6 arg7 harg7 arg8 harg8 arg9 harg9 x0 x1 x2 x3 x4 x5 x6 0]) := by
  refine congrArg (fun L => arg9.view.read (Elt F) (arg9.view.writes (Elt F) (baseQ i arg9 harg9 x6) L)) ?_
  refine congrArg₂ (fun a b => [a, b]) ?_ ?_
  · refine Eq.trans ?_ (piece_congr (off2_eq i) ?_ _ arg9.view (baseQ i arg9 harg9 x6)
      (dqHead arg3 harg3 arg4 harg4 arg5 harg5 arg6 harg6 arg7 harg7 arg8 harg8 x0 x1 x2 x3 x4 x5 1))
    rfl
  · refine Eq.trans ?_ (piece_congr (off1_eq i) ?_ _ arg9.view (baseQ i arg9 harg9 x6)
      (dqHead arg3 harg3 arg4 harg4 arg5 harg5 arg6 harg6 arg7 harg7 arg8 harg8 x0 x1 x2 x3 x4 x5 0))
    rfl

end

end Cert.BKernelIdeal.Tile

end
-- ==== Proof.BPoint.lean ====
module

public import proofs.«01_k».proof.Proof.BTile
public import Idealize.ShloMosaic.Lib.VecWindow
public import Idealize.ShloMosaic.Lib.WholeRead
public import Idealize.ShloMosaic.Lib.Pointwise.Index

@[expose] public section

set_option maxRecDepth 16384

noncomputable section

namespace Cert.BKernelIdeal.Tile

open Idealize.ShloMosaic Idealize.ShloMosaic.TcCoe Idealize.ShloMosaic.Tactic
open Cert.BKernelIdeal.Gen

variable {F : FTy → Type} [FloatOps F]

/-! What a grid point leaves in the three output blocks, as functions of the blocks alone. -/

/-- Head `hh` of a tile, of the tile's blocks. -/
def headOf (x0 x3 : Vec F S512x256 .bf16) (x4 : Vec F S512x256 .f32) (x5 : Vec F S2x1x512 .f32) (hh : ℕ) : Head F :=
  head (fun j => x0 ((cols hh).toLoadRect.idx j)) (fun j => x3 ((cols hh).toLoadRect.idx j))
    (fun j => x4 ((cols hh).toLoadRect.idx j)) (fun j => x5 ((rowOf hh).toLoadRect.idx j))

/-- Chunk `n` of a head's keys or values. -/
def chunkOf (x : Vec F S4096x256 .bf16) (hh n : ℕ) : Vec F S256x128 .bf16 := fun j => x ((keys hh n).toLoadRect.idx j)

/-- A transposed gradient block after the heads' terms `T` are added to `z`. -/
def added (z : Vec F S256x4096 .f32) (T : ℕ → ℕ → FVec F S128x256 .f32) : Vec F S256x4096 .f32 := fun y =>
  addf (shapeCast S128x256 (fun j => z ((chunk ((y 0).val / 128) (16 * ((y 0).val / 128) + (y 1).val / 256)).toLoadRect.idx j))
      shapeCasts_S128x256_S128x256) (T ((y 0).val / 128) (16 * ((y 0).val / 128) + (y 1).val / 256))
    (ix2 ⟨(y 0).val % 128, Nat.mod_lt _ (by decide)⟩ ⟨(y 1).val % 256, Nat.mod_lt _ (by decide)⟩)

section

variable (i : grid0.Coords) (x0 : Vec F S512x256 .bf16) (x1 : Vec F S4096x256 .bf16) (x2 : Vec F S4096x256 .bf16) (x3 : Vec F S512x256 .bf16) (x4 : Vec F S512x256 .f32) (x5 : Vec F S2x1x512 .f32) (x6 : Vec F S8192x256 .f32) (x7 : Vec F S256x4096 .f32) (x8 : Vec F S256x4096 .f32)

/-- The values' gradient block after a point. -/
def nextV : Vec F S256x4096 .f32 :=
  added (if (i 2).val = 0 then k0_pay5 else x8) (fun hh n => dvStep (headOf x0 x3 x4 x5 hh) (chunkOf x1 hh n))

/-- The keys' gradient block after a point. -/
def nextK : Vec F S256x4096 .f32 :=
  added (if (i 2).val = 0 then k0_pay4 else x7) (fun hh n => dkStep (headOf x0 x3 x4 x5 hh) (chunkOf x1 hh n) (chunkOf x2 hh n))

/-- The query gradient of a head, from the point's keys. -/
def headQ (hh : ℕ) : FVec F S512x128 .f32 :=
  dqSum (headOf x0 x3 x4 x5 hh) (chunkOf x1 hh) (chunkOf x2 hh) 16

/-- The query gradient block a point begins from. -/
def startQ : Vec F S8192x256 .f32 := if (i 1).val = 0 ∧ (i 2).val = 0 then k0_pay3 else x6

/-- The query gradient block after a point: the point's rows get its term, the others stay. -/
def nextQ : Vec F S8192x256 .f32 := fun y =>
  if (y 0).val / 512 = (i 2).val then
    addf (shapeCast S512x128 (fun j => startQ i x6 ((tile i ((y 1).val / 128)).toLoadRect.idx j)) shapeCasts_S512x128_S512x128)
      (headQ x0 x1 x2 x3 x4 x5 ((y 1).val / 128))
      (ix2 ⟨(y 0).val % 512, Nat.mod_lt _ (by decide)⟩ ⟨(y 1).val % 128, Nat.mod_lt _ (by decide)⟩)
  else startQ i x6 y

end

section

variable (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S512x256 .bf16) (harg6 : arg6.IsWhole) (arg7 : Memref sig .tc .vmem S512x256 .f32) (harg7 : arg7.IsWhole) (arg8 : Memref sig .tc .vmem S2x1x512 .f32) (harg8 : arg8.IsWhole) (arg9 : Memref sig .tc .vmem S8192x256 .f32) (harg9 : arg9.IsWhole) (arg10 : Memref sig .tc .vmem S256x4096 .f32) (harg10 : arg10.IsWhole) (arg11 : Memref sig .tc .vmem S256x4096 .f32) (harg11 : arg11.IsWhole) (x0 : Vec F S512x256 .bf16) (x1 : Vec F S4096x256 .bf16) (x2 : Vec F S4096x256 .bf16) (x3 : Vec F S512x256 .bf16) (x4 : Vec F S512x256 .f32) (x5 : Vec F S2x1x512 .f32) (x6 : Vec F S8192x256 .f32) (x7 : Vec F S256x4096 .f32) (x8 : Vec F S256x4096 .f32)

theorem base_eq (p : Vec F S256x4096 .f32) (arg : Memref sig .tc .vmem S256x4096 .f32) (harg : arg.IsWhole) (x : Vec F S256x4096 .f32) :
    base i p arg harg x = harg.unread (if (i 2).val = 0 then p else x) := by
  unfold base
  by_cases h : Body.run.sl.v7 i = 1#1
  · rw [dif_pos h, if_pos ((at_first_eq i).mp h)]
    exact harg.eq_unread (View.read_writes_full _ _ _ _ _)
  · rw [dif_neg h, if_neg fun e => h ((at_first_eq i).mpr e)]

theorem baseQ_eq : baseQ i arg9 harg9 x6 = harg9.unread (startQ i x6) := by
  unfold baseQ startQ
  by_cases h : Body.run.sl.v4 i = 1#1
  · rw [dif_pos h, if_pos ((at_start_eq i).mp h)]
    exact harg9.eq_unread (View.read_writes_full _ _ _ _ _)
  · rw [dif_neg h, if_neg fun e => h ((at_start_eq i).mpr e)]

theorem headAt_eq (hh : ℕ) : headAt arg3 harg3 arg6 harg6 arg7 harg7 arg8 harg8 x0 x3 x4 x5 hh = headOf x0 x3 x4 x5 hh := by
  unfold headAt headOf
  congr 1 <;> exact funext fun j => Memref.IsWhole.readAt_unread _ _ _ _

theorem chunkAt_eq (arg : Memref sig .tc .vmem S4096x256 .bf16) (harg : arg.IsWhole) (x : Vec F S4096x256 .bf16) :
    chunkAt arg harg x = chunkOf x :=
  funext fun hh => funext fun n => funext fun j => harg.readAt_unread _ _ _

theorem read_all (z : Vec F S256x4096 .f32) (T : ℕ → ℕ → FVec F S128x256 .f32) (arg : Memref sig .tc .vmem S256x4096 .f32)
    (harg : arg.IsWhole) :
    arg.view.read (Elt F) (arg.view.writes (Elt F) (harg.unread z)
      (stores (fun hh n => View.readAt (Elt F) arg.view (chunk hh n).toLoadRect (harg.unread z)) T 32)) = added z T := by
  funext y
  have hy0 : (y 0).val < 256 := (y 0).isLt
  have hy1 : (y 1).val < 4096 := (y 1).isLt
  rw [read_stores _ _ _ _ y (ix2 ⟨(y 0).val % 128, Nat.mod_lt _ (by decide)⟩ ⟨(y 1).val % 256, Nat.mod_lt _ (by decide)⟩)
    ((y 0).val / 128) ((y 1).val / 256) (by omega) (by omega)
    (show (y 0).val = 128 * ((y 0).val / 128) + (y 0).val % 128 by omega)
    (show (y 1).val = 256 * ((y 1).val / 256) + (y 1).val % 256 by omega) 32 (by omega) (by omega)]
  unfold added
  congr 2
  exact funext fun j => harg.readAt_unread _ _ _

theorem run_v : (Body.run c i arg3 harg3 arg4 harg4 arg5 harg5 arg6 harg6 arg7 harg7 arg8 harg8 arg9 harg9 arg10 harg10 arg11 harg11 x0 x1 x2 x3 x4 x5 x6 x7 x8).2.2.1 = nextV i x0 x1 x3 x4 x5 x8 := by
  rw [run_dv, base_eq, read_all]
  unfold nextV
  simp only [headAt_eq, chunkAt_eq]

theorem run_k : (Body.run c i arg3 harg3 arg4 harg4 arg5 harg5 arg6 harg6 arg7 harg7 arg8 harg8 arg9 harg9 arg10 harg10 arg11 harg11 x0 x1 x2 x3 x4 x5 x6 x7 x8).2.1 = nextK i x0 x1 x2 x3 x4 x5 x7 := by
  rw [run_dk, base_eq, read_all]
  unfold nextK
  simp only [headAt_eq, chunkAt_eq]

theorem dqHead_eq (hh : ℕ) : dqHead arg3 harg3 arg4 harg4 arg5 harg5 arg6 harg6 arg7 harg7 arg8 harg8 x0 x1 x2 x3 x4 x5 hh = headQ x0 x1 x2 x3 x4 x5 hh := by
  unfold dqHead headQ
  rw [headAt_eq, chunkAt_eq, chunkAt_eq]

theorem read_tile_hit (pr : ℕ) (vw : View sig .tc .vmem S8192x256 .f32) (f : vw.ty.Contents (Elt F))
    (w : FVec F S512x128 .f32) (L : List (View.Piece (Elt F) S8192x256 .f32)) (y : S8192x256.Idx)
    (h0 : (y 0).val / 512 = (i 2).val) (h1 : (y 1).val / 128 = pr % 2) :
    vw.read (Elt F) (vw.writes (Elt F) f (⟨tile i pr, w⟩ :: L)) y
      = w (ix2 ⟨(y 0).val % 512, Nat.mod_lt _ (by decide)⟩ ⟨(y 1).val % 128, Nat.mod_lt _ (by decide)⟩) := by
  refine View.read_writes_cons_hit_of_coords vw f (tile i pr) w L _ y fun a => ?_
  fin_cases a
  · show (y 0).val = 512 * (i 2).val + 1 * ((y 0).val % 512)
    omega
  · show (y 1).val = 128 * (pr % 2) + 1 * ((y 1).val % 128)
    omega

theorem read_tile_rows (pr : ℕ) (vw : View sig .tc .vmem S8192x256 .f32) (f : vw.ty.Contents (Elt F))
    (w : FVec F S512x128 .f32) (L : List (View.Piece (Elt F) S8192x256 .f32)) (y : S8192x256.Idx)
    (h0 : (y 0).val / 512 ≠ (i 2).val) :
    vw.read (Elt F) (vw.writes (Elt F) f (⟨tile i pr, w⟩ :: L)) y = vw.read (Elt F) (vw.writes (Elt F) f L) y :=
  View.read_writes_cons_miss_of_axis vw f _ _ y 0 (512 * (i 2).val) 512 rfl rfl rfl (by omega)

theorem read_tile_cols (pr : ℕ) (vw : View sig .tc .vmem S8192x256 .f32) (f : vw.ty.Contents (Elt F))
    (w : FVec F S512x128 .f32) (L : List (View.Piece (Elt F) S8192x256 .f32)) (y : S8192x256.Idx)
    (h1 : (y 1).val / 128 ≠ pr % 2) :
    vw.read (Elt F) (vw.writes (Elt F) f (⟨tile i pr, w⟩ :: L)) y = vw.read (Elt F) (vw.writes (Elt F) f L) y :=
  View.read_writes_cons_miss_of_axis vw f _ _ y 1 (128 * (pr % 2)) 128 rfl rfl rfl (by omega)

theorem run_q : (Body.run c i arg3 harg3 arg4 harg4 arg5 harg5 arg6 harg6 arg7 harg7 arg8 harg8 arg9 harg9 arg10 harg10 arg11 harg11 x0 x1 x2 x3 x4 x5 x6 x7 x8).1 = nextQ i x0 x1 x2 x3 x4 x5 x6 := by
  rw [run_dq]
  unfold storeQ
  simp only [baseQ_eq, dqHead_eq]
  funext y
  have hy : (y 1).val < 256 := (y 1).isLt
  have hrd : ∀ pr, View.readAt (Elt F) arg9.view (tile i pr).toLoadRect (harg9.unread (startQ i x6))
      = fun j => startQ i x6 ((tile i pr).toLoadRect.idx j) := fun pr => funext fun j => harg9.readAt_unread _ _ _
  unfold nextQ
  by_cases h : (y 0).val / 512 = (i 2).val
  · rw [if_pos h]
    by_cases h1 : (y 1).val / 128 = 1
    · rw [read_tile_hit i 1 _ _ _ _ y h h1, hrd, h1]
    · have h0 : (y 1).val / 128 = 0 := by omega
      rw [read_tile_cols i 1 _ _ _ _ y h1, read_tile_hit i 0 _ _ _ _ y h h0, hrd, h0]
  · rw [if_neg h, read_tile_rows i 1 _ _ _ _ y h, read_tile_rows i 0 _ _ _ _ y h]
    exact congrFun (harg9.read_unread _) y

end

end Cert.BKernelIdeal.Tile

end
-- ==== Proof.BFrame.lean ====
module

public import proofs.«01_k».proof.Proof.BPoint
public import Idealize.ShloMosaic.Lib.Claim

@[expose] public section

set_option maxRecDepth 16384

noncomputable section

namespace Cert.BKernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BKernelIdeal.Gen Cert.BKernelIdeal.Tile

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the three output blocks hold after a point, from what they held before it. -/
def outsStep (c : Dev nD) (t : Fin cfg0.N) (p : Vec F S8192x256 .f32 × Vec F S256x4096 .f32 × Vec F S256x4096 .f32) :
    Vec F S8192x256 .f32 × Vec F S256x4096 .f32 × Vec F S256x4096 .f32 :=
  (nextQ (grid0.coords t) (iblk m c 0 t) (iblk m c 1 t) (iblk m c 2 t) (iblk m c 3 t) (iblk m c 4 t) (iblk m c 5 t) p.1,
   nextK (grid0.coords t) (iblk m c 0 t) (iblk m c 1 t) (iblk m c 2 t) (iblk m c 3 t) (iblk m c 4 t) (iblk m c 5 t) p.2.1,
   nextV (grid0.coords t) (iblk m c 0 t) (iblk m c 1 t) (iblk m c 3 t) (iblk m c 4 t) (iblk m c 5 t) p.2.2)

/-- The three output blocks after each point. -/
def outsAt (c : Dev nD) : (n : ℕ) → n < cfg0.N → Vec F S8192x256 .f32 × Vec F S256x4096 .f32 × Vec F S256x4096 .f32
  | 0, h => outsStep m c ⟨0, h⟩ (k0_pay3, k0_pay4, k0_pay5)
  | n + 1, h => outsStep m c ⟨n + 1, h⟩ (outsAt c n (Nat.lt_of_succ_lt h))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2.1
    | ⟨8, _⟩ => (outsAt m c t.val t.isLt).2.2
    | ⟨_ + 9, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outsAt m c t.val t.isLt).1 := by dsimp only [dats]
theorem after_7 (c : Dev nD) (t : Fin cfg0.N) : (dats m 0 c).after 7 t = (outsAt m c t.val t.isLt).2.1 := by dsimp only [dats]
theorem after_8 (c : Dev nD) (t : Fin cfg0.N) : (dats m 0 c).after 8 t = (outsAt m c t.val t.isLt).2.2 := by dsimp only [dats]

/-- The coordinates of a point. -/
theorem coords_2 : ∀ t : Fin cfg0.N, ((grid0.coords t) 2).val = t.val % 16 := (by decide : ∀ t : Fin 64, ((grid0.coords t) 2).val = t.val % 16)
theorem coords_1 : ∀ t : Fin cfg0.N, ((grid0.coords t) 1).val = t.val / 16 % 2 := (by decide : ∀ t : Fin 64, ((grid0.coords t) 1).val = t.val / 16 % 2)

/-- A point that starts its blocks leaves the same whatever they held. -/
theorem outsStep_congr (c : Dev nD) (t : Fin cfg0.N) (p p' : Vec F S8192x256 .f32 × Vec F S256x4096 .f32 × Vec F S256x4096 .f32)
    (h6 : t.val % 32 ≠ 0 → p.1 = p'.1) (h7 : t.val % 16 ≠ 0 → p.2 = p'.2) : outsStep m c t p = outsStep m c t p' := by
  unfold outsStep nextQ nextK nextV startQ
  rw [coords_1, coords_2]
  refine Prod.ext ?_ (Prod.ext ?_ ?_)
  · by_cases h : t.val % 32 = 0
    · have e : t.val / 16 % 2 = 0 ∧ t.val % 16 = 0 := by omega
      simp only [if_pos e]
    · rw [h6 h]
  · by_cases h : t.val % 16 = 0
    · simp only [if_pos h]
    · rw [h7 h]
  · by_cases h : t.val % 16 = 0
    · simp only [if_pos h]
    · rw [h7 h]

/-- What a window's buffer held before a point: what the point before left, unless the point starts the block. -/
theorem outsAt_before (c : Dev nD) (t : Fin cfg0.N) (d6 d7 d8) :
    outsStep m c t ((dats m 0 c).before 6 t d6, (dats m 0 c).before 7 t d7, (dats m 0 c).before 8 t d8)
      = outsAt m c t.val t.isLt := by
  rcases t with ⟨n, hn⟩
  have hN : cfg0.N = 64 := N_0
  cases n with
  | zero =>
    exact outsStep_congr m c ⟨0, hn⟩ _ _ (fun h => absurd rfl h) (fun h => absurd rfl h)
  | succ n =>
    refine outsStep_congr m c ⟨n + 1, hn⟩ _ _ (fun h => ?_) (fun h => ?_)
    · refine ((dats m 0 c).before_out_kept 6 rfl ⟨n + 1, hn⟩ (Nat.succ_ne_zero n) ?_ (fun _ => rfl) (fun _ _ => rfl) d6).trans
        (after_6 m c _)
      rw [Bool.eq_false_iff, Ne, flush0_6]
      show ¬ (n + 1 - 1) % 32 = 31
      have : ¬ (n + 1) % 32 = 0 := h
      omega
    · have h' : ¬ (n + 1) % 16 = 0 := h
      refine Prod.ext ?_ ?_
      · refine ((dats m 0 c).before_out_kept 7 rfl ⟨n + 1, hn⟩ (Nat.succ_ne_zero n) ?_ (fun _ => rfl) (fun _ _ => rfl) d7).trans
          (after_7 m c _)
        rw [Bool.eq_false_iff, Ne, flush0_7]
        show ¬ (n + 1 - 1) % 16 = 15
        omega
      · refine ((dats m 0 c).before_out_kept 8 rfl ⟨n + 1, hn⟩ (Nat.succ_ne_zero n) ?_ (fun _ => rfl) (fun _ _ => rfl) d8).trans
          (after_8 m c _)
        rw [Bool.eq_false_iff, Ne, flush0_8]
        show ¬ (n + 1 - 1) % 16 = 15
        omega

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem phi_eq (c : Dev nD) (t : Fin cfg0.N) : (dats m 0 c).Φ t.succ = (dats m 0 c).Φ t.castSucc := rfl
theorem owes_eq (c : Dev nD) (t : Fin cfg0.N) : (dats m 0 c).owesAt () t.succ = (dats m 0 c).owesAt () t.castSucc := rfl

set_option maxHeartbeats 1000000 in
/-- The body's triple at a point. -/
theorem sound_body (c : Dev nD) (t : Fin cfg0.N) :
    iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))
      ⊢ wp frame (wpE (defs₀ (F := F)) Variants.none c none) Set.univ (bodyAt0 t) (fun _ =>
        iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t))) := by
  unfold bodyAt0
  simp only [before_0, before_1, before_2, before_3, before_4, before_5]
  rw [phi_eq, owes_eq, after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← outsAt_before m c t d6 d7 d8]
  unfold outsStep
  dsimp only
  rw [← run_q c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (iblk m c 0 t) (iblk m c 1 t) (iblk m c 2 t) (iblk m c 3 t) (iblk m c 4 t) (iblk m c 5 t) ((dats m 0 c).before 6 t d6) ((dats m 0 c).before 7 t d7) ((dats m 0 c).before 8 t d8),
    ← run_k c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (iblk m c 0 t) (iblk m c 1 t) (iblk m c 2 t) (iblk m c 3 t) (iblk m c 4 t) (iblk m c 5 t) ((dats m 0 c).before 6 t d6) ((dats m 0 c).before 7 t d7) ((dats m 0 c).before 8 t d8),
    ← run_v c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (iblk m c 0 t) (iblk m c 1 t) (iblk m c 2 t) (iblk m c 3 t) (iblk m c 4 t) (iblk m c 5 t) ((dats m 0 c).before 6 t d6) ((dats m 0 c).before 7 t d7) ((dats m 0 c).before 8 t d8)]
  iapply ((run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (iblk m c 0 t) (iblk m c 1 t) (iblk m c 2 t) (iblk m c 3 t) (iblk m c 4 t) (iblk m c 5 t) ((dats m 0 c).before 6 t d6) ((dats m 0 c).before 7 t d7) ((dats m 0 c).before 8 t d8)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point's slots is the body there. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program, every counter at zero at its end. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.BKernelIdeal.Body

end
-- ==== Proof.BMachine.lean ====
module

public import proofs.«01_k».proof.Defs
public import proofs.«01_k».proof.Proof.Gen.BKernel
public import proofs.«01_k».proof.Proof.BFrame

@[expose] public section

set_option maxRecDepth 16384

noncomputable section

/-! # The machine program's frame -/

namespace Cert.BKernel.Body

open Idealize.ShloMosaic Idealize.SL.Sem

/-- The frame of the program printed for the reals, read over machine words. -/
def AtBits : Prop :=
  ∀ (m : (ℓ : Loc Cert.BKernelIdeal.nD Cert.BKernelIdeal.τ Cert.BKernelIdeal.sig) → Buf (Elt Bits) ℓ) (g : Dev Cert.BKernelIdeal.nD → PrngReg), True →
    θ_run (Cert.BKernelIdeal.defs (F := Bits)) (onTc (τ := Cert.BKernelIdeal.τ) (Cert.BKernelIdeal.main (F := Bits))) ⟨m, fun _ => 0, g⟩
      (fun r => (∀ c : Dev Cert.BKernelIdeal.nD,
        r.2.mem ((c.tc : Thread Cert.BKernelIdeal.nD Cert.BKernelIdeal.τ).loc Cert.BKernelIdeal.main_arg0) = m ((c.tc : Thread Cert.BKernelIdeal.nD Cert.BKernelIdeal.τ).loc Cert.BKernelIdeal.main_arg0)
        ∧ r.2.mem ((c.tc : Thread Cert.BKernelIdeal.nD Cert.BKernelIdeal.τ).loc Cert.BKernelIdeal.main_arg1) = m ((c.tc : Thread Cert.BKernelIdeal.nD Cert.BKernelIdeal.τ).loc Cert.BKernelIdeal.main_arg1)
        ∧ r.2.mem ((c.tc : Thread Cert.BKernelIdeal.nD Cert.BKernelIdeal.τ).loc Cert.BKernelIdeal.main_arg2) = m ((c.tc : Thread Cert.BKernelIdeal.nD Cert.BKernelIdeal.τ).loc Cert.BKernelIdeal.main_arg2)
        ∧ r.2.mem ((c.tc : Thread Cert.BKernelIdeal.nD Cert.BKernelIdeal.τ).loc Cert.BKernelIdeal.main_arg3) = m ((c.tc : Thread Cert.BKernelIdeal.nD Cert.BKernelIdeal.τ).loc Cert.BKernelIdeal.main_arg3))
        ∧ r.2.sem = fun _ => 0)

/-- Both programs have one text. -/
theorem same : AtBits = quiescent_BKernel := by sl_kernel_rfl

theorem frame : quiescent_BKernel := same.mp fun m ρ _ => Cert.BKernelIdeal.Body.frame (F := Bits) m ρ

end Cert.BKernel.Body

end
-- ==== Proof.BBlock.lean ====
module

public import proofs.«01_k».proof.Proof.BFrame
public import proofs.«01_k».proof.Proof.AttnMath

@[expose] public section

set_option maxRecDepth 16384

noncomputable section

/-! # A point's blocks over the reals -/

namespace Cert.BKernelIdeal.Tile

open Idealize.ShloMosaic Idealize.ShloMosaic.TcCoe Idealize.ShloMosaic.Tactic Idealize.ShloMosaic.Pointwise
open Cert.BKernelIdeal.Gen Cert.Attn Cert.Reals

/-- The entries of a head over the extended reals are those of a head over the reals. -/
structure Head.Is (H : Head Ideal) (R : Attn.Head) : Prop where
  q : Attn.Is H.qm R.q
  d : Attn.Is H.dom R.d
  delta : ∀ r : Fin 512, H.delta (ix2 r 0) = (R.delta r.val : EReal)
  lse : ∀ r : Fin 512, H.lse (ix2 r 0) = (R.lse r.val : EReal)

variable {H : Head Ideal} {R : Attn.Head} {k v : Vec Ideal S256x128 .bf16} {k' v' : ℕ → ℕ → ℝ}

theorem prob_is (h : H.Is R) (hk : Is k k') : Is (prob H k) (R.p k') := fun r j => by
  pointwise [prob]
  simp only [h.q r, hk j, h.lse r, ← EReal.coe_mul, ← coe_sum, ← EReal.coe_sub, Ideal.exp_coe]
  rfl

theorem dscore_is (h : H.Is R) (hk : Is k k') (hv : Is v v') : Is (dscore H k v) (R.ds k' v') := fun r j => by
  pointwise [dscore]
  simp only [h.d r, hv j, h.delta r, prob_is h hk r j, ← EReal.coe_mul, ← coe_sum, ← EReal.coe_sub]
  rfl

theorem dvStep_is (h : H.Is R) (hk : Is k k') : Is (dvStep H k) (R.dv k') := fun a j => by
  pointwise [dvStep]
  simp only [h.d _ a, prob_is h hk _ j, ← EReal.coe_mul, ← coe_sum]
  rfl

theorem dkStep_is (h : H.Is R) (hk : Is k k') (hv : Is v v') : Is (dkStep H k v) (R.dk k' v') := fun a j => by
  pointwise [dkStep]
  simp only [h.q _ a, dscore_is h hk hv _ j, ← EReal.coe_mul, ← coe_sum]
  rfl

theorem dqStep_is (h : H.Is R) (hk : Is k k') (hv : Is v v') : Is (dqStep H k v) (R.dq k' v' 256) := fun r a => by
  pointwise [dqStep]
  simp only [dscore_is h hk hv r _, hk _ a, ← EReal.coe_mul, ← coe_sum]
  rfl

theorem dqSum_is {k v : ℕ → Vec Ideal S256x128 .bf16} {k' v' : ℕ → ℕ → ℕ → ℝ} (h : H.Is R) (hk : ∀ n, Is (k n) (k' n))
    (hv : ∀ n, Is (v n) (v' n)) : ∀ n, Is (dqSum H k v n) (fun r a => ∑ c ∈ Finset.range n, R.dq (k' c) (v' c) 256 r a) := by
  intro n
  induction n with
  | zero =>
    intro r a
    unfold dqSum
    pointwise
    simp
  | succ n ih =>
    intro r a
    unfold dqSum
    pointwise
    rw [ih r a, dqStep_is h (hk n) (hv n) r a, ← EReal.coe_add, Finset.sum_range_succ]

/-- Head `hh` of a tile over the reals. -/
def realHead (Q D O : ℕ → ℕ → ℝ) (L : ℕ → ℕ → ℝ) (hh : ℕ) : Attn.Head where
  q r l := Q r (128 * (hh % 2) + l)
  d r l := D r (128 * (hh % 2) + l)
  delta r := ∑ l : Fin 128, D r (128 * (hh % 2) + l.val) * O r (128 * (hh % 2) + l.val)
  lse := L hh

theorem cols_is {x : Vec Ideal S512x256 .bf16} {f : ℕ → ℕ → ℝ} (hx : Is x f) (hh : ℕ) :
    Is (shapeCast S512x128 (fun j => x ((cols hh).toLoadRect.idx j)) shapeCasts_S512x128_S512x128) (fun r l => f r (128 * (hh % 2) + l)) := fun r l => by
  pointwise
  exact hx r _

theorem delta_apply (q dO : Vec Ideal S512x128 .bf16) (o : Vec Ideal S512x128 .f32) (l : Vec Ideal S1x1x512 .f32)
    (r : Fin 512) : (head q dO o l).delta (ix2 r 0) = ∑ x : Fin 128, dO (ix2 r x) * o (ix2 r x) := by
  pointwise [head]

theorem headOf_is {x0 x3 : Vec Ideal S512x256 .bf16} {x4 : Vec Ideal S512x256 .f32} {x5 : Vec Ideal S2x1x512 .f32}
    {Q D O : ℕ → ℕ → ℝ} {L : ℕ → ℕ → ℝ} (hQ : Is x0 Q) (hD : Is x3 D) (hO : Is x4 O)
    (hL : ∀ (hh : Fin 2) (r : Fin 512), x5 (ix3 hh 0 r) = (L hh.val r.val : EReal)) (hh : ℕ) (h2 : hh < 2) :
    (headOf x0 x3 x4 x5 hh).Is (realHead Q D O L hh) where
  q := cols_is hQ hh
  d := cols_is hD hh
  delta r := by
    unfold headOf
    rw [delta_apply]
    have hd : ∀ x : Fin 128, x3 ((cols hh).toLoadRect.idx (ix2 r x)) = (D r.val (128 * (hh % 2) + x.val) : EReal) := fun x => by
      pointwise
      exact hD r _
    have ho : ∀ x : Fin 128, x4 ((cols hh).toLoadRect.idx (ix2 r x)) = (O r.val (128 * (hh % 2) + x.val) : EReal) := fun x => by
      pointwise
      exact hO r _
    simp only [hd, ho, ← EReal.coe_mul, ← coe_sum]
    rfl
  lse r := by
    unfold headOf
    pointwise [head, col]
    rw [hL]
    show (L (hh % 2) r.val : EReal) = L hh r.val
    rw [Nat.mod_eq_of_lt h2]

/-- The keys of chunk `c` of a head in a block. -/
def chunkR (f : ℕ → ℕ → ℝ) (hh c j a : ℕ) : ℝ := f (256 * (c % 16) + j) (128 * (hh % 2) + a)

/-- A chunk of a head's keys or values over the reals. -/
theorem chunkOf_is {x : Vec Ideal S4096x256 .bf16} {f : ℕ → ℕ → ℝ} (hx : Is x f) (hh n : ℕ) :
    Is (chunkOf x hh n) (chunkR f hh n) := fun j a => by
  unfold chunkOf
  pointwise
  exact hx _ _

/-- A gradient block after the heads over the reals. -/
theorem added_is {z : Vec Ideal S256x4096 .f32} {T : ℕ → ℕ → FVec Ideal S128x256 .f32} {f : ℕ → ℕ → ℝ} {g : ℕ → ℕ → ℕ → ℝ} (hz : Is z f)
    (hT : ∀ hh < 2, ∀ n, Is (T hh n) (fun a j => g hh a (256 * (n % 16) + j))) :
    Is (added z T) (fun a j => f a j + g (a / 128) (a % 128) j) := fun a j => by
  have ha := a.isLt
  have hj := j.isLt
  have h0 : 128 * (a.val / 128 % 2) + a.val % 128 = a.val := by omega
  have h1 : 256 * ((16 * (a.val / 128) + j.val / 256) % 16) + j.val % 256 = j.val := by omega
  unfold added
  show addf (shapeCast S128x256 (fun x => z ((chunk (a.val / 128) (16 * (a.val / 128) + j.val / 256)).toLoadRect.idx x))
      shapeCasts_S128x256_S128x256) (T (a.val / 128) (16 * (a.val / 128) + j.val / 256))
    (ix2 ⟨a.val % 128, Nat.mod_lt _ (by decide)⟩ ⟨j.val % 256, Nat.mod_lt _ (by decide)⟩) = _
  pointwise
  rw [hT (a.val / 128) (by omega) _]
  refine (congrArg (· + _) (hz _ _)).trans ?_
  rw [← EReal.coe_add]
  show ((f (128 * (a.val / 128 % 2) + a.val % 128) (256 * ((16 * (a.val / 128) + j.val / 256) % 16) + j.val % 256)
    + g (a.val / 128) (a.val % 128) (256 * ((16 * (a.val / 128) + j.val / 256) % 16) + j.val % 256) : ℝ) : EReal) = _
  rw [h0, h1]

/-- The query gradient of a head over the reals. -/
def headR (R : ℕ → Attn.Head) (K V : ℕ → ℕ → ℝ) (hh r l : ℕ) : ℝ :=
  ∑ c ∈ Finset.range 16, (R hh).dq (chunkR K hh c) (chunkR V hh c) 256 r l

/-- A head's columns of a block of keys or values. -/
def colsR (f : ℕ → ℕ → ℝ) (hh j a : ℕ) : ℝ := f j (128 * (hh % 2) + a)

section

variable {i : grid0.Coords} {x0 x3 : Vec Ideal S512x256 .bf16} {x1 x2 : Vec Ideal S4096x256 .bf16} {x4 : Vec Ideal S512x256 .f32} {x5 : Vec Ideal S2x1x512 .f32}
variable {Q D O L K V : ℕ → ℕ → ℝ} (hQ : Is x0 Q) (hK : Is x1 K) (hV : Is x2 V) (hD : Is x3 D) (hO : Is x4 O)
variable (hL : ∀ (hh : Fin 2) (r : Fin 512), x5 (ix3 hh 0 r) = (L hh.val r.val : EReal))

include hQ hK hD hO hL in
theorem nextV_is {x8 : Vec Ideal S256x4096 .f32} {z : ℕ → ℕ → ℝ} (hz : (i 2).val ≠ 0 → Is x8 z) :
    Is (nextV i x0 x1 x3 x4 x5 x8) (fun a j => (if (i 2).val = 0 then 0 else z a j)
      + (realHead Q D O L (a / 128)).dv (colsR K (a / 128)) (a % 128) j) := by
  unfold nextV
  refine added_is (f := fun a j => if (i 2).val = 0 then 0 else z a j) (g := fun hh => (realHead Q D O L hh).dv (colsR K hh)) ?_ fun hh h2 n a j => ?_
  · intro a j
    by_cases h : (i 2).val = 0
    · simp only [if_pos h]
      pointwise [k0_pay5]
      rfl
    · simp only [if_neg h]
      exact hz h a j
  · exact dvStep_is (headOf_is hQ hD hO hL hh h2) (chunkOf_is hK hh n) a j

include hQ hK hV hD hO hL in
theorem nextK_is {x7 : Vec Ideal S256x4096 .f32} {z : ℕ → ℕ → ℝ} (hz : (i 2).val ≠ 0 → Is x7 z) :
    Is (nextK i x0 x1 x2 x3 x4 x5 x7) (fun a j => (if (i 2).val = 0 then 0 else z a j)
      + (realHead Q D O L (a / 128)).dk (colsR K (a / 128)) (colsR V (a / 128)) (a % 128) j) := by
  unfold nextK
  refine added_is (f := fun a j => if (i 2).val = 0 then 0 else z a j) (g := fun hh => (realHead Q D O L hh).dk (colsR K hh) (colsR V hh)) ?_ fun hh h2 n a j => ?_
  · intro a j
    by_cases h : (i 2).val = 0
    · simp only [if_pos h]
      pointwise [k0_pay4]
      rfl
    · simp only [if_neg h]
      exact hz h a j
  · exact dkStep_is (headOf_is hQ hD hO hL hh h2) (chunkOf_is hK hh n) (chunkOf_is hV hh n) a j

include hQ hK hV hD hO hL in
theorem headQ_is (hh : ℕ) (h2 : hh < 2) : Is (headQ x0 x1 x2 x3 x4 x5 hh) (headR (realHead Q D O L) K V hh) :=
  dqSum_is (headOf_is hQ hD hO hL hh h2) (chunkOf_is hK hh) (chunkOf_is hV hh) 16

include hQ hK hV hD hO hL in
theorem nextQ_is {x6 : Vec Ideal S8192x256 .f32} {z : ℕ → ℕ → ℝ} (hz : ¬ ((i 1).val = 0 ∧ (i 2).val = 0) → Is x6 z) :
    Is (nextQ i x0 x1 x2 x3 x4 x5 x6) (fun s c => (if (i 1).val = 0 ∧ (i 2).val = 0 then 0 else z s c)
      + if s / 512 = (i 2).val then headR (realHead Q D O L) K V (c / 128) (s % 512) (c % 128) else 0) := fun s c => by
  have hc := c.isLt
  have hs : Is (startQ i x6) (fun s c => if (i 1).val = 0 ∧ (i 2).val = 0 then 0 else z s c) := fun s c => by
    unfold startQ
    by_cases h : (i 1).val = 0 ∧ (i 2).val = 0
    · simp only [if_pos h]
      pointwise [k0_pay3]
      rfl
    · simp only [if_neg h]
      exact hz h s c
  unfold nextQ
  show _ = (((if (i 1).val = 0 ∧ (i 2).val = 0 then 0 else z s.val c.val)
    + if s.val / 512 = (i 2).val then headR (realHead Q D O L) K V (c.val / 128) (s.val % 512) (c.val % 128) else 0 : ℝ) : EReal)
  by_cases h : s.val / 512 = (i 2).val
  · rw [if_pos (c := s.val / 512 = _) h]
    refine (if_pos (show ((ix2 s c : S8192x256.Idx) 0).val / 512 = (i 2).val from h)).trans ?_
    show addf (shapeCast S512x128 (fun j => startQ i x6 ((tile i (c.val / 128)).toLoadRect.idx j)) shapeCasts_S512x128_S512x128)
      (headQ x0 x1 x2 x3 x4 x5 (c.val / 128)) (ix2 ⟨s.val % 512, Nat.mod_lt _ (by decide)⟩ ⟨c.val % 128, Nat.mod_lt _ (by decide)⟩) = _
    pointwise
    rw [headQ_is hQ hK hV hD hO hL (c.val / 128) (by omega)]
    refine (congrArg (· + _) (hs _ _)).trans ?_
    rw [← EReal.coe_add]
    have e0 : 512 * (i 2).val + s.val % 512 = s.val := by omega
    have e1 : 128 * (c.val / 128 % 2) + c.val % 128 = c.val := by omega
    show (((if (i 1).val = 0 ∧ (i 2).val = 0 then 0 else z (512 * (i 2).val + s.val % 512) (128 * (c.val / 128 % 2) + c.val % 128)) + _ : ℝ) : EReal) = _
    rw [e0, e1]
  · rw [if_neg (c := s.val / 512 = _) h, add_zero]
    exact (if_neg (show ¬ ((ix2 s c : S8192x256.Idx) 0).val / 512 = (i 2).val from h)).trans (hs s c)

end

end Cert.BKernelIdeal.Tile

end
-- ==== Proof.BState.lean ====
module

public import proofs.«01_k».proof.Proof.BBlock

@[expose] public section

set_option maxRecDepth 16384

noncomputable section

/-! # The gradient blocks after each point, over the reals -/

namespace Cert.BKernelIdeal.Tile

open Idealize.ShloMosaic Idealize.ShloMosaic.TcCoe Idealize.ShloMosaic.Tactic Idealize.ShloMosaic.Pointwise
open Cert.BKernelIdeal.Gen Cert.Attn Cert.Reals
open Cert.BKernelIdeal.Body (outsAt outsStep coords_1 coords_2)

/-- The region's input arrays over the reals: row or key, then column; the log-sums by head and row. -/
structure Arrays where
  Q : ℕ → ℕ → ℝ
  K : ℕ → ℕ → ℝ
  V : ℕ → ℕ → ℝ
  D : ℕ → ℕ → ℝ
  O : ℕ → ℕ → ℝ
  L : ℕ → ℕ → ℝ

namespace Arrays

variable (A : Arrays)

/-- Head `hh` of group `g` in tile `i`. -/
def head (g i hh : ℕ) : Attn.Head :=
  realHead (fun r c => A.Q (512 * i + r) (256 * g + c)) (fun r c => A.D (512 * i + r) (256 * g + c))
    (fun r c => A.O (512 * i + r) (256 * g + c)) (fun hh r => A.L (2 * g + hh) (512 * i + r)) hh
/-- Block `b` of the keys of group `g`. -/
def key (g b j a : ℕ) : ℝ := A.K (4096 * b + j) (256 * g + a)
/-- Block `b` of the values of group `g`. -/
def val (g b j a : ℕ) : ℝ := A.V (4096 * b + j) (256 * g + a)

/-- What tile `i` adds to the values' gradient. -/
def vTerm (g b i a j : ℕ) : ℝ := (A.head g i (a / 128)).dv (colsR (A.key g b) (a / 128)) (a % 128) j
/-- What tile `i` adds to the keys' gradient. -/
def kTerm (g b i a j : ℕ) : ℝ := (A.head g i (a / 128)).dk (colsR (A.key g b) (a / 128)) (colsR (A.val g b) (a / 128)) (a % 128) j
/-- What point `u` of a group adds to the queries' gradient. -/
def qTerm (g u s c : ℕ) : ℝ :=
  if s / 512 = u % 16 then headR (A.head g (u % 16)) (A.key g (u / 16)) (A.val g (u / 16)) (c / 128) (s % 512) (c % 128) else 0

end Arrays

theorem index_in : ∀ t : Fin grid0.N, (win0_0.index t 0 = t.val % 16 ∧ win0_0.index t 1 = t.val / 32)
    ∧ (win0_1.index t 0 = t.val / 16 % 2 ∧ win0_1.index t 1 = t.val / 32) ∧ (win0_2.index t 0 = t.val / 16 % 2 ∧ win0_2.index t 1 = t.val / 32)
    ∧ (win0_3.index t 0 = t.val % 16 ∧ win0_3.index t 1 = t.val / 32) ∧ (win0_4.index t 0 = t.val % 16 ∧ win0_4.index t 1 = t.val / 32)
    ∧ (win0_5.index t 0 = t.val / 32 ∧ win0_5.index t 1 = 0 ∧ win0_5.index t 2 = t.val % 16) := by decide +kernel

variable (m : (ℓ : Loc nD τ sig) → Buf (Elt Ideal) ℓ) (c : Dev nD)

/-- The arrays the region reads are these real ones. -/
structure Reads (A : Arrays) : Prop where
  qs : Is (n := 8192) (k := 512) (V m c main_v28) A.Q
  ks : Is (n := 8192) (k := 512) (V m c main_v32) A.K
  vs : Is (n := 8192) (k := 512) (V m c main_v22) A.V
  ds : Is (n := 8192) (k := 512) (V m c main_v33) A.D
  os : Is (n := 8192) (k := 512) (V m c main_v19) A.O
  ls : ∀ i, (V m c main_v16 : S4x1x8192.Idx → EReal) i = (A.L (i 0).val (i 2).val : EReal)

variable {m c} {A : Arrays} (h : Reads m c A) (t : Fin cfg0.N)

include h

theorem blkQ : Is (n := 512) (k := 256) (iblk m c 0 t) (fun r d => A.Q (512 * (t.val % 16) + r) (256 * (t.val / 32) + d)) := fun r d => by
  refine (h.qs.at (((cfg0.win 0).blk t).view.emb (ix2 r d))).trans ?_
  show (A.Q (win0_0.index t 0 * 512 + 1 * r.val) (win0_0.index t 1 * 256 + 1 * d.val) : EReal) = _
  rw [(index_in t).1.1, (index_in t).1.2]
  ring_nf
theorem blkD : Is (n := 512) (k := 256) (iblk m c 3 t) (fun r d => A.D (512 * (t.val % 16) + r) (256 * (t.val / 32) + d)) := fun r d => by
  refine (h.ds.at (((cfg0.win 3).blk t).view.emb (ix2 r d))).trans ?_
  show (A.D (win0_3.index t 0 * 512 + 1 * r.val) (win0_3.index t 1 * 256 + 1 * d.val) : EReal) = _
  rw [(index_in t).2.2.2.1.1, (index_in t).2.2.2.1.2]
  ring_nf
theorem blkO : Is (n := 512) (k := 256) (iblk m c 4 t) (fun r d => A.O (512 * (t.val % 16) + r) (256 * (t.val / 32) + d)) := fun r d => by
  refine (h.os.at (((cfg0.win 4).blk t).view.emb (ix2 r d))).trans ?_
  show (A.O (win0_4.index t 0 * 512 + 1 * r.val) (win0_4.index t 1 * 256 + 1 * d.val) : EReal) = _
  rw [(index_in t).2.2.2.2.1.1, (index_in t).2.2.2.2.1.2]
  ring_nf
theorem blkK : Is (n := 4096) (k := 256) (iblk m c 1 t) (fun r d => A.K (4096 * (t.val / 16 % 2) + r) (256 * (t.val / 32) + d)) := fun r d => by
  refine (h.ks.at (((cfg0.win 1).blk t).view.emb (ix2 r d))).trans ?_
  show (A.K (win0_1.index t 0 * 4096 + 1 * r.val) (win0_1.index t 1 * 256 + 1 * d.val) : EReal) = _
  rw [(index_in t).2.1.1, (index_in t).2.1.2]
  ring_nf
theorem blkV : Is (n := 4096) (k := 256) (iblk m c 2 t) (fun r d => A.V (4096 * (t.val / 16 % 2) + r) (256 * (t.val / 32) + d)) := fun r d => by
  refine (h.vs.at (((cfg0.win 2).blk t).view.emb (ix2 r d))).trans ?_
  show (A.V (win0_2.index t 0 * 4096 + 1 * r.val) (win0_2.index t 1 * 256 + 1 * d.val) : EReal) = _
  rw [(index_in t).2.2.1.1, (index_in t).2.2.1.2]
  ring_nf
omit h in
theorem read5 (X : S4x1x8192.Idx → EReal) (y : S2x1x512.Idx) :
    (((cfg0.win 5).blk t).view.read (Elt Ideal) X : S2x1x512.Idx → EReal) y = X (((cfg0.win 5).blk t).view.emb y) := rfl
theorem blkL (hh : Fin 2) (r : Fin 512) :
    (iblk m c 5 t : S2x1x512.Idx → EReal) (ix3 hh 0 r) = (A.L (2 * (t.val / 32) + hh.val) (512 * (t.val % 16) + r.val) : EReal) := by
  unfold iblk
  refine (read5 t (V m c main_v16) (ix3 hh 0 r)).trans ((h.ls _).trans ?_)
  show (A.L (win0_5.index t 0 * 2 + 1 * hh.val) (win0_5.index t 2 * 512 + 1 * r.val) : EReal) = _
  rw [(index_in t).2.2.2.2.2.1, (index_in t).2.2.2.2.2.2.2]
  ring_nf

/-- The three blocks after a point that found these. -/
structure After (A : Arrays) (n : ℕ) (o : Vec Ideal S8192x256 .f32 × Vec Ideal S256x4096 .f32 × Vec Ideal S256x4096 .f32) : Prop where
  q : Is o.1 (fun s c => ∑ u ∈ Finset.range (n % 32 + 1), A.qTerm (n / 32) u s c)
  k : Is o.2.1 (fun a j => ∑ i ∈ Finset.range (n % 16 + 1), A.kTerm (n / 32) (n / 16 % 2) i a j)
  v : Is o.2.2 (fun a j => ∑ i ∈ Finset.range (n % 16 + 1), A.vTerm (n / 32) (n / 16 % 2) i a j)

theorem stepV {x8 : Vec Ideal S256x4096 .f32}
    (hz : t.val % 16 ≠ 0 → Is x8 (fun a j => ∑ i ∈ Finset.range (t.val % 16), A.vTerm (t.val / 32) (t.val / 16 % 2) i a j)) :
    Is (nextV (grid0.coords t) (iblk m c 0 t) (iblk m c 1 t) (iblk m c 3 t) (iblk m c 4 t) (iblk m c 5 t) x8)
      (fun a j => ∑ i ∈ Finset.range (t.val % 16 + 1), A.vTerm (t.val / 32) (t.val / 16 % 2) i a j) := fun a j => by
  refine (nextV_is (i := grid0.coords t) (blkQ h t) (blkK h t) (blkD h t) (blkO h t)
    (L := fun hh r => A.L (2 * (t.val / 32) + hh) (512 * (t.val % 16) + r)) (blkL h t) (x8 := x8)
    (z := fun a j => ∑ i ∈ Finset.range (t.val % 16), A.vTerm (t.val / 32) (t.val / 16 % 2) i a j)
    (fun hi => hz (by rwa [coords_2] at hi)) a j).trans (congrArg _ ?_)
  rw [coords_2]
  exact first_sum (t.val % 16) fun i => A.vTerm (t.val / 32) (t.val / 16 % 2) i a j

theorem stepK {x7 : Vec Ideal S256x4096 .f32}
    (hz : t.val % 16 ≠ 0 → Is x7 (fun a j => ∑ i ∈ Finset.range (t.val % 16), A.kTerm (t.val / 32) (t.val / 16 % 2) i a j)) :
    Is (nextK (grid0.coords t) (iblk m c 0 t) (iblk m c 1 t) (iblk m c 2 t) (iblk m c 3 t) (iblk m c 4 t) (iblk m c 5 t) x7)
      (fun a j => ∑ i ∈ Finset.range (t.val % 16 + 1), A.kTerm (t.val / 32) (t.val / 16 % 2) i a j) := fun a j => by
  refine (nextK_is (i := grid0.coords t) (blkQ h t) (blkK h t) (blkV h t) (blkD h t) (blkO h t)
    (L := fun hh r => A.L (2 * (t.val / 32) + hh) (512 * (t.val % 16) + r)) (blkL h t) (x7 := x7)
    (z := fun a j => ∑ i ∈ Finset.range (t.val % 16), A.kTerm (t.val / 32) (t.val / 16 % 2) i a j)
    (fun hi => hz (by rwa [coords_2] at hi)) a j).trans (congrArg _ ?_)
  rw [coords_2]
  exact first_sum (t.val % 16) fun i => A.kTerm (t.val / 32) (t.val / 16 % 2) i a j

theorem stepQ {x6 : Vec Ideal S8192x256 .f32}
    (hz : t.val % 32 ≠ 0 → Is x6 (fun s d => ∑ u ∈ Finset.range (t.val % 32), A.qTerm (t.val / 32) u s d)) :
    Is (nextQ (grid0.coords t) (iblk m c 0 t) (iblk m c 1 t) (iblk m c 2 t) (iblk m c 3 t) (iblk m c 4 t) (iblk m c 5 t) x6)
      (fun s d => ∑ u ∈ Finset.range (t.val % 32 + 1), A.qTerm (t.val / 32) u s d) := fun s d => by
  refine (nextQ_is (i := grid0.coords t) (blkQ h t) (blkK h t) (blkV h t) (blkD h t) (blkO h t)
    (L := fun hh r => A.L (2 * (t.val / 32) + hh) (512 * (t.val % 16) + r)) (blkL h t) (x6 := x6)
    (z := fun s d => ∑ u ∈ Finset.range (t.val % 32), A.qTerm (t.val / 32) u s d)
    (fun hi => hz (by rw [coords_1, coords_2] at hi; omega)) s d).trans (congrArg _ ?_)
  rw [coords_1, coords_2]
  refine Eq.trans ?_ (first_sum (t.val % 32) fun u => A.qTerm (t.val / 32) u s d)
  refine congrArg₂ (· + ·) (if_congr (by omega) rfl rfl) ?_
  show _ = Arrays.qTerm A (t.val / 32) (t.val % 32) s d
  unfold Arrays.qTerm
  rw [show t.val % 32 % 16 = t.val % 16 by omega, show t.val % 32 / 16 = t.val / 16 % 2 by omega]
  rfl

theorem step_after {o : Vec Ideal S8192x256 .f32 × Vec Ideal S256x4096 .f32 × Vec Ideal S256x4096 .f32}
    (ho : t.val ≠ 0 → After A (t.val - 1) o) : After A t.val (outsStep m c t o) where
  q := stepQ h t fun hi => by
    have := (ho (by omega)).q
    rwa [show (t.val - 1) % 32 + 1 = t.val % 32 by omega, show (t.val - 1) / 32 = t.val / 32 by omega] at this
  k := stepK h t fun hi => by
    have := (ho (by omega)).k
    rwa [show (t.val - 1) % 16 + 1 = t.val % 16 by omega, show (t.val - 1) / 32 = t.val / 32 by omega,
      show (t.val - 1) / 16 % 2 = t.val / 16 % 2 by omega] at this
  v := stepV h t fun hi => by
    have := (ho (by omega)).v
    rwa [show (t.val - 1) % 16 + 1 = t.val % 16 by omega, show (t.val - 1) / 32 = t.val / 32 by omega,
      show (t.val - 1) / 16 % 2 = t.val / 16 % 2 by omega] at this

theorem after_is : ∀ (n : ℕ) (hn : n < cfg0.N), After A n (outsAt m c n hn) := by
  intro n
  induction n with
  | zero => exact fun hn => step_after h ⟨0, hn⟩ (fun e => absurd rfl e)
  | succ n ih => exact fun hn => step_after h ⟨n + 1, hn⟩ (fun _ => ih (Nat.lt_of_succ_lt hn))

end Cert.BKernelIdeal.Tile

end
-- ==== Proof.BArrays.lean ====
module

public import proofs.«01_k».proof.Proof.BState

@[expose] public section

set_option maxRecDepth 16384

noncomputable section

/-! # The three gradient arrays after the region, over the reals -/

namespace Cert.BKernelIdeal.Tile

open Idealize.ShloMosaic Idealize.ShloMosaic.TcCoe Idealize.ShloMosaic.Tactic Idealize.ShloMosaic.Pointwise
open Cert.BKernelIdeal Cert.BKernelIdeal.Gen Cert.Attn Cert.Reals
open Cert.BKernelIdeal.Body (outsAt outsStep dats after_6 after_7 after_8)

namespace Arrays

variable (A : Arrays)

/-- The queries' gradient, by row and column. -/
def dq (s c : ℕ) : ℝ := ∑ u ∈ Finset.range 32, A.qTerm (c / 256) u s (c % 256)
/-- The keys' gradient, by column and key. -/
def dk (a j : ℕ) : ℝ := ∑ i ∈ Finset.range 16, A.kTerm (a / 256) (j / 4096) i (a % 256) (j % 4096)
/-- The values' gradient, by column and key. -/
def dv (a j : ℕ) : ℝ := ∑ i ∈ Finset.range 16, A.vTerm (a / 256) (j / 4096) i (a % 256) (j % 4096)

end Arrays

theorem index_out : ∀ t : Fin grid0.N, (win0_6.index t 0 = 0 ∧ win0_6.index t 1 = t.val / 32)
    ∧ (win0_7.index t 0 = t.val / 32 ∧ win0_7.index t 1 = t.val / 16 % 2)
    ∧ (win0_8.index t 0 = t.val / 32 ∧ win0_8.index t 1 = t.val / 16 % 2) := by decide +kernel

/-- The last point of a group. -/
def pointQ (d : Fin 512) : Fin cfg0.N := ⟨32 * (d.val / 256) + 31, by rw [show cfg0.N = 64 from N_0]; omega⟩
/-- The last point of a block of keys in a group. -/
def pointK (a : Fin 512) (j : Fin 8192) : Fin cfg0.N := ⟨32 * (a.val / 256) + 16 * (j.val / 4096) + 15, by rw [show cfg0.N = 64 from N_0]; omega⟩

variable {m : (ℓ : Loc nD τ sig) → Buf (Elt Ideal) ℓ} {c : Dev nD} {A : Arrays} (h : Reads m c A)

include h

theorem arr6 : (dats m 0 c).arrAt 6 cfg0.N = fun i : S8192x512.Idx => (A.dq (i 0).val (i 1).val : EReal) :=
  (dats m 0 c).arrAt_eq_of_cover 6 _ (fun t hf => by
    have hl : t.val % 32 = 31 := (flush0_6 t).mp hf
    show (cfg0.win 6).cut (grid0.coords t) ((dats m 0 c).after 6 t) = _
    rw [after_6]
    funext y
    rw [View.read_apply]
    refine ((after_is h t.val t.isLt).q.at y).trans (congrArg _ ?_)
    have hy : (y 1).val < 256 := (y 1).isLt
    show _ = A.dq (win0_6.index t 0 * 8192 + 1 * (y 0).val) (win0_6.index t 1 * 256 + 1 * (y 1).val)
    rw [(index_out t).1.1, (index_out t).1.2, hl]
    unfold Arrays.dq
    rw [show 0 * 8192 + 1 * (y 0).val = (y 0).val by omega,
      show (t.val / 32 * 256 + 1 * (y 1).val) / 256 = t.val / 32 by omega,
      show (t.val / 32 * 256 + 1 * (y 1).val) % 256 = (y 1).val by omega]) fun i =>
    ⟨pointQ (i 1), (flush0_6 _).mpr (by show (32 * ((i 1).val / 256) + 31) % 32 = 31; omega), by
      show i ∈ ((View.whole main_v34_0).slice (win0_6.rect (pointQ (i 1)))).set
      rw [View.set_slice_whole, Rect.mem_set_unit]
      have h0 : (i 0).val < 8192 := (i 0).isLt
      have e : win0_6.index (pointQ (i 1)) 0 * 8192 ≤ (i 0).val ∧ (i 0).val < win0_6.index (pointQ (i 1)) 0 * 8192 + 8192 := by
        rw [(index_out _).1.1]; omega
      have e' : win0_6.index (pointQ (i 1)) 1 * 256 ≤ (i 1).val ∧ (i 1).val < win0_6.index (pointQ (i 1)) 1 * 256 + 256 := by
        rw [(index_out _).1.2]
        show (32 * ((i 1).val / 256) + 31) / 32 * 256 ≤ (i 1).val ∧ (i 1).val < (32 * ((i 1).val / 256) + 31) / 32 * 256 + 256
        omega
      exact fun a => match a with
        | ⟨0, _⟩ => e
        | ⟨1, _⟩ => e'⟩

theorem arr7 : (dats m 0 c).arrAt 7 cfg0.N = fun i : S512x8192.Idx => (A.dk (i 0).val (i 1).val : EReal) :=
  (dats m 0 c).arrAt_eq_of_cover 7 _ (fun t hf => by
    have hl : t.val % 16 = 15 := (flush0_7 t).mp hf
    show (cfg0.win 7).cut (grid0.coords t) ((dats m 0 c).after 7 t) = _
    rw [after_7]
    funext y
    rw [View.read_apply]
    refine ((after_is h t.val t.isLt).k.at y).trans (congrArg _ ?_)
    have h0 : (y 0).val < 256 := (y 0).isLt
    have h1 : (y 1).val < 4096 := (y 1).isLt
    show _ = A.dk (win0_7.index t 0 * 256 + 1 * (y 0).val) (win0_7.index t 1 * 4096 + 1 * (y 1).val)
    rw [(index_out t).2.1.1, (index_out t).2.1.2, hl]
    unfold Arrays.dk
    rw [show (t.val / 32 * 256 + 1 * (y 0).val) / 256 = t.val / 32 by omega,
      show (t.val / 32 * 256 + 1 * (y 0).val) % 256 = (y 0).val by omega,
      show (t.val / 16 % 2 * 4096 + 1 * (y 1).val) / 4096 = t.val / 16 % 2 by omega,
      show (t.val / 16 % 2 * 4096 + 1 * (y 1).val) % 4096 = (y 1).val by omega]) fun i => by
    have h0 : (i 0).val < 512 := (i 0).isLt
    have h1 : (i 1).val < 8192 := (i 1).isLt
    refine ⟨pointK (i 0) (i 1), (flush0_7 _).mpr (by
      show (32 * ((i 0).val / 256) + 16 * ((i 1).val / 4096) + 15) % 16 = 15; omega), ?_⟩
    show i ∈ ((View.whole main_v34_1).slice (win0_7.rect (pointK (i 0) (i 1)))).set
    rw [View.set_slice_whole, Rect.mem_set_unit]
    have e : win0_7.index (pointK (i 0) (i 1)) 0 * 256 ≤ (i 0).val ∧ (i 0).val < win0_7.index (pointK (i 0) (i 1)) 0 * 256 + 256 := by
      rw [(index_out _).2.1.1]
      show (32 * ((i 0).val / 256) + 16 * ((i 1).val / 4096) + 15) / 32 * 256 ≤ (i 0).val
        ∧ (i 0).val < (32 * ((i 0).val / 256) + 16 * ((i 1).val / 4096) + 15) / 32 * 256 + 256
      omega
    have e' : win0_7.index (pointK (i 0) (i 1)) 1 * 4096 ≤ (i 1).val ∧ (i 1).val < win0_7.index (pointK (i 0) (i 1)) 1 * 4096 + 4096 := by
      rw [(index_out _).2.1.2]
      show (32 * ((i 0).val / 256) + 16 * ((i 1).val / 4096) + 15) / 16 % 2 * 4096 ≤ (i 1).val
        ∧ (i 1).val < (32 * ((i 0).val / 256) + 16 * ((i 1).val / 4096) + 15) / 16 % 2 * 4096 + 4096
      omega
    exact fun a => match a with
      | ⟨0, _⟩ => e
      | ⟨1, _⟩ => e'

theorem arr8 : (dats m 0 c).arrAt 8 cfg0.N = fun i : S512x8192.Idx => (A.dv (i 0).val (i 1).val : EReal) :=
  (dats m 0 c).arrAt_eq_of_cover 8 _ (fun t hf => by
    have hl : t.val % 16 = 15 := (flush0_8 t).mp hf
    show (cfg0.win 8).cut (grid0.coords t) ((dats m 0 c).after 8 t) = _
    rw [after_8]
    funext y
    rw [View.read_apply]
    refine ((after_is h t.val t.isLt).v.at y).trans (congrArg _ ?_)
    have h0 : (y 0).val < 256 := (y 0).isLt
    have h1 : (y 1).val < 4096 := (y 1).isLt
    show _ = A.dv (win0_8.index t 0 * 256 + 1 * (y 0).val) (win0_8.index t 1 * 4096 + 1 * (y 1).val)
    rw [(index_out t).2.2.1, (index_out t).2.2.2, hl]
    unfold Arrays.dv
    rw [show (t.val / 32 * 256 + 1 * (y 0).val) / 256 = t.val / 32 by omega,
      show (t.val / 32 * 256 + 1 * (y 0).val) % 256 = (y 0).val by omega,
      show (t.val / 16 % 2 * 4096 + 1 * (y 1).val) / 4096 = t.val / 16 % 2 by omega,
      show (t.val / 16 % 2 * 4096 + 1 * (y 1).val) % 4096 = (y 1).val by omega]) fun i => by
    have h0 : (i 0).val < 512 := (i 0).isLt
    have h1 : (i 1).val < 8192 := (i 1).isLt
    refine ⟨pointK (i 0) (i 1), (flush0_8 _).mpr (by
      show (32 * ((i 0).val / 256) + 16 * ((i 1).val / 4096) + 15) % 16 = 15; omega), ?_⟩
    show i ∈ ((View.whole main_v34_2).slice (win0_8.rect (pointK (i 0) (i 1)))).set
    rw [View.set_slice_whole, Rect.mem_set_unit]
    have e : win0_8.index (pointK (i 0) (i 1)) 0 * 256 ≤ (i 0).val ∧ (i 0).val < win0_8.index (pointK (i 0) (i 1)) 0 * 256 + 256 := by
      rw [(index_out _).2.2.1]
      show (32 * ((i 0).val / 256) + 16 * ((i 1).val / 4096) + 15) / 32 * 256 ≤ (i 0).val
        ∧ (i 0).val < (32 * ((i 0).val / 256) + 16 * ((i 1).val / 4096) + 15) / 32 * 256 + 256
      omega
    have e' : win0_8.index (pointK (i 0) (i 1)) 1 * 4096 ≤ (i 1).val ∧ (i 1).val < win0_8.index (pointK (i 0) (i 1)) 1 * 4096 + 4096 := by
      rw [(index_out _).2.2.2]
      show (32 * ((i 0).val / 256) + 16 * ((i 1).val / 4096) + 15) / 16 % 2 * 4096 ≤ (i 1).val
        ∧ (i 1).val < (32 * ((i 0).val / 256) + 16 * ((i 1).val / 4096) + 15) / 16 % 2 * 4096 + 4096
      omega
    exact fun a => match a with
      | ⟨0, _⟩ => e
      | ⟨1, _⟩ => e'

end Cert.BKernelIdeal.Tile

end
-- ==== Proof.BMatch.lean ====
module

public import proofs.«01_k».proof.Proof.BArrays
public import proofs.«01_k».proof.Proof.AttnInput

@[expose] public section

set_option maxRecDepth 16384

noncomputable section

/-! # The tiled sums are the gradients of attention -/

namespace Cert.BKernelIdeal.Tile

open Cert.Attn

/-- A sum over 128 lanes of which the last 32 are zero. -/
theorem sum_pad (f : ℕ → ℝ) : (∑ l : Fin 128, if l.val < 96 then f l.val else 0) = ∑ x : Fin 96, f x.val := by
  rw [← Finset.sum_range fun l => if l < 96 then f l else 0, ← Finset.sum_range f, ← Finset.sum_filter]
  refine Finset.sum_congr (Finset.ext fun l => ?_) fun _ _ => rfl
  rw [Finset.mem_filter, Finset.mem_range, Finset.mem_range]
  omega

/-- The region's arrays for these arguments, the rows shifted by `M`. -/
def ofInput (I : Wide) (M : ℕ → ℕ → ℝ) : Arrays where
  Q s c := if c % 128 < 96 then I.q (c / 128) s (c % 128) * I.b else 0
  K j c := if c % 128 < 96 then I.k (c / 128) j (c % 128) else 0
  V j c := I.v (c / 128) j (c % 128)
  D s c := I.d s c
  O s c := I.o (M (c / 128) s) (c / 128) s (c % 128)
  L h s := I.lse (M h s) h s

variable (I : Wide) (M : ℕ → ℕ → ℝ) (h b i : ℕ)

theorem key_eq (j l : ℕ) (hl : l < 128) : colsR ((ofInput I M).key (h / 2) b) (h % 2) j l = if l < 96 then I.k h (4096 * b + j) l else 0 := by
  show (if (256 * (h / 2) + (128 * (h % 2 % 2) + l)) % 128 < 96 then I.k ((256 * (h / 2) + (128 * (h % 2 % 2) + l)) / 128) (4096 * b + j)
    ((256 * (h / 2) + (128 * (h % 2 % 2) + l)) % 128) else 0) = _
  rw [show (256 * (h / 2) + (128 * (h % 2 % 2) + l)) / 128 = h by omega, show (256 * (h / 2) + (128 * (h % 2 % 2) + l)) % 128 = l by omega]

theorem val_eq (j l : ℕ) (hl : l < 128) : colsR ((ofInput I M).val (h / 2) b) (h % 2) j l = I.v h (4096 * b + j) l := by
  show I.v ((256 * (h / 2) + (128 * (h % 2 % 2) + l)) / 128) (4096 * b + j) ((256 * (h / 2) + (128 * (h % 2 % 2) + l)) % 128) = _
  rw [show (256 * (h / 2) + (128 * (h % 2 % 2) + l)) / 128 = h by omega, show (256 * (h / 2) + (128 * (h % 2 % 2) + l)) % 128 = l by omega]

theorem head_q (r l : ℕ) (hl : l < 128) : ((ofInput I M).head (h / 2) i (h % 2)).q r l = if l < 96 then I.q h (512 * i + r) l * I.b else 0 := by
  show (if (256 * (h / 2) + (128 * (h % 2 % 2) + l)) % 128 < 96 then I.q ((256 * (h / 2) + (128 * (h % 2 % 2) + l)) / 128) (512 * i + r)
    ((256 * (h / 2) + (128 * (h % 2 % 2) + l)) % 128) * I.b else 0) = _
  rw [show (256 * (h / 2) + (128 * (h % 2 % 2) + l)) / 128 = h by omega, show (256 * (h / 2) + (128 * (h % 2 % 2) + l)) % 128 = l by omega]

theorem head_d (r l : ℕ) : ((ofInput I M).head (h / 2) i (h % 2)).d r l = I.d (512 * i + r) (128 * h + l) := by
  show I.d (512 * i + r) (256 * (h / 2) + (128 * (h % 2 % 2) + l)) = _
  rw [show 256 * (h / 2) + (128 * (h % 2 % 2) + l) = 128 * h + l by omega]

theorem head_delta (r : ℕ) : ((ofInput I M).head (h / 2) i (h % 2)).delta r = I.delta h (512 * i + r) := by
  rw [← I.sum_o (M h (512 * i + r))]
  show (∑ l : Fin 128, ((ofInput I M).head (h / 2) i (h % 2)).d r l.val * (ofInput I M).O (512 * i + r) (256 * (h / 2) + (128 * (h % 2 % 2) + l.val))) = _
  refine Finset.sum_congr rfl fun l _ => congrArg₂ (· * ·) (head_d I M h i r l.val) ?_
  show I.o (M ((256 * (h / 2) + (128 * (h % 2 % 2) + l.val)) / 128) (512 * i + r)) ((256 * (h / 2) + (128 * (h % 2 % 2) + l.val)) / 128)
    (512 * i + r) ((256 * (h / 2) + (128 * (h % 2 % 2) + l.val)) % 128) = _
  rw [show (256 * (h / 2) + (128 * (h % 2 % 2) + l.val)) / 128 = h by omega, show (256 * (h / 2) + (128 * (h % 2 % 2) + l.val)) % 128 = l.val by omega]

theorem head_p (r j : ℕ) : ((ofInput I M).head (h / 2) i (h % 2)).p (colsR ((ofInput I M).key (h / 2) b) (h % 2)) r j
    = I.p h (512 * i + r) (4096 * b + j) := by
  rw [← I.exp_sub_lse (M h (512 * i + r))]
  refine congrArg Real.exp (congrArg₂ (· - ·) ?_ ?_)
  · unfold Wide.score
    rw [Finset.sum_mul, ← sum_pad fun x => I.q h (512 * i + r) x * I.k h (4096 * b + j) x * I.b]
    refine Finset.sum_congr rfl fun l _ => ?_
    rw [head_q I M h i r l.val l.isLt, key_eq I M h b j l.val l.isLt]
    split
    · ring
    · rw [zero_mul]
  · show I.lse (M (2 * (h / 2) + h % 2) (512 * i + r)) (2 * (h / 2) + h % 2) (512 * i + r) = _
    rw [show 2 * (h / 2) + h % 2 = h by omega]

theorem head_ds (r j : ℕ) : ((ofInput I M).head (h / 2) i (h % 2)).ds (colsR ((ofInput I M).key (h / 2) b) (h % 2))
    (colsR ((ofInput I M).val (h / 2) b) (h % 2)) r j = I.ds h (512 * i + r) (4096 * b + j) := by
  unfold Attn.Head.ds
  rw [head_p, head_delta]
  refine congrArg (_ * ·) (congrArg (· - _) ?_)
  refine Finset.sum_congr rfl fun l _ => ?_
  rw [head_d, val_eq I M h b j l.val l.isLt]

theorem dv_eq (j x : ℕ) (hx : x < 128) : (ofInput I M).dv (128 * h + x) j = I.dv h j x := by
  refine Eq.trans ?_ (sum_tiles 16 512 fun s => I.d s (128 * h + x) * I.p h s j)
  unfold Arrays.dv Arrays.vTerm
  rw [show (128 * h + x) / 256 = h / 2 by omega, show (128 * h + x) % 256 / 128 = h % 2 by omega,
    show (128 * h + x) % 256 % 128 = x by omega]
  refine Finset.sum_congr rfl fun i _ => Finset.sum_congr rfl fun r _ => ?_
  rw [head_d, head_p, show 4096 * (j / 4096) + j % 4096 = j by omega]

theorem dk_eq (j x : ℕ) (hx : x < 96) : (ofInput I M).dk (128 * h + x) j = I.dk h j x := by
  refine Eq.trans ?_ (sum_tiles 16 512 fun s => I.ds h s j * I.b * I.q h s x)
  unfold Arrays.dk Arrays.kTerm
  rw [show (128 * h + x) / 256 = h / 2 by omega, show (128 * h + x) % 256 / 128 = h % 2 by omega,
    show (128 * h + x) % 256 % 128 = x by omega]
  refine Finset.sum_congr rfl fun i _ => Finset.sum_congr rfl fun r _ => ?_
  rw [head_q I M h i r.val x (by omega), if_pos hx, head_ds, show 4096 * (j / 4096) + j % 4096 = j by omega]
  ring

/-- A row's query gradient from one block of 4096 keys. -/
theorem head_eq (s x : ℕ) (hx : x < 96) : headR ((ofInput I M).head (h / 2) (s / 512)) ((ofInput I M).key (h / 2) b)
    ((ofInput I M).val (h / 2) b) (h % 2) (s % 512) x = ∑ j : Fin 4096, I.ds h s (4096 * b + j.val) * I.k h (4096 * b + j.val) x := by
  refine Eq.trans ?_ (sum_tiles 16 256 fun j => I.ds h s (4096 * b + j) * I.k h (4096 * b + j) x)
  refine Finset.sum_congr rfl fun n hn => Finset.sum_congr rfl fun j _ => ?_
  have h16 := Finset.mem_range.1 hn
  have e := head_ds I M h b (s / 512) (s % 512) (256 * n + j.val)
  rw [show 512 * (s / 512) + s % 512 = s by omega] at e
  rw [← e]
  refine congrArg₂ (· * ·) ?_ ?_
  · show ((ofInput I M).head (h / 2) (s / 512) (h % 2)).ds (fun j a => colsR ((ofInput I M).key (h / 2) b) (h % 2) (256 * (n % 16) + j) a)
      (fun j a => colsR ((ofInput I M).val (h / 2) b) (h % 2) (256 * (n % 16) + j) a) (s % 512) j.val = _
    rw [show n % 16 = n by omega]
    rfl
  · show colsR ((ofInput I M).key (h / 2) b) (h % 2) (256 * (n % 16) + j.val) x = _
    rw [key_eq I M h b _ _ (by omega), if_pos hx, show n % 16 = n by omega]

theorem dq_eq (s x : ℕ) (hs : s < 8192) (hx : x < 96) : (ofInput I M).dq s (128 * h + x) * I.b = I.dq h s x := by
  unfold Arrays.dq Wide.dq
  have hq : ∀ u, (ofInput I M).qTerm ((128 * h + x) / 256) u s ((128 * h + x) % 256)
      = if s / 512 = u % 16 then ∑ j : Fin 4096, I.ds h s (4096 * (u / 16) + j.val) * I.k h (4096 * (u / 16) + j.val) x else 0 := fun u => by
    unfold Arrays.qTerm
    by_cases e : s / 512 = u % 16
    · rw [if_pos e, if_pos e, ← e, show (128 * h + x) / 256 = h / 2 by omega, show (128 * h + x) % 256 / 128 = h % 2 by omega,
        show (128 * h + x) % 256 % 128 = x by omega, head_eq I M h _ s x hx]
    · rw [if_neg e, if_neg e]
  rw [Finset.sum_congr rfl fun u _ => hq u, Finset.sum_range fun u => if s / 512 = u % 16 then
    ∑ j : Fin 4096, I.ds h s (4096 * (u / 16) + j.val) * I.k h (4096 * (u / 16) + j.val) x else 0,
    ← sum_tiles 2 16 fun u => if s / 512 = u % 16 then
    ∑ j : Fin 4096, I.ds h s (4096 * (u / 16) + j.val) * I.k h (4096 * (u / 16) + j.val) x else 0,
    ← sum_tiles 2 4096 fun j => I.ds h s j * I.b * I.k h j x, Finset.sum_mul]
  refine Finset.sum_congr rfl fun b _ => ?_
  refine (congrArg (· * I.b) (Finset.sum_eq_single_of_mem (⟨s / 512, by omega⟩ : Fin 16) (Finset.mem_univ _) fun u _ hu =>
    if_neg fun e => hu (Fin.ext (by show u.val = s / 512; omega)))).trans ?_
  show (if s / 512 = (16 * b + s / 512) % 16 then ∑ j : Fin 4096, I.ds h s (4096 * ((16 * b + s / 512) / 16) + j.val)
    * I.k h (4096 * ((16 * b + s / 512) / 16) + j.val) x else 0) * I.b = _
  rw [if_pos (by omega), show (16 * b + s / 512) / 16 = b by omega, Finset.sum_mul]
  exact Finset.sum_congr rfl fun j _ => by ring

end Cert.BKernelIdeal.Tile

end
-- ==== Proof.BHost.lean ====
module

public import proofs.«01_k».proof.Proof.BMatch
public import proofs.«01_k».proof.Proof.AttnArgs

@[expose] public section

set_option maxRecDepth 16384

noncomputable section

/-! # The arrays the region reads, from the arguments -/

namespace Cert.BKernelIdeal.Tile

open Idealize.ShloMosaic Idealize.ShloMosaic.TcCoe Idealize.ShloMosaic.Tactic Idealize.ShloMosaic.Pointwise
open Cert.BKernelIdeal Cert.BKernelIdeal.Gen Cert.Attn Cert.Reals

section

variable (q k : FVec Ideal S4x8192x96 .f32) (v : FVec Ideal S4x8192x128 .f32)

/-- The scores of the forward pass. -/
def scores : FVec Ideal S4x1x8192x8192 .f32 :=
  mulf (Host.dotGeneral dot_S4x1x8192x96_S4x8192x96_S4x1x8192x8192_3_2_12_1_0_0 none
    (broadcastInDim S4x1x8192x96 ![0, 2, 3] bcast_S4x8192x96_S4x1x8192x96_0_2_3 q) k)
    (broadcastInDim S4x1x8192x8192 ![] bcast_S_S4x1x8192x8192 (constant S_ .f32 0x3DD105EC#32))
/-- Each row's largest score. -/
def tops : FVec Ideal S4x1x8192 .f32 :=
  Host.reduce FloatOps.maximumf (scores q k) (constant S_ .f32 0xFF800000#32) reducesTo_S4x1x8192x8192_S4x1x8192_d3 h_S_
def top1 : FVec Ideal S4x1x8192x1 .f32 := broadcastInDim S4x1x8192x1 ![0, 1, 2] bcast_S4x1x8192_S4x1x8192x1_0_1_2 (tops q k)
/-- The exponentials of the shifted scores. -/
def exps : FVec Ideal S4x1x8192x8192 .f32 :=
  Host.exp (subf (scores q k) (broadcastInDim S4x1x8192x8192 ![0, 1, 2, 3] bcast_S4x1x8192x1_S4x1x8192x8192_0_1_2_3 (top1 q k)))
/-- Their sums. -/
def sums : FVec Ideal S4x1x8192x1 .f32 :=
  broadcastInDim S4x1x8192x1 ![0, 1, 2] bcast_S4x1x8192_S4x1x8192x1_0_1_2
    (Host.reduceAdd (exps q k) (constant S_ .f32 0x00000000#32) reducesTo_S4x1x8192x8192_S4x1x8192_d3 h_S_)
/-- The output. -/
def outs : FVec Ideal S4x1x8192x128 .f32 :=
  Host.divf (Host.dotGeneral dot_S4x1x8192x8192_S4x8192x128_S4x1x8192x128_3_1_12_2_0_0 none (exps q k) v)
    (broadcastInDim S4x1x8192x128 ![0, 1, 2, 3] bcast_S4x1x8192x1_S4x1x8192x128_0_1_2_3 (sums q k))
/-- The rows' log-sums. -/
def logs : FVec Ideal S4x1x8192x1 .f32 := addf (top1 q k) (Host.log (sums q k))

variable {q k v} {I : Wide} (hb : I.b = scale) (hq : ∀ i, q i = (I.q (i 0).val (i 1).val (i 2).val : EReal))
  (hk : ∀ i, k i = (I.k (i 0).val (i 1).val (i 2).val : EReal)) (hv : ∀ i, v i = (I.v (i 0).val (i 1).val (i 2).val : EReal))

include hb hq hk

theorem scores_is (h : Fin 4) (s j : Fin 8192) : scores q k (ix4 h 0 s j) = (I.score h.val s.val j.val : EReal) := by
  pointwise [scores]
  rw [word_scale]
  unfold Wide.score
  rw [EReal.coe_mul, coe_sum, hb]
  refine congrArg (· * _) (Finset.sum_congr rfl fun x _ => ?_)
  rw [hq, hk, EReal.coe_mul]
  rfl

theorem tops_real (h : Fin 4) (s : Fin 8192) : IsReal (tops q k (ix3 h 0 s)) := by
  refine reduce_top (scores q k) (fun i => ?_) h_S_ reducesTo_S4x1x8192x8192_S4x1x8192_d3 (by decide) (by decide) _
  have := scores_is hb hq hk (i 0) (i 2) (i 3)
  rw [show i = ix4 (i 0) 0 (i 2) (i 3) from funext fun a => match a with
    | ⟨0, _⟩ => rfl
    | ⟨1, _⟩ => Fin.ext (by show (i 1).val = 0; have : (i 1).val < 1 := (i 1).isLt; omega)
    | ⟨2, _⟩ => rfl
    | ⟨3, _⟩ => rfl]
  exact ⟨_, this⟩

/-- The shift of each row of each head. -/
def shift (q k : FVec Ideal S4x8192x96 .f32) (h s : ℕ) : ℝ :=
  if hh : h < 4 ∧ s < 8192 then (tops q k (ix3 ⟨h, hh.1⟩ 0 ⟨s, hh.2⟩)).toReal else 0

theorem tops_is (h : Fin 4) (s : Fin 8192) : tops q k (ix3 h 0 s) = (shift q k h.val s.val : EReal) := by
  obtain ⟨r, hr⟩ := tops_real hb hq hk h s
  unfold shift
  rw [dif_pos ⟨h.isLt, s.isLt⟩]
  show _ = ((tops q k (ix3 h 0 s)).toReal : EReal)
  rw [hr, EReal.toReal_coe]

theorem top1_is (h : Fin 4) (s : Fin 8192) : top1 q k (ix4 h 0 s 0) = (shift q k h.val s.val : EReal) := by
  refine Eq.trans ?_ (tops_is hb hq hk h s)
  unfold top1
  generalize tops q k = y
  pointwise

theorem exps_is (h : Fin 4) (s j : Fin 8192) : exps q k (ix4 h 0 s j) = (I.e (shift q k h.val s.val) h.val s.val j.val : EReal) := by
  pointwise [exps]
  rw [scores_is hb hq hk, top1_is hb hq hk, ← EReal.coe_sub, Ideal.exp_coe]
  rfl

theorem sums_is (h : Fin 4) (s : Fin 8192) : sums q k (ix4 h 0 s 0) = (I.l (shift q k h.val s.val) h.val s.val : EReal) := by
  pointwise [sums]
  unfold Wide.l Soft.l
  rw [coe_sum]
  exact Finset.sum_congr rfl fun j _ => exps_is hb hq hk h s j

theorem logs_is (h : Fin 4) (s : Fin 8192) : logs q k (ix4 h 0 s 0) = (I.lse (shift q k h.val s.val) h.val s.val : EReal) := by
  have key : ∀ x y : FVec Ideal S4x1x8192x1 .f32, addf x (Host.log y) (ix4 h 0 s 0) = x (ix4 h 0 s 0) + Ideal.log (y (ix4 h 0 s 0)) :=
    fun x y => by pointwise
  unfold logs
  rw [key, top1_is hb hq hk, sums_is hb hq hk, log_pos (I.l_pos _ _ _), ← EReal.coe_add]
  rfl

include hv

theorem outs_is (h : Fin 4) (s : Fin 8192) (x : Fin 128) : outs q k v (ix4 h 0 s x)
    = (I.o (shift q k h.val s.val) h.val s.val x.val : EReal) := by
  pointwise [outs]
  have e1 : ∑ j : Fin 8192, exps q k (ix4 h 0 s j) * v (ix3 h j x)
      = ((∑ j : Fin 8192, I.e (shift q k h.val s.val) h.val s.val j.val * I.v h.val j.val x.val : ℝ) : EReal) := by
    rw [coe_sum]
    refine Finset.sum_congr rfl fun j _ => ?_
    rw [exps_is hb hq hk, hv, EReal.coe_mul]
    rfl
  rw [e1, sums_is hb hq hk, div_real (I.l_pos _ _ _)]
  rfl

end

variable (m : (ℓ : Loc nD τ sig) → Buf (Elt Ideal) ℓ) (c : Dev nD)

abbrev argQ : FVec Ideal S4x8192x96 .f32 := m ((c : Thread nD τ).loc main_arg0)
abbrev argK : FVec Ideal S4x8192x96 .f32 := m ((c : Thread nD τ).loc main_arg1)
abbrev argV : FVec Ideal S4x8192x128 .f32 := m ((c : Thread nD τ).loc main_arg2)
abbrev argD : FVec Ideal S8192x512 .f32 := m ((c : Thread nD τ).loc main_arg3)

theorem V_o (s : Fin 8192) (d : Fin 512) : (V m c main_v19 : S8192x512.Idx → EReal) (ix2 s d)
    = outs (argQ m c) (argK m c) (argV m c) (ix4 ⟨d.val / 128, by omega⟩ 0 s ⟨d.val % 128, by omega⟩) := by
  have h : V m c main_v19 = (shapeCast S8192x512 (transpose S8192x4x128 [1, 0, 2] (shapeCast S4x8192x128 (outs (argQ m c) (argK m c) (argV m c))
      shapeCasts_S4x1x8192x128_S4x8192x128) transposes_S4x8192x128_S8192x4x128_1_0_2) shapeCasts_S8192x4x128_S8192x512 : FVec Ideal S8192x512 .f32) := by
    show StableHlo.after (List.flatten [hostOps0, hostOps0_1, hostOps0_2, hostOps0_3, hostOps0_4]) (fun b => m (c, b)) (Proc.devRef .tc main_v19) = _
    simp only [List.flatten_cons, List.flatten_nil, List.append_nil, List.cons_append, List.nil_append]
    unfold outs sums exps top1 tops scores
    after_results
    rfl
  rw [h]
  pointwise

theorem V_l (h : Fin 4) (s : Fin 8192) : (V m c main_v16 : S4x1x8192.Idx → EReal) (ix3 h 0 s) = logs (argQ m c) (argK m c) (ix4 h 0 s 0) := by
  have h : V m c main_v16 = (shapeCast S4x1x8192 (logs (argQ m c) (argK m c)) shapeCasts_S4x1x8192x1_S4x1x8192 : FVec Ideal S4x1x8192 .f32) := by
    show StableHlo.after (List.flatten [hostOps0, hostOps0_1, hostOps0_2, hostOps0_3, hostOps0_4]) (fun b => m (c, b)) (Proc.devRef .tc main_v16) = _
    simp only [List.flatten_cons, List.flatten_nil, List.append_nil, List.cons_append, List.nil_append]
    unfold logs sums exps top1 tops scores
    after_results
    rfl
  rw [h]
  pointwise

/-- Queries or keys by rows, each head filled up with zeros to 128 lanes. -/
def padded (x : FVec Ideal S4x8192x96 .f32) : FVec Ideal S8192x512 .f32 :=
  shapeCast S8192x512 (transpose S8192x4x128 [1, 0, 2] (pad S4x8192x128 ![0, 0, 0] ![0, 0, 32] ![0, 0, 0] x
    (sitofp .f32 (constantI S_ 32 0#32) : FVec Ideal S_ .f32) pads_S4x8192x96_S4x8192x128_000_000_0320 h_S_)
    transposes_S4x8192x128_S8192x4x128_1_0_2) shapeCasts_S8192x4x128_S8192x512

theorem padded_at (x : FVec Ideal S4x8192x96 .f32) (s : Fin 8192) (d : Fin 512) :
    padded x (ix2 s d) = if h : d.val % 128 < 96 then x (ix3 ⟨d.val / 128, by omega⟩ s ⟨d.val % 128, h⟩) else 0 := by
  pointwise [padded]
  have z : (FloatOps.sitofp .f32 0#32 : Ideal .f32) = (0 : EReal) := sitofp_zero
  by_cases h : d.val % 128 < 96
  · rw [dif_pos ⟨by omega, h⟩, dif_pos h]
  · rw [dif_neg fun hh => h hh.2, dif_neg h, z]

theorem V_q (s : Fin 8192) (d : Fin 512) : (V m c main_v28 : S8192x512.Idx → EReal) (ix2 s d)
    = if h : d.val % 128 < 96 then argQ m c (ix3 ⟨d.val / 128, by omega⟩ s ⟨d.val % 128, h⟩) * (scale : EReal) else 0 := by
  have h : V m c main_v28 = (truncf .bf16 (padded (mulf (argQ m c)
      (broadcastInDim S4x8192x96 ![] bcast_S_S4x8192x96 (constant S_ .f32 0x3DD105EC#32)))) bitsLt_bf16_f32 : FVec Ideal S8192x512 .bf16) := by
    show StableHlo.after (List.flatten [hostOps0, hostOps0_1, hostOps0_2, hostOps0_3, hostOps0_4]) (fun b => m (c, b)) (Proc.devRef .tc main_v28) = _
    simp only [List.flatten_cons, List.flatten_nil, List.append_nil, List.cons_append, List.nil_append]
    unfold padded
    after_results
    rfl
  rw [h]
  refine (padded_at _ s d).trans ?_
  pointwise
  rw [word_scale]

theorem V_k (s : Fin 8192) (d : Fin 512) : (V m c main_v32 : S8192x512.Idx → EReal) (ix2 s d)
    = if h : d.val % 128 < 96 then argK m c (ix3 ⟨d.val / 128, by omega⟩ s ⟨d.val % 128, h⟩) else 0 := by
  have h : V m c main_v32 = (truncf .bf16 (padded (argK m c)) bitsLt_bf16_f32 : FVec Ideal S8192x512 .bf16) := by
    show StableHlo.after (List.flatten [hostOps0, hostOps0_1, hostOps0_2, hostOps0_3, hostOps0_4]) (fun b => m (c, b)) (Proc.devRef .tc main_v32) = _
    simp only [List.flatten_cons, List.flatten_nil, List.append_nil, List.cons_append, List.nil_append]
    unfold padded
    after_results
    rfl
  rw [h]
  exact padded_at _ s d

theorem V_v (s : Fin 8192) (d : Fin 512) : (V m c main_v22 : S8192x512.Idx → EReal) (ix2 s d)
    = argV m c (ix3 ⟨d.val / 128, by omega⟩ s ⟨d.val % 128, by omega⟩) := by
  have h : V m c main_v22 = (truncf .bf16 (shapeCast S8192x512 (transpose S8192x4x128 [1, 0, 2] (argV m c)
      transposes_S4x8192x128_S8192x4x128_1_0_2) shapeCasts_S8192x4x128_S8192x512) bitsLt_bf16_f32 : FVec Ideal S8192x512 .bf16) := by
    show StableHlo.after (List.flatten [hostOps0, hostOps0_1, hostOps0_2, hostOps0_3, hostOps0_4]) (fun b => m (c, b)) (Proc.devRef .tc main_v22) = _
    simp only [List.flatten_cons, List.flatten_nil, List.append_nil, List.cons_append, List.nil_append]
    after_results
    rfl
  rw [h]
  pointwise

theorem V_d (s : Fin 8192) (d : Fin 512) : (V m c main_v33 : S8192x512.Idx → EReal) (ix2 s d) = argD m c (ix2 s d) := by
  have h : V m c main_v33 = (truncf .bf16 (argD m c) bitsLt_bf16_f32 : FVec Ideal S8192x512 .bf16) := by
    show StableHlo.after (List.flatten [hostOps0, hostOps0_1, hostOps0_2, hostOps0_3, hostOps0_4]) (fun b => m (c, b)) (Proc.devRef .tc main_v33) = _
    simp only [List.flatten_cons, List.flatten_nil, List.append_nil, List.cons_append, List.nil_append]
    after_results
  rw [h]
  pointwise

end Cert.BKernelIdeal.Tile

end
-- ==== Proof.BValue.lean ====
module

public import proofs.«01_k».proof.Proof.BHost
public import proofs.«01_k».proof.Proof.AttnArgs

@[expose] public section

set_option maxRecDepth 16384

noncomputable section

/-! # The kernel's run: the three gradients, and the arguments unchanged -/

namespace Cert.BKernelIdeal.Whole

open Cert.BKernelIdeal Cert.BKernelIdeal.Gen Cert.BKernelIdeal.Tile Cert.BKernelIdeal.Body Cert.Attn Cert.Reals
open Idealize.ShloMosaic Idealize.ShloMosaic.TcCoe Idealize.SL.Sem Idealize.ShloMosaic.Pointwise Idealize.ShloMosaic.StableHlo
open Idealize.ShloMosaic.Pipeline (Dat)

/-- The queries' gradient by heads, scaled. -/
def dqOf (x : FVec Ideal S8192x512 .f32) : FVec Ideal S4x8192x96 .f32 :=
  transpose S4x8192x96 [1, 0, 2] (extractStridedSlice S8192x4x96 ![0, 0, 0] (shapeCast S8192x4x128
    (mulf x (broadcastInDim S8192x512 ![] bcast_S_S8192x512 (constant S_ .f32 0x3DD105EC#32))) shapeCasts_S8192x512_S8192x4x128)
    slices_S8192x4x128_S8192x4x96_0_0_0) transposes_S8192x4x96_S4x8192x96_1_0_2

/-- The keys' gradient by heads. -/
def dkOf (x : FVec Ideal S512x8192 .f32) : FVec Ideal S4x8192x96 .f32 :=
  transpose S4x8192x96 [0, 2, 1] (extractStridedSlice S4x96x8192 ![0, 0, 0] (shapeCast S4x128x8192 x shapeCasts_S512x8192_S4x128x8192)
    slices_S4x128x8192_S4x96x8192_0_0_0) transposes_S4x96x8192_S4x8192x96_0_2_1

/-- The values' gradient by heads. -/
def dvOf (x : FVec Ideal S512x8192 .f32) : FVec Ideal S4x8192x128 .f32 :=
  transpose S4x8192x128 [0, 2, 1] (shapeCast S4x128x8192 x shapeCasts_S512x8192_S4x128x8192) transposes_S4x128x8192_S4x8192x128_0_2_1

theorem tail_q (V : Valuation τ sig (Elt Ideal)) : StableHlo.after [hostOps1].flatten V (Proc.devRef .tc main_v39)
    = dqOf (V (Proc.devRef .tc main_v34_0)) := by
  simp only [List.flatten_cons, List.flatten_nil, List.append_nil]
  after_results
  rfl

theorem tail_k (V : Valuation τ sig (Elt Ideal)) : StableHlo.after [hostOps1].flatten V (Proc.devRef .tc main_v42)
    = dkOf (V (Proc.devRef .tc main_v34_1)) := by
  simp only [List.flatten_cons, List.flatten_nil, List.append_nil]
  after_results
  rfl

theorem tail_v (V : Valuation τ sig (Elt Ideal)) : StableHlo.after [hostOps1].flatten V (Proc.devRef .tc main_v44)
    = dvOf (V (Proc.devRef .tc main_v34_2)) := by
  simp only [List.flatten_cons, List.flatten_nil, List.append_nil]
  after_results
  rfl

theorem dqOf_apply (x : FVec Ideal S8192x512 .f32) (h : Fin 4) (s : Fin 8192) (d : Fin 96) :
    dqOf x (ix3 h s d) = x (ix2 s ⟨128 * h.val + d.val, by omega⟩) * (scale : EReal) := by
  pointwise [dqOf]
  rw [word_scale]
  exact congrArg (· * _) (congrArg x (congrArg (ix2 s) (Fin.ext (by show h.val * 128 + d.val = 128 * h.val + d.val; omega))))

theorem dkOf_apply (x : FVec Ideal S512x8192 .f32) (h : Fin 4) (j : Fin 8192) (d : Fin 96) :
    dkOf x (ix3 h j d) = x (ix2 ⟨128 * h.val + d.val, by omega⟩ j) := by
  pointwise [dkOf]
  exact congrArg (fun a => x (ix2 a j)) (Fin.ext (by show h.val * 128 + d.val = 128 * h.val + d.val; omega))

theorem dvOf_apply (x : FVec Ideal S512x8192 .f32) (h : Fin 4) (j : Fin 8192) (d : Fin 128) :
    dvOf x (ix3 h j d) = x (ix2 ⟨128 * h.val + d.val, by omega⟩ j) := by
  pointwise [dvOf]
  exact congrArg (fun a => x (ix2 a j)) (Fin.ext (by show h.val * 128 + d.val = 128 * h.val + d.val; omega))

variable {m : (ℓ : Loc nD τ sig) → Buf (Elt Ideal) ℓ} {c : Dev nD} {I : Wide}

/-- The arrays the region reads, when the arguments hold real numbers. -/
theorem reads (h : WideHolds I (argQ m c) (argK m c) (argV m c) (argD m c)) :
    Reads m c (ofInput I (shift (argQ m c) (argK m c))) where
  qs r d := (V_q m c r d).trans (by
    show _ = ((if d.val % 128 < 96 then I.q (d.val / 128) r.val (d.val % 128) * I.b else 0 : ℝ) : EReal)
    by_cases hd : d.val % 128 < 96
    · rw [dif_pos hd, if_pos hd, h.q, h.b, EReal.coe_mul]; rfl
    · rw [dif_neg hd, if_neg hd]; rfl)
  ks j d := (V_k m c j d).trans (by
    show _ = ((if d.val % 128 < 96 then I.k (d.val / 128) j.val (d.val % 128) else 0 : ℝ) : EReal)
    by_cases hd : d.val % 128 < 96
    · rw [dif_pos hd, if_pos hd, h.k]; rfl
    · rw [dif_neg hd, if_neg hd]; rfl)
  vs j d := (V_v m c j d).trans (by rw [h.v]; rfl)
  ds r d := (V_d m c r d).trans (by rw [h.d]; rfl)
  os r d := (V_o m c r d).trans (outs_is h.b h.q h.k h.v _ _ _)
  ls i := by
    have e : i = ix3 (i 0) 0 (i 2) := funext fun a => match a with
      | ⟨0, _⟩ => rfl
      | ⟨1, _⟩ => Fin.ext (by show (i 1).val = 0; have : (i 1).val < 1 := (i 1).isLt; omega)
      | ⟨2, _⟩ => rfl
    exact (congrArg (V m c main_v16 : S4x1x8192.Idx → EReal) e).trans ((V_l m c (i 0) (i 2)).trans (logs_is h.b h.q h.k _ _))

theorem eta3 {a b c : ℕ} (i : (⟨3, ![a, b, c]⟩ : Shape).Idx) : i = ix3 (i 0) (i 1) (i 2) := funext fun a => match a with
  | ⟨0, _⟩ => rfl
  | ⟨1, _⟩ => rfl
  | ⟨2, _⟩ => rfl

theorem dqOf_is (M : ℕ → ℕ → ℝ) (hb : I.b = scale) :
    dqOf (fun i : S8192x512.Idx => ((ofInput I M).dq (i 0).val (i 1).val : EReal)) = fun i => (I.dq (i 0).val (i 1).val (i 2).val : EReal) := by
  funext i
  refine (congrArg _ (eta3 i)).trans ((dqOf_apply _ (i 0) (i 1) (i 2)).trans ?_)
  show ((ofInput I M).dq (i 1).val (128 * (i 0).val + (i 2).val) : EReal) * _ = _
  rw [← EReal.coe_mul, ← hb, dq_eq I M _ _ _ (i 1).isLt (i 2).isLt]

theorem dkOf_is (M : ℕ → ℕ → ℝ) :
    dkOf (fun i : S512x8192.Idx => ((ofInput I M).dk (i 0).val (i 1).val : EReal)) = fun i => (I.dk (i 0).val (i 1).val (i 2).val : EReal) := by
  funext i
  refine (congrArg _ (eta3 i)).trans ((dkOf_apply _ (i 0) (i 1) (i 2)).trans ?_)
  exact congrArg _ (dk_eq I M _ _ _ (i 2).isLt)

theorem dvOf_is (M : ℕ → ℕ → ℝ) :
    dvOf (fun i : S512x8192.Idx => ((ofInput I M).dv (i 0).val (i 1).val : EReal)) = fun i => (I.dv (i 0).val (i 1).val (i 2).val : EReal) := by
  funext i
  refine (congrArg _ (eta3 i)).trans ((dvOf_apply _ (i 0) (i 1) (i 2)).trans ?_)
  exact congrArg _ (dv_eq I M _ _ _ (i 2).isLt)

theorem run (m : (ℓ : Loc nD τ sig) → Buf (Elt Ideal) ℓ) (ρ : Dev nD → PrngReg) (I : Dev nD → Wide)
    (h : ∀ c, WideHolds (I c) (argQ m c) (argK m c) (argV m c) (argD m c)) :
    θ_run defs (onTc (τ := τ) (main (F := Ideal))) ⟨m, fun _ => 0, ρ⟩ fun r => ∀ c : Dev nD,
      r.2.mem ((c.tc : Thread nD τ).loc main_v39) = (fun i : S4x8192x96.Idx => ((I c).dq (i 0).val (i 1).val (i 2).val : EReal))
      ∧ r.2.mem ((c.tc : Thread nD τ).loc main_v42) = (fun i : S4x8192x96.Idx => ((I c).dk (i 0).val (i 1).val (i 2).val : EReal))
      ∧ r.2.mem ((c.tc : Thread nD τ).loc main_v44) = (fun i : S4x8192x128.Idx => ((I c).dv (i 0).val (i 1).val (i 2).val : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r hr c => by
    have H := reads (h c)
    refine ⟨((hr.1 c).2 main_v39 (Pipeline.mem_restRefs_of main_v39 (by decide) (by decide))).trans ((tail_q _).trans
        ((congrArg dqOf ((Pipeline.withArrays_arr cfg0.spec launch0.win.arr_inj c (V0 m c) _ 6).trans (arr6 H))).trans (dqOf_is _ (h c).b))),
      ((hr.1 c).2 main_v42 (Pipeline.mem_restRefs_of main_v42 (by decide) (by decide))).trans ((tail_k _).trans
        ((congrArg dkOf ((Pipeline.withArrays_arr cfg0.spec launch0.win.arr_inj c (V0 m c) _ 7).trans (arr7 H))).trans (dkOf_is _))),
      ((hr.1 c).2 main_v44 (Pipeline.mem_restRefs_of main_v44 (by decide) (by decide))).trans ((tail_v _).trans
        ((congrArg dvOf ((Pipeline.withArrays_arr cfg0.spec launch0.win.arr_inj c (V0 m c) _ 8).trans (arr8 H))).trans (dvOf_is _))), hr.2.1 c⟩)
    (θ_run_and (run_main m ρ) (frame m ρ))

end Cert.BKernelIdeal.Whole

end
-- ==== Proof.BRef.lean ====
module

public import proofs.«01_k».proof.Proof.AttnArgs
public import proofs.«01_k».proof.Proof.Gen.BReferenceIdeal.Read

@[expose] public section

set_option maxRecDepth 16384

noncomputable section

/-! # The reference's three gradients over the reals -/

namespace Cert.BReferenceIdeal.Grad

open Cert.BReferenceIdeal Cert.BReferenceIdeal.Gen Cert.BReferenceIdeal.Read Cert.Attn Cert.Reals
open Idealize.ShloMosaic Idealize.ShloMosaic.Pointwise

variable {x0 x1 : FVec Ideal S4x8192x96 .f32} {x2 : FVec Ideal S4x8192x128 .f32} {x3 : FVec Ideal S8192x512 .f32} {I : Wide}
  (h : WideHolds I x0 x1 x2 x3)

include h

theorem score_is (g : Fin 4) (s j : Fin 8192) :
    val_main_v3 (F := Ideal) x0 x1 (ix4 g 0 s j) = (I.score g.val s.val j.val : EReal) := by
  pointwise [val_main_v3, val_main_v2, val_main_v1, val_main_v0, val_main_cst]
  rw [word_scale]
  unfold Wide.score
  rw [EReal.coe_mul, coe_sum, h.b]
  refine congrArg (· * _) (Finset.sum_congr rfl fun x _ => ?_)
  rw [h.q, h.k, EReal.coe_mul]
  rfl

theorem top_real (g : Fin 4) (s : Fin 8192) : IsReal (val_main_v11 (F := Ideal) x0 x1 (ix3 g 0 s)) := by
  have hs : IsReal (val_main_v4 (F := Ideal) x0 x1 (ix3 g 0 s)) :=
    reduce_top (val_main_v3 (F := Ideal) x0 x1) (fun i => by
      have := score_is h (i 0) (i 2) (i 3)
      rw [show i = ix4 (i 0) 0 (i 2) (i 3) from funext fun a => match a with
        | ⟨0, _⟩ => rfl
        | ⟨1, _⟩ => Fin.ext (by show (i 1).val = 0; have : (i 1).val < 1 := (i 1).isLt; omega)
        | ⟨2, _⟩ => rfl
        | ⟨3, _⟩ => rfl]
      exact ⟨_, this⟩) h_S_ reducesTo_S4x1x8192x8192_S4x1x8192_d3 (by decide) (by decide) _
  rw [val_main_v11_apply]
  show IsReal (max (Ideal.ofBits .f32 0xFF800000#32) (val_main_v4 (F := Ideal) x0 x1 (ix3 g 0 s)))
  rw [word_bot, max_bot_left]
  exact hs

omit h in
/-- The shift of each row of each head. -/
def shift (x0 x1 : FVec Ideal S4x8192x96 .f32) (h s : ℕ) : ℝ :=
  if hh : h < 4 ∧ s < 8192 then (val_main_v11 (F := Ideal) x0 x1 (ix3 ⟨h, hh.1⟩ 0 ⟨s, hh.2⟩)).toReal else 0

theorem top_is (g : Fin 4) (s : Fin 8192) :
    val_main_v11 (F := Ideal) x0 x1 (ix3 g 0 s) = (shift x0 x1 g.val s.val : EReal) := by
  obtain ⟨r, hr⟩ := top_real h g s
  unfold shift
  rw [dif_pos ⟨g.isLt, s.isLt⟩]
  show _ = ((val_main_v11 (F := Ideal) x0 x1 (ix3 g 0 s)).toReal : EReal)
  rw [hr, EReal.toReal_coe]

theorem exp_is (g : Fin 4) (s j : Fin 8192) : val_main_v24 (F := Ideal) x0 x1 (ix4 g 0 s j)
    = (I.e (shift x0 x1 g.val s.val) g.val s.val j.val : EReal) := by
  have key : ∀ (x : FVec Ideal S4x1x8192x8192 .f32) (y : FVec Ideal S4x1x8192 .f32), Host.exp (subf x (broadcastInDim S4x1x8192x8192 ![0, 1, 2, 3]
      bcast_S4x1x8192x1_S4x1x8192x8192_0_1_2_3 (broadcastInDim S4x1x8192x1 ![0, 1, 2] bcast_S4x1x8192_S4x1x8192x1_0_1_2 y))) (ix4 g 0 s j)
      = Ideal.exp (x (ix4 g 0 s j) - y (ix3 g 0 s)) := fun x y => by pointwise
  unfold val_main_v24 val_main_v23 val_main_v22 val_main_v21
  rw [key, score_is h, top_is h, ← EReal.coe_sub, Ideal.exp_coe]
  rfl

theorem sum_is (g : Fin 4) (s : Fin 8192) : val_main_v25 (F := Ideal) x0 x1 (ix3 g 0 s)
    = (I.l (shift x0 x1 g.val s.val) g.val s.val : EReal) := by
  have key : ∀ x : FVec Ideal S4x1x8192x8192 .f32, Host.reduceAdd x (val_main_cst_8 (F := Ideal)) reducesTo_S4x1x8192x8192_S4x1x8192_d3 h_S_ (ix3 g 0 s)
      = ∑ j : Fin 8192, x (ix4 g 0 s j) := fun x => by pointwise [val_main_cst_8]
  unfold val_main_v25
  rw [key]
  unfold Wide.l Soft.l
  rw [coe_sum]
  exact Finset.sum_congr rfl fun j _ => exp_is h g s j

theorem sum1_is (g : Fin 4) (s : Fin 8192) : val_main_v26 (F := Ideal) x0 x1 (ix4 g 0 s 0)
    = (I.l (shift x0 x1 g.val s.val) g.val s.val : EReal) := by
  have key : ∀ y : FVec Ideal S4x1x8192 .f32, broadcastInDim S4x1x8192x1 ![0, 1, 2] bcast_S4x1x8192_S4x1x8192x1_0_1_2 y (ix4 g 0 s 0) = y (ix3 g 0 s) :=
    fun y => by pointwise
  unfold val_main_v26
  rw [key, sum_is h]

omit h in
theorem over (y : FVec Ideal S4x1x8192x1 .f32) (g : Fin 4) (s j : Fin 8192) :
    broadcastInDim S4x1x8192x8192 ![0, 1, 2, 3] bcast_S4x1x8192x1_S4x1x8192x8192_0_1_2_3 y (ix4 g 0 s j) = y (ix4 g 0 s 0) := by pointwise

theorem p_is (g : Fin 4) (s j : Fin 8192) : val_main_v28 (F := Ideal) x0 x1 (ix4 g 0 s j) = (I.p g.val s.val j.val : EReal) := by
  rw [val_main_v28_apply]
  unfold val_main_v27
  rw [over, exp_is h, sum1_is h]
  refine (div_real (I.l_pos _ _ _) _).trans ?_
  rw [I.e_div_l]

theorem d_is (g : Fin 4) (s : Fin 8192) (x : Fin 128) :
    val_main_v38 (F := Ideal) x3 (ix4 g 0 s x) = (I.d s.val (128 * g.val + x.val) : EReal) := by
  pointwise [val_main_v38, val_main_v37, val_main_v36]
  rw [h.d]
  refine congrArg (fun a => ((I.d s.val a : ℝ) : EReal)) ?_
  show g.val * 128 + x.val = _
  omega

theorem dp_is (g : Fin 4) (s j : Fin 8192) : val_main_v41 (F := Ideal) x2 x3 (ix4 g 0 s j) = (I.dp g.val s.val j.val : EReal) := by
  have key : ∀ (x : FVec Ideal S4x1x8192x128 .f32) (y : FVec Ideal S4x8192x128 .f32),
      Host.dotGeneral dot_S4x1x8192x128_S4x8192x128_S4x1x8192x8192_3_2_12_1_0_0 none x y (ix4 g 0 s j) = ∑ l : Fin 128, x (ix4 g 0 s l) * y (ix3 g j l) :=
    fun x y => by pointwise
  unfold val_main_v41
  rw [key]
  unfold Wide.dp
  rw [coe_sum]
  refine Finset.sum_congr rfl fun x _ => ?_
  rw [d_is h, h.v, EReal.coe_mul]
  rfl

theorem inv_is (g : Fin 4) (s : Fin 8192) : val_main_v31 (F := Ideal) x0 x1 (ix4 g 0 s 0)
    = ((1 / (I.l (shift x0 x1 g.val s.val) g.val s.val * I.l (shift x0 x1 g.val s.val) g.val s.val) : ℝ) : EReal) := by
  rw [val_main_v31_apply, val_main_v29_apply, sum1_is h]
  refine (congrArg₂ Ideal.div (show _ = ((1 : ℝ) : EReal) from word_one) (EReal.coe_mul _ _).symm).trans ?_
  exact div_real (mul_pos (I.l_pos _ _ _) (I.l_pos _ _ _)) _

/-- The mean of the probabilities' cotangents, as the quotient rule spells it. -/
theorem mean_is (g : Fin 4) (s : Fin 8192) : val_main_v51 (F := Ideal) x0 x1 x2 x3 (ix3 g 0 s)
    = ((-∑ j : Fin 8192, I.dp g.val s.val j.val * (1 / (I.l (shift x0 x1 g.val s.val) g.val s.val
        * I.l (shift x0 x1 g.val s.val) g.val s.val)) * I.e (shift x0 x1 g.val s.val) g.val s.val j.val : ℝ) : EReal) := by
  have k1 : ∀ x : FVec Ideal S4x1x8192x8192 .f32, Host.negf (shapeCast S4x1x8192x1 (Host.reduceAdd x (val_main_cst_10 (F := Ideal))
      reducesTo_S4x1x8192x8192_S4x1x8192_d3 h_S_) shapeCasts_S4x1x8192_S4x1x8192x1) (ix4 g 0 s 0)
      = -∑ j : Fin 8192, x (ix4 g 0 s j) := fun x => by pointwise [val_main_cst_10]
  have k2 : ∀ y : FVec Ideal S4x1x8192x1 .f32, broadcastInDim S4x1x8192 ![0, 2] bcast_S4x8192_S4x1x8192_0_2 (Host.reduceAdd y
      (val_main_cst_11 (F := Ideal)) reducesTo_S4x1x8192x1_S4x8192_d1_3 h_S_) (ix3 g 0 s) = y (ix4 g 0 s 0) := fun y => by
    pointwise [val_main_cst_11]
    refine (zero_add _).trans ((Finset.sum_eq_single_of_mem (ix4 g 0 s 0) (Finset.mem_filter.mpr ⟨Finset.mem_univ _, ?_⟩) fun i hi hne => ?_).trans rfl)
    · exact funext fun b => match b with
        | ⟨0, _⟩ => rfl
        | ⟨1, _⟩ => rfl
    · refine absurd (funext fun a => ?_) hne
      have e := (Finset.mem_filter.mp hi).2
      match a with
      | ⟨0, _⟩ => exact congrFun e 0
      | ⟨1, _⟩ => exact Fin.ext (by show (i 1).val = 0; have : (i 1).val < 1 := (i 1).isLt; omega)
      | ⟨2, _⟩ => exact congrFun e 1
      | ⟨3, _⟩ => exact Fin.ext (by show (i 3).val = 0; have : (i 3).val < 1 := (i 3).isLt; omega)
  unfold val_main_v51 val_main_v50
  rw [k2]
  unfold val_main_v47 val_main_v46 val_main_v45
  rw [k1, EReal.coe_neg, coe_sum]
  refine congrArg (-·) (Finset.sum_congr rfl fun j _ => ?_)
  rw [val_main_v44_apply, val_main_v43_apply]
  unfold val_main_v42
  rw [over, dp_is h, inv_is h, exp_is h, EReal.coe_mul, EReal.coe_mul]
  rfl

theorem ds_is (g : Fin 4) (s j : Fin 8192) : val_main_v56 (F := Ideal) x0 x1 x2 x3 (ix4 g 0 s j)
    = ((I.ds g.val s.val j.val * I.b : ℝ) : EReal) := by
  have key : ∀ y : FVec Ideal S4x1x8192 .f32, broadcastInDim S4x1x8192x8192 ![0, 1, 2] bcast_S4x1x8192_S4x1x8192x8192_0_1_2 y (ix4 g 0 s j) = y (ix3 g 0 s) :=
    fun y => by pointwise
  rw [val_main_v56_apply, val_main_v54_apply, val_main_v53_apply, val_main_v49_apply]
  unfold val_main_v52 val_main_v48
  rw [key, over, mean_is h, sum1_is h, exp_is h, dp_is h, ← I.ds_eq (shift x0 x1 g.val s.val)]
  have eb : val_main_v55 (F := Ideal) (ix4 g 0 s j) = (I.b : EReal) := (word_scale).trans (congrArg _ h.b.symm)
  rw [eb]
  refine (congrArg (fun z : EReal => (z + _) * _ * _) (div_real (I.l_pos _ _ _) _)).trans ?_
  rw [EReal.coe_mul, EReal.coe_mul, EReal.coe_add]

theorem dq_at (g : Fin 4) (s : Fin 8192) (x : Fin 96) : val_main_v59 (F := Ideal) x0 x1 x2 x3 (ix3 g s x) = (I.dq g.val s.val x.val : EReal) := by
  have k1 : ∀ a : FVec Ideal S4x1x8192x96 .f32, Host.reduceAdd a (val_main_cst_13 (F := Ideal)) reducesTo_S4x1x8192x96_S4x8192x96_d1 h_S_ (ix3 g s x)
      = a (ix4 g 0 s x) := fun a => by
    pointwise [val_main_cst_13]
    exact Fin.sum_univ_one _
  have k2 : ∀ (a : FVec Ideal S4x1x8192x8192 .f32) (b : FVec Ideal S4x8192x96 .f32),
      Host.dotGeneral dot_S4x1x8192x8192_S4x8192x96_S4x1x8192x96_3_1_12_2_0_0 none a b (ix4 g 0 s x)
      = ∑ j : Fin 8192, a (ix4 g 0 s j) * b (ix3 g j x) := fun a b => by pointwise
  unfold val_main_v59 val_main_v58
  rw [k1, k2]
  unfold Wide.dq
  rw [coe_sum]
  refine Finset.sum_congr rfl fun j _ => ?_
  rw [ds_is h, h.k, EReal.coe_mul (I.ds _ _ _ * I.b)]
  rfl

theorem q_is (g : Fin 4) (s : Fin 8192) (x : Fin 96) : val_main_v0 (F := Ideal) x0 (ix4 g 0 s x) = (I.q g.val s.val x.val : EReal) := by
  pointwise [val_main_v0]
  rw [h.q]
  rfl

theorem dk_at (g : Fin 4) (j : Fin 8192) (x : Fin 96) : val_main_v57 (F := Ideal) x0 x1 x2 x3 (ix3 g j x) = (I.dk g.val j.val x.val : EReal) := by
  have key : ∀ (a : FVec Ideal S4x1x8192x8192 .f32) (b : FVec Ideal S4x1x8192x96 .f32),
      Host.dotGeneral dot_S4x1x8192x8192_S4x1x8192x96_S4x8192x96_12_12_3_3_0_0 none a b (ix3 g j x)
      = ∑ s : Fin 8192, a (ix4 g 0 s j) * b (ix4 g 0 s x) := fun a b => by
    pointwise
    exact Fin.sum_univ_one _
  unfold val_main_v57
  rw [key]
  unfold Wide.dk
  rw [coe_sum]
  refine Finset.sum_congr rfl fun s _ => ?_
  rw [ds_is h, q_is h, ← EReal.coe_mul]

theorem dv_at (g : Fin 4) (j : Fin 8192) (x : Fin 128) : val_main_v40 (F := Ideal) x0 x1 x3 (ix3 g j x) = (I.dv g.val j.val x.val : EReal) := by
  have key : ∀ (a : FVec Ideal S4x1x8192x128 .f32) (b : FVec Ideal S4x1x8192x8192 .f32),
      transpose S4x8192x128 [0, 2, 1] (Host.dotGeneral dot_S4x1x8192x128_S4x1x8192x8192_S4x128x8192_12_12_3_3_0_0 none a b) transposes_S4x128x8192_S4x8192x128_0_2_1 (ix3 g j x)
      = ∑ s : Fin 8192, a (ix4 g 0 s x) * b (ix4 g 0 s j) := fun a b => by
    pointwise
    exact Fin.sum_univ_one _
  unfold val_main_v40 val_main_v39
  rw [key]
  unfold Wide.dv
  rw [coe_sum]
  refine Finset.sum_congr rfl fun s _ => ?_
  rw [d_is h, p_is h, ← EReal.coe_mul]

end Cert.BReferenceIdeal.Grad

end
-- ==== Proof.BPre.lean ====
module

public import proofs.«01_k».proof.Proof.OutPre
public import proofs.«01_k».proof.Proof.AttnArgs
public import proofs.«01_k».proof.Proof.Gen.Pre_finite_b
public import proofs.«01_k».proof.Pre_finite_b

@[expose] public section

set_option maxRecDepth 16384

noncomputable section

/-! # Finite arguments of the wider attention call are the arrays of real numbers -/

namespace Cert.Pre_finite_b.Real

open Cert.Pre_finite_b Cert.Pre_finite_b.Gen Cert.Reals Cert.Attn Idealize.ShloMosaic
open Cert.Pre_finite.Real (all_real both)

theorem real (q k : FVec Ideal S4x8192x96 .f32) (v : FVec Ideal S4x8192x128 .f32) (d : FVec Ideal S8192x512 .f32)
    (h : fn (F := Ideal) q k v d = fun _ => 1#1) : ∃ I : Wide, WideHolds I q k v d := by
  have h := congrFun h (fun a => a.elim0)
  unfold fn fn_part1 at h
  dsimp only at h
  obtain ⟨h, h3⟩ := both h
  obtain ⟨h, h2⟩ := both h
  obtain ⟨h0, h1⟩ := both h
  exact exists_wide q k v d (all_real q _ _ _ _ _ h0) (all_real k _ _ _ _ _ h1) (all_real v _ _ _ _ _ h2) (all_real d _ _ _ _ _ h3)

end Cert.Pre_finite_b.Real

end
-- ==== Proof.FMachine.lean ====
module

public import proofs.«01_k».proof.Defs
public import proofs.«01_k».proof.Proof.Gen.BfKernel
public import proofs.«01_k».proof.Proof.Gen.BfKernelIdeal.Frame

@[expose] public section

set_option maxRecDepth 16384

noncomputable section

/-! # The machine program's frame -/

namespace Cert.BfKernel.Whole

open Idealize.ShloMosaic Idealize.SL.Sem

/-- The frame of the program printed for the reals, read over machine words. -/
def AtBits : Prop :=
  ∀ (m : (ℓ : Loc Cert.BfKernelIdeal.nD Cert.BfKernelIdeal.τ Cert.BfKernelIdeal.sig) → Buf (Elt Bits) ℓ) (g : Dev Cert.BfKernelIdeal.nD → PrngReg), True →
    θ_run (Cert.BfKernelIdeal.defs (F := Bits)) (onTc (τ := Cert.BfKernelIdeal.τ) (Cert.BfKernelIdeal.main (F := Bits))) ⟨m, fun _ => 0, g⟩
      (fun r => (∀ c : Dev Cert.BfKernelIdeal.nD,
        r.2.mem ((c.tc : Thread Cert.BfKernelIdeal.nD Cert.BfKernelIdeal.τ).loc Cert.BfKernelIdeal.main_arg0) = m ((c.tc : Thread Cert.BfKernelIdeal.nD Cert.BfKernelIdeal.τ).loc Cert.BfKernelIdeal.main_arg0)
        ∧ r.2.mem ((c.tc : Thread Cert.BfKernelIdeal.nD Cert.BfKernelIdeal.τ).loc Cert.BfKernelIdeal.main_arg1) = m ((c.tc : Thread Cert.BfKernelIdeal.nD Cert.BfKernelIdeal.τ).loc Cert.BfKernelIdeal.main_arg1)
        ∧ r.2.mem ((c.tc : Thread Cert.BfKernelIdeal.nD Cert.BfKernelIdeal.τ).loc Cert.BfKernelIdeal.main_arg2) = m ((c.tc : Thread Cert.BfKernelIdeal.nD Cert.BfKernelIdeal.τ).loc Cert.BfKernelIdeal.main_arg2))
        ∧ r.2.sem = fun _ => 0)

/-- Both programs have one text. -/
theorem same : AtBits = quiescent_BfKernel := by sl_kernel_rfl

theorem frame : quiescent_BfKernel := same.mp fun m ρ _ => Cert.BfKernelIdeal.Gen.frame (F := Bits) m ρ

end Cert.BfKernel.Whole

end
-- ==== Proof.GMachine.lean ====
module

public import proofs.«01_k».proof.Defs
public import proofs.«01_k».proof.Proof.Gen.AfKernel
public import proofs.«01_k».proof.Proof.Gen.AfKernelIdeal.Frame

@[expose] public section

set_option maxRecDepth 16384

noncomputable section

/-! # The machine program's frame -/

namespace Cert.AfKernel.Whole

open Idealize.ShloMosaic Idealize.SL.Sem

/-- The frame of the program printed for the reals, read over machine words. -/
def AtBits : Prop :=
  ∀ (m : (ℓ : Loc Cert.AfKernelIdeal.nD Cert.AfKernelIdeal.τ Cert.AfKernelIdeal.sig) → Buf (Elt Bits) ℓ) (g : Dev Cert.AfKernelIdeal.nD → PrngReg), True →
    θ_run (Cert.AfKernelIdeal.defs (F := Bits)) (onTc (τ := Cert.AfKernelIdeal.τ) (Cert.AfKernelIdeal.main (F := Bits))) ⟨m, fun _ => 0, g⟩
      (fun r => (∀ c : Dev Cert.AfKernelIdeal.nD,
        r.2.mem ((c.tc : Thread Cert.AfKernelIdeal.nD Cert.AfKernelIdeal.τ).loc Cert.AfKernelIdeal.main_arg0) = m ((c.tc : Thread Cert.AfKernelIdeal.nD Cert.AfKernelIdeal.τ).loc Cert.AfKernelIdeal.main_arg0)
        ∧ r.2.mem ((c.tc : Thread Cert.AfKernelIdeal.nD Cert.AfKernelIdeal.τ).loc Cert.AfKernelIdeal.main_arg1) = m ((c.tc : Thread Cert.AfKernelIdeal.nD Cert.AfKernelIdeal.τ).loc Cert.AfKernelIdeal.main_arg1)
        ∧ r.2.mem ((c.tc : Thread Cert.AfKernelIdeal.nD Cert.AfKernelIdeal.τ).loc Cert.AfKernelIdeal.main_arg2) = m ((c.tc : Thread Cert.AfKernelIdeal.nD Cert.AfKernelIdeal.τ).loc Cert.AfKernelIdeal.main_arg2))
        ∧ r.2.sem = fun _ => 0)

/-- Both programs have one text. -/
theorem same : AtBits = quiescent_AfKernel := by sl_kernel_rfl

theorem frame : quiescent_AfKernel := same.mp fun m ρ _ => Cert.AfKernelIdeal.Gen.frame (F := Bits) m ρ

end Cert.AfKernel.Whole

end
-- ==== Proof.FRound.lean ====
module

public import proofs.«01_k».proof.Proof.Gen.BfKernelIdeal

@[expose] public section

set_option maxRecDepth 16384

noncomputable section

/-! # The rounds of a point of the forward attention -/

namespace Cert.BfKernelIdeal.Tile

open Idealize.ShloMosaic Idealize.ShloMosaic.TcCoe Idealize.ShloMosaic.Tactic
open Cert.BfKernelIdeal.Gen

variable {F : FTy → Type} [FloatOps F]

/-! A grid point works through eight rounds, one for each head of each of its two tiles of 256 rows. Round `r` reads the
scores of its head from the scratch and writes the scores of round `r + 1`; round 8 stands for the first head of the next
point's tile. -/

/-- What the rounds of a grid point read. -/
structure Rounds (F : FTy → Type) where
  /-- the queries of a round -/
  q : ℕ → FVec F S256x128 .bf16
  /-- a chunk of a round's keys -/
  k : ℕ → ℕ → Vec F S256x128 .bf16
  /-- a chunk of a round's values, transposed -/
  v : ℕ → ℕ → Vec F S128x256 .bf16
  /-- a chunk of scores as a round finds it in the scratch -/
  found : ℕ → ℕ → Vec F S1x1x256x256 .f32
  /-- the partial maxima the first round begins from -/
  top : FVec F S8x256 .f32

/-- A chunk's scores, keys by queries. -/
def score (q : FVec F S256x128 .bf16) (k : Vec F S256x128 .bf16) : FVec F S256x256 .f32 :=
  matmul dot_S256x128_S256x128_S256x256_1_1_0_0_n_n none (shapeCast S256x128 k shapeCasts_S256x128_S256x128)
    q (constant S256x256 .f32 0x00000000#32)

/-- A chunk's scores as the scratch keeps them. -/
def kept (q : FVec F S256x128 .bf16) (k : Vec F S256x128 .bf16) : FVec F S1x1x256x256 .f32 :=
  shapeCast S1x1x256x256 (score q k) shapeCasts_S256x256_S1x1x256x256

/-- The maxima of eight classes of keys over the first chunks. -/
def tops (q : FVec F S256x128 .bf16) (k : ℕ → Vec F S256x128 .bf16) : ℕ → FVec F S8x256 .f32
  | 0 => broadcast S8x256 (Scalar.ofBits .f32 0xFF800000#32)
  | n + 1 => maximumf (tops q k n) (multiReduction .maximumf [0] S8x256
      (shapeCast S32x8x256 (score q (k n)) shapeCasts_S256x256_S32x8x256) 0xFF800000#32 reduces_S32x8x256_S8x256 (.inl rfl) rfl)

/-- The maximum of a column of partial maxima. -/
def rowTop (t : FVec F S8x256 .f32) : FVec F S1x256 .f32 :=
  shapeCast S1x256 (multiReduction .maximumf [0] S256 t 0xFF800000#32 reduces_S8x256_S256 (.inl rfl) rfl) shapeCasts_S256_S1x256

/-- A chunk's exponentials. -/
def expo (m : FVec F S1x256 .f32) (f : Vec F S1x1x256x256 .f32) : FVec F S256x256 .f32 :=
  exp (subf (shapeCast S256x256 f shapeCasts_S1x1x256x256_S256x256) (broadcastTo S256x256 m broadcasts_S1x256_S256x256))

/-- The sums of eight classes of keys over the first chunks. -/
def sums (m : FVec F S1x256 .f32) (f : ℕ → Vec F S1x1x256x256 .f32) : ℕ → FVec F S8x256 .f32
  | 0 => broadcast S8x256 (Scalar.ofBits .f32 0x00000000#32)
  | n + 1 => addf (sums m f n) (multiReduction .add [0] S8x256
      (shapeCast S32x8x256 (expo m (f n)) shapeCasts_S256x256_S32x8x256) 0x00000000#32 reduces_S32x8x256_S8x256 (.inl rfl) rfl)

/-- The sum of a column of partial sums. -/
def rowSum (t : FVec F S8x256 .f32) : FVec F S1x256 .f32 :=
  shapeCast S1x256 (multiReduction .add [0] S256 t 0x00000000#32 reduces_S8x256_S256 (.inl rfl) rfl) shapeCasts_S256_S1x256

/-- The weighted values over the first chunks, transposed. -/
def outs (m : FVec F S1x256 .f32) (f : ℕ → Vec F S1x1x256x256 .f32) (v : ℕ → Vec F S128x256 .bf16) : ℕ → FVec F S128x256 .f32
  | 0 => broadcast S128x256 (Scalar.ofBits .f32 0x00000000#32)
  | n + 1 => addf (outs m f v n) (matmul dot_S128x256_S256x256_S128x256_1_0_0_1_n_n none
      (shapeCast S128x256 (v n) shapeCasts_S128x256_S128x256) (truncf .bf16 (expo m (f n)) bitsLt_bf16_f32)
      (constant S128x256 .f32 0x00000000#32))

variable (I : Rounds F)

/-- The row maxima a round subtracts. -/
def shift : ℕ → FVec F S1x256 .f32
  | 0 => rowTop I.top
  | r + 1 => rowTop (tops (I.q (r + 1)) (I.k (r + 1)) 32)

/-- The output a round leaves. -/
def out (r : ℕ) : FVec F S256x128 .f32 :=
  transpose S256x128 [1, 0] (divf (outs (shift I r) (I.found r) (I.v r) 32)
    (broadcastTo S128x256 (rowSum (sums (shift I r) (I.found r) 32)) broadcasts_S1x256_S128x256)) transposes_S128x256_p1_0_S256x128

/-- The log-sums a round leaves. -/
def lse (r : ℕ) : FVec F S1x1x256 .f32 :=
  shapeCast S1x1x256 (addf (shift I r) (log (rowSum (sums (shift I r) (I.found r) 32)))) shapeCasts_S1x256_S1x1x256

theorem inRow (r : ℕ) : ∀ a, (![r % 4, 0, 256 * (r / 4 % 2)] : Fin 3 → ℕ) a + S1x1x256.size a ≤ S4x1x512.size a := by
  have := Nat.mod_lt (r / 4) (y := 2) (by decide)
  have := Nat.mod_lt r (y := 4) (by decide)
  intro a; fin_cases a <;> simp <;> omega

theorem inSlot (r n : ℕ) : ∀ a, (![r % 2, n % 32, 0, 0] : Fin 4 → ℕ) a + S1x1x256x256.size a ≤ S2x32x256x256.size a := by
  have := Nat.mod_lt n (y := 32) (by decide)
  have := Nat.mod_lt r (y := 2) (by decide)
  intro a; fin_cases a <;> simp <;> omega

/-- The log-sums of a round. -/
abbrev row (r : ℕ) : Rect S4x1x512 := Rect.unit ![r % 4, 0, 256 * (r / 4 % 2)] S1x1x256.size (inRow r)

/-- The scratch's place for a chunk of a round's scores. -/
abbrev slot (r n : ℕ) : Rect S2x32x256x256 := Rect.unit ![r % 2, n % 32, 0, 0] S1x1x256x256.size (inSlot r n)

/-- The scores stored from store number `b` on, the newest first: store number `p` is chunk `p % 32` of round `p / 32`. -/
def stores (b : ℕ) : ℕ → List (View.Piece (Elt F) S2x32x256x256 .f32)
  | 0 => []
  | n + 1 => ⟨slot ((b + n) / 32) (b + n), kept (I.q ((b + n) / 32)) (I.k ((b + n) / 32) ((b + n) % 32))⟩ :: stores b n

/-- The log-sums of the first rounds, the newest first. -/
def rowStores : ℕ → List (View.Piece (Elt F) S4x1x512 .f32)
  | 0 => []
  | r + 1 => ⟨row r, lse I r⟩ :: rowStores r

/-- The first maxima and the scores found by the rounds of a point that is not the first: round 0 finds what the point before left. -/
def after {sg : RefSig} (vw : View sg .tc .vmem S2x32x256x256 .f32) (left : ℕ → Vec F S1x1x256x256 .f32) (top : FVec F S8x256 .f32) : Rounds F :=
  { I with
    found := fun r n => if r = 0 then left n else vw.readCov (stores I 32 (32 * r + n)) (slot r n).toLoadRect
    top := top }

/-- The same for the first point, which stores round 0's scores itself. -/
def opening {sg : RefSig} (vw : View sg .tc .vmem S2x32x256x256 .f32) (top : FVec F S8x256 .f32) : Rounds F :=
  { I with
    found := fun r n => vw.readCov (stores I 0 (32 * (r + 1) + n)) (slot r n).toLoadRect
    top := top }

end Cert.BfKernelIdeal.Tile

end
-- ==== Proof.FTile.lean ====
module

public import proofs.«01_k».proof.Proof.Gen.BfKernelIdeal.Frame
public import proofs.«01_k».proof.Proof.FRound

@[expose] public section

set_option maxRecDepth 16384

noncomputable section

namespace Cert.BfKernelIdeal.Tile

open Idealize.ShloMosaic Idealize.ShloMosaic.TcCoe Idealize.ShloMosaic.Tactic
open Cert.BfKernelIdeal.Gen

variable {F : FTy → Type} [FloatOps F]

variable (I : Rounds F)

theorem inTile (r : ℕ) : ∀ a, (![256 * (r / 4 % 2), 128 * (r % 4)] : Fin 2 → ℕ) a + S256x128.size a ≤ S512x512.size a := by
  have := Nat.mod_lt (r / 4) (y := 2) (by decide)
  have := Nat.mod_lt r (y := 4) (by decide)
  intro a; fin_cases a <;> simp <;> omega

theorem inKeys (r n : ℕ) : ∀ a, (![256 * (n % 32), 128 * (r % 4)] : Fin 2 → ℕ) a + S256x128.size a ≤ S8192x512.size a := by
  have := Nat.mod_lt n (y := 32) (by decide)
  have := Nat.mod_lt r (y := 4) (by decide)
  intro a; fin_cases a <;> simp <;> omega

theorem inVals (r n : ℕ) : ∀ a, (![128 * (r % 4), 256 * (n % 32)] : Fin 2 → ℕ) a + S128x256.size a ≤ S512x8192.size a := by
  have := Nat.mod_lt n (y := 32) (by decide)
  have := Nat.mod_lt r (y := 4) (by decide)
  intro a; fin_cases a <;> simp <;> omega

/-- The rows of a round's tile at the columns of its head. -/
abbrev tile (r : ℕ) : Rect S512x512 := Rect.unit ![256 * (r / 4 % 2), 128 * (r % 4)] S256x128.size (inTile r)

/-- A chunk of a round's keys. -/
abbrev keys (r n : ℕ) : Rect S8192x512 := Rect.unit ![256 * (n % 32), 128 * (r % 4)] S256x128.size (inKeys r n)

/-- A chunk of a round's values. -/
abbrev vals (r n : ℕ) : Rect S512x8192 := Rect.unit ![128 * (r % 4), 256 * (n % 32)] S128x256.size (inVals r n)

/-- The outputs of the first rounds, the newest first. -/
def outStores : ℕ → List (View.Piece (Elt F) S512x512 .f32)
  | 0 => []
  | r + 1 => ⟨tile r, out I r⟩ :: outStores r

section

variable (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S8192x512 .bf16) (harg4 : arg4.IsWhole) (arg5 : Memref sig .tc .vmem S512x8192 .bf16) (harg5 : arg5.IsWhole) (arg6 : Memref sig .tc .vmem S512x512 .f32) (harg6 : arg6.IsWhole) (arg7 : Memref sig .tc .vmem S4x1x512 .f32) (harg7 : arg7.IsWhole) (arg8 : Memref sig .tc .vmem S2x32x256x256 .f32) (harg8 : arg8.IsWhole) (arg9 : Memref sig .tc .vmem S8x256 .f32) (harg9 : arg9.IsWhole)
  (x0 : Vec F S512x512 .bf16) (x1 : Vec F S512x512 .bf16) (x2 : Vec F S8192x512 .bf16) (x3 : Vec F S512x8192 .bf16) (xs0 : Vec F S2x32x256x256 .f32) (xs1 : Vec F S8x256 .f32)

/-- The queries of a round, read from the buffers. -/
def queries (r : ℕ) : FVec F S256x128 .bf16 :=
  shapeCast S256x128 (if r < 8 then View.readAt (Elt F) arg2.view (tile r).toLoadRect (harg2.unread x0)
    else View.readAt (Elt F) arg3.view (tile 0).toLoadRect (harg3.unread x1)) shapeCasts_S256x128_S256x128

/-- The rounds without what they find. -/
def bare : Rounds F where
  q := queries arg2 harg2 arg3 harg3 x0 x1
  k r n := View.readAt (Elt F) arg4.view (keys r n).toLoadRect (harg4.unread x2)
  v r n := View.readAt (Elt F) arg5.view (vals r n).toLoadRect (harg5.unread x3)
  found _ _ := broadcast S1x1x256x256 (Scalar.ofBits .f32 0x00000000#32)
  top := broadcast S8x256 (Scalar.ofBits .f32 0x00000000#32)

/-- The rounds of a point that is not the first. -/
def later : Rounds F :=
  after (bare arg2 harg2 arg3 harg3 arg4 harg4 arg5 harg5 x0 x1 x2 x3) arg8.view
    (fun n => View.readAt (Elt F) arg8.view (slot 0 n).toLoadRect (harg8.unread xs0))
    (View.readAt (Elt F) arg9.view (Rect.unit ![0, 0] S8x256.size inb_S8x256_S8x256_0_0).toLoadRect (harg9.unread xs1))

/-- The stores of the last round's partial maxima. -/
def topStore (r : ℕ) : List (View.Piece (Elt F) S8x256 .f32) :=
  [⟨Rect.unit ![0, 0] S8x256.size inb_S8x256_S8x256_0_0, shapeCast S8x256 (tops (queries arg2 harg2 arg3 harg3 x0 x1 r)
    (fun n => View.readAt (Elt F) arg4.view (keys r n).toLoadRect (harg4.unread x2)) 32) shapeCasts_S8x256_S8x256⟩]

/-- The rounds of the first point. -/
def first : Rounds F :=
  opening (bare arg2 harg2 arg3 harg3 arg4 harg4 arg5 harg5 x0 x1 x2 x3) arg8.view
    (arg9.view.readCov (topStore arg2 harg2 arg3 harg3 arg4 harg4 x0 x1 x2 0) (Rect.unit ![0, 0] S8x256.size inb_S8x256_S8x256_0_0).toLoadRect)

theorem later_outs (hc0 : ¬cond0_0 i) :
    (kernelRun0_B c i arg2 harg2 arg3 harg3 arg4 harg4 arg5 harg5 arg6 harg6 arg7 harg7 arg8 harg8 arg9 harg9 hc0 x0 x1 x2 x3 xs0 xs1).1
      = outStores (later arg2 harg2 arg3 harg3 arg4 harg4 arg5 harg5 arg8 harg8 arg9 harg9 x0 x1 x2 x3 xs0 xs1) 8 := by
  sl_kernel_rfl

theorem later_rows (hc0 : ¬cond0_0 i) :
    (kernelRun0_B c i arg2 harg2 arg3 harg3 arg4 harg4 arg5 harg5 arg6 harg6 arg7 harg7 arg8 harg8 arg9 harg9 hc0 x0 x1 x2 x3 xs0 xs1).2.1
      = rowStores (later arg2 harg2 arg3 harg3 arg4 harg4 arg5 harg5 arg8 harg8 arg9 harg9 x0 x1 x2 x3 xs0 xs1) 8 := by
  sl_kernel_rfl

theorem later_slots (hc0 : ¬cond0_0 i) :
    (kernelRun0_B c i arg2 harg2 arg3 harg3 arg4 harg4 arg5 harg5 arg6 harg6 arg7 harg7 arg8 harg8 arg9 harg9 hc0 x0 x1 x2 x3 xs0 xs1).2.2.1
      = stores (bare arg2 harg2 arg3 harg3 arg4 harg4 arg5 harg5 x0 x1 x2 x3) 32 256 := by
  sl_kernel_rfl

theorem later_tops (hc0 : ¬cond0_0 i) :
    (kernelRun0_B c i arg2 harg2 arg3 harg3 arg4 harg4 arg5 harg5 arg6 harg6 arg7 harg7 arg8 harg8 arg9 harg9 hc0 x0 x1 x2 x3 xs0 xs1).2.2.2.1
      = topStore arg2 harg2 arg3 harg3 arg4 harg4 x0 x1 x2 8 := by
  sl_kernel_rfl

theorem first_outs (hc0 : cond0_0 i) :
    (kernelRun0_A c i arg2 harg2 arg3 harg3 arg4 harg4 arg5 harg5 arg6 harg6 arg7 harg7 arg8 harg8 arg9 harg9 hc0 x0 x1 x2 x3).1
      = outStores (first arg2 harg2 arg3 harg3 arg4 harg4 arg5 harg5 arg8 arg9 x0 x1 x2 x3) 8 := by
  sl_kernel_rfl

theorem first_rows (hc0 : cond0_0 i) :
    (kernelRun0_A c i arg2 harg2 arg3 harg3 arg4 harg4 arg5 harg5 arg6 harg6 arg7 harg7 arg8 harg8 arg9 harg9 hc0 x0 x1 x2 x3).2.1
      = rowStores (first arg2 harg2 arg3 harg3 arg4 harg4 arg5 harg5 arg8 arg9 x0 x1 x2 x3) 8 := by
  sl_kernel_rfl

theorem first_slots (hc0 : cond0_0 i) :
    (kernelRun0_A c i arg2 harg2 arg3 harg3 arg4 harg4 arg5 harg5 arg6 harg6 arg7 harg7 arg8 harg8 arg9 harg9 hc0 x0 x1 x2 x3).2.2.1
      = stores (bare arg2 harg2 arg3 harg3 arg4 harg4 arg5 harg5 x0 x1 x2 x3) 0 288 := by
  sl_kernel_rfl

theorem first_tops (hc0 : cond0_0 i) :
    (kernelRun0_A c i arg2 harg2 arg3 harg3 arg4 harg4 arg5 harg5 arg6 harg6 arg7 harg7 arg8 harg8 arg9 harg9 hc0 x0 x1 x2 x3).2.2.2.1
      = topStore arg2 harg2 arg3 harg3 arg4 harg4 x0 x1 x2 8 ++ topStore arg2 harg2 arg3 harg3 arg4 harg4 x0 x1 x2 0 := by
  sl_kernel_rfl

end

end Cert.BfKernelIdeal.Tile

end
-- ==== Proof.FRead.lean ====
module

public import proofs.«01_k».proof.Proof.FRound
public import Idealize.ShloMosaic.Lib.VecWindow
public import Idealize.ShloMosaic.Lib.WholeRead
public import Idealize.ShloMosaic.Lib.Pointwise.Index

@[expose] public section

set_option maxRecDepth 16384

noncomputable section

/-! # What the rounds find in the scratch and leave in the blocks -/

namespace Cert.BfKernelIdeal.Tile

open Idealize.ShloMosaic Idealize.ShloMosaic.TcCoe Idealize.ShloMosaic.Tactic
open Cert.BfKernelIdeal.Gen

variable {F : FTy → Type} [FloatOps F] (I : Rounds F) {sg : RefSig}

/-- A place of the scratch reads the chunk stored there last: the scores of round `r` stay until round `r + 2` stores its own. -/
theorem read_stores (vw : View sg .tc .vmem S2x32x256x256 .f32) (f : vw.ty.Contents (Elt F)) (b r c : ℕ) (hc : c < 32)
    (hb : b ≤ 32 * r + c) (y : S2x32x256x256.Idx) (x : S1x1x256x256.Idx) (h0 : (y 0).val = r % 2) (h1 : (y 1).val = c)
    (h2 : (y 2).val = (x 2).val) (h3 : (y 3).val = (x 3).val) :
    ∀ n, 32 * r + c < b + n → b + n ≤ 32 * (r + 2) + c →
      vw.read (Elt F) (vw.writes (Elt F) f (stores I b n)) y = kept (I.q r) (I.k r c) x := by
  intro n
  induction n with
  | zero => intro h; omega
  | succ n ih =>
    intro hn hm
    have hx0 : (x 0).val < 1 := (x 0).isLt
    have hx1 : (x 1).val < 1 := (x 1).isLt
    by_cases e : b + n = 32 * r + c
    · have e1 : (b + n) / 32 = r := by omega
      have e2 : (b + n) % 32 = c := by omega
      refine (View.read_writes_cons_hit_of_coords vw f (slot ((b + n) / 32) (b + n)) _ _ x y fun a => ?_).trans ?_
      · match a with
        | ⟨0, _⟩ => show (y 0).val = (b + n) / 32 % 2 + 1 * (x 0).val; omega
        | ⟨1, _⟩ => show (y 1).val = (b + n) % 32 + 1 * (x 1).val; omega
        | ⟨2, _⟩ => show (y 2).val = 0 + 1 * (x 2).val; omega
        | ⟨3, _⟩ => show (y 3).val = 0 + 1 * (x 3).val; omega
      · rw [e1, e2]
    · rw [← ih (by omega) (by omega)]
      by_cases ec : (b + n) % 32 = c
      · refine View.read_writes_cons_miss_of_axis vw f _ _ y 0 ((b + n) / 32 % 2) 1 rfl rfl rfl ?_
        omega
      · refine View.read_writes_cons_miss_of_axis vw f _ _ y 1 ((b + n) % 32) 1 rfl rfl rfl ?_
        omega

/-- A load of the scratch finds the scores stored there. -/
theorem found_stores (vw : View sg .tc .vmem S2x32x256x256 .f32) (b n r c : ℕ) (hc : c < 32) (hb : b ≤ 32 * r + c)
    (hn : 32 * r + c < b + n) (hm : b + n ≤ 32 * (r + 2) + c) :
    vw.readCov (stores I b n) (slot r c).toLoadRect = kept (I.q r) (I.k r c) := by
  funext x
  have hx0 : (x 0).val < 1 := (x 0).isLt
  have hx1 : (x 1).val < 1 := (x 1).isLt
  unfold View.readCov
  rw [View.readAt_apply]
  refine read_stores I vw vw.junk b r c hc hb ((slot r c).toLoadRect.idx x) x ?_ ?_ ?_ ?_ n hn hm
  · show r % 2 + 1 * (x 0).val = r % 2; omega
  · show c % 32 + 1 * (x 1).val = c; omega
  · show 0 + 1 * (x 2).val = (x 2).val; omega
  · show 0 + 1 * (x 3).val = (x 3).val; omega

/-- A place of the log-sum block reads its round's log-sum. -/
theorem read_rows (vw : View sg .tc .vmem S4x1x512 .f32) (f : vw.ty.Contents (Elt F)) (r : ℕ) (h8 : r < 8) (y : S4x1x512.Idx)
    (x : S1x1x256.Idx) (h0 : (y 0).val = r % 4) (h1 : (y 2).val = 256 * (r / 4) + (x 2).val) :
    ∀ n, r < n → n ≤ 8 → vw.read (Elt F) (vw.writes (Elt F) f (rowStores I n)) y = lse I r x := by
  intro n
  induction n with
  | zero => intro h; omega
  | succ n ih =>
    intro hn hm
    have hx0 : (x 0).val < 1 := (x 0).isLt
    have hx1 : (x 1).val < 1 := (x 1).isLt
    have hx2 : (x 2).val < 256 := (x 2).isLt
    have hy1 : (y 1).val < 1 := (y 1).isLt
    by_cases e : n = r
    · subst e
      refine View.read_writes_cons_hit_of_coords vw f (row n) _ _ x y fun a => ?_
      match a with
      | ⟨0, _⟩ => show (y 0).val = n % 4 + 1 * (x 0).val; omega
      | ⟨1, _⟩ => show (y 1).val = 0 + 1 * (x 1).val; omega
      | ⟨2, _⟩ => show (y 2).val = 256 * (n / 4 % 2) + 1 * (x 2).val; omega
    · rw [← ih (by omega) (by omega)]
      by_cases ec : n % 4 = r % 4
      · refine View.read_writes_cons_miss_of_axis vw f _ _ y 2 (256 * (n / 4 % 2)) 256 rfl rfl rfl ?_
        omega
      · refine View.read_writes_cons_miss_of_axis vw f _ _ y 0 (n % 4) 1 rfl rfl rfl ?_
        omega

end Cert.BfKernelIdeal.Tile

end
-- ==== Proof.FPoint.lean ====
module

public import proofs.«01_k».proof.Proof.FRead
public import proofs.«01_k».proof.Proof.AttnMath
public import proofs.«01_k».proof.Proof.AttnSoft
public import proofs.«01_k».proof.Proof.Reals

@[expose] public section

set_option maxRecDepth 16384

noncomputable section

/-! # A round over the reals -/

namespace Cert.BfKernelIdeal.Tile

open Idealize.ShloMosaic Idealize.ShloMosaic.TcCoe Idealize.ShloMosaic.Tactic Idealize.ShloMosaic.Pointwise
open Cert.BfKernelIdeal.Gen Cert.Attn Cert.Reals

theorem score_is {q : FVec Ideal S256x128 .bf16} {k : Vec Ideal S256x128 .bf16} {q' k' : ℕ → ℕ → ℝ} (hq : Is q q') (hk : Is k k') :
    Is (score q k) (fun j r => ∑ l : Fin 128, k' j l.val * q' r l.val) := fun j r => by
  pointwise [score]
  simp only [hq r, hk j, ← EReal.coe_mul, ← coe_sum]

theorem kept_apply (q : FVec Ideal S256x128 .bf16) (k : Vec Ideal S256x128 .bf16) (j r : Fin 256) : kept q k (ix4 0 0 j r) = score q k (ix2 j r) := by
  unfold kept
  generalize score q k = x
  pointwise

/-- The maximum of real numbers is one of them. -/
theorem fold_real {ι : Type*} [DecidableEq ι] (s : Finset ι) {f : ι → EReal} (h : ∀ i, IsReal (f i)) (hs : s.Nonempty) :
    IsReal (s.fold max (Ideal.ofBits .f32 0xFF800000#32) f) := by
  induction hs using Finset.Nonempty.cons_induction with
  | singleton a => rw [Finset.fold_singleton, word_bot, max_bot_right]; exact h a
  | cons a s ha hs ih =>
    rw [Finset.fold_cons]
    rcases max_choice (f a) (s.fold max (Ideal.ofBits .f32 0xFF800000#32) f) with e | e <;> rw [e]
    · exact h a
    · exact ih

theorem fold8 {x : FVec Ideal S256x256 .f32} (h : ∀ j r, IsReal (x (ix2 j r))) (a : Fin 8) (r : Fin 256) :
    IsReal (multiReduction .maximumf [0] S8x256 (shapeCast S32x8x256 x shapeCasts_S256x256_S32x8x256) 0xFF800000#32
      reduces_S32x8x256_S8x256 (.inl rfl) rfl (ix2 a r)) := by
  pointwise
  exact fold_real _ (fun _ => h _ _) ⟨0, Finset.mem_univ _⟩

theorem max_apply (x y : FVec Ideal S8x256 .f32) (a : Fin 8) (r : Fin 256) :
    maximumf x y (ix2 a r) = max (x (ix2 a r)) (y (ix2 a r)) := by pointwise

/-- The partial maxima of real scores are `-∞` before the first chunk and real from then on. -/
theorem tops_real {q : FVec Ideal S256x128 .bf16} {k : ℕ → Vec Ideal S256x128 .bf16} {q' : ℕ → ℕ → ℝ} {k' : ℕ → ℕ → ℕ → ℝ} (hq : Is q q')
    (n : ℕ) (hk : ∀ i < n, Is (k i) (k' i)) (a : Fin 8) (r : Fin 256) :
    (n = 0 ∧ tops q k n (ix2 a r) = ⊥) ∨ IsReal (tops q k n (ix2 a r)) := by
  induction n with
  | zero => exact .inl ⟨rfl, word_bot⟩
  | succ n ih =>
    have hs := fold8 (fun j r => ⟨_, score_is hq (hk n (by omega)) j r⟩) a r
    refine .inr ?_
    unfold tops
    rw [max_apply]
    rcases ih fun i hi => hk i (by omega) with e | e
    · rw [e.2, max_eq_right bot_le]; exact hs
    · rcases max_choice (tops q k n (ix2 a r)) (multiReduction .maximumf [0] S8x256 (shapeCast S32x8x256 (score q (k n))
        shapeCasts_S256x256_S32x8x256) 0xFF800000#32 reduces_S32x8x256_S8x256 (.inl rfl) rfl (ix2 a r)) with e' | e' <;> rw [e']
      · exact e
      · exact hs

theorem tops32_real {q : FVec Ideal S256x128 .bf16} {k : ℕ → Vec Ideal S256x128 .bf16} {q' : ℕ → ℕ → ℝ} {k' : ℕ → ℕ → ℕ → ℝ} (hq : Is q q')
    (hk : ∀ i < 32, Is (k i) (k' i)) (a : Fin 8) (r : Fin 256) : IsReal (tops q k 32 (ix2 a r)) :=
  (tops_real hq 32 hk a r).resolve_left fun e => absurd e.1 (by decide)

theorem rowTop_real {t : FVec Ideal S8x256 .f32} (h : ∀ a r, IsReal (t (ix2 a r))) (r : Fin 256) : IsReal (rowTop t (ix2 0 r)) := by
  pointwise [rowTop]
  exact fold_real _ (fun _ => h _ _) ⟨0, Finset.mem_univ _⟩

theorem expo_apply (m : FVec Ideal S1x256 .f32) (f : Vec Ideal S1x1x256x256 .f32) (j r : Fin 256) :
    expo m f (ix2 j r) = Ideal.exp (f (ix4 0 0 j r) - m (ix2 0 r)) := by pointwise [expo]

theorem sum8 (x : FVec Ideal S256x256 .f32) (a : Fin 8) (r : Fin 256) :
    multiReduction .add [0] S8x256 (shapeCast S32x8x256 x shapeCasts_S256x256_S32x8x256) 0x00000000#32 reduces_S32x8x256_S8x256 (.inl rfl) rfl (ix2 a r)
      = ∑ b : Fin 32, x (ix2 ⟨b.val * 8 + a.val, by omega⟩ r) := by
  pointwise

theorem add_apply (x y : FVec Ideal S8x256 .f32) (a : Fin 8) (r : Fin 256) : addf x y (ix2 a r) = x (ix2 a r) + y (ix2 a r) := by pointwise

section

variable {m : FVec Ideal S1x256 .f32} {f : ℕ → Vec Ideal S1x1x256x256 .f32} {M : ℕ → ℝ} {σ : ℕ → ℕ → ℝ}
  (hm : ∀ r : Fin 256, m (ix2 0 r) = (M r.val : EReal))
  (hf : ∀ n < 32, ∀ j r : Fin 256, f n (ix4 0 0 j r) = (σ r.val (256 * n + j.val) : EReal))

include hm hf

theorem expo_is (n : ℕ) (hn : n < 32) : Is (expo m (f n)) (fun j r => Real.exp (σ r (256 * n + j) - M r)) := fun j r => by
  rw [expo_apply, hm, hf n hn, ← EReal.coe_sub, Ideal.exp_coe]

theorem sums_is (n : ℕ) (hn : n ≤ 32) : Is (sums m f n)
    (fun a r => ∑ i ∈ Finset.range n, ∑ b : Fin 32, Real.exp (σ r (256 * i + (b.val * 8 + a)) - M r)) := fun a r => by
  induction n with
  | zero => beta_reduce; rw [Finset.sum_range_zero]; exact word_zero.trans EReal.coe_zero.symm
  | succ n ih =>
    unfold sums
    beta_reduce at ih ⊢
    rw [add_apply, ih (by omega), sum8, Finset.sum_range_succ, EReal.coe_add]
    refine congrArg₂ (· + ·) rfl ?_
    rw [coe_sum]
    exact Finset.sum_congr rfl fun b _ => expo_is hm hf n (by omega) _ r

/-- A row's sum runs over all keys. -/
theorem rowSum_is (r : Fin 256) : rowSum (sums m f 32) (ix2 0 r) = ((∑ j : Fin 8192, Real.exp (σ r.val j.val - M r.val) : ℝ) : EReal) := by
  have e : rowSum (sums m f 32) (ix2 0 r) = ∑ a : Fin 8, sums m f 32 (ix2 a r) := by
    generalize sums m f 32 = x
    pointwise [rowSum]
  have h := sums_is hm hf 32 le_rfl
  rw [e, Finset.sum_congr rfl fun a _ => h a r, ← coe_sum, Finset.sum_comm]
  refine congrArg _ ?_
  refine Eq.trans ?_ (sum_tiles 32 256 fun j => Real.exp (σ r.val j - M r.val))
  refine Finset.sum_congr rfl fun i _ => ?_
  rw [Finset.sum_comm]
  refine Eq.trans ?_ (sum_tiles 32 8 fun j => Real.exp (σ r.val (256 * i + j) - M r.val))
  rw [Finset.sum_range]
  exact Finset.sum_congr rfl fun b _ => Finset.sum_congr rfl fun a _ => by rw [mul_comm b.val 8]

theorem outs_is {v : ℕ → Vec Ideal S128x256 .bf16} {w : ℕ → ℕ → ℝ} (hv : ∀ n < 32, Is (v n) (fun x j => w x (256 * n + j)))
    (n : ℕ) (hn : n ≤ 32) : Is (outs m f v n)
    (fun x r => ∑ i ∈ Finset.range n, ∑ j : Fin 256, w x (256 * i + j.val) * Real.exp (σ r (256 * i + j.val) - M r)) := fun x r => by
  induction n with
  | zero => beta_reduce; rw [Finset.sum_range_zero]; exact word_zero.trans EReal.coe_zero.symm
  | succ n ih =>
    have key : ∀ (y : FVec Ideal S128x256 .f32) (v : Vec Ideal S128x256 .bf16) (p : FVec Ideal S256x256 .f32), addf y (matmul (φ₁ := .bf16) dot_S128x256_S256x256_S128x256_1_0_0_1_n_n none
      (shapeCast S128x256 v shapeCasts_S128x256_S128x256) (truncf .bf16 p bitsLt_bf16_f32)
      (constant S128x256 .f32 0x00000000#32)) (ix2 x r) = y (ix2 x r) + ∑ j : Fin 256, v (ix2 x j) * p (ix2 j r) := fun y v p => by pointwise
    unfold outs
    beta_reduce at ih ⊢
    rw [key, ih (by omega), Finset.sum_range_succ, EReal.coe_add]
    refine congrArg₂ (· + ·) rfl ?_
    rw [coe_sum]
    exact Finset.sum_congr rfl fun j _ => by rw [hv n (by omega) x j, expo_is hm hf n (by omega) j r, EReal.coe_mul]

end

/-- What the rounds of a point read and find, over the reals: a round's scores by row and key, its values by lane and key. -/
structure Holds (I : Rounds Ideal) (σ w : ℕ → ℕ → ℕ → ℝ) : Prop where
  found : ∀ ρ < 8, ∀ n < 32, ∀ j r : Fin 256, I.found ρ n (ix4 0 0 j r) = (σ ρ r.val (256 * n + j.val) : EReal)
  vals : ∀ ρ < 8, ∀ n < 32, Is (I.v ρ n) (fun x j => w ρ x (256 * n + j))
  shift : ∀ ρ < 8, ∀ r, IsReal (shift I ρ (ix2 0 r))

namespace Holds

variable {I : Rounds Ideal} {σ w : ℕ → ℕ → ℕ → ℝ} (h : Holds I σ w) (ρ : ℕ) (hρ : ρ < 8)

include h hρ

theorem shift_is : ∃ M : ℕ → ℝ, ∀ r : Fin 256, Tile.shift I ρ (ix2 0 r) = (M r.val : EReal) := by
  choose M hM using h.shift ρ hρ
  exact ⟨fun r => if hr : r < 256 then M ⟨r, hr⟩ else 0, fun r => by beta_reduce; rw [hM r, dif_pos r.isLt]⟩

/-- A round leaves the means of its values. -/
theorem out_is : Is (out I ρ) (fun r x => Soft.o σ 0 ρ r (w ρ x)) := fun r x => by
  obtain ⟨M, hM⟩ := h.shift_is ρ hρ
  have key : ∀ (a : FVec Ideal S128x256 .f32) (b : FVec Ideal S1x256 .f32),
      transpose S256x128 [1, 0] (divf a (broadcastTo S128x256 b broadcasts_S1x256_S128x256)) transposes_S128x256_p1_0_S256x128 (ix2 r x)
        = Ideal.div (a (ix2 x r)) (b (ix2 0 r)) := fun a b => by pointwise
  unfold out
  beta_reduce
  rw [key, rowSum_is hM (h.found ρ hρ), outs_is hM (h.found ρ hρ) (h.vals ρ hρ) 32 le_rfl x r]
  show Ideal.div _ ((Soft.l σ (M r.val) ρ r.val : ℝ) : EReal) = _
  rw [div_real (Soft.l_pos σ (M r.val) ρ r.val), Soft.o_eq σ 0, ← Soft.o_eq σ (M r.val)]
  unfold Soft.o Soft.e
  beta_reduce
  rw [sum_tiles 32 256 fun j => w ρ x.val j * Real.exp (σ ρ r.val j - M r.val)]
  simp only [mul_comm (w ρ x.val _)]

/-- A round leaves the log-sums of its scores. -/
theorem lse_is (r : Fin 256) : lse I ρ (ix3 0 0 r) = (Soft.lse σ 0 ρ r.val : EReal) := by
  obtain ⟨M, hM⟩ := h.shift_is ρ hρ
  have key : ∀ a b : FVec Ideal S1x256 .f32,
      shapeCast S1x1x256 (addf a (log b)) shapeCasts_S1x256_S1x1x256 (ix3 0 0 r) = a (ix2 0 r) + Ideal.log (b (ix2 0 r)) := fun a b => by pointwise
  unfold lse
  rw [key, rowSum_is hM (h.found ρ hρ), hM, Soft.lse_eq σ 0, ← Soft.lse_eq σ (M r.val)]
  show _ + Ideal.log ((Soft.l σ (M r.val) ρ r.val : ℝ) : EReal) = _
  rw [log_pos (Soft.l_pos σ (M r.val) ρ r.val), ← EReal.coe_add]
  rfl

end Holds

/-- The scores of a round, from the scores of the tile's heads. -/
def byRound (σ : ℕ → ℕ → ℕ → ℝ) (ρ y j : ℕ) : ℝ := σ (ρ % 4) (256 * (ρ / 4) + y) j

/-- What the rounds of a point fetch, over the reals. -/
structure Fetches (I : Rounds Ideal) (σ w : ℕ → ℕ → ℕ → ℝ) : Prop where
  kept : ∀ ρ < 8, ∀ n < 32, ∀ j r : Fin 256, kept (I.q ρ) (I.k ρ n) (ix4 0 0 j r) = (byRound σ ρ r.val (256 * n + j.val) : EReal)
  tops : ∀ ρ < 8, ∀ a r, IsReal (tops (I.q ρ) (I.k ρ) 32 (ix2 a r))
  vals : ∀ ρ < 8, ∀ n < 32, Is (I.v ρ n) (fun x j => w ρ x (256 * n + j))

namespace Fetches

variable {I : Rounds Ideal} {σ w : ℕ → ℕ → ℕ → ℝ} (h : Fetches I σ w) {sg : RefSig} (vw : View sg .tc .vmem S2x32x256x256 .f32)
  {top : FVec Ideal S8x256 .f32} (ht : ∀ a r, IsReal (top (ix2 a r)))

include h ht

theorem opening : Holds (Tile.opening I vw top) (byRound σ) w where
  found ρ hρ n hn j r := by
    show vw.readCov (stores I 0 (32 * (ρ + 1) + n)) (slot ρ n).toLoadRect (ix4 0 0 j r) = _
    rw [found_stores I vw 0 _ ρ n hn (by omega) (by omega) (by omega)]
    exact h.kept ρ hρ n hn j r
  vals := h.vals
  shift ρ hρ r := match ρ with
    | 0 => rowTop_real ht r
    | ρ + 1 => rowTop_real (h.tops (ρ + 1) hρ) r

theorem after {left : ℕ → Vec Ideal S1x1x256x256 .f32}
    (hs : ∀ n < 32, ∀ j r : Fin 256, left n (ix4 0 0 j r) = (σ 0 r.val (256 * n + j.val) : EReal)) :
    Holds (Tile.after I vw left top) (byRound σ) w where
  found ρ hρ n hn j r := by
    show (if ρ = 0 then left n else vw.readCov (stores I 32 (32 * ρ + n)) (slot ρ n).toLoadRect) (ix4 0 0 j r) = _
    by_cases e : ρ = 0
    · rw [if_pos e, e, hs n hn j r]
      show _ = (σ 0 (256 * 0 + r.val) _ : EReal)
      rw [Nat.mul_zero, Nat.zero_add]
    · rw [if_neg e, found_stores I vw 32 _ ρ n hn (by omega) (by omega) (by omega)]
      exact h.kept ρ hρ n hn j r
  vals := h.vals
  shift ρ hρ r := match ρ with
    | 0 => rowTop_real ht r
    | ρ + 1 => rowTop_real (h.tops (ρ + 1) hρ) r

end Fetches

/-- The log-sum block after a point's rounds. -/
theorem rows_at {I : Rounds Ideal} {σ w : ℕ → ℕ → ℕ → ℝ} (h : Holds I (byRound σ) w) {sg : RefSig} (vw : View sg .tc .vmem S4x1x512 .f32) (f : vw.ty.Contents (Elt Ideal))
    (hh : Fin 4) (s : Fin 512) : vw.read (Elt Ideal) (vw.writes (Elt Ideal) f (rowStores I 8)) (ix3 hh 0 s) = (Soft.lse σ 0 hh.val s.val : EReal) := by
  have hρ : 4 * (s.val / 256) + hh.val < 8 := by omega
  refine (read_rows I vw f (4 * (s.val / 256) + hh.val) hρ (ix3 hh 0 s) (ix3 0 0 ⟨s.val % 256, by omega⟩) ?_ ?_ 8 hρ le_rfl).trans
    ((h.lse_is _ hρ _).trans (congrArg _ ?_))
  · show hh.val = (4 * (s.val / 256) + hh.val) % 4; omega
  · show s.val = 256 * ((4 * (s.val / 256) + hh.val) / 4) + s.val % 256; omega
  · have e1 : (4 * (s.val / 256) + hh.val) % 4 = hh.val := by omega
    have e2 : 256 * ((4 * (s.val / 256) + hh.val) / 4) + s.val % 256 = s.val := by omega
    simp only [Soft.lse, Soft.e, Soft.l, byRound, e1, e2]

theorem cast_top (t : FVec Ideal S8x256 .f32) : shapeCast S8x256 t shapeCasts_S8x256_S8x256 = t := by
  funext i
  rw [show i = ix2 (i 0) (i 1) from funext fun a => match a with
    | ⟨0, _⟩ => rfl
    | ⟨1, _⟩ => rfl]
  pointwise

/-- The scratch's slot 0 read where the stores before kept it. -/
theorem slot_found (x : Vec Ideal S2x32x256x256 .f32) {sg : RefSig} (M : Memref sg .tc .vmem S2x32x256x256 .f32) (hM : M.IsWhole)
    (n : ℕ) (hn : n < 32) (j r : Fin 256) :
    View.readAt (Elt Ideal) M.view (slot 0 n).toLoadRect (hM.unread x) (ix4 0 0 j r) = x (ix4 0 ⟨n, hn⟩ j r) := by
  refine (hM.readAt_unread x _ _).trans (congrArg x ?_)
  funext a
  match a with
  | ⟨0, _⟩ => exact Fin.ext rfl
  | ⟨1, _⟩ => exact Fin.ext (by show n % 32 + 1 * 0 = n; omega)
  | ⟨2, _⟩ => exact Fin.ext (by show 0 + 1 * j.val = j.val; omega)
  | ⟨3, _⟩ => exact Fin.ext (by show 0 + 1 * r.val = r.val; omega)

/-- The scratch of partial maxima read whole. -/
theorem top_found (x : Vec Ideal S8x256 .f32) {sg : RefSig} (M : Memref sg .tc .vmem S8x256 .f32) (hM : M.IsWhole) (a : Fin 8) (r : Fin 256) :
    View.readAt (Elt Ideal) M.view (Rect.unit ![0, 0] S8x256.size inb_S8x256_S8x256_0_0).toLoadRect (hM.unread x) (ix2 a r) = x (ix2 a r) :=
  (hM.readAt_unread x _ _).trans (congrArg x (funext fun i => match i with
    | ⟨0, _⟩ => Fin.ext (by show 0 + 1 * a.val = a.val; omega)
    | ⟨1, _⟩ => Fin.ext (by show 0 + 1 * r.val = r.val; omega)))

/-- A block read at a rectangle. -/
theorem is_rect {n k : ℕ} {X : (⟨2, ![n, k]⟩ : Shape).Idx → EReal} {f : ℕ → ℕ → ℝ} (h : Is X f) (a b : ℕ) (i : (⟨2, ![n, k]⟩ : Shape).Idx)
    (y z : ℕ) (h0 : (i 0).val = a + 1 * y) (h1 : (i 1).val = b + 1 * z) : X i = (f (a + y) (b + z) : EReal) := by
  rw [h.at, h0, h1, one_mul, one_mul]

end Cert.BfKernelIdeal.Tile

end
-- ==== Proof.FBlock.lean ====
module

public import proofs.«01_k».proof.Proof.FTile
public import proofs.«01_k».proof.Proof.FPoint

@[expose] public section

set_option maxRecDepth 16384

noncomputable section

/-! # A point over the reals

The point's queries are `q0`, those of the next tile `q1`, both by row and column; the keys `kk` by key and column, the values
`ww` by column and key. -/

namespace Cert.BfKernelIdeal.Tile

open Idealize.ShloMosaic Idealize.ShloMosaic.TcCoe Idealize.ShloMosaic.Tactic Idealize.ShloMosaic.Pointwise
open Cert.BfKernelIdeal.Gen Cert.Attn Cert.Reals

/-- The score of key `j` in row `y` of a head's queries. -/
def headScore (q kk : ℕ → ℕ → ℝ) (h y j : ℕ) : ℝ := ∑ l : Fin 128, kk j (128 * h + l.val) * q y (128 * h + l.val)
/-- The scores of a round. -/
def roundScore (q kk : ℕ → ℕ → ℝ) : ℕ → ℕ → ℕ → ℝ := byRound (headScore q kk)
/-- The values of a round. -/
def roundVal (ww : ℕ → ℕ → ℝ) (ρ x j : ℕ) : ℝ := ww (128 * (ρ % 4) + x) j

section

variable (arg2 : Memref sig .tc .vmem S512x512 .bf16) (harg2 : arg2.IsWhole) (arg3 : Memref sig .tc .vmem S512x512 .bf16) (harg3 : arg3.IsWhole)
  (arg4 : Memref sig .tc .vmem S8192x512 .bf16) (harg4 : arg4.IsWhole) (arg5 : Memref sig .tc .vmem S512x8192 .bf16) (harg5 : arg5.IsWhole)
  (arg8 : Memref sig .tc .vmem S2x32x256x256 .f32) (harg8 : arg8.IsWhole) (arg9 : Memref sig .tc .vmem S8x256 .f32) (harg9 : arg9.IsWhole)
  {x0 x1 : Vec Ideal S512x512 .bf16} {x2 : Vec Ideal S8192x512 .bf16} {x3 : Vec Ideal S512x8192 .bf16}
  {xs0 : Vec Ideal S2x32x256x256 .f32} {xs1 : Vec Ideal S8x256 .f32} {q0 q1 kk ww : ℕ → ℕ → ℝ}

theorem cast_rows (x : FVec Ideal S256x128 .bf16) (y : Fin 256) (l : Fin 128) :
    shapeCast S256x128 x shapeCasts_S256x128_S256x128 (ix2 y l) = x (ix2 y l) := by pointwise

theorem queries_is (h0 : Is x0 q0) (ρ : ℕ) (hρ : ρ < 8) :
    Is (queries arg2 harg2 arg3 harg3 x0 x1 ρ) (fun y l => q0 (256 * (ρ / 4) + y) (128 * (ρ % 4) + l)) := fun y l => by
  unfold queries
  rw [if_pos hρ]
  refine (cast_rows _ y l).trans ((harg2.readAt_unread x0 _ _).trans (is_rect h0 _ _ _ _ _ ?_ rfl))
  show 256 * (ρ / 4 % 2) + 1 * y.val = 256 * (ρ / 4) + 1 * y.val
  omega

theorem queries_next (h1 : Is x1 q1) : Is (queries arg2 harg2 arg3 harg3 x0 x1 8) q1 := fun y l => by
  unfold queries
  rw [if_neg (by decide)]
  refine (cast_rows _ y l).trans ((harg3.readAt_unread x1 _ _).trans ((is_rect h1 0 0 _ y.val l.val rfl rfl).trans ?_))
  rw [Nat.zero_add, Nat.zero_add]

theorem keys_is (h2 : Is x2 kk) (ρ n : ℕ) (hn : n < 32) : Is (n := 256) (k := 128) (View.readAt (Elt Ideal) arg4.view (keys ρ n).toLoadRect (harg4.unread x2))
    (fun j l => kk (256 * n + j) (128 * (ρ % 4) + l)) := fun j l => by
  refine (harg4.readAt_unread x2 _ _).trans (is_rect h2 _ _ _ _ _ ?_ rfl)
  show 256 * (n % 32) + 1 * j.val = 256 * n + 1 * j.val
  omega

theorem vals_is (h3 : Is x3 ww) (ρ n : ℕ) (hn : n < 32) : Is (n := 128) (k := 256) (View.readAt (Elt Ideal) arg5.view (vals ρ n).toLoadRect (harg5.unread x3))
    (fun x j => roundVal ww ρ x (256 * n + j)) := fun x j => by
  refine (harg5.readAt_unread x3 _ _).trans (is_rect h3 _ _ _ _ _ rfl ?_)
  show 256 * (n % 32) + 1 * j.val = 256 * n + 1 * j.val
  omega

variable (h0 : Is x0 q0) (h1 : Is x1 q1) (h2 : Is x2 kk) (h3 : Is x3 ww)

include h0 h2 in
theorem kept_is (ρ : ℕ) (hρ : ρ < 8) (n : ℕ) (hn : n < 32) (j y : Fin 256) :
    kept ((bare arg2 harg2 arg3 harg3 arg4 harg4 arg5 harg5 x0 x1 x2 x3).q ρ) ((bare arg2 harg2 arg3 harg3 arg4 harg4 arg5 harg5 x0 x1 x2 x3).k ρ n)
      (ix4 0 0 j y) = (roundScore q0 kk ρ y.val (256 * n + j.val) : EReal) :=
  (kept_apply _ _ j y).trans (score_is (queries_is arg2 harg2 arg3 harg3 h0 ρ hρ) (keys_is arg4 harg4 h2 ρ n hn) j y)

include h1 h2 in
theorem kept_next (n : ℕ) (hn : n < 32) (j y : Fin 256) :
    kept ((bare arg2 harg2 arg3 harg3 arg4 harg4 arg5 harg5 x0 x1 x2 x3).q 8) ((bare arg2 harg2 arg3 harg3 arg4 harg4 arg5 harg5 x0 x1 x2 x3).k 8 n)
      (ix4 0 0 j y) = (headScore q1 kk 0 y.val (256 * n + j.val) : EReal) := by
  refine (kept_apply _ _ j y).trans ((score_is (queries_next arg2 harg2 arg3 harg3 (x0 := x0) h1) (keys_is arg4 harg4 h2 8 n hn) j y).trans ?_)
  unfold headScore
  simp only [Nat.mul_zero, Nat.zero_add, Nat.reduceMod]

include h0 h2 in
theorem tops_at (ρ : ℕ) (hρ : ρ < 8) (a : Fin 8) (y : Fin 256) : IsReal (tops (queries arg2 harg2 arg3 harg3 x0 x1 ρ)
    (fun n => View.readAt (Elt Ideal) arg4.view (keys ρ n).toLoadRect (harg4.unread x2)) 32 (ix2 a y)) :=
  tops32_real (queries_is arg2 harg2 arg3 harg3 h0 ρ hρ) (fun n hn => keys_is arg4 harg4 h2 ρ n hn) a y

include h1 h2 in
theorem tops_next (a : Fin 8) (y : Fin 256) : IsReal (tops (queries arg2 harg2 arg3 harg3 x0 x1 8)
    (fun n => View.readAt (Elt Ideal) arg4.view (keys 8 n).toLoadRect (harg4.unread x2)) 32 (ix2 a y)) :=
  tops32_real (queries_next arg2 harg2 arg3 harg3 (x0 := x0) h1) (fun n hn => keys_is arg4 harg4 h2 8 n hn) a y

include h0 h2 h3 in
theorem fetches : Fetches (bare arg2 harg2 arg3 harg3 arg4 harg4 arg5 harg5 x0 x1 x2 x3) (headScore q0 kk) (roundVal ww) where
  kept := kept_is arg2 harg2 arg3 harg3 arg4 harg4 arg5 harg5 h0 h2
  tops := tops_at arg2 harg2 arg3 harg3 arg4 harg4 h0 h2
  vals ρ _ n hn := vals_is arg5 harg5 h3 ρ n hn

include h0 h2 h3 in
theorem holds_first : Holds (first arg2 harg2 arg3 harg3 arg4 harg4 arg5 harg5 arg8 arg9 x0 x1 x2 x3) (roundScore q0 kk) (roundVal ww) :=
  (fetches arg2 harg2 arg3 harg3 arg4 harg4 arg5 harg5 h0 h2 h3).opening arg8.view fun a r => by
    unfold topStore
    rw [View.readCov_full, cast_top]
    exact tops_at arg2 harg2 arg3 harg3 arg4 harg4 h0 h2 0 (by decide) a r

include h0 h2 h3 in
theorem holds_later (hs : ∀ (n : Fin 32) (j r : Fin 256), xs0 (ix4 0 n j r) = (headScore q0 kk 0 r.val (256 * n.val + j.val) : EReal))
    (ht : ∀ a r, IsReal (xs1 (ix2 a r))) :
    Holds (later arg2 harg2 arg3 harg3 arg4 harg4 arg5 harg5 arg8 harg8 arg9 harg9 x0 x1 x2 x3 xs0 xs1) (roundScore q0 kk) (roundVal ww) :=
  (fetches arg2 harg2 arg3 harg3 arg4 harg4 arg5 harg5 h0 h2 h3).after arg8.view
    (fun a r => by rw [top_found]; exact ht a r) fun n hn j r => (slot_found xs0 arg8 harg8 n hn j r).trans (hs ⟨n, hn⟩ j r)

end

/-- What a point leaves: means, log-sums, and the first scores and maxima of the next tile. -/
structure Leaves (q0 q1 kk ww : ℕ → ℕ → ℝ) (o : Vec Ideal S512x512 .f32 × Vec Ideal S4x1x512 .f32 × Vec Ideal S2x32x256x256 .f32 × Vec Ideal S8x256 .f32) : Prop where
  out : Is o.1 (fun s d => Soft.o (headScore q0 kk) 0 (d / 128) s (ww d))
  lse : ∀ (h : Fin 4) (s : Fin 512), o.2.1 (ix3 h 0 s) = (Soft.lse (headScore q0 kk) 0 h.val s.val : EReal)
  slots : ∀ (n : Fin 32) (j r : Fin 256), o.2.2.1 (ix4 0 n j r) = (headScore q1 kk 0 r.val (256 * n.val + j.val) : EReal)
  tops : ∀ a r, IsReal (o.2.2.2 (ix2 a r))

variable {q0 q1 kk ww : ℕ → ℕ → ℝ}

/-- A place of the output block reads its round's output. -/
theorem read_outs (I : Rounds Ideal) (vw : View sig .tc .vmem S512x512 .f32) (f : vw.ty.Contents (Elt Ideal)) (r : ℕ) (h8 : r < 8) (y : S512x512.Idx)
    (x : S256x128.Idx) (h0 : (y 0).val = 256 * (r / 4) + (x 0).val) (h1 : (y 1).val = 128 * (r % 4) + (x 1).val) :
    ∀ n, r < n → n ≤ 8 → vw.read (Elt Ideal) (vw.writes (Elt Ideal) f (outStores I n)) y = out I r x := by
  intro n
  induction n with
  | zero => intro h; omega
  | succ n ih =>
    intro hn hm
    have hx0 : (x 0).val < 256 := (x 0).isLt
    have hx1 : (x 1).val < 128 := (x 1).isLt
    by_cases e : n = r
    · subst e
      refine View.read_writes_cons_hit_of_coords vw f (tile n) _ _ x y fun a => ?_
      match a with
      | ⟨0, _⟩ => show (y 0).val = 256 * (n / 4 % 2) + 1 * (x 0).val; omega
      | ⟨1, _⟩ => show (y 1).val = 128 * (n % 4) + 1 * (x 1).val; omega
    · rw [← ih (by omega) (by omega)]
      by_cases ec : n % 4 = r % 4
      · refine View.read_writes_cons_miss_of_axis vw f _ _ y 0 (256 * (n / 4 % 2)) 256 rfl rfl rfl ?_
        omega
      · refine View.read_writes_cons_miss_of_axis vw f _ _ y 1 (128 * (n % 4)) 128 rfl rfl rfl ?_
        omega

theorem outs_at {I : Rounds Ideal} (h : Holds I (roundScore q0 kk) (roundVal ww)) (vw : View sig .tc .vmem S512x512 .f32) (f : vw.ty.Contents (Elt Ideal)) :
    Is (n := 512) (k := 512) (vw.read (Elt Ideal) (vw.writes (Elt Ideal) f (outStores I 8))) (fun s d => Soft.o (headScore q0 kk) 0 (d / 128) s (ww d)) := fun s d => by
  have hρ : 4 * (s.val / 256) + d.val / 128 < 8 := by omega
  refine (read_outs I vw f (4 * (s.val / 256) + d.val / 128) hρ (ix2 s d) (ix2 ⟨s.val % 256, by omega⟩ ⟨d.val % 128, by omega⟩) ?_ ?_ 8 hρ le_rfl).trans
    ((h.out_is _ hρ _ _).trans (congrArg _ ?_))
  · show s.val = 256 * ((4 * (s.val / 256) + d.val / 128) / 4) + s.val % 256; omega
  · show d.val = 128 * ((4 * (s.val / 256) + d.val / 128) % 4) + d.val % 128; omega
  · have e1 : (4 * (s.val / 256) + d.val / 128) % 4 = d.val / 128 := by omega
    have e2 : 256 * ((4 * (s.val / 256) + d.val / 128) / 4) + s.val % 256 = s.val := by omega
    have e3 : 128 * (d.val / 128) + d.val % 128 = d.val := by omega
    simp only [Soft.o, Soft.e, Soft.l, roundScore, byRound, roundVal, e1, e2, e3]

end Cert.BfKernelIdeal.Tile

end
-- ==== Proof.FState.lean ====
module

public import proofs.«01_k».proof.Proof.FBlock

@[expose] public section

set_option maxRecDepth 16384

noncomputable section

/-! # What each point leaves, over the reals -/

namespace Cert.BfKernelIdeal.Tile

open Idealize.ShloMosaic Idealize.ShloMosaic.TcCoe Idealize.ShloMosaic.Tactic Idealize.ShloMosaic.Pointwise
open Cert.BfKernelIdeal.Gen Cert.Attn Cert.Reals

/-- The region's input arrays over the reals: queries and keys by row and column, values by column and key. -/
structure Arrays where
  Q : ℕ → ℕ → ℝ
  K : ℕ → ℕ → ℝ
  W : ℕ → ℕ → ℝ

namespace Arrays

variable (A : Arrays)

/-- The queries of tile `i`. -/
def tile (i r d : ℕ) : ℝ := A.Q (512 * i + r) d
/-- The output, by row and column. -/
def o (s d : ℕ) : ℝ := Soft.o (headScore A.Q A.K) 0 (d / 128) s (A.W d)
/-- The log-sums, by head and row. -/
def lse (h s : ℕ) : ℝ := Soft.lse (headScore A.Q A.K) 0 h s

end Arrays

theorem index_in : ∀ t : Fin grid0.N, (win0_0.index t 0 = t.val ∧ win0_0.index t 1 = 0) ∧ (win0_1.index t 0 = min (t.val + 1) 15 ∧ win0_1.index t 1 = 0)
    ∧ (win0_2.index t 0 = 0 ∧ win0_2.index t 1 = 0) ∧ (win0_3.index t 0 = 0 ∧ win0_3.index t 1 = 0) := by decide +kernel

variable (m : (ℓ : Loc nD τ sig) → Buf (Elt Ideal) ℓ) (c : Dev nD)

/-- The arrays the region reads are these real ones. -/
structure Reads (A : Arrays) : Prop where
  qs : Is (n := 8192) (k := 512) (V m c main_v8) A.Q
  ks : Is (n := 8192) (k := 512) (V m c main_v12) A.K
  vs : Is (n := 512) (k := 8192) (V m c main_v2) A.W

variable {m c} {A : Arrays} (h : Reads m c A) (t : Fin cfg0.N)

include h

theorem blkQ : Is (n := 512) (k := 512) (iblk m c 0 t) (A.tile t.val) := fun r d => by
  refine (h.qs.at (((cfg0.win 0).blk t).view.emb (ix2 r d))).trans ?_
  show (A.Q (win0_0.index t 0 * 512 + 1 * r.val) (win0_0.index t 1 * 512 + 1 * d.val) : EReal) = (A.Q (512 * t.val + r.val) d.val : EReal)
  rw [(index_in t).1.1, (index_in t).1.2]
  ring_nf
theorem blkN : Is (n := 512) (k := 512) (iblk m c 1 t) (A.tile (min (t.val + 1) 15)) := fun r d => by
  refine (h.qs.at (((cfg0.win 1).blk t).view.emb (ix2 r d))).trans ?_
  show (A.Q (win0_1.index t 0 * 512 + 1 * r.val) (win0_1.index t 1 * 512 + 1 * d.val) : EReal) = (A.Q (512 * min (t.val + 1) 15 + r.val) d.val : EReal)
  rw [(index_in t).2.1.1, (index_in t).2.1.2]
  ring_nf
theorem blkK : Is (n := 8192) (k := 512) (iblk m c 2 t) A.K := fun r d => by
  refine (h.ks.at (((cfg0.win 2).blk t).view.emb (ix2 r d))).trans ?_
  show (A.K (win0_2.index t 0 * 8192 + 1 * r.val) (win0_2.index t 1 * 512 + 1 * d.val) : EReal) = _
  rw [(index_in t).2.2.1.1, (index_in t).2.2.1.2]
  ring_nf
theorem blkV : Is (n := 512) (k := 8192) (iblk m c 3 t) A.W := fun r d => by
  refine (h.vs.at (((cfg0.win 3).blk t).view.emb (ix2 r d))).trans ?_
  show (A.W (win0_3.index t 0 * 512 + 1 * r.val) (win0_3.index t 1 * 8192 + 1 * d.val) : EReal) = _
  rw [(index_in t).2.2.2.1, (index_in t).2.2.2.2]
  ring_nf

omit h in
/-- The scratch's slot 0 after a point. -/
theorem slots_at {I : Rounds Ideal} (b n : ℕ) (hb : b ≤ 256) (hn : b + n = 288) (v : Fin 32) (j r : Fin 256) :
    VS0_0.read (Elt Ideal) (VS0_0.writes (Elt Ideal) VS0_0.junk (stores I b n)) (ix4 0 v j r) = kept (I.q 8) (I.k 8 v.val) (ix4 0 0 j r) :=
  read_stores I VS0_0 VS0_0.junk b 8 v.val v.isLt (by omega) (ix4 0 v j r) (ix4 0 0 j r) rfl rfl rfl rfl n (by omega) (by omega)

theorem leaves_first (h0 : t.val % 16 = 0) :
    Leaves (A.tile t.val) (A.tile (min (t.val + 1) 15)) A.K A.W (outsAt0 m c t.val t.isLt) := by
  have H := holds_first (ms0_0 t) (hs0_0 t) (ms0_1 t) (hs0_1 t) (ms0_2 t) (hs0_2 t) (ms0_3 t) (hs0_3 t) scM0_0 scM0_1 (x1 := iblk m c 1 t)
    (blkQ h t) (blkK h t) (blkV h t)
  rw [outsAt0_A m c t h0]
  refine ⟨?_, ?_, ?_, ?_⟩
  · dsimp only
    unfold out0_A_4
    rw [first_outs]
    exact outs_at H _ _
  · dsimp only
    unfold out0_A_5
    rw [first_rows]
    exact rows_at H _ _
  · dsimp only
    unfold sout0_A_0
    rw [first_slots]
    exact fun n j r => (slots_at 0 288 (by omega) rfl n j r).trans (kept_next _ _ _ _ _ _ _ _ (blkN h t) (blkK h t) n.val n.isLt j r)
  · dsimp only
    unfold sout0_A_1
    rw [first_tops]
    unfold topStore
    rw [List.cons_append, View.read_writes_full, cast_top]
    exact tops_next _ _ _ _ _ _ (blkN h t) (blkK h t)

theorem leaves_later (h0 : ¬t.val % 16 = 0) (hp : Leaves (A.tile (t.val - 1)) (A.tile t.val) A.K A.W
    (outsAt0 m c (t.val - 1) (Nat.lt_of_le_of_lt (Nat.sub_le _ _) t.isLt))) :
    Leaves (A.tile t.val) (A.tile (min (t.val + 1) 15)) A.K A.W (outsAt0 m c t.val t.isLt) := by
  have H := holds_later (ms0_0 t) (hs0_0 t) (ms0_1 t) (hs0_1 t) (ms0_2 t) (hs0_2 t) (ms0_3 t) (hs0_3 t) scM0_0 (Memref.isWhole_whole _)
    scM0_1 (Memref.isWhole_whole _) (x1 := iblk m c 1 t) (blkQ h t) (blkK h t) (blkV h t) hp.slots hp.tops
  rw [outsAt0_B m c t h0]
  refine ⟨?_, ?_, ?_, ?_⟩
  · dsimp only
    unfold out0_B_4
    rw [later_outs]
    exact outs_at H _ _
  · dsimp only
    unfold out0_B_5
    rw [later_rows]
    exact rows_at H _ _
  · dsimp only
    unfold sout0_B_0
    rw [later_slots]
    exact fun n j r => (slots_at 32 256 (by omega) rfl n j r).trans (kept_next _ _ _ _ _ _ _ _ (blkN h t) (blkK h t) n.val n.isLt j r)
  · dsimp only
    unfold sout0_B_1
    rw [later_tops]
    unfold topStore
    rw [View.read_writes_full, cast_top]
    exact tops_next _ _ _ _ _ _ (blkN h t) (blkK h t)

theorem leaves_at : ∀ (n : ℕ) (hn : n < cfg0.N), Leaves (A.tile n) (A.tile (min (n + 1) 15)) A.K A.W (outsAt0 m c n hn) := by
  intro n
  induction n with
  | zero => exact fun hn => leaves_first h ⟨0, hn⟩ rfl
  | succ n ih =>
    intro hn
    have hN : n + 1 < 16 := hn.trans_eq N_0
    have := ih (Nat.lt_of_succ_lt hn)
    rw [min_eq_left (by omega : n + 1 ≤ 15)] at this
    exact leaves_later h ⟨n + 1, hn⟩ (by show ¬(n + 1) % 16 = 0; omega) this

/-! ## The arrays the region leaves -/

omit h in
theorem index_out : ∀ t : Fin grid0.N, (win0_4.index t 0 = t.val ∧ win0_4.index t 1 = 0)
    ∧ (win0_5.index t 0 = 0 ∧ win0_5.index t 1 = 0 ∧ win0_5.index t 2 = t.val) := by decide +kernel

/-- The point that leaves a row. -/
def pointOf (s : Fin 8192) : Fin cfg0.N := ⟨s.val / 512, by rw [show cfg0.N = 16 from N_0]; omega⟩

theorem arr4 : (dats m 0 c).arrAt 4 cfg0.N = fun i : S8192x512.Idx => (A.o (i 0).val (i 1).val : EReal) :=
  (dats m 0 c).arrAt_eq_of_cover 4 _ (fun t hf => by
    show (cfg0.win 4).cut (grid0.coords t) ((dats m 0 c).after 4 t) = _
    rw [after0_4]
    funext y
    rw [View.read_apply]
    refine ((leaves_at h t.val t.isLt).out.at y).trans (congrArg _ ?_)
    show Soft.o (headScore (A.tile t.val) A.K) 0 ((y 1).val / 128) (y 0).val (A.W (y 1).val)
      = A.o (win0_4.index t 0 * 512 + 1 * (y 0).val) (win0_4.index t 1 * 512 + 1 * (y 1).val)
    rw [(index_out t).1.1, (index_out t).1.2, show t.val * 512 + 1 * (y 0).val = 512 * t.val + (y 0).val by omega,
      show 0 * 512 + 1 * (y 1).val = (y 1).val by omega]
    rfl) fun i =>
    ⟨pointOf (i 0), flush0_4 _, by
      show i ∈ ((View.whole main_v13_0).slice (win0_4.rect (pointOf (i 0)))).set
      rw [View.set_slice_whole, Rect.mem_set_unit]
      have h1 : (i 1).val < 512 := (i 1).isLt
      have e' : win0_4.index (pointOf (i 0)) 1 * 512 ≤ (i 1).val ∧ (i 1).val < win0_4.index (pointOf (i 0)) 1 * 512 + 512 := by
        rw [(index_out _).1.2]; exact ⟨by omega, by omega⟩
      have e : win0_4.index (pointOf (i 0)) 0 * 512 ≤ (i 0).val ∧ (i 0).val < win0_4.index (pointOf (i 0)) 0 * 512 + 512 := by
        rw [(index_out _).1.1]
        show (i 0).val / 512 * 512 ≤ (i 0).val ∧ (i 0).val < (i 0).val / 512 * 512 + 512
        exact ⟨by clear e'; omega, by clear e'; omega⟩
      exact fun a => match a with
        | ⟨0, _⟩ => e
        | ⟨1, _⟩ => e'⟩

theorem arr5 : (dats m 0 c).arrAt 5 cfg0.N = fun i : S4x1x8192.Idx => (A.lse (i 0).val (i 2).val : EReal) :=
  (dats m 0 c).arrAt_eq_of_cover 5 _ (fun t hf => by
    show (cfg0.win 5).cut (grid0.coords t) ((dats m 0 c).after 5 t) = _
    rw [after0_5]
    funext y
    rw [View.read_apply]
    have hy : y = ix3 (y 0) 0 (y 2) := funext fun a => match a with
      | ⟨0, _⟩ => rfl
      | ⟨1, _⟩ => Fin.ext (by show (y 1).val = 0; have : (y 1).val < 1 := (y 1).isLt; omega)
      | ⟨2, _⟩ => rfl
    refine (congrArg (outsAt0 m c t.val t.isLt).2.1 hy).trans (((leaves_at h t.val t.isLt).lse (y 0) (y 2)).trans (congrArg _ ?_))
    show Soft.lse (headScore (A.tile t.val) A.K) 0 (y 0).val (y 2).val
      = A.lse (win0_5.index t 0 * 4 + 1 * (y 0).val) (win0_5.index t 2 * 512 + 1 * (y 2).val)
    rw [(index_out t).2.1, (index_out t).2.2.2, show t.val * 512 + 1 * (y 2).val = 512 * t.val + (y 2).val by omega,
      show 0 * 4 + 1 * (y 0).val = (y 0).val by omega]
    rfl) fun i =>
    ⟨pointOf (i 2), flush0_5 _, by
      show i ∈ ((View.whole main_v13_1).slice (win0_5.rect (pointOf (i 2)))).set
      rw [View.set_slice_whole, Rect.mem_set_unit]
      have h0 : (i 0).val < 4 := (i 0).isLt
      have h1 : (i 1).val < 1 := (i 1).isLt
      have e : win0_5.index (pointOf (i 2)) 0 * 4 ≤ (i 0).val ∧ (i 0).val < win0_5.index (pointOf (i 2)) 0 * 4 + 4 := by
        rw [(index_out _).2.1]; omega
      have e' : win0_5.index (pointOf (i 2)) 1 * 1 ≤ (i 1).val ∧ (i 1).val < win0_5.index (pointOf (i 2)) 1 * 1 + 1 := by
        rw [(index_out _).2.2.1]; clear e; exact ⟨by omega, by omega⟩
      have e'' : win0_5.index (pointOf (i 2)) 2 * 512 ≤ (i 2).val ∧ (i 2).val < win0_5.index (pointOf (i 2)) 2 * 512 + 512 := by
        rw [(index_out _).2.2.2]
        show (i 2).val / 512 * 512 ≤ (i 2).val ∧ (i 2).val < (i 2).val / 512 * 512 + 512
        clear e e'; exact ⟨by omega, by omega⟩
      exact fun a => match a with
        | ⟨0, _⟩ => e
        | ⟨1, _⟩ => e'
        | ⟨2, _⟩ => e''⟩

end Cert.BfKernelIdeal.Tile

end
-- ==== Proof.FHost.lean ====
module

public import proofs.«01_k».proof.Proof.FState
public import proofs.«01_k».proof.Proof.AttnArgs
public import proofs.«01_k».proof.Proof.BMatch

@[expose] public section

set_option maxRecDepth 16384

noncomputable section

/-! # The arrays the forward pass reads, from the arguments -/

namespace Cert.BfKernelIdeal.Tile

open Idealize.ShloMosaic Idealize.ShloMosaic.TcCoe Idealize.ShloMosaic.Tactic Idealize.ShloMosaic.Pointwise
open Cert.BfKernelIdeal Cert.BfKernelIdeal.Gen Cert.Attn Cert.Reals

variable (m : (ℓ : Loc nD τ sig) → Buf (Elt Ideal) ℓ) (c : Dev nD)

abbrev argQ : FVec Ideal S4x8192x96 .f32 := m ((c : Thread nD τ).loc main_arg0)
abbrev argK : FVec Ideal S4x8192x96 .f32 := m ((c : Thread nD τ).loc main_arg1)
abbrev argV : FVec Ideal S4x8192x128 .f32 := m ((c : Thread nD τ).loc main_arg2)

/-- Queries or keys by rows, each head filled up with zeros to 128 lanes. -/
def padded (x : FVec Ideal S4x8192x96 .f32) : FVec Ideal S8192x512 .f32 :=
  shapeCast S8192x512 (transpose S8192x4x128 [1, 0, 2] (pad S4x8192x128 ![0, 0, 0] ![0, 0, 32] ![0, 0, 0] x
    (sitofp .f32 (constantI S_ 32 0#32) : FVec Ideal S_ .f32) pads_S4x8192x96_S4x8192x128_000_000_0320 h_S_)
    transposes_S4x8192x128_S8192x4x128_1_0_2) shapeCasts_S8192x4x128_S8192x512

theorem padded_at (x : FVec Ideal S4x8192x96 .f32) (s : Fin 8192) (d : Fin 512) :
    padded x (ix2 s d) = if h : d.val % 128 < 96 then x (ix3 ⟨d.val / 128, by omega⟩ s ⟨d.val % 128, h⟩) else 0 := by
  pointwise [padded]
  have z : (FloatOps.sitofp .f32 0#32 : Ideal .f32) = (0 : EReal) := sitofp_zero
  by_cases h : d.val % 128 < 96
  · rw [dif_pos ⟨by omega, h⟩, dif_pos h]
  · rw [dif_neg fun hh => h hh.2, dif_neg h, z]

theorem V_q (s : Fin 8192) (d : Fin 512) : (V m c main_v8 : S8192x512.Idx → EReal) (ix2 s d)
    = if h : d.val % 128 < 96 then argQ m c (ix3 ⟨d.val / 128, by omega⟩ s ⟨d.val % 128, h⟩) * (scale : EReal) else 0 := by
  have h : V m c main_v8 = (truncf .bf16 (padded (mulf (argQ m c)
      (broadcastInDim S4x8192x96 ![] bcast_S_S4x8192x96 (constant S_ .f32 0x3DD105EC#32)))) bitsLt_bf16_f32 : FVec Ideal S8192x512 .bf16) := by
    show StableHlo.after (List.flatten [hostOps0, hostOps0_1, hostOps0_2, hostOps0_3, hostOps0_4]) (fun b => m (c, b)) (Proc.devRef .tc main_v8) = _
    simp only [List.flatten_cons, List.flatten_nil, List.append_nil, List.cons_append, List.nil_append]
    unfold padded
    after_results
    rfl
  rw [h]
  refine (padded_at _ s d).trans ?_
  pointwise
  rw [word_scale]

theorem V_k (s : Fin 8192) (d : Fin 512) : (V m c main_v12 : S8192x512.Idx → EReal) (ix2 s d)
    = if h : d.val % 128 < 96 then argK m c (ix3 ⟨d.val / 128, by omega⟩ s ⟨d.val % 128, h⟩) else 0 := by
  have h : V m c main_v12 = (truncf .bf16 (padded (argK m c)) bitsLt_bf16_f32 : FVec Ideal S8192x512 .bf16) := by
    show StableHlo.after (List.flatten [hostOps0, hostOps0_1, hostOps0_2, hostOps0_3, hostOps0_4]) (fun b => m (c, b)) (Proc.devRef .tc main_v12) = _
    simp only [List.flatten_cons, List.flatten_nil, List.append_nil, List.cons_append, List.nil_append]
    unfold padded
    after_results
    rfl
  rw [h]
  exact padded_at _ s d

theorem V_v (d : Fin 512) (s : Fin 8192) : (V m c main_v2 : S512x8192.Idx → EReal) (ix2 d s)
    = argV m c (ix3 ⟨d.val / 128, by omega⟩ s ⟨d.val % 128, by omega⟩) := by
  have h : V m c main_v2 = (truncf .bf16 (shapeCast S512x8192 (transpose S4x128x8192 [0, 2, 1] (argV m c)
      transposes_S4x8192x128_S4x128x8192_0_2_1) shapeCasts_S4x128x8192_S512x8192) bitsLt_bf16_f32 : FVec Ideal S512x8192 .bf16) := by
    show StableHlo.after (List.flatten [hostOps0, hostOps0_1, hostOps0_2, hostOps0_3, hostOps0_4]) (fun b => m (c, b)) (Proc.devRef .tc main_v2) = _
    simp only [List.flatten_cons, List.flatten_nil, List.append_nil, List.cons_append, List.nil_append]
    after_results
    rfl
  rw [h]
  pointwise

end Cert.BfKernelIdeal.Tile

end
-- ==== Proof.FValue.lean ====
module

public import proofs.«01_k».proof.Proof.FHost

@[expose] public section

set_option maxRecDepth 16384

noncomputable section

/-! # The forward pass's run: output and log-sums, and the arguments unchanged -/

namespace Cert.BfKernelIdeal.Whole

open Cert.BfKernelIdeal Cert.BfKernelIdeal.Gen Cert.BfKernelIdeal.Tile Cert.Attn Cert.Reals
open Idealize.ShloMosaic Idealize.ShloMosaic.TcCoe Idealize.SL.Sem Idealize.ShloMosaic.Pointwise Idealize.ShloMosaic.StableHlo
open Idealize.ShloMosaic.Pipeline (Dat)
open Cert.BKernelIdeal.Tile (sum_pad)

/-- The region's arrays for these arguments. -/
def ofInput (I : Wide) : Arrays where
  Q s d := if d % 128 < 96 then I.q (d / 128) s (d % 128) * I.b else 0
  K j d := if d % 128 < 96 then I.k (d / 128) j (d % 128) else 0
  W d j := I.v (d / 128) j (d % 128)

theorem score_eq (I : Wide) (h s j : ℕ) : headScore (ofInput I).Q (ofInput I).K h s j = I.score h s j := by
  have key : ∀ l : Fin 128, (ofInput I).K j (128 * h + l.val) * (ofInput I).Q s (128 * h + l.val)
      = if l.val < 96 then I.q h s l.val * I.k h j l.val * I.b else 0 := fun l => by
    have e1 : (128 * h + l.val) % 128 = l.val := by omega
    have e2 : (128 * h + l.val) / 128 = h := by omega
    simp only [ofInput, e1, e2]
    split <;> ring
  unfold headScore Wide.score
  rw [Finset.sum_congr rfl fun l _ => key l, sum_pad fun l => I.q h s l * I.k h j l * I.b, Finset.sum_mul]

theorem score_funext (I : Wide) : headScore (ofInput I).Q (ofInput I).K = I.score := funext fun h => funext fun s => funext fun j => score_eq I h s j

theorem tail_l (V : Valuation τ sig (Elt Ideal)) : StableHlo.after [hostOps1].flatten V (Proc.devRef .tc main_v14)
    = (shapeCast S4x8192 (V (Proc.devRef .tc main_v13_1) : FVec Ideal S4x1x8192 .f32) shapeCasts_S4x1x8192_S4x8192 : FVec Ideal S4x8192 .f32) := by
  simp only [List.flatten_cons, List.flatten_nil, List.append_nil]
  after_results
  rfl

theorem flat_apply (x : FVec Ideal S4x1x8192 .f32) (h : Fin 4) (s : Fin 8192) :
    shapeCast S4x8192 x shapeCasts_S4x1x8192_S4x8192 (ix2 h s) = x (ix3 h 0 s) := by pointwise

variable {m : (ℓ : Loc nD τ sig) → Buf (Elt Ideal) ℓ} {c : Dev nD} {I : Wide}

/-- The arrays the region reads, when the arguments hold real numbers. -/
theorem reads (h : WideHolds I (argQ m c) (argK m c) (argV m c) fun _ => 0) : Reads m c (ofInput I) where
  qs r d := (V_q m c r d).trans (by
    show _ = ((if d.val % 128 < 96 then I.q (d.val / 128) r.val (d.val % 128) * I.b else 0 : ℝ) : EReal)
    by_cases hd : d.val % 128 < 96
    · rw [dif_pos hd, if_pos hd, h.q, h.b, EReal.coe_mul]; rfl
    · rw [dif_neg hd, if_neg hd]; rfl)
  ks j d := (V_k m c j d).trans (by
    show _ = ((if d.val % 128 < 96 then I.k (d.val / 128) j.val (d.val % 128) else 0 : ℝ) : EReal)
    by_cases hd : d.val % 128 < 96
    · rw [dif_pos hd, if_pos hd, h.k]; rfl
    · rw [dif_neg hd, if_neg hd]; rfl)
  vs d j := (V_v m c d j).trans (by rw [h.v]; rfl)

theorem run (m : (ℓ : Loc nD τ sig) → Buf (Elt Ideal) ℓ) (ρ : Dev nD → PrngReg) (I : Dev nD → Wide)
    (h : ∀ c, WideHolds (I c) (argQ m c) (argK m c) (argV m c) fun _ => 0) :
    θ_run defs (onTc (τ := τ) (main (F := Ideal))) ⟨m, fun _ => 0, ρ⟩ fun r => ∀ c : Dev nD,
      r.2.mem ((c.tc : Thread nD τ).loc main_v13_0) = (fun i : S8192x512.Idx => ((I c).o 0 ((i 1).val / 128) (i 0).val ((i 1).val % 128) : EReal))
      ∧ r.2.mem ((c.tc : Thread nD τ).loc main_v14) = (fun i : S4x8192.Idx => ((I c).lse 0 (i 0).val (i 1).val : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r hr c => by
    have H := reads (h c)
    refine ⟨((hr.1 c).1 4).trans ((arr4 H).trans (funext fun i => congrArg _ ?_)),
      ((hr.1 c).2 main_v14 (Pipeline.mem_restRefs_of main_v14 (by decide) (by decide))).trans ((tail_l _).trans
        ((congrArg (fun x : FVec Ideal S4x1x8192 .f32 => shapeCast S4x8192 x shapeCasts_S4x1x8192_S4x8192)
          (((dats m 0 c).withArrays_arrAt sharedIn0 (V0 m c) (A_eq m c) 5).trans (arr5 H))).trans (funext fun i => ?_))), hr.2.1 c⟩
    · show Soft.o (headScore (ofInput (I c)).Q (ofInput (I c)).K) 0 ((i 1).val / 128) (i 0).val _ = _
      rw [score_funext]
      rfl
    · have e : i = ix2 (i 0) (i 1) := funext fun a => match a with
        | ⟨0, _⟩ => rfl
        | ⟨1, _⟩ => rfl
      refine (congrArg _ e).trans ((flat_apply _ (i 0) (i 1)).trans (congrArg _ ?_))
      show Soft.lse (headScore (ofInput (I c)).Q (ofInput (I c)).K) 0 (i 0).val (i 1).val = _
      rw [score_funext]
      rfl)
    (θ_run_and (run_main m ρ) (frame m ρ))

end Cert.BfKernelIdeal.Whole

end
-- ==== Proof.GTile.lean ====
module

public import proofs.«01_k».proof.Proof.Gen.AfKernelIdeal.Frame
public import proofs.«01_k».proof.Proof.FRound

@[expose] public section

set_option maxRecDepth 16384

noncomputable section

/-! # The rounds of a point of the grouped-query attention's forward pass

A round is one of four heads of one of a point's two tiles; two heads share 128 lanes of the queries, and a mask keeps one of them. -/

namespace Cert.AfKernelIdeal.Tile

open Idealize.ShloMosaic Idealize.ShloMosaic.TcCoe Idealize.ShloMosaic.Tactic
open Cert.AfKernelIdeal.Gen
open Cert.BfKernelIdeal.Tile (Rounds score kept tops out lse slot stores row rowStores after opening)

variable {F : FTy → Type} [FloatOps F] (I : Rounds F)

/-- The lanes below 64. -/
def low : IVec S256x128 1 :=
  cmpi .slt (iota .tc S256x128 32 [1] iota_S256x128_d1_w32) (broadcast S256x128 64#32)

/-- The lanes from 64 on. -/
def high : IVec S256x128 1 :=
  cmpi .sge (iota .tc S256x128 32 [1] iota_S256x128_d1_w32) (broadcast S256x128 64#32)

/-- The lanes of a round's head, zero in the others. -/
def half (r : ℕ) (x : Vec F S256x128 .bf16) : FVec F S256x128 .bf16 :=
  select (if r % 2 = 0 then low else high) (shapeCast S256x128 x shapeCasts_S256x128_S256x128) (broadcast S256x128 (Scalar.ofBits .bf16 0x0000#16))

theorem inTile (r : ℕ) : ∀ a, (![256 * (r / 4 % 2), 128 * (r / 2 % 2)] : Fin 2 → ℕ) a + S256x128.size a ≤ S512x256.size a := by
  have := Nat.mod_lt (r / 4) (y := 2) (by decide)
  have := Nat.mod_lt (r / 2) (y := 2) (by decide)
  intro a; fin_cases a <;> simp <;> omega

theorem inKeys (n : ℕ) : ∀ a, (![256 * (n % 32), 0] : Fin 2 → ℕ) a + S256x128.size a ≤ S8192x128.size a := by
  have := Nat.mod_lt n (y := 32) (by decide)
  intro a; fin_cases a <;> simp <;> omega

theorem inVals (n : ℕ) : ∀ a, (![0, 256 * (n % 32)] : Fin 2 → ℕ) a + S128x256.size a ≤ S128x8192.size a := by
  have := Nat.mod_lt n (y := 32) (by decide)
  intro a; fin_cases a <;> simp <;> omega

/-- The rows of a round's tile at the lanes its head shares with another. -/
abbrev tile (r : ℕ) : Rect S512x256 := Rect.unit ![256 * (r / 4 % 2), 128 * (r / 2 % 2)] S256x128.size (inTile r)

/-- A chunk of keys. -/
abbrev keys (n : ℕ) : Rect S8192x128 := Rect.unit ![256 * (n % 32), 0] S256x128.size (inKeys n)

/-- A chunk of values. -/
abbrev vals (n : ℕ) : Rect S128x8192 := Rect.unit ![0, 256 * (n % 32)] S128x256.size (inVals n)

/-- The outputs of the first pairs of rounds, the newest first: each pair fills its 128 lanes. -/
def outStores : ℕ → List (View.Piece (Elt F) S512x256 .f32)
  | 0 => []
  | p + 1 => ⟨tile (2 * p), select low (out I (2 * p)) (out I (2 * p + 1))⟩ :: outStores p

section

variable (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S8192x128 .bf16) (harg4 : arg4.IsWhole) (arg5 : Memref sig .tc .vmem S128x8192 .bf16) (harg5 : arg5.IsWhole) (arg6 : Memref sig .tc .vmem S512x256 .f32) (harg6 : arg6.IsWhole) (arg7 : Memref sig .tc .vmem S4x1x512 .f32) (harg7 : arg7.IsWhole) (arg8 : Memref sig .tc .vmem S2x32x256x256 .f32) (harg8 : arg8.IsWhole) (arg9 : Memref sig .tc .vmem S8x256 .f32) (harg9 : arg9.IsWhole)
  (x0 : Vec F S512x256 .bf16) (x1 : Vec F S512x256 .bf16) (x2 : Vec F S8192x128 .bf16) (x3 : Vec F S128x8192 .bf16) (xs0 : Vec F S2x32x256x256 .f32) (xs1 : Vec F S8x256 .f32)

/-- The queries of a round, read from the buffers. -/
def queries (r : ℕ) : FVec F S256x128 .bf16 :=
  if r < 8 then half r (View.readAt (Elt F) arg2.view (tile r).toLoadRect (harg2.unread x0))
  else half 0 (View.readAt (Elt F) arg3.view (tile 0).toLoadRect (harg3.unread x1))

/-- The rounds without what they find. -/
def bare : Rounds F where
  q := queries arg2 harg2 arg3 harg3 x0 x1
  k r n := View.readAt (Elt F) arg4.view (keys n).toLoadRect (harg4.unread x2)
  v r n := View.readAt (Elt F) arg5.view (vals n).toLoadRect (harg5.unread x3)
  found _ _ := broadcast S1x1x256x256 (Scalar.ofBits .f32 0x00000000#32)
  top := broadcast S8x256 (Scalar.ofBits .f32 0x00000000#32)

/-- The rounds of a point that is not the first. -/
def later : Rounds F :=
  after (bare arg2 harg2 arg3 harg3 arg4 harg4 arg5 harg5 x0 x1 x2 x3) arg8.view
    (fun n => View.readAt (Elt F) arg8.view (slot 0 n).toLoadRect (harg8.unread xs0))
    (View.readAt (Elt F) arg9.view (Rect.unit ![0, 0] S8x256.size inb_S8x256_S8x256_0_0).toLoadRect (harg9.unread xs1))

/-- The stores of the last round's partial maxima. -/
def topStore (r : ℕ) : List (View.Piece (Elt F) S8x256 .f32) :=
  [⟨Rect.unit ![0, 0] S8x256.size inb_S8x256_S8x256_0_0, shapeCast S8x256 (tops (queries arg2 harg2 arg3 harg3 x0 x1 r)
    (fun n => View.readAt (Elt F) arg4.view (keys n).toLoadRect (harg4.unread x2)) 32) shapeCasts_S8x256_S8x256⟩]

/-- The rounds of the first point. -/
def first : Rounds F :=
  opening (bare arg2 harg2 arg3 harg3 arg4 harg4 arg5 harg5 x0 x1 x2 x3) arg8.view
    (arg9.view.readCov (topStore arg2 harg2 arg3 harg3 arg4 harg4 x0 x1 x2 0) (Rect.unit ![0, 0] S8x256.size inb_S8x256_S8x256_0_0).toLoadRect)

theorem later_outs (hc0 : ¬cond0_0 i) :
    (kernelRun0_B c i arg2 harg2 arg3 harg3 arg4 harg4 arg5 harg5 arg6 harg6 arg7 harg7 arg8 harg8 arg9 harg9 hc0 x0 x1 x2 x3 xs0 xs1).1
      = outStores (later arg2 harg2 arg3 harg3 arg4 harg4 arg5 harg5 arg8 harg8 arg9 harg9 x0 x1 x2 x3 xs0 xs1) 4 := by
  sl_kernel_rfl

theorem later_rows (hc0 : ¬cond0_0 i) :
    (kernelRun0_B c i arg2 harg2 arg3 harg3 arg4 harg4 arg5 harg5 arg6 harg6 arg7 harg7 arg8 harg8 arg9 harg9 hc0 x0 x1 x2 x3 xs0 xs1).2.1
      = rowStores (later arg2 harg2 arg3 harg3 arg4 harg4 arg5 harg5 arg8 harg8 arg9 harg9 x0 x1 x2 x3 xs0 xs1) 8 := by
  sl_kernel_rfl

theorem later_slots (hc0 : ¬cond0_0 i) :
    (kernelRun0_B c i arg2 harg2 arg3 harg3 arg4 harg4 arg5 harg5 arg6 harg6 arg7 harg7 arg8 harg8 arg9 harg9 hc0 x0 x1 x2 x3 xs0 xs1).2.2.1
      = stores (bare arg2 harg2 arg3 harg3 arg4 harg4 arg5 harg5 x0 x1 x2 x3) 32 256 := by
  sl_kernel_rfl

theorem later_tops (hc0 : ¬cond0_0 i) :
    (kernelRun0_B c i arg2 harg2 arg3 harg3 arg4 harg4 arg5 harg5 arg6 harg6 arg7 harg7 arg8 harg8 arg9 harg9 hc0 x0 x1 x2 x3 xs0 xs1).2.2.2.1
      = topStore arg2 harg2 arg3 harg3 arg4 harg4 x0 x1 x2 8 := by
  sl_kernel_rfl

theorem first_outs (hc0 : cond0_0 i) :
    (kernelRun0_A c i arg2 harg2 arg3 harg3 arg4 harg4 arg5 harg5 arg6 harg6 arg7 harg7 arg8 harg8 arg9 harg9 hc0 x0 x1 x2 x3).1
      = outStores (first arg2 harg2 arg3 harg3 arg4 harg4 arg5 harg5 arg8 arg9 x0 x1 x2 x3) 4 := by
  sl_kernel_rfl

theorem first_rows (hc0 : cond0_0 i) :
    (kernelRun0_A c i arg2 harg2 arg3 harg3 arg4 harg4 arg5 harg5 arg6 harg6 arg7 harg7 arg8 harg8 arg9 harg9 hc0 x0 x1 x2 x3).2.1
      = rowStores (first arg2 harg2 arg3 harg3 arg4 harg4 arg5 harg5 arg8 arg9 x0 x1 x2 x3) 8 := by
  sl_kernel_rfl

theorem first_slots (hc0 : cond0_0 i) :
    (kernelRun0_A c i arg2 harg2 arg3 harg3 arg4 harg4 arg5 harg5 arg6 harg6 arg7 harg7 arg8 harg8 arg9 harg9 hc0 x0 x1 x2 x3).2.2.1
      = stores (bare arg2 harg2 arg3 harg3 arg4 harg4 arg5 harg5 x0 x1 x2 x3) 0 288 := by
  sl_kernel_rfl

theorem first_tops (hc0 : cond0_0 i) :
    (kernelRun0_A c i arg2 harg2 arg3 harg3 arg4 harg4 arg5 harg5 arg6 harg6 arg7 harg7 arg8 harg8 arg9 harg9 hc0 x0 x1 x2 x3).2.2.2.1
      = topStore arg2 harg2 arg3 harg3 arg4 harg4 x0 x1 x2 8 ++ topStore arg2 harg2 arg3 harg3 arg4 harg4 x0 x1 x2 0 := by
  sl_kernel_rfl

end

end Cert.AfKernelIdeal.Tile

end
-- ==== Proof.GBlock.lean ====
module

public import proofs.«01_k».proof.Proof.GTile
public import proofs.«01_k».proof.Proof.ABlock
public import proofs.«01_k».proof.Proof.FPoint

@[expose] public section

set_option maxRecDepth 16384

noncomputable section

/-! # A point of the grouped-query attention over the reals

The point's queries are `q0`, those of the next tile `q1`, both by row and lane of the group's four heads; the keys `kk` by key
and lane, the values `ww` by lane and key. -/

namespace Cert.AfKernelIdeal.Tile

open Idealize.ShloMosaic Idealize.ShloMosaic.TcCoe Idealize.ShloMosaic.Tactic Idealize.ShloMosaic.Pointwise
open Cert.AfKernelIdeal.Gen Cert.Attn Cert.Reals
open Cert.AKernelIdeal.Tile (lower_word upper_word)
open Cert.BfKernelIdeal.Tile (Rounds score kept tops out lse slot stores row rowStores after opening Holds Fetches byRound score_is kept_apply
  tops32_real cast_top is_rect slot_found top_found rows_at read_stores)

/-- A head's lanes of a row of queries, zero in the other head's. -/
def halfOf (h : ℕ) (f : ℕ → ℕ → ℝ) (y l : ℕ) : ℝ := if l / 64 = h % 2 then f y (128 * (h / 2 % 2) + l) else 0
/-- The score of key `j` in row `y` of a head's queries. -/
def headScore (q kk : ℕ → ℕ → ℝ) (h y j : ℕ) : ℝ := ∑ l : Fin 128, kk j l.val * halfOf h q y l.val

theorem low_apply (r : Fin 256) (l : Fin 128) : low (ix2 r l) = if l.val < 64 then 1#1 else 0#1 := by
  pointwise [low]
  exact lower_word l

theorem high_apply (r : Fin 256) (l : Fin 128) : high (ix2 r l) = if l.val < 64 then 0#1 else 1#1 := by
  pointwise [high]
  exact upper_word l

theorem half_apply (h : ℕ) (x : Vec Ideal S256x128 .bf16) (y : Fin 256) (l : Fin 128) :
    half h x (ix2 y l) = if l.val / 64 = h % 2 then x (ix2 y l) else 0 := by
  have hl := l.isLt
  unfold half
  rcases Nat.mod_two_eq_zero_or_one h with e | e
  · rw [if_pos e, e]
    pointwise
    rw [low_apply]
    by_cases h : l.val < 64
    · rw [if_pos h, if_pos (by omega)]; rfl
    · rw [if_neg h, if_neg (by omega)]; rfl
  · rw [if_neg (by omega), e]
    pointwise
    rw [high_apply]
    by_cases h : l.val < 64
    · rw [if_pos h, if_neg (by omega)]; rfl
    · rw [if_neg h, if_pos (by omega)]; rfl

section

variable (arg2 : Memref sig .tc .vmem S512x256 .bf16) (harg2 : arg2.IsWhole) (arg3 : Memref sig .tc .vmem S512x256 .bf16) (harg3 : arg3.IsWhole)
  (arg4 : Memref sig .tc .vmem S8192x128 .bf16) (harg4 : arg4.IsWhole) (arg5 : Memref sig .tc .vmem S128x8192 .bf16) (harg5 : arg5.IsWhole)
  (arg8 : Memref sig .tc .vmem S2x32x256x256 .f32) (harg8 : arg8.IsWhole) (arg9 : Memref sig .tc .vmem S8x256 .f32) (harg9 : arg9.IsWhole)
  {x0 x1 : Vec Ideal S512x256 .bf16} {x2 : Vec Ideal S8192x128 .bf16} {x3 : Vec Ideal S128x8192 .bf16}
  {xs0 : Vec Ideal S2x32x256x256 .f32} {xs1 : Vec Ideal S8x256 .f32} {q0 q1 kk ww : ℕ → ℕ → ℝ}

theorem queries_is (h0 : Is x0 q0) (ρ : ℕ) (hρ : ρ < 8) :
    Is (queries arg2 harg2 arg3 harg3 x0 x1 ρ) (fun y l => halfOf ρ q0 (256 * (ρ / 4) + y) l) := fun y l => by
  unfold queries halfOf
  rw [if_pos hρ, half_apply]
  beta_reduce
  by_cases h : l.val / 64 = ρ % 2
  · rw [if_pos h, if_pos h]
    refine (harg2.readAt_unread x0 _ _).trans (is_rect h0 _ _ _ _ _ ?_ rfl)
    show 256 * (ρ / 4 % 2) + 1 * y.val = 256 * (ρ / 4) + 1 * y.val
    omega
  · rw [if_neg h, if_neg h]; rfl

theorem queries_next (h1 : Is x1 q1) : Is (queries arg2 harg2 arg3 harg3 x0 x1 8) (halfOf 0 q1) := fun y l => by
  unfold queries halfOf
  rw [if_neg (by decide), half_apply]
  by_cases h : l.val / 64 = 0 % 2
  · rw [if_pos h, if_pos h]
    refine (harg3.readAt_unread x1 _ _).trans ((is_rect h1 0 0 _ y.val l.val rfl rfl).trans ?_)
    rw [Nat.zero_add]
  · rw [if_neg h, if_neg h]; rfl

theorem keys_is (h2 : Is x2 kk) (n : ℕ) (hn : n < 32) : Is (n := 256) (k := 128) (View.readAt (Elt Ideal) arg4.view (keys n).toLoadRect (harg4.unread x2))
    (fun j l => kk (256 * n + j) l) := fun j l => by
  refine (harg4.readAt_unread x2 _ _).trans ((is_rect h2 (256 * n) 0 _ j.val l.val ?_ rfl).trans (by rw [Nat.zero_add]))
  show 256 * (n % 32) + 1 * j.val = 256 * n + 1 * j.val
  omega

theorem vals_is (h3 : Is x3 ww) (n : ℕ) (hn : n < 32) : Is (n := 128) (k := 256) (View.readAt (Elt Ideal) arg5.view (vals n).toLoadRect (harg5.unread x3))
    (fun x j => ww x (256 * n + j)) := fun x j => by
  refine (harg5.readAt_unread x3 _ _).trans ((is_rect h3 0 (256 * n) _ x.val j.val rfl ?_).trans (by rw [Nat.zero_add]))
  show 256 * (n % 32) + 1 * j.val = 256 * n + 1 * j.val
  omega

variable (h0 : Is x0 q0) (h1 : Is x1 q1) (h2 : Is x2 kk) (h3 : Is x3 ww)

include h0 h2 in
theorem kept_is (ρ : ℕ) (hρ : ρ < 8) (n : ℕ) (hn : n < 32) (j y : Fin 256) :
    kept ((bare arg2 harg2 arg3 harg3 arg4 harg4 arg5 harg5 x0 x1 x2 x3).q ρ) ((bare arg2 harg2 arg3 harg3 arg4 harg4 arg5 harg5 x0 x1 x2 x3).k ρ n)
      (ix4 0 0 j y) = (byRound (headScore q0 kk) ρ y.val (256 * n + j.val) : EReal) := by
  refine (kept_apply _ _ j y).trans ((score_is (queries_is arg2 harg2 arg3 harg3 h0 ρ hρ) (keys_is arg4 harg4 h2 n hn) j y).trans ?_)
  unfold byRound headScore halfOf
  rw [show ρ % 4 % 2 = ρ % 2 by omega, show ρ % 4 / 2 % 2 = ρ / 2 % 2 by omega]

include h1 h2 in
theorem kept_next (n : ℕ) (hn : n < 32) (j y : Fin 256) :
    kept ((bare arg2 harg2 arg3 harg3 arg4 harg4 arg5 harg5 x0 x1 x2 x3).q 8) ((bare arg2 harg2 arg3 harg3 arg4 harg4 arg5 harg5 x0 x1 x2 x3).k 8 n)
      (ix4 0 0 j y) = (headScore q1 kk 0 y.val (256 * n + j.val) : EReal) :=
  (kept_apply _ _ j y).trans (score_is (queries_next arg2 harg2 arg3 harg3 (x0 := x0) h1) (keys_is arg4 harg4 h2 n hn) j y)

include h0 h2 in
theorem tops_at (ρ : ℕ) (hρ : ρ < 8) (a : Fin 8) (y : Fin 256) : IsReal (tops (queries arg2 harg2 arg3 harg3 x0 x1 ρ)
    (fun n => View.readAt (Elt Ideal) arg4.view (keys n).toLoadRect (harg4.unread x2)) 32 (ix2 a y)) :=
  tops32_real (queries_is arg2 harg2 arg3 harg3 h0 ρ hρ) (fun n hn => keys_is arg4 harg4 h2 n hn) a y

include h1 h2 in
theorem tops_next (a : Fin 8) (y : Fin 256) : IsReal (tops (queries arg2 harg2 arg3 harg3 x0 x1 8)
    (fun n => View.readAt (Elt Ideal) arg4.view (keys n).toLoadRect (harg4.unread x2)) 32 (ix2 a y)) :=
  tops32_real (queries_next arg2 harg2 arg3 harg3 (x0 := x0) h1) (fun n hn => keys_is arg4 harg4 h2 n hn) a y

include h0 h2 h3 in
theorem fetches : Fetches (bare arg2 harg2 arg3 harg3 arg4 harg4 arg5 harg5 x0 x1 x2 x3) (headScore q0 kk) (fun _ => ww) where
  kept := kept_is arg2 harg2 arg3 harg3 arg4 harg4 arg5 harg5 h0 h2
  tops := tops_at arg2 harg2 arg3 harg3 arg4 harg4 h0 h2
  vals _ _ n hn := vals_is arg5 harg5 h3 n hn

include h0 h2 h3 in
theorem holds_first : Holds (first arg2 harg2 arg3 harg3 arg4 harg4 arg5 harg5 arg8 arg9 x0 x1 x2 x3) (byRound (headScore q0 kk)) (fun _ => ww) :=
  (fetches arg2 harg2 arg3 harg3 arg4 harg4 arg5 harg5 h0 h2 h3).opening arg8.view fun a r => by
    unfold topStore
    rw [View.readCov_full, cast_top]
    exact tops_at arg2 harg2 arg3 harg3 arg4 harg4 h0 h2 0 (by decide) a r

include h0 h2 h3 in
theorem holds_later (hs : ∀ (n : Fin 32) (j r : Fin 256), xs0 (ix4 0 n j r) = (headScore q0 kk 0 r.val (256 * n.val + j.val) : EReal))
    (ht : ∀ a r, IsReal (xs1 (ix2 a r))) :
    Holds (later arg2 harg2 arg3 harg3 arg4 harg4 arg5 harg5 arg8 harg8 arg9 harg9 x0 x1 x2 x3 xs0 xs1) (byRound (headScore q0 kk)) (fun _ => ww) :=
  (fetches arg2 harg2 arg3 harg3 arg4 harg4 arg5 harg5 h0 h2 h3).after arg8.view
    (fun a r => by rw [top_found]; exact ht a r) fun n hn j r => (slot_found xs0 arg8 harg8 n hn j r).trans (hs ⟨n, hn⟩ j r)

end

/-- What a point leaves: means, log-sums, and the first scores and maxima of the next tile. -/
structure Leaves (q0 q1 kk ww : ℕ → ℕ → ℝ) (o : Vec Ideal S512x256 .f32 × Vec Ideal S4x1x512 .f32 × Vec Ideal S2x32x256x256 .f32 × Vec Ideal S8x256 .f32) : Prop where
  out : Is o.1 (fun s d => Soft.o (headScore q0 kk) 0 (d / 64) s (ww (d % 128)))
  lse : ∀ (h : Fin 4) (s : Fin 512), o.2.1 (ix3 h 0 s) = (Soft.lse (headScore q0 kk) 0 h.val s.val : EReal)
  slots : ∀ (n : Fin 32) (j r : Fin 256), o.2.2.1 (ix4 0 n j r) = (headScore q1 kk 0 r.val (256 * n.val + j.val) : EReal)
  tops : ∀ a r, IsReal (o.2.2.2 (ix2 a r))

variable {q0 q1 kk ww : ℕ → ℕ → ℝ}

/-- A place of the output block reads the output of its pair of rounds. -/
theorem read_outs (I : Rounds Ideal) (vw : View sig .tc .vmem S512x256 .f32) (f : vw.ty.Contents (Elt Ideal)) (p : ℕ) (h4 : p < 4) (y : S512x256.Idx)
    (x : S256x128.Idx) (h0 : (y 0).val = 256 * (p / 2) + (x 0).val) (h1 : (y 1).val = 128 * (p % 2) + (x 1).val) :
    ∀ n, p < n → n ≤ 4 → vw.read (Elt Ideal) (vw.writes (Elt Ideal) f (outStores I n)) y = select low (out I (2 * p)) (out I (2 * p + 1)) x := by
  intro n
  induction n with
  | zero => intro h; omega
  | succ n ih =>
    intro hn hm
    have hx0 : (x 0).val < 256 := (x 0).isLt
    have hx1 : (x 1).val < 128 := (x 1).isLt
    by_cases e : n = p
    · subst e
      refine View.read_writes_cons_hit_of_coords vw f (tile (2 * n)) _ _ x y fun a => ?_
      match a with
      | ⟨0, _⟩ => show (y 0).val = 256 * (2 * n / 4 % 2) + 1 * (x 0).val; omega
      | ⟨1, _⟩ => show (y 1).val = 128 * (2 * n / 2 % 2) + 1 * (x 1).val; omega
    · rw [← ih (by omega) (by omega)]
      by_cases ec : n % 2 = p % 2
      · refine View.read_writes_cons_miss_of_axis vw f _ _ y 0 (256 * (2 * n / 4 % 2)) 256 rfl rfl rfl ?_
        omega
      · refine View.read_writes_cons_miss_of_axis vw f _ _ y 1 (128 * (2 * n / 2 % 2)) 128 rfl rfl rfl ?_
        omega

theorem pair_apply (a b : FVec Ideal S256x128 .f32) (r : Fin 256) (x : Fin 128) :
    select low a b (ix2 r x) = if x.val < 64 then a (ix2 r x) else b (ix2 r x) := by
  pointwise
  rw [low_apply]
  by_cases h : x.val < 64
  · rw [if_pos h, if_pos h]; rfl
  · rw [if_neg h, if_neg h]; rfl

theorem outs_at {I : Rounds Ideal} (h : Holds I (byRound (headScore q0 kk)) (fun _ => ww)) (vw : View sig .tc .vmem S512x256 .f32) (f : vw.ty.Contents (Elt Ideal)) :
    Is (n := 512) (k := 256) (vw.read (Elt Ideal) (vw.writes (Elt Ideal) f (outStores I 4)))
      (fun s d => Soft.o (headScore q0 kk) 0 (d / 64) s (ww (d % 128))) := fun s d => by
  have hp : 2 * (s.val / 256) + d.val / 128 < 4 := by omega
  have key : ∀ ρ, ρ < 8 → ρ % 4 = d.val / 64 → ρ / 4 = s.val / 256 → out I ρ (ix2 ⟨s.val % 256, by omega⟩ ⟨d.val % 128, by omega⟩)
      = (Soft.o (headScore q0 kk) 0 (d.val / 64) s.val (ww (d.val % 128)) : EReal) := fun ρ hρ e1 e2 =>
    (h.out_is ρ hρ _ _).trans (congrArg _ (by
      have e3 : 256 * (s.val / 256) + s.val % 256 = s.val := by omega
      simp only [Soft.o, Soft.e, Soft.l, byRound, e1, e2, e3]))
  refine (read_outs I vw f (2 * (s.val / 256) + d.val / 128) hp (ix2 s d) (ix2 ⟨s.val % 256, by omega⟩ ⟨d.val % 128, by omega⟩) ?_ ?_ 4 hp le_rfl).trans ?_
  · show s.val = 256 * ((2 * (s.val / 256) + d.val / 128) / 2) + s.val % 256; omega
  · show d.val = 128 * ((2 * (s.val / 256) + d.val / 128) % 2) + d.val % 128; omega
  · rw [pair_apply]
    by_cases hd : d.val % 128 < 64
    · rw [if_pos hd]
      exact key _ (by omega) (by omega) (by omega)
    · rw [if_neg hd]
      exact key _ (by omega) (by omega) (by omega)

end Cert.AfKernelIdeal.Tile

end
-- ==== Proof.GState.lean ====
module

public import proofs.«01_k».proof.Proof.GBlock

@[expose] public section

set_option maxRecDepth 16384

noncomputable section

/-! # What each point of the grouped-query attention leaves, over the reals

Point `t` is tile `t % 16` of group `t / 16`. -/

namespace Cert.AfKernelIdeal.Tile

open Idealize.ShloMosaic Idealize.ShloMosaic.TcCoe Idealize.ShloMosaic.Tactic Idealize.ShloMosaic.Pointwise
open Cert.AfKernelIdeal.Gen Cert.Attn Cert.Reals
open Cert.BfKernelIdeal.Tile (Rounds kept stores slot rows_at read_stores cast_top)

/-- The region's input arrays over the reals: queries and keys by row and column, values by column and key. -/
structure Arrays where
  Q : ℕ → ℕ → ℝ
  K : ℕ → ℕ → ℝ
  W : ℕ → ℕ → ℝ

namespace Arrays

variable (A : Arrays)

/-- A tile of a group's queries. -/
def rows (g i r d : ℕ) : ℝ := A.Q (512 * i + r) (256 * g + d)
/-- The queries of a point. -/
def tile (t : ℕ) : ℕ → ℕ → ℝ := A.rows (t / 16) (t % 16)
/-- The queries of the tile after a point's. -/
def next (t : ℕ) : ℕ → ℕ → ℝ := A.rows (t / 16) (min (t % 16 + 1) 15)
/-- The keys of a group. -/
def key (g j l : ℕ) : ℝ := A.K j (128 * g + l)
/-- The values of a group. -/
def val (g x j : ℕ) : ℝ := A.W (128 * g + x) j
/-- The scores of a group's heads. -/
def scores (g : ℕ) : ℕ → ℕ → ℕ → ℝ := headScore (A.rows g 0) (A.key g)
/-- The output, by row and column. -/
def o (s d : ℕ) : ℝ := Soft.o (A.scores (d / 256)) 0 (d % 256 / 64) s (A.val (d / 256) (d % 128))
/-- The log-sums, by head and row. -/
def lse (h s : ℕ) : ℝ := Soft.lse (A.scores (h / 4)) 0 (h % 4) s

end Arrays

theorem index_in : ∀ t : Fin grid0.N, (win0_0.index t 0 = t.val % 16 ∧ win0_0.index t 1 = t.val / 16)
    ∧ (win0_1.index t 0 = min (t.val % 16 + 1) 15 ∧ win0_1.index t 1 = t.val / 16)
    ∧ (win0_2.index t 0 = 0 ∧ win0_2.index t 1 = t.val / 16) ∧ (win0_3.index t 0 = t.val / 16 ∧ win0_3.index t 1 = 0) := by decide +kernel

variable (m : (ℓ : Loc nD τ sig) → Buf (Elt Ideal) ℓ) (c : Dev nD)

/-- The arrays the region reads are these real ones. -/
structure Reads (A : Arrays) : Prop where
  qs : Is (n := 8192) (k := 512) (V m c main_v4) A.Q
  ks : Is (n := 8192) (k := 256) (V m c main_v14) A.K
  vs : Is (n := 256) (k := 8192) (V m c main_v25) A.W

variable {m c} {A : Arrays} (h : Reads m c A) (t : Fin cfg0.N)

include h

theorem blkQ : Is (n := 512) (k := 256) (iblk m c 0 t) (A.tile t.val) := fun r d => by
  refine (h.qs.at (((cfg0.win 0).blk t).view.emb (ix2 r d))).trans ?_
  show (A.Q (win0_0.index t 0 * 512 + 1 * r.val) (win0_0.index t 1 * 256 + 1 * d.val) : EReal)
    = (A.Q (512 * (t.val % 16) + r.val) (256 * (t.val / 16) + d.val) : EReal)
  rw [(index_in t).1.1, (index_in t).1.2]
  ring_nf
theorem blkN : Is (n := 512) (k := 256) (iblk m c 1 t) (A.next t.val) := fun r d => by
  refine (h.qs.at (((cfg0.win 1).blk t).view.emb (ix2 r d))).trans ?_
  show (A.Q (win0_1.index t 0 * 512 + 1 * r.val) (win0_1.index t 1 * 256 + 1 * d.val) : EReal)
    = (A.Q (512 * min (t.val % 16 + 1) 15 + r.val) (256 * (t.val / 16) + d.val) : EReal)
  rw [(index_in t).2.1.1, (index_in t).2.1.2]
  ring_nf
theorem blkK : Is (n := 8192) (k := 128) (iblk m c 2 t) (A.key (t.val / 16)) := fun r d => by
  refine (h.ks.at (((cfg0.win 2).blk t).view.emb (ix2 r d))).trans ?_
  show (A.K (win0_2.index t 0 * 8192 + 1 * r.val) (win0_2.index t 1 * 128 + 1 * d.val) : EReal) = (A.K r.val (128 * (t.val / 16) + d.val) : EReal)
  rw [(index_in t).2.2.1.1, (index_in t).2.2.1.2]
  ring_nf
theorem blkV : Is (n := 128) (k := 8192) (iblk m c 3 t) (A.val (t.val / 16)) := fun r d => by
  refine (h.vs.at (((cfg0.win 3).blk t).view.emb (ix2 r d))).trans ?_
  show (A.W (win0_3.index t 0 * 128 + 1 * r.val) (win0_3.index t 1 * 8192 + 1 * d.val) : EReal) = (A.W (128 * (t.val / 16) + r.val) d.val : EReal)
  rw [(index_in t).2.2.2.1, (index_in t).2.2.2.2]
  ring_nf

omit h in
/-- The scratch's slot 0 after a point. -/
theorem slots_at {I : Rounds Ideal} (b n : ℕ) (hb : b ≤ 256) (hn : b + n = 288) (v : Fin 32) (j r : Fin 256) :
    VS0_0.read (Elt Ideal) (VS0_0.writes (Elt Ideal) VS0_0.junk (stores I b n)) (ix4 0 v j r) = kept (I.q 8) (I.k 8 v.val) (ix4 0 0 j r) :=
  read_stores I VS0_0 VS0_0.junk b 8 v.val v.isLt (by omega) (ix4 0 v j r) (ix4 0 0 j r) rfl rfl rfl rfl n (by omega) (by omega)

theorem leaves_first (h0 : t.val % 16 = 0) :
    Leaves (A.tile t.val) (A.next t.val) (A.key (t.val / 16)) (A.val (t.val / 16)) (outsAt0 m c t.val t.isLt) := by
  have H := holds_first (ms0_0 t) (hs0_0 t) (ms0_1 t) (hs0_1 t) (ms0_2 t) (hs0_2 t) (ms0_3 t) (hs0_3 t) scM0_0 scM0_1 (x1 := iblk m c 1 t)
    (blkQ h t) (blkK h t) (blkV h t)
  rw [outsAt0_A m c t h0]
  refine ⟨?_, ?_, ?_, ?_⟩
  · dsimp only
    unfold out0_A_4
    rw [first_outs]
    exact outs_at H _ _
  · dsimp only
    unfold out0_A_5
    rw [first_rows]
    exact rows_at H _ _
  · dsimp only
    unfold sout0_A_0
    rw [first_slots]
    exact fun n j r => (slots_at 0 288 (by omega) rfl n j r).trans (kept_next _ _ _ _ _ _ _ _ (blkN h t) (blkK h t) n.val n.isLt j r)
  · dsimp only
    unfold sout0_A_1
    rw [first_tops]
    unfold topStore
    rw [List.cons_append, View.read_writes_full, cast_top]
    exact tops_next _ _ _ _ _ _ (blkN h t) (blkK h t)

theorem leaves_later (h0 : ¬t.val % 16 = 0) (hp : Leaves (A.tile (t.val - 1)) (A.tile t.val) (A.key (t.val / 16)) (A.val (t.val / 16))
    (outsAt0 m c (t.val - 1) (Nat.lt_of_le_of_lt (Nat.sub_le _ _) t.isLt))) :
    Leaves (A.tile t.val) (A.next t.val) (A.key (t.val / 16)) (A.val (t.val / 16)) (outsAt0 m c t.val t.isLt) := by
  have H := holds_later (ms0_0 t) (hs0_0 t) (ms0_1 t) (hs0_1 t) (ms0_2 t) (hs0_2 t) (ms0_3 t) (hs0_3 t) scM0_0 (Memref.isWhole_whole _)
    scM0_1 (Memref.isWhole_whole _) (x1 := iblk m c 1 t) (blkQ h t) (blkK h t) (blkV h t) hp.slots hp.tops
  rw [outsAt0_B m c t h0]
  refine ⟨?_, ?_, ?_, ?_⟩
  · dsimp only
    unfold out0_B_4
    rw [later_outs]
    exact outs_at H _ _
  · dsimp only
    unfold out0_B_5
    rw [later_rows]
    exact rows_at H _ _
  · dsimp only
    unfold sout0_B_0
    rw [later_slots]
    exact fun n j r => (slots_at 32 256 (by omega) rfl n j r).trans (kept_next _ _ _ _ _ _ _ _ (blkN h t) (blkK h t) n.val n.isLt j r)
  · dsimp only
    unfold sout0_B_1
    rw [later_tops]
    unfold topStore
    rw [View.read_writes_full, cast_top]
    exact tops_next _ _ _ _ _ _ (blkN h t) (blkK h t)

theorem leaves_at : ∀ (n : ℕ) (hn : n < cfg0.N), Leaves (A.tile n) (A.next n) (A.key (n / 16)) (A.val (n / 16)) (outsAt0 m c n hn) := by
  intro n
  induction n with
  | zero => exact fun hn => leaves_first h ⟨0, hn⟩ rfl
  | succ n ih =>
    intro hn
    by_cases e : (n + 1) % 16 = 0
    · exact leaves_first h ⟨n + 1, hn⟩ e
    · have := ih (Nat.lt_of_succ_lt hn)
      rw [show A.next n = A.tile (n + 1) by
          unfold Arrays.next Arrays.tile
          rw [show (n + 1) / 16 = n / 16 by omega, show (n + 1) % 16 = min (n % 16 + 1) 15 by omega],
        show n / 16 = (n + 1) / 16 by omega] at this
      exact leaves_later h ⟨n + 1, hn⟩ e this

/-! ## The arrays the region leaves -/

omit h in
theorem index_out : ∀ t : Fin grid0.N, (win0_4.index t 0 = t.val % 16 ∧ win0_4.index t 1 = t.val / 16)
    ∧ (win0_5.index t 0 = t.val / 16 ∧ win0_5.index t 1 = 0 ∧ win0_5.index t 2 = t.val % 16) := by decide +kernel

omit h in
theorem tile_score (t s j : ℕ) (hh : ℕ) : headScore (A.tile t) (A.key (t / 16)) hh s j = A.scores (t / 16) hh (512 * (t % 16) + s) j := by
  unfold Arrays.scores headScore halfOf Arrays.tile Arrays.rows
  simp only [Nat.mul_zero, Nat.zero_add]

/-- The point that leaves a row of a group. -/
def pointOf (g : Fin 2) (s : Fin 8192) : Fin cfg0.N := ⟨16 * g.val + s.val / 512, by rw [show cfg0.N = 32 from N_0]; omega⟩

theorem arr4 : (dats m 0 c).arrAt 4 cfg0.N = fun i : S8192x512.Idx => (A.o (i 0).val (i 1).val : EReal) :=
  (dats m 0 c).arrAt_eq_of_cover 4 _ (fun t hf => by
    show (cfg0.win 4).cut (grid0.coords t) ((dats m 0 c).after 4 t) = _
    rw [after0_4]
    funext y
    rw [View.read_apply]
    refine ((leaves_at h t.val t.isLt).out.at y).trans (congrArg _ ?_)
    have h1 : (y 1).val < 256 := (y 1).isLt
    show Soft.o (headScore (A.tile t.val) (A.key (t.val / 16))) 0 ((y 1).val / 64) (y 0).val (A.val (t.val / 16) ((y 1).val % 128))
      = A.o (win0_4.index t 0 * 512 + 1 * (y 0).val) (win0_4.index t 1 * 256 + 1 * (y 1).val)
    rw [(index_out t).1.1, (index_out t).1.2]
    clear hf
    generalize t.val = n
    generalize (y 1).val = d at h1 ⊢
    generalize (y 0).val = s
    unfold Arrays.o
    rw [show n % 16 * 512 + 1 * s = 512 * (n % 16) + s by omega, show (n / 16 * 256 + 1 * d) / 256 = n / 16 by omega,
      show (n / 16 * 256 + 1 * d) % 256 / 64 = d / 64 by omega, show (n / 16 * 256 + 1 * d) % 128 = d % 128 by omega]
    simp only [Soft.o, Soft.e, Soft.l, tile_score]) fun i => by
    have hb : (i 1).val / 256 < 2 := by have : (i 1).val < 512 := (i 1).isLt; omega
    exact ⟨pointOf ⟨(i 1).val / 256, hb⟩ (i 0), flush0_4 _, by
      have h1 : (i 1).val < 512 := (i 1).isLt
      have hr : (i 0).val < 8192 := (i 0).isLt
      show i ∈ ((View.whole main_v26_0).slice (win0_4.rect (pointOf ⟨(i 1).val / 256, hb⟩ (i 0)))).set
      rw [View.set_slice_whole, Rect.mem_set_unit]
      generalize hg : (⟨(i 1).val / 256, hb⟩ : Fin 2) = g
      have hg' : (i 1).val / 256 = g.val := congrArg Fin.val hg
      have e : win0_4.index (pointOf g (i 0)) 0 * 512 ≤ (i 0).val ∧ (i 0).val < win0_4.index (pointOf g (i 0)) 0 * 512 + 512 := by
        rw [(index_out _).1.1]
        show (16 * g.val + (i 0).val / 512) % 16 * 512 ≤ (i 0).val ∧ (i 0).val < (16 * g.val + (i 0).val / 512) % 16 * 512 + 512
        clear hg hg' h1
        exact ⟨by omega, by omega⟩
      have e' : win0_4.index (pointOf g (i 0)) 1 * 256 ≤ (i 1).val ∧ (i 1).val < win0_4.index (pointOf g (i 0)) 1 * 256 + 256 := by
        rw [(index_out _).1.2]
        show (16 * g.val + (i 0).val / 512) / 16 * 256 ≤ (i 1).val ∧ (i 1).val < (16 * g.val + (i 0).val / 512) / 16 * 256 + 256
        clear e hg h1
        exact ⟨by omega, by omega⟩
      exact fun a => match a with
        | ⟨0, _⟩ => e
        | ⟨1, _⟩ => e'⟩

theorem arr5 : (dats m 0 c).arrAt 5 cfg0.N = fun i : S8x1x8192.Idx => (A.lse (i 0).val (i 2).val : EReal) :=
  (dats m 0 c).arrAt_eq_of_cover 5 _ (fun t hf => by
    show (cfg0.win 5).cut (grid0.coords t) ((dats m 0 c).after 5 t) = _
    rw [after0_5]
    funext y
    rw [View.read_apply]
    have hy : y = ix3 (y 0) 0 (y 2) := funext fun a => match a with
      | ⟨0, _⟩ => rfl
      | ⟨1, _⟩ => Fin.ext (by show (y 1).val = 0; have : (y 1).val < 1 := (y 1).isLt; omega)
      | ⟨2, _⟩ => rfl
    refine (congrArg (outsAt0 m c t.val t.isLt).2.1 hy).trans (((leaves_at h t.val t.isLt).lse (y 0) (y 2)).trans (congrArg _ ?_))
    have h0 : (y 0).val < 4 := (y 0).isLt
    show Soft.lse (headScore (A.tile t.val) (A.key (t.val / 16))) 0 (y 0).val (y 2).val
      = A.lse (win0_5.index t 0 * 4 + 1 * (y 0).val) (win0_5.index t 2 * 512 + 1 * (y 2).val)
    rw [(index_out t).2.1, (index_out t).2.2.2]
    clear hf hy
    generalize t.val = n
    generalize (y 0).val = k at h0 ⊢
    generalize (y 2).val = s
    unfold Arrays.lse
    rw [show n % 16 * 512 + 1 * s = 512 * (n % 16) + s by omega, show (n / 16 * 4 + 1 * k) / 4 = n / 16 by omega,
      show (n / 16 * 4 + 1 * k) % 4 = k by omega]
    simp only [Soft.lse, Soft.e, Soft.l, tile_score]) fun i => by
    have hb : (i 0).val / 4 < 2 := by have : (i 0).val < 8 := (i 0).isLt; omega
    exact ⟨pointOf ⟨(i 0).val / 4, hb⟩ (i 2), flush0_5 _, by
      have h0 : (i 0).val < 8 := (i 0).isLt
      have hr : (i 2).val < 8192 := (i 2).isLt
      have h1 : (i 1).val < 1 := (i 1).isLt
      show i ∈ ((View.whole main_v26_1).slice (win0_5.rect (pointOf ⟨(i 0).val / 4, hb⟩ (i 2)))).set
      rw [View.set_slice_whole, Rect.mem_set_unit]
      generalize hg : (⟨(i 0).val / 4, hb⟩ : Fin 2) = g
      have hg' : (i 0).val / 4 = g.val := congrArg Fin.val hg
      have e : win0_5.index (pointOf g (i 2)) 0 * 4 ≤ (i 0).val ∧ (i 0).val < win0_5.index (pointOf g (i 2)) 0 * 4 + 4 := by
        rw [(index_out _).2.1]
        show (16 * g.val + (i 2).val / 512) / 16 * 4 ≤ (i 0).val ∧ (i 0).val < (16 * g.val + (i 2).val / 512) / 16 * 4 + 4
        clear hg h0 h1
        exact ⟨by omega, by omega⟩
      have e' : win0_5.index (pointOf g (i 2)) 1 * 1 ≤ (i 1).val ∧ (i 1).val < win0_5.index (pointOf g (i 2)) 1 * 1 + 1 := by
        rw [(index_out _).2.2.1]
        clear e hg hg' h0
        exact ⟨by omega, by omega⟩
      have e'' : win0_5.index (pointOf g (i 2)) 2 * 512 ≤ (i 2).val ∧ (i 2).val < win0_5.index (pointOf g (i 2)) 2 * 512 + 512 := by
        rw [(index_out _).2.2.2]
        show (16 * g.val + (i 2).val / 512) % 16 * 512 ≤ (i 2).val ∧ (i 2).val < (16 * g.val + (i 2).val / 512) % 16 * 512 + 512
        clear e e' hg hg' h0 h1
        exact ⟨by omega, by omega⟩
      exact fun a => match a with
        | ⟨0, _⟩ => e
        | ⟨1, _⟩ => e'
        | ⟨2, _⟩ => e''⟩

end Cert.AfKernelIdeal.Tile

end
-- ==== Proof.GHost.lean ====
module

public import proofs.«01_k».proof.Proof.GState
public import proofs.«01_k».proof.Proof.AHost

@[expose] public section

set_option maxRecDepth 16384

noncomputable section

/-! # The arrays the grouped-query attention's forward pass reads, from the arguments -/

namespace Cert.AfKernelIdeal.Tile

open Idealize.ShloMosaic Idealize.ShloMosaic.TcCoe Idealize.ShloMosaic.Tactic Idealize.ShloMosaic.Pointwise
open Cert.AfKernelIdeal Cert.AfKernelIdeal.Gen Cert.Attn Cert.Reals
open Cert.AKernelIdeal.Tile (twice twice_at)

variable (m : (ℓ : Loc nD τ sig) → Buf (Elt Ideal) ℓ) (c : Dev nD)

abbrev argQ : FVec Ideal S8x8192x64 .f32 := m ((c : Thread nD τ).loc main_arg0)
abbrev argK : FVec Ideal S2x8192x64 .f32 := m ((c : Thread nD τ).loc main_arg1)
abbrev argV : FVec Ideal S2x8192x64 .f32 := m ((c : Thread nD τ).loc main_arg2)

theorem V_q (s : Fin 8192) (d : Fin 512) : (V m c main_v4 : S8192x512.Idx → EReal) (ix2 s d)
    = argQ m c (ix3 ⟨d.val / 64, by omega⟩ s ⟨d.val % 64, by omega⟩) * ((1 / 8 : ℝ) : EReal) := by
  have h : V m c main_v4 = (truncf .bf16 (shapeCast S8192x512 (transpose S8192x8x64 [1, 0, 2] (mulf (argQ m c)
      (broadcastInDim S8x8192x64 ![] bcast_S_S8x8192x64 (constant S_ .f32 0x3E000000#32))) transposes_S8x8192x64_S8192x8x64_1_0_2)
      shapeCasts_S8192x8x64_S8192x512) bitsLt_bf16_f32 : FVec Ideal S8192x512 .bf16) := by
    show StableHlo.after (List.flatten [hostOps0]) (fun b => m (c, b)) (Proc.devRef .tc main_v4) = _
    simp only [List.flatten_cons, List.flatten_nil, List.append_nil]
    after_results
    rfl
  rw [h]
  pointwise
  rw [word_eighth]

theorem V_k (j : Fin 8192) (d : Fin 256) : (V m c main_v14 : S8192x256.Idx → EReal) (ix2 j d)
    = argK m c (ix3 ⟨d.val / 128, by omega⟩ j ⟨d.val % 64, by omega⟩) := by
  have h : V m c main_v14 = (truncf .bf16 (twice (argK m c)) bitsLt_bf16_f32 : FVec Ideal S8192x256 .bf16) := by
    show StableHlo.after (List.flatten [hostOps0]) (fun b => m (c, b)) (Proc.devRef .tc main_v14) = _
    simp only [List.flatten_cons, List.flatten_nil, List.append_nil]
    unfold twice
    after_results
    rfl
  rw [h]
  exact twice_at _ j d

theorem V_v (d : Fin 256) (j : Fin 8192) : (V m c main_v25 : S256x8192.Idx → EReal) (ix2 d j)
    = argV m c (ix3 ⟨d.val / 128, by omega⟩ j ⟨d.val % 64, by omega⟩) := by
  have h : V m c main_v25 = (truncf .bf16 (transpose S256x8192 [1, 0] (twice (argV m c)) transposes_S8192x256_S256x8192_1_0)
      bitsLt_bf16_f32 : FVec Ideal S256x8192 .bf16) := by
    show StableHlo.after (List.flatten [hostOps0]) (fun b => m (c, b)) (Proc.devRef .tc main_v25) = _
    simp only [List.flatten_cons, List.flatten_nil, List.append_nil]
    unfold twice
    after_results
    rfl
  have key : ∀ x : FVec Ideal S8192x256 .f32, truncf .bf16 (transpose S256x8192 [1, 0] x transposes_S8192x256_S256x8192_1_0)
      bitsLt_bf16_f32 (ix2 d j) = x (ix2 j d) := fun x => by pointwise
  rw [h, key]
  exact twice_at _ j d

end Cert.AfKernelIdeal.Tile

end
-- ==== Proof.GValue.lean ====
module

public import proofs.«01_k».proof.Proof.GHost

@[expose] public section

set_option maxRecDepth 16384

noncomputable section

/-! # The grouped-query attention's forward run: output and log-sums, and the arguments unchanged -/

namespace Cert.AfKernelIdeal.Whole

open Cert.AfKernelIdeal Cert.AfKernelIdeal.Gen Cert.AfKernelIdeal.Tile Cert.Attn Cert.Reals
open Idealize.ShloMosaic Idealize.ShloMosaic.TcCoe Idealize.SL.Sem Idealize.ShloMosaic.Pointwise Idealize.ShloMosaic.StableHlo
open Idealize.ShloMosaic.Pipeline (Dat)
open Cert.AKernelIdeal.Tile (sum_half)

/-- The region's arrays for these arguments. -/
def ofInput (I : Input) : Arrays where
  Q s d := I.q (d / 64) s (d % 64) * (1 / 8)
  K j d := I.k (d / 128) j (d % 64)
  W d j := I.v (d / 128) j (d % 64)

theorem score_eq (I : Input) (g hh s j : ℕ) (h4 : hh < 4) : (ofInput I).scores g hh s j = I.score (4 * g + hh) s j := by
  have key : ∀ l : Fin 128, (ofInput I).key g j l.val * halfOf hh ((ofInput I).rows g 0) s l.val
      = if l.val / 64 = hh % 2 then I.q (4 * g + hh) s (l.val % 64) * I.k g j (l.val % 64) * (1 / 8) else 0 := fun l => by
    have hl := l.isLt
    unfold halfOf
    by_cases h : l.val / 64 = hh % 2
    · rw [if_pos h, if_pos h]
      show I.k ((128 * g + l.val) / 128) j ((128 * g + l.val) % 64) * (I.q ((256 * g + (128 * (hh / 2 % 2) + l.val)) / 64) (512 * 0 + s)
        ((256 * g + (128 * (hh / 2 % 2) + l.val)) % 64) * (1 / 8)) = _
      rw [show (128 * g + l.val) / 128 = g by omega, show (128 * g + l.val) % 64 = l.val % 64 by omega,
        show (256 * g + (128 * (hh / 2 % 2) + l.val)) / 64 = 4 * g + hh by omega,
        show (256 * g + (128 * (hh / 2 % 2) + l.val)) % 64 = l.val % 64 by omega, show 512 * 0 + s = s by omega]
      ring
    · rw [if_neg h, if_neg h, mul_zero]
  unfold Arrays.scores headScore Input.score
  rw [Finset.sum_congr rfl fun l _ => key l, sum_half (hh % 2) (by omega) fun x => I.q (4 * g + hh) s x * I.k g j x * (1 / 8),
    Finset.sum_mul, show (4 * g + hh) / 4 = g by omega]

theorem o_eq (I : Input) (s d : ℕ) : (ofInput I).o s d = I.o 0 (d / 64) s (d % 64) := by
  have e := fun j => score_eq I (d / 256) (d % 256 / 64) s j (by omega)
  rw [show 4 * (d / 256) + d % 256 / 64 = d / 64 by omega] at e
  have ev : ∀ j, (ofInput I).val (d / 256) (d % 128) j = I.v (d / 64 / 4) j (d % 64) := fun j => by
    show I.v ((128 * (d / 256) + d % 128) / 128) j ((128 * (d / 256) + d % 128) % 64) = _
    rw [show (128 * (d / 256) + d % 128) / 128 = d / 64 / 4 by omega, show (128 * (d / 256) + d % 128) % 64 = d % 64 by omega]
  unfold Arrays.o Input.o Input.l Input.e Soft.o Soft.l Soft.e
  simp only [e, ev]

theorem lse_eq (I : Input) (h s : ℕ) : (ofInput I).lse h s = I.lse 0 h s := by
  have e := fun j => score_eq I (h / 4) (h % 4) s j (by omega)
  rw [show 4 * (h / 4) + h % 4 = h by omega] at e
  unfold Arrays.lse Input.lse Input.l Input.e Soft.lse Soft.l Soft.e
  simp only [e]

theorem tail_l (V : Valuation τ sig (Elt Ideal)) : StableHlo.after [hostOps1].flatten V (Proc.devRef .tc main_v27)
    = (shapeCast S8x8192 (V (Proc.devRef .tc main_v26_1) : FVec Ideal S8x1x8192 .f32) shapeCasts_S8x1x8192_S8x8192 : FVec Ideal S8x8192 .f32) := by
  simp only [List.flatten_cons, List.flatten_nil, List.append_nil]
  after_results
  rfl

theorem flat_apply (x : FVec Ideal S8x1x8192 .f32) (h : Fin 8) (s : Fin 8192) :
    shapeCast S8x8192 x shapeCasts_S8x1x8192_S8x8192 (ix2 h s) = x (ix3 h 0 s) := by pointwise

variable {m : (ℓ : Loc nD τ sig) → Buf (Elt Ideal) ℓ} {c : Dev nD} {I : Input}

/-- The arrays the region reads, when the arguments hold real numbers. -/
theorem reads (h : Holds I (argQ m c) (argK m c) (argV m c) fun _ => 0) : Reads m c (ofInput I) where
  qs r d := (V_q m c r d).trans (by rw [h.q, ← EReal.coe_mul]; rfl)
  ks j d := (V_k m c j d).trans (by rw [h.k]; rfl)
  vs d j := (V_v m c d j).trans (by rw [h.v]; rfl)

theorem run (m : (ℓ : Loc nD τ sig) → Buf (Elt Ideal) ℓ) (ρ : Dev nD → PrngReg) (I : Dev nD → Input)
    (h : ∀ c, Holds (I c) (argQ m c) (argK m c) (argV m c) fun _ => 0) :
    θ_run defs (onTc (τ := τ) (main (F := Ideal))) ⟨m, fun _ => 0, ρ⟩ fun r => ∀ c : Dev nD,
      r.2.mem ((c.tc : Thread nD τ).loc main_v26_0) = (fun i : S8192x512.Idx => ((I c).o 0 ((i 1).val / 64) (i 0).val ((i 1).val % 64) : EReal))
      ∧ r.2.mem ((c.tc : Thread nD τ).loc main_v27) = (fun i : S8x8192.Idx => ((I c).lse 0 (i 0).val (i 1).val : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r hr c => by
    have H := reads (h c)
    refine ⟨((hr.1 c).1 4).trans ((arr4 H).trans (funext fun i => congrArg _ ?_)),
      ((hr.1 c).2 main_v27 (Pipeline.mem_restRefs_of main_v27 (by decide) (by decide))).trans ((tail_l _).trans
        ((congrArg (fun x : FVec Ideal S8x1x8192 .f32 => shapeCast S8x8192 x shapeCasts_S8x1x8192_S8x8192)
          (((dats m 0 c).withArrays_arrAt sharedIn0 (V0 m c) (A_eq m c) 5).trans (arr5 H))).trans (funext fun i => ?_))), hr.2.1 c⟩
    · exact o_eq (I c) _ _
    · have e : i = ix2 (i 0) (i 1) := funext fun a => match a with
        | ⟨0, _⟩ => rfl
        | ⟨1, _⟩ => rfl
      exact (congrArg _ e).trans ((flat_apply _ (i 0) (i 1)).trans (congrArg _ (lse_eq (I c) _ _))))
    (θ_run_and (run_main m ρ) (frame m ρ))

end Cert.AfKernelIdeal.Whole

end
-- ==== Proof.FRef.lean ====
module

public import proofs.«01_k».proof.Proof.AttnArgs
public import proofs.«01_k».proof.Proof.Gen.BfReferenceIdeal.Read

@[expose] public section

set_option maxRecDepth 16384

noncomputable section

/-! # The reference's output and log-sums over the reals -/

namespace Cert.BfReferenceIdeal.Forward

open Cert.BfReferenceIdeal Cert.BfReferenceIdeal.Gen Cert.BfReferenceIdeal.Read Cert.Attn Cert.Reals
open Idealize.ShloMosaic Idealize.ShloMosaic.Pointwise

/-- A row's scores shifted and exponentiated. -/
theorem exp_apply (x : FVec Ideal S4x1x8192x8192 .f32) (y : FVec Ideal S4x1x8192 .f32) (g : Fin 4) (s j : Fin 8192) :
    Host.exp (subf x (broadcastInDim S4x1x8192x8192 ![0, 1, 2, 3] bcast_S4x1x8192x1_S4x1x8192x8192_0_1_2_3
      (broadcastInDim S4x1x8192x1 ![0, 1, 2] bcast_S4x1x8192_S4x1x8192x1_0_1_2 y))) (ix4 g 0 s j)
      = Ideal.exp (x (ix4 g 0 s j) - y (ix3 g 0 s)) := by pointwise

theorem max_apply (x : FVec Ideal S4x1x8192 .f32) (g : Fin 4) (s : Fin 8192) :
    maximumf (broadcastInDim S4x1x8192 ![] bcast_S_S4x1x8192 (constant S_ .f32 0xFF800000#32)) x (ix3 g 0 s)
      = max (Ideal.ofBits .f32 0xFF800000#32) (x (ix3 g 0 s)) := by pointwise

variable {x0 x1 : FVec Ideal S4x8192x96 .f32} {x2 : FVec Ideal S4x8192x128 .f32} {d : D2.Idx → EReal} {I : Wide}
  (h : WideHolds I x0 x1 x2 d)

include h

theorem score_is (g : Fin 4) (s j : Fin 8192) :
    val_main_v3 (F := Ideal) x0 x1 (ix4 g 0 s j) = (I.score g.val s.val j.val : EReal) := by
  pointwise [val_main_v3, val_main_v2, val_main_v1, val_main_v0, val_main_cst]
  rw [word_scale]
  unfold Wide.score
  rw [EReal.coe_mul, coe_sum, h.b]
  refine congrArg (· * _) (Finset.sum_congr rfl fun x _ => ?_)
  rw [h.q, h.k, EReal.coe_mul]
  rfl

omit h in
/-- The scores are computed twice. -/
theorem again : val_main_v7 (F := Ideal) x0 x1 = val_main_v3 (F := Ideal) x0 x1 := rfl

theorem top_real (g : Fin 4) (s : Fin 8192) : IsReal (val_main_v10 (F := Ideal) x0 x1 (ix3 g 0 s)) := by
  have hs : IsReal (val_main_v8 (F := Ideal) x0 x1 (ix3 g 0 s)) :=
    reduce_top (val_main_v7 (F := Ideal) x0 x1) (fun i => by
      have := (congrFun again _).trans (score_is h (i 0) (i 2) (i 3))
      rw [show i = ix4 (i 0) 0 (i 2) (i 3) from funext fun a => match a with
        | ⟨0, _⟩ => rfl
        | ⟨1, _⟩ => Fin.ext (by show (i 1).val = 0; have : (i 1).val < 1 := (i 1).isLt; omega)
        | ⟨2, _⟩ => rfl
        | ⟨3, _⟩ => rfl]
      exact ⟨_, this⟩) h_S_ reducesTo_S4x1x8192x8192_S4x1x8192_d3 (by decide) (by decide) _
  unfold val_main_v10 val_main_v9 val_main_cst_2
  rw [max_apply, word_bot, max_bot_left]
  exact hs

theorem outs_is (s : Fin 8192) (x : Fin 512) :
    val_main_v22 (F := Ideal) x0 x1 x2 (ix2 s x) = (I.o 0 (x.val / 128) s.val (x.val % 128) : EReal) := by
  have hg : x.val / 128 < 4 := by omega
  obtain ⟨M, hM⟩ := top_real h ⟨x.val / 128, hg⟩ s
  have he : ∀ j : Fin 8192, val_main_v14 (F := Ideal) x0 x1 (ix4 ⟨x.val / 128, hg⟩ 0 s j) = (I.e M (x.val / 128) s.val j.val : EReal) := fun j => by
    unfold val_main_v14 val_main_v13 val_main_v12 val_main_v11
    rw [exp_apply, again, score_is h, hM, ← EReal.coe_sub, Ideal.exp_coe]
    rfl
  have kl : ∀ e : FVec Ideal S4x1x8192x8192 .f32, Host.reduceAdd e (val_main_cst_3 (F := Ideal)) reducesTo_S4x1x8192x8192_S4x1x8192_d3 h_S_ (ix3 ⟨x.val / 128, hg⟩ 0 s)
      = ∑ j : Fin 8192, e (ix4 ⟨x.val / 128, hg⟩ 0 s j) := fun e => by pointwise [val_main_cst_3]
  have hl : val_main_v15 (F := Ideal) x0 x1 (ix3 ⟨x.val / 128, hg⟩ 0 s) = (I.l M (x.val / 128) s.val : EReal) := by
    unfold val_main_v15
    rw [kl]
    unfold Wide.l Soft.l
    rw [coe_sum]
    exact Finset.sum_congr rfl fun j _ => he j
  have key : ∀ (e : FVec Ideal S4x1x8192x8192 .f32) (l : FVec Ideal S4x1x8192 .f32) (v : FVec Ideal S4x8192x128 .f32),
      shapeCast S8192x512 (transpose S8192x4x128 [1, 0, 2] (shapeCast S4x8192x128 (Host.dotGeneral dot_S4x1x8192x8192_S4x8192x128_S4x1x8192x128_3_1_12_2_0_0 none
        (Host.divf e (broadcastInDim S4x1x8192x8192 ![0, 1, 2, 3] bcast_S4x1x8192x1_S4x1x8192x8192_0_1_2_3
          (broadcastInDim S4x1x8192x1 ![0, 1, 2] bcast_S4x1x8192_S4x1x8192x1_0_1_2 l))) v) shapeCasts_S4x1x8192x128_S4x8192x128)
        transposes_S4x8192x128_S8192x4x128_1_0_2) shapeCasts_S8192x4x128_S8192x512 (ix2 s x)
      = ∑ j : Fin 8192, Ideal.div (e (ix4 ⟨x.val / 128, hg⟩ 0 s j)) (l (ix3 ⟨x.val / 128, hg⟩ 0 s)) * v (ix3 ⟨x.val / 128, hg⟩ j ⟨x.val % 128, by omega⟩) :=
    fun e l v => by pointwise
  unfold val_main_v22 val_main_v21 val_main_v20 val_main_v19 val_main_v18 val_main_v17 val_main_v16
  refine (key _ _ x2).trans ?_
  unfold Wide.o
  rw [Soft.o_eq, coe_sum]
  refine Finset.sum_congr rfl fun j _ => ?_
  rw [he, hl, div_real (I.l_pos M (x.val / 128) s.val), h.v, ← EReal.coe_mul, I.e_div_l]
  rfl

theorem logs_is (g : Fin 4) (s : Fin 8192) : val_main_v26 (F := Ideal) x0 x1 (ix2 g s) = (I.lse 0 g.val s.val : EReal) := by
  have key : ∀ x : FVec Ideal S4x1x8192x8192 .f32, shapeCast S4x8192 (Host.log (Host.reduceAdd (Host.exp x) (val_main_cst_4 (F := Ideal))
      reducesTo_S4x1x8192x8192_S4x1x8192_d3 h_S_)) shapeCasts_S4x1x8192_S4x8192 (ix2 g s) = Ideal.log (∑ j : Fin 8192, Ideal.exp (x (ix4 g 0 s j))) :=
    fun x => by pointwise [val_main_cst_4]
  unfold val_main_v26 val_main_v25 val_main_v24 val_main_v23
  rw [key, Finset.sum_congr rfl fun j _ => (congrArg Ideal.exp (score_is h g s j)).trans (Ideal.exp_coe _), ← coe_sum]
  unfold Wide.lse
  rw [Soft.lse_eq]
  exact log_pos (Soft.total_pos I.score g.val s.val)

omit h in
/-- An index of rank two is the pair of its coordinates. -/
theorem eta2 {a b : ℕ} (i : (⟨2, ![a, b]⟩ : Shape).Idx) : i = ix2 (i 0) (i 1) := funext fun a => match a with
  | ⟨0, _⟩ => rfl
  | ⟨1, _⟩ => rfl

end Cert.BfReferenceIdeal.Forward

end
-- ==== Proof.GRef.lean ====
module

public import proofs.«01_k».proof.Proof.AttnArgs
public import proofs.«01_k».proof.Proof.Gen.AfReferenceIdeal.Read

@[expose] public section

set_option maxRecDepth 16384

noncomputable section

/-! # The reference's grouped output and log-sums over the reals -/

namespace Cert.AfReferenceIdeal.Forward

open Cert.AfReferenceIdeal Cert.AfReferenceIdeal.Gen Cert.AfReferenceIdeal.Read Cert.Attn Cert.Reals
open Idealize.ShloMosaic Idealize.ShloMosaic.Pointwise

theorem exp_apply (x : FVec Ideal S2x4x8192x8192 .f32) (y : FVec Ideal S2x4x8192 .f32) (g : Fin 2) (e : Fin 4) (s j : Fin 8192) :
    Host.exp (subf x (broadcastInDim S2x4x8192x8192 ![0, 1, 2, 3] bcast_S2x4x8192x1_S2x4x8192x8192_0_1_2_3
      (broadcastInDim S2x4x8192x1 ![0, 1, 2] bcast_S2x4x8192_S2x4x8192x1_0_1_2 y))) (ix4 g e s j)
      = Ideal.exp (x (ix4 g e s j) - y (ix3 g e s)) := by pointwise

theorem max_apply (x : FVec Ideal S2x4x8192 .f32) (g : Fin 2) (e : Fin 4) (s : Fin 8192) :
    maximumf (broadcastInDim S2x4x8192 ![] bcast_S_S2x4x8192 (constant S_ .f32 0xFF800000#32)) x (ix3 g e s)
      = max (Ideal.ofBits .f32 0xFF800000#32) (x (ix3 g e s)) := by pointwise

theorem sum_apply (x : FVec Ideal S2x4x8192x8192 .f32) (g : Fin 2) (e : Fin 4) (s : Fin 8192) :
    Host.reduceAdd x (constant S_ .f32 0x00000000#32) reducesTo_S2x4x8192x8192_S2x4x8192_d3 h_S_ (ix3 g e s) = ∑ j : Fin 8192, x (ix4 g e s j) := by
  pointwise

/-- Column `x` of the output is lane `x % 64` of its head. -/
theorem out_apply (y : FVec Ideal S2x4x8192x8192 .f32) (l : FVec Ideal S2x4x8192 .f32) (v : FVec Ideal S2x8192x64 .f32) (s : Fin 8192) (x : Fin 512) :
    shapeCast S8192x512 (transpose S8192x2x4x64 [2, 0, 1, 3] (Host.dotGeneral dot_S2x4x8192x8192_S2x8192x64_S2x4x8192x64_3_1_12_2_0_0 none
        (Host.divf y (broadcastInDim S2x4x8192x8192 ![0, 1, 2, 3] bcast_S2x4x8192x1_S2x4x8192x8192_0_1_2_3
          (broadcastInDim S2x4x8192x1 ![0, 1, 2] bcast_S2x4x8192_S2x4x8192x1_0_1_2 l))) v)
        transposes_S2x4x8192x64_S8192x2x4x64_2_0_1_3) shapeCasts_S8192x2x4x64_S8192x512 (ix2 s x)
      = ∑ j : Fin 8192, Ideal.div (y (ix4 ⟨x.val / 256, by omega⟩ ⟨x.val / 64 % 4, by omega⟩ s j))
          (l (ix3 ⟨x.val / 256, by omega⟩ ⟨x.val / 64 % 4, by omega⟩ s)) * v (ix3 ⟨x.val / 256, by omega⟩ j ⟨x.val % 64, by omega⟩) := by
  pointwise

variable {x0 : FVec Ideal S8x8192x64 .f32} {x1 x2 : FVec Ideal S2x8192x64 .f32} {d : D2.Idx → EReal} {I : Input} (h : Holds I x0 x1 x2 d)

include h

theorem score_is (g : Fin 2) (e : Fin 4) (s j : Fin 8192) :
    val_main_v3 (F := Ideal) x0 x1 (ix4 g e s j) = (I.score (4 * g.val + e.val) s.val j.val : EReal) := by
  pointwise [val_main_v3, val_main_v2, val_main_v1, val_main_v0, val_main_cst]
  rw [word_eighth]
  unfold Input.score
  rw [EReal.coe_mul, coe_sum, show (4 * g.val + e.val) / 4 = g.val by omega]
  refine congrArg (· * _) (Finset.sum_congr rfl fun x _ => ?_)
  rw [h.q, h.k, EReal.coe_mul]
  show (I.q (g.val * 4 + e.val) s.val x.val : EReal) * (I.k g.val j.val x.val : EReal) = _
  rw [mul_comm g.val 4]

omit h in
/-- The scores are computed twice. -/
theorem again : val_main_v6 (F := Ideal) x0 x1 = val_main_v3 (F := Ideal) x0 x1 := rfl

theorem top_real (g : Fin 2) (e : Fin 4) (s : Fin 8192) : IsReal (val_main_v9 (F := Ideal) x0 x1 (ix3 g e s)) := by
  have hs : IsReal (val_main_v7 (F := Ideal) x0 x1 (ix3 g e s)) :=
    reduce_top (val_main_v6 (F := Ideal) x0 x1) (fun i => by
      have := (congrFun again _).trans (score_is h (i 0) (i 1) (i 2) (i 3))
      rw [show i = ix4 (i 0) (i 1) (i 2) (i 3) from funext fun a => match a with
        | ⟨0, _⟩ => rfl
        | ⟨1, _⟩ => rfl
        | ⟨2, _⟩ => rfl
        | ⟨3, _⟩ => rfl]
      exact ⟨_, this⟩) h_S_ reducesTo_S2x4x8192x8192_S2x4x8192_d3 (by decide) (by decide) _
  unfold val_main_v9 val_main_v8 val_main_cst_2
  rw [max_apply, word_bot, max_bot_left]
  exact hs

/-- A row's exponentials and their sum, for the shift the reference takes. -/
theorem row_is (g : Fin 2) (e : Fin 4) (s : Fin 8192) : ∃ M : ℝ,
    (∀ j : Fin 8192, val_main_v13 (F := Ideal) x0 x1 (ix4 g e s j) = (I.e M (4 * g.val + e.val) s.val j.val : EReal))
    ∧ val_main_v14 (F := Ideal) x0 x1 (ix3 g e s) = (I.l M (4 * g.val + e.val) s.val : EReal) := by
  obtain ⟨M, hM⟩ := top_real h g e s
  have he : ∀ j : Fin 8192, val_main_v13 (F := Ideal) x0 x1 (ix4 g e s j) = (I.e M (4 * g.val + e.val) s.val j.val : EReal) := fun j => by
    unfold val_main_v13 val_main_v12 val_main_v11 val_main_v10
    rw [exp_apply, again, score_is h, hM, ← EReal.coe_sub, Ideal.exp_coe]
    rfl
  refine ⟨M, he, ?_⟩
  unfold val_main_v14 val_main_cst_3
  rw [sum_apply]
  unfold Input.l
  rw [coe_sum]
  exact Finset.sum_congr rfl fun j _ => he j

theorem outs_is (s : Fin 8192) (x : Fin 512) :
    val_main_v20 (F := Ideal) x0 x1 x2 (ix2 s x) = (I.o 0 (x.val / 64) s.val (x.val % 64) : EReal) := by
  obtain ⟨M, he, hl⟩ := row_is h ⟨x.val / 256, by omega⟩ ⟨x.val / 64 % 4, by omega⟩ s
  have hd : 4 * (x.val / 256) + x.val / 64 % 4 = x.val / 64 := by omega
  unfold val_main_v20 val_main_v19 val_main_v18 val_main_v17 val_main_v16 val_main_v15
  refine (out_apply _ _ x2 s x).trans ?_
  have ho : I.o 0 (x.val / 64) s.val (x.val % 64) = ∑ j : Fin 8192, I.p (x.val / 64) s.val j.val * I.v (x.val / 64 / 4) j.val (x.val % 64) :=
    Soft.o_eq I.score 0 (x.val / 64) s.val fun j => I.v (x.val / 64 / 4) j (x.val % 64)
  rw [ho, coe_sum]
  refine Finset.sum_congr rfl fun j _ => ?_
  rw [he, hl, div_real (I.l_pos M _ _), h.v, ← EReal.coe_mul, I.e_div_l]
  show ((I.p (4 * (x.val / 256) + x.val / 64 % 4) s.val j.val * I.v (x.val / 256) j.val (x.val % 64) : ℝ) : EReal) = _
  rw [hd, show x.val / 256 = x.val / 64 / 4 by omega]

theorem logs_is (g : Fin 8) (s : Fin 8192) : val_main_v24 (F := Ideal) x0 x1 (ix2 g s) = (I.lse 0 g.val s.val : EReal) := by
  have key : ∀ x : FVec Ideal S2x4x8192x8192 .f32, shapeCast S8x8192 (Host.log (Host.reduceAdd (Host.exp x) (val_main_cst_4 (F := Ideal))
      reducesTo_S2x4x8192x8192_S2x4x8192_d3 h_S_)) shapeCasts_S2x4x8192_S8x8192 (ix2 g s)
      = Ideal.log (∑ j : Fin 8192, Ideal.exp (x (ix4 ⟨g.val / 4, by omega⟩ ⟨g.val % 4, by omega⟩ s j))) :=
    fun x => by pointwise [val_main_cst_4]
  unfold val_main_v24 val_main_v23 val_main_v22 val_main_v21
  rw [key, Finset.sum_congr rfl fun j _ => (congrArg Ideal.exp (score_is h _ _ s j)).trans (Ideal.exp_coe _), ← coe_sum]
  show Ideal.log ((∑ j : Fin 8192, Real.exp (I.score (4 * (g.val / 4) + g.val % 4) s.val j.val) : ℝ) : EReal) = _
  rw [show 4 * (g.val / 4) + g.val % 4 = g.val by omega]
  exact (log_pos (Soft.total_pos I.score g.val s.val)).trans (congrArg _ (Soft.lse_eq I.score 0 g.val s.val).symm)

end Cert.AfReferenceIdeal.Forward

end
-- ==== Proof.FPre.lean ====
module

public import proofs.«01_k».proof.Proof.OutPre
public import proofs.«01_k».proof.Proof.AttnArgs
public import proofs.«01_k».proof.Proof.Gen.Pre_finite_bf
public import proofs.«01_k».proof.Pre_finite_bf

@[expose] public section

set_option maxRecDepth 16384

noncomputable section

/-! # Finite arguments of the wider forward attention call are the arrays of real numbers -/

namespace Cert.Pre_finite_bf.Real

open Cert.Pre_finite_bf Cert.Pre_finite_bf.Gen Cert.Reals Cert.Attn Idealize.ShloMosaic
open Cert.Pre_finite.Real (all_real both)

theorem real (q k : FVec Ideal S4x8192x96 .f32) (v : FVec Ideal S4x8192x128 .f32)
    (h : fn (F := Ideal) q k v = fun _ => 1#1) : ∃ I : Wide, WideHolds I q k v fun _ => 0 := by
  have h := congrFun h (fun a => a.elim0)
  unfold fn at h
  dsimp only at h
  obtain ⟨h, h2⟩ := both h
  obtain ⟨h0, h1⟩ := both h
  exact exists_wide q k v (fun _ => 0) (all_real q _ _ _ _ _ h0) (all_real k _ _ _ _ _ h1) (all_real v _ _ _ _ _ h2) fun _ => IsReal.zero

end Cert.Pre_finite_bf.Real

end
-- ==== Proof.GPre.lean ====
module

public import proofs.«01_k».proof.Proof.OutPre
public import proofs.«01_k».proof.Proof.AttnArgs
public import proofs.«01_k».proof.Proof.Gen.Pre_finite_af
public import proofs.«01_k».proof.Pre_finite_af

@[expose] public section

set_option maxRecDepth 16384

noncomputable section

/-! # Finite arguments of the grouped-query attention's forward call are the arrays of real numbers -/

namespace Cert.Pre_finite_af.Real

open Cert.Pre_finite_af Cert.Pre_finite_af.Gen Cert.Reals Cert.Attn Idealize.ShloMosaic
open Cert.Pre_finite.Real (all_real both)

theorem real (q : FVec Ideal S8x8192x64 .f32) (k v : FVec Ideal S2x8192x64 .f32)
    (h : fn (F := Ideal) q k v = fun _ => 1#1) : ∃ I : Input, Holds I q k v fun _ => 0 := by
  have h := congrFun h (fun a => a.elim0)
  unfold fn at h
  dsimp only at h
  obtain ⟨h, h2⟩ := both h
  obtain ⟨h0, h1⟩ := both h
  exact exists_input q k v (fun _ => 0) (all_real q _ _ _ _ _ h0) (all_real k _ _ _ _ _ h1) (all_real v _ _ _ _ _ h2) fun _ => IsReal.zero

end Cert.Pre_finite_af.Real

end
-- ==== Proof.OutBlocks.lean ====
module

public import proofs.«01_k».proof.Proof.Gen.OutKernelIdeal.Frame
public import Idealize.ShloMosaic.Lib.Pipeline.Value

@[expose] public section

set_option maxRecDepth 16384

noncomputable section

namespace Cert.OutKernelIdeal.Blocks

open Cert.OutKernelIdeal Cert.OutKernelIdeal.Gen Idealize.ShloMosaic Idealize.ShloMosaic.TcCoe Idealize.SL.Sem
open Idealize.ShloMosaic.Tactic
open Idealize.ShloMosaic.Pipeline (Dat)

variable {F : FTy → Type} [FloatOps F]
variable (m : (ℓ : Loc nD τ sig) → Buf (Elt F) ℓ)

/-- A load at no offset. -/
theorem off0 : (![0, 0] : Fin 2 → Nat) = fun _ => 0 := by
  funext a; match a with
  | ⟨0, _⟩ => rfl
  | ⟨1, _⟩ => rfl

/-- The upper and the lower 512 rows of a 1024-row matrix. -/
def rLo : Rect S1024x1024 := Rect.unit (s := S1024x1024) ![0, 0] S512x1024.size inb_S1024x1024_S512x1024_0_0
def rHi : Rect S1024x1024 := Rect.unit (s := S1024x1024) ![512, 0] S512x1024.size inb_S1024x1024_S512x1024_512_0
def wLo (w : Vec F S1024x1024 .bf16) : Vec F S512x1024 .bf16 := View.ld w rLo
def wHi (w : Vec F S1024x1024 .bf16) : Vec F S512x1024 .bf16 := View.ld w rHi

theorem mem_lo {y : S1024x1024.Idx} : y ∈ rLo.set ↔ (y 0).val < 512 := by
  unfold rLo; rw [Rect.mem_set_unit]
  exact ⟨fun h => (h 0).2, fun h a => match a with
    | ⟨0, _⟩ => ⟨Nat.zero_le _, h⟩
    | ⟨1, _⟩ => ⟨Nat.zero_le _, (y 1).isLt⟩⟩
theorem mem_hi {y : S1024x1024.Idx} : y ∈ rHi.set ↔ 512 ≤ (y 0).val := by
  unfold rHi; rw [Rect.mem_set_unit]
  exact ⟨fun h => (h 0).1, fun h a => match a with
    | ⟨0, _⟩ => ⟨h, (y 0).isLt⟩
    | ⟨1, _⟩ => ⟨Nat.zero_le _, (y 1).isLt⟩⟩

/-- Under two writes, the earlier contents do not matter. -/
theorem canon_two {s : Shape} {e : EltTy} {r r' : Rect s} (a : r.shape.Idx → Elt F e) (b : r'.shape.Idx → Elt F e)
    (L L' : List (View.Piece (Elt F) s e)) {y : s.Idx} (h : y ∈ r.set ∨ y ∈ r'.set) :
    View.canon (⟨r, a⟩ :: ⟨r', b⟩ :: L) y = View.canon (⟨r, a⟩ :: ⟨r', b⟩ :: L') y := by
  by_cases h1 : y ∈ r.set
  · obtain ⟨x, rfl⟩ := r.exists_idx_of_mem h1
    exact (View.canon_cons_emb r a _ x).trans (View.canon_cons_emb r a _ x).symm
  · obtain ⟨x, rfl⟩ := r'.exists_idx_of_mem (h.resolve_left h1)
    refine (View.canon_cons_of_not_mem _ _ h1).trans (Eq.trans ?_ (View.canon_cons_of_not_mem _ _ h1).symm)
    exact (View.canon_cons_emb r' b _ x).trans (View.canon_cons_emb r' b _ x).symm

/-- Off the last write, the one before it is read. -/
theorem canon_second {s : Shape} {e : EltTy} {r r' : Rect s} (a : r.shape.Idx → Elt F e) (b : r'.shape.Idx → Elt F e)
    (L : List (View.Piece (Elt F) s e)) {x : r'.shape.Idx} {y : s.Idx} (hy : y = r'.emb x) (h : y ∉ r.set) :
    View.canon (⟨r, a⟩ :: ⟨r', b⟩ :: L) y = b x := by
  subst hy
  exact (View.canon_cons_of_not_mem _ _ h).trans (View.canon_cons_emb r' b L x)

/-- One tile's gradients: of the residual stream, of both attentions' outputs and of both gates. -/
def dhbT (x t : Vec F S512x1024 .f32) (oa ob ga gb : Vec F S512x512 .f32) (w : Vec F S1024x1024 .bf16) : Vec F S512x1024 .bf16 :=
  k0_pay16 (k0_pay10 oa ga) (k0_pay11 ob gb) x (wLo w) (wHi w) t

/-- The weight gradient after one more tile: each half of the rows gains its product. -/
def dwT (x t : Vec F S512x1024 .f32) (oa ob ga gb : Vec F S512x512 .f32) (w : Vec F S1024x1024 .bf16)
    (s : Vec F S1024x1024 .f32) : Vec F S1024x1024 .f32 :=
  View.canon [⟨rHi, k0_pay24 (k0_pay12 (k0_pay11 ob gb)) (dhbT x t oa ob ga gb w) (View.ld s rHi)⟩,
    ⟨rLo, k0_pay23 (k0_pay10 oa ga) (dhbT x t oa ob ga gb w) (View.ld s rLo)⟩]

/-- What one point leaves: the five tiles, the matrix `z` of the last window, the loss row over `l` and the weight
    gradient over `s`. -/
def stepT (x t : Vec F S512x1024 .f32) (oa ob ga gb : Vec F S512x512 .f32) (w : Vec F S1024x1024 .bf16)
    (z : Vec F S1024x1024 .bf16) (l : Vec F S1x128 .f32) (s : Vec F S1024x1024 .f32) :
    Vec F S512x1024 .f32 × Vec F S512x512 .bf16 × Vec F S512x512 .bf16 × Vec F S512x512 .f32 × Vec F S512x512 .f32
      × Vec F S1024x1024 .bf16 × Vec F S1x128 .f32 × Vec F S1024x1024 .f32 :=
  (k0_pay15 (k0_pay10 oa ga) (k0_pay11 ob gb) x (wLo w) (wHi w) t,
    k0_pay19 (k0_pay5 ga) (dhbT x t oa ob ga gb w) (wLo w),
    k0_pay20 (k0_pay8 gb) (dhbT x t oa ob ga gb w) (wHi w),
    k0_pay21 oa (k0_pay6 ga) (dhbT x t oa ob ga gb w) (wLo w),
    k0_pay22 ob (k0_pay9 gb) (dhbT x t oa ob ga gb w) (wHi w),
    z,
    k0_pay14 (k0_pay10 oa ga) (k0_pay11 ob gb) x (wLo w) (wHi w) t l,
    dwT x t oa ob ga gb w s)

/-- The step over the blocks of point `t`. -/
def stepAt (c : Dev nD) (t : Fin cfg0.N) := stepT (iblk m c 0 t) (iblk m c 1 t) (iblk m c 2 t) (iblk m c 3 t) (iblk m c 4 t)
  (iblk m c 5 t) (iblk m c 6 t)

/-- The weight gradient after point `t`, over `s`. -/
def dwAt (c : Dev nD) (t : Fin cfg0.N) := dwT (iblk m c 0 t) (iblk m c 1 t) (iblk m c 2 t) (iblk m c 3 t) (iblk m c 4 t)
  (iblk m c 5 t) (iblk m c 6 t)

/-- A load of the whole matrix reads what the stores left. -/
theorem read_whole {sig : RefSig} {κ : Kind} {sp : Space} (v : View sig κ sp S1024x1024 .f32)
    (L : List (View.Piece (Elt F) S1024x1024 .f32)) (inb : ∀ a, (![0, 0] : Fin 2 → Nat) a + S1024x1024.size a ≤ S1024x1024.size a) :
    v.readCov L (Rect.unit ![0, 0] S1024x1024.size inb).toLoadRect = View.canon L := by
  rw [View.readCov_eq_canon']
  exact View.ld_unit_zero off0 inb (View.canon L)

/-- The weight gradient at the first point: the scratch is zeroed whole, then each half read, gained and stored. -/
theorem dw_first {sig : RefSig} {κ : Kind} {sp : Space} (v : View sig κ sp S1024x1024 .f32) (z : Vec F S1024x1024 .f32)
    (f : (rLo.shape.Idx → Elt F .f32) → rLo.shape.Idx → Elt F .f32) (g : (rHi.shape.Idx → Elt F .f32) → rHi.shape.Idx → Elt F .f32) (inb : ∀ a, (![0, 0] : Fin 2 → Nat) a + S1024x1024.size a ≤ S1024x1024.size a) :
    View.canon [(⟨rHi, g (v.readCov [⟨rLo, f (v.readCov [⟨Rect.unit ![0, 0] S1024x1024.size inb, z⟩] rLo.toLoadRect)⟩,
        ⟨Rect.unit ![0, 0] S1024x1024.size inb, z⟩] rHi.toLoadRect)⟩ : View.Piece (Elt F) S1024x1024 .f32),
      ⟨rLo, f (v.readCov [⟨Rect.unit ![0, 0] S1024x1024.size inb, z⟩] rLo.toLoadRect)⟩,
      ⟨Rect.unit ![0, 0] S1024x1024.size inb, z⟩]
    = View.canon [⟨rHi, g (View.ld z rHi)⟩, ⟨rLo, f (View.ld z rLo)⟩] := by
  have hlo : v.readCov [⟨Rect.unit ![0, 0] S1024x1024.size inb, z⟩] rLo.toLoadRect = View.ld z rLo := by
    rw [View.readCov_eq_canon', View.canon_unit_zero off0]
  have hhi : ∀ w, v.readCov [⟨rLo, w⟩, ⟨Rect.unit ![0, 0] S1024x1024.size inb, z⟩] rHi.toLoadRect = View.ld z rHi := fun w => by
    rw [View.readCov_eq_canon']; funext j
    rw [View.canon_cons_of_not_mem _ _ (by rw [mem_lo]; exact Nat.not_lt.mpr (Nat.le_add_right 512 _)), View.canon_unit_zero off0]
  rw [hlo, hhi]
  funext y
  exact canon_two _ _ _ _ (by rw [mem_lo, mem_hi]; omega)

theorem at_first (c : Dev nD) (t : Fin cfg0.N) (h0 : t.val % 16 = 0) : outsAt0 m c t.val t.isLt
    = stepAt m c t (outsAt0 m c t.val t.isLt).2.2.2.2.2.1 k0_pay3 k0_pay2 := by
  have h1 : ¬ t.val % 16 = 15 := by omega
  rw [outsAt0_A m c t h0 h1]
  unfold stepAt stepT out0_A_7 out0_A_8 out0_A_9 out0_A_10 out0_A_11 out0_A_13 sout0_A_0
  refine congrArg₂ Prod.mk ((View.read_writes_eq_canon _ _ _ (fun _ => cover0_A_7 ..)).trans ?_) (congrArg₂ Prod.mk ((View.read_writes_eq_canon _ _ _ (fun _ => cover0_A_8 ..)).trans ?_) (congrArg₂ Prod.mk
    ((View.read_writes_eq_canon _ _ _ (fun _ => cover0_A_9 ..)).trans ?_) (congrArg₂ Prod.mk ((View.read_writes_eq_canon _ _ _ (fun _ => cover0_A_10 ..)).trans ?_) (congrArg₂ Prod.mk
    ((View.read_writes_eq_canon _ _ _ (fun _ => cover0_A_11 ..)).trans ?_) (congrArg₂ Prod.mk rfl (congrArg₂ Prod.mk ((View.read_writes_eq_canon _ _ _ (fun _ => cover0_A_13 ..)).trans ?_)
    ((View.read_writes_eq_canon _ _ _ (fun _ => scover0_A_0 ..)).trans ?_)))))))
  all_goals unfold kernelRun0_A; dsimp only; sl_unfold_words
  iterate 6 (first | rw [View.canon_unit_zero off0] | rw [View.canon_cons_unit_zero off0]); simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x1024) off0, View.ld_unit_zero (S := S512x512) off0, View.readCov_unit_zero (S := S1x128) _ off0]; rfl
  all_goals simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x1024) off0, View.ld_unit_zero (S := S512x512) off0, View.readCov_unit_zero (S := S1x128) _ off0]
  exact dw_first (View.whole cc0_scratch0) ..

theorem at_mid (c : Dev nD) (t : Fin cfg0.N) (h0 : ¬ t.val % 16 = 0) (h1 : ¬ t.val % 16 = 15) : outsAt0 m c t.val t.isLt
    = stepAt m c t (outsAt0 m c t.val t.isLt).2.2.2.2.2.1
      (outsAt0 m c (t.val - 1) (Nat.lt_of_le_of_lt (Nat.sub_le _ _) t.isLt)).2.2.2.2.2.2.1
      (outsAt0 m c (t.val - 1) (Nat.lt_of_le_of_lt (Nat.sub_le _ _) t.isLt)).2.2.2.2.2.2.2 := by
  rw [outsAt0_B m c t h0 h1]
  unfold stepAt stepT out0_B_7 out0_B_8 out0_B_9 out0_B_10 out0_B_11 out0_B_13 sout0_B_0
  refine congrArg₂ Prod.mk ((View.read_writes_eq_canon _ _ _ (fun _ => cover0_B_7 ..)).trans ?_) (congrArg₂ Prod.mk ((View.read_writes_eq_canon _ _ _ (fun _ => cover0_B_8 ..)).trans ?_) (congrArg₂ Prod.mk
    ((View.read_writes_eq_canon _ _ _ (fun _ => cover0_B_9 ..)).trans ?_) (congrArg₂ Prod.mk ((View.read_writes_eq_canon _ _ _ (fun _ => cover0_B_10 ..)).trans ?_) (congrArg₂ Prod.mk
    ((View.read_writes_eq_canon _ _ _ (fun _ => cover0_B_11 ..)).trans ?_) (congrArg₂ Prod.mk rfl (congrArg₂ Prod.mk ((View.read_writes_eq_canon _ _ _ (fun _ => cover0_B_13 ..)).trans ?_)
    ((View.read_writes_eq_canon _ _ _ (fun _ => scover0_B_0 ..)).trans ?_)))))))
  all_goals unfold kernelRun0_B; dsimp only; sl_unfold_words
  iterate 6 (first | rw [View.canon_unit_zero off0] | rw [View.canon_cons_unit_zero off0]); simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x1024) off0, View.ld_unit_zero (S := S512x512) off0, (hs0_13 t).read_unread, (Memref.isWhole_whole cc0_scratch0).read_unread, View.ld_unit_zero (S := S1x128) off0]; rfl
  all_goals simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x1024) off0, View.ld_unit_zero (S := S512x512) off0, (hs0_13 t).read_unread, (Memref.isWhole_whole cc0_scratch0).read_unread, View.ld_unit_zero (S := S1x128) off0]
  rfl

theorem at_last (c : Dev nD) (t : Fin cfg0.N) (h1 : t.val % 16 = 15) : outsAt0 m c t.val t.isLt
    = stepAt m c t (k0_pay1 (dwAt m c t (outsAt0 m c (t.val - 1) (Nat.lt_of_le_of_lt (Nat.sub_le _ _) t.isLt)).2.2.2.2.2.2.2))
      (outsAt0 m c (t.val - 1) (Nat.lt_of_le_of_lt (Nat.sub_le _ _) t.isLt)).2.2.2.2.2.2.1
      (outsAt0 m c (t.val - 1) (Nat.lt_of_le_of_lt (Nat.sub_le _ _) t.isLt)).2.2.2.2.2.2.2 := by
  have h0 : ¬ t.val % 16 = 0 := by omega
  rw [outsAt0_C m c t h0 h1]
  unfold stepAt stepT out0_C_7 out0_C_8 out0_C_9 out0_C_10 out0_C_11 out0_C_12 out0_C_13 sout0_C_0
  refine congrArg₂ Prod.mk ((View.read_writes_eq_canon _ _ _ (fun _ => cover0_C_7 ..)).trans ?_) (congrArg₂ Prod.mk ((View.read_writes_eq_canon _ _ _ (fun _ => cover0_C_8 ..)).trans ?_) (congrArg₂ Prod.mk
    ((View.read_writes_eq_canon _ _ _ (fun _ => cover0_C_9 ..)).trans ?_) (congrArg₂ Prod.mk ((View.read_writes_eq_canon _ _ _ (fun _ => cover0_C_10 ..)).trans ?_) (congrArg₂ Prod.mk
    ((View.read_writes_eq_canon _ _ _ (fun _ => cover0_C_11 ..)).trans ?_) (congrArg₂ Prod.mk ?_ (congrArg₂ Prod.mk ((View.read_writes_eq_canon _ _ _ (fun _ => cover0_C_13 ..)).trans ?_)
    ((View.read_writes_eq_canon _ _ _ (fun _ => scover0_C_0 ..)).trans ?_)))))))
  rotate_left 5
  · refine (View.read_writes_eq_canon _ _ _ (fun _ => cover0_C_12 ..)).trans ?_
    unfold kernelRun0_C; dsimp only; sl_unfold_words
    rw [View.canon_unit_zero off0, read_whole]; simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x1024) off0, View.ld_unit_zero (S := S512x512) off0, (hs0_13 t).read_unread, (Memref.isWhole_whole cc0_scratch0).read_unread, View.ld_unit_zero (S := S1x128) off0]; rfl
  rotate_left 2
  all_goals unfold kernelRun0_C; dsimp only; sl_unfold_words
  iterate 6 (first | rw [View.canon_unit_zero off0] | rw [View.canon_cons_unit_zero off0]); simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x1024) off0, View.ld_unit_zero (S := S512x512) off0, (hs0_13 t).read_unread, (Memref.isWhole_whole cc0_scratch0).read_unread, View.ld_unit_zero (S := S1x128) off0]; rfl
  all_goals simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x1024) off0, View.ld_unit_zero (S := S512x512) off0, (hs0_13 t).read_unread, (Memref.isWhole_whole cc0_scratch0).read_unread, View.ld_unit_zero (S := S1x128) off0]
  rfl
-- ==== Proof.OutTile.lean ====
module

public import proofs.«01_k».proof.Proof.OutBlocks
public import proofs.«01_k».proof.Proof.OutMath

@[expose] public section

set_option maxRecDepth 16384

noncomputable section

/-! # What one point computes, read at an index over the extended reals -/

namespace Cert.OutKernelIdeal.Tile

open Cert.OutKernelIdeal Cert.OutKernelIdeal.Gen Cert.OutKernelIdeal.Blocks Cert.OutMath Idealize.ShloMosaic Idealize.ShloMosaic.TcCoe Idealize.SL.Sem
open Idealize.ShloMosaic.Pointwise

variable (x t : Vec Ideal S512x1024 .f32) (oa ob ga gb : Vec Ideal S512x512 .f32) (w : Vec Ideal S1024x1024 .bf16)

/-- A tile's blocks as rows. -/
def rows : Rows 512 where
  x r d := x (ix2 r d)
  t r d := t (ix2 r d)
  oa r k := oa (ix2 r k)
  ob r k := ob (ix2 r k)
  ga r k := ga (ix2 r k)
  gb r k := gb (ix2 r k)
  w k d := w (ix2 k d)

theorem ld_lo {e : EltTy} (v : Vec Ideal S1024x1024 e) (k : Fin 512) (d : Fin 1024) : View.ld v rLo (ix2 k d) = v (ix2 (lo k) d) :=
  congrArg v (funext fun a => Fin.ext (match a with
    | ⟨0, _⟩ => show 0 + 1 * k.val = k.val by omega
    | ⟨1, _⟩ => show 0 + 1 * d.val = d.val by omega))
theorem ld_hi {e : EltTy} (v : Vec Ideal S1024x1024 e) (k : Fin 512) (d : Fin 1024) : View.ld v rHi (ix2 k d) = v (ix2 (hi k) d) :=
  congrArg v (funext fun a => Fin.ext (match a with
    | ⟨0, _⟩ => show 512 + 1 * k.val = 512 + k.val by omega
    | ⟨1, _⟩ => show 0 + 1 * d.val = d.val by omega))
theorem wLo_apply (k : Fin 512) (d : Fin 1024) : wLo w (ix2 k d) = w (ix2 (lo k) d) := ld_lo w k d
theorem wHi_apply (k : Fin 512) (d : Fin 1024) : wHi w (ix2 k d) = w (ix2 (hi k) d) := ld_hi w k d

theorem ya_apply (r k : Fin 512) : k0_pay10 oa ga (ix2 r k) = (rows x t oa ob ga gb w).ya r k := by
  pointwise [k0_pay10, k0_pay5, k0_pay4]; rfl
theorem yb_apply (r k : Fin 512) : k0_pay12 (k0_pay11 ob gb) (ix2 r k) = (rows x t oa ob ga gb w).yb r k := by
  pointwise [k0_pay12, k0_pay11, k0_pay8, k0_pay7]; rfl

theorem err_apply (r : Fin 512) (d : Fin 1024) :
    k0_pay13 (k0_pay10 oa ga) (k0_pay11 ob gb) x (wLo w) (wHi w) t (ix2 r d) = (rows x t oa ob ga gb w).err r d := by
  pointwise [k0_pay13]
  simp only [ya_apply x t oa ob ga gb w, yb_apply x t oa ob ga gb w, wLo_apply, wHi_apply]; rfl

theorem dh_apply (r : Fin 512) (d : Fin 1024) :
    k0_pay15 (k0_pay10 oa ga) (k0_pay11 ob gb) x (wLo w) (wHi w) t (ix2 r d) = (rows x t oa ob ga gb w).dh r d := by
  pointwise [k0_pay15]
  rw [err_apply]; rfl
theorem dhb_apply (r : Fin 512) (d : Fin 1024) : dhbT x t oa ob ga gb w (ix2 r d) = (rows x t oa ob ga gb w).dh r d := by
  unfold dhbT
  pointwise [k0_pay16]
  exact dh_apply ..

theorem dya_apply (r k : Fin 512) : k0_pay17 (dhbT x t oa ob ga gb w) (wLo w) (ix2 r k) = (rows x t oa ob ga gb w).dya r k := by
  pointwise [k0_pay17]
  simp only [dhb_apply, wLo_apply]; rfl
theorem dyb_apply (r k : Fin 512) : k0_pay18 (dhbT x t oa ob ga gb w) (wHi w) (ix2 r k) = (rows x t oa ob ga gb w).dyb r k := by
  pointwise [k0_pay18]
  simp only [dhb_apply, wHi_apply]; rfl

theorem doa_apply (r k : Fin 512) : k0_pay19 (k0_pay5 ga) (dhbT x t oa ob ga gb w) (wLo w) (ix2 r k) = (rows x t oa ob ga gb w).doa r k := by
  pointwise [k0_pay19, k0_pay5, k0_pay4]
  rw [dya_apply]; rfl
theorem dob_apply (r k : Fin 512) : k0_pay20 (k0_pay8 gb) (dhbT x t oa ob ga gb w) (wHi w) (ix2 r k) = (rows x t oa ob ga gb w).dob r k := by
  pointwise [k0_pay20, k0_pay8, k0_pay7]
  rw [dyb_apply]; rfl
theorem dga_apply (r k : Fin 512) : k0_pay21 oa (k0_pay6 ga) (dhbT x t oa ob ga gb w) (wLo w) (ix2 r k) = (rows x t oa ob ga gb w).dga r k := by
  pointwise [k0_pay21, k0_pay6, k0_pay4]
  rw [dya_apply]; rfl
theorem dgb_apply (r k : Fin 512) : k0_pay22 ob (k0_pay9 gb) (dhbT x t oa ob ga gb w) (wHi w) (ix2 r k) = (rows x t oa ob ga gb w).dgb r k := by
  pointwise [k0_pay22, k0_pay9, k0_pay7]
  rw [dyb_apply]; rfl

theorem low_apply (v : FVec Ideal S512x512 .bf16) (g : FVec Ideal S512x1024 .bf16) (s : Vec Ideal S512x1024 .f32) (k : Fin 512)
    (d : Fin 1024) : k0_pay23 v g s (ix2 k d) = s (ix2 k d) + ∑ r, v (ix2 r k) * g (ix2 r d) := by
  pointwise [k0_pay23]
theorem high_apply (v : FVec Ideal S512x512 .bf16) (g : FVec Ideal S512x1024 .bf16) (s : Vec Ideal S512x1024 .f32) (k : Fin 512)
    (d : Fin 1024) : k0_pay24 v g s (ix2 k d) = s (ix2 k d) + ∑ r, v (ix2 r k) * g (ix2 r d) := by
  pointwise [k0_pay24]

/-- The weight gradient gains the tile's product. -/
theorem dw_apply (s : Vec Ideal S1024x1024 .f32) (k d : Fin 1024) :
    dwT x t oa ob ga gb w s (ix2 k d) = s (ix2 k d) + (rows x t oa ob ga gb w).dw k d := by
  unfold dwT
  by_cases h : k.val < 512
  · have hk : ix2 k d = rLo.emb (ix2 (⟨k.val, h⟩ : Fin 512) d) := (funext fun a => Fin.ext (match a with
      | ⟨0, _⟩ => show k.val = 0 + 1 * k.val by omega
      | ⟨1, _⟩ => show d.val = 0 + 1 * d.val by omega))
    have hn : ix2 k d ∉ rHi.set := by rw [mem_hi]; show ¬ 512 ≤ k.val; omega
    refine (canon_second (r := rHi) (r' := rLo) _ _ _ hk hn).trans ?_
    refine (low_apply _ _ _ _ _).trans (congrArg₂ (· + ·) (congrArg s hk.symm) ?_)
    simp only [ya_apply x t oa ob ga gb w, dhb_apply]
    unfold Rows.dw Rows.y
    simp only [dif_pos h]
  · have hk : ix2 k d = rHi.emb (ix2 (⟨k.val - 512, by omega⟩ : Fin 512) d) := (funext fun a => Fin.ext (match a with
      | ⟨0, _⟩ => show k.val = 512 + 1 * (k.val - 512) by omega
      | ⟨1, _⟩ => show d.val = 0 + 1 * d.val by omega))
    rw [hk]
    refine (View.canon_cons_emb rHi _ _ _).trans ?_
    refine (high_apply _ _ _ _ _).trans (congrArg₂ (· + ·) rfl ?_)
    simp only [yb_apply x t oa ob ga gb w, dhb_apply]
    unfold Rows.dw Rows.y
    simp only [dif_neg h]

/-- The loss row gains the tile's square errors, lane by lane. -/
theorem loss_apply (l : Vec Ideal S1x128 .f32) (k : Fin 128) :
    k0_pay14 (k0_pay10 oa ga) (k0_pay11 ob gb) x (wLo w) (wHi w) t l (ix2 0 k)
      = l (ix2 0 k) + ∑ r, ∑ q : Fin 8, (rows x t oa ob ga gb w).sq r ⟨128 * q.val + k.val, by omega⟩ := by
  pointwise [k0_pay14]
  simp only [err_apply]
  rw [Finset.sum_comm]
  simp only [Fin.sum_univ_eight, Rows.sq, Fin.val_zero, Fin.val_one, Fin.val_two, show ((3 : Fin 8) : ℕ) = 3 from rfl,
    show ((4 : Fin 8) : ℕ) = 4 from rfl, show ((5 : Fin 8) : ℕ) = 5 from rfl, show ((6 : Fin 8) : ℕ) = 6 from rfl,
    show ((7 : Fin 8) : ℕ) = 7 from rfl, Nat.reduceMul, Nat.zero_add, Nat.mul_zero, Nat.mul_one]

end Cert.OutKernelIdeal.Tile

end
-- ==== Proof.OutArrays.lean ====
module

public import proofs.«01_k».proof.Proof.OutTile
public import Idealize.ShloMosaic.Lib.StableHlo.Run

@[expose] public section

set_option maxRecDepth 16384

noncomputable section

/-! # What the whole call leaves in its result arrays, over the extended reals -/

namespace Cert.OutKernelIdeal.Arrays

open Cert.OutKernelIdeal Cert.OutKernelIdeal.Gen Cert.OutKernelIdeal.Blocks Cert.OutKernelIdeal.Tile Cert.OutMath
open Idealize.ShloMosaic Idealize.ShloMosaic.TcCoe Idealize.SL.Sem Idealize.ShloMosaic.Pointwise
open Idealize.ShloMosaic.Pipeline (Dat)

variable (m : (ℓ : Loc nD τ sig) → Buf (Elt Ideal) ℓ)

/-- The arguments as rows. -/
def whole (c : Dev nD) : Rows 8192 where
  x s d := m ((c : Thread nD τ).loc main_arg0) (ix2 s d)
  t s d := m ((c : Thread nD τ).loc main_arg1) (ix2 s d)
  oa s k := m ((c : Thread nD τ).loc main_arg2) (ix2 s k)
  ob s k := m ((c : Thread nD τ).loc main_arg3) (ix2 s k)
  ga s k := m ((c : Thread nD τ).loc main_arg4) (ix2 s k)
  gb s k := m ((c : Thread nD τ).loc main_arg5) (ix2 s k)
  w k d := m ((c : Thread nD τ).loc main_arg6) (ix2 k d)

def tile (t : Fin cfg0.N) : Fin 16 := ⟨t.val, lt_of_lt_of_eq t.isLt N_0⟩

theorem index_rows : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) := by decide +kernel
theorem index_outs : ∀ t : Fin grid0.N, (win0_7.index t 0 = t.val ∧ win0_7.index t 1 = 0) ∧ (win0_8.index t 0 = t.val ∧ win0_8.index t 1 = 0)
    ∧ (win0_9.index t 0 = t.val ∧ win0_9.index t 1 = 0) ∧ (win0_10.index t 0 = t.val ∧ win0_10.index t 1 = 0)
    ∧ (win0_11.index t 0 = t.val ∧ win0_11.index t 1 = 0) ∧ (win0_12.index t 0 = 0 ∧ win0_12.index t 1 = 0)
    ∧ (win0_13.index t 0 = 0 ∧ win0_13.index t 1 = 0) := by decide +kernel

/-- An index whose coordinates are those of row `r` of tile `t`. -/
theorem idx_row {n : ℕ} {t : Fin 16} {r : Fin 512} {d : Fin n} {i : (⟨2, ![8192, n]⟩ : Shape).Idx} {a b : ℕ} (h : a = t.val ∧ b = 0)
    (h0 : (i 0).val = a * 512 + 1 * r.val) (h1 : (i 1).val = b * n + 1 * d.val) : i = ix2 (row t r) d :=
  funext fun x => Fin.ext (match x with
    | ⟨0, _⟩ => show (i 0).val = 512 * t.val + r.val by rw [h0, h.1]; omega
    | ⟨1, _⟩ => show (i 1).val = d.val by rw [h1, h.2]; omega)
/-- An index of a window that is its whole array. -/
theorem idx_whole {n k : ℕ} {r : Fin n} {d : Fin k} {i : (⟨2, ![n, k]⟩ : Shape).Idx} {a b : ℕ} (h : a = 0 ∧ b = 0)
    (h0 : (i 0).val = a * n + 1 * r.val) (h1 : (i 1).val = b * k + 1 * d.val) : i = ix2 r d :=
  funext fun x => Fin.ext (match x with
    | ⟨0, _⟩ => show (i 0).val = r.val by rw [h0, h.1]; omega
    | ⟨1, _⟩ => show (i 1).val = d.val by rw [h1, h.2]; omega)
theorem idx_eta {n k : ℕ} (y : (⟨2, ![n, k]⟩ : Shape).Idx) : y = ix2 (y 0) (y 1) := funext fun a => match a with
  | ⟨0, _⟩ => rfl
  | ⟨1, _⟩ => rfl

/-- The matrix the region reads is the argument, a cast being the identity over the reals. -/
theorem V_w (c : Dev nD) (k d : Fin 1024) : (V m c main_v0 : Vec Ideal S1024x1024 .bf16) (ix2 k d)
    = (m ((c : Thread nD τ).loc main_arg6) : Vec Ideal S1024x1024 .f32) (ix2 k d) := by
  have h : V m c main_v0 = (truncf .bf16 (m ((c : Thread nD τ).loc main_arg6) : Vec Ideal S1024x1024 .f32) bitsLt_bf16_f32 : FVec Ideal S1024x1024 .bf16) := by
    show StableHlo.after (List.flatten [hostOps0]) (fun b => m (c, b)) (Proc.devRef .tc main_v0) = _
    simp only [List.flatten_cons, List.flatten_nil, List.append_nil]
    after_results
  rw [h]
  pointwise

theorem rows_at (c : Dev nD) (t : Fin cfg0.N) :
    rows (iblk m c 0 t) (iblk m c 1 t) (iblk m c 2 t) (iblk m c 3 t) (iblk m c 4 t) (iblk m c 5 t) (iblk m c 6 t)
      = (whole m c).block (tile t) := by
  obtain ⟨i0, i1, i2, i3, i4, i5, i6⟩ := index_rows t
  unfold rows Rows.block whole
  congr 1 <;> funext r d
  · exact (congrFun (V_main_arg0 m c) _).trans (congrArg _ (idx_row (t := tile t) (r := r) (d := d) i0 rfl rfl))
  · exact (congrFun (V_main_arg1 m c) _).trans (congrArg _ (idx_row (t := tile t) (r := r) (d := d) i1 rfl rfl))
  · exact (congrFun (V_main_arg2 m c) _).trans (congrArg _ (idx_row (t := tile t) (r := r) (d := d) i2 rfl rfl))
  · exact (congrFun (V_main_arg3 m c) _).trans (congrArg _ (idx_row (t := tile t) (r := r) (d := d) i3 rfl rfl))
  · exact (congrFun (V_main_arg4 m c) _).trans (congrArg _ (idx_row (t := tile t) (r := r) (d := d) i4 rfl rfl))
  · exact (congrFun (V_main_arg5 m c) _).trans (congrArg _ (idx_row (t := tile t) (r := r) (d := d) i5 rfl rfl))
  · exact (congrArg (V m c main_v0) (idx_whole (r := r) (d := d) i6 rfl rfl)).trans (V_w m c r d)

theorem at_point (c : Dev nD) (t : Fin cfg0.N) : ∃ z l s, outsAt0 m c t.val t.isLt = stepAt m c t z l s := by
  by_cases h0 : t.val % 16 = 0
  · exact ⟨_, _, _, at_first m c t h0⟩
  · by_cases h1 : t.val % 16 = 15
    · exact ⟨_, _, _, at_last m c t h1⟩
    · exact ⟨_, _, _, at_mid m c t h0 h1⟩

/-- Row `s` lies in tile `s / 512`. -/
def point (s : Fin 8192) : Fin cfg0.N := ⟨s.val / 512, by rw [show cfg0.N = 16 from N_0]; omega⟩

/-- A row lies in its tile's block. -/
theorem mem_rows {n a b : ℕ} {s : Fin 8192} {d : Fin n} {j : Fin 16} (hj : j.val = s.val / 512) (h : a = j.val ∧ b = 0) :
    (a * 512 ≤ s.val ∧ s.val < a * 512 + 512) ∧ (b * n ≤ d.val ∧ d.val < b * n + n) := by
  obtain ⟨rfl, rfl⟩ := h; have := d.isLt; omega

/-! The five row-tiled results. -/

theorem dh_at (c : Dev nD) (t : Fin cfg0.N) (r : Fin 512) (d : Fin 1024) :
    (outsAt0 m c t.val t.isLt).1 (ix2 r d) = (whole m c).dh (row (tile t) r) d := by
  obtain ⟨z, l, s, h⟩ := at_point m c t
  rw [h]
  exact (dh_apply ..).trans (by rw [rows_at]; rfl)

theorem arr7 (c : Dev nD) : (dats m 0 c).arrAt 7 cfg0.N = fun i : S8192x1024.Idx => (whole m c).dh (i 0) (i 1) :=
  (dats m 0 c).arrAt_eq_of_cover 7 _ (fun t hf => by
    show (cfg0.win 7).cut (grid0.coords t) ((dats m 0 c).after 7 t) = _
    rw [after0_7]
    funext y
    rw [View.read_apply]
    refine (congrArg (outsAt0 m c t.val t.isLt).1 (idx_eta y)).trans ((dh_at m c t (y 0) (y 1)).trans ?_)
    have e := idx_row (t := tile t) (r := y 0) (d := y 1) (i := ((cfg0.win 7).blk t).view.emb y) (index_outs t).1 rfl rfl
    exact congrArg (fun i : S8192x1024.Idx => (whole m c).dh (i 0) (i 1)) e.symm) fun i =>
    ⟨point (i 0), flush0_7 _, by
      show i ∈ ((View.whole main_v1_0).slice (win0_7.rect (point (i 0)))).set
      rw [View.set_slice_whole, Rect.mem_set_unit]
      have e := mem_rows (s := i 0) (d := i 1) (j := tile (point (i 0))) rfl (index_outs (point (i 0))).1
      exact fun a => match a with
        | ⟨0, _⟩ => e.1
        | ⟨1, _⟩ => e.2⟩

theorem doa_at (c : Dev nD) (t : Fin cfg0.N) (r : Fin 512) (d : Fin 512) :
    (outsAt0 m c t.val t.isLt).2.1 (ix2 r d) = (whole m c).doa (row (tile t) r) d := by
  obtain ⟨z, l, s, h⟩ := at_point m c t
  rw [h]
  exact (doa_apply ..).trans (by rw [rows_at]; rfl)

theorem arr8 (c : Dev nD) : (dats m 0 c).arrAt 8 cfg0.N = fun i : S8192x512.Idx => (whole m c).doa (i 0) (i 1) :=
  (dats m 0 c).arrAt_eq_of_cover 8 _ (fun t hf => by
    show (cfg0.win 8).cut (grid0.coords t) ((dats m 0 c).after 8 t) = _
    rw [after0_8]
    funext y
    rw [View.read_apply]
    refine Eq.trans (b := (outsAt0 m c t.val t.isLt).2.1 (ix2 (y 0) (y 1))) (congrArg _ (idx_eta y)) ?_
    refine (doa_at m c t (y 0) (y 1)).trans ?_
    refine congrArg₂ (whole m c).doa (Fin.ext ?_) (Fin.ext ?_)
    · show 512 * t.val + (y 0).val = win0_8.index t 0 * 512 + 1 * (y 0).val
      rw [(index_outs t).2.1.1]; omega
    · show (y 1).val = win0_8.index t 1 * 512 + 1 * (y 1).val
      rw [(index_outs t).2.1.2]; omega) fun i =>
    ⟨point (i 0), flush0_8 _, by
      show i ∈ ((View.whole main_v1_1).slice (win0_8.rect (point (i 0)))).set
      rw [View.set_slice_whole, Rect.mem_set_unit]
      have e := mem_rows (s := i 0) (d := i 1) (j := tile (point (i 0))) rfl (index_outs (point (i 0))).2.1
      exact fun a => match a with
        | ⟨0, _⟩ => e.1
        | ⟨1, _⟩ => e.2⟩

theorem dob_at (c : Dev nD) (t : Fin cfg0.N) (r : Fin 512) (d : Fin 512) :
    (outsAt0 m c t.val t.isLt).2.2.1 (ix2 r d) = (whole m c).dob (row (tile t) r) d := by
  obtain ⟨z, l, s, h⟩ := at_point m c t
  rw [h]
  exact (dob_apply ..).trans (by rw [rows_at]; rfl)

theorem arr9 (c : Dev nD) : (dats m 0 c).arrAt 9 cfg0.N = fun i : S8192x512.Idx => (whole m c).dob (i 0) (i 1) :=
  (dats m 0 c).arrAt_eq_of_cover 9 _ (fun t hf => by
    show (cfg0.win 9).cut (grid0.coords t) ((dats m 0 c).after 9 t) = _
    rw [after0_9]
    funext y
    rw [View.read_apply]
    refine Eq.trans (b := (outsAt0 m c t.val t.isLt).2.2.1 (ix2 (y 0) (y 1))) (congrArg _ (idx_eta y)) ?_
    refine (dob_at m c t (y 0) (y 1)).trans ?_
    refine congrArg₂ (whole m c).dob (Fin.ext ?_) (Fin.ext ?_)
    · show 512 * t.val + (y 0).val = win0_9.index t 0 * 512 + 1 * (y 0).val
      rw [(index_outs t).2.2.1.1]; omega
    · show (y 1).val = win0_9.index t 1 * 512 + 1 * (y 1).val
      rw [(index_outs t).2.2.1.2]; omega) fun i =>
    ⟨point (i 0), flush0_9 _, by
      show i ∈ ((View.whole main_v1_2).slice (win0_9.rect (point (i 0)))).set
      rw [View.set_slice_whole, Rect.mem_set_unit]
      have e := mem_rows (s := i 0) (d := i 1) (j := tile (point (i 0))) rfl (index_outs (point (i 0))).2.2.1
      exact fun a => match a with
        | ⟨0, _⟩ => e.1
        | ⟨1, _⟩ => e.2⟩

theorem dga_at (c : Dev nD) (t : Fin cfg0.N) (r : Fin 512) (d : Fin 512) :
    (outsAt0 m c t.val t.isLt).2.2.2.1 (ix2 r d) = (whole m c).dga (row (tile t) r) d := by
  obtain ⟨z, l, s, h⟩ := at_point m c t
  rw [h]
  exact (dga_apply ..).trans (by rw [rows_at]; rfl)

theorem arr10 (c : Dev nD) : (dats m 0 c).arrAt 10 cfg0.N = fun i : S8192x512.Idx => (whole m c).dga (i 0) (i 1) :=
  (dats m 0 c).arrAt_eq_of_cover 10 _ (fun t hf => by
    show (cfg0.win 10).cut (grid0.coords t) ((dats m 0 c).after 10 t) = _
    rw [after0_10]
    funext y
    rw [View.read_apply]
    refine Eq.trans (b := (outsAt0 m c t.val t.isLt).2.2.2.1 (ix2 (y 0) (y 1))) (congrArg _ (idx_eta y)) ?_
    refine (dga_at m c t (y 0) (y 1)).trans ?_
    refine congrArg₂ (whole m c).dga (Fin.ext ?_) (Fin.ext ?_)
    · show 512 * t.val + (y 0).val = win0_10.index t 0 * 512 + 1 * (y 0).val
      rw [(index_outs t).2.2.2.1.1]; omega
    · show (y 1).val = win0_10.index t 1 * 512 + 1 * (y 1).val
      rw [(index_outs t).2.2.2.1.2]; omega) fun i =>
    ⟨point (i 0), flush0_10 _, by
      show i ∈ ((View.whole main_v1_3).slice (win0_10.rect (point (i 0)))).set
      rw [View.set_slice_whole, Rect.mem_set_unit]
      have e := mem_rows (s := i 0) (d := i 1) (j := tile (point (i 0))) rfl (index_outs (point (i 0))).2.2.2.1
      exact fun a => match a with
        | ⟨0, _⟩ => e.1
        | ⟨1, _⟩ => e.2⟩

theorem dgb_at (c : Dev nD) (t : Fin cfg0.N) (r : Fin 512) (d : Fin 512) :
    (outsAt0 m c t.val t.isLt).2.2.2.2.1 (ix2 r d) = (whole m c).dgb (row (tile t) r) d := by
  obtain ⟨z, l, s, h⟩ := at_point m c t
  rw [h]
  exact (dgb_apply ..).trans (by rw [rows_at]; rfl)

theorem arr11 (c : Dev nD) : (dats m 0 c).arrAt 11 cfg0.N = fun i : S8192x512.Idx => (whole m c).dgb (i 0) (i 1) :=
  (dats m 0 c).arrAt_eq_of_cover 11 _ (fun t hf => by
    show (cfg0.win 11).cut (grid0.coords t) ((dats m 0 c).after 11 t) = _
    rw [after0_11]
    funext y
    rw [View.read_apply]
    refine Eq.trans (b := (outsAt0 m c t.val t.isLt).2.2.2.2.1 (ix2 (y 0) (y 1))) (congrArg _ (idx_eta y)) ?_
    refine (dgb_at m c t (y 0) (y 1)).trans ?_
    refine congrArg₂ (whole m c).dgb (Fin.ext ?_) (Fin.ext ?_)
    · show 512 * t.val + (y 0).val = win0_11.index t 0 * 512 + 1 * (y 0).val
      rw [(index_outs t).2.2.2.2.1.1]; omega
    · show (y 1).val = win0_11.index t 1 * 512 + 1 * (y 1).val
      rw [(index_outs t).2.2.2.2.1.2]; omega) fun i =>
    ⟨point (i 0), flush0_11 _, by
      show i ∈ ((View.whole main_v1_4).slice (win0_11.rect (point (i 0)))).set
      rw [View.set_slice_whole, Rect.mem_set_unit]
      have e := mem_rows (s := i 0) (d := i 1) (j := tile (point (i 0))) rfl (index_outs (point (i 0))).2.2.2.2.1
      exact fun a => match a with
        | ⟨0, _⟩ => e.1
        | ⟨1, _⟩ => e.2⟩

/-! The two accumulated results. -/

theorem step_dw (c : Dev nD) (t : Fin cfg0.N) (z : Vec Ideal S1024x1024 .bf16) (l : Vec Ideal S1x128 .f32)
    (s : Vec Ideal S1024x1024 .f32) : (stepAt m c t z l s).2.2.2.2.2.2.2 = dwAt m c t s := by
  unfold stepAt stepT dwAt; dsimp only

theorem dwAt_apply (c : Dev nD) (t : Fin cfg0.N) (s : Vec Ideal S1024x1024 .f32) (k d : Fin 1024) :
    dwAt m c t s (ix2 k d) = s (ix2 k d) + part (fun s => (whole m c).y s k * (whole m c).dh s d) t.val := by
  unfold dwAt
  rw [dw_apply, rows_at, part_of (i := t.val) (tile t) rfl]
  rfl

theorem step_loss (c : Dev nD) (t : Fin cfg0.N) (z : Vec Ideal S1024x1024 .bf16) (l : Vec Ideal S1x128 .f32)
    (s : Vec Ideal S1024x1024 .f32) (k : Fin 128) :
    (stepAt m c t z l s).2.2.2.2.2.2.1 (ix2 0 k) = l (ix2 0 k) + part ((whole m c).lane k) t.val := by
  unfold stepAt stepT
  dsimp only
  rw [loss_apply, rows_at, part_of (i := t.val) (tile t) rfl]
  rfl

theorem zero_dw (k d : Fin 1024) : k0_pay2 (F := Ideal) (ix2 k d) = (0 : EReal) := by pointwise [k0_pay2]
theorem zero_loss (k : Fin 128) : k0_pay3 (F := Ideal) (ix2 0 k) = (0 : EReal) := by pointwise [k0_pay3]

theorem acc_dw (c : Dev nD) (k d : Fin 1024) : ∀ (n : ℕ) (hn : n < cfg0.N), (outsAt0 m c n hn).2.2.2.2.2.2.2 (ix2 k d)
    = ∑ i ∈ Finset.range (n + 1), part (fun s => (whole m c).y s k * (whole m c).dh s d) i := by
  intro n
  induction n with
  | zero =>
    intro hn
    rw [at_first m c ⟨0, hn⟩ rfl, step_dw, dwAt_apply, zero_dw, zero_add, Finset.sum_range_one]
  | succ n ih =>
    intro hn
    have step : (outsAt0 m c (n + 1) hn).2.2.2.2.2.2.2 = dwAt m c ⟨n + 1, hn⟩ (outsAt0 m c n (by omega)).2.2.2.2.2.2.2 := by
      have hN : cfg0.N = 16 := N_0
      by_cases h1 : (n + 1) % 16 = 15
      · rw [at_last m c ⟨n + 1, hn⟩ h1]; exact step_dw ..
      · rw [at_mid m c ⟨n + 1, hn⟩ (show ¬ (n + 1) % 16 = 0 by omega) h1]; exact step_dw ..
    rw [step, Finset.sum_range_succ, ← ih (by omega), dwAt_apply]

theorem acc_loss (c : Dev nD) (k : Fin 128) : ∀ (n : ℕ) (hn : n < cfg0.N), (outsAt0 m c n hn).2.2.2.2.2.2.1 (ix2 0 k)
    = ∑ i ∈ Finset.range (n + 1), part ((whole m c).lane k) i := by
  intro n
  induction n with
  | zero =>
    intro hn
    rw [at_first m c ⟨0, hn⟩ rfl, step_loss, zero_loss, zero_add, Finset.sum_range_one]
  | succ n ih =>
    intro hn
    have step : (outsAt0 m c (n + 1) hn).2.2.2.2.2.2.1 (ix2 0 k)
        = (outsAt0 m c n (by omega)).2.2.2.2.2.2.1 (ix2 0 k) + part ((whole m c).lane k) (n + 1) := by
      have hN : cfg0.N = 16 := N_0
      by_cases h1 : (n + 1) % 16 = 15
      · rw [at_last m c ⟨n + 1, hn⟩ h1]; exact step_loss ..
      · rw [at_mid m c ⟨n + 1, hn⟩ (show ¬ (n + 1) % 16 = 0 by omega) h1]; exact step_loss ..
    rw [step, Finset.sum_range_succ, ← ih (by omega)]

/-- At the last point the matrix stored is the accumulated one. -/
theorem step_out (c : Dev nD) (t : Fin cfg0.N) (l : Vec Ideal S1x128 .f32) (s u : Vec Ideal S1024x1024 .f32) (k d : Fin 1024) :
    (stepAt m c t (k0_pay1 u) l s).2.2.2.2.2.1 (ix2 k d) = u (ix2 k d) := by
  unfold stepAt stepT
  dsimp only
  pointwise [k0_pay1]

theorem last_dw (c : Dev nD) (t : Fin cfg0.N) (h : t.val % 16 = 15) (k d : Fin 1024) :
    (outsAt0 m c t.val t.isLt).2.2.2.2.2.1 (ix2 k d) = (whole m c).dw k d := by
  have hN : t.val < 16 := lt_of_lt_of_eq t.isLt N_0
  have e : (outsAt0 m c t.val t.isLt).2.2.2.2.2.1 (ix2 k d) = (outsAt0 m c t.val t.isLt).2.2.2.2.2.2.2 (ix2 k d) := by
    rw [at_last m c t h, step_out, step_dw]
  rw [e, acc_dw, show t.val + 1 = 16 by omega]
  exact sum_parts _

theorem last_loss (c : Dev nD) (t : Fin cfg0.N) (h : t.val % 16 = 15) (k : Fin 128) :
    (outsAt0 m c t.val t.isLt).2.2.2.2.2.2.1 (ix2 0 k) = ∑ s, (whole m c).lane k s := by
  have hN : t.val < 16 := lt_of_lt_of_eq t.isLt N_0
  rw [acc_loss, show t.val + 1 = 16 by omega]
  exact sum_parts _

/-- An index of one row. -/
theorem idx_one {k : ℕ} (y : (⟨2, ![1, k]⟩ : Shape).Idx) : y = ix2 0 (y 1) := funext fun a => match a with
  | ⟨0, _⟩ => Subsingleton.elim (α := Fin 1) _ _
  | ⟨1, _⟩ => rfl

def final : Fin cfg0.N := ⟨15, by rw [show cfg0.N = 16 from N_0]; omega⟩

theorem mem_whole {n k a b : ℕ} {s : Fin n} {d : Fin k} (h : a = 0 ∧ b = 0) :
    (a * n ≤ s.val ∧ s.val < a * n + n) ∧ (b * k ≤ d.val ∧ d.val < b * k + k) := by
  obtain ⟨rfl, rfl⟩ := h; have := d.isLt; have := s.isLt; omega

theorem arr12 (c : Dev nD) : (dats m 0 c).arrAt 12 cfg0.N = fun i : S1024x1024.Idx => (whole m c).dw (i 0) (i 1) :=
  (dats m 0 c).arrAt_eq_of_cover 12 _ (fun t hf => by
    show (cfg0.win 12).cut (grid0.coords t) ((dats m 0 c).after 12 t) = _
    rw [after0_12]
    funext y
    rw [View.read_apply]
    refine Eq.trans (b := (outsAt0 m c t.val t.isLt).2.2.2.2.2.1 (ix2 (y 0) (y 1))) (congrArg _ (idx_eta y)) ?_
    refine (last_dw m c t ((flush0_12 t).mp hf) (y 0) (y 1)).trans ?_
    refine congrArg₂ (whole m c).dw (Fin.ext ?_) (Fin.ext ?_)
    · show (y 0).val = win0_12.index t 0 * 1024 + 1 * (y 0).val
      rw [(index_outs t).2.2.2.2.2.1.1]; omega
    · show (y 1).val = win0_12.index t 1 * 1024 + 1 * (y 1).val
      rw [(index_outs t).2.2.2.2.2.1.2]; omega) fun i =>
    ⟨final, (flush0_12 final).mpr rfl, by
      show i ∈ ((View.whole main_v1_5).slice (win0_12.rect final)).set
      rw [View.set_slice_whole, Rect.mem_set_unit]
      have e := mem_whole (s := i 0) (d := i 1) (index_outs final).2.2.2.2.2.1
      exact fun a => match a with
        | ⟨0, _⟩ => e.1
        | ⟨1, _⟩ => e.2⟩

theorem arr13 (c : Dev nD) : (dats m 0 c).arrAt 13 cfg0.N = fun i : S1x128.Idx => ∑ s, (whole m c).lane (i 1) s :=
  (dats m 0 c).arrAt_eq_of_cover 13 _ (fun t hf => by
    show (cfg0.win 13).cut (grid0.coords t) ((dats m 0 c).after 13 t) = _
    rw [after0_13]
    funext y
    rw [View.read_apply]
    refine Eq.trans (b := (outsAt0 m c t.val t.isLt).2.2.2.2.2.2.1 (ix2 0 (y 1))) (congrArg _ (idx_one y)) ?_
    refine (last_loss m c t ((flush0_13 t).mp hf) (y 1)).trans ?_
    refine congrArg (fun k => ∑ s, (whole m c).lane k s) (Fin.ext ?_)
    show (y 1).val = win0_13.index t 1 * 128 + 1 * (y 1).val
    rw [(index_outs t).2.2.2.2.2.2.2]; omega) fun i =>
    ⟨final, (flush0_13 final).mpr rfl, by
      show i ∈ ((View.whole main_v1_6).slice (win0_13.rect final)).set
      rw [View.set_slice_whole, Rect.mem_set_unit]
      have e := mem_whole (s := i 0) (d := i 1) (index_outs final).2.2.2.2.2.2
      exact fun a => match a with
        | ⟨0, _⟩ => e.1
        | ⟨1, _⟩ => e.2⟩

end Cert.OutKernelIdeal.Arrays

end
-- ==== Proof.OutValue.lean ====
module

public import proofs.«01_k».proof.Proof.OutArrays

@[expose] public section

set_option maxRecDepth 16384

noncomputable section

/-! # The kernel's run: every result, and the arguments unchanged -/

namespace Cert.OutKernelIdeal.Whole

open Cert.OutKernelIdeal Cert.OutKernelIdeal.Gen Cert.OutKernelIdeal.Arrays Cert.OutMath
open Idealize.ShloMosaic Idealize.ShloMosaic.TcCoe Idealize.SL.Sem Idealize.ShloMosaic.Pointwise Idealize.ShloMosaic.StableHlo
open Idealize.ShloMosaic.Pipeline (Dat)

variable (m : (ℓ : Loc nD τ sig) → Buf (Elt Ideal) ℓ) (ρ : Dev nD → PrngReg)

/-- The loss from the row of lanes. -/
def lossOf (l : FVec Ideal S1x128 .f32) : FVec Ideal S_ .f32 :=
  mulf (Host.reduceAdd l (constant S_ .f32 0x00000000#32) reducesTo_S1x128_S_d0_1 h_S_) (constant S_ .f32 0x3A000000#32)

theorem sum_row (f : S1x128.Idx → EReal) : ∑ j, f j = ∑ k, f (ix2 0 k) :=
  Fintype.sum_equiv ⟨fun j => j 1, fun k => ix2 0 k, fun j => (idx_one j).symm, fun _ => rfl⟩ _ _ fun j => congrArg f (idx_one j)

theorem lossOf_apply (A : Rows 8192) (i : S_.Idx) : lossOf (fun i => ∑ s, A.lane (i 1) s) i = A.loss := by
  show Host.reduceAdd (F := Ideal) (φ := .f32) _ _ _ _ i * Ideal.ofBits .f32 0x3A000000#32 = _
  refine congrArg (· * _) ?_
  simp only [Host.reduceAdd, Ideal.hostReduceAdd_def]
  refine (Ideal.hostReduceAdd_total reducesTo_S1x128_S_d0_1 (fun b => b.elim0) _ _ i).trans ?_
  rw [sum_row]
  refine (congrArg₂ (· + ·) (show Ideal.ofBits .f32 0x00000000#32 = 0 from Cert.Reals.word_zero) A.sum_lane).trans (zero_add _)

theorem tail (V : Valuation τ sig (Elt Ideal)) : StableHlo.after [hostOps1].flatten V (Proc.devRef .tc main_v3)
    = lossOf (V (Proc.devRef .tc main_v1_6)) := by
  simp only [List.flatten_cons, List.flatten_nil, List.append_nil]
  after_results
  rfl

theorem run : θ_run defs (onTc (τ := τ) (main (F := Ideal))) ⟨m, fun _ => 0, ρ⟩ fun r => ∀ c : Dev nD,
      r.2.mem ((c.tc : Thread nD τ).loc main_v1_0) = (fun i : S8192x1024.Idx => (whole m c).dh (i 0) (i 1))
      ∧ r.2.mem ((c.tc : Thread nD τ).loc main_v1_1) = (fun i : S8192x512.Idx => (whole m c).doa (i 0) (i 1))
      ∧ r.2.mem ((c.tc : Thread nD τ).loc main_v1_2) = (fun i : S8192x512.Idx => (whole m c).dob (i 0) (i 1))
      ∧ r.2.mem ((c.tc : Thread nD τ).loc main_v1_3) = (fun i : S8192x512.Idx => (whole m c).dga (i 0) (i 1))
      ∧ r.2.mem ((c.tc : Thread nD τ).loc main_v1_4) = (fun i : S8192x512.Idx => (whole m c).dgb (i 0) (i 1))
      ∧ r.2.mem ((c.tc : Thread nD τ).loc main_v1_5) = (fun i : S1024x1024.Idx => (whole m c).dw (i 0) (i 1))
      ∧ r.2.mem ((c.tc : Thread nD τ).loc main_v3) = (fun _ : S_.Idx => (whole m c).loss)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h.1 c).1 7).trans (arr7 m c), ((h.1 c).1 8).trans (arr8 m c), ((h.1 c).1 9).trans (arr9 m c),
      ((h.1 c).1 10).trans (arr10 m c), ((h.1 c).1 11).trans (arr11 m c), ((h.1 c).1 12).trans (arr12 m c),
      ((h.1 c).2 main_v3 (Pipeline.mem_restRefs_of main_v3 (by decide) (by decide))).trans
        ((tail _).trans ((congrArg lossOf ((Pipeline.withArrays_arr cfg0.spec launch0.win.arr_inj c (V0 m c) _ 13).trans (arr13 m c))).trans
          (funext fun i => lossOf_apply _ i))), h.2 c⟩)
    (θ_run_and (run_main m ρ) (unchanged m ρ))

end Cert.OutKernelIdeal.Whole

end
-- ==== Proof.lean ====
/- The claims of the statement: the frames of every program, and the values of the calls against the derivative of the
reference's forward lines. -/
module

public import proofs.«01_k».proof.Defs
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.Pre_finite
public import proofs.«01_k».proof.Proof.Gen.AKernel
public import proofs.«01_k».proof.Proof.Gen.AKernelIdeal
public import proofs.«01_k».proof.Proof.Gen.AReferenceIdeal
public import proofs.«01_k».proof.Proof.Gen.AReferenceIdeal.Run
public import proofs.«01_k».proof.Proof.Gen.AReferenceIdeal.Read
public import proofs.«01_k».proof.Proof.Gen.Pre_finite_a
public import proofs.«01_k».proof.Proof.Gen.BKernel
public import proofs.«01_k».proof.Proof.Gen.BKernelIdeal
public import proofs.«01_k».proof.Proof.Gen.BKernelIdeal.Skeleton
public import proofs.«01_k».proof.Proof.Gen.BKernelIdeal.Frame
public import proofs.«01_k».proof.Proof.Gen.BReferenceIdeal
public import proofs.«01_k».proof.Proof.Gen.BReferenceIdeal.Run
public import proofs.«01_k».proof.Proof.Gen.BReferenceIdeal.Read
public import proofs.«01_k».proof.Proof.Gen.Pre_finite_b
public import proofs.«01_k».proof.Proof.Gen.BfKernel
public import proofs.«01_k».proof.Proof.Gen.BfKernelIdeal
public import proofs.«01_k».proof.Proof.Gen.BfKernelIdeal.Skeleton
public import proofs.«01_k».proof.Proof.Gen.BfKernelIdeal.Frame
public import proofs.«01_k».proof.Proof.Gen.BfKernelIdeal.Launch
public import proofs.«01_k».proof.Proof.Gen.BfKernelIdeal.Points
public import proofs.«01_k».proof.Proof.Gen.BfReferenceIdeal
public import proofs.«01_k».proof.Proof.Gen.BfReferenceIdeal.Run
public import proofs.«01_k».proof.Proof.Gen.BfReferenceIdeal.Read
public import proofs.«01_k».proof.Proof.Gen.Pre_finite_bf
public import proofs.«01_k».proof.Proof.Gen.AfKernel
public import proofs.«01_k».proof.Proof.Gen.AfKernelIdeal
public import proofs.«01_k».proof.Proof.Gen.AfKernelIdeal.Skeleton
public import proofs.«01_k».proof.Proof.Gen.AfKernelIdeal.Frame
public import proofs.«01_k».proof.Proof.Gen.AfKernelIdeal.Launch
public import proofs.«01_k».proof.Proof.Gen.AfKernelIdeal.Points
public import proofs.«01_k».proof.Proof.Gen.AfReferenceIdeal
public import proofs.«01_k».proof.Proof.Gen.AfReferenceIdeal.Run
public import proofs.«01_k».proof.Proof.Gen.AfReferenceIdeal.Read
public import proofs.«01_k».proof.Proof.Gen.PbKernel
public import proofs.«01_k».proof.Proof.Gen.PbKernelIdeal
public import proofs.«01_k».proof.Proof.Gen.PbKernelIdeal.Skeleton
public import proofs.«01_k».proof.Proof.Gen.PbKernelIdeal.Frame.Runs
public import proofs.«01_k».proof.Proof.Gen.PbKernelIdeal.Launch
public import proofs.«01_k».proof.Proof.Gen.PbKernelIdeal.Points
public import proofs.«01_k».proof.Proof.Gen.PbReferenceIdeal
public import proofs.«01_k».proof.Proof.Gen.PbReferenceIdeal.Run
public import proofs.«01_k».proof.Proof.Gen.PbReferenceIdeal.Read
public import proofs.«01_k».proof.Proof.PMachine
public import proofs.«01_k».proof.Proof.PValue
public import proofs.«01_k».proof.Proof.PRef
public import proofs.«01_k».proof.Proof.Gen.Pre_finite_af
public import proofs.«01_k».proof.Proof.AFrame
public import proofs.«01_k».proof.Proof.AMachine
public import proofs.«01_k».proof.Proof.AValue
public import proofs.«01_k».proof.Proof.ARef
public import proofs.«01_k».proof.Proof.APre
public import proofs.«01_k».proof.Proof.BMachine
public import proofs.«01_k».proof.Proof.BValue
public import proofs.«01_k».proof.Proof.BRef
public import proofs.«01_k».proof.Proof.BPre
public import proofs.«01_k».proof.Proof.FMachine
public import proofs.«01_k».proof.Proof.GMachine
public import proofs.«01_k».proof.Proof.FValue
public import proofs.«01_k».proof.Proof.GValue
public import proofs.«01_k».proof.Proof.FRef
public import proofs.«01_k».proof.Proof.GRef
public import proofs.«01_k».proof.Proof.FPre
public import proofs.«01_k».proof.Proof.GPre
public import proofs.«01_k».proof.Proof.OutValue
public import proofs.«01_k».proof.Proof.OutPre
public import Idealize.ShloMosaic.Adequacy
public import Idealize.ShloMosaic.Init
public import Idealize.ShloMosaic.Lib.Quiescent

@[expose] public section

noncomputable section

namespace Cert.Proof

open Idealize.ShloMosaic Idealize.ShloMosaic.Pointwise Idealize.SL.Sem

/-- The reference's frame: it has no semaphore. -/
theorem out_reference : quiescent_OutReferenceIdeal := fun m ρ _ =>
  (θ_run _ _ _).mono (fun r h => ⟨fun c => (h c).2.2.2.2.2.2.2, sem_eq_zero_of_no_sems (by decide) r.2⟩)
    (Cert.OutReferenceIdeal.Value.run (F := Ideal) m ρ)

/-- Finite arguments are rows of real numbers. -/
theorem out_rows {m : (ℓ : Loc Cert.OutKernelIdeal.nD Cert.OutKernelIdeal.τ Cert.OutKernelIdeal.sig) → Buf (Elt Ideal) ℓ}
    (hp : Pre_OutKernelIdeal_finite m) (c : Dev Cert.OutKernelIdeal.nD) : (Cert.OutKernelIdeal.Arrays.whole m c).Real :=
  Cert.Pre_finite.Real.real _ _ _ _ _ _ _ (hp c)

theorem out_value : algebraic_OutKernelIdeal_OutReferenceIdeal_pre_finite := fun m ρ m' ρ' hp hag =>
  ⟨_, _, _, _, _, _, _, Cert.OutKernelIdeal.Whole.run m ρ,
    (θ_run _ _ _).mono (fun _ h c => by
      obtain ⟨e0, e1, e2, e3, e4, e5, e6⟩ := hag c
      obtain ⟨h0, h1, h2, h3, h4, h5, h6, h⟩ := h c
      have R := out_rows hp c
      refine ⟨h0.trans ?_, h1.trans ?_, h2.trans ?_, h3.trans ?_, h4.trans ?_, h5.trans ?_, h6.trans ?_, h⟩
      · rw [Cert.OutReferenceIdeal.Read.val_main_v21_eq, e0, e1, e2, e3, e4, e5, e6]
        exact funext fun i => (congrArg _ (eq_ix2 i)).trans (Cert.OutReferenceIdeal.Rows.dh_apply _ _ _ _ _ _ _ (i 0) (i 1))
      · rw [Cert.OutReferenceIdeal.Read.val_main_v33_eq, e0, e1, e2, e3, e4, e5, e6]
        exact funext fun i => (congrArg _ (eq_ix2 i)).trans (Cert.OutReferenceIdeal.Rows.doa_apply _ _ _ _ _ _ _ (i 0) (i 1))
      · rw [Cert.OutReferenceIdeal.Read.val_main_v34_eq, e0, e1, e2, e3, e4, e5, e6]
        exact funext fun i => (congrArg _ (eq_ix2 i)).trans (Cert.OutReferenceIdeal.Rows.dob_apply _ _ _ _ _ _ _ (i 0) (i 1))
      · rw [Cert.OutReferenceIdeal.Read.val_main_v32_eq, e0, e1, e2, e3, e4, e5, e6]
        exact funext fun i => (congrArg _ (eq_ix2 i)).trans (Cert.OutReferenceIdeal.Rows.dga_apply _ _ _ _ _ _ _ R (i 0) (i 1))
      · rw [Cert.OutReferenceIdeal.Read.val_main_v29_eq, e0, e1, e2, e3, e4, e5, e6]
        exact funext fun i => (congrArg _ (eq_ix2 i)).trans (Cert.OutReferenceIdeal.Rows.dgb_apply _ _ _ _ _ _ _ R (i 0) (i 1))
      · rw [Cert.OutReferenceIdeal.Read.val_main_v35_eq, e0, e1, e2, e3, e4, e5, e6]
        exact funext fun i => (congrArg _ (eq_ix2 i)).trans (Cert.OutReferenceIdeal.Rows.dw_apply _ _ _ _ _ _ _ (i 0) (i 1))
      · rw [Cert.OutReferenceIdeal.Read.val_main_v15_eq, e0, e1, e2, e3, e4, e5, e6]
        exact funext fun i => Cert.OutReferenceIdeal.Rows.loss_apply _ _ _ _ _ _ _ R i)
      (Cert.OutReferenceIdeal.Value.run m' ρ')⟩

/-! ## The attention backward call of path A -/

theorem a_kernel_ideal : quiescent_AKernelIdeal := fun m ρ _ => Cert.AKernelIdeal.Body.frame (F := Ideal) m ρ

theorem a_reference : quiescent_AReferenceIdeal := fun m ρ _ =>
  (θ_run _ _ _).mono (fun r h => ⟨fun c => (h c).2.2.2, sem_eq_zero_of_no_sems (by decide) r.2⟩)
    (Cert.AReferenceIdeal.Value.run (F := Ideal) m ρ)

theorem a_value : algebraic_AKernelIdeal_AReferenceIdeal_pre_finite_a := fun m ρ m' ρ' hp hag => by
  have H := fun c => Cert.Pre_finite_a.Real.real _ _ _ _ (hp c)
  choose I HI using H
  refine ⟨_, _, _, Cert.AKernelIdeal.Whole.run m ρ I HI, (θ_run _ _ _).mono (fun _ h c => ?_) (Cert.AReferenceIdeal.Value.run m' ρ')⟩
  obtain ⟨e0, e1, e2, e3⟩ := hag c
  obtain ⟨h0, h1, h2, h⟩ := h c
  refine ⟨h0.trans ?_, h1.trans ?_, h2.trans ?_, h⟩
  · rw [Cert.AReferenceIdeal.Read.val_main_v56_eq, e0, e1, e2, e3]
    exact funext fun i => (congrArg _ (Cert.AKernelIdeal.Whole.eta3 i)).trans (Cert.AReferenceIdeal.Grad.dq_at (HI c) (i 0) (i 1) (i 2))
  · rw [Cert.AReferenceIdeal.Read.val_main_v54_eq, e0, e1, e2, e3]
    exact funext fun i => (congrArg _ (Cert.AKernelIdeal.Whole.eta3 i)).trans (Cert.AReferenceIdeal.Grad.dk_at (HI c) (i 0) (i 1) (i 2))
  · rw [Cert.AReferenceIdeal.Read.val_main_v38_eq, e0, e1, e3]
    exact funext fun i => (congrArg _ (Cert.AKernelIdeal.Whole.eta3 i)).trans (Cert.AReferenceIdeal.Grad.dv_at (HI c) (i 0) (i 1) (i 2))

/-! ## The attention backward call of path B -/

theorem b_kernel_ideal : quiescent_BKernelIdeal := fun m ρ _ => Cert.BKernelIdeal.Body.frame (F := Ideal) m ρ

theorem b_reference : quiescent_BReferenceIdeal := fun m ρ _ =>
  (θ_run _ _ _).mono (fun r h => ⟨fun c => (h c).2.2.2, sem_eq_zero_of_no_sems (by decide) r.2⟩)
    (Cert.BReferenceIdeal.Value.run (F := Ideal) m ρ)

theorem b_value : algebraic_BKernelIdeal_BReferenceIdeal_pre_finite_b := fun m ρ m' ρ' hp hag => by
  have H := fun c => Cert.Pre_finite_b.Real.real _ _ _ _ (hp c)
  choose I HI using H
  refine ⟨_, _, _, Cert.BKernelIdeal.Whole.run m ρ I HI, (θ_run _ _ _).mono (fun _ h c => ?_) (Cert.BReferenceIdeal.Value.run m' ρ')⟩
  obtain ⟨e0, e1, e2, e3⟩ := hag c
  obtain ⟨h0, h1, h2, h⟩ := h c
  refine ⟨h0.trans ?_, h1.trans ?_, h2.trans ?_, h⟩
  · rw [Cert.BReferenceIdeal.Read.val_main_v59_eq, e0, e1, e2, e3]
    exact funext fun i => (congrArg _ (Cert.BKernelIdeal.Whole.eta3 i)).trans (Cert.BReferenceIdeal.Grad.dq_at (HI c) (i 0) (i 1) (i 2))
  · rw [Cert.BReferenceIdeal.Read.val_main_v57_eq, e0, e1, e2, e3]
    exact funext fun i => (congrArg _ (Cert.BKernelIdeal.Whole.eta3 i)).trans (Cert.BReferenceIdeal.Grad.dk_at (HI c) (i 0) (i 1) (i 2))
  · rw [Cert.BReferenceIdeal.Read.val_main_v40_eq, e0, e1, e3]
    exact funext fun i => (congrArg _ (Cert.BKernelIdeal.Whole.eta3 i)).trans (Cert.BReferenceIdeal.Grad.dv_at (HI c) (i 0) (i 1) (i 2))

/-! ## The attention forward call of path B -/

theorem bf_kernel_ideal : quiescent_BfKernelIdeal := fun m ρ _ => Cert.BfKernelIdeal.Gen.frame (F := Ideal) m ρ

theorem bf_reference : quiescent_BfReferenceIdeal := fun m ρ _ =>
  (θ_run _ _ _).mono (fun r h => ⟨fun c => (h c).2.2, sem_eq_zero_of_no_sems (by decide) r.2⟩)
    (Cert.BfReferenceIdeal.Value.run (F := Ideal) m ρ)

theorem bf_value : algebraic_BfKernelIdeal_BfReferenceIdeal_pre_finite_bf := fun m ρ m' ρ' hp hag => by
  have H := fun c => Cert.Pre_finite_bf.Real.real _ _ _ (hp c)
  choose I HI using H
  refine ⟨_, _, Cert.BfKernelIdeal.Whole.run m ρ I HI, (θ_run _ _ _).mono (fun _ h c => ?_) (Cert.BfReferenceIdeal.Value.run m' ρ')⟩
  obtain ⟨e0, e1, e2⟩ := hag c
  obtain ⟨h0, h1, h⟩ := h c
  refine ⟨h0.trans ?_, h1.trans ?_, h⟩
  · rw [Cert.BfReferenceIdeal.Read.val_main_v22_eq, e0, e1, e2]
    exact funext fun i => (congrArg _ (Cert.BfReferenceIdeal.Forward.eta2 i)).trans (Cert.BfReferenceIdeal.Forward.outs_is (HI c) (i 0) (i 1))
  · rw [Cert.BfReferenceIdeal.Read.val_main_v26_eq, e0, e1]
    exact funext fun i => (congrArg _ (Cert.BfReferenceIdeal.Forward.eta2 i)).trans (Cert.BfReferenceIdeal.Forward.logs_is (HI c) (i 0) (i 1))

/-! ## The attention forward call of path A -/

theorem af_kernel_ideal : quiescent_AfKernelIdeal := fun m ρ _ => Cert.AfKernelIdeal.Gen.frame (F := Ideal) m ρ

theorem af_reference : quiescent_AfReferenceIdeal := fun m ρ _ =>
  (θ_run _ _ _).mono (fun r h => ⟨fun c => (h c).2.2, sem_eq_zero_of_no_sems (by decide) r.2⟩)
    (Cert.AfReferenceIdeal.Value.run (F := Ideal) m ρ)

theorem af_value : algebraic_AfKernelIdeal_AfReferenceIdeal_pre_finite_af := fun m ρ m' ρ' hp hag => by
  have H := fun c => Cert.Pre_finite_af.Real.real _ _ _ (hp c)
  choose I HI using H
  refine ⟨_, _, Cert.AfKernelIdeal.Whole.run m ρ I HI, (θ_run _ _ _).mono (fun _ h c => ?_) (Cert.AfReferenceIdeal.Value.run m' ρ')⟩
  obtain ⟨e0, e1, e2⟩ := hag c
  obtain ⟨h0, h1, h⟩ := h c
  refine ⟨h0.trans ?_, h1.trans ?_, h⟩
  · rw [Cert.AfReferenceIdeal.Read.val_main_v20_eq, e0, e1, e2]
    exact funext fun i => (congrArg _ (Cert.BfReferenceIdeal.Forward.eta2 i)).trans (Cert.AfReferenceIdeal.Forward.outs_is (HI c) (i 0) (i 1))
  · rw [Cert.AfReferenceIdeal.Read.val_main_v24_eq, e0, e1]
    exact funext fun i => (congrArg _ (Cert.BfReferenceIdeal.Forward.eta2 i)).trans (Cert.AfReferenceIdeal.Forward.logs_is (HI c) (i 0) (i 1))

/-! ## The projections' backward call -/

theorem pb_kernel_ideal : quiescent_PbKernelIdeal := fun m ρ _ => Cert.PbKernelIdeal.Body.frame m ρ

theorem pb_reference : quiescent_PbReferenceIdeal := fun m ρ _ =>
  (θ_run _ _ _).mono (fun r h => ⟨fun c => (h c).2, sem_eq_zero_of_no_sems (by decide) r.2⟩)
    (Cert.PbReferenceIdeal.Value.run (F := Ideal) m ρ)

theorem pb_value : algebraic_PbKernelIdeal_PbReferenceIdeal := fun m ρ m' ρ' _ hag => by
  refine ⟨_, Cert.PbKernelIdeal.Tile.run m ρ, (θ_run _ _ _).mono (fun _ h c => ?_) (Cert.PbReferenceIdeal.Value.run m' ρ')⟩
  obtain ⟨e0, e1, e2, e3, e4, e5, e6, e7, e8, e9, e10, e11, e12, e13, e14, e15, e16, e17, e18, e19⟩ := hag c
  obtain ⟨h0, h⟩ := h c
  refine ⟨h0.trans ?_, h⟩
  rw [Cert.PbReferenceIdeal.Read.val_main_v48_eq, e0, e1, e2, e6, e18]
  exact funext fun i => (congrArg _ (Cert.BfReferenceIdeal.Forward.eta2 i)).trans (Cert.PbReferenceIdeal.Latent.grad_at _ _ _ _ _ (i 0) (i 1))

theorem claim : Cert.Claim := ⟨Cert.OutKernel.Gen.facts, Cert.OutKernelIdeal.Gen.facts, Cert.OutReferenceIdeal.Gen.facts,
  Cert.AKernel.Gen.facts, Cert.AKernelIdeal.Gen.facts, Cert.AReferenceIdeal.Gen.facts,
  Cert.BKernel.Gen.facts, Cert.BKernelIdeal.Gen.facts, Cert.BReferenceIdeal.Gen.facts,
  Cert.BfKernel.Gen.facts, Cert.BfKernelIdeal.Gen.facts, Cert.BfReferenceIdeal.Gen.facts,
  Cert.AfKernel.Gen.facts, Cert.AfKernelIdeal.Gen.facts, Cert.AfReferenceIdeal.Gen.facts,
  Cert.PbKernel.Gen.facts, Cert.PbKernelIdeal.Gen.facts, Cert.PbReferenceIdeal.Gen.facts,
  Cert.Pre_finite.Gen.facts, Cert.Pre_finite_a.Gen.facts, Cert.Pre_finite_b.Gen.facts, Cert.Pre_finite_bf.Gen.facts, Cert.Pre_finite_af.Gen.facts,
  fun m ρ _ => Cert.OutKernel.Gen.frame m ρ, fun m ρ _ => Cert.OutKernelIdeal.Gen.frame m ρ, fun m ρ _ => Cert.OutKernelIdeal.Gen.frame m ρ,
  out_reference, fun m ρ _ => out_reference m ρ trivial, Cert.AKernel.Body.frame, a_kernel_ideal, fun m ρ _ => a_kernel_ideal m ρ trivial,
  a_reference, fun m ρ _ => a_reference m ρ trivial,
  Cert.BKernel.Body.frame, b_kernel_ideal, fun m ρ _ => b_kernel_ideal m ρ trivial, b_reference, fun m ρ _ => b_reference m ρ trivial,
  Cert.BfKernel.Whole.frame, bf_kernel_ideal, fun m ρ _ => bf_kernel_ideal m ρ trivial, bf_reference, fun m ρ _ => bf_reference m ρ trivial,
  Cert.AfKernel.Whole.frame, af_kernel_ideal, fun m ρ _ => af_kernel_ideal m ρ trivial, af_reference, fun m ρ _ => af_reference m ρ trivial,
  Cert.PbKernel.Body.frame, pb_kernel_ideal, pb_reference,
  trivial, out_value, trivial, a_value, trivial, b_value, trivial, bf_value, trivial, af_value, trivial, pb_value⟩

end Cert.Proof

end
